-- ==== Defs.lean ====
def Pre_Swap (m : (ℓ : Loc Cert.Swap.nD Cert.Swap.τ Cert.Swap.sig) → Buf (Elt Bits) ℓ) : Prop :=
  True

def Pre_SwapIdeal (m : (ℓ : Loc Cert.SwapIdeal.nD Cert.SwapIdeal.τ Cert.SwapIdeal.sig) → Buf (Elt Ideal) ℓ) : Prop :=
  True

def Pre_SwapRefIdeal (m : (ℓ : Loc Cert.SwapRefIdeal.nD Cert.SwapRefIdeal.τ Cert.SwapRefIdeal.sig) → Buf (Elt Ideal) ℓ) : Prop :=
  True

def Pre_SwapRef (m : (ℓ : Loc Cert.SwapRef.nD Cert.SwapRef.τ Cert.SwapRef.sig) → Buf (Elt Bits) ℓ) : Prop :=
  True

def Pre_ProjSwap (m : (ℓ : Loc Cert.ProjSwap.nD Cert.ProjSwap.τ Cert.ProjSwap.sig) → Buf (Elt Bits) ℓ) : Prop :=
  True

def Pre_ProjSwapIdeal (m : (ℓ : Loc Cert.ProjSwapIdeal.nD Cert.ProjSwapIdeal.τ Cert.ProjSwapIdeal.sig) → Buf (Elt Ideal) ℓ) : Prop :=
  True

def Pre_ProjSwapRefIdeal (m : (ℓ : Loc Cert.ProjSwapRefIdeal.nD Cert.ProjSwapRefIdeal.τ Cert.ProjSwapRefIdeal.sig) → Buf (Elt Ideal) ℓ) : Prop :=
  True

def Pre_InScatter (m : (ℓ : Loc Cert.InScatter.nD Cert.InScatter.τ Cert.InScatter.sig) → Buf (Elt Bits) ℓ) : Prop :=
  True

def Pre_InScatterIdeal (m : (ℓ : Loc Cert.InScatterIdeal.nD Cert.InScatterIdeal.τ Cert.InScatterIdeal.sig) → Buf (Elt Ideal) ℓ) : Prop :=
  True

def Pre_InScatterRefIdeal (m : (ℓ : Loc Cert.InScatterRefIdeal.nD Cert.InScatterRefIdeal.τ Cert.InScatterRefIdeal.sig) → Buf (Elt Ideal) ℓ) : Prop :=
  True

def Pre_ActScatter (m : (ℓ : Loc Cert.ActScatter.nD Cert.ActScatter.τ Cert.ActScatter.sig) → Buf (Elt Bits) ℓ) : Prop :=
  True

def Pre_ActScatterIdeal (m : (ℓ : Loc Cert.ActScatterIdeal.nD Cert.ActScatterIdeal.τ Cert.ActScatterIdeal.sig) → Buf (Elt Ideal) ℓ) : Prop :=
  True

def Pre_ActScatterRefIdeal (m : (ℓ : Loc Cert.ActScatterRefIdeal.nD Cert.ActScatterRefIdeal.τ Cert.ActScatterRefIdeal.sig) → Buf (Elt Ideal) ℓ) : Prop :=
  True

def Pre_FwdGather (m : (ℓ : Loc Cert.FwdGather.nD Cert.FwdGather.τ Cert.FwdGather.sig) → Buf (Elt Bits) ℓ) : Prop :=
  True

def Pre_FwdGatherIdeal (m : (ℓ : Loc Cert.FwdGatherIdeal.nD Cert.FwdGatherIdeal.τ Cert.FwdGatherIdeal.sig) → Buf (Elt Ideal) ℓ) : Prop :=
  True

def Pre_FwdGatherRefIdeal (m : (ℓ : Loc Cert.FwdGatherRefIdeal.nD Cert.FwdGatherRefIdeal.τ Cert.FwdGatherRefIdeal.sig) → Buf (Elt Ideal) ℓ) : Prop :=
  True

def Pre_AdamFfn (m : (ℓ : Loc Cert.AdamFfn.nD Cert.AdamFfn.τ Cert.AdamFfn.sig) → Buf (Elt Bits) ℓ) : Prop :=
  True

def Pre_AdamFfnIdeal (m : (ℓ : Loc Cert.AdamFfnIdeal.nD Cert.AdamFfnIdeal.τ Cert.AdamFfnIdeal.sig) → Buf (Elt Ideal) ℓ) : Prop :=
  True

def Pre_AdamFfnRefIdeal (m : (ℓ : Loc Cert.AdamFfnRefIdeal.nD Cert.AdamFfnRefIdeal.τ Cert.AdamFfnRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamPle (m : (ℓ : Loc Cert.AdamPle.nD Cert.AdamPle.τ Cert.AdamPle.sig) → Buf (Elt Bits) ℓ) : Prop :=
  True

def Pre_AdamPleIdeal (m : (ℓ : Loc Cert.AdamPleIdeal.nD Cert.AdamPleIdeal.τ Cert.AdamPleIdeal.sig) → Buf (Elt Ideal) ℓ) : Prop :=
  True

def Pre_AdamPleRefIdeal (m : (ℓ : Loc Cert.AdamPleRefIdeal.nD Cert.AdamPleRefIdeal.τ Cert.AdamPleRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_ShardFfn [hPre_placed_ffn : Cert.Pre_placed_ffn.Facts] (m : (ℓ : Loc Cert.ShardFfn.nD Cert.ShardFfn.τ Cert.ShardFfn.sig) → Buf (Elt Bits) ℓ) : Prop :=
  ∀ c : Dev Cert.ShardFfn.nD,
    (Cert.Pre_placed_ffn.fn (F := Bits) (m ((c.tc : Thread Cert.ShardFfn.nD Cert.ShardFfn.τ).loc Cert.ShardFfn.main_arg0)) (m ((c.tc : Thread Cert.ShardFfn.nD Cert.ShardFfn.τ).loc Cert.ShardFfn.main_arg1)) (m ((c.tc : Thread Cert.ShardFfn.nD Cert.ShardFfn.τ).loc Cert.ShardFfn.main_arg2))) = (fun _ => 1#1)

def Pre_ShardFfnIdeal [hPre_placed_ffn : Cert.Pre_placed_ffn.Facts] (m : (ℓ : Loc Cert.ShardFfnIdeal.nD Cert.ShardFfnIdeal.τ Cert.ShardFfnIdeal.sig) → Buf (Elt Ideal) ℓ) : Prop :=
  ∀ c : Dev Cert.ShardFfnIdeal.nD,
    (Cert.Pre_placed_ffn.fn (F := Ideal) (m ((c.tc : Thread Cert.ShardFfnIdeal.nD Cert.ShardFfnIdeal.τ).loc Cert.ShardFfnIdeal.main_arg0)) (m ((c.tc : Thread Cert.ShardFfnIdeal.nD Cert.ShardFfnIdeal.τ).loc Cert.ShardFfnIdeal.main_arg1)) (m ((c.tc : Thread Cert.ShardFfnIdeal.nD Cert.ShardFfnIdeal.τ).loc Cert.ShardFfnIdeal.main_arg2))) = (fun _ => 1#1)

def Pre_ShardFfnRefIdeal (m : (ℓ : Loc Cert.ShardFfnRefIdeal.nD Cert.ShardFfnRefIdeal.τ Cert.ShardFfnRefIdeal.sig) → Buf (Elt Ideal) ℓ) : Prop :=
  True

def Pre_ShardFfnRefIdeal_placed_ffn [hPre_placed_ffn : Cert.Pre_placed_ffn.Facts] (m : (ℓ : Loc Cert.ShardFfnRefIdeal.nD Cert.ShardFfnRefIdeal.τ Cert.ShardFfnRefIdeal.sig) → Buf (Elt Ideal) ℓ) : Prop :=
  ∀ c : Dev Cert.ShardFfnRefIdeal.nD,
    (Cert.Pre_placed_ffn.fn (F := Ideal) (m ((c.tc : Thread Cert.ShardFfnRefIdeal.nD Cert.ShardFfnRefIdeal.τ).loc Cert.ShardFfnRefIdeal.main_arg0)) (m ((c.tc : Thread Cert.ShardFfnRefIdeal.nD Cert.ShardFfnRefIdeal.τ).loc Cert.ShardFfnRefIdeal.main_arg1)) (m ((c.tc : Thread Cert.ShardFfnRefIdeal.nD Cert.ShardFfnRefIdeal.τ).loc Cert.ShardFfnRefIdeal.main_arg2))) = (fun _ => 1#1)

def Pre_ShardIn [hPre_placed_in : Cert.Pre_placed_in.Facts] (m : (ℓ : Loc Cert.ShardIn.nD Cert.ShardIn.τ Cert.ShardIn.sig) → Buf (Elt Bits) ℓ) : Prop :=
  ∀ c : Dev Cert.ShardIn.nD,
    (Cert.Pre_placed_in.fn (F := Bits) (m ((c.tc : Thread Cert.ShardIn.nD Cert.ShardIn.τ).loc Cert.ShardIn.main_arg0)) (m ((c.tc : Thread Cert.ShardIn.nD Cert.ShardIn.τ).loc Cert.ShardIn.main_arg1)) (m ((c.tc : Thread Cert.ShardIn.nD Cert.ShardIn.τ).loc Cert.ShardIn.main_arg2))) = (fun _ => 1#1)

def Pre_ShardInIdeal [hPre_placed_in : Cert.Pre_placed_in.Facts] (m : (ℓ : Loc Cert.ShardInIdeal.nD Cert.ShardInIdeal.τ Cert.ShardInIdeal.sig) → Buf (Elt Ideal) ℓ) : Prop :=
  ∀ c : Dev Cert.ShardInIdeal.nD,
    (Cert.Pre_placed_in.fn (F := Ideal) (m ((c.tc : Thread Cert.ShardInIdeal.nD Cert.ShardInIdeal.τ).loc Cert.ShardInIdeal.main_arg0)) (m ((c.tc : Thread Cert.ShardInIdeal.nD Cert.ShardInIdeal.τ).loc Cert.ShardInIdeal.main_arg1)) (m ((c.tc : Thread Cert.ShardInIdeal.nD Cert.ShardInIdeal.τ).loc Cert.ShardInIdeal.main_arg2))) = (fun _ => 1#1)

def Pre_ShardInRefIdeal (m : (ℓ : Loc Cert.ShardInRefIdeal.nD Cert.ShardInRefIdeal.τ Cert.ShardInRefIdeal.sig) → Buf (Elt Ideal) ℓ) : Prop :=
  True

def Pre_ShardInRefIdeal_placed_in [hPre_placed_in : Cert.Pre_placed_in.Facts] (m : (ℓ : Loc Cert.ShardInRefIdeal.nD Cert.ShardInRefIdeal.τ Cert.ShardInRefIdeal.sig) → Buf (Elt Ideal) ℓ) : Prop :=
  ∀ c : Dev Cert.ShardInRefIdeal.nD,
    (Cert.Pre_placed_in.fn (F := Ideal) (m ((c.tc : Thread Cert.ShardInRefIdeal.nD Cert.ShardInRefIdeal.τ).loc Cert.ShardInRefIdeal.main_arg0)) (m ((c.tc : Thread Cert.ShardInRefIdeal.nD Cert.ShardInRefIdeal.τ).loc Cert.ShardInRefIdeal.main_arg1)) (m ((c.tc : Thread Cert.ShardInRefIdeal.nD Cert.ShardInRefIdeal.τ).loc Cert.ShardInRefIdeal.main_arg2))) = (fun _ => 1#1)

def Pre_ShardOut [hPre_placed_out : Cert.Pre_placed_out.Facts] (m : (ℓ : Loc Cert.ShardOut.nD Cert.ShardOut.τ Cert.ShardOut.sig) → Buf (Elt Bits) ℓ) : Prop :=
  ∀ c : Dev Cert.ShardOut.nD,
    (Cert.Pre_placed_out.fn (F := Bits) (m ((c.tc : Thread Cert.ShardOut.nD Cert.ShardOut.τ).loc Cert.ShardOut.main_arg0)) (m ((c.tc : Thread Cert.ShardOut.nD Cert.ShardOut.τ).loc Cert.ShardOut.main_arg1)) (m ((c.tc : Thread Cert.ShardOut.nD Cert.ShardOut.τ).loc Cert.ShardOut.main_arg2))) = (fun _ => 1#1)

def Pre_ShardOutIdeal [hPre_placed_out : Cert.Pre_placed_out.Facts] (m : (ℓ : Loc Cert.ShardOutIdeal.nD Cert.ShardOutIdeal.τ Cert.ShardOutIdeal.sig) → Buf (Elt Ideal) ℓ) : Prop :=
  ∀ c : Dev Cert.ShardOutIdeal.nD,
    (Cert.Pre_placed_out.fn (F := Ideal) (m ((c.tc : Thread Cert.ShardOutIdeal.nD Cert.ShardOutIdeal.τ).loc Cert.ShardOutIdeal.main_arg0)) (m ((c.tc : Thread Cert.ShardOutIdeal.nD Cert.ShardOutIdeal.τ).loc Cert.ShardOutIdeal.main_arg1)) (m ((c.tc : Thread Cert.ShardOutIdeal.nD Cert.ShardOutIdeal.τ).loc Cert.ShardOutIdeal.main_arg2))) = (fun _ => 1#1)

def Pre_ShardOutRefIdeal (m : (ℓ : Loc Cert.ShardOutRefIdeal.nD Cert.ShardOutRefIdeal.τ Cert.ShardOutRefIdeal.sig) → Buf (Elt Ideal) ℓ) : Prop :=
  True

def Pre_ShardOutRefIdeal_placed_out [hPre_placed_out : Cert.Pre_placed_out.Facts] (m : (ℓ : Loc Cert.ShardOutRefIdeal.nD Cert.ShardOutRefIdeal.τ Cert.ShardOutRefIdeal.sig) → Buf (Elt Ideal) ℓ) : Prop :=
  ∀ c : Dev Cert.ShardOutRefIdeal.nD,
    (Cert.Pre_placed_out.fn (F := Ideal) (m ((c.tc : Thread Cert.ShardOutRefIdeal.nD Cert.ShardOutRefIdeal.τ).loc Cert.ShardOutRefIdeal.main_arg0)) (m ((c.tc : Thread Cert.ShardOutRefIdeal.nD Cert.ShardOutRefIdeal.τ).loc Cert.ShardOutRefIdeal.main_arg1)) (m ((c.tc : Thread Cert.ShardOutRefIdeal.nD Cert.ShardOutRefIdeal.τ).loc Cert.ShardOutRefIdeal.main_arg2))) = (fun _ => 1#1)

def Pre_ShardPle [hPre_placed_ple : Cert.Pre_placed_ple.Facts] (m : (ℓ : Loc Cert.ShardPle.nD Cert.ShardPle.τ Cert.ShardPle.sig) → Buf (Elt Bits) ℓ) : Prop :=
  ∀ c : Dev Cert.ShardPle.nD,
    (Cert.Pre_placed_ple.fn (F := Bits) (m ((c.tc : Thread Cert.ShardPle.nD Cert.ShardPle.τ).loc Cert.ShardPle.main_arg0)) (m ((c.tc : Thread Cert.ShardPle.nD Cert.ShardPle.τ).loc Cert.ShardPle.main_arg1)) (m ((c.tc : Thread Cert.ShardPle.nD Cert.ShardPle.τ).loc Cert.ShardPle.main_arg2))) = (fun _ => 1#1)

def Pre_ShardPleIdeal [hPre_placed_ple : Cert.Pre_placed_ple.Facts] (m : (ℓ : Loc Cert.ShardPleIdeal.nD Cert.ShardPleIdeal.τ Cert.ShardPleIdeal.sig) → Buf (Elt Ideal) ℓ) : Prop :=
  ∀ c : Dev Cert.ShardPleIdeal.nD,
    (Cert.Pre_placed_ple.fn (F := Ideal) (m ((c.tc : Thread Cert.ShardPleIdeal.nD Cert.ShardPleIdeal.τ).loc Cert.ShardPleIdeal.main_arg0)) (m ((c.tc : Thread Cert.ShardPleIdeal.nD Cert.ShardPleIdeal.τ).loc Cert.ShardPleIdeal.main_arg1)) (m ((c.tc : Thread Cert.ShardPleIdeal.nD Cert.ShardPleIdeal.τ).loc Cert.ShardPleIdeal.main_arg2))) = (fun _ => 1#1)

def Pre_ShardPleRefIdeal (m : (ℓ : Loc Cert.ShardPleRefIdeal.nD Cert.ShardPleRefIdeal.τ Cert.ShardPleRefIdeal.sig) → Buf (Elt Ideal) ℓ) : Prop :=
  True

def Pre_ShardPleRefIdeal_placed_ple [hPre_placed_ple : Cert.Pre_placed_ple.Facts] (m : (ℓ : Loc Cert.ShardPleRefIdeal.nD Cert.ShardPleRefIdeal.τ Cert.ShardPleRefIdeal.sig) → Buf (Elt Ideal) ℓ) : Prop :=
  ∀ c : Dev Cert.ShardPleRefIdeal.nD,
    (Cert.Pre_placed_ple.fn (F := Ideal) (m ((c.tc : Thread Cert.ShardPleRefIdeal.nD Cert.ShardPleRefIdeal.τ).loc Cert.ShardPleRefIdeal.main_arg0)) (m ((c.tc : Thread Cert.ShardPleRefIdeal.nD Cert.ShardPleRefIdeal.τ).loc Cert.ShardPleRefIdeal.main_arg1)) (m ((c.tc : Thread Cert.ShardPleRefIdeal.nD Cert.ShardPleRefIdeal.τ).loc Cert.ShardPleRefIdeal.main_arg2))) = (fun _ => 1#1)

def Pre_PleLoss (m : (ℓ : Loc Cert.PleLoss.nD Cert.PleLoss.τ Cert.PleLoss.sig) → Buf (Elt Bits) ℓ) : Prop :=
  True

def Pre_PleLossIdeal (m : (ℓ : Loc Cert.PleLossIdeal.nD Cert.PleLossIdeal.τ Cert.PleLossIdeal.sig) → Buf (Elt Ideal) ℓ) : Prop :=
  True

def Pre_PleLossRefIdeal (m : (ℓ : Loc Cert.PleLossRefIdeal.nD Cert.PleLossRefIdeal.τ Cert.PleLossRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_GradFfn (m : (ℓ : Loc Cert.GradFfn.nD Cert.GradFfn.τ Cert.GradFfn.sig) → Buf (Elt Bits) ℓ) : Prop :=
  True

def Pre_GradFfnIdeal (m : (ℓ : Loc Cert.GradFfnIdeal.nD Cert.GradFfnIdeal.τ Cert.GradFfnIdeal.sig) → Buf (Elt Ideal) ℓ) : Prop :=
  True

def Pre_GradFfnRefIdeal (m : (ℓ : Loc Cert.GradFfnRefIdeal.nD Cert.GradFfnRefIdeal.τ Cert.GradFfnRefIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutRefIdeal (m : (ℓ : Loc Cert.GradOutRefIdeal.nD Cert.GradOutRefIdeal.τ Cert.GradOutRefIdeal.sig) → Buf (Elt Ideal) ℓ) : Prop :=
  True

def Pre_GradGate (m : (ℓ : Loc Cert.GradGate.nD Cert.GradGate.τ Cert.GradGate.sig) → Buf (Elt Bits) ℓ) : Prop :=
  True

def Pre_GradGateIdeal (m : (ℓ : Loc Cert.GradGateIdeal.nD Cert.GradGateIdeal.τ Cert.GradGateIdeal.sig) → Buf (Elt Ideal) ℓ) : Prop :=
  True

def Pre_GradGateRefIdeal (m : (ℓ : Loc Cert.GradGateRefIdeal.nD Cert.GradGateRefIdeal.τ Cert.GradGateRefIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInRefIdeal (m : (ℓ : Loc Cert.GradInRefIdeal.nD Cert.GradInRefIdeal.τ Cert.GradInRefIdeal.sig) → Buf (Elt Ideal) ℓ) : Prop :=
  True

def Pre_GradProj (m : (ℓ : Loc Cert.GradProj.nD Cert.GradProj.τ Cert.GradProj.sig) → Buf (Elt Bits) ℓ) : Prop :=
  True

def Pre_GradProjIdeal (m : (ℓ : Loc Cert.GradProjIdeal.nD Cert.GradProjIdeal.τ Cert.GradProjIdeal.sig) → Buf (Elt Ideal) ℓ) : Prop :=
  True

def Pre_GradProjRefIdeal (m : (ℓ : Loc Cert.GradProjRefIdeal.nD Cert.GradProjRefIdeal.τ Cert.GradProjRefIdeal.sig) → Buf (Elt Ideal) ℓ) : Prop :=
  True

def quiescent_Swap [hSwap : Cert.Swap.Facts] : Prop :=
  ∀ (m : (ℓ : Loc Cert.Swap.nD Cert.Swap.τ Cert.Swap.sig) → Buf (Elt Bits) ℓ) (g : Dev Cert.Swap.nD → PrngReg), Pre_Swap m →
    θ_run (Cert.Swap.defs (F := Bits)) (onTc (τ := Cert.Swap.τ) (Cert.Swap.main (F := Bits))) ⟨m, fun _ => 0, g⟩ (fun r => (∀ c : Dev Cert.Swap.nD,
      r.2.mem ((c.tc : Thread Cert.Swap.nD Cert.Swap.τ).loc Cert.Swap.main_arg0) = m ((c.tc : Thread Cert.Swap.nD Cert.Swap.τ).loc Cert.Swap.main_arg0)
      ∧ r.2.mem ((c.tc : Thread Cert.Swap.nD Cert.Swap.τ).loc Cert.Swap.main_arg1) = m ((c.tc : Thread Cert.Swap.nD Cert.Swap.τ).loc Cert.Swap.main_arg1)
      ∧ r.2.mem ((c.tc : Thread Cert.Swap.nD Cert.Swap.τ).loc Cert.Swap.main_arg2) = m ((c.tc : Thread Cert.Swap.nD Cert.Swap.τ).loc Cert.Swap.main_arg2))
      ∧ r.2.sem = fun _ => 0)

def quiescent_SwapIdeal [hSwapIdeal : Cert.SwapIdeal.Facts] : Prop :=
  ∀ (m : (ℓ : Loc Cert.SwapIdeal.nD Cert.SwapIdeal.τ Cert.SwapIdeal.sig) → Buf (Elt Ideal) ℓ) (g : Dev Cert.SwapIdeal.nD → PrngReg), Pre_SwapIdeal m →
    θ_run (Cert.SwapIdeal.defs (F := Ideal)) (onTc (τ := Cert.SwapIdeal.τ) (Cert.SwapIdeal.main (F := Ideal))) ⟨m, fun _ => 0, g⟩ (fun r => (∀ c : Dev Cert.SwapIdeal.nD,
      r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0)
      ∧ r.2.mem ((c.tc : Thread Cert.SwapIdeal.nD Cert.SwapIdeal.τ).loc Cert.SwapIdeal.main_arg1) = m ((c.tc : Thread Cert.SwapIdeal.nD Cert.SwapIdeal.τ).loc Cert.SwapIdeal.main_arg1)
      ∧ r.2.mem ((c.tc : Thread Cert.SwapIdeal.nD Cert.SwapIdeal.τ).loc Cert.SwapIdeal.main_arg2) = m ((c.tc : Thread Cert.SwapIdeal.nD Cert.SwapIdeal.τ).loc Cert.SwapIdeal.main_arg2))
      ∧ r.2.sem = fun _ => 0)

def quiescent_SwapRefIdeal [hSwapRefIdeal : Cert.SwapRefIdeal.Facts] : Prop :=
  ∀ (m : (ℓ : Loc Cert.SwapRefIdeal.nD Cert.SwapRefIdeal.τ Cert.SwapRefIdeal.sig) → Buf (Elt Ideal) ℓ) (g : Dev Cert.SwapRefIdeal.nD → PrngReg), Pre_SwapRefIdeal m →
    θ_run (Cert.SwapRefIdeal.defs (F := Ideal)) (onTc (τ := Cert.SwapRefIdeal.τ) (Cert.SwapRefIdeal.main (F := Ideal))) ⟨m, fun _ => 0, g⟩ (fun r => (∀ c : Dev Cert.SwapRefIdeal.nD,
      r.2.mem ((c.tc : Thread Cert.SwapRefIdeal.nD Cert.SwapRefIdeal.τ).loc Cert.SwapRefIdeal.main_arg0) = m ((c.tc : Thread Cert.SwapRefIdeal.nD Cert.SwapRefIdeal.τ).loc Cert.SwapRefIdeal.main_arg0)
      ∧ r.2.mem ((c.tc : Thread Cert.SwapRefIdeal.nD Cert.SwapRefIdeal.τ).loc Cert.SwapRefIdeal.main_arg1) = m ((c.tc : Thread Cert.SwapRefIdeal.nD Cert.SwapRefIdeal.τ).loc Cert.SwapRefIdeal.main_arg1)
      ∧ r.2.mem ((c.tc : Thread Cert.SwapRefIdeal.nD Cert.SwapRefIdeal.τ).loc Cert.SwapRefIdeal.main_arg2) = m ((c.tc : Thread Cert.SwapRefIdeal.nD Cert.SwapRefIdeal.τ).loc Cert.SwapRefIdeal.main_arg2))
      ∧ r.2.sem = fun _ => 0)

def quiescent_SwapRef [hSwapRef : Cert.SwapRef.Facts] : Prop :=
  ∀ (m : (ℓ : Loc Cert.SwapRef.nD Cert.SwapRef.τ Cert.SwapRef.sig) → Buf (Elt Bits) ℓ) (g : Dev Cert.SwapRef.nD → PrngReg), Pre_SwapRef m →
    θ_run (Cert.SwapRef.defs (F := Bits)) (onTc (τ := Cert.SwapRef.τ) (Cert.SwapRef.main (F := Bits))) ⟨m, fun _ => 0, g⟩ (fun r => (∀ c : Dev Cert.SwapRef.nD,
      r.2.mem ((c.tc : Thread Cert.SwapRef.nD Cert.SwapRef.τ).loc Cert.SwapRef.main_arg0) = m ((c.tc : Thread Cert.SwapRef.nD Cert.SwapRef.τ).loc Cert.SwapRef.main_arg0)
      ∧ r.2.mem ((c.tc : Thread Cert.SwapRef.nD Cert.SwapRef.τ).loc Cert.SwapRef.main_arg1) = m ((c.tc : Thread Cert.SwapRef.nD Cert.SwapRef.τ).loc Cert.SwapRef.main_arg1)
      ∧ r.2.mem ((c.tc : Thread Cert.SwapRef.nD Cert.SwapRef.τ).loc Cert.SwapRef.main_arg2) = m ((c.tc : Thread Cert.SwapRef.nD Cert.SwapRef.τ).loc Cert.SwapRef.main_arg2))
      ∧ r.2.sem = fun _ => 0)

def quiescent_ProjSwap [hProjSwap : Cert.ProjSwap.Facts] : Prop :=
  ∀ (m : (ℓ : Loc Cert.ProjSwap.nD Cert.ProjSwap.τ Cert.ProjSwap.sig) → Buf (Elt Bits) ℓ) (g : Dev Cert.ProjSwap.nD → PrngReg), Pre_ProjSwap m →
    θ_run (Cert.ProjSwap.defs (F := Bits)) (onTc (τ := Cert.ProjSwap.τ) (Cert.ProjSwap.main (F := Bits))) ⟨m, fun _ => 0, g⟩ (fun r => (∀ c : Dev Cert.ProjSwap.nD,
      r.2.mem ((c.tc : Thread Cert.ProjSwap.nD Cert.ProjSwap.τ).loc Cert.ProjSwap.main_arg0) = m ((c.tc : Thread Cert.ProjSwap.nD Cert.ProjSwap.τ).loc Cert.ProjSwap.main_arg0)
      ∧ r.2.mem ((c.tc : Thread Cert.ProjSwap.nD Cert.ProjSwap.τ).loc Cert.ProjSwap.main_arg1) = m ((c.tc : Thread Cert.ProjSwap.nD Cert.ProjSwap.τ).loc Cert.ProjSwap.main_arg1)
      ∧ r.2.mem ((c.tc : Thread Cert.ProjSwap.nD Cert.ProjSwap.τ).loc Cert.ProjSwap.main_arg2) = m ((c.tc : Thread Cert.ProjSwap.nD Cert.ProjSwap.τ).loc Cert.ProjSwap.main_arg2)
      ∧ r.2.mem ((c.tc : Thread Cert.ProjSwap.nD Cert.ProjSwap.τ).loc Cert.ProjSwap.main_arg3) = m ((c.tc : Thread Cert.ProjSwap.nD Cert.ProjSwap.τ).loc Cert.ProjSwap.main_arg3)
      ∧ r.2.mem ((c.tc : Thread Cert.ProjSwap.nD Cert.ProjSwap.τ).loc Cert.ProjSwap.main_arg4) = m ((c.tc : Thread Cert.ProjSwap.nD Cert.ProjSwap.τ).loc Cert.ProjSwap.main_arg4)
      ∧ r.2.mem ((c.tc : Thread Cert.ProjSwap.nD Cert.ProjSwap.τ).loc Cert.ProjSwap.main_arg5) = m ((c.tc : Thread Cert.ProjSwap.nD Cert.ProjSwap.τ).loc Cert.ProjSwap.main_arg5)
      ∧ r.2.mem ((c.tc : Thread Cert.ProjSwap.nD Cert.ProjSwap.τ).loc Cert.ProjSwap.main_arg6) = m ((c.tc : Thread Cert.ProjSwap.nD Cert.ProjSwap.τ).loc Cert.ProjSwap.main_arg6)
      ∧ r.2.mem ((c.tc : Thread Cert.ProjSwap.nD Cert.ProjSwap.τ).loc Cert.ProjSwap.main_arg7) = m ((c.tc : Thread Cert.ProjSwap.nD Cert.ProjSwap.τ).loc Cert.ProjSwap.main_arg7)
      ∧ r.2.mem ((c.tc : Thread Cert.ProjSwap.nD Cert.ProjSwap.τ).loc Cert.ProjSwap.main_arg8) = m ((c.tc : Thread Cert.ProjSwap.nD Cert.ProjSwap.τ).loc Cert.ProjSwap.main_arg8)
      ∧ r.2.mem ((c.tc : Thread Cert.ProjSwap.nD Cert.ProjSwap.τ).loc Cert.ProjSwap.main_arg9) = m ((c.tc : Thread Cert.ProjSwap.nD Cert.ProjSwap.τ).loc Cert.ProjSwap.main_arg9)
      ∧ r.2.mem ((c.tc : Thread Cert.ProjSwap.nD Cert.ProjSwap.τ).loc Cert.ProjSwap.main_arg10) = m ((c.tc : Thread Cert.ProjSwap.nD Cert.ProjSwap.τ).loc Cert.ProjSwap.main_arg10)
      ∧ r.2.mem ((c.tc : Thread Cert.ProjSwap.nD Cert.ProjSwap.τ).loc Cert.ProjSwap.main_arg11) = m ((c.tc : Thread Cert.ProjSwap.nD Cert.ProjSwap.τ).loc Cert.ProjSwap.main_arg11))
      ∧ r.2.sem = fun _ => 0)

def quiescent_ProjSwapIdeal [hProjSwapIdeal : Cert.ProjSwapIdeal.Facts] : Prop :=
  ∀ (m : (ℓ : Loc Cert.ProjSwapIdeal.nD Cert.ProjSwapIdeal.τ Cert.ProjSwapIdeal.sig) → Buf (Elt Ideal) ℓ) (g : Dev Cert.ProjSwapIdeal.nD → PrngReg), Pre_ProjSwapIdeal m →
    θ_run (Cert.ProjSwapIdeal.defs (F := Ideal)) (onTc (τ := Cert.ProjSwapIdeal.τ) (Cert.ProjSwapIdeal.main (F := Ideal))) ⟨m, fun _ => 0, g⟩ (fun r => (∀ c : Dev Cert.ProjSwapIdeal.nD,
      r.2.mem ((c.tc : Thread Cert.ProjSwapIdeal.nD Cert.ProjSwapIdeal.τ).loc Cert.ProjSwapIdeal.main_arg0) = m ((c.tc : Thread Cert.ProjSwapIdeal.nD Cert.ProjSwapIdeal.τ).loc Cert.ProjSwapIdeal.main_arg0)
      ∧ r.2.mem ((c.tc : Thread Cert.ProjSwapIdeal.nD Cert.ProjSwapIdeal.τ).loc Cert.ProjSwapIdeal.main_arg1) = m ((c.tc : Thread Cert.ProjSwapIdeal.nD Cert.ProjSwapIdeal.τ).loc Cert.ProjSwapIdeal.main_arg1)
      ∧ r.2.mem ((c.tc : Thread Cert.ProjSwapIdeal.nD Cert.ProjSwapIdeal.τ).loc Cert.ProjSwapIdeal.main_arg2) = m ((c.tc : Thread Cert.ProjSwapIdeal.nD Cert.ProjSwapIdeal.τ).loc Cert.ProjSwapIdeal.main_arg2)
      ∧ r.2.mem ((c.tc : Thread Cert.ProjSwapIdeal.nD Cert.ProjSwapIdeal.τ).loc Cert.ProjSwapIdeal.main_arg3) = m ((c.tc : Thread Cert.ProjSwapIdeal.nD Cert.ProjSwapIdeal.τ).loc Cert.ProjSwapIdeal.main_arg3)
      ∧ r.2.mem ((c.tc : Thread Cert.ProjSwapIdeal.nD Cert.ProjSwapIdeal.τ).loc Cert.ProjSwapIdeal.main_arg4) = m ((c.tc : Thread Cert.ProjSwapIdeal.nD Cert.ProjSwapIdeal.τ).loc Cert.ProjSwapIdeal.main_arg4)
      ∧ r.2.mem ((c.tc : Thread Cert.ProjSwapIdeal.nD Cert.ProjSwapIdeal.τ).loc Cert.ProjSwapIdeal.main_arg5) = m ((c.tc : Thread Cert.ProjSwapIdeal.nD Cert.ProjSwapIdeal.τ).loc Cert.ProjSwapIdeal.main_arg5)
      ∧ r.2.mem ((c.tc : Thread Cert.ProjSwapIdeal.nD Cert.ProjSwapIdeal.τ).loc Cert.ProjSwapIdeal.main_arg6) = m ((c.tc : Thread Cert.ProjSwapIdeal.nD Cert.ProjSwapIdeal.τ).loc Cert.ProjSwapIdeal.main_arg6)
      ∧ r.2.mem ((c.tc : Thread Cert.ProjSwapIdeal.nD Cert.ProjSwapIdeal.τ).loc Cert.ProjSwapIdeal.main_arg7) = m ((c.tc : Thread Cert.ProjSwapIdeal.nD Cert.ProjSwapIdeal.τ).loc Cert.ProjSwapIdeal.main_arg7)
      ∧ r.2.mem ((c.tc : Thread Cert.ProjSwapIdeal.nD Cert.ProjSwapIdeal.τ).loc Cert.ProjSwapIdeal.main_arg8) = m ((c.tc : Thread Cert.ProjSwapIdeal.nD Cert.ProjSwapIdeal.τ).loc Cert.ProjSwapIdeal.main_arg8)
      ∧ r.2.mem ((c.tc : Thread Cert.ProjSwapIdeal.nD Cert.ProjSwapIdeal.τ).loc Cert.ProjSwapIdeal.main_arg9) = m ((c.tc : Thread Cert.ProjSwapIdeal.nD Cert.ProjSwapIdeal.τ).loc Cert.ProjSwapIdeal.main_arg9)
      ∧ r.2.mem ((c.tc : Thread Cert.ProjSwapIdeal.nD Cert.ProjSwapIdeal.τ).loc Cert.ProjSwapIdeal.main_arg10) = m ((c.tc : Thread Cert.ProjSwapIdeal.nD Cert.ProjSwapIdeal.τ).loc Cert.ProjSwapIdeal.main_arg10)
      ∧ r.2.mem ((c.tc : Thread Cert.ProjSwapIdeal.nD Cert.ProjSwapIdeal.τ).loc Cert.ProjSwapIdeal.main_arg11) = m ((c.tc : Thread Cert.ProjSwapIdeal.nD Cert.ProjSwapIdeal.τ).loc Cert.ProjSwapIdeal.main_arg11))
      ∧ r.2.sem = fun _ => 0)

def quiescent_ProjSwapRefIdeal [hProjSwapRefIdeal : Cert.ProjSwapRefIdeal.Facts] : Prop :=
  ∀ (m : (ℓ : Loc Cert.ProjSwapRefIdeal.nD Cert.ProjSwapRefIdeal.τ Cert.ProjSwapRefIdeal.sig) → Buf (Elt Ideal) ℓ) (g : Dev Cert.ProjSwapRefIdeal.nD → PrngReg), Pre_ProjSwapRefIdeal m →
    θ_run (Cert.ProjSwapRefIdeal.defs (F := Ideal)) (onTc (τ := Cert.ProjSwapRefIdeal.τ) (Cert.ProjSwapRefIdeal.main (F := Ideal))) ⟨m, fun _ => 0, g⟩ (fun r => (∀ c : Dev Cert.ProjSwapRefIdeal.nD,
      r.2.mem ((c.tc : Thread Cert.ProjSwapRefIdeal.nD Cert.ProjSwapRefIdeal.τ).loc Cert.ProjSwapRefIdeal.main_arg0) = m ((c.tc : Thread Cert.ProjSwapRefIdeal.nD Cert.ProjSwapRefIdeal.τ).loc Cert.ProjSwapRefIdeal.main_arg0)
      ∧ r.2.mem ((c.tc : Thread Cert.ProjSwapRefIdeal.nD Cert.ProjSwapRefIdeal.τ).loc Cert.ProjSwapRefIdeal.main_arg1) = m ((c.tc : Thread Cert.ProjSwapRefIdeal.nD Cert.ProjSwapRefIdeal.τ).loc Cert.ProjSwapRefIdeal.main_arg1)
      ∧ r.2.mem ((c.tc : Thread Cert.ProjSwapRefIdeal.nD Cert.ProjSwapRefIdeal.τ).loc Cert.ProjSwapRefIdeal.main_arg2) = m ((c.tc : Thread Cert.ProjSwapRefIdeal.nD Cert.ProjSwapRefIdeal.τ).loc Cert.ProjSwapRefIdeal.main_arg2)
      ∧ r.2.mem ((c.tc : Thread Cert.ProjSwapRefIdeal.nD Cert.ProjSwapRefIdeal.τ).loc Cert.ProjSwapRefIdeal.main_arg3) = m ((c.tc : Thread Cert.ProjSwapRefIdeal.nD Cert.ProjSwapRefIdeal.τ).loc Cert.ProjSwapRefIdeal.main_arg3)
      ∧ r.2.mem ((c.tc : Thread Cert.ProjSwapRefIdeal.nD Cert.ProjSwapRefIdeal.τ).loc Cert.ProjSwapRefIdeal.main_arg4) = m ((c.tc : Thread Cert.ProjSwapRefIdeal.nD Cert.ProjSwapRefIdeal.τ).loc Cert.ProjSwapRefIdeal.main_arg4)
      ∧ r.2.mem ((c.tc : Thread Cert.ProjSwapRefIdeal.nD Cert.ProjSwapRefIdeal.τ).loc Cert.ProjSwapRefIdeal.main_arg5) = m ((c.tc : Thread Cert.ProjSwapRefIdeal.nD Cert.ProjSwapRefIdeal.τ).loc Cert.ProjSwapRefIdeal.main_arg5)
      ∧ r.2.mem ((c.tc : Thread Cert.ProjSwapRefIdeal.nD Cert.ProjSwapRefIdeal.τ).loc Cert.ProjSwapRefIdeal.main_arg6) = m ((c.tc : Thread Cert.ProjSwapRefIdeal.nD Cert.ProjSwapRefIdeal.τ).loc Cert.ProjSwapRefIdeal.main_arg6)
      ∧ r.2.mem ((c.tc : Thread Cert.ProjSwapRefIdeal.nD Cert.ProjSwapRefIdeal.τ).loc Cert.ProjSwapRefIdeal.main_arg7) = m ((c.tc : Thread Cert.ProjSwapRefIdeal.nD Cert.ProjSwapRefIdeal.τ).loc Cert.ProjSwapRefIdeal.main_arg7)
      ∧ r.2.mem ((c.tc : Thread Cert.ProjSwapRefIdeal.nD Cert.ProjSwapRefIdeal.τ).loc Cert.ProjSwapRefIdeal.main_arg8) = m ((c.tc : Thread Cert.ProjSwapRefIdeal.nD Cert.ProjSwapRefIdeal.τ).loc Cert.ProjSwapRefIdeal.main_arg8)
      ∧ r.2.mem ((c.tc : Thread Cert.ProjSwapRefIdeal.nD Cert.ProjSwapRefIdeal.τ).loc Cert.ProjSwapRefIdeal.main_arg9) = m ((c.tc : Thread Cert.ProjSwapRefIdeal.nD Cert.ProjSwapRefIdeal.τ).loc Cert.ProjSwapRefIdeal.main_arg9)
      ∧ r.2.mem ((c.tc : Thread Cert.ProjSwapRefIdeal.nD Cert.ProjSwapRefIdeal.τ).loc Cert.ProjSwapRefIdeal.main_arg10) = m ((c.tc : Thread Cert.ProjSwapRefIdeal.nD Cert.ProjSwapRefIdeal.τ).loc Cert.ProjSwapRefIdeal.main_arg10)
      ∧ r.2.mem ((c.tc : Thread Cert.ProjSwapRefIdeal.nD Cert.ProjSwapRefIdeal.τ).loc Cert.ProjSwapRefIdeal.main_arg11) = m ((c.tc : Thread Cert.ProjSwapRefIdeal.nD Cert.ProjSwapRefIdeal.τ).loc Cert.ProjSwapRefIdeal.main_arg11))
      ∧ r.2.sem = fun _ => 0)

def quiescent_InScatter [hInScatter : Cert.InScatter.Facts] : Prop :=
  ∀ (m : (ℓ : Loc Cert.InScatter.nD Cert.InScatter.τ Cert.InScatter.sig) → Buf (Elt Bits) ℓ) (g : Dev Cert.InScatter.nD → PrngReg), Pre_InScatter m →
    θ_run (Cert.InScatter.defs (F := Bits)) (onTc (τ := Cert.InScatter.τ) (Cert.InScatter.main (F := Bits))) ⟨m, fun _ => 0, g⟩ (fun r => (∀ c : Dev Cert.InScatter.nD,
      r.2.mem ((c.tc : Thread Cert.InScatter.nD Cert.InScatter.τ).loc Cert.InScatter.main_arg0) = m ((c.tc : Thread Cert.InScatter.nD Cert.InScatter.τ).loc Cert.InScatter.main_arg0)
      ∧ r.2.mem ((c.tc : Thread Cert.InScatter.nD Cert.InScatter.τ).loc Cert.InScatter.main_arg1) = m ((c.tc : Thread Cert.InScatter.nD Cert.InScatter.τ).loc Cert.InScatter.main_arg1)
      ∧ r.2.mem ((c.tc : Thread Cert.InScatter.nD Cert.InScatter.τ).loc Cert.InScatter.main_arg2) = m ((c.tc : Thread Cert.InScatter.nD Cert.InScatter.τ).loc Cert.InScatter.main_arg2)
      ∧ r.2.mem ((c.tc : Thread Cert.InScatter.nD Cert.InScatter.τ).loc Cert.InScatter.main_arg3) = m ((c.tc : Thread Cert.InScatter.nD Cert.InScatter.τ).loc Cert.InScatter.main_arg3)
      ∧ r.2.mem ((c.tc : Thread Cert.InScatter.nD Cert.InScatter.τ).loc Cert.InScatter.main_arg4) = m ((c.tc : Thread Cert.InScatter.nD Cert.InScatter.τ).loc Cert.InScatter.main_arg4)
      ∧ r.2.mem ((c.tc : Thread Cert.InScatter.nD Cert.InScatter.τ).loc Cert.InScatter.main_arg5) = m ((c.tc : Thread Cert.InScatter.nD Cert.InScatter.τ).loc Cert.InScatter.main_arg5)
      ∧ r.2.mem ((c.tc : Thread Cert.InScatter.nD Cert.InScatter.τ).loc Cert.InScatter.main_arg6) = m ((c.tc : Thread Cert.InScatter.nD Cert.InScatter.τ).loc Cert.InScatter.main_arg6)
      ∧ r.2.mem ((c.tc : Thread Cert.InScatter.nD Cert.InScatter.τ).loc Cert.InScatter.main_arg7) = m ((c.tc : Thread Cert.InScatter.nD Cert.InScatter.τ).loc Cert.InScatter.main_arg7)
      ∧ r.2.mem ((c.tc : Thread Cert.InScatter.nD Cert.InScatter.τ).loc Cert.InScatter.main_arg8) = m ((c.tc : Thread Cert.InScatter.nD Cert.InScatter.τ).loc Cert.InScatter.main_arg8)
      ∧ r.2.mem ((c.tc : Thread Cert.InScatter.nD Cert.InScatter.τ).loc Cert.InScatter.main_arg9) = m ((c.tc : Thread Cert.InScatter.nD Cert.InScatter.τ).loc Cert.InScatter.main_arg9))
      ∧ r.2.sem = fun _ => 0)

def quiescent_InScatterIdeal [hInScatterIdeal : Cert.InScatterIdeal.Facts] : Prop :=
  ∀ (m : (ℓ : Loc Cert.InScatterIdeal.nD Cert.InScatterIdeal.τ Cert.InScatterIdeal.sig) → Buf (Elt Ideal) ℓ) (g : Dev Cert.InScatterIdeal.nD → PrngReg), Pre_InScatterIdeal m →
    θ_run (Cert.InScatterIdeal.defs (F := Ideal)) (onTc (τ := Cert.InScatterIdeal.τ) (Cert.InScatterIdeal.main (F := Ideal))) ⟨m, fun _ => 0, g⟩ (fun r => (∀ c : Dev Cert.InScatterIdeal.nD,
      r.2.mem ((c.tc : Thread Cert.InScatterIdeal.nD Cert.InScatterIdeal.τ).loc Cert.InScatterIdeal.main_arg0) = m ((c.tc : Thread Cert.InScatterIdeal.nD Cert.InScatterIdeal.τ).loc Cert.InScatterIdeal.main_arg0)
      ∧ r.2.mem ((c.tc : Thread Cert.InScatterIdeal.nD Cert.InScatterIdeal.τ).loc Cert.InScatterIdeal.main_arg1) = m ((c.tc : Thread Cert.InScatterIdeal.nD Cert.InScatterIdeal.τ).loc Cert.InScatterIdeal.main_arg1)
      ∧ r.2.mem ((c.tc : Thread Cert.InScatterIdeal.nD Cert.InScatterIdeal.τ).loc Cert.InScatterIdeal.main_arg2) = m ((c.tc : Thread Cert.InScatterIdeal.nD Cert.InScatterIdeal.τ).loc Cert.InScatterIdeal.main_arg2)
      ∧ r.2.mem ((c.tc : Thread Cert.InScatterIdeal.nD Cert.InScatterIdeal.τ).loc Cert.InScatterIdeal.main_arg3) = m ((c.tc : Thread Cert.InScatterIdeal.nD Cert.InScatterIdeal.τ).loc Cert.InScatterIdeal.main_arg3)
      ∧ r.2.mem ((c.tc : Thread Cert.InScatterIdeal.nD Cert.InScatterIdeal.τ).loc Cert.InScatterIdeal.main_arg4) = m ((c.tc : Thread Cert.InScatterIdeal.nD Cert.InScatterIdeal.τ).loc Cert.InScatterIdeal.main_arg4)
      ∧ r.2.mem ((c.tc : Thread Cert.InScatterIdeal.nD Cert.InScatterIdeal.τ).loc Cert.InScatterIdeal.main_arg5) = m ((c.tc : Thread Cert.InScatterIdeal.nD Cert.InScatterIdeal.τ).loc Cert.InScatterIdeal.main_arg5)
      ∧ r.2.mem ((c.tc : Thread Cert.InScatterIdeal.nD Cert.InScatterIdeal.τ).loc Cert.InScatterIdeal.main_arg6) = m ((c.tc : Thread Cert.InScatterIdeal.nD Cert.InScatterIdeal.τ).loc Cert.InScatterIdeal.main_arg6)
      ∧ r.2.mem ((c.tc : Thread Cert.InScatterIdeal.nD Cert.InScatterIdeal.τ).loc Cert.InScatterIdeal.main_arg7) = m ((c.tc : Thread Cert.InScatterIdeal.nD Cert.InScatterIdeal.τ).loc Cert.InScatterIdeal.main_arg7)
      ∧ r.2.mem ((c.tc : Thread Cert.InScatterIdeal.nD Cert.InScatterIdeal.τ).loc Cert.InScatterIdeal.main_arg8) = m ((c.tc : Thread Cert.InScatterIdeal.nD Cert.InScatterIdeal.τ).loc Cert.InScatterIdeal.main_arg8)
      ∧ r.2.mem ((c.tc : Thread Cert.InScatterIdeal.nD Cert.InScatterIdeal.τ).loc Cert.InScatterIdeal.main_arg9) = m ((c.tc : Thread Cert.InScatterIdeal.nD Cert.InScatterIdeal.τ).loc Cert.InScatterIdeal.main_arg9))
      ∧ r.2.sem = fun _ => 0)

def quiescent_InScatterRefIdeal [hInScatterRefIdeal : Cert.InScatterRefIdeal.Facts] : Prop :=
  ∀ (m : (ℓ : Loc Cert.InScatterRefIdeal.nD Cert.InScatterRefIdeal.τ Cert.InScatterRefIdeal.sig) → Buf (Elt Ideal) ℓ) (g : Dev Cert.InScatterRefIdeal.nD → PrngReg), Pre_InScatterRefIdeal m →
    θ_run (Cert.InScatterRefIdeal.defs (F := Ideal)) (onTc (τ := Cert.InScatterRefIdeal.τ) (Cert.InScatterRefIdeal.main (F := Ideal))) ⟨m, fun _ => 0, g⟩ (fun r => (∀ c : Dev Cert.InScatterRefIdeal.nD,
      r.2.mem ((c.tc : Thread Cert.InScatterRefIdeal.nD Cert.InScatterRefIdeal.τ).loc Cert.InScatterRefIdeal.main_arg0) = m ((c.tc : Thread Cert.InScatterRefIdeal.nD Cert.InScatterRefIdeal.τ).loc Cert.InScatterRefIdeal.main_arg0)
      ∧ r.2.mem ((c.tc : Thread Cert.InScatterRefIdeal.nD Cert.InScatterRefIdeal.τ).loc Cert.InScatterRefIdeal.main_arg1) = m ((c.tc : Thread Cert.InScatterRefIdeal.nD Cert.InScatterRefIdeal.τ).loc Cert.InScatterRefIdeal.main_arg1)
      ∧ r.2.mem ((c.tc : Thread Cert.InScatterRefIdeal.nD Cert.InScatterRefIdeal.τ).loc Cert.InScatterRefIdeal.main_arg2) = m ((c.tc : Thread Cert.InScatterRefIdeal.nD Cert.InScatterRefIdeal.τ).loc Cert.InScatterRefIdeal.main_arg2)
      ∧ r.2.mem ((c.tc : Thread Cert.InScatterRefIdeal.nD Cert.InScatterRefIdeal.τ).loc Cert.InScatterRefIdeal.main_arg3) = m ((c.tc : Thread Cert.InScatterRefIdeal.nD Cert.InScatterRefIdeal.τ).loc Cert.InScatterRefIdeal.main_arg3)
      ∧ r.2.mem ((c.tc : Thread Cert.InScatterRefIdeal.nD Cert.InScatterRefIdeal.τ).loc Cert.InScatterRefIdeal.main_arg4) = m ((c.tc : Thread Cert.InScatterRefIdeal.nD Cert.InScatterRefIdeal.τ).loc Cert.InScatterRefIdeal.main_arg4)
      ∧ r.2.mem ((c.tc : Thread Cert.InScatterRefIdeal.nD Cert.InScatterRefIdeal.τ).loc Cert.InScatterRefIdeal.main_arg5) = m ((c.tc : Thread Cert.InScatterRefIdeal.nD Cert.InScatterRefIdeal.τ).loc Cert.InScatterRefIdeal.main_arg5)
      ∧ r.2.mem ((c.tc : Thread Cert.InScatterRefIdeal.nD Cert.InScatterRefIdeal.τ).loc Cert.InScatterRefIdeal.main_arg6) = m ((c.tc : Thread Cert.InScatterRefIdeal.nD Cert.InScatterRefIdeal.τ).loc Cert.InScatterRefIdeal.main_arg6)
      ∧ r.2.mem ((c.tc : Thread Cert.InScatterRefIdeal.nD Cert.InScatterRefIdeal.τ).loc Cert.InScatterRefIdeal.main_arg7) = m ((c.tc : Thread Cert.InScatterRefIdeal.nD Cert.InScatterRefIdeal.τ).loc Cert.InScatterRefIdeal.main_arg7)
      ∧ r.2.mem ((c.tc : Thread Cert.InScatterRefIdeal.nD Cert.InScatterRefIdeal.τ).loc Cert.InScatterRefIdeal.main_arg8) = m ((c.tc : Thread Cert.InScatterRefIdeal.nD Cert.InScatterRefIdeal.τ).loc Cert.InScatterRefIdeal.main_arg8)
      ∧ r.2.mem ((c.tc : Thread Cert.InScatterRefIdeal.nD Cert.InScatterRefIdeal.τ).loc Cert.InScatterRefIdeal.main_arg9) = m ((c.tc : Thread Cert.InScatterRefIdeal.nD Cert.InScatterRefIdeal.τ).loc Cert.InScatterRefIdeal.main_arg9))
      ∧ r.2.sem = fun _ => 0)

def quiescent_ActScatter [hActScatter : Cert.ActScatter.Facts] : Prop :=
  ∀ (m : (ℓ : Loc Cert.ActScatter.nD Cert.ActScatter.τ Cert.ActScatter.sig) → Buf (Elt Bits) ℓ) (g : Dev Cert.ActScatter.nD → PrngReg), Pre_ActScatter m →
    θ_run (Cert.ActScatter.defs (F := Bits)) (onTc (τ := Cert.ActScatter.τ) (Cert.ActScatter.main (F := Bits))) ⟨m, fun _ => 0, g⟩ (fun r => (∀ c : Dev Cert.ActScatter.nD,
      r.2.mem ((c.tc : Thread Cert.ActScatter.nD Cert.ActScatter.τ).loc Cert.ActScatter.main_arg0) = m ((c.tc : Thread Cert.ActScatter.nD Cert.ActScatter.τ).loc Cert.ActScatter.main_arg0)
      ∧ r.2.mem ((c.tc : Thread Cert.ActScatter.nD Cert.ActScatter.τ).loc Cert.ActScatter.main_arg1) = m ((c.tc : Thread Cert.ActScatter.nD Cert.ActScatter.τ).loc Cert.ActScatter.main_arg1)
      ∧ r.2.mem ((c.tc : Thread Cert.ActScatter.nD Cert.ActScatter.τ).loc Cert.ActScatter.main_arg2) = m ((c.tc : Thread Cert.ActScatter.nD Cert.ActScatter.τ).loc Cert.ActScatter.main_arg2)
      ∧ r.2.mem ((c.tc : Thread Cert.ActScatter.nD Cert.ActScatter.τ).loc Cert.ActScatter.main_arg3) = m ((c.tc : Thread Cert.ActScatter.nD Cert.ActScatter.τ).loc Cert.ActScatter.main_arg3)
      ∧ r.2.mem ((c.tc : Thread Cert.ActScatter.nD Cert.ActScatter.τ).loc Cert.ActScatter.main_arg4) = m ((c.tc : Thread Cert.ActScatter.nD Cert.ActScatter.τ).loc Cert.ActScatter.main_arg4)
      ∧ r.2.mem ((c.tc : Thread Cert.ActScatter.nD Cert.ActScatter.τ).loc Cert.ActScatter.main_arg5) = m ((c.tc : Thread Cert.ActScatter.nD Cert.ActScatter.τ).loc Cert.ActScatter.main_arg5)
      ∧ r.2.mem ((c.tc : Thread Cert.ActScatter.nD Cert.ActScatter.τ).loc Cert.ActScatter.main_arg6) = m ((c.tc : Thread Cert.ActScatter.nD Cert.ActScatter.τ).loc Cert.ActScatter.main_arg6)
      ∧ r.2.mem ((c.tc : Thread Cert.ActScatter.nD Cert.ActScatter.τ).loc Cert.ActScatter.main_arg7) = m ((c.tc : Thread Cert.ActScatter.nD Cert.ActScatter.τ).loc Cert.ActScatter.main_arg7)
      ∧ r.2.mem ((c.tc : Thread Cert.ActScatter.nD Cert.ActScatter.τ).loc Cert.ActScatter.main_arg8) = m ((c.tc : Thread Cert.ActScatter.nD Cert.ActScatter.τ).loc Cert.ActScatter.main_arg8)
      ∧ r.2.mem ((c.tc : Thread Cert.ActScatter.nD Cert.ActScatter.τ).loc Cert.ActScatter.main_arg9) = m ((c.tc : Thread Cert.ActScatter.nD Cert.ActScatter.τ).loc Cert.ActScatter.main_arg9)
      ∧ r.2.mem ((c.tc : Thread Cert.ActScatter.nD Cert.ActScatter.τ).loc Cert.ActScatter.main_arg10) = m ((c.tc : Thread Cert.ActScatter.nD Cert.ActScatter.τ).loc Cert.ActScatter.main_arg10))
      ∧ r.2.sem = fun _ => 0)

def quiescent_ActScatterIdeal [hActScatterIdeal : Cert.ActScatterIdeal.Facts] : Prop :=
  ∀ (m : (ℓ : Loc Cert.ActScatterIdeal.nD Cert.ActScatterIdeal.τ Cert.ActScatterIdeal.sig) → Buf (Elt Ideal) ℓ) (g : Dev Cert.ActScatterIdeal.nD → PrngReg), Pre_ActScatterIdeal m →
    θ_run (Cert.ActScatterIdeal.defs (F := Ideal)) (onTc (τ := Cert.ActScatterIdeal.τ) (Cert.ActScatterIdeal.main (F := Ideal))) ⟨m, fun _ => 0, g⟩ (fun r => (∀ c : Dev Cert.ActScatterIdeal.nD,
      r.2.mem ((c.tc : Thread Cert.ActScatterIdeal.nD Cert.ActScatterIdeal.τ).loc Cert.ActScatterIdeal.main_arg0) = m ((c.tc : Thread Cert.ActScatterIdeal.nD Cert.ActScatterIdeal.τ).loc Cert.ActScatterIdeal.main_arg0)
      ∧ r.2.mem ((c.tc : Thread Cert.ActScatterIdeal.nD Cert.ActScatterIdeal.τ).loc Cert.ActScatterIdeal.main_arg1) = m ((c.tc : Thread Cert.ActScatterIdeal.nD Cert.ActScatterIdeal.τ).loc Cert.ActScatterIdeal.main_arg1)
      ∧ r.2.mem ((c.tc : Thread Cert.ActScatterIdeal.nD Cert.ActScatterIdeal.τ).loc Cert.ActScatterIdeal.main_arg2) = m ((c.tc : Thread Cert.ActScatterIdeal.nD Cert.ActScatterIdeal.τ).loc Cert.ActScatterIdeal.main_arg2)
      ∧ r.2.mem ((c.tc : Thread Cert.ActScatterIdeal.nD Cert.ActScatterIdeal.τ).loc Cert.ActScatterIdeal.main_arg3) = m ((c.tc : Thread Cert.ActScatterIdeal.nD Cert.ActScatterIdeal.τ).loc Cert.ActScatterIdeal.main_arg3)
      ∧ r.2.mem ((c.tc : Thread Cert.ActScatterIdeal.nD Cert.ActScatterIdeal.τ).loc Cert.ActScatterIdeal.main_arg4) = m ((c.tc : Thread Cert.ActScatterIdeal.nD Cert.ActScatterIdeal.τ).loc Cert.ActScatterIdeal.main_arg4)
      ∧ r.2.mem ((c.tc : Thread Cert.ActScatterIdeal.nD Cert.ActScatterIdeal.τ).loc Cert.ActScatterIdeal.main_arg5) = m ((c.tc : Thread Cert.ActScatterIdeal.nD Cert.ActScatterIdeal.τ).loc Cert.ActScatterIdeal.main_arg5)
      ∧ r.2.mem ((c.tc : Thread Cert.ActScatterIdeal.nD Cert.ActScatterIdeal.τ).loc Cert.ActScatterIdeal.main_arg6) = m ((c.tc : Thread Cert.ActScatterIdeal.nD Cert.ActScatterIdeal.τ).loc Cert.ActScatterIdeal.main_arg6)
      ∧ r.2.mem ((c.tc : Thread Cert.ActScatterIdeal.nD Cert.ActScatterIdeal.τ).loc Cert.ActScatterIdeal.main_arg7) = m ((c.tc : Thread Cert.ActScatterIdeal.nD Cert.ActScatterIdeal.τ).loc Cert.ActScatterIdeal.main_arg7)
      ∧ r.2.mem ((c.tc : Thread Cert.ActScatterIdeal.nD Cert.ActScatterIdeal.τ).loc Cert.ActScatterIdeal.main_arg8) = m ((c.tc : Thread Cert.ActScatterIdeal.nD Cert.ActScatterIdeal.τ).loc Cert.ActScatterIdeal.main_arg8)
      ∧ r.2.mem ((c.tc : Thread Cert.ActScatterIdeal.nD Cert.ActScatterIdeal.τ).loc Cert.ActScatterIdeal.main_arg9) = m ((c.tc : Thread Cert.ActScatterIdeal.nD Cert.ActScatterIdeal.τ).loc Cert.ActScatterIdeal.main_arg9)
      ∧ r.2.mem ((c.tc : Thread Cert.ActScatterIdeal.nD Cert.ActScatterIdeal.τ).loc Cert.ActScatterIdeal.main_arg10) = m ((c.tc : Thread Cert.ActScatterIdeal.nD Cert.ActScatterIdeal.τ).loc Cert.ActScatterIdeal.main_arg10))
      ∧ r.2.sem = fun _ => 0)

def quiescent_ActScatterRefIdeal [hActScatterRefIdeal : Cert.ActScatterRefIdeal.Facts] : Prop :=
  ∀ (m : (ℓ : Loc Cert.ActScatterRefIdeal.nD Cert.ActScatterRefIdeal.τ Cert.ActScatterRefIdeal.sig) → Buf (Elt Ideal) ℓ) (g : Dev Cert.ActScatterRefIdeal.nD → PrngReg), Pre_ActScatterRefIdeal m →
    θ_run (Cert.ActScatterRefIdeal.defs (F := Ideal)) (onTc (τ := Cert.ActScatterRefIdeal.τ) (Cert.ActScatterRefIdeal.main (F := Ideal))) ⟨m, fun _ => 0, g⟩ (fun r => (∀ c : Dev Cert.ActScatterRefIdeal.nD,
      r.2.mem ((c.tc : Thread Cert.ActScatterRefIdeal.nD Cert.ActScatterRefIdeal.τ).loc Cert.ActScatterRefIdeal.main_arg0) = m ((c.tc : Thread Cert.ActScatterRefIdeal.nD Cert.ActScatterRefIdeal.τ).loc Cert.ActScatterRefIdeal.main_arg0)
      ∧ r.2.mem ((c.tc : Thread Cert.ActScatterRefIdeal.nD Cert.ActScatterRefIdeal.τ).loc Cert.ActScatterRefIdeal.main_arg1) = m ((c.tc : Thread Cert.ActScatterRefIdeal.nD Cert.ActScatterRefIdeal.τ).loc Cert.ActScatterRefIdeal.main_arg1)
      ∧ r.2.mem ((c.tc : Thread Cert.ActScatterRefIdeal.nD Cert.ActScatterRefIdeal.τ).loc Cert.ActScatterRefIdeal.main_arg2) = m ((c.tc : Thread Cert.ActScatterRefIdeal.nD Cert.ActScatterRefIdeal.τ).loc Cert.ActScatterRefIdeal.main_arg2)
      ∧ r.2.mem ((c.tc : Thread Cert.ActScatterRefIdeal.nD Cert.ActScatterRefIdeal.τ).loc Cert.ActScatterRefIdeal.main_arg3) = m ((c.tc : Thread Cert.ActScatterRefIdeal.nD Cert.ActScatterRefIdeal.τ).loc Cert.ActScatterRefIdeal.main_arg3)
      ∧ r.2.mem ((c.tc : Thread Cert.ActScatterRefIdeal.nD Cert.ActScatterRefIdeal.τ).loc Cert.ActScatterRefIdeal.main_arg4) = m ((c.tc : Thread Cert.ActScatterRefIdeal.nD Cert.ActScatterRefIdeal.τ).loc Cert.ActScatterRefIdeal.main_arg4)
      ∧ r.2.mem ((c.tc : Thread Cert.ActScatterRefIdeal.nD Cert.ActScatterRefIdeal.τ).loc Cert.ActScatterRefIdeal.main_arg5) = m ((c.tc : Thread Cert.ActScatterRefIdeal.nD Cert.ActScatterRefIdeal.τ).loc Cert.ActScatterRefIdeal.main_arg5)
      ∧ r.2.mem ((c.tc : Thread Cert.ActScatterRefIdeal.nD Cert.ActScatterRefIdeal.τ).loc Cert.ActScatterRefIdeal.main_arg6) = m ((c.tc : Thread Cert.ActScatterRefIdeal.nD Cert.ActScatterRefIdeal.τ).loc Cert.ActScatterRefIdeal.main_arg6)
      ∧ r.2.mem ((c.tc : Thread Cert.ActScatterRefIdeal.nD Cert.ActScatterRefIdeal.τ).loc Cert.ActScatterRefIdeal.main_arg7) = m ((c.tc : Thread Cert.ActScatterRefIdeal.nD Cert.ActScatterRefIdeal.τ).loc Cert.ActScatterRefIdeal.main_arg7)
      ∧ r.2.mem ((c.tc : Thread Cert.ActScatterRefIdeal.nD Cert.ActScatterRefIdeal.τ).loc Cert.ActScatterRefIdeal.main_arg8) = m ((c.tc : Thread Cert.ActScatterRefIdeal.nD Cert.ActScatterRefIdeal.τ).loc Cert.ActScatterRefIdeal.main_arg8)
      ∧ r.2.mem ((c.tc : Thread Cert.ActScatterRefIdeal.nD Cert.ActScatterRefIdeal.τ).loc Cert.ActScatterRefIdeal.main_arg9) = m ((c.tc : Thread Cert.ActScatterRefIdeal.nD Cert.ActScatterRefIdeal.τ).loc Cert.ActScatterRefIdeal.main_arg9)
      ∧ r.2.mem ((c.tc : Thread Cert.ActScatterRefIdeal.nD Cert.ActScatterRefIdeal.τ).loc Cert.ActScatterRefIdeal.main_arg10) = m ((c.tc : Thread Cert.ActScatterRefIdeal.nD Cert.ActScatterRefIdeal.τ).loc Cert.ActScatterRefIdeal.main_arg10))
      ∧ r.2.sem = fun _ => 0)

def quiescent_FwdGather [hFwdGather : Cert.FwdGather.Facts] : Prop :=
  ∀ (m : (ℓ : Loc Cert.FwdGather.nD Cert.FwdGather.τ Cert.FwdGather.sig) → Buf (Elt Bits) ℓ) (g : Dev Cert.FwdGather.nD → PrngReg), Pre_FwdGather m →
    θ_run (Cert.FwdGather.defs (F := Bits)) (onTc (τ := Cert.FwdGather.τ) (Cert.FwdGather.main (F := Bits))) ⟨m, fun _ => 0, g⟩ (fun r => (∀ c : Dev Cert.FwdGather.nD,
      r.2.mem ((c.tc : Thread Cert.FwdGather.nD Cert.FwdGather.τ).loc Cert.FwdGather.main_arg0) = m ((c.tc : Thread Cert.FwdGather.nD Cert.FwdGather.τ).loc Cert.FwdGather.main_arg0)
      ∧ r.2.mem ((c.tc : Thread Cert.FwdGather.nD Cert.FwdGather.τ).loc Cert.FwdGather.main_arg1) = m ((c.tc : Thread Cert.FwdGather.nD Cert.FwdGather.τ).loc Cert.FwdGather.main_arg1)
      ∧ r.2.mem ((c.tc : Thread Cert.FwdGather.nD Cert.FwdGather.τ).loc Cert.FwdGather.main_arg2) = m ((c.tc : Thread Cert.FwdGather.nD Cert.FwdGather.τ).loc Cert.FwdGather.main_arg2)
      ∧ r.2.mem ((c.tc : Thread Cert.FwdGather.nD Cert.FwdGather.τ).loc Cert.FwdGather.main_arg3) = m ((c.tc : Thread Cert.FwdGather.nD Cert.FwdGather.τ).loc Cert.FwdGather.main_arg3)
      ∧ r.2.mem ((c.tc : Thread Cert.FwdGather.nD Cert.FwdGather.τ).loc Cert.FwdGather.main_arg4) = m ((c.tc : Thread Cert.FwdGather.nD Cert.FwdGather.τ).loc Cert.FwdGather.main_arg4)
      ∧ r.2.mem ((c.tc : Thread Cert.FwdGather.nD Cert.FwdGather.τ).loc Cert.FwdGather.main_arg5) = m ((c.tc : Thread Cert.FwdGather.nD Cert.FwdGather.τ).loc Cert.FwdGather.main_arg5)
      ∧ r.2.mem ((c.tc : Thread Cert.FwdGather.nD Cert.FwdGather.τ).loc Cert.FwdGather.main_arg6) = m ((c.tc : Thread Cert.FwdGather.nD Cert.FwdGather.τ).loc Cert.FwdGather.main_arg6)
      ∧ r.2.mem ((c.tc : Thread Cert.FwdGather.nD Cert.FwdGather.τ).loc Cert.FwdGather.main_arg7) = m ((c.tc : Thread Cert.FwdGather.nD Cert.FwdGather.τ).loc Cert.FwdGather.main_arg7)
      ∧ r.2.mem ((c.tc : Thread Cert.FwdGather.nD Cert.FwdGather.τ).loc Cert.FwdGather.main_arg8) = m ((c.tc : Thread Cert.FwdGather.nD Cert.FwdGather.τ).loc Cert.FwdGather.main_arg8)
      ∧ r.2.mem ((c.tc : Thread Cert.FwdGather.nD Cert.FwdGather.τ).loc Cert.FwdGather.main_arg9) = m ((c.tc : Thread Cert.FwdGather.nD Cert.FwdGather.τ).loc Cert.FwdGather.main_arg9)
      ∧ r.2.mem ((c.tc : Thread Cert.FwdGather.nD Cert.FwdGather.τ).loc Cert.FwdGather.main_arg10) = m ((c.tc : Thread Cert.FwdGather.nD Cert.FwdGather.τ).loc Cert.FwdGather.main_arg10)
      ∧ r.2.mem ((c.tc : Thread Cert.FwdGather.nD Cert.FwdGather.τ).loc Cert.FwdGather.main_arg11) = m ((c.tc : Thread Cert.FwdGather.nD Cert.FwdGather.τ).loc Cert.FwdGather.main_arg11))
      ∧ r.2.sem = fun _ => 0)

def quiescent_FwdGatherIdeal [hFwdGatherIdeal : Cert.FwdGatherIdeal.Facts] : Prop :=
  ∀ (m : (ℓ : Loc Cert.FwdGatherIdeal.nD Cert.FwdGatherIdeal.τ Cert.FwdGatherIdeal.sig) → Buf (Elt Ideal) ℓ) (g : Dev Cert.FwdGatherIdeal.nD → PrngReg), Pre_FwdGatherIdeal m →
    θ_run (Cert.FwdGatherIdeal.defs (F := Ideal)) (onTc (τ := Cert.FwdGatherIdeal.τ) (Cert.FwdGatherIdeal.main (F := Ideal))) ⟨m, fun _ => 0, g⟩ (fun r => (∀ c : Dev Cert.FwdGatherIdeal.nD,
      r.2.mem ((c.tc : Thread Cert.FwdGatherIdeal.nD Cert.FwdGatherIdeal.τ).loc Cert.FwdGatherIdeal.main_arg0) = m ((c.tc : Thread Cert.FwdGatherIdeal.nD Cert.FwdGatherIdeal.τ).loc Cert.FwdGatherIdeal.main_arg0)
      ∧ r.2.mem ((c.tc : Thread Cert.FwdGatherIdeal.nD Cert.FwdGatherIdeal.τ).loc Cert.FwdGatherIdeal.main_arg1) = m ((c.tc : Thread Cert.FwdGatherIdeal.nD Cert.FwdGatherIdeal.τ).loc Cert.FwdGatherIdeal.main_arg1)
      ∧ r.2.mem ((c.tc : Thread Cert.FwdGatherIdeal.nD Cert.FwdGatherIdeal.τ).loc Cert.FwdGatherIdeal.main_arg2) = m ((c.tc : Thread Cert.FwdGatherIdeal.nD Cert.FwdGatherIdeal.τ).loc Cert.FwdGatherIdeal.main_arg2)
      ∧ r.2.mem ((c.tc : Thread Cert.FwdGatherIdeal.nD Cert.FwdGatherIdeal.τ).loc Cert.FwdGatherIdeal.main_arg3) = m ((c.tc : Thread Cert.FwdGatherIdeal.nD Cert.FwdGatherIdeal.τ).loc Cert.FwdGatherIdeal.main_arg3)
      ∧ r.2.mem ((c.tc : Thread Cert.FwdGatherIdeal.nD Cert.FwdGatherIdeal.τ).loc Cert.FwdGatherIdeal.main_arg4) = m ((c.tc : Thread Cert.FwdGatherIdeal.nD Cert.FwdGatherIdeal.τ).loc Cert.FwdGatherIdeal.main_arg4)
      ∧ r.2.mem ((c.tc : Thread Cert.FwdGatherIdeal.nD Cert.FwdGatherIdeal.τ).loc Cert.FwdGatherIdeal.main_arg5) = m ((c.tc : Thread Cert.FwdGatherIdeal.nD Cert.FwdGatherIdeal.τ).loc Cert.FwdGatherIdeal.main_arg5)
      ∧ r.2.mem ((c.tc : Thread Cert.FwdGatherIdeal.nD Cert.FwdGatherIdeal.τ).loc Cert.FwdGatherIdeal.main_arg6) = m ((c.tc : Thread Cert.FwdGatherIdeal.nD Cert.FwdGatherIdeal.τ).loc Cert.FwdGatherIdeal.main_arg6)
      ∧ r.2.mem ((c.tc : Thread Cert.FwdGatherIdeal.nD Cert.FwdGatherIdeal.τ).loc Cert.FwdGatherIdeal.main_arg7) = m ((c.tc : Thread Cert.FwdGatherIdeal.nD Cert.FwdGatherIdeal.τ).loc Cert.FwdGatherIdeal.main_arg7)
      ∧ r.2.mem ((c.tc : Thread Cert.FwdGatherIdeal.nD Cert.FwdGatherIdeal.τ).loc Cert.FwdGatherIdeal.main_arg8) = m ((c.tc : Thread Cert.FwdGatherIdeal.nD Cert.FwdGatherIdeal.τ).loc Cert.FwdGatherIdeal.main_arg8)
      ∧ r.2.mem ((c.tc : Thread Cert.FwdGatherIdeal.nD Cert.FwdGatherIdeal.τ).loc Cert.FwdGatherIdeal.main_arg9) = m ((c.tc : Thread Cert.FwdGatherIdeal.nD Cert.FwdGatherIdeal.τ).loc Cert.FwdGatherIdeal.main_arg9)
      ∧ r.2.mem ((c.tc : Thread Cert.FwdGatherIdeal.nD Cert.FwdGatherIdeal.τ).loc Cert.FwdGatherIdeal.main_arg10) = m ((c.tc : Thread Cert.FwdGatherIdeal.nD Cert.FwdGatherIdeal.τ).loc Cert.FwdGatherIdeal.main_arg10)
      ∧ r.2.mem ((c.tc : Thread Cert.FwdGatherIdeal.nD Cert.FwdGatherIdeal.τ).loc Cert.FwdGatherIdeal.main_arg11) = m ((c.tc : Thread Cert.FwdGatherIdeal.nD Cert.FwdGatherIdeal.τ).loc Cert.FwdGatherIdeal.main_arg11))
      ∧ r.2.sem = fun _ => 0)

def quiescent_FwdGatherRefIdeal [hFwdGatherRefIdeal : Cert.FwdGatherRefIdeal.Facts] : Prop :=
  ∀ (m : (ℓ : Loc Cert.FwdGatherRefIdeal.nD Cert.FwdGatherRefIdeal.τ Cert.FwdGatherRefIdeal.sig) → Buf (Elt Ideal) ℓ) (g : Dev Cert.FwdGatherRefIdeal.nD → PrngReg), Pre_FwdGatherRefIdeal m →
    θ_run (Cert.FwdGatherRefIdeal.defs (F := Ideal)) (onTc (τ := Cert.FwdGatherRefIdeal.τ) (Cert.FwdGatherRefIdeal.main (F := Ideal))) ⟨m, fun _ => 0, g⟩ (fun r => (∀ c : Dev Cert.FwdGatherRefIdeal.nD,
      r.2.mem ((c.tc : Thread Cert.FwdGatherRefIdeal.nD Cert.FwdGatherRefIdeal.τ).loc Cert.FwdGatherRefIdeal.main_arg0) = m ((c.tc : Thread Cert.FwdGatherRefIdeal.nD Cert.FwdGatherRefIdeal.τ).loc Cert.FwdGatherRefIdeal.main_arg0)
      ∧ r.2.mem ((c.tc : Thread Cert.FwdGatherRefIdeal.nD Cert.FwdGatherRefIdeal.τ).loc Cert.FwdGatherRefIdeal.main_arg1) = m ((c.tc : Thread Cert.FwdGatherRefIdeal.nD Cert.FwdGatherRefIdeal.τ).loc Cert.FwdGatherRefIdeal.main_arg1)
      ∧ r.2.mem ((c.tc : Thread Cert.FwdGatherRefIdeal.nD Cert.FwdGatherRefIdeal.τ).loc Cert.FwdGatherRefIdeal.main_arg2) = m ((c.tc : Thread Cert.FwdGatherRefIdeal.nD Cert.FwdGatherRefIdeal.τ).loc Cert.FwdGatherRefIdeal.main_arg2)
      ∧ r.2.mem ((c.tc : Thread Cert.FwdGatherRefIdeal.nD Cert.FwdGatherRefIdeal.τ).loc Cert.FwdGatherRefIdeal.main_arg3) = m ((c.tc : Thread Cert.FwdGatherRefIdeal.nD Cert.FwdGatherRefIdeal.τ).loc Cert.FwdGatherRefIdeal.main_arg3)
      ∧ r.2.mem ((c.tc : Thread Cert.FwdGatherRefIdeal.nD Cert.FwdGatherRefIdeal.τ).loc Cert.FwdGatherRefIdeal.main_arg4) = m ((c.tc : Thread Cert.FwdGatherRefIdeal.nD Cert.FwdGatherRefIdeal.τ).loc Cert.FwdGatherRefIdeal.main_arg4)
      ∧ r.2.mem ((c.tc : Thread Cert.FwdGatherRefIdeal.nD Cert.FwdGatherRefIdeal.τ).loc Cert.FwdGatherRefIdeal.main_arg5) = m ((c.tc : Thread Cert.FwdGatherRefIdeal.nD Cert.FwdGatherRefIdeal.τ).loc Cert.FwdGatherRefIdeal.main_arg5)
      ∧ r.2.mem ((c.tc : Thread Cert.FwdGatherRefIdeal.nD Cert.FwdGatherRefIdeal.τ).loc Cert.FwdGatherRefIdeal.main_arg6) = m ((c.tc : Thread Cert.FwdGatherRefIdeal.nD Cert.FwdGatherRefIdeal.τ).loc Cert.FwdGatherRefIdeal.main_arg6)
      ∧ r.2.mem ((c.tc : Thread Cert.FwdGatherRefIdeal.nD Cert.FwdGatherRefIdeal.τ).loc Cert.FwdGatherRefIdeal.main_arg7) = m ((c.tc : Thread Cert.FwdGatherRefIdeal.nD Cert.FwdGatherRefIdeal.τ).loc Cert.FwdGatherRefIdeal.main_arg7)
      ∧ r.2.mem ((c.tc : Thread Cert.FwdGatherRefIdeal.nD Cert.FwdGatherRefIdeal.τ).loc Cert.FwdGatherRefIdeal.main_arg8) = m ((c.tc : Thread Cert.FwdGatherRefIdeal.nD Cert.FwdGatherRefIdeal.τ).loc Cert.FwdGatherRefIdeal.main_arg8)
      ∧ r.2.mem ((c.tc : Thread Cert.FwdGatherRefIdeal.nD Cert.FwdGatherRefIdeal.τ).loc Cert.FwdGatherRefIdeal.main_arg9) = m ((c.tc : Thread Cert.FwdGatherRefIdeal.nD Cert.FwdGatherRefIdeal.τ).loc Cert.FwdGatherRefIdeal.main_arg9)
      ∧ r.2.mem ((c.tc : Thread Cert.FwdGatherRefIdeal.nD Cert.FwdGatherRefIdeal.τ).loc Cert.FwdGatherRefIdeal.main_arg10) = m ((c.tc : Thread Cert.FwdGatherRefIdeal.nD Cert.FwdGatherRefIdeal.τ).loc Cert.FwdGatherRefIdeal.main_arg10)
      ∧ r.2.mem ((c.tc : Thread Cert.FwdGatherRefIdeal.nD Cert.FwdGatherRefIdeal.τ).loc Cert.FwdGatherRefIdeal.main_arg11) = m ((c.tc : Thread Cert.FwdGatherRefIdeal.nD Cert.FwdGatherRefIdeal.τ).loc Cert.FwdGatherRefIdeal.main_arg11))
      ∧ r.2.sem = fun _ => 0)

def quiescent_AdamFfn [hAdamFfn : Cert.AdamFfn.Facts] : Prop :=
  ∀ (m : (ℓ : Loc Cert.AdamFfn.nD Cert.AdamFfn.τ Cert.AdamFfn.sig) → Buf (Elt Bits) ℓ) (g : Dev Cert.AdamFfn.nD → PrngReg), Pre_AdamFfn m →
    θ_run (Cert.AdamFfn.defs (F := Bits)) (onTc (τ := Cert.AdamFfn.τ) (Cert.AdamFfn.main (F := Bits))) ⟨m, fun _ => 0, g⟩ (fun r => (∀ c : Dev Cert.AdamFfn.nD,
      r.2.mem ((c.tc : Thread Cert.AdamFfn.nD Cert.AdamFfn.τ).loc Cert.AdamFfn.main_arg0) = m ((c.tc : Thread Cert.AdamFfn.nD Cert.AdamFfn.τ).loc Cert.AdamFfn.main_arg0)
      ∧ r.2.mem ((c.tc : Thread Cert.AdamFfn.nD Cert.AdamFfn.τ).loc Cert.AdamFfn.main_arg1) = m ((c.tc : Thread Cert.AdamFfn.nD Cert.AdamFfn.τ).loc Cert.AdamFfn.main_arg1)
      ∧ r.2.mem ((c.tc : Thread Cert.AdamFfn.nD Cert.AdamFfn.τ).loc Cert.AdamFfn.main_arg2) = m ((c.tc : Thread Cert.AdamFfn.nD Cert.AdamFfn.τ).loc Cert.AdamFfn.main_arg2)
      ∧ r.2.mem ((c.tc : Thread Cert.AdamFfn.nD Cert.AdamFfn.τ).loc Cert.AdamFfn.main_arg3) = m ((c.tc : Thread Cert.AdamFfn.nD Cert.AdamFfn.τ).loc Cert.AdamFfn.main_arg3))
      ∧ r.2.sem = fun _ => 0)

def quiescent_AdamFfnIdeal [hAdamFfnIdeal : Cert.AdamFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg), Pre_AdamFfnIdeal m →
    θ_run (Cert.AdamFfnIdeal.defs (F := Ideal)) (onTc (τ := Cert.AdamFfnIdeal.τ) (Cert.AdamFfnIdeal.main (F := Ideal))) ⟨m, fun _ => 0, g⟩ (fun r => (∀ c : Dev Cert.AdamFfnIdeal.nD,
      r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
      ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
      ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
      ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ r.2.sem = fun _ => 0)

def quiescent_AdamFfnRefIdeal [hAdamFfnRefIdeal : Cert.AdamFfnRefIdeal.Facts] : Prop :=
  ∀ (m : (ℓ : Loc Cert.AdamFfnRefIdeal.nD Cert.AdamFfnRefIdeal.τ Cert.AdamFfnRefIdeal.sig) → Buf (Elt Ideal) ℓ) (g : Dev Cert.AdamFfnRefIdeal.nD → PrngReg), Pre_AdamFfnRefIdeal m →
    θ_run (Cert.AdamFfnRefIdeal.defs (F := Ideal)) (onTc (τ := Cert.AdamFfnRefIdeal.τ) (Cert.AdamFfnRefIdeal.main (F := Ideal))) ⟨m, fun _ => 0, g⟩ (fun r => (∀ c : Dev Cert.AdamFfnRefIdeal.nD,
      r.2.mem ((c.tc : Thread Cert.AdamFfnRefIdeal.nD Cert.AdamFfnRefIdeal.τ).loc Cert.AdamFfnRefIdeal.main_arg0) = m ((c.tc : Thread Cert.AdamFfnRefIdeal.nD Cert.AdamFfnRefIdeal.τ).loc Cert.AdamFfnRefIdeal.main_arg0)
      ∧ r.2.mem ((c.tc : Thread Cert.AdamFfnRefIdeal.nD Cert.AdamFfnRefIdeal.τ).loc Cert.AdamFfnRefIdeal.main_arg1) = m ((c.tc : Thread Cert.AdamFfnRefIdeal.nD Cert.AdamFfnRefIdeal.τ).loc Cert.AdamFfnRefIdeal.main_arg1)
      ∧ r.2.mem ((c.tc : Thread Cert.AdamFfnRefIdeal.nD Cert.AdamFfnRefIdeal.τ).loc Cert.AdamFfnRefIdeal.main_arg2) = m ((c.tc : Thread Cert.AdamFfnRefIdeal.nD Cert.AdamFfnRefIdeal.τ).loc Cert.AdamFfnRefIdeal.main_arg2)
      ∧ r.2.mem ((c.tc : Thread Cert.AdamFfnRefIdeal.nD Cert.AdamFfnRefIdeal.τ).loc Cert.AdamFfnRefIdeal.main_arg3) = m ((c.tc : Thread Cert.AdamFfnRefIdeal.nD Cert.AdamFfnRefIdeal.τ).loc Cert.AdamFfnRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamPle [hAdamPle : Cert.AdamPle.Facts] : Prop :=
  ∀ (m : (ℓ : Loc Cert.AdamPle.nD Cert.AdamPle.τ Cert.AdamPle.sig) → Buf (Elt Bits) ℓ) (g : Dev Cert.AdamPle.nD → PrngReg), Pre_AdamPle m →
    θ_run (Cert.AdamPle.defs (F := Bits)) (onTc (τ := Cert.AdamPle.τ) (Cert.AdamPle.main (F := Bits))) ⟨m, fun _ => 0, g⟩ (fun r => (∀ c : Dev Cert.AdamPle.nD,
      r.2.mem ((c.tc : Thread Cert.AdamPle.nD Cert.AdamPle.τ).loc Cert.AdamPle.main_arg0) = m ((c.tc : Thread Cert.AdamPle.nD Cert.AdamPle.τ).loc Cert.AdamPle.main_arg0)
      ∧ r.2.mem ((c.tc : Thread Cert.AdamPle.nD Cert.AdamPle.τ).loc Cert.AdamPle.main_arg1) = m ((c.tc : Thread Cert.AdamPle.nD Cert.AdamPle.τ).loc Cert.AdamPle.main_arg1)
      ∧ r.2.mem ((c.tc : Thread Cert.AdamPle.nD Cert.AdamPle.τ).loc Cert.AdamPle.main_arg2) = m ((c.tc : Thread Cert.AdamPle.nD Cert.AdamPle.τ).loc Cert.AdamPle.main_arg2)
      ∧ r.2.mem ((c.tc : Thread Cert.AdamPle.nD Cert.AdamPle.τ).loc Cert.AdamPle.main_arg3) = m ((c.tc : Thread Cert.AdamPle.nD Cert.AdamPle.τ).loc Cert.AdamPle.main_arg3))
      ∧ r.2.sem = fun _ => 0)

def quiescent_AdamPleIdeal [hAdamPleIdeal : Cert.AdamPleIdeal.Facts] : Prop :=
  ∀ (m : (ℓ : Loc Cert.AdamPleIdeal.nD Cert.AdamPleIdeal.τ Cert.AdamPleIdeal.sig) → Buf (Elt Ideal) ℓ) (g : Dev Cert.AdamPleIdeal.nD → PrngReg), Pre_AdamPleIdeal m →
    θ_run (Cert.AdamPleIdeal.defs (F := Ideal)) (onTc (τ := Cert.AdamPleIdeal.τ) (Cert.AdamPleIdeal.main (F := Ideal))) ⟨m, fun _ => 0, g⟩ (fun r => (∀ c : Dev Cert.AdamPleIdeal.nD,
      r.2.mem ((c.tc : Thread Cert.AdamPleIdeal.nD Cert.AdamPleIdeal.τ).loc Cert.AdamPleIdeal.main_arg0) = m ((c.tc : Thread Cert.AdamPleIdeal.nD Cert.AdamPleIdeal.τ).loc Cert.AdamPleIdeal.main_arg0)
      ∧ r.2.mem ((c.tc : Thread Cert.AdamPleIdeal.nD Cert.AdamPleIdeal.τ).loc Cert.AdamPleIdeal.main_arg1) = m ((c.tc : Thread Cert.AdamPleIdeal.nD Cert.AdamPleIdeal.τ).loc Cert.AdamPleIdeal.main_arg1)
      ∧ r.2.mem ((c.tc : Thread Cert.AdamPleIdeal.nD Cert.AdamPleIdeal.τ).loc Cert.AdamPleIdeal.main_arg2) = m ((c.tc : Thread Cert.AdamPleIdeal.nD Cert.AdamPleIdeal.τ).loc Cert.AdamPleIdeal.main_arg2)
      ∧ r.2.mem ((c.tc : Thread Cert.AdamPleIdeal.nD Cert.AdamPleIdeal.τ).loc Cert.AdamPleIdeal.main_arg3) = m ((c.tc : Thread Cert.AdamPleIdeal.nD Cert.AdamPleIdeal.τ).loc Cert.AdamPleIdeal.main_arg3))
      ∧ r.2.sem = fun _ => 0)

def quiescent_AdamPleRefIdeal [hAdamPleRefIdeal : Cert.AdamPleRefIdeal.Facts] : Prop :=
  ∀ (m : (ℓ : Loc Cert.AdamPleRefIdeal.nD Cert.AdamPleRefIdeal.τ Cert.AdamPleRefIdeal.sig) → Buf (Elt Ideal) ℓ) (g : Dev Cert.AdamPleRefIdeal.nD → PrngReg), Pre_AdamPleRefIdeal m →
    θ_run (Cert.AdamPleRefIdeal.defs (F := Ideal)) (onTc (τ := Cert.AdamPleRefIdeal.τ) (Cert.AdamPleRefIdeal.main (F := Ideal))) ⟨m, fun _ => 0, g⟩ (fun r => (∀ c : Dev Cert.AdamPleRefIdeal.nD,
      r.2.mem ((c.tc : Thread Cert.AdamPleRefIdeal.nD Cert.AdamPleRefIdeal.τ).loc Cert.AdamPleRefIdeal.main_arg0) = m ((c.tc : Thread Cert.AdamPleRefIdeal.nD Cert.AdamPleRefIdeal.τ).loc Cert.AdamPleRefIdeal.main_arg0)
      ∧ r.2.mem ((c.tc : Thread Cert.AdamPleRefIdeal.nD Cert.AdamPleRefIdeal.τ).loc Cert.AdamPleRefIdeal.main_arg1) = m ((c.tc : Thread Cert.AdamPleRefIdeal.nD Cert.AdamPleRefIdeal.τ).loc Cert.AdamPleRefIdeal.main_arg1)
      ∧ r.2.mem ((c.tc : Thread Cert.AdamPleRefIdeal.nD Cert.AdamPleRefIdeal.τ).loc Cert.AdamPleRefIdeal.main_arg2) = m ((c.tc : Thread Cert.AdamPleRefIdeal.nD Cert.AdamPleRefIdeal.τ).loc Cert.AdamPleRefIdeal.main_arg2)
      ∧ r.2.mem ((c.tc : Thread Cert.AdamPleRefIdeal.nD Cert.AdamPleRefIdeal.τ).loc Cert.AdamPleRefIdeal.main_arg3) = m ((c.tc : Thread Cert.AdamPleRefIdeal.nD Cert.AdamPleRefIdeal.τ).loc Cert.AdamPleRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_ShardFfn [hShardFfn : Cert.ShardFfn.Facts] [hPre_placed_ffn : Cert.Pre_placed_ffn.Facts] : Prop :=
  ∀ (m : (ℓ : Loc Cert.ShardFfn.nD Cert.ShardFfn.τ Cert.ShardFfn.sig) → Buf (Elt Bits) ℓ) (g : Dev Cert.ShardFfn.nD → PrngReg), Pre_ShardFfn m →
    θ_run (Cert.ShardFfn.defs (F := Bits)) (onTc (τ := Cert.ShardFfn.τ) (Cert.ShardFfn.main (F := Bits))) ⟨m, fun _ => 0, g⟩ (fun r => (∀ c : Dev Cert.ShardFfn.nD,
      r.2.mem ((c.tc : Thread Cert.ShardFfn.nD Cert.ShardFfn.τ).loc Cert.ShardFfn.main_arg0) = m ((c.tc : Thread Cert.ShardFfn.nD Cert.ShardFfn.τ).loc Cert.ShardFfn.main_arg0)
      ∧ r.2.mem ((c.tc : Thread Cert.ShardFfn.nD Cert.ShardFfn.τ).loc Cert.ShardFfn.main_arg1) = m ((c.tc : Thread Cert.ShardFfn.nD Cert.ShardFfn.τ).loc Cert.ShardFfn.main_arg1)
      ∧ r.2.mem ((c.tc : Thread Cert.ShardFfn.nD Cert.ShardFfn.τ).loc Cert.ShardFfn.main_arg2) = m ((c.tc : Thread Cert.ShardFfn.nD Cert.ShardFfn.τ).loc Cert.ShardFfn.main_arg2))
      ∧ r.2.sem = fun _ => 0)

def quiescent_ShardFfnIdeal [hShardFfnIdeal : Cert.ShardFfnIdeal.Facts] [hPre_placed_ffn : Cert.Pre_placed_ffn.Facts] : Prop :=
  ∀ (m : (ℓ : Loc Cert.ShardFfnIdeal.nD Cert.ShardFfnIdeal.τ Cert.ShardFfnIdeal.sig) → Buf (Elt Ideal) ℓ) (g : Dev Cert.ShardFfnIdeal.nD → PrngReg), Pre_ShardFfnIdeal m →
    θ_run (Cert.ShardFfnIdeal.defs (F := Ideal)) (onTc (τ := Cert.ShardFfnIdeal.τ) (Cert.ShardFfnIdeal.main (F := Ideal))) ⟨m, fun _ => 0, g⟩ (fun r => (∀ c : Dev Cert.ShardFfnIdeal.nD,
      r.2.mem ((c.tc : Thread Cert.ShardFfnIdeal.nD Cert.ShardFfnIdeal.τ).loc Cert.ShardFfnIdeal.main_arg0) = m ((c.tc : Thread Cert.ShardFfnIdeal.nD Cert.ShardFfnIdeal.τ).loc Cert.ShardFfnIdeal.main_arg0)
      ∧ r.2.mem ((c.tc : Thread Cert.ShardFfnIdeal.nD Cert.ShardFfnIdeal.τ).loc Cert.ShardFfnIdeal.main_arg1) = m ((c.tc : Thread Cert.ShardFfnIdeal.nD Cert.ShardFfnIdeal.τ).loc Cert.ShardFfnIdeal.main_arg1)
      ∧ r.2.mem ((c.tc : Thread Cert.ShardFfnIdeal.nD Cert.ShardFfnIdeal.τ).loc Cert.ShardFfnIdeal.main_arg2) = m ((c.tc : Thread Cert.ShardFfnIdeal.nD Cert.ShardFfnIdeal.τ).loc Cert.ShardFfnIdeal.main_arg2))
      ∧ r.2.sem = fun _ => 0)

def quiescent_ShardFfnRefIdeal [hShardFfnRefIdeal : Cert.ShardFfnRefIdeal.Facts] : Prop :=
  ∀ (m : (ℓ : Loc Cert.ShardFfnRefIdeal.nD Cert.ShardFfnRefIdeal.τ Cert.ShardFfnRefIdeal.sig) → Buf (Elt Ideal) ℓ) (g : Dev Cert.ShardFfnRefIdeal.nD → PrngReg), Pre_ShardFfnRefIdeal m →
    θ_run (Cert.ShardFfnRefIdeal.defs (F := Ideal)) (onTc (τ := Cert.ShardFfnRefIdeal.τ) (Cert.ShardFfnRefIdeal.main (F := Ideal))) ⟨m, fun _ => 0, g⟩ (fun r => (∀ c : Dev Cert.ShardFfnRefIdeal.nD,
      r.2.mem ((c.tc : Thread Cert.ShardFfnRefIdeal.nD Cert.ShardFfnRefIdeal.τ).loc Cert.ShardFfnRefIdeal.main_arg0) = m ((c.tc : Thread Cert.ShardFfnRefIdeal.nD Cert.ShardFfnRefIdeal.τ).loc Cert.ShardFfnRefIdeal.main_arg0)
      ∧ r.2.mem ((c.tc : Thread Cert.ShardFfnRefIdeal.nD Cert.ShardFfnRefIdeal.τ).loc Cert.ShardFfnRefIdeal.main_arg1) = m ((c.tc : Thread Cert.ShardFfnRefIdeal.nD Cert.ShardFfnRefIdeal.τ).loc Cert.ShardFfnRefIdeal.main_arg1)
      ∧ r.2.mem ((c.tc : Thread Cert.ShardFfnRefIdeal.nD Cert.ShardFfnRefIdeal.τ).loc Cert.ShardFfnRefIdeal.main_arg2) = m ((c.tc : Thread Cert.ShardFfnRefIdeal.nD Cert.ShardFfnRefIdeal.τ).loc Cert.ShardFfnRefIdeal.main_arg2))
      ∧ r.2.sem = fun _ => 0)

def quiescent_ShardFfnRefIdeal_pre_placed_ffn [hShardFfnRefIdeal : Cert.ShardFfnRefIdeal.Facts] [hPre_placed_ffn : Cert.Pre_placed_ffn.Facts] : Prop :=
  ∀ (m : (ℓ : Loc Cert.ShardFfnRefIdeal.nD Cert.ShardFfnRefIdeal.τ Cert.ShardFfnRefIdeal.sig) → Buf (Elt Ideal) ℓ) (g : Dev Cert.ShardFfnRefIdeal.nD → PrngReg), Pre_ShardFfnRefIdeal_placed_ffn m →
    θ_run (Cert.ShardFfnRefIdeal.defs (F := Ideal)) (onTc (τ := Cert.ShardFfnRefIdeal.τ) (Cert.ShardFfnRefIdeal.main (F := Ideal))) ⟨m, fun _ => 0, g⟩ (fun r => (∀ c : Dev Cert.ShardFfnRefIdeal.nD,
      r.2.mem ((c.tc : Thread Cert.ShardFfnRefIdeal.nD Cert.ShardFfnRefIdeal.τ).loc Cert.ShardFfnRefIdeal.main_arg0) = m ((c.tc : Thread Cert.ShardFfnRefIdeal.nD Cert.ShardFfnRefIdeal.τ).loc Cert.ShardFfnRefIdeal.main_arg0)
      ∧ r.2.mem ((c.tc : Thread Cert.ShardFfnRefIdeal.nD Cert.ShardFfnRefIdeal.τ).loc Cert.ShardFfnRefIdeal.main_arg1) = m ((c.tc : Thread Cert.ShardFfnRefIdeal.nD Cert.ShardFfnRefIdeal.τ).loc Cert.ShardFfnRefIdeal.main_arg1)
      ∧ r.2.mem ((c.tc : Thread Cert.ShardFfnRefIdeal.nD Cert.ShardFfnRefIdeal.τ).loc Cert.ShardFfnRefIdeal.main_arg2) = m ((c.tc : Thread Cert.ShardFfnRefIdeal.nD Cert.ShardFfnRefIdeal.τ).loc Cert.ShardFfnRefIdeal.main_arg2))
      ∧ r.2.sem = fun _ => 0)

def quiescent_ShardIn [hShardIn : Cert.ShardIn.Facts] [hPre_placed_in : Cert.Pre_placed_in.Facts] : Prop :=
  ∀ (m : (ℓ : Loc Cert.ShardIn.nD Cert.ShardIn.τ Cert.ShardIn.sig) → Buf (Elt Bits) ℓ) (g : Dev Cert.ShardIn.nD → PrngReg), Pre_ShardIn m →
    θ_run (Cert.ShardIn.defs (F := Bits)) (onTc (τ := Cert.ShardIn.τ) (Cert.ShardIn.main (F := Bits))) ⟨m, fun _ => 0, g⟩ (fun r => (∀ c : Dev Cert.ShardIn.nD,
      r.2.mem ((c.tc : Thread Cert.ShardIn.nD Cert.ShardIn.τ).loc Cert.ShardIn.main_arg0) = m ((c.tc : Thread Cert.ShardIn.nD Cert.ShardIn.τ).loc Cert.ShardIn.main_arg0)
      ∧ r.2.mem ((c.tc : Thread Cert.ShardIn.nD Cert.ShardIn.τ).loc Cert.ShardIn.main_arg1) = m ((c.tc : Thread Cert.ShardIn.nD Cert.ShardIn.τ).loc Cert.ShardIn.main_arg1)
      ∧ r.2.mem ((c.tc : Thread Cert.ShardIn.nD Cert.ShardIn.τ).loc Cert.ShardIn.main_arg2) = m ((c.tc : Thread Cert.ShardIn.nD Cert.ShardIn.τ).loc Cert.ShardIn.main_arg2))
      ∧ r.2.sem = fun _ => 0)

def quiescent_ShardInIdeal [hShardInIdeal : Cert.ShardInIdeal.Facts] [hPre_placed_in : Cert.Pre_placed_in.Facts] : Prop :=
  ∀ (m : (ℓ : Loc Cert.ShardInIdeal.nD Cert.ShardInIdeal.τ Cert.ShardInIdeal.sig) → Buf (Elt Ideal) ℓ) (g : Dev Cert.ShardInIdeal.nD → PrngReg), Pre_ShardInIdeal m →
    θ_run (Cert.ShardInIdeal.defs (F := Ideal)) (onTc (τ := Cert.ShardInIdeal.τ) (Cert.ShardInIdeal.main (F := Ideal))) ⟨m, fun _ => 0, g⟩ (fun r => (∀ c : Dev Cert.ShardInIdeal.nD,
      r.2.mem ((c.tc : Thread Cert.ShardInIdeal.nD Cert.ShardInIdeal.τ).loc Cert.ShardInIdeal.main_arg0) = m ((c.tc : Thread Cert.ShardInIdeal.nD Cert.ShardInIdeal.τ).loc Cert.ShardInIdeal.main_arg0)
      ∧ r.2.mem ((c.tc : Thread Cert.ShardInIdeal.nD Cert.ShardInIdeal.τ).loc Cert.ShardInIdeal.main_arg1) = m ((c.tc : Thread Cert.ShardInIdeal.nD Cert.ShardInIdeal.τ).loc Cert.ShardInIdeal.main_arg1)
      ∧ r.2.mem ((c.tc : Thread Cert.ShardInIdeal.nD Cert.ShardInIdeal.τ).loc Cert.ShardInIdeal.main_arg2) = m ((c.tc : Thread Cert.ShardInIdeal.nD Cert.ShardInIdeal.τ).loc Cert.ShardInIdeal.main_arg2))
      ∧ r.2.sem = fun _ => 0)

def quiescent_ShardInRefIdeal [hShardInRefIdeal : Cert.ShardInRefIdeal.Facts] : Prop :=
  ∀ (m : (ℓ : Loc Cert.ShardInRefIdeal.nD Cert.ShardInRefIdeal.τ Cert.ShardInRefIdeal.sig) → Buf (Elt Ideal) ℓ) (g : Dev Cert.ShardInRefIdeal.nD → PrngReg), Pre_ShardInRefIdeal m →
    θ_run (Cert.ShardInRefIdeal.defs (F := Ideal)) (onTc (τ := Cert.ShardInRefIdeal.τ) (Cert.ShardInRefIdeal.main (F := Ideal))) ⟨m, fun _ => 0, g⟩ (fun r => (∀ c : Dev Cert.ShardInRefIdeal.nD,
      r.2.mem ((c.tc : Thread Cert.ShardInRefIdeal.nD Cert.ShardInRefIdeal.τ).loc Cert.ShardInRefIdeal.main_arg0) = m ((c.tc : Thread Cert.ShardInRefIdeal.nD Cert.ShardInRefIdeal.τ).loc Cert.ShardInRefIdeal.main_arg0)
      ∧ r.2.mem ((c.tc : Thread Cert.ShardInRefIdeal.nD Cert.ShardInRefIdeal.τ).loc Cert.ShardInRefIdeal.main_arg1) = m ((c.tc : Thread Cert.ShardInRefIdeal.nD Cert.ShardInRefIdeal.τ).loc Cert.ShardInRefIdeal.main_arg1)
      ∧ r.2.mem ((c.tc : Thread Cert.ShardInRefIdeal.nD Cert.ShardInRefIdeal.τ).loc Cert.ShardInRefIdeal.main_arg2) = m ((c.tc : Thread Cert.ShardInRefIdeal.nD Cert.ShardInRefIdeal.τ).loc Cert.ShardInRefIdeal.main_arg2))
      ∧ r.2.sem = fun _ => 0)

def quiescent_ShardInRefIdeal_pre_placed_in [hShardInRefIdeal : Cert.ShardInRefIdeal.Facts] [hPre_placed_in : Cert.Pre_placed_in.Facts] : Prop :=
  ∀ (m : (ℓ : Loc Cert.ShardInRefIdeal.nD Cert.ShardInRefIdeal.τ Cert.ShardInRefIdeal.sig) → Buf (Elt Ideal) ℓ) (g : Dev Cert.ShardInRefIdeal.nD → PrngReg), Pre_ShardInRefIdeal_placed_in m →
    θ_run (Cert.ShardInRefIdeal.defs (F := Ideal)) (onTc (τ := Cert.ShardInRefIdeal.τ) (Cert.ShardInRefIdeal.main (F := Ideal))) ⟨m, fun _ => 0, g⟩ (fun r => (∀ c : Dev Cert.ShardInRefIdeal.nD,
      r.2.mem ((c.tc : Thread Cert.ShardInRefIdeal.nD Cert.ShardInRefIdeal.τ).loc Cert.ShardInRefIdeal.main_arg0) = m ((c.tc : Thread Cert.ShardInRefIdeal.nD Cert.ShardInRefIdeal.τ).loc Cert.ShardInRefIdeal.main_arg0)
      ∧ r.2.mem ((c.tc : Thread Cert.ShardInRefIdeal.nD Cert.ShardInRefIdeal.τ).loc Cert.ShardInRefIdeal.main_arg1) = m ((c.tc : Thread Cert.ShardInRefIdeal.nD Cert.ShardInRefIdeal.τ).loc Cert.ShardInRefIdeal.main_arg1)
      ∧ r.2.mem ((c.tc : Thread Cert.ShardInRefIdeal.nD Cert.ShardInRefIdeal.τ).loc Cert.ShardInRefIdeal.main_arg2) = m ((c.tc : Thread Cert.ShardInRefIdeal.nD Cert.ShardInRefIdeal.τ).loc Cert.ShardInRefIdeal.main_arg2))
      ∧ r.2.sem = fun _ => 0)

def quiescent_ShardOut [hShardOut : Cert.ShardOut.Facts] [hPre_placed_out : Cert.Pre_placed_out.Facts] : Prop :=
  ∀ (m : (ℓ : Loc Cert.ShardOut.nD Cert.ShardOut.τ Cert.ShardOut.sig) → Buf (Elt Bits) ℓ) (g : Dev Cert.ShardOut.nD → PrngReg), Pre_ShardOut m →
    θ_run (Cert.ShardOut.defs (F := Bits)) (onTc (τ := Cert.ShardOut.τ) (Cert.ShardOut.main (F := Bits))) ⟨m, fun _ => 0, g⟩ (fun r => (∀ c : Dev Cert.ShardOut.nD,
      r.2.mem ((c.tc : Thread Cert.ShardOut.nD Cert.ShardOut.τ).loc Cert.ShardOut.main_arg0) = m ((c.tc : Thread Cert.ShardOut.nD Cert.ShardOut.τ).loc Cert.ShardOut.main_arg0)
      ∧ r.2.mem ((c.tc : Thread Cert.ShardOut.nD Cert.ShardOut.τ).loc Cert.ShardOut.main_arg1) = m ((c.tc : Thread Cert.ShardOut.nD Cert.ShardOut.τ).loc Cert.ShardOut.main_arg1)
      ∧ r.2.mem ((c.tc : Thread Cert.ShardOut.nD Cert.ShardOut.τ).loc Cert.ShardOut.main_arg2) = m ((c.tc : Thread Cert.ShardOut.nD Cert.ShardOut.τ).loc Cert.ShardOut.main_arg2))
      ∧ r.2.sem = fun _ => 0)

def quiescent_ShardOutIdeal [hShardOutIdeal : Cert.ShardOutIdeal.Facts] [hPre_placed_out : Cert.Pre_placed_out.Facts] : Prop :=
  ∀ (m : (ℓ : Loc Cert.ShardOutIdeal.nD Cert.ShardOutIdeal.τ Cert.ShardOutIdeal.sig) → Buf (Elt Ideal) ℓ) (g : Dev Cert.ShardOutIdeal.nD → PrngReg), Pre_ShardOutIdeal m →
    θ_run (Cert.ShardOutIdeal.defs (F := Ideal)) (onTc (τ := Cert.ShardOutIdeal.τ) (Cert.ShardOutIdeal.main (F := Ideal))) ⟨m, fun _ => 0, g⟩ (fun r => (∀ c : Dev Cert.ShardOutIdeal.nD,
      r.2.mem ((c.tc : Thread Cert.ShardOutIdeal.nD Cert.ShardOutIdeal.τ).loc Cert.ShardOutIdeal.main_arg0) = m ((c.tc : Thread Cert.ShardOutIdeal.nD Cert.ShardOutIdeal.τ).loc Cert.ShardOutIdeal.main_arg0)
      ∧ r.2.mem ((c.tc : Thread Cert.ShardOutIdeal.nD Cert.ShardOutIdeal.τ).loc Cert.ShardOutIdeal.main_arg1) = m ((c.tc : Thread Cert.ShardOutIdeal.nD Cert.ShardOutIdeal.τ).loc Cert.ShardOutIdeal.main_arg1)
      ∧ r.2.mem ((c.tc : Thread Cert.ShardOutIdeal.nD Cert.ShardOutIdeal.τ).loc Cert.ShardOutIdeal.main_arg2) = m ((c.tc : Thread Cert.ShardOutIdeal.nD Cert.ShardOutIdeal.τ).loc Cert.ShardOutIdeal.main_arg2))
      ∧ r.2.sem = fun _ => 0)

def quiescent_ShardOutRefIdeal [hShardOutRefIdeal : Cert.ShardOutRefIdeal.Facts] : Prop :=
  ∀ (m : (ℓ : Loc Cert.ShardOutRefIdeal.nD Cert.ShardOutRefIdeal.τ Cert.ShardOutRefIdeal.sig) → Buf (Elt Ideal) ℓ) (g : Dev Cert.ShardOutRefIdeal.nD → PrngReg), Pre_ShardOutRefIdeal m →
    θ_run (Cert.ShardOutRefIdeal.defs (F := Ideal)) (onTc (τ := Cert.ShardOutRefIdeal.τ) (Cert.ShardOutRefIdeal.main (F := Ideal))) ⟨m, fun _ => 0, g⟩ (fun r => (∀ c : Dev Cert.ShardOutRefIdeal.nD,
      r.2.mem ((c.tc : Thread Cert.ShardOutRefIdeal.nD Cert.ShardOutRefIdeal.τ).loc Cert.ShardOutRefIdeal.main_arg0) = m ((c.tc : Thread Cert.ShardOutRefIdeal.nD Cert.ShardOutRefIdeal.τ).loc Cert.ShardOutRefIdeal.main_arg0)
      ∧ r.2.mem ((c.tc : Thread Cert.ShardOutRefIdeal.nD Cert.ShardOutRefIdeal.τ).loc Cert.ShardOutRefIdeal.main_arg1) = m ((c.tc : Thread Cert.ShardOutRefIdeal.nD Cert.ShardOutRefIdeal.τ).loc Cert.ShardOutRefIdeal.main_arg1)
      ∧ r.2.mem ((c.tc : Thread Cert.ShardOutRefIdeal.nD Cert.ShardOutRefIdeal.τ).loc Cert.ShardOutRefIdeal.main_arg2) = m ((c.tc : Thread Cert.ShardOutRefIdeal.nD Cert.ShardOutRefIdeal.τ).loc Cert.ShardOutRefIdeal.main_arg2))
      ∧ r.2.sem = fun _ => 0)

def quiescent_ShardOutRefIdeal_pre_placed_out [hShardOutRefIdeal : Cert.ShardOutRefIdeal.Facts] [hPre_placed_out : Cert.Pre_placed_out.Facts] : Prop :=
  ∀ (m : (ℓ : Loc Cert.ShardOutRefIdeal.nD Cert.ShardOutRefIdeal.τ Cert.ShardOutRefIdeal.sig) → Buf (Elt Ideal) ℓ) (g : Dev Cert.ShardOutRefIdeal.nD → PrngReg), Pre_ShardOutRefIdeal_placed_out m →
    θ_run (Cert.ShardOutRefIdeal.defs (F := Ideal)) (onTc (τ := Cert.ShardOutRefIdeal.τ) (Cert.ShardOutRefIdeal.main (F := Ideal))) ⟨m, fun _ => 0, g⟩ (fun r => (∀ c : Dev Cert.ShardOutRefIdeal.nD,
      r.2.mem ((c.tc : Thread Cert.ShardOutRefIdeal.nD Cert.ShardOutRefIdeal.τ).loc Cert.ShardOutRefIdeal.main_arg0) = m ((c.tc : Thread Cert.ShardOutRefIdeal.nD Cert.ShardOutRefIdeal.τ).loc Cert.ShardOutRefIdeal.main_arg0)
      ∧ r.2.mem ((c.tc : Thread Cert.ShardOutRefIdeal.nD Cert.ShardOutRefIdeal.τ).loc Cert.ShardOutRefIdeal.main_arg1) = m ((c.tc : Thread Cert.ShardOutRefIdeal.nD Cert.ShardOutRefIdeal.τ).loc Cert.ShardOutRefIdeal.main_arg1)
      ∧ r.2.mem ((c.tc : Thread Cert.ShardOutRefIdeal.nD Cert.ShardOutRefIdeal.τ).loc Cert.ShardOutRefIdeal.main_arg2) = m ((c.tc : Thread Cert.ShardOutRefIdeal.nD Cert.ShardOutRefIdeal.τ).loc Cert.ShardOutRefIdeal.main_arg2))
      ∧ r.2.sem = fun _ => 0)

def quiescent_ShardPle [hShardPle : Cert.ShardPle.Facts] [hPre_placed_ple : Cert.Pre_placed_ple.Facts] : Prop :=
  ∀ (m : (ℓ : Loc Cert.ShardPle.nD Cert.ShardPle.τ Cert.ShardPle.sig) → Buf (Elt Bits) ℓ) (g : Dev Cert.ShardPle.nD → PrngReg), Pre_ShardPle m →
    θ_run (Cert.ShardPle.defs (F := Bits)) (onTc (τ := Cert.ShardPle.τ) (Cert.ShardPle.main (F := Bits))) ⟨m, fun _ => 0, g⟩ (fun r => (∀ c : Dev Cert.ShardPle.nD,
      r.2.mem ((c.tc : Thread Cert.ShardPle.nD Cert.ShardPle.τ).loc Cert.ShardPle.main_arg0) = m ((c.tc : Thread Cert.ShardPle.nD Cert.ShardPle.τ).loc Cert.ShardPle.main_arg0)
      ∧ r.2.mem ((c.tc : Thread Cert.ShardPle.nD Cert.ShardPle.τ).loc Cert.ShardPle.main_arg1) = m ((c.tc : Thread Cert.ShardPle.nD Cert.ShardPle.τ).loc Cert.ShardPle.main_arg1)
      ∧ r.2.mem ((c.tc : Thread Cert.ShardPle.nD Cert.ShardPle.τ).loc Cert.ShardPle.main_arg2) = m ((c.tc : Thread Cert.ShardPle.nD Cert.ShardPle.τ).loc Cert.ShardPle.main_arg2))
      ∧ r.2.sem = fun _ => 0)

def quiescent_ShardPleIdeal [hShardPleIdeal : Cert.ShardPleIdeal.Facts] [hPre_placed_ple : Cert.Pre_placed_ple.Facts] : Prop :=
  ∀ (m : (ℓ : Loc Cert.ShardPleIdeal.nD Cert.ShardPleIdeal.τ Cert.ShardPleIdeal.sig) → Buf (Elt Ideal) ℓ) (g : Dev Cert.ShardPleIdeal.nD → PrngReg), Pre_ShardPleIdeal m →
    θ_run (Cert.ShardPleIdeal.defs (F := Ideal)) (onTc (τ := Cert.ShardPleIdeal.τ) (Cert.ShardPleIdeal.main (F := Ideal))) ⟨m, fun _ => 0, g⟩ (fun r => (∀ c : Dev Cert.ShardPleIdeal.nD,
      r.2.mem ((c.tc : Thread Cert.ShardPleIdeal.nD Cert.ShardPleIdeal.τ).loc Cert.ShardPleIdeal.main_arg0) = m ((c.tc : Thread Cert.ShardPleIdeal.nD Cert.ShardPleIdeal.τ).loc Cert.ShardPleIdeal.main_arg0)
      ∧ r.2.mem ((c.tc : Thread Cert.ShardPleIdeal.nD Cert.ShardPleIdeal.τ).loc Cert.ShardPleIdeal.main_arg1) = m ((c.tc : Thread Cert.ShardPleIdeal.nD Cert.ShardPleIdeal.τ).loc Cert.ShardPleIdeal.main_arg1)
      ∧ r.2.mem ((c.tc : Thread Cert.ShardPleIdeal.nD Cert.ShardPleIdeal.τ).loc Cert.ShardPleIdeal.main_arg2) = m ((c.tc : Thread Cert.ShardPleIdeal.nD Cert.ShardPleIdeal.τ).loc Cert.ShardPleIdeal.main_arg2))
      ∧ r.2.sem = fun _ => 0)

def quiescent_ShardPleRefIdeal [hShardPleRefIdeal : Cert.ShardPleRefIdeal.Facts] : Prop :=
  ∀ (m : (ℓ : Loc Cert.ShardPleRefIdeal.nD Cert.ShardPleRefIdeal.τ Cert.ShardPleRefIdeal.sig) → Buf (Elt Ideal) ℓ) (g : Dev Cert.ShardPleRefIdeal.nD → PrngReg), Pre_ShardPleRefIdeal m →
    θ_run (Cert.ShardPleRefIdeal.defs (F := Ideal)) (onTc (τ := Cert.ShardPleRefIdeal.τ) (Cert.ShardPleRefIdeal.main (F := Ideal))) ⟨m, fun _ => 0, g⟩ (fun r => (∀ c : Dev Cert.ShardPleRefIdeal.nD,
      r.2.mem ((c.tc : Thread Cert.ShardPleRefIdeal.nD Cert.ShardPleRefIdeal.τ).loc Cert.ShardPleRefIdeal.main_arg0) = m ((c.tc : Thread Cert.ShardPleRefIdeal.nD Cert.ShardPleRefIdeal.τ).loc Cert.ShardPleRefIdeal.main_arg0)
      ∧ r.2.mem ((c.tc : Thread Cert.ShardPleRefIdeal.nD Cert.ShardPleRefIdeal.τ).loc Cert.ShardPleRefIdeal.main_arg1) = m ((c.tc : Thread Cert.ShardPleRefIdeal.nD Cert.ShardPleRefIdeal.τ).loc Cert.ShardPleRefIdeal.main_arg1)
      ∧ r.2.mem ((c.tc : Thread Cert.ShardPleRefIdeal.nD Cert.ShardPleRefIdeal.τ).loc Cert.ShardPleRefIdeal.main_arg2) = m ((c.tc : Thread Cert.ShardPleRefIdeal.nD Cert.ShardPleRefIdeal.τ).loc Cert.ShardPleRefIdeal.main_arg2))
      ∧ r.2.sem = fun _ => 0)

def quiescent_ShardPleRefIdeal_pre_placed_ple [hShardPleRefIdeal : Cert.ShardPleRefIdeal.Facts] [hPre_placed_ple : Cert.Pre_placed_ple.Facts] : Prop :=
  ∀ (m : (ℓ : Loc Cert.ShardPleRefIdeal.nD Cert.ShardPleRefIdeal.τ Cert.ShardPleRefIdeal.sig) → Buf (Elt Ideal) ℓ) (g : Dev Cert.ShardPleRefIdeal.nD → PrngReg), Pre_ShardPleRefIdeal_placed_ple m →
    θ_run (Cert.ShardPleRefIdeal.defs (F := Ideal)) (onTc (τ := Cert.ShardPleRefIdeal.τ) (Cert.ShardPleRefIdeal.main (F := Ideal))) ⟨m, fun _ => 0, g⟩ (fun r => (∀ c : Dev Cert.ShardPleRefIdeal.nD,
      r.2.mem ((c.tc : Thread Cert.ShardPleRefIdeal.nD Cert.ShardPleRefIdeal.τ).loc Cert.ShardPleRefIdeal.main_arg0) = m ((c.tc : Thread Cert.ShardPleRefIdeal.nD Cert.ShardPleRefIdeal.τ).loc Cert.ShardPleRefIdeal.main_arg0)
      ∧ r.2.mem ((c.tc : Thread Cert.ShardPleRefIdeal.nD Cert.ShardPleRefIdeal.τ).loc Cert.ShardPleRefIdeal.main_arg1) = m ((c.tc : Thread Cert.ShardPleRefIdeal.nD Cert.ShardPleRefIdeal.τ).loc Cert.ShardPleRefIdeal.main_arg1)
      ∧ r.2.mem ((c.tc : Thread Cert.ShardPleRefIdeal.nD Cert.ShardPleRefIdeal.τ).loc Cert.ShardPleRefIdeal.main_arg2) = m ((c.tc : Thread Cert.ShardPleRefIdeal.nD Cert.ShardPleRefIdeal.τ).loc Cert.ShardPleRefIdeal.main_arg2))
      ∧ r.2.sem = fun _ => 0)

def quiescent_PleLoss [hPleLoss : Cert.PleLoss.Facts] : Prop :=
  ∀ (m : (ℓ : Loc Cert.PleLoss.nD Cert.PleLoss.τ Cert.PleLoss.sig) → Buf (Elt Bits) ℓ) (g : Dev Cert.PleLoss.nD → PrngReg), Pre_PleLoss m →
    θ_run (Cert.PleLoss.defs (F := Bits)) (onTc (τ := Cert.PleLoss.τ) (Cert.PleLoss.main (F := Bits))) ⟨m, fun _ => 0, g⟩ (fun r => (∀ c : Dev Cert.PleLoss.nD,
      r.2.mem ((c.tc : Thread Cert.PleLoss.nD Cert.PleLoss.τ).loc Cert.PleLoss.main_arg0) = m ((c.tc : Thread Cert.PleLoss.nD Cert.PleLoss.τ).loc Cert.PleLoss.main_arg0)
      ∧ r.2.mem ((c.tc : Thread Cert.PleLoss.nD Cert.PleLoss.τ).loc Cert.PleLoss.main_arg1) = m ((c.tc : Thread Cert.PleLoss.nD Cert.PleLoss.τ).loc Cert.PleLoss.main_arg1)
      ∧ r.2.mem ((c.tc : Thread Cert.PleLoss.nD Cert.PleLoss.τ).loc Cert.PleLoss.main_arg2) = m ((c.tc : Thread Cert.PleLoss.nD Cert.PleLoss.τ).loc Cert.PleLoss.main_arg2)
      ∧ r.2.mem ((c.tc : Thread Cert.PleLoss.nD Cert.PleLoss.τ).loc Cert.PleLoss.main_arg3) = m ((c.tc : Thread Cert.PleLoss.nD Cert.PleLoss.τ).loc Cert.PleLoss.main_arg3)
      ∧ r.2.mem ((c.tc : Thread Cert.PleLoss.nD Cert.PleLoss.τ).loc Cert.PleLoss.main_arg4) = m ((c.tc : Thread Cert.PleLoss.nD Cert.PleLoss.τ).loc Cert.PleLoss.main_arg4)
      ∧ r.2.mem ((c.tc : Thread Cert.PleLoss.nD Cert.PleLoss.τ).loc Cert.PleLoss.main_arg5) = m ((c.tc : Thread Cert.PleLoss.nD Cert.PleLoss.τ).loc Cert.PleLoss.main_arg5))
      ∧ r.2.sem = fun _ => 0)

def quiescent_PleLossIdeal [hPleLossIdeal : Cert.PleLossIdeal.Facts] : Prop :=
  ∀ (m : (ℓ : Loc Cert.PleLossIdeal.nD Cert.PleLossIdeal.τ Cert.PleLossIdeal.sig) → Buf (Elt Ideal) ℓ) (g : Dev Cert.PleLossIdeal.nD → PrngReg), Pre_PleLossIdeal m →
    θ_run (Cert.PleLossIdeal.defs (F := Ideal)) (onTc (τ := Cert.PleLossIdeal.τ) (Cert.PleLossIdeal.main (F := Ideal))) ⟨m, fun _ => 0, g⟩ (fun r => (∀ c : Dev Cert.PleLossIdeal.nD,
      r.2.mem ((c.tc : Thread Cert.PleLossIdeal.nD Cert.PleLossIdeal.τ).loc Cert.PleLossIdeal.main_arg0) = m ((c.tc : Thread Cert.PleLossIdeal.nD Cert.PleLossIdeal.τ).loc Cert.PleLossIdeal.main_arg0)
      ∧ r.2.mem ((c.tc : Thread Cert.PleLossIdeal.nD Cert.PleLossIdeal.τ).loc Cert.PleLossIdeal.main_arg1) = m ((c.tc : Thread Cert.PleLossIdeal.nD Cert.PleLossIdeal.τ).loc Cert.PleLossIdeal.main_arg1)
      ∧ r.2.mem ((c.tc : Thread Cert.PleLossIdeal.nD Cert.PleLossIdeal.τ).loc Cert.PleLossIdeal.main_arg2) = m ((c.tc : Thread Cert.PleLossIdeal.nD Cert.PleLossIdeal.τ).loc Cert.PleLossIdeal.main_arg2)
      ∧ r.2.mem ((c.tc : Thread Cert.PleLossIdeal.nD Cert.PleLossIdeal.τ).loc Cert.PleLossIdeal.main_arg3) = m ((c.tc : Thread Cert.PleLossIdeal.nD Cert.PleLossIdeal.τ).loc Cert.PleLossIdeal.main_arg3)
      ∧ r.2.mem ((c.tc : Thread Cert.PleLossIdeal.nD Cert.PleLossIdeal.τ).loc Cert.PleLossIdeal.main_arg4) = m ((c.tc : Thread Cert.PleLossIdeal.nD Cert.PleLossIdeal.τ).loc Cert.PleLossIdeal.main_arg4)
      ∧ r.2.mem ((c.tc : Thread Cert.PleLossIdeal.nD Cert.PleLossIdeal.τ).loc Cert.PleLossIdeal.main_arg5) = m ((c.tc : Thread Cert.PleLossIdeal.nD Cert.PleLossIdeal.τ).loc Cert.PleLossIdeal.main_arg5))
      ∧ r.2.sem = fun _ => 0)

def quiescent_PleLossRefIdeal [hPleLossRefIdeal : Cert.PleLossRefIdeal.Facts] : Prop :=
  ∀ (m : (ℓ : Loc Cert.PleLossRefIdeal.nD Cert.PleLossRefIdeal.τ Cert.PleLossRefIdeal.sig) → Buf (Elt Ideal) ℓ) (g : Dev Cert.PleLossRefIdeal.nD → PrngReg), Pre_PleLossRefIdeal m →
    θ_run (Cert.PleLossRefIdeal.defs (F := Ideal)) (onTc (τ := Cert.PleLossRefIdeal.τ) (Cert.PleLossRefIdeal.main (F := Ideal))) ⟨m, fun _ => 0, g⟩ (fun r => (∀ c : Dev Cert.PleLossRefIdeal.nD,
      r.2.mem ((c.tc : Thread Cert.PleLossRefIdeal.nD Cert.PleLossRefIdeal.τ).loc Cert.PleLossRefIdeal.main_arg0) = m ((c.tc : Thread Cert.PleLossRefIdeal.nD Cert.PleLossRefIdeal.τ).loc Cert.PleLossRefIdeal.main_arg0)
      ∧ r.2.mem ((c.tc : Thread Cert.PleLossRefIdeal.nD Cert.PleLossRefIdeal.τ).loc Cert.PleLossRefIdeal.main_arg1) = m ((c.tc : Thread Cert.PleLossRefIdeal.nD Cert.PleLossRefIdeal.τ).loc Cert.PleLossRefIdeal.main_arg1)
      ∧ r.2.mem ((c.tc : Thread Cert.PleLossRefIdeal.nD Cert.PleLossRefIdeal.τ).loc Cert.PleLossRefIdeal.main_arg2) = m ((c.tc : Thread Cert.PleLossRefIdeal.nD Cert.PleLossRefIdeal.τ).loc Cert.PleLossRefIdeal.main_arg2)
      ∧ r.2.mem ((c.tc : Thread Cert.PleLossRefIdeal.nD Cert.PleLossRefIdeal.τ).loc Cert.PleLossRefIdeal.main_arg3) = m ((c.tc : Thread Cert.PleLossRefIdeal.nD Cert.PleLossRefIdeal.τ).loc Cert.PleLossRefIdeal.main_arg3)
      ∧ r.2.mem ((c.tc : Thread Cert.PleLossRefIdeal.nD Cert.PleLossRefIdeal.τ).loc Cert.PleLossRefIdeal.main_arg4) = m ((c.tc : Thread Cert.PleLossRefIdeal.nD Cert.PleLossRefIdeal.τ).loc Cert.PleLossRefIdeal.main_arg4)
      ∧ r.2.mem ((c.tc : Thread Cert.PleLossRefIdeal.nD Cert.PleLossRefIdeal.τ).loc Cert.PleLossRefIdeal.main_arg5) = m ((c.tc : Thread Cert.PleLossRefIdeal.nD Cert.PleLossRefIdeal.τ).loc Cert.PleLossRefIdeal.main_arg5))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1))
      ∧ r.2.sem = fun _ => 0)

def quiescent_GradFfn [hGradFfn : Cert.GradFfn.Facts] : Prop :=
  ∀ (m : (ℓ : Loc Cert.GradFfn.nD Cert.GradFfn.τ Cert.GradFfn.sig) → Buf (Elt Bits) ℓ) (g : Dev Cert.GradFfn.nD → PrngReg), Pre_GradFfn m →
    θ_run (Cert.GradFfn.defs (F := Bits)) (onTc (τ := Cert.GradFfn.τ) (Cert.GradFfn.main (F := Bits))) ⟨m, fun _ => 0, g⟩ (fun r => (∀ c : Dev Cert.GradFfn.nD,
      r.2.mem ((c.tc : Thread Cert.GradFfn.nD Cert.GradFfn.τ).loc Cert.GradFfn.main_arg0) = m ((c.tc : Thread Cert.GradFfn.nD Cert.GradFfn.τ).loc Cert.GradFfn.main_arg0)
      ∧ r.2.mem ((c.tc : Thread Cert.GradFfn.nD Cert.GradFfn.τ).loc Cert.GradFfn.main_arg1) = m ((c.tc : Thread Cert.GradFfn.nD Cert.GradFfn.τ).loc Cert.GradFfn.main_arg1))
      ∧ r.2.sem = fun _ => 0)

def quiescent_GradFfnIdeal [hGradFfnIdeal : Cert.GradFfnIdeal.Facts] : Prop :=
  ∀ (m : (ℓ : Loc Cert.GradFfnIdeal.nD Cert.GradFfnIdeal.τ Cert.GradFfnIdeal.sig) → Buf (Elt Ideal) ℓ) (g : Dev Cert.GradFfnIdeal.nD → PrngReg), Pre_GradFfnIdeal m →
    θ_run (Cert.GradFfnIdeal.defs (F := Ideal)) (onTc (τ := Cert.GradFfnIdeal.τ) (Cert.GradFfnIdeal.main (F := Ideal))) ⟨m, fun _ => 0, g⟩ (fun r => (∀ c : Dev Cert.GradFfnIdeal.nD,
      r.2.mem ((c.tc : Thread Cert.GradFfnIdeal.nD Cert.GradFfnIdeal.τ).loc Cert.GradFfnIdeal.main_arg0) = m ((c.tc : Thread Cert.GradFfnIdeal.nD Cert.GradFfnIdeal.τ).loc Cert.GradFfnIdeal.main_arg0)
      ∧ r.2.mem ((c.tc : Thread Cert.GradFfnIdeal.nD Cert.GradFfnIdeal.τ).loc Cert.GradFfnIdeal.main_arg1) = m ((c.tc : Thread Cert.GradFfnIdeal.nD Cert.GradFfnIdeal.τ).loc Cert.GradFfnIdeal.main_arg1))
      ∧ r.2.sem = fun _ => 0)

def quiescent_GradFfnRefIdeal [hGradFfnRefIdeal : Cert.GradFfnRefIdeal.Facts] : Prop :=
  ∀ (m : (ℓ : Loc Cert.GradFfnRefIdeal.nD Cert.GradFfnRefIdeal.τ Cert.GradFfnRefIdeal.sig) → Buf (Elt Ideal) ℓ) (g : Dev Cert.GradFfnRefIdeal.nD → PrngReg), Pre_GradFfnRefIdeal m →
    θ_run (Cert.GradFfnRefIdeal.defs (F := Ideal)) (onTc (τ := Cert.GradFfnRefIdeal.τ) (Cert.GradFfnRefIdeal.main (F := Ideal))) ⟨m, fun _ => 0, g⟩ (fun r => (∀ c : Dev Cert.GradFfnRefIdeal.nD,
      r.2.mem ((c.tc : Thread Cert.GradFfnRefIdeal.nD Cert.GradFfnRefIdeal.τ).loc Cert.GradFfnRefIdeal.main_arg0) = m ((c.tc : Thread Cert.GradFfnRefIdeal.nD Cert.GradFfnRefIdeal.τ).loc Cert.GradFfnRefIdeal.main_arg0)
      ∧ r.2.mem ((c.tc : Thread Cert.GradFfnRefIdeal.nD Cert.GradFfnRefIdeal.τ).loc Cert.GradFfnRefIdeal.main_arg1) = m ((c.tc : Thread Cert.GradFfnRefIdeal.nD Cert.GradFfnRefIdeal.τ).loc Cert.GradFfnRefIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutRefIdeal [hGradOutRefIdeal : Cert.GradOutRefIdeal.Facts] : Prop :=
  ∀ (m : (ℓ : Loc Cert.GradOutRefIdeal.nD Cert.GradOutRefIdeal.τ Cert.GradOutRefIdeal.sig) → Buf (Elt Ideal) ℓ) (g : Dev Cert.GradOutRefIdeal.nD → PrngReg), Pre_GradOutRefIdeal m →
    θ_run (Cert.GradOutRefIdeal.defs (F := Ideal)) (onTc (τ := Cert.GradOutRefIdeal.τ) (Cert.GradOutRefIdeal.main (F := Ideal))) ⟨m, fun _ => 0, g⟩ (fun r => (∀ c : Dev Cert.GradOutRefIdeal.nD,
      r.2.mem ((c.tc : Thread Cert.GradOutRefIdeal.nD Cert.GradOutRefIdeal.τ).loc Cert.GradOutRefIdeal.main_arg0) = m ((c.tc : Thread Cert.GradOutRefIdeal.nD Cert.GradOutRefIdeal.τ).loc Cert.GradOutRefIdeal.main_arg0)
      ∧ r.2.mem ((c.tc : Thread Cert.GradOutRefIdeal.nD Cert.GradOutRefIdeal.τ).loc Cert.GradOutRefIdeal.main_arg1) = m ((c.tc : Thread Cert.GradOutRefIdeal.nD Cert.GradOutRefIdeal.τ).loc Cert.GradOutRefIdeal.main_arg1))
      ∧ r.2.sem = fun _ => 0)

def quiescent_GradGate [hGradGate : Cert.GradGate.Facts] : Prop :=
  ∀ (m : (ℓ : Loc Cert.GradGate.nD Cert.GradGate.τ Cert.GradGate.sig) → Buf (Elt Bits) ℓ) (g : Dev Cert.GradGate.nD → PrngReg), Pre_GradGate m →
    θ_run (Cert.GradGate.defs (F := Bits)) (onTc (τ := Cert.GradGate.τ) (Cert.GradGate.main (F := Bits))) ⟨m, fun _ => 0, g⟩ (fun r => (∀ c : Dev Cert.GradGate.nD,
      r.2.mem ((c.tc : Thread Cert.GradGate.nD Cert.GradGate.τ).loc Cert.GradGate.main_arg0) = m ((c.tc : Thread Cert.GradGate.nD Cert.GradGate.τ).loc Cert.GradGate.main_arg0)
      ∧ r.2.mem ((c.tc : Thread Cert.GradGate.nD Cert.GradGate.τ).loc Cert.GradGate.main_arg1) = m ((c.tc : Thread Cert.GradGate.nD Cert.GradGate.τ).loc Cert.GradGate.main_arg1))
      ∧ r.2.sem = fun _ => 0)

def quiescent_GradGateIdeal [hGradGateIdeal : Cert.GradGateIdeal.Facts] : Prop :=
  ∀ (m : (ℓ : Loc Cert.GradGateIdeal.nD Cert.GradGateIdeal.τ Cert.GradGateIdeal.sig) → Buf (Elt Ideal) ℓ) (g : Dev Cert.GradGateIdeal.nD → PrngReg), Pre_GradGateIdeal m →
    θ_run (Cert.GradGateIdeal.defs (F := Ideal)) (onTc (τ := Cert.GradGateIdeal.τ) (Cert.GradGateIdeal.main (F := Ideal))) ⟨m, fun _ => 0, g⟩ (fun r => (∀ c : Dev Cert.GradGateIdeal.nD,
      r.2.mem ((c.tc : Thread Cert.GradGateIdeal.nD Cert.GradGateIdeal.τ).loc Cert.GradGateIdeal.main_arg0) = m ((c.tc : Thread Cert.GradGateIdeal.nD Cert.GradGateIdeal.τ).loc Cert.GradGateIdeal.main_arg0)
      ∧ r.2.mem ((c.tc : Thread Cert.GradGateIdeal.nD Cert.GradGateIdeal.τ).loc Cert.GradGateIdeal.main_arg1) = m ((c.tc : Thread Cert.GradGateIdeal.nD Cert.GradGateIdeal.τ).loc Cert.GradGateIdeal.main_arg1))
      ∧ r.2.sem = fun _ => 0)

def quiescent_GradGateRefIdeal [hGradGateRefIdeal : Cert.GradGateRefIdeal.Facts] : Prop :=
  ∀ (m : (ℓ : Loc Cert.GradGateRefIdeal.nD Cert.GradGateRefIdeal.τ Cert.GradGateRefIdeal.sig) → Buf (Elt Ideal) ℓ) (g : Dev Cert.GradGateRefIdeal.nD → PrngReg), Pre_GradGateRefIdeal m →
    θ_run (Cert.GradGateRefIdeal.defs (F := Ideal)) (onTc (τ := Cert.GradGateRefIdeal.τ) (Cert.GradGateRefIdeal.main (F := Ideal))) ⟨m, fun _ => 0, g⟩ (fun r => (∀ c : Dev Cert.GradGateRefIdeal.nD,
      r.2.mem ((c.tc : Thread Cert.GradGateRefIdeal.nD Cert.GradGateRefIdeal.τ).loc Cert.GradGateRefIdeal.main_arg0) = m ((c.tc : Thread Cert.GradGateRefIdeal.nD Cert.GradGateRefIdeal.τ).loc Cert.GradGateRefIdeal.main_arg0)
      ∧ r.2.mem ((c.tc : Thread Cert.GradGateRefIdeal.nD Cert.GradGateRefIdeal.τ).loc Cert.GradGateRefIdeal.main_arg1) = m ((c.tc : Thread Cert.GradGateRefIdeal.nD Cert.GradGateRefIdeal.τ).loc Cert.GradGateRefIdeal.main_arg1))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInRefIdeal [hGradInRefIdeal : Cert.GradInRefIdeal.Facts] : Prop :=
  ∀ (m : (ℓ : Loc Cert.GradInRefIdeal.nD Cert.GradInRefIdeal.τ Cert.GradInRefIdeal.sig) → Buf (Elt Ideal) ℓ) (g : Dev Cert.GradInRefIdeal.nD → PrngReg), Pre_GradInRefIdeal m →
    θ_run (Cert.GradInRefIdeal.defs (F := Ideal)) (onTc (τ := Cert.GradInRefIdeal.τ) (Cert.GradInRefIdeal.main (F := Ideal))) ⟨m, fun _ => 0, g⟩ (fun r => (∀ c : Dev Cert.GradInRefIdeal.nD,
      r.2.mem ((c.tc : Thread Cert.GradInRefIdeal.nD Cert.GradInRefIdeal.τ).loc Cert.GradInRefIdeal.main_arg0) = m ((c.tc : Thread Cert.GradInRefIdeal.nD Cert.GradInRefIdeal.τ).loc Cert.GradInRefIdeal.main_arg0)
      ∧ r.2.mem ((c.tc : Thread Cert.GradInRefIdeal.nD Cert.GradInRefIdeal.τ).loc Cert.GradInRefIdeal.main_arg1) = m ((c.tc : Thread Cert.GradInRefIdeal.nD Cert.GradInRefIdeal.τ).loc Cert.GradInRefIdeal.main_arg1))
      ∧ r.2.sem = fun _ => 0)

def quiescent_GradProj [hGradProj : Cert.GradProj.Facts] : Prop :=
  ∀ (m : (ℓ : Loc Cert.GradProj.nD Cert.GradProj.τ Cert.GradProj.sig) → Buf (Elt Bits) ℓ) (g : Dev Cert.GradProj.nD → PrngReg), Pre_GradProj m →
    θ_run (Cert.GradProj.defs (F := Bits)) (onTc (τ := Cert.GradProj.τ) (Cert.GradProj.main (F := Bits))) ⟨m, fun _ => 0, g⟩ (fun r => (∀ c : Dev Cert.GradProj.nD,
      r.2.mem ((c.tc : Thread Cert.GradProj.nD Cert.GradProj.τ).loc Cert.GradProj.main_arg0) = m ((c.tc : Thread Cert.GradProj.nD Cert.GradProj.τ).loc Cert.GradProj.main_arg0)
      ∧ r.2.mem ((c.tc : Thread Cert.GradProj.nD Cert.GradProj.τ).loc Cert.GradProj.main_arg1) = m ((c.tc : Thread Cert.GradProj.nD Cert.GradProj.τ).loc Cert.GradProj.main_arg1))
      ∧ r.2.sem = fun _ => 0)

def quiescent_GradProjIdeal [hGradProjIdeal : Cert.GradProjIdeal.Facts] : Prop :=
  ∀ (m : (ℓ : Loc Cert.GradProjIdeal.nD Cert.GradProjIdeal.τ Cert.GradProjIdeal.sig) → Buf (Elt Ideal) ℓ) (g : Dev Cert.GradProjIdeal.nD → PrngReg), Pre_GradProjIdeal m →
    θ_run (Cert.GradProjIdeal.defs (F := Ideal)) (onTc (τ := Cert.GradProjIdeal.τ) (Cert.GradProjIdeal.main (F := Ideal))) ⟨m, fun _ => 0, g⟩ (fun r => (∀ c : Dev Cert.GradProjIdeal.nD,
      r.2.mem ((c.tc : Thread Cert.GradProjIdeal.nD Cert.GradProjIdeal.τ).loc Cert.GradProjIdeal.main_arg0) = m ((c.tc : Thread Cert.GradProjIdeal.nD Cert.GradProjIdeal.τ).loc Cert.GradProjIdeal.main_arg0)
      ∧ r.2.mem ((c.tc : Thread Cert.GradProjIdeal.nD Cert.GradProjIdeal.τ).loc Cert.GradProjIdeal.main_arg1) = m ((c.tc : Thread Cert.GradProjIdeal.nD Cert.GradProjIdeal.τ).loc Cert.GradProjIdeal.main_arg1))
      ∧ r.2.sem = fun _ => 0)

def quiescent_GradProjRefIdeal [hGradProjRefIdeal : Cert.GradProjRefIdeal.Facts] : Prop :=
  ∀ (m : (ℓ : Loc Cert.GradProjRefIdeal.nD Cert.GradProjRefIdeal.τ Cert.GradProjRefIdeal.sig) → Buf (Elt Ideal) ℓ) (g : Dev Cert.GradProjRefIdeal.nD → PrngReg), Pre_GradProjRefIdeal m →
    θ_run (Cert.GradProjRefIdeal.defs (F := Ideal)) (onTc (τ := Cert.GradProjRefIdeal.τ) (Cert.GradProjRefIdeal.main (F := Ideal))) ⟨m, fun _ => 0, g⟩ (fun r => (∀ c : Dev Cert.GradProjRefIdeal.nD,
      r.2.mem ((c.tc : Thread Cert.GradProjRefIdeal.nD Cert.GradProjRefIdeal.τ).loc Cert.GradProjRefIdeal.main_arg0) = m ((c.tc : Thread Cert.GradProjRefIdeal.nD Cert.GradProjRefIdeal.τ).loc Cert.GradProjRefIdeal.main_arg0)
      ∧ r.2.mem ((c.tc : Thread Cert.GradProjRefIdeal.nD Cert.GradProjRefIdeal.τ).loc Cert.GradProjRefIdeal.main_arg1) = m ((c.tc : Thread Cert.GradProjRefIdeal.nD Cert.GradProjRefIdeal.τ).loc Cert.GradProjRefIdeal.main_arg1))
      ∧ r.2.sem = fun _ => 0)

def preserves_Swap_SwapIdeal : Prop :=
  True

def algebraic_SwapIdeal_SwapRefIdeal [hSwapIdeal : Cert.SwapIdeal.Facts] [hSwapRefIdeal : Cert.SwapRefIdeal.Facts] : Prop :=
  ∀ (m : (ℓ : Loc Cert.SwapIdeal.nD Cert.SwapIdeal.τ Cert.SwapIdeal.sig) → Buf (Elt Ideal) ℓ) (g : Dev Cert.SwapIdeal.nD → PrngReg)
    (m' : (ℓ : Loc Cert.SwapRefIdeal.nD Cert.SwapRefIdeal.τ Cert.SwapRefIdeal.sig) → Buf (Elt Ideal) ℓ) (g' : Dev Cert.SwapRefIdeal.nD → PrngReg), Pre_SwapIdeal m →
    (∀ c : Dev Cert.SwapIdeal.nD,
      m ((c.tc : Thread Cert.SwapIdeal.nD Cert.SwapIdeal.τ).loc Cert.SwapIdeal.main_arg0) = Layout.block ⟨3, ![4, 704, 1024]⟩ ⟨3, ![32, 704, 1024]⟩ 0 8 c (m' (((0 : Dev Cert.SwapRefIdeal.nD).tc : Thread Cert.SwapRefIdeal.nD Cert.SwapRefIdeal.τ).loc Cert.SwapRefIdeal.main_arg0))
      ∧ m ((c.tc : Thread Cert.SwapIdeal.nD Cert.SwapIdeal.τ).loc Cert.SwapIdeal.main_arg1) = Layout.block ⟨3, ![4, 704, 1024]⟩ ⟨3, ![32, 704, 1024]⟩ 0 8 c (m' (((0 : Dev Cert.SwapRefIdeal.nD).tc : Thread Cert.SwapRefIdeal.nD Cert.SwapRefIdeal.τ).loc Cert.SwapRefIdeal.main_arg1))
      ∧ m ((c.tc : Thread Cert.SwapIdeal.nD Cert.SwapIdeal.τ).loc Cert.SwapIdeal.main_arg2) = Layout.block ⟨3, ![4, 704, 1024]⟩ ⟨3, ![32, 704, 1024]⟩ 0 8 c (m' (((0 : Dev Cert.SwapRefIdeal.nD).tc : Thread Cert.SwapRefIdeal.nD Cert.SwapRefIdeal.τ).loc Cert.SwapRefIdeal.main_arg2))) →
    ∃ (v0 : Buf (Elt Ideal) (((0 : Dev Cert.SwapRefIdeal.nD).tc : Thread Cert.SwapRefIdeal.nD Cert.SwapRefIdeal.τ).loc Cert.SwapRefIdeal.main_v8)) (v1 : Buf (Elt Ideal) (((0 : Dev Cert.SwapRefIdeal.nD).tc : Thread Cert.SwapRefIdeal.nD Cert.SwapRefIdeal.τ).loc Cert.SwapRefIdeal.main_v17)) (v2 : Buf (Elt Ideal) (((0 : Dev Cert.SwapRefIdeal.nD).tc : Thread Cert.SwapRefIdeal.nD Cert.SwapRefIdeal.τ).loc Cert.SwapRefIdeal.main_v26)),
      θ_run (Cert.SwapIdeal.defs (F := Ideal)) (onTc (τ := Cert.SwapIdeal.τ) (Cert.SwapIdeal.main (F := Ideal))) ⟨m, fun _ => 0, g⟩ (fun r => ∀ c : Dev Cert.SwapIdeal.nD,
          r.2.mem ((c.tc : Thread Cert.SwapIdeal.nD Cert.SwapIdeal.τ).loc Cert.SwapIdeal.main_v1_0) = Layout.block ⟨3, ![4, 352, 1024]⟩ ⟨3, ![32, 352, 1024]⟩ 0 8 c v0
          ∧ r.2.mem ((c.tc : Thread Cert.SwapIdeal.nD Cert.SwapIdeal.τ).loc Cert.SwapIdeal.main_v1_1) = Layout.block ⟨3, ![4, 352, 1024]⟩ ⟨3, ![32, 352, 1024]⟩ 0 8 c v1
          ∧ r.2.mem ((c.tc : Thread Cert.SwapIdeal.nD Cert.SwapIdeal.τ).loc Cert.SwapIdeal.main_v1_2) = Layout.block ⟨3, ![4, 352, 1024]⟩ ⟨3, ![32, 352, 1024]⟩ 0 8 c v2
          ∧ r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0)
          ∧ r.2.mem ((c.tc : Thread Cert.SwapIdeal.nD Cert.SwapIdeal.τ).loc Cert.SwapIdeal.main_arg1) = m ((c.tc : Thread Cert.SwapIdeal.nD Cert.SwapIdeal.τ).loc Cert.SwapIdeal.main_arg1)
          ∧ r.2.mem ((c.tc : Thread Cert.SwapIdeal.nD Cert.SwapIdeal.τ).loc Cert.SwapIdeal.main_arg2) = m ((c.tc : Thread Cert.SwapIdeal.nD Cert.SwapIdeal.τ).loc Cert.SwapIdeal.main_arg2))
      ∧ θ_run (Cert.SwapRefIdeal.defs (F := Ideal)) (onTc (τ := Cert.SwapRefIdeal.τ) (Cert.SwapRefIdeal.main (F := Ideal))) ⟨m', fun _ => 0, g'⟩ (fun r =>
          r.2.mem (((0 : Dev Cert.SwapRefIdeal.nD).tc : Thread Cert.SwapRefIdeal.nD Cert.SwapRefIdeal.τ).loc Cert.SwapRefIdeal.main_v8) = v0
          ∧ r.2.mem (((0 : Dev Cert.SwapRefIdeal.nD).tc : Thread Cert.SwapRefIdeal.nD Cert.SwapRefIdeal.τ).loc Cert.SwapRefIdeal.main_v17) = v1
          ∧ r.2.mem (((0 : Dev Cert.SwapRefIdeal.nD).tc : Thread Cert.SwapRefIdeal.nD Cert.SwapRefIdeal.τ).loc Cert.SwapRefIdeal.main_v26) = v2
          ∧ r.2.mem (((0 : Dev Cert.SwapRefIdeal.nD).tc : Thread Cert.SwapRefIdeal.nD Cert.SwapRefIdeal.τ).loc Cert.SwapRefIdeal.main_arg0) = m' (((0 : Dev Cert.SwapRefIdeal.nD).tc : Thread Cert.SwapRefIdeal.nD Cert.SwapRefIdeal.τ).loc Cert.SwapRefIdeal.main_arg0)
          ∧ r.2.mem (((0 : Dev Cert.SwapRefIdeal.nD).tc : Thread Cert.SwapRefIdeal.nD Cert.SwapRefIdeal.τ).loc Cert.SwapRefIdeal.main_arg1) = m' (((0 : Dev Cert.SwapRefIdeal.nD).tc : Thread Cert.SwapRefIdeal.nD Cert.SwapRefIdeal.τ).loc Cert.SwapRefIdeal.main_arg1)
          ∧ r.2.mem (((0 : Dev Cert.SwapRefIdeal.nD).tc : Thread Cert.SwapRefIdeal.nD Cert.SwapRefIdeal.τ).loc Cert.SwapRefIdeal.main_arg2) = m' (((0 : Dev Cert.SwapRefIdeal.nD).tc : Thread Cert.SwapRefIdeal.nD Cert.SwapRefIdeal.τ).loc Cert.SwapRefIdeal.main_arg2))

def bitexact_Swap_SwapRef [hSwap : Cert.Swap.Facts] [hSwapRef : Cert.SwapRef.Facts] : Prop :=
  ∀ (m : (ℓ : Loc Cert.Swap.nD Cert.Swap.τ Cert.Swap.sig) → Buf (Elt Bits) ℓ) (g : Dev Cert.Swap.nD → PrngReg)
    (m' : (ℓ : Loc Cert.SwapRef.nD Cert.SwapRef.τ Cert.SwapRef.sig) → Buf (Elt Bits) ℓ) (g' : Dev Cert.SwapRef.nD → PrngReg), Pre_Swap m →
    (∀ c : Dev Cert.Swap.nD,
      m ((c.tc : Thread Cert.Swap.nD Cert.Swap.τ).loc Cert.Swap.main_arg0) = Layout.block ⟨3, ![4, 704, 1024]⟩ ⟨3, ![32, 704, 1024]⟩ 0 8 c (m' (((0 : Dev Cert.SwapRef.nD).tc : Thread Cert.SwapRef.nD Cert.SwapRef.τ).loc Cert.SwapRef.main_arg0))
      ∧ m ((c.tc : Thread Cert.Swap.nD Cert.Swap.τ).loc Cert.Swap.main_arg1) = Layout.block ⟨3, ![4, 704, 1024]⟩ ⟨3, ![32, 704, 1024]⟩ 0 8 c (m' (((0 : Dev Cert.SwapRef.nD).tc : Thread Cert.SwapRef.nD Cert.SwapRef.τ).loc Cert.SwapRef.main_arg1))
      ∧ m ((c.tc : Thread Cert.Swap.nD Cert.Swap.τ).loc Cert.Swap.main_arg2) = Layout.block ⟨3, ![4, 704, 1024]⟩ ⟨3, ![32, 704, 1024]⟩ 0 8 c (m' (((0 : Dev Cert.SwapRef.nD).tc : Thread Cert.SwapRef.nD Cert.SwapRef.τ).loc Cert.SwapRef.main_arg2))) →
    ∃ (v0 : Buf (Elt Bits) (((0 : Dev Cert.SwapRef.nD).tc : Thread Cert.SwapRef.nD Cert.SwapRef.τ).loc Cert.SwapRef.main_v8)) (v1 : Buf (Elt Bits) (((0 : Dev Cert.SwapRef.nD).tc : Thread Cert.SwapRef.nD Cert.SwapRef.τ).loc Cert.SwapRef.main_v17)) (v2 : Buf (Elt Bits) (((0 : Dev Cert.SwapRef.nD).tc : Thread Cert.SwapRef.nD Cert.SwapRef.τ).loc Cert.SwapRef.main_v26)),
      θ_run (Cert.Swap.defs (F := Bits)) (onTc (τ := Cert.Swap.τ) (Cert.Swap.main (F := Bits))) ⟨m, fun _ => 0, g⟩ (fun r => ∀ c : Dev Cert.Swap.nD,
          r.2.mem ((c.tc : Thread Cert.Swap.nD Cert.Swap.τ).loc Cert.Swap.main_v1_0) = Layout.block ⟨3, ![4, 352, 1024]⟩ ⟨3, ![32, 352, 1024]⟩ 0 8 c v0
          ∧ r.2.mem ((c.tc : Thread Cert.Swap.nD Cert.Swap.τ).loc Cert.Swap.main_v1_1) = Layout.block ⟨3, ![4, 352, 1024]⟩ ⟨3, ![32, 352, 1024]⟩ 0 8 c v1
          ∧ r.2.mem ((c.tc : Thread Cert.Swap.nD Cert.Swap.τ).loc Cert.Swap.main_v1_2) = Layout.block ⟨3, ![4, 352, 1024]⟩ ⟨3, ![32, 352, 1024]⟩ 0 8 c v2
          ∧ r.2.mem ((c.tc : Thread Cert.Swap.nD Cert.Swap.τ).loc Cert.Swap.main_arg0) = m ((c.tc : Thread Cert.Swap.nD Cert.Swap.τ).loc Cert.Swap.main_arg0)
          ∧ r.2.mem ((c.tc : Thread Cert.Swap.nD Cert.Swap.τ).loc Cert.Swap.main_arg1) = m ((c.tc : Thread Cert.Swap.nD Cert.Swap.τ).loc Cert.Swap.main_arg1)
          ∧ r.2.mem ((c.tc : Thread Cert.Swap.nD Cert.Swap.τ).loc Cert.Swap.main_arg2) = m ((c.tc : Thread Cert.Swap.nD Cert.Swap.τ).loc Cert.Swap.main_arg2))
      ∧ θ_run (Cert.SwapRef.defs (F := Bits)) (onTc (τ := Cert.SwapRef.τ) (Cert.SwapRef.main (F := Bits))) ⟨m', fun _ => 0, g'⟩ (fun r =>
          r.2.mem (((0 : Dev Cert.SwapRef.nD).tc : Thread Cert.SwapRef.nD Cert.SwapRef.τ).loc Cert.SwapRef.main_v8) = v0
          ∧ r.2.mem (((0 : Dev Cert.SwapRef.nD).tc : Thread Cert.SwapRef.nD Cert.SwapRef.τ).loc Cert.SwapRef.main_v17) = v1
          ∧ r.2.mem (((0 : Dev Cert.SwapRef.nD).tc : Thread Cert.SwapRef.nD Cert.SwapRef.τ).loc Cert.SwapRef.main_v26) = v2
          ∧ r.2.mem (((0 : Dev Cert.SwapRef.nD).tc : Thread Cert.SwapRef.nD Cert.SwapRef.τ).loc Cert.SwapRef.main_arg0) = m' (((0 : Dev Cert.SwapRef.nD).tc : Thread Cert.SwapRef.nD Cert.SwapRef.τ).loc Cert.SwapRef.main_arg0)
          ∧ r.2.mem (((0 : Dev Cert.SwapRef.nD).tc : Thread Cert.SwapRef.nD Cert.SwapRef.τ).loc Cert.SwapRef.main_arg1) = m' (((0 : Dev Cert.SwapRef.nD).tc : Thread Cert.SwapRef.nD Cert.SwapRef.τ).loc Cert.SwapRef.main_arg1)
          ∧ r.2.mem (((0 : Dev Cert.SwapRef.nD).tc : Thread Cert.SwapRef.nD Cert.SwapRef.τ).loc Cert.SwapRef.main_arg2) = m' (((0 : Dev Cert.SwapRef.nD).tc : Thread Cert.SwapRef.nD Cert.SwapRef.τ).loc Cert.SwapRef.main_arg2))

def preserves_ProjSwap_ProjSwapIdeal : Prop :=
  True

def algebraic_ProjSwapIdeal_ProjSwapRefIdeal [hProjSwapIdeal : Cert.ProjSwapIdeal.Facts] [hProjSwapRefIdeal : Cert.ProjSwapRefIdeal.Facts] : Prop :=
  ∀ (m : (ℓ : Loc Cert.ProjSwapIdeal.nD Cert.ProjSwapIdeal.τ Cert.ProjSwapIdeal.sig) → Buf (Elt Ideal) ℓ) (g : Dev Cert.ProjSwapIdeal.nD → PrngReg)
    (m' : (ℓ : Loc Cert.ProjSwapRefIdeal.nD Cert.ProjSwapRefIdeal.τ Cert.ProjSwapRefIdeal.sig) → Buf (Elt Ideal) ℓ) (g' : Dev Cert.ProjSwapRefIdeal.nD → PrngReg), Pre_ProjSwapIdeal m →
    (∀ c : Dev Cert.ProjSwapIdeal.nD,
      m ((c.tc : Thread Cert.ProjSwapIdeal.nD Cert.ProjSwapIdeal.τ).loc Cert.ProjSwapIdeal.main_arg0) = Layout.block ⟨2, ![8192, 3072]⟩ ⟨2, ![65536, 3072]⟩ 0 8 c (m' (((0 : Dev Cert.ProjSwapRefIdeal.nD).tc : Thread Cert.ProjSwapRefIdeal.nD Cert.ProjSwapRefIdeal.τ).loc Cert.ProjSwapRefIdeal.main_arg0))
      ∧ m ((c.tc : Thread Cert.ProjSwapIdeal.nD Cert.ProjSwapIdeal.τ).loc Cert.ProjSwapIdeal.main_arg1) = m' (((0 : Dev Cert.ProjSwapRefIdeal.nD).tc : Thread Cert.ProjSwapRefIdeal.nD Cert.ProjSwapRefIdeal.τ).loc Cert.ProjSwapRefIdeal.main_arg1)
      ∧ m ((c.tc : Thread Cert.ProjSwapIdeal.nD Cert.ProjSwapIdeal.τ).loc Cert.ProjSwapIdeal.main_arg2) = Layout.block ⟨2, ![8192, 1024]⟩ ⟨2, ![65536, 1024]⟩ 0 8 c (m' (((0 : Dev Cert.ProjSwapRefIdeal.nD).tc : Thread Cert.ProjSwapRefIdeal.nD Cert.ProjSwapRefIdeal.τ).loc Cert.ProjSwapRefIdeal.main_arg2))
      ∧ m ((c.tc : Thread Cert.ProjSwapIdeal.nD Cert.ProjSwapIdeal.τ).loc Cert.ProjSwapIdeal.main_arg3) = Layout.block ⟨2, ![8192, 1024]⟩ ⟨2, ![65536, 1024]⟩ 0 8 c (m' (((0 : Dev Cert.ProjSwapRefIdeal.nD).tc : Thread Cert.ProjSwapRefIdeal.nD Cert.ProjSwapRefIdeal.τ).loc Cert.ProjSwapRefIdeal.main_arg3))
      ∧ m ((c.tc : Thread Cert.ProjSwapIdeal.nD Cert.ProjSwapIdeal.τ).loc Cert.ProjSwapIdeal.main_arg4) = m' (((0 : Dev Cert.ProjSwapRefIdeal.nD).tc : Thread Cert.ProjSwapRefIdeal.nD Cert.ProjSwapRefIdeal.τ).loc Cert.ProjSwapRefIdeal.main_arg4)
      ∧ m ((c.tc : Thread Cert.ProjSwapIdeal.nD Cert.ProjSwapIdeal.τ).loc Cert.ProjSwapIdeal.main_arg5) = Layout.block ⟨3, ![4, 1024, 768]⟩ ⟨3, ![32, 1024, 768]⟩ 0 8 c (m' (((0 : Dev Cert.ProjSwapRefIdeal.nD).tc : Thread Cert.ProjSwapRefIdeal.nD Cert.ProjSwapRefIdeal.τ).loc Cert.ProjSwapRefIdeal.main_arg5))
      ∧ m ((c.tc : Thread Cert.ProjSwapIdeal.nD Cert.ProjSwapIdeal.τ).loc Cert.ProjSwapIdeal.main_arg6) = Layout.block ⟨3, ![4, 256, 1024]⟩ ⟨3, ![32, 256, 1024]⟩ 0 8 c (m' (((0 : Dev Cert.ProjSwapRefIdeal.nD).tc : Thread Cert.ProjSwapRefIdeal.nD Cert.ProjSwapRefIdeal.τ).loc Cert.ProjSwapRefIdeal.main_arg6))
      ∧ m ((c.tc : Thread Cert.ProjSwapIdeal.nD Cert.ProjSwapIdeal.τ).loc Cert.ProjSwapIdeal.main_arg7) = Layout.block ⟨3, ![4, 704, 1024]⟩ ⟨3, ![32, 704, 1024]⟩ 0 8 c (m' (((0 : Dev Cert.ProjSwapRefIdeal.nD).tc : Thread Cert.ProjSwapRefIdeal.nD Cert.ProjSwapRefIdeal.τ).loc Cert.ProjSwapRefIdeal.main_arg7))
      ∧ m ((c.tc : Thread Cert.ProjSwapIdeal.nD Cert.ProjSwapIdeal.τ).loc Cert.ProjSwapIdeal.main_arg8) = Layout.block ⟨3, ![4, 704, 1024]⟩ ⟨3, ![32, 704, 1024]⟩ 0 8 c (m' (((0 : Dev Cert.ProjSwapRefIdeal.nD).tc : Thread Cert.ProjSwapRefIdeal.nD Cert.ProjSwapRefIdeal.τ).loc Cert.ProjSwapRefIdeal.main_arg8))
      ∧ m ((c.tc : Thread Cert.ProjSwapIdeal.nD Cert.ProjSwapIdeal.τ).loc Cert.ProjSwapIdeal.main_arg9) = Layout.block ⟨3, ![4, 704, 1024]⟩ ⟨3, ![32, 704, 1024]⟩ 0 8 c (m' (((0 : Dev Cert.ProjSwapRefIdeal.nD).tc : Thread Cert.ProjSwapRefIdeal.nD Cert.ProjSwapRefIdeal.τ).loc Cert.ProjSwapRefIdeal.main_arg9))
      ∧ m ((c.tc : Thread Cert.ProjSwapIdeal.nD Cert.ProjSwapIdeal.τ).loc Cert.ProjSwapIdeal.main_arg10) = Layout.block ⟨3, ![4, 256, 1024]⟩ ⟨3, ![32, 256, 1024]⟩ 0 8 c (m' (((0 : Dev Cert.ProjSwapRefIdeal.nD).tc : Thread Cert.ProjSwapRefIdeal.nD Cert.ProjSwapRefIdeal.τ).loc Cert.ProjSwapRefIdeal.main_arg10))
      ∧ m ((c.tc : Thread Cert.ProjSwapIdeal.nD Cert.ProjSwapIdeal.τ).loc Cert.ProjSwapIdeal.main_arg11) = Layout.block ⟨3, ![4, 256, 256]⟩ ⟨3, ![32, 256, 256]⟩ 0 8 c (m' (((0 : Dev Cert.ProjSwapRefIdeal.nD).tc : Thread Cert.ProjSwapRefIdeal.nD Cert.ProjSwapRefIdeal.τ).loc Cert.ProjSwapRefIdeal.main_arg11))) →
    ∃ (v0 : Buf (Elt Ideal) (((0 : Dev Cert.ProjSwapRefIdeal.nD).tc : Thread Cert.ProjSwapRefIdeal.nD Cert.ProjSwapRefIdeal.τ).loc Cert.ProjSwapRefIdeal.main_v27)) (v1 : Buf (Elt Ideal) (((0 : Dev Cert.ProjSwapRefIdeal.nD).tc : Thread Cert.ProjSwapRefIdeal.nD Cert.ProjSwapRefIdeal.τ).loc Cert.ProjSwapRefIdeal.main_v33)) (v2 : Buf (Elt Ideal) (((0 : Dev Cert.ProjSwapRefIdeal.nD).tc : Thread Cert.ProjSwapRefIdeal.nD Cert.ProjSwapRefIdeal.τ).loc Cert.ProjSwapRefIdeal.main_v42)) (v3 : Buf (Elt Ideal) (((0 : Dev Cert.ProjSwapRefIdeal.nD).tc : Thread Cert.ProjSwapRefIdeal.nD Cert.ProjSwapRefIdeal.τ).loc Cert.ProjSwapRefIdeal.main_v51)) (v4 : Buf (Elt Ideal) (((0 : Dev Cert.ProjSwapRefIdeal.nD).tc : Thread Cert.ProjSwapRefIdeal.nD Cert.ProjSwapRefIdeal.τ).loc Cert.ProjSwapRefIdeal.main_v60)) (v5 : Buf (Elt Ideal) (((0 : Dev Cert.ProjSwapRefIdeal.nD).tc : Thread Cert.ProjSwapRefIdeal.nD Cert.ProjSwapRefIdeal.τ).loc Cert.ProjSwapRefIdeal.main_v69)) (v6 : Buf (Elt Ideal) (((0 : Dev Cert.ProjSwapRefIdeal.nD).tc : Thread Cert.ProjSwapRefIdeal.nD Cert.ProjSwapRefIdeal.τ).loc Cert.ProjSwapRefIdeal.main_v78)) (v7 : Buf (Elt Ideal) (((0 : Dev Cert.ProjSwapRefIdeal.nD).tc : Thread Cert.ProjSwapRefIdeal.nD Cert.ProjSwapRefIdeal.τ).loc Cert.ProjSwapRefIdeal.main_v87)) (v8 : Buf (Elt Ideal) (((0 : Dev Cert.ProjSwapRefIdeal.nD).tc : Thread Cert.ProjSwapRefIdeal.nD Cert.ProjSwapRefIdeal.τ).loc Cert.ProjSwapRefIdeal.main_v96)),
      θ_run (Cert.ProjSwapIdeal.defs (F := Ideal)) (onTc (τ := Cert.ProjSwapIdeal.τ) (Cert.ProjSwapIdeal.main (F := Ideal))) ⟨m, fun _ => 0, g⟩ (fun r => ∀ c : Dev Cert.ProjSwapIdeal.nD,
          r.2.mem ((c.tc : Thread Cert.ProjSwapIdeal.nD Cert.ProjSwapIdeal.τ).loc Cert.ProjSwapIdeal.main_v1_0) = Layout.block ⟨2, ![8192, 1024]⟩ ⟨2, ![65536, 1024]⟩ 0 8 c v0
          ∧ r.2.mem ((c.tc : Thread Cert.ProjSwapIdeal.nD Cert.ProjSwapIdeal.τ).loc Cert.ProjSwapIdeal.main_v1_1) = Layout.block ⟨2, ![8, 1024]⟩ ⟨2, ![64, 1024]⟩ 0 8 c v1
          ∧ r.2.mem ((c.tc : Thread Cert.ProjSwapIdeal.nD Cert.ProjSwapIdeal.τ).loc Cert.ProjSwapIdeal.main_v1_2) = Layout.block ⟨3, ![4, 512, 768]⟩ ⟨3, ![32, 512, 768]⟩ 0 8 c v2
          ∧ r.2.mem ((c.tc : Thread Cert.ProjSwapIdeal.nD Cert.ProjSwapIdeal.τ).loc Cert.ProjSwapIdeal.main_v1_3) = Layout.block ⟨3, ![4, 128, 1024]⟩ ⟨3, ![32, 128, 1024]⟩ 0 8 c v3
          ∧ r.2.mem ((c.tc : Thread Cert.ProjSwapIdeal.nD Cert.ProjSwapIdeal.τ).loc Cert.ProjSwapIdeal.main_v1_4) = Layout.block ⟨3, ![4, 352, 1024]⟩ ⟨3, ![32, 352, 1024]⟩ 0 8 c v4
          ∧ r.2.mem ((c.tc : Thread Cert.ProjSwapIdeal.nD Cert.ProjSwapIdeal.τ).loc Cert.ProjSwapIdeal.main_v1_5) = Layout.block ⟨3, ![4, 352, 1024]⟩ ⟨3, ![32, 352, 1024]⟩ 0 8 c v5
          ∧ r.2.mem ((c.tc : Thread Cert.ProjSwapIdeal.nD Cert.ProjSwapIdeal.τ).loc Cert.ProjSwapIdeal.main_v1_6) = Layout.block ⟨3, ![4, 352, 1024]⟩ ⟨3, ![32, 352, 1024]⟩ 0 8 c v6
          ∧ r.2.mem ((c.tc : Thread Cert.ProjSwapIdeal.nD Cert.ProjSwapIdeal.τ).loc Cert.ProjSwapIdeal.main_v1_7) = Layout.block ⟨3, ![4, 128, 1024]⟩ ⟨3, ![32, 128, 1024]⟩ 0 8 c v7
          ∧ r.2.mem ((c.tc : Thread Cert.ProjSwapIdeal.nD Cert.ProjSwapIdeal.τ).loc Cert.ProjSwapIdeal.main_v1_8) = Layout.block ⟨3, ![4, 128, 256]⟩ ⟨3, ![32, 128, 256]⟩ 0 8 c v8
          ∧ r.2.mem ((c.tc : Thread Cert.ProjSwapIdeal.nD Cert.ProjSwapIdeal.τ).loc Cert.ProjSwapIdeal.main_arg0) = m ((c.tc : Thread Cert.ProjSwapIdeal.nD Cert.ProjSwapIdeal.τ).loc Cert.ProjSwapIdeal.main_arg0)
          ∧ r.2.mem ((c.tc : Thread Cert.ProjSwapIdeal.nD Cert.ProjSwapIdeal.τ).loc Cert.ProjSwapIdeal.main_arg1) = m ((c.tc : Thread Cert.ProjSwapIdeal.nD Cert.ProjSwapIdeal.τ).loc Cert.ProjSwapIdeal.main_arg1)
          ∧ r.2.mem ((c.tc : Thread Cert.ProjSwapIdeal.nD Cert.ProjSwapIdeal.τ).loc Cert.ProjSwapIdeal.main_arg2) = m ((c.tc : Thread Cert.ProjSwapIdeal.nD Cert.ProjSwapIdeal.τ).loc Cert.ProjSwapIdeal.main_arg2)
          ∧ r.2.mem ((c.tc : Thread Cert.ProjSwapIdeal.nD Cert.ProjSwapIdeal.τ).loc Cert.ProjSwapIdeal.main_arg3) = m ((c.tc : Thread Cert.ProjSwapIdeal.nD Cert.ProjSwapIdeal.τ).loc Cert.ProjSwapIdeal.main_arg3)
          ∧ r.2.mem ((c.tc : Thread Cert.ProjSwapIdeal.nD Cert.ProjSwapIdeal.τ).loc Cert.ProjSwapIdeal.main_arg4) = m ((c.tc : Thread Cert.ProjSwapIdeal.nD Cert.ProjSwapIdeal.τ).loc Cert.ProjSwapIdeal.main_arg4)
          ∧ r.2.mem ((c.tc : Thread Cert.ProjSwapIdeal.nD Cert.ProjSwapIdeal.τ).loc Cert.ProjSwapIdeal.main_arg5) = m ((c.tc : Thread Cert.ProjSwapIdeal.nD Cert.ProjSwapIdeal.τ).loc Cert.ProjSwapIdeal.main_arg5)
          ∧ r.2.mem ((c.tc : Thread Cert.ProjSwapIdeal.nD Cert.ProjSwapIdeal.τ).loc Cert.ProjSwapIdeal.main_arg6) = m ((c.tc : Thread Cert.ProjSwapIdeal.nD Cert.ProjSwapIdeal.τ).loc Cert.ProjSwapIdeal.main_arg6)
          ∧ r.2.mem ((c.tc : Thread Cert.ProjSwapIdeal.nD Cert.ProjSwapIdeal.τ).loc Cert.ProjSwapIdeal.main_arg7) = m ((c.tc : Thread Cert.ProjSwapIdeal.nD Cert.ProjSwapIdeal.τ).loc Cert.ProjSwapIdeal.main_arg7)
          ∧ r.2.mem ((c.tc : Thread Cert.ProjSwapIdeal.nD Cert.ProjSwapIdeal.τ).loc Cert.ProjSwapIdeal.main_arg8) = m ((c.tc : Thread Cert.ProjSwapIdeal.nD Cert.ProjSwapIdeal.τ).loc Cert.ProjSwapIdeal.main_arg8)
          ∧ r.2.mem ((c.tc : Thread Cert.ProjSwapIdeal.nD Cert.ProjSwapIdeal.τ).loc Cert.ProjSwapIdeal.main_arg9) = m ((c.tc : Thread Cert.ProjSwapIdeal.nD Cert.ProjSwapIdeal.τ).loc Cert.ProjSwapIdeal.main_arg9)
          ∧ r.2.mem ((c.tc : Thread Cert.ProjSwapIdeal.nD Cert.ProjSwapIdeal.τ).loc Cert.ProjSwapIdeal.main_arg10) = m ((c.tc : Thread Cert.ProjSwapIdeal.nD Cert.ProjSwapIdeal.τ).loc Cert.ProjSwapIdeal.main_arg10)
          ∧ r.2.mem ((c.tc : Thread Cert.ProjSwapIdeal.nD Cert.ProjSwapIdeal.τ).loc Cert.ProjSwapIdeal.main_arg11) = m ((c.tc : Thread Cert.ProjSwapIdeal.nD Cert.ProjSwapIdeal.τ).loc Cert.ProjSwapIdeal.main_arg11))
      ∧ θ_run (Cert.ProjSwapRefIdeal.defs (F := Ideal)) (onTc (τ := Cert.ProjSwapRefIdeal.τ) (Cert.ProjSwapRefIdeal.main (F := Ideal))) ⟨m', fun _ => 0, g'⟩ (fun r =>
          r.2.mem (((0 : Dev Cert.ProjSwapRefIdeal.nD).tc : Thread Cert.ProjSwapRefIdeal.nD Cert.ProjSwapRefIdeal.τ).loc Cert.ProjSwapRefIdeal.main_v27) = v0
          ∧ r.2.mem (((0 : Dev Cert.ProjSwapRefIdeal.nD).tc : Thread Cert.ProjSwapRefIdeal.nD Cert.ProjSwapRefIdeal.τ).loc Cert.ProjSwapRefIdeal.main_v33) = v1
          ∧ r.2.mem (((0 : Dev Cert.ProjSwapRefIdeal.nD).tc : Thread Cert.ProjSwapRefIdeal.nD Cert.ProjSwapRefIdeal.τ).loc Cert.ProjSwapRefIdeal.main_v42) = v2
          ∧ r.2.mem (((0 : Dev Cert.ProjSwapRefIdeal.nD).tc : Thread Cert.ProjSwapRefIdeal.nD Cert.ProjSwapRefIdeal.τ).loc Cert.ProjSwapRefIdeal.main_v51) = v3
          ∧ r.2.mem (((0 : Dev Cert.ProjSwapRefIdeal.nD).tc : Thread Cert.ProjSwapRefIdeal.nD Cert.ProjSwapRefIdeal.τ).loc Cert.ProjSwapRefIdeal.main_v60) = v4
          ∧ r.2.mem (((0 : Dev Cert.ProjSwapRefIdeal.nD).tc : Thread Cert.ProjSwapRefIdeal.nD Cert.ProjSwapRefIdeal.τ).loc Cert.ProjSwapRefIdeal.main_v69) = v5
          ∧ r.2.mem (((0 : Dev Cert.ProjSwapRefIdeal.nD).tc : Thread Cert.ProjSwapRefIdeal.nD Cert.ProjSwapRefIdeal.τ).loc Cert.ProjSwapRefIdeal.main_v78) = v6
          ∧ r.2.mem (((0 : Dev Cert.ProjSwapRefIdeal.nD).tc : Thread Cert.ProjSwapRefIdeal.nD Cert.ProjSwapRefIdeal.τ).loc Cert.ProjSwapRefIdeal.main_v87) = v7
          ∧ r.2.mem (((0 : Dev Cert.ProjSwapRefIdeal.nD).tc : Thread Cert.ProjSwapRefIdeal.nD Cert.ProjSwapRefIdeal.τ).loc Cert.ProjSwapRefIdeal.main_v96) = v8
          ∧ r.2.mem (((0 : Dev Cert.ProjSwapRefIdeal.nD).tc : Thread Cert.ProjSwapRefIdeal.nD Cert.ProjSwapRefIdeal.τ).loc Cert.ProjSwapRefIdeal.main_arg0) = m' (((0 : Dev Cert.ProjSwapRefIdeal.nD).tc : Thread Cert.ProjSwapRefIdeal.nD Cert.ProjSwapRefIdeal.τ).loc Cert.ProjSwapRefIdeal.main_arg0)
          ∧ r.2.mem (((0 : Dev Cert.ProjSwapRefIdeal.nD).tc : Thread Cert.ProjSwapRefIdeal.nD Cert.ProjSwapRefIdeal.τ).loc Cert.ProjSwapRefIdeal.main_arg1) = m' (((0 : Dev Cert.ProjSwapRefIdeal.nD).tc : Thread Cert.ProjSwapRefIdeal.nD Cert.ProjSwapRefIdeal.τ).loc Cert.ProjSwapRefIdeal.main_arg1)
          ∧ r.2.mem (((0 : Dev Cert.ProjSwapRefIdeal.nD).tc : Thread Cert.ProjSwapRefIdeal.nD Cert.ProjSwapRefIdeal.τ).loc Cert.ProjSwapRefIdeal.main_arg2) = m' (((0 : Dev Cert.ProjSwapRefIdeal.nD).tc : Thread Cert.ProjSwapRefIdeal.nD Cert.ProjSwapRefIdeal.τ).loc Cert.ProjSwapRefIdeal.main_arg2)
          ∧ r.2.mem (((0 : Dev Cert.ProjSwapRefIdeal.nD).tc : Thread Cert.ProjSwapRefIdeal.nD Cert.ProjSwapRefIdeal.τ).loc Cert.ProjSwapRefIdeal.main_arg3) = m' (((0 : Dev Cert.ProjSwapRefIdeal.nD).tc : Thread Cert.ProjSwapRefIdeal.nD Cert.ProjSwapRefIdeal.τ).loc Cert.ProjSwapRefIdeal.main_arg3)
          ∧ r.2.mem (((0 : Dev Cert.ProjSwapRefIdeal.nD).tc : Thread Cert.ProjSwapRefIdeal.nD Cert.ProjSwapRefIdeal.τ).loc Cert.ProjSwapRefIdeal.main_arg4) = m' (((0 : Dev Cert.ProjSwapRefIdeal.nD).tc : Thread Cert.ProjSwapRefIdeal.nD Cert.ProjSwapRefIdeal.τ).loc Cert.ProjSwapRefIdeal.main_arg4)
          ∧ r.2.mem (((0 : Dev Cert.ProjSwapRefIdeal.nD).tc : Thread Cert.ProjSwapRefIdeal.nD Cert.ProjSwapRefIdeal.τ).loc Cert.ProjSwapRefIdeal.main_arg5) = m' (((0 : Dev Cert.ProjSwapRefIdeal.nD).tc : Thread Cert.ProjSwapRefIdeal.nD Cert.ProjSwapRefIdeal.τ).loc Cert.ProjSwapRefIdeal.main_arg5)
          ∧ r.2.mem (((0 : Dev Cert.ProjSwapRefIdeal.nD).tc : Thread Cert.ProjSwapRefIdeal.nD Cert.ProjSwapRefIdeal.τ).loc Cert.ProjSwapRefIdeal.main_arg6) = m' (((0 : Dev Cert.ProjSwapRefIdeal.nD).tc : Thread Cert.ProjSwapRefIdeal.nD Cert.ProjSwapRefIdeal.τ).loc Cert.ProjSwapRefIdeal.main_arg6)
          ∧ r.2.mem (((0 : Dev Cert.ProjSwapRefIdeal.nD).tc : Thread Cert.ProjSwapRefIdeal.nD Cert.ProjSwapRefIdeal.τ).loc Cert.ProjSwapRefIdeal.main_arg7) = m' (((0 : Dev Cert.ProjSwapRefIdeal.nD).tc : Thread Cert.ProjSwapRefIdeal.nD Cert.ProjSwapRefIdeal.τ).loc Cert.ProjSwapRefIdeal.main_arg7)
          ∧ r.2.mem (((0 : Dev Cert.ProjSwapRefIdeal.nD).tc : Thread Cert.ProjSwapRefIdeal.nD Cert.ProjSwapRefIdeal.τ).loc Cert.ProjSwapRefIdeal.main_arg8) = m' (((0 : Dev Cert.ProjSwapRefIdeal.nD).tc : Thread Cert.ProjSwapRefIdeal.nD Cert.ProjSwapRefIdeal.τ).loc Cert.ProjSwapRefIdeal.main_arg8)
          ∧ r.2.mem (((0 : Dev Cert.ProjSwapRefIdeal.nD).tc : Thread Cert.ProjSwapRefIdeal.nD Cert.ProjSwapRefIdeal.τ).loc Cert.ProjSwapRefIdeal.main_arg9) = m' (((0 : Dev Cert.ProjSwapRefIdeal.nD).tc : Thread Cert.ProjSwapRefIdeal.nD Cert.ProjSwapRefIdeal.τ).loc Cert.ProjSwapRefIdeal.main_arg9)
          ∧ r.2.mem (((0 : Dev Cert.ProjSwapRefIdeal.nD).tc : Thread Cert.ProjSwapRefIdeal.nD Cert.ProjSwapRefIdeal.τ).loc Cert.ProjSwapRefIdeal.main_arg10) = m' (((0 : Dev Cert.ProjSwapRefIdeal.nD).tc : Thread Cert.ProjSwapRefIdeal.nD Cert.ProjSwapRefIdeal.τ).loc Cert.ProjSwapRefIdeal.main_arg10)
          ∧ r.2.mem (((0 : Dev Cert.ProjSwapRefIdeal.nD).tc : Thread Cert.ProjSwapRefIdeal.nD Cert.ProjSwapRefIdeal.τ).loc Cert.ProjSwapRefIdeal.main_arg11) = m' (((0 : Dev Cert.ProjSwapRefIdeal.nD).tc : Thread Cert.ProjSwapRefIdeal.nD Cert.ProjSwapRefIdeal.τ).loc Cert.ProjSwapRefIdeal.main_arg11))

def preserves_InScatter_InScatterIdeal : Prop :=
  True

def algebraic_InScatterIdeal_InScatterRefIdeal [hInScatterIdeal : Cert.InScatterIdeal.Facts] [hInScatterRefIdeal : Cert.InScatterRefIdeal.Facts] : Prop :=
  ∀ (m : (ℓ : Loc Cert.InScatterIdeal.nD Cert.InScatterIdeal.τ Cert.InScatterIdeal.sig) → Buf (Elt Ideal) ℓ) (g : Dev Cert.InScatterIdeal.nD → PrngReg)
    (m' : (ℓ : Loc Cert.InScatterRefIdeal.nD Cert.InScatterRefIdeal.τ Cert.InScatterRefIdeal.sig) → Buf (Elt Ideal) ℓ) (g' : Dev Cert.InScatterRefIdeal.nD → PrngReg), Pre_InScatterIdeal m →
    (∀ c : Dev Cert.InScatterIdeal.nD,
      m ((c.tc : Thread Cert.InScatterIdeal.nD Cert.InScatterIdeal.τ).loc Cert.InScatterIdeal.main_arg0) = Layout.block ⟨3, ![4, 8192, 704]⟩ ⟨3, ![32, 8192, 704]⟩ 0 8 c (m' (((0 : Dev Cert.InScatterRefIdeal.nD).tc : Thread Cert.InScatterRefIdeal.nD Cert.InScatterRefIdeal.τ).loc Cert.InScatterRefIdeal.main_arg0))
      ∧ m ((c.tc : Thread Cert.InScatterIdeal.nD Cert.InScatterIdeal.τ).loc Cert.InScatterIdeal.main_arg1) = Layout.block ⟨3, ![4, 8192, 704]⟩ ⟨3, ![32, 8192, 704]⟩ 0 8 c (m' (((0 : Dev Cert.InScatterRefIdeal.nD).tc : Thread Cert.InScatterRefIdeal.nD Cert.InScatterRefIdeal.τ).loc Cert.InScatterRefIdeal.main_arg1))
      ∧ m ((c.tc : Thread Cert.InScatterIdeal.nD Cert.InScatterIdeal.τ).loc Cert.InScatterIdeal.main_arg2) = m' (((0 : Dev Cert.InScatterRefIdeal.nD).tc : Thread Cert.InScatterRefIdeal.nD Cert.InScatterRefIdeal.τ).loc Cert.InScatterRefIdeal.main_arg2)
      ∧ m ((c.tc : Thread Cert.InScatterIdeal.nD Cert.InScatterIdeal.τ).loc Cert.InScatterIdeal.main_arg3) = m' (((0 : Dev Cert.InScatterRefIdeal.nD).tc : Thread Cert.InScatterRefIdeal.nD Cert.InScatterRefIdeal.τ).loc Cert.InScatterRefIdeal.main_arg3)
      ∧ m ((c.tc : Thread Cert.InScatterIdeal.nD Cert.InScatterIdeal.τ).loc Cert.InScatterIdeal.main_arg4) = Layout.block ⟨2, ![8192, 1024]⟩ ⟨2, ![65536, 1024]⟩ 0 8 c (m' (((0 : Dev Cert.InScatterRefIdeal.nD).tc : Thread Cert.InScatterRefIdeal.nD Cert.InScatterRefIdeal.τ).loc Cert.InScatterRefIdeal.main_arg4))
      ∧ m ((c.tc : Thread Cert.InScatterIdeal.nD Cert.InScatterIdeal.τ).loc Cert.InScatterIdeal.main_arg5) = Layout.block ⟨2, ![8192, 1024]⟩ ⟨2, ![65536, 1024]⟩ 0 8 c (m' (((0 : Dev Cert.InScatterRefIdeal.nD).tc : Thread Cert.InScatterRefIdeal.nD Cert.InScatterRefIdeal.τ).loc Cert.InScatterRefIdeal.main_arg5))
      ∧ m ((c.tc : Thread Cert.InScatterIdeal.nD Cert.InScatterIdeal.τ).loc Cert.InScatterIdeal.main_arg6) = m' (((0 : Dev Cert.InScatterRefIdeal.nD).tc : Thread Cert.InScatterRefIdeal.nD Cert.InScatterRefIdeal.τ).loc Cert.InScatterRefIdeal.main_arg6)
      ∧ m ((c.tc : Thread Cert.InScatterIdeal.nD Cert.InScatterIdeal.τ).loc Cert.InScatterIdeal.main_arg7) = Layout.block ⟨3, ![4, 352, 1024]⟩ ⟨3, ![32, 352, 1024]⟩ 0 8 c (m' (((0 : Dev Cert.InScatterRefIdeal.nD).tc : Thread Cert.InScatterRefIdeal.nD Cert.InScatterRefIdeal.τ).loc Cert.InScatterRefIdeal.main_arg7))
      ∧ m ((c.tc : Thread Cert.InScatterIdeal.nD Cert.InScatterIdeal.τ).loc Cert.InScatterIdeal.main_arg8) = Layout.block ⟨3, ![4, 352, 1024]⟩ ⟨3, ![32, 352, 1024]⟩ 0 8 c (m' (((0 : Dev Cert.InScatterRefIdeal.nD).tc : Thread Cert.InScatterRefIdeal.nD Cert.InScatterRefIdeal.τ).loc Cert.InScatterRefIdeal.main_arg8))
      ∧ m ((c.tc : Thread Cert.InScatterIdeal.nD Cert.InScatterIdeal.τ).loc Cert.InScatterIdeal.main_arg9) = Layout.block ⟨3, ![4, 352, 1024]⟩ ⟨3, ![32, 352, 1024]⟩ 0 8 c (m' (((0 : Dev Cert.InScatterRefIdeal.nD).tc : Thread Cert.InScatterRefIdeal.nD Cert.InScatterRefIdeal.τ).loc Cert.InScatterRefIdeal.main_arg9))) →
    ∃ (v0 : Buf (Elt Ideal) (((0 : Dev Cert.InScatterRefIdeal.nD).tc : Thread Cert.InScatterRefIdeal.nD Cert.InScatterRefIdeal.τ).loc Cert.InScatterRefIdeal.main_v33)) (v1 : Buf (Elt Ideal) (((0 : Dev Cert.InScatterRefIdeal.nD).tc : Thread Cert.InScatterRefIdeal.nD Cert.InScatterRefIdeal.τ).loc Cert.InScatterRefIdeal.main_v39)) (v2 : Buf (Elt Ideal) (((0 : Dev Cert.InScatterRefIdeal.nD).tc : Thread Cert.InScatterRefIdeal.nD Cert.InScatterRefIdeal.τ).loc Cert.InScatterRefIdeal.main_v41)) (v3 : Buf (Elt Ideal) (((0 : Dev Cert.InScatterRefIdeal.nD).tc : Thread Cert.InScatterRefIdeal.nD Cert.InScatterRefIdeal.τ).loc Cert.InScatterRefIdeal.main_v43)) (v4 : Buf (Elt Ideal) (((0 : Dev Cert.InScatterRefIdeal.nD).tc : Thread Cert.InScatterRefIdeal.nD Cert.InScatterRefIdeal.τ).loc Cert.InScatterRefIdeal.main_v45)),
      θ_run (Cert.InScatterIdeal.defs (F := Ideal)) (onTc (τ := Cert.InScatterIdeal.τ) (Cert.InScatterIdeal.main (F := Ideal))) ⟨m, fun _ => 0, g⟩ (fun r => ∀ c : Dev Cert.InScatterIdeal.nD,
          r.2.mem ((c.tc : Thread Cert.InScatterIdeal.nD Cert.InScatterIdeal.τ).loc Cert.InScatterIdeal.main_v1_0) = Layout.block ⟨2, ![8192, 1024]⟩ ⟨2, ![65536, 1024]⟩ 0 8 c v0
          ∧ r.2.mem ((c.tc : Thread Cert.InScatterIdeal.nD Cert.InScatterIdeal.τ).loc Cert.InScatterIdeal.main_v1_1) = Layout.block ⟨2, ![8, 1024]⟩ ⟨2, ![64, 1024]⟩ 0 8 c v1
          ∧ r.2.mem ((c.tc : Thread Cert.InScatterIdeal.nD Cert.InScatterIdeal.τ).loc Cert.InScatterIdeal.main_v1_2) = Layout.block ⟨3, ![3, 352, 1024]⟩ ⟨3, ![24, 352, 1024]⟩ 0 8 c v2
          ∧ r.2.mem ((c.tc : Thread Cert.InScatterIdeal.nD Cert.InScatterIdeal.τ).loc Cert.InScatterIdeal.main_v1_3) = Layout.block ⟨3, ![3, 352, 1024]⟩ ⟨3, ![24, 352, 1024]⟩ 0 8 c v3
          ∧ r.2.mem ((c.tc : Thread Cert.InScatterIdeal.nD Cert.InScatterIdeal.τ).loc Cert.InScatterIdeal.main_v1_4) = Layout.block ⟨3, ![3, 352, 1024]⟩ ⟨3, ![24, 352, 1024]⟩ 0 8 c v4
          ∧ r.2.mem ((c.tc : Thread Cert.InScatterIdeal.nD Cert.InScatterIdeal.τ).loc Cert.InScatterIdeal.main_arg0) = m ((c.tc : Thread Cert.InScatterIdeal.nD Cert.InScatterIdeal.τ).loc Cert.InScatterIdeal.main_arg0)
          ∧ r.2.mem ((c.tc : Thread Cert.InScatterIdeal.nD Cert.InScatterIdeal.τ).loc Cert.InScatterIdeal.main_arg1) = m ((c.tc : Thread Cert.InScatterIdeal.nD Cert.InScatterIdeal.τ).loc Cert.InScatterIdeal.main_arg1)
          ∧ r.2.mem ((c.tc : Thread Cert.InScatterIdeal.nD Cert.InScatterIdeal.τ).loc Cert.InScatterIdeal.main_arg2) = m ((c.tc : Thread Cert.InScatterIdeal.nD Cert.InScatterIdeal.τ).loc Cert.InScatterIdeal.main_arg2)
          ∧ r.2.mem ((c.tc : Thread Cert.InScatterIdeal.nD Cert.InScatterIdeal.τ).loc Cert.InScatterIdeal.main_arg3) = m ((c.tc : Thread Cert.InScatterIdeal.nD Cert.InScatterIdeal.τ).loc Cert.InScatterIdeal.main_arg3)
          ∧ r.2.mem ((c.tc : Thread Cert.InScatterIdeal.nD Cert.InScatterIdeal.τ).loc Cert.InScatterIdeal.main_arg4) = m ((c.tc : Thread Cert.InScatterIdeal.nD Cert.InScatterIdeal.τ).loc Cert.InScatterIdeal.main_arg4)
          ∧ r.2.mem ((c.tc : Thread Cert.InScatterIdeal.nD Cert.InScatterIdeal.τ).loc Cert.InScatterIdeal.main_arg5) = m ((c.tc : Thread Cert.InScatterIdeal.nD Cert.InScatterIdeal.τ).loc Cert.InScatterIdeal.main_arg5)
          ∧ r.2.mem ((c.tc : Thread Cert.InScatterIdeal.nD Cert.InScatterIdeal.τ).loc Cert.InScatterIdeal.main_arg6) = m ((c.tc : Thread Cert.InScatterIdeal.nD Cert.InScatterIdeal.τ).loc Cert.InScatterIdeal.main_arg6)
          ∧ r.2.mem ((c.tc : Thread Cert.InScatterIdeal.nD Cert.InScatterIdeal.τ).loc Cert.InScatterIdeal.main_arg7) = m ((c.tc : Thread Cert.InScatterIdeal.nD Cert.InScatterIdeal.τ).loc Cert.InScatterIdeal.main_arg7)
          ∧ r.2.mem ((c.tc : Thread Cert.InScatterIdeal.nD Cert.InScatterIdeal.τ).loc Cert.InScatterIdeal.main_arg8) = m ((c.tc : Thread Cert.InScatterIdeal.nD Cert.InScatterIdeal.τ).loc Cert.InScatterIdeal.main_arg8)
          ∧ r.2.mem ((c.tc : Thread Cert.InScatterIdeal.nD Cert.InScatterIdeal.τ).loc Cert.InScatterIdeal.main_arg9) = m ((c.tc : Thread Cert.InScatterIdeal.nD Cert.InScatterIdeal.τ).loc Cert.InScatterIdeal.main_arg9))
      ∧ θ_run (Cert.InScatterRefIdeal.defs (F := Ideal)) (onTc (τ := Cert.InScatterRefIdeal.τ) (Cert.InScatterRefIdeal.main (F := Ideal))) ⟨m', fun _ => 0, g'⟩ (fun r =>
          r.2.mem (((0 : Dev Cert.InScatterRefIdeal.nD).tc : Thread Cert.InScatterRefIdeal.nD Cert.InScatterRefIdeal.τ).loc Cert.InScatterRefIdeal.main_v33) = v0
          ∧ r.2.mem (((0 : Dev Cert.InScatterRefIdeal.nD).tc : Thread Cert.InScatterRefIdeal.nD Cert.InScatterRefIdeal.τ).loc Cert.InScatterRefIdeal.main_v39) = v1
          ∧ r.2.mem (((0 : Dev Cert.InScatterRefIdeal.nD).tc : Thread Cert.InScatterRefIdeal.nD Cert.InScatterRefIdeal.τ).loc Cert.InScatterRefIdeal.main_v41) = v2
          ∧ r.2.mem (((0 : Dev Cert.InScatterRefIdeal.nD).tc : Thread Cert.InScatterRefIdeal.nD Cert.InScatterRefIdeal.τ).loc Cert.InScatterRefIdeal.main_v43) = v3
          ∧ r.2.mem (((0 : Dev Cert.InScatterRefIdeal.nD).tc : Thread Cert.InScatterRefIdeal.nD Cert.InScatterRefIdeal.τ).loc Cert.InScatterRefIdeal.main_v45) = v4
          ∧ r.2.mem (((0 : Dev Cert.InScatterRefIdeal.nD).tc : Thread Cert.InScatterRefIdeal.nD Cert.InScatterRefIdeal.τ).loc Cert.InScatterRefIdeal.main_arg0) = m' (((0 : Dev Cert.InScatterRefIdeal.nD).tc : Thread Cert.InScatterRefIdeal.nD Cert.InScatterRefIdeal.τ).loc Cert.InScatterRefIdeal.main_arg0)
          ∧ r.2.mem (((0 : Dev Cert.InScatterRefIdeal.nD).tc : Thread Cert.InScatterRefIdeal.nD Cert.InScatterRefIdeal.τ).loc Cert.InScatterRefIdeal.main_arg1) = m' (((0 : Dev Cert.InScatterRefIdeal.nD).tc : Thread Cert.InScatterRefIdeal.nD Cert.InScatterRefIdeal.τ).loc Cert.InScatterRefIdeal.main_arg1)
          ∧ r.2.mem (((0 : Dev Cert.InScatterRefIdeal.nD).tc : Thread Cert.InScatterRefIdeal.nD Cert.InScatterRefIdeal.τ).loc Cert.InScatterRefIdeal.main_arg2) = m' (((0 : Dev Cert.InScatterRefIdeal.nD).tc : Thread Cert.InScatterRefIdeal.nD Cert.InScatterRefIdeal.τ).loc Cert.InScatterRefIdeal.main_arg2)
          ∧ r.2.mem (((0 : Dev Cert.InScatterRefIdeal.nD).tc : Thread Cert.InScatterRefIdeal.nD Cert.InScatterRefIdeal.τ).loc Cert.InScatterRefIdeal.main_arg3) = m' (((0 : Dev Cert.InScatterRefIdeal.nD).tc : Thread Cert.InScatterRefIdeal.nD Cert.InScatterRefIdeal.τ).loc Cert.InScatterRefIdeal.main_arg3)
          ∧ r.2.mem (((0 : Dev Cert.InScatterRefIdeal.nD).tc : Thread Cert.InScatterRefIdeal.nD Cert.InScatterRefIdeal.τ).loc Cert.InScatterRefIdeal.main_arg4) = m' (((0 : Dev Cert.InScatterRefIdeal.nD).tc : Thread Cert.InScatterRefIdeal.nD Cert.InScatterRefIdeal.τ).loc Cert.InScatterRefIdeal.main_arg4)
          ∧ r.2.mem (((0 : Dev Cert.InScatterRefIdeal.nD).tc : Thread Cert.InScatterRefIdeal.nD Cert.InScatterRefIdeal.τ).loc Cert.InScatterRefIdeal.main_arg5) = m' (((0 : Dev Cert.InScatterRefIdeal.nD).tc : Thread Cert.InScatterRefIdeal.nD Cert.InScatterRefIdeal.τ).loc Cert.InScatterRefIdeal.main_arg5)
          ∧ r.2.mem (((0 : Dev Cert.InScatterRefIdeal.nD).tc : Thread Cert.InScatterRefIdeal.nD Cert.InScatterRefIdeal.τ).loc Cert.InScatterRefIdeal.main_arg6) = m' (((0 : Dev Cert.InScatterRefIdeal.nD).tc : Thread Cert.InScatterRefIdeal.nD Cert.InScatterRefIdeal.τ).loc Cert.InScatterRefIdeal.main_arg6)
          ∧ r.2.mem (((0 : Dev Cert.InScatterRefIdeal.nD).tc : Thread Cert.InScatterRefIdeal.nD Cert.InScatterRefIdeal.τ).loc Cert.InScatterRefIdeal.main_arg7) = m' (((0 : Dev Cert.InScatterRefIdeal.nD).tc : Thread Cert.InScatterRefIdeal.nD Cert.InScatterRefIdeal.τ).loc Cert.InScatterRefIdeal.main_arg7)
          ∧ r.2.mem (((0 : Dev Cert.InScatterRefIdeal.nD).tc : Thread Cert.InScatterRefIdeal.nD Cert.InScatterRefIdeal.τ).loc Cert.InScatterRefIdeal.main_arg8) = m' (((0 : Dev Cert.InScatterRefIdeal.nD).tc : Thread Cert.InScatterRefIdeal.nD Cert.InScatterRefIdeal.τ).loc Cert.InScatterRefIdeal.main_arg8)
          ∧ r.2.mem (((0 : Dev Cert.InScatterRefIdeal.nD).tc : Thread Cert.InScatterRefIdeal.nD Cert.InScatterRefIdeal.τ).loc Cert.InScatterRefIdeal.main_arg9) = m' (((0 : Dev Cert.InScatterRefIdeal.nD).tc : Thread Cert.InScatterRefIdeal.nD Cert.InScatterRefIdeal.τ).loc Cert.InScatterRefIdeal.main_arg9))

def preserves_ActScatter_ActScatterIdeal : Prop :=
  True

def algebraic_ActScatterIdeal_ActScatterRefIdeal [hActScatterIdeal : Cert.ActScatterIdeal.Facts] [hActScatterRefIdeal : Cert.ActScatterRefIdeal.Facts] : Prop :=
  ∀ (m : (ℓ : Loc Cert.ActScatterIdeal.nD Cert.ActScatterIdeal.τ Cert.ActScatterIdeal.sig) → Buf (Elt Ideal) ℓ) (g : Dev Cert.ActScatterIdeal.nD → PrngReg)
    (m' : (ℓ : Loc Cert.ActScatterRefIdeal.nD Cert.ActScatterRefIdeal.τ Cert.ActScatterRefIdeal.sig) → Buf (Elt Ideal) ℓ) (g' : Dev Cert.ActScatterRefIdeal.nD → PrngReg), Pre_ActScatterIdeal m →
    (∀ c : Dev Cert.ActScatterIdeal.nD,
      m ((c.tc : Thread Cert.ActScatterIdeal.nD Cert.ActScatterIdeal.τ).loc Cert.ActScatterIdeal.main_arg0) = Layout.block ⟨2, ![8192, 1024]⟩ ⟨2, ![65536, 1024]⟩ 0 8 c (m' (((0 : Dev Cert.ActScatterRefIdeal.nD).tc : Thread Cert.ActScatterRefIdeal.nD Cert.ActScatterRefIdeal.τ).loc Cert.ActScatterRefIdeal.main_arg0))
      ∧ m ((c.tc : Thread Cert.ActScatterIdeal.nD Cert.ActScatterIdeal.τ).loc Cert.ActScatterIdeal.main_arg1) = Layout.block ⟨3, ![4, 8192, 704]⟩ ⟨3, ![32, 8192, 704]⟩ 0 8 c (m' (((0 : Dev Cert.ActScatterRefIdeal.nD).tc : Thread Cert.ActScatterRefIdeal.nD Cert.ActScatterRefIdeal.τ).loc Cert.ActScatterRefIdeal.main_arg1))
      ∧ m ((c.tc : Thread Cert.ActScatterIdeal.nD Cert.ActScatterIdeal.τ).loc Cert.ActScatterIdeal.main_arg2) = Layout.block ⟨3, ![4, 8192, 704]⟩ ⟨3, ![32, 8192, 704]⟩ 0 8 c (m' (((0 : Dev Cert.ActScatterRefIdeal.nD).tc : Thread Cert.ActScatterRefIdeal.nD Cert.ActScatterRefIdeal.τ).loc Cert.ActScatterRefIdeal.main_arg2))
      ∧ m ((c.tc : Thread Cert.ActScatterIdeal.nD Cert.ActScatterIdeal.τ).loc Cert.ActScatterIdeal.main_arg3) = m' (((0 : Dev Cert.ActScatterRefIdeal.nD).tc : Thread Cert.ActScatterRefIdeal.nD Cert.ActScatterRefIdeal.τ).loc Cert.ActScatterRefIdeal.main_arg3)
      ∧ m ((c.tc : Thread Cert.ActScatterIdeal.nD Cert.ActScatterIdeal.τ).loc Cert.ActScatterIdeal.main_arg4) = Layout.block ⟨3, ![4, 512, 768]⟩ ⟨3, ![32, 512, 768]⟩ 0 8 c (m' (((0 : Dev Cert.ActScatterRefIdeal.nD).tc : Thread Cert.ActScatterRefIdeal.nD Cert.ActScatterRefIdeal.τ).loc Cert.ActScatterRefIdeal.main_arg4))
      ∧ m ((c.tc : Thread Cert.ActScatterIdeal.nD Cert.ActScatterIdeal.τ).loc Cert.ActScatterIdeal.main_arg5) = Layout.block ⟨3, ![4, 128, 1024]⟩ ⟨3, ![32, 128, 1024]⟩ 0 8 c (m' (((0 : Dev Cert.ActScatterRefIdeal.nD).tc : Thread Cert.ActScatterRefIdeal.nD Cert.ActScatterRefIdeal.τ).loc Cert.ActScatterRefIdeal.main_arg5))
      ∧ m ((c.tc : Thread Cert.ActScatterIdeal.nD Cert.ActScatterIdeal.τ).loc Cert.ActScatterIdeal.main_arg6) = Layout.block ⟨3, ![4, 352, 1024]⟩ ⟨3, ![32, 352, 1024]⟩ 0 8 c (m' (((0 : Dev Cert.ActScatterRefIdeal.nD).tc : Thread Cert.ActScatterRefIdeal.nD Cert.ActScatterRefIdeal.τ).loc Cert.ActScatterRefIdeal.main_arg6))
      ∧ m ((c.tc : Thread Cert.ActScatterIdeal.nD Cert.ActScatterIdeal.τ).loc Cert.ActScatterIdeal.main_arg7) = Layout.block ⟨3, ![4, 352, 1024]⟩ ⟨3, ![32, 352, 1024]⟩ 0 8 c (m' (((0 : Dev Cert.ActScatterRefIdeal.nD).tc : Thread Cert.ActScatterRefIdeal.nD Cert.ActScatterRefIdeal.τ).loc Cert.ActScatterRefIdeal.main_arg7))
      ∧ m ((c.tc : Thread Cert.ActScatterIdeal.nD Cert.ActScatterIdeal.τ).loc Cert.ActScatterIdeal.main_arg8) = Layout.block ⟨3, ![4, 352, 1024]⟩ ⟨3, ![32, 352, 1024]⟩ 0 8 c (m' (((0 : Dev Cert.ActScatterRefIdeal.nD).tc : Thread Cert.ActScatterRefIdeal.nD Cert.ActScatterRefIdeal.τ).loc Cert.ActScatterRefIdeal.main_arg8))
      ∧ m ((c.tc : Thread Cert.ActScatterIdeal.nD Cert.ActScatterIdeal.τ).loc Cert.ActScatterIdeal.main_arg9) = Layout.block ⟨3, ![4, 128, 1024]⟩ ⟨3, ![32, 128, 1024]⟩ 0 8 c (m' (((0 : Dev Cert.ActScatterRefIdeal.nD).tc : Thread Cert.ActScatterRefIdeal.nD Cert.ActScatterRefIdeal.τ).loc Cert.ActScatterRefIdeal.main_arg9))
      ∧ m ((c.tc : Thread Cert.ActScatterIdeal.nD Cert.ActScatterIdeal.τ).loc Cert.ActScatterIdeal.main_arg10) = Layout.block ⟨3, ![4, 128, 256]⟩ ⟨3, ![32, 128, 256]⟩ 0 8 c (m' (((0 : Dev Cert.ActScatterRefIdeal.nD).tc : Thread Cert.ActScatterRefIdeal.nD Cert.ActScatterRefIdeal.τ).loc Cert.ActScatterRefIdeal.main_arg10))) →
    ∃ (v0 : Buf (Elt Ideal) (((0 : Dev Cert.ActScatterRefIdeal.nD).tc : Thread Cert.ActScatterRefIdeal.nD Cert.ActScatterRefIdeal.τ).loc Cert.ActScatterRefIdeal.main_v26)) (v1 : Buf (Elt Ideal) (((0 : Dev Cert.ActScatterRefIdeal.nD).tc : Thread Cert.ActScatterRefIdeal.nD Cert.ActScatterRefIdeal.τ).loc Cert.ActScatterRefIdeal.main_v27)) (v2 : Buf (Elt Ideal) (((0 : Dev Cert.ActScatterRefIdeal.nD).tc : Thread Cert.ActScatterRefIdeal.nD Cert.ActScatterRefIdeal.τ).loc Cert.ActScatterRefIdeal.main_v28)) (v3 : Buf (Elt Ideal) (((0 : Dev Cert.ActScatterRefIdeal.nD).tc : Thread Cert.ActScatterRefIdeal.nD Cert.ActScatterRefIdeal.τ).loc Cert.ActScatterRefIdeal.main_v29)) (v4 : Buf (Elt Ideal) (((0 : Dev Cert.ActScatterRefIdeal.nD).tc : Thread Cert.ActScatterRefIdeal.nD Cert.ActScatterRefIdeal.τ).loc Cert.ActScatterRefIdeal.main_v31)) (v5 : Buf (Elt Ideal) (((0 : Dev Cert.ActScatterRefIdeal.nD).tc : Thread Cert.ActScatterRefIdeal.nD Cert.ActScatterRefIdeal.τ).loc Cert.ActScatterRefIdeal.main_v33)) (v6 : Buf (Elt Ideal) (((0 : Dev Cert.ActScatterRefIdeal.nD).tc : Thread Cert.ActScatterRefIdeal.nD Cert.ActScatterRefIdeal.τ).loc Cert.ActScatterRefIdeal.main_v35)) (v7 : Buf (Elt Ideal) (((0 : Dev Cert.ActScatterRefIdeal.nD).tc : Thread Cert.ActScatterRefIdeal.nD Cert.ActScatterRefIdeal.τ).loc Cert.ActScatterRefIdeal.main_v37)) (v8 : Buf (Elt Ideal) (((0 : Dev Cert.ActScatterRefIdeal.nD).tc : Thread Cert.ActScatterRefIdeal.nD Cert.ActScatterRefIdeal.τ).loc Cert.ActScatterRefIdeal.main_v39)) (v9 : Buf (Elt Ideal) (((0 : Dev Cert.ActScatterRefIdeal.nD).tc : Thread Cert.ActScatterRefIdeal.nD Cert.ActScatterRefIdeal.τ).loc Cert.ActScatterRefIdeal.main_v41)) (v10 : Buf (Elt Ideal) (((0 : Dev Cert.ActScatterRefIdeal.nD).tc : Thread Cert.ActScatterRefIdeal.nD Cert.ActScatterRefIdeal.τ).loc Cert.ActScatterRefIdeal.main_v43)),
      θ_run (Cert.ActScatterIdeal.defs (F := Ideal)) (onTc (τ := Cert.ActScatterIdeal.τ) (Cert.ActScatterIdeal.main (F := Ideal))) ⟨m, fun _ => 0, g⟩ (fun r => ∀ c : Dev Cert.ActScatterIdeal.nD,
          r.2.mem ((c.tc : Thread Cert.ActScatterIdeal.nD Cert.ActScatterIdeal.τ).loc Cert.ActScatterIdeal.main_v1_0) = Layout.block ⟨3, ![4, 8192, 704]⟩ ⟨3, ![32, 8192, 704]⟩ 0 8 c v0
          ∧ r.2.mem ((c.tc : Thread Cert.ActScatterIdeal.nD Cert.ActScatterIdeal.τ).loc Cert.ActScatterIdeal.main_v1_1) = Layout.block ⟨3, ![4, 8192, 704]⟩ ⟨3, ![32, 8192, 704]⟩ 0 8 c v1
          ∧ r.2.mem ((c.tc : Thread Cert.ActScatterIdeal.nD Cert.ActScatterIdeal.τ).loc Cert.ActScatterIdeal.main_v1_2) = Layout.block ⟨3, ![4, 8192, 704]⟩ ⟨3, ![32, 8192, 704]⟩ 0 8 c v2
          ∧ r.2.mem ((c.tc : Thread Cert.ActScatterIdeal.nD Cert.ActScatterIdeal.τ).loc Cert.ActScatterIdeal.main_v1_3) = Layout.block ⟨2, ![8192, 1024]⟩ ⟨2, ![65536, 1024]⟩ 0 8 c v3
          ∧ r.2.mem ((c.tc : Thread Cert.ActScatterIdeal.nD Cert.ActScatterIdeal.τ).loc Cert.ActScatterIdeal.main_v1_4) = Layout.block ⟨3, ![3, 512, 768]⟩ ⟨3, ![24, 512, 768]⟩ 0 8 c v4
          ∧ r.2.mem ((c.tc : Thread Cert.ActScatterIdeal.nD Cert.ActScatterIdeal.τ).loc Cert.ActScatterIdeal.main_v1_5) = Layout.block ⟨3, ![3, 128, 1024]⟩ ⟨3, ![24, 128, 1024]⟩ 0 8 c v5
          ∧ r.2.mem ((c.tc : Thread Cert.ActScatterIdeal.nD Cert.ActScatterIdeal.τ).loc Cert.ActScatterIdeal.main_v1_6) = Layout.block ⟨3, ![3, 352, 1024]⟩ ⟨3, ![24, 352, 1024]⟩ 0 8 c v6
          ∧ r.2.mem ((c.tc : Thread Cert.ActScatterIdeal.nD Cert.ActScatterIdeal.τ).loc Cert.ActScatterIdeal.main_v1_7) = Layout.block ⟨3, ![3, 352, 1024]⟩ ⟨3, ![24, 352, 1024]⟩ 0 8 c v7
          ∧ r.2.mem ((c.tc : Thread Cert.ActScatterIdeal.nD Cert.ActScatterIdeal.τ).loc Cert.ActScatterIdeal.main_v1_8) = Layout.block ⟨3, ![3, 352, 1024]⟩ ⟨3, ![24, 352, 1024]⟩ 0 8 c v8
          ∧ r.2.mem ((c.tc : Thread Cert.ActScatterIdeal.nD Cert.ActScatterIdeal.τ).loc Cert.ActScatterIdeal.main_v1_9) = Layout.block ⟨3, ![3, 128, 1024]⟩ ⟨3, ![24, 128, 1024]⟩ 0 8 c v9
          ∧ r.2.mem ((c.tc : Thread Cert.ActScatterIdeal.nD Cert.ActScatterIdeal.τ).loc Cert.ActScatterIdeal.main_v1_10) = Layout.block ⟨3, ![3, 128, 256]⟩ ⟨3, ![24, 128, 256]⟩ 0 8 c v10
          ∧ r.2.mem ((c.tc : Thread Cert.ActScatterIdeal.nD Cert.ActScatterIdeal.τ).loc Cert.ActScatterIdeal.main_arg0) = m ((c.tc : Thread Cert.ActScatterIdeal.nD Cert.ActScatterIdeal.τ).loc Cert.ActScatterIdeal.main_arg0)
          ∧ r.2.mem ((c.tc : Thread Cert.ActScatterIdeal.nD Cert.ActScatterIdeal.τ).loc Cert.ActScatterIdeal.main_arg1) = m ((c.tc : Thread Cert.ActScatterIdeal.nD Cert.ActScatterIdeal.τ).loc Cert.ActScatterIdeal.main_arg1)
          ∧ r.2.mem ((c.tc : Thread Cert.ActScatterIdeal.nD Cert.ActScatterIdeal.τ).loc Cert.ActScatterIdeal.main_arg2) = m ((c.tc : Thread Cert.ActScatterIdeal.nD Cert.ActScatterIdeal.τ).loc Cert.ActScatterIdeal.main_arg2)
          ∧ r.2.mem ((c.tc : Thread Cert.ActScatterIdeal.nD Cert.ActScatterIdeal.τ).loc Cert.ActScatterIdeal.main_arg3) = m ((c.tc : Thread Cert.ActScatterIdeal.nD Cert.ActScatterIdeal.τ).loc Cert.ActScatterIdeal.main_arg3)
          ∧ r.2.mem ((c.tc : Thread Cert.ActScatterIdeal.nD Cert.ActScatterIdeal.τ).loc Cert.ActScatterIdeal.main_arg4) = m ((c.tc : Thread Cert.ActScatterIdeal.nD Cert.ActScatterIdeal.τ).loc Cert.ActScatterIdeal.main_arg4)
          ∧ r.2.mem ((c.tc : Thread Cert.ActScatterIdeal.nD Cert.ActScatterIdeal.τ).loc Cert.ActScatterIdeal.main_arg5) = m ((c.tc : Thread Cert.ActScatterIdeal.nD Cert.ActScatterIdeal.τ).loc Cert.ActScatterIdeal.main_arg5)
          ∧ r.2.mem ((c.tc : Thread Cert.ActScatterIdeal.nD Cert.ActScatterIdeal.τ).loc Cert.ActScatterIdeal.main_arg6) = m ((c.tc : Thread Cert.ActScatterIdeal.nD Cert.ActScatterIdeal.τ).loc Cert.ActScatterIdeal.main_arg6)
          ∧ r.2.mem ((c.tc : Thread Cert.ActScatterIdeal.nD Cert.ActScatterIdeal.τ).loc Cert.ActScatterIdeal.main_arg7) = m ((c.tc : Thread Cert.ActScatterIdeal.nD Cert.ActScatterIdeal.τ).loc Cert.ActScatterIdeal.main_arg7)
          ∧ r.2.mem ((c.tc : Thread Cert.ActScatterIdeal.nD Cert.ActScatterIdeal.τ).loc Cert.ActScatterIdeal.main_arg8) = m ((c.tc : Thread Cert.ActScatterIdeal.nD Cert.ActScatterIdeal.τ).loc Cert.ActScatterIdeal.main_arg8)
          ∧ r.2.mem ((c.tc : Thread Cert.ActScatterIdeal.nD Cert.ActScatterIdeal.τ).loc Cert.ActScatterIdeal.main_arg9) = m ((c.tc : Thread Cert.ActScatterIdeal.nD Cert.ActScatterIdeal.τ).loc Cert.ActScatterIdeal.main_arg9)
          ∧ r.2.mem ((c.tc : Thread Cert.ActScatterIdeal.nD Cert.ActScatterIdeal.τ).loc Cert.ActScatterIdeal.main_arg10) = m ((c.tc : Thread Cert.ActScatterIdeal.nD Cert.ActScatterIdeal.τ).loc Cert.ActScatterIdeal.main_arg10))
      ∧ θ_run (Cert.ActScatterRefIdeal.defs (F := Ideal)) (onTc (τ := Cert.ActScatterRefIdeal.τ) (Cert.ActScatterRefIdeal.main (F := Ideal))) ⟨m', fun _ => 0, g'⟩ (fun r =>
          r.2.mem (((0 : Dev Cert.ActScatterRefIdeal.nD).tc : Thread Cert.ActScatterRefIdeal.nD Cert.ActScatterRefIdeal.τ).loc Cert.ActScatterRefIdeal.main_v26) = v0
          ∧ r.2.mem (((0 : Dev Cert.ActScatterRefIdeal.nD).tc : Thread Cert.ActScatterRefIdeal.nD Cert.ActScatterRefIdeal.τ).loc Cert.ActScatterRefIdeal.main_v27) = v1
          ∧ r.2.mem (((0 : Dev Cert.ActScatterRefIdeal.nD).tc : Thread Cert.ActScatterRefIdeal.nD Cert.ActScatterRefIdeal.τ).loc Cert.ActScatterRefIdeal.main_v28) = v2
          ∧ r.2.mem (((0 : Dev Cert.ActScatterRefIdeal.nD).tc : Thread Cert.ActScatterRefIdeal.nD Cert.ActScatterRefIdeal.τ).loc Cert.ActScatterRefIdeal.main_v29) = v3
          ∧ r.2.mem (((0 : Dev Cert.ActScatterRefIdeal.nD).tc : Thread Cert.ActScatterRefIdeal.nD Cert.ActScatterRefIdeal.τ).loc Cert.ActScatterRefIdeal.main_v31) = v4
          ∧ r.2.mem (((0 : Dev Cert.ActScatterRefIdeal.nD).tc : Thread Cert.ActScatterRefIdeal.nD Cert.ActScatterRefIdeal.τ).loc Cert.ActScatterRefIdeal.main_v33) = v5
          ∧ r.2.mem (((0 : Dev Cert.ActScatterRefIdeal.nD).tc : Thread Cert.ActScatterRefIdeal.nD Cert.ActScatterRefIdeal.τ).loc Cert.ActScatterRefIdeal.main_v35) = v6
          ∧ r.2.mem (((0 : Dev Cert.ActScatterRefIdeal.nD).tc : Thread Cert.ActScatterRefIdeal.nD Cert.ActScatterRefIdeal.τ).loc Cert.ActScatterRefIdeal.main_v37) = v7
          ∧ r.2.mem (((0 : Dev Cert.ActScatterRefIdeal.nD).tc : Thread Cert.ActScatterRefIdeal.nD Cert.ActScatterRefIdeal.τ).loc Cert.ActScatterRefIdeal.main_v39) = v8
          ∧ r.2.mem (((0 : Dev Cert.ActScatterRefIdeal.nD).tc : Thread Cert.ActScatterRefIdeal.nD Cert.ActScatterRefIdeal.τ).loc Cert.ActScatterRefIdeal.main_v41) = v9
          ∧ r.2.mem (((0 : Dev Cert.ActScatterRefIdeal.nD).tc : Thread Cert.ActScatterRefIdeal.nD Cert.ActScatterRefIdeal.τ).loc Cert.ActScatterRefIdeal.main_v43) = v10
          ∧ r.2.mem (((0 : Dev Cert.ActScatterRefIdeal.nD).tc : Thread Cert.ActScatterRefIdeal.nD Cert.ActScatterRefIdeal.τ).loc Cert.ActScatterRefIdeal.main_arg0) = m' (((0 : Dev Cert.ActScatterRefIdeal.nD).tc : Thread Cert.ActScatterRefIdeal.nD Cert.ActScatterRefIdeal.τ).loc Cert.ActScatterRefIdeal.main_arg0)
          ∧ r.2.mem (((0 : Dev Cert.ActScatterRefIdeal.nD).tc : Thread Cert.ActScatterRefIdeal.nD Cert.ActScatterRefIdeal.τ).loc Cert.ActScatterRefIdeal.main_arg1) = m' (((0 : Dev Cert.ActScatterRefIdeal.nD).tc : Thread Cert.ActScatterRefIdeal.nD Cert.ActScatterRefIdeal.τ).loc Cert.ActScatterRefIdeal.main_arg1)
          ∧ r.2.mem (((0 : Dev Cert.ActScatterRefIdeal.nD).tc : Thread Cert.ActScatterRefIdeal.nD Cert.ActScatterRefIdeal.τ).loc Cert.ActScatterRefIdeal.main_arg2) = m' (((0 : Dev Cert.ActScatterRefIdeal.nD).tc : Thread Cert.ActScatterRefIdeal.nD Cert.ActScatterRefIdeal.τ).loc Cert.ActScatterRefIdeal.main_arg2)
          ∧ r.2.mem (((0 : Dev Cert.ActScatterRefIdeal.nD).tc : Thread Cert.ActScatterRefIdeal.nD Cert.ActScatterRefIdeal.τ).loc Cert.ActScatterRefIdeal.main_arg3) = m' (((0 : Dev Cert.ActScatterRefIdeal.nD).tc : Thread Cert.ActScatterRefIdeal.nD Cert.ActScatterRefIdeal.τ).loc Cert.ActScatterRefIdeal.main_arg3)
          ∧ r.2.mem (((0 : Dev Cert.ActScatterRefIdeal.nD).tc : Thread Cert.ActScatterRefIdeal.nD Cert.ActScatterRefIdeal.τ).loc Cert.ActScatterRefIdeal.main_arg4) = m' (((0 : Dev Cert.ActScatterRefIdeal.nD).tc : Thread Cert.ActScatterRefIdeal.nD Cert.ActScatterRefIdeal.τ).loc Cert.ActScatterRefIdeal.main_arg4)
          ∧ r.2.mem (((0 : Dev Cert.ActScatterRefIdeal.nD).tc : Thread Cert.ActScatterRefIdeal.nD Cert.ActScatterRefIdeal.τ).loc Cert.ActScatterRefIdeal.main_arg5) = m' (((0 : Dev Cert.ActScatterRefIdeal.nD).tc : Thread Cert.ActScatterRefIdeal.nD Cert.ActScatterRefIdeal.τ).loc Cert.ActScatterRefIdeal.main_arg5)
          ∧ r.2.mem (((0 : Dev Cert.ActScatterRefIdeal.nD).tc : Thread Cert.ActScatterRefIdeal.nD Cert.ActScatterRefIdeal.τ).loc Cert.ActScatterRefIdeal.main_arg6) = m' (((0 : Dev Cert.ActScatterRefIdeal.nD).tc : Thread Cert.ActScatterRefIdeal.nD Cert.ActScatterRefIdeal.τ).loc Cert.ActScatterRefIdeal.main_arg6)
          ∧ r.2.mem (((0 : Dev Cert.ActScatterRefIdeal.nD).tc : Thread Cert.ActScatterRefIdeal.nD Cert.ActScatterRefIdeal.τ).loc Cert.ActScatterRefIdeal.main_arg7) = m' (((0 : Dev Cert.ActScatterRefIdeal.nD).tc : Thread Cert.ActScatterRefIdeal.nD Cert.ActScatterRefIdeal.τ).loc Cert.ActScatterRefIdeal.main_arg7)
          ∧ r.2.mem (((0 : Dev Cert.ActScatterRefIdeal.nD).tc : Thread Cert.ActScatterRefIdeal.nD Cert.ActScatterRefIdeal.τ).loc Cert.ActScatterRefIdeal.main_arg8) = m' (((0 : Dev Cert.ActScatterRefIdeal.nD).tc : Thread Cert.ActScatterRefIdeal.nD Cert.ActScatterRefIdeal.τ).loc Cert.ActScatterRefIdeal.main_arg8)
          ∧ r.2.mem (((0 : Dev Cert.ActScatterRefIdeal.nD).tc : Thread Cert.ActScatterRefIdeal.nD Cert.ActScatterRefIdeal.τ).loc Cert.ActScatterRefIdeal.main_arg9) = m' (((0 : Dev Cert.ActScatterRefIdeal.nD).tc : Thread Cert.ActScatterRefIdeal.nD Cert.ActScatterRefIdeal.τ).loc Cert.ActScatterRefIdeal.main_arg9)
          ∧ r.2.mem (((0 : Dev Cert.ActScatterRefIdeal.nD).tc : Thread Cert.ActScatterRefIdeal.nD Cert.ActScatterRefIdeal.τ).loc Cert.ActScatterRefIdeal.main_arg10) = m' (((0 : Dev Cert.ActScatterRefIdeal.nD).tc : Thread Cert.ActScatterRefIdeal.nD Cert.ActScatterRefIdeal.τ).loc Cert.ActScatterRefIdeal.main_arg10))

def preserves_FwdGather_FwdGatherIdeal : Prop :=
  True

def algebraic_FwdGatherIdeal_FwdGatherRefIdeal_on_received [hFwdGatherIdeal : Cert.FwdGatherIdeal.Facts] [hFwdGatherRefIdeal : Cert.FwdGatherRefIdeal.Facts] [hOn_received : Cert.On_received.Facts] : Prop :=
  ∀ (m : (ℓ : Loc Cert.FwdGatherIdeal.nD Cert.FwdGatherIdeal.τ Cert.FwdGatherIdeal.sig) → Buf (Elt Ideal) ℓ) (g : Dev Cert.FwdGatherIdeal.nD → PrngReg)
    (m' : (ℓ : Loc Cert.FwdGatherRefIdeal.nD Cert.FwdGatherRefIdeal.τ Cert.FwdGatherRefIdeal.sig) → Buf (Elt Ideal) ℓ) (g' : Dev Cert.FwdGatherRefIdeal.nD → PrngReg), Pre_FwdGatherIdeal m →
    (∀ c : Dev Cert.FwdGatherIdeal.nD,
      m ((c.tc : Thread Cert.FwdGatherIdeal.nD Cert.FwdGatherIdeal.τ).loc Cert.FwdGatherIdeal.main_arg0) = Layout.block ⟨2, ![8192, 1024]⟩ ⟨2, ![65536, 1024]⟩ 0 8 c (m' (((0 : Dev Cert.FwdGatherRefIdeal.nD).tc : Thread Cert.FwdGatherRefIdeal.nD Cert.FwdGatherRefIdeal.τ).loc Cert.FwdGatherRefIdeal.main_arg0))
      ∧ m ((c.tc : Thread Cert.FwdGatherIdeal.nD Cert.FwdGatherIdeal.τ).loc Cert.FwdGatherIdeal.main_arg1) = m' (((0 : Dev Cert.FwdGatherRefIdeal.nD).tc : Thread Cert.FwdGatherRefIdeal.nD Cert.FwdGatherRefIdeal.τ).loc Cert.FwdGatherRefIdeal.main_arg1)
      ∧ m ((c.tc : Thread Cert.FwdGatherIdeal.nD Cert.FwdGatherIdeal.τ).loc Cert.FwdGatherIdeal.main_arg2) = m' (((0 : Dev Cert.FwdGatherRefIdeal.nD).tc : Thread Cert.FwdGatherRefIdeal.nD Cert.FwdGatherRefIdeal.τ).loc Cert.FwdGatherRefIdeal.main_arg2)
      ∧ m ((c.tc : Thread Cert.FwdGatherIdeal.nD Cert.FwdGatherIdeal.τ).loc Cert.FwdGatherIdeal.main_arg3) = m' (((0 : Dev Cert.FwdGatherRefIdeal.nD).tc : Thread Cert.FwdGatherRefIdeal.nD Cert.FwdGatherRefIdeal.τ).loc Cert.FwdGatherRefIdeal.main_arg3)
      ∧ m ((c.tc : Thread Cert.FwdGatherIdeal.nD Cert.FwdGatherIdeal.τ).loc Cert.FwdGatherIdeal.main_arg4) = m' (((0 : Dev Cert.FwdGatherRefIdeal.nD).tc : Thread Cert.FwdGatherRefIdeal.nD Cert.FwdGatherRefIdeal.τ).loc Cert.FwdGatherRefIdeal.main_arg4)
      ∧ m ((c.tc : Thread Cert.FwdGatherIdeal.nD Cert.FwdGatherIdeal.τ).loc Cert.FwdGatherIdeal.main_arg5) = Layout.blockN ⟨2, ![1024, 768]⟩ ⟨2, ![4096, 768]⟩ (Layout.meshBlock [2, 2, 2] ![[0, 1], []] c) (m' (((0 : Dev Cert.FwdGatherRefIdeal.nD).tc : Thread Cert.FwdGatherRefIdeal.nD Cert.FwdGatherRefIdeal.τ).loc Cert.FwdGatherRefIdeal.main_arg5))
      ∧ m ((c.tc : Thread Cert.FwdGatherIdeal.nD Cert.FwdGatherIdeal.τ).loc Cert.FwdGatherIdeal.main_arg6) = Layout.blockN ⟨2, ![256, 1024]⟩ ⟨2, ![1024, 1024]⟩ (Layout.meshBlock [2, 2, 2] ![[0, 1], []] c) (m' (((0 : Dev Cert.FwdGatherRefIdeal.nD).tc : Thread Cert.FwdGatherRefIdeal.nD Cert.FwdGatherRefIdeal.τ).loc Cert.FwdGatherRefIdeal.main_arg6))
      ∧ m ((c.tc : Thread Cert.FwdGatherIdeal.nD Cert.FwdGatherIdeal.τ).loc Cert.FwdGatherIdeal.main_arg7) = Layout.blockN ⟨2, ![704, 1024]⟩ ⟨2, ![2816, 1024]⟩ (Layout.meshBlock [2, 2, 2] ![[0, 1], []] c) (m' (((0 : Dev Cert.FwdGatherRefIdeal.nD).tc : Thread Cert.FwdGatherRefIdeal.nD Cert.FwdGatherRefIdeal.τ).loc Cert.FwdGatherRefIdeal.main_arg7))
      ∧ m ((c.tc : Thread Cert.FwdGatherIdeal.nD Cert.FwdGatherIdeal.τ).loc Cert.FwdGatherIdeal.main_arg8) = Layout.blockN ⟨2, ![704, 1024]⟩ ⟨2, ![2816, 1024]⟩ (Layout.meshBlock [2, 2, 2] ![[0, 1], []] c) (m' (((0 : Dev Cert.FwdGatherRefIdeal.nD).tc : Thread Cert.FwdGatherRefIdeal.nD Cert.FwdGatherRefIdeal.τ).loc Cert.FwdGatherRefIdeal.main_arg8))
      ∧ m ((c.tc : Thread Cert.FwdGatherIdeal.nD Cert.FwdGatherIdeal.τ).loc Cert.FwdGatherIdeal.main_arg9) = Layout.blockN ⟨2, ![704, 1024]⟩ ⟨2, ![2816, 1024]⟩ (Layout.meshBlock [2, 2, 2] ![[0, 1], []] c) (m' (((0 : Dev Cert.FwdGatherRefIdeal.nD).tc : Thread Cert.FwdGatherRefIdeal.nD Cert.FwdGatherRefIdeal.τ).loc Cert.FwdGatherRefIdeal.main_arg9))
      ∧ m ((c.tc : Thread Cert.FwdGatherIdeal.nD Cert.FwdGatherIdeal.τ).loc Cert.FwdGatherIdeal.main_arg10) = Layout.blockN ⟨2, ![256, 1024]⟩ ⟨2, ![1024, 1024]⟩ (Layout.meshBlock [2, 2, 2] ![[0, 1], []] c) (m' (((0 : Dev Cert.FwdGatherRefIdeal.nD).tc : Thread Cert.FwdGatherRefIdeal.nD Cert.FwdGatherRefIdeal.τ).loc Cert.FwdGatherRefIdeal.main_arg10))
      ∧ m ((c.tc : Thread Cert.FwdGatherIdeal.nD Cert.FwdGatherIdeal.τ).loc Cert.FwdGatherIdeal.main_arg11) = Layout.blockN ⟨2, ![256, 256]⟩ ⟨2, ![1024, 256]⟩ (Layout.meshBlock [2, 2, 2] ![[0, 1], []] c) (m' (((0 : Dev Cert.FwdGatherRefIdeal.nD).tc : Thread Cert.FwdGatherRefIdeal.nD Cert.FwdGatherRefIdeal.τ).loc Cert.FwdGatherRefIdeal.main_arg11))) →
    ∃ (v0 : Buf (Elt Ideal) (((0 : Dev Cert.FwdGatherRefIdeal.nD).tc : Thread Cert.FwdGatherRefIdeal.nD Cert.FwdGatherRefIdeal.τ).loc Cert.FwdGatherRefIdeal.main_v34)) (v1 : Buf (Elt Ideal) (((0 : Dev Cert.FwdGatherRefIdeal.nD).tc : Thread Cert.FwdGatherRefIdeal.nD Cert.FwdGatherRefIdeal.τ).loc Cert.FwdGatherRefIdeal.main_v35)) (v2 : Buf (Elt Ideal) (((0 : Dev Cert.FwdGatherRefIdeal.nD).tc : Thread Cert.FwdGatherRefIdeal.nD Cert.FwdGatherRefIdeal.τ).loc Cert.FwdGatherRefIdeal.main_v36)) (v3 : Buf (Elt Ideal) (((0 : Dev Cert.FwdGatherRefIdeal.nD).tc : Thread Cert.FwdGatherRefIdeal.nD Cert.FwdGatherRefIdeal.τ).loc Cert.FwdGatherRefIdeal.main_v37)) (v4 : Buf (Elt Ideal) (((0 : Dev Cert.FwdGatherRefIdeal.nD).tc : Thread Cert.FwdGatherRefIdeal.nD Cert.FwdGatherRefIdeal.τ).loc Cert.FwdGatherRefIdeal.main_v40)) (v5 : Buf (Elt Ideal) (((0 : Dev Cert.FwdGatherRefIdeal.nD).tc : Thread Cert.FwdGatherRefIdeal.nD Cert.FwdGatherRefIdeal.τ).loc Cert.FwdGatherRefIdeal.main_v43)) (v6 : Buf (Elt Ideal) (((0 : Dev Cert.FwdGatherRefIdeal.nD).tc : Thread Cert.FwdGatherRefIdeal.nD Cert.FwdGatherRefIdeal.τ).loc Cert.FwdGatherRefIdeal.main_v46)) (v7 : Buf (Elt Ideal) (((0 : Dev Cert.FwdGatherRefIdeal.nD).tc : Thread Cert.FwdGatherRefIdeal.nD Cert.FwdGatherRefIdeal.τ).loc Cert.FwdGatherRefIdeal.main_v49)) (v8 : Buf (Elt Ideal) (((0 : Dev Cert.FwdGatherRefIdeal.nD).tc : Thread Cert.FwdGatherRefIdeal.nD Cert.FwdGatherRefIdeal.τ).loc Cert.FwdGatherRefIdeal.main_v52)) (v9 : Buf (Elt Ideal) (((0 : Dev Cert.FwdGatherRefIdeal.nD).tc : Thread Cert.FwdGatherRefIdeal.nD Cert.FwdGatherRefIdeal.τ).loc Cert.FwdGatherRefIdeal.main_v55)) (v10 : Buf (Elt Ideal) (((0 : Dev Cert.FwdGatherRefIdeal.nD).tc : Thread Cert.FwdGatherRefIdeal.nD Cert.FwdGatherRefIdeal.τ).loc Cert.FwdGatherRefIdeal.main_v58)),
      θ_run (Cert.FwdGatherIdeal.defs (F := Ideal)) (onTc (τ := Cert.FwdGatherIdeal.τ) (Cert.FwdGatherIdeal.main (F := Ideal))) ⟨m, fun _ => 0, g⟩ (fun r => ∀ c : Dev Cert.FwdGatherIdeal.nD,
          (∀ i : (⟨2, ![8192, 1024]⟩ : Shape).Idx, (Layout.block ⟨2, ![8192, 1024]⟩ ⟨2, ![65536, 1024]⟩ 0 8 c ((Cert.On_received.fn (F := Ideal) (m' (((0 : Dev Cert.FwdGatherRefIdeal.nD).tc : Thread Cert.FwdGatherRefIdeal.nD Cert.FwdGatherRefIdeal.τ).loc Cert.FwdGatherRefIdeal.main_arg0)) (m' (((0 : Dev Cert.FwdGatherRefIdeal.nD).tc : Thread Cert.FwdGatherRefIdeal.nD Cert.FwdGatherRefIdeal.τ).loc Cert.FwdGatherRefIdeal.main_arg1)) (m' (((0 : Dev Cert.FwdGatherRefIdeal.nD).tc : Thread Cert.FwdGatherRefIdeal.nD Cert.FwdGatherRefIdeal.τ).loc Cert.FwdGatherRefIdeal.main_arg2)) (m' (((0 : Dev Cert.FwdGatherRefIdeal.nD).tc : Thread Cert.FwdGatherRefIdeal.nD Cert.FwdGatherRefIdeal.τ).loc Cert.FwdGatherRefIdeal.main_arg3)) (m' (((0 : Dev Cert.FwdGatherRefIdeal.nD).tc : Thread Cert.FwdGatherRefIdeal.nD Cert.FwdGatherRefIdeal.τ).loc Cert.FwdGatherRefIdeal.main_arg4)) (m' (((0 : Dev Cert.FwdGatherRefIdeal.nD).tc : Thread Cert.FwdGatherRefIdeal.nD Cert.FwdGatherRefIdeal.τ).loc Cert.FwdGatherRefIdeal.main_arg5)) (m' (((0 : Dev Cert.FwdGatherRefIdeal.nD).tc : Thread Cert.FwdGatherRefIdeal.nD Cert.FwdGatherRefIdeal.τ).loc Cert.FwdGatherRefIdeal.main_arg6)) (m' (((0 : Dev Cert.FwdGatherRefIdeal.nD).tc : Thread Cert.FwdGatherRefIdeal.nD Cert.FwdGatherRefIdeal.τ).loc Cert.FwdGatherRefIdeal.main_arg7)) (m' (((0 : Dev Cert.FwdGatherRefIdeal.nD).tc : Thread Cert.FwdGatherRefIdeal.nD Cert.FwdGatherRefIdeal.τ).loc Cert.FwdGatherRefIdeal.main_arg8)) (m' (((0 : Dev Cert.FwdGatherRefIdeal.nD).tc : Thread Cert.FwdGatherRefIdeal.nD Cert.FwdGatherRefIdeal.τ).loc Cert.FwdGatherRefIdeal.main_arg9)) (m' (((0 : Dev Cert.FwdGatherRefIdeal.nD).tc : Thread Cert.FwdGatherRefIdeal.nD Cert.FwdGatherRefIdeal.τ).loc Cert.FwdGatherRefIdeal.main_arg10)) (m' (((0 : Dev Cert.FwdGatherRefIdeal.nD).tc : Thread Cert.FwdGatherRefIdeal.nD Cert.FwdGatherRefIdeal.τ).loc Cert.FwdGatherRefIdeal.main_arg11))).1) : (⟨2, ![8192, 1024]⟩ : Shape).Idx → _) i = 1#1 → r.2.mem ((c.tc : Thread Cert.FwdGatherIdeal.nD Cert.FwdGatherIdeal.τ).loc Cert.FwdGatherIdeal.main_v1_0) i = (Layout.block ⟨2, ![8192, 1024]⟩ ⟨2, ![65536, 1024]⟩ 0 8 c v0 : (⟨2, ![8192, 1024]⟩ : Shape).Idx → _) i)
          ∧ (∀ i : (⟨2, ![8192, 1024]⟩ : Shape).Idx, (Layout.block ⟨2, ![8192, 1024]⟩ ⟨2, ![65536, 1024]⟩ 0 8 c ((Cert.On_received.fn (F := Ideal) (m' (((0 : Dev Cert.FwdGatherRefIdeal.nD).tc : Thread Cert.FwdGatherRefIdeal.nD Cert.FwdGatherRefIdeal.τ).loc Cert.FwdGatherRefIdeal.main_arg0)) (m' (((0 : Dev Cert.FwdGatherRefIdeal.nD).tc : Thread Cert.FwdGatherRefIdeal.nD Cert.FwdGatherRefIdeal.τ).loc Cert.FwdGatherRefIdeal.main_arg1)) (m' (((0 : Dev Cert.FwdGatherRefIdeal.nD).tc : Thread Cert.FwdGatherRefIdeal.nD Cert.FwdGatherRefIdeal.τ).loc Cert.FwdGatherRefIdeal.main_arg2)) (m' (((0 : Dev Cert.FwdGatherRefIdeal.nD).tc : Thread Cert.FwdGatherRefIdeal.nD Cert.FwdGatherRefIdeal.τ).loc Cert.FwdGatherRefIdeal.main_arg3)) (m' (((0 : Dev Cert.FwdGatherRefIdeal.nD).tc : Thread Cert.FwdGatherRefIdeal.nD Cert.FwdGatherRefIdeal.τ).loc Cert.FwdGatherRefIdeal.main_arg4)) (m' (((0 : Dev Cert.FwdGatherRefIdeal.nD).tc : Thread Cert.FwdGatherRefIdeal.nD Cert.FwdGatherRefIdeal.τ).loc Cert.FwdGatherRefIdeal.main_arg5)) (m' (((0 : Dev Cert.FwdGatherRefIdeal.nD).tc : Thread Cert.FwdGatherRefIdeal.nD Cert.FwdGatherRefIdeal.τ).loc Cert.FwdGatherRefIdeal.main_arg6)) (m' (((0 : Dev Cert.FwdGatherRefIdeal.nD).tc : Thread Cert.FwdGatherRefIdeal.nD Cert.FwdGatherRefIdeal.τ).loc Cert.FwdGatherRefIdeal.main_arg7)) (m' (((0 : Dev Cert.FwdGatherRefIdeal.nD).tc : Thread Cert.FwdGatherRefIdeal.nD Cert.FwdGatherRefIdeal.τ).loc Cert.FwdGatherRefIdeal.main_arg8)) (m' (((0 : Dev Cert.FwdGatherRefIdeal.nD).tc : Thread Cert.FwdGatherRefIdeal.nD Cert.FwdGatherRefIdeal.τ).loc Cert.FwdGatherRefIdeal.main_arg9)) (m' (((0 : Dev Cert.FwdGatherRefIdeal.nD).tc : Thread Cert.FwdGatherRefIdeal.nD Cert.FwdGatherRefIdeal.τ).loc Cert.FwdGatherRefIdeal.main_arg10)) (m' (((0 : Dev Cert.FwdGatherRefIdeal.nD).tc : Thread Cert.FwdGatherRefIdeal.nD Cert.FwdGatherRefIdeal.τ).loc Cert.FwdGatherRefIdeal.main_arg11))).2.1) : (⟨2, ![8192, 1024]⟩ : Shape).Idx → _) i = 1#1 → r.2.mem ((c.tc : Thread Cert.FwdGatherIdeal.nD Cert.FwdGatherIdeal.τ).loc Cert.FwdGatherIdeal.main_v1_1) i = (Layout.block ⟨2, ![8192, 1024]⟩ ⟨2, ![65536, 1024]⟩ 0 8 c v1 : (⟨2, ![8192, 1024]⟩ : Shape).Idx → _) i)
          ∧ (∀ i : (⟨3, ![4, 8192, 704]⟩ : Shape).Idx, (Layout.block ⟨3, ![4, 8192, 704]⟩ ⟨3, ![32, 8192, 704]⟩ 0 8 c ((Cert.On_received.fn (F := Ideal) (m' (((0 : Dev Cert.FwdGatherRefIdeal.nD).tc : Thread Cert.FwdGatherRefIdeal.nD Cert.FwdGatherRefIdeal.τ).loc Cert.FwdGatherRefIdeal.main_arg0)) (m' (((0 : Dev Cert.FwdGatherRefIdeal.nD).tc : Thread Cert.FwdGatherRefIdeal.nD Cert.FwdGatherRefIdeal.τ).loc Cert.FwdGatherRefIdeal.main_arg1)) (m' (((0 : Dev Cert.FwdGatherRefIdeal.nD).tc : Thread Cert.FwdGatherRefIdeal.nD Cert.FwdGatherRefIdeal.τ).loc Cert.FwdGatherRefIdeal.main_arg2)) (m' (((0 : Dev Cert.FwdGatherRefIdeal.nD).tc : Thread Cert.FwdGatherRefIdeal.nD Cert.FwdGatherRefIdeal.τ).loc Cert.FwdGatherRefIdeal.main_arg3)) (m' (((0 : Dev Cert.FwdGatherRefIdeal.nD).tc : Thread Cert.FwdGatherRefIdeal.nD Cert.FwdGatherRefIdeal.τ).loc Cert.FwdGatherRefIdeal.main_arg4)) (m' (((0 : Dev Cert.FwdGatherRefIdeal.nD).tc : Thread Cert.FwdGatherRefIdeal.nD Cert.FwdGatherRefIdeal.τ).loc Cert.FwdGatherRefIdeal.main_arg5)) (m' (((0 : Dev Cert.FwdGatherRefIdeal.nD).tc : Thread Cert.FwdGatherRefIdeal.nD Cert.FwdGatherRefIdeal.τ).loc Cert.FwdGatherRefIdeal.main_arg6)) (m' (((0 : Dev Cert.FwdGatherRefIdeal.nD).tc : Thread Cert.FwdGatherRefIdeal.nD Cert.FwdGatherRefIdeal.τ).loc Cert.FwdGatherRefIdeal.main_arg7)) (m' (((0 : Dev Cert.FwdGatherRefIdeal.nD).tc : Thread Cert.FwdGatherRefIdeal.nD Cert.FwdGatherRefIdeal.τ).loc Cert.FwdGatherRefIdeal.main_arg8)) (m' (((0 : Dev Cert.FwdGatherRefIdeal.nD).tc : Thread Cert.FwdGatherRefIdeal.nD Cert.FwdGatherRefIdeal.τ).loc Cert.FwdGatherRefIdeal.main_arg9)) (m' (((0 : Dev Cert.FwdGatherRefIdeal.nD).tc : Thread Cert.FwdGatherRefIdeal.nD Cert.FwdGatherRefIdeal.τ).loc Cert.FwdGatherRefIdeal.main_arg10)) (m' (((0 : Dev Cert.FwdGatherRefIdeal.nD).tc : Thread Cert.FwdGatherRefIdeal.nD Cert.FwdGatherRefIdeal.τ).loc Cert.FwdGatherRefIdeal.main_arg11))).2.2.1) : (⟨3, ![4, 8192, 704]⟩ : Shape).Idx → _) i = 1#1 → r.2.mem ((c.tc : Thread Cert.FwdGatherIdeal.nD Cert.FwdGatherIdeal.τ).loc Cert.FwdGatherIdeal.main_v1_2) i = (Layout.block ⟨3, ![4, 8192, 704]⟩ ⟨3, ![32, 8192, 704]⟩ 0 8 c v2 : (⟨3, ![4, 8192, 704]⟩ : Shape).Idx → _) i)
          ∧ (∀ i : (⟨3, ![4, 8192, 704]⟩ : Shape).Idx, (Layout.block ⟨3, ![4, 8192, 704]⟩ ⟨3, ![32, 8192, 704]⟩ 0 8 c ((Cert.On_received.fn (F := Ideal) (m' (((0 : Dev Cert.FwdGatherRefIdeal.nD).tc : Thread Cert.FwdGatherRefIdeal.nD Cert.FwdGatherRefIdeal.τ).loc Cert.FwdGatherRefIdeal.main_arg0)) (m' (((0 : Dev Cert.FwdGatherRefIdeal.nD).tc : Thread Cert.FwdGatherRefIdeal.nD Cert.FwdGatherRefIdeal.τ).loc Cert.FwdGatherRefIdeal.main_arg1)) (m' (((0 : Dev Cert.FwdGatherRefIdeal.nD).tc : Thread Cert.FwdGatherRefIdeal.nD Cert.FwdGatherRefIdeal.τ).loc Cert.FwdGatherRefIdeal.main_arg2)) (m' (((0 : Dev Cert.FwdGatherRefIdeal.nD).tc : Thread Cert.FwdGatherRefIdeal.nD Cert.FwdGatherRefIdeal.τ).loc Cert.FwdGatherRefIdeal.main_arg3)) (m' (((0 : Dev Cert.FwdGatherRefIdeal.nD).tc : Thread Cert.FwdGatherRefIdeal.nD Cert.FwdGatherRefIdeal.τ).loc Cert.FwdGatherRefIdeal.main_arg4)) (m' (((0 : Dev Cert.FwdGatherRefIdeal.nD).tc : Thread Cert.FwdGatherRefIdeal.nD Cert.FwdGatherRefIdeal.τ).loc Cert.FwdGatherRefIdeal.main_arg5)) (m' (((0 : Dev Cert.FwdGatherRefIdeal.nD).tc : Thread Cert.FwdGatherRefIdeal.nD Cert.FwdGatherRefIdeal.τ).loc Cert.FwdGatherRefIdeal.main_arg6)) (m' (((0 : Dev Cert.FwdGatherRefIdeal.nD).tc : Thread Cert.FwdGatherRefIdeal.nD Cert.FwdGatherRefIdeal.τ).loc Cert.FwdGatherRefIdeal.main_arg7)) (m' (((0 : Dev Cert.FwdGatherRefIdeal.nD).tc : Thread Cert.FwdGatherRefIdeal.nD Cert.FwdGatherRefIdeal.τ).loc Cert.FwdGatherRefIdeal.main_arg8)) (m' (((0 : Dev Cert.FwdGatherRefIdeal.nD).tc : Thread Cert.FwdGatherRefIdeal.nD Cert.FwdGatherRefIdeal.τ).loc Cert.FwdGatherRefIdeal.main_arg9)) (m' (((0 : Dev Cert.FwdGatherRefIdeal.nD).tc : Thread Cert.FwdGatherRefIdeal.nD Cert.FwdGatherRefIdeal.τ).loc Cert.FwdGatherRefIdeal.main_arg10)) (m' (((0 : Dev Cert.FwdGatherRefIdeal.nD).tc : Thread Cert.FwdGatherRefIdeal.nD Cert.FwdGatherRefIdeal.τ).loc Cert.FwdGatherRefIdeal.main_arg11))).2.2.2.1) : (⟨3, ![4, 8192, 704]⟩ : Shape).Idx → _) i = 1#1 → r.2.mem ((c.tc : Thread Cert.FwdGatherIdeal.nD Cert.FwdGatherIdeal.τ).loc Cert.FwdGatherIdeal.main_v1_3) i = (Layout.block ⟨3, ![4, 8192, 704]⟩ ⟨3, ![32, 8192, 704]⟩ 0 8 c v3 : (⟨3, ![4, 8192, 704]⟩ : Shape).Idx → _) i)
          ∧ (∀ i : (⟨3, ![4, 1024, 768]⟩ : Shape).Idx, (Layout.block ⟨3, ![4, 1024, 768]⟩ ⟨3, ![32, 1024, 768]⟩ 0 8 c ((Cert.On_received.fn (F := Ideal) (m' (((0 : Dev Cert.FwdGatherRefIdeal.nD).tc : Thread Cert.FwdGatherRefIdeal.nD Cert.FwdGatherRefIdeal.τ).loc Cert.FwdGatherRefIdeal.main_arg0)) (m' (((0 : Dev Cert.FwdGatherRefIdeal.nD).tc : Thread Cert.FwdGatherRefIdeal.nD Cert.FwdGatherRefIdeal.τ).loc Cert.FwdGatherRefIdeal.main_arg1)) (m' (((0 : Dev Cert.FwdGatherRefIdeal.nD).tc : Thread Cert.FwdGatherRefIdeal.nD Cert.FwdGatherRefIdeal.τ).loc Cert.FwdGatherRefIdeal.main_arg2)) (m' (((0 : Dev Cert.FwdGatherRefIdeal.nD).tc : Thread Cert.FwdGatherRefIdeal.nD Cert.FwdGatherRefIdeal.τ).loc Cert.FwdGatherRefIdeal.main_arg3)) (m' (((0 : Dev Cert.FwdGatherRefIdeal.nD).tc : Thread Cert.FwdGatherRefIdeal.nD Cert.FwdGatherRefIdeal.τ).loc Cert.FwdGatherRefIdeal.main_arg4)) (m' (((0 : Dev Cert.FwdGatherRefIdeal.nD).tc : Thread Cert.FwdGatherRefIdeal.nD Cert.FwdGatherRefIdeal.τ).loc Cert.FwdGatherRefIdeal.main_arg5)) (m' (((0 : Dev Cert.FwdGatherRefIdeal.nD).tc : Thread Cert.FwdGatherRefIdeal.nD Cert.FwdGatherRefIdeal.τ).loc Cert.FwdGatherRefIdeal.main_arg6)) (m' (((0 : Dev Cert.FwdGatherRefIdeal.nD).tc : Thread Cert.FwdGatherRefIdeal.nD Cert.FwdGatherRefIdeal.τ).loc Cert.FwdGatherRefIdeal.main_arg7)) (m' (((0 : Dev Cert.FwdGatherRefIdeal.nD).tc : Thread Cert.FwdGatherRefIdeal.nD Cert.FwdGatherRefIdeal.τ).loc Cert.FwdGatherRefIdeal.main_arg8)) (m' (((0 : Dev Cert.FwdGatherRefIdeal.nD).tc : Thread Cert.FwdGatherRefIdeal.nD Cert.FwdGatherRefIdeal.τ).loc Cert.FwdGatherRefIdeal.main_arg9)) (m' (((0 : Dev Cert.FwdGatherRefIdeal.nD).tc : Thread Cert.FwdGatherRefIdeal.nD Cert.FwdGatherRefIdeal.τ).loc Cert.FwdGatherRefIdeal.main_arg10)) (m' (((0 : Dev Cert.FwdGatherRefIdeal.nD).tc : Thread Cert.FwdGatherRefIdeal.nD Cert.FwdGatherRefIdeal.τ).loc Cert.FwdGatherRefIdeal.main_arg11))).2.2.2.2.1) : (⟨3, ![4, 1024, 768]⟩ : Shape).Idx → _) i = 1#1 → r.2.mem ((c.tc : Thread Cert.FwdGatherIdeal.nD Cert.FwdGatherIdeal.τ).loc Cert.FwdGatherIdeal.main_v1_4) i = (Layout.block ⟨3, ![4, 1024, 768]⟩ ⟨3, ![32, 1024, 768]⟩ 0 8 c v4 : (⟨3, ![4, 1024, 768]⟩ : Shape).Idx → _) i)
          ∧ (∀ i : (⟨3, ![4, 256, 1024]⟩ : Shape).Idx, (Layout.block ⟨3, ![4, 256, 1024]⟩ ⟨3, ![32, 256, 1024]⟩ 0 8 c ((Cert.On_received.fn (F := Ideal) (m' (((0 : Dev Cert.FwdGatherRefIdeal.nD).tc : Thread Cert.FwdGatherRefIdeal.nD Cert.FwdGatherRefIdeal.τ).loc Cert.FwdGatherRefIdeal.main_arg0)) (m' (((0 : Dev Cert.FwdGatherRefIdeal.nD).tc : Thread Cert.FwdGatherRefIdeal.nD Cert.FwdGatherRefIdeal.τ).loc Cert.FwdGatherRefIdeal.main_arg1)) (m' (((0 : Dev Cert.FwdGatherRefIdeal.nD).tc : Thread Cert.FwdGatherRefIdeal.nD Cert.FwdGatherRefIdeal.τ).loc Cert.FwdGatherRefIdeal.main_arg2)) (m' (((0 : Dev Cert.FwdGatherRefIdeal.nD).tc : Thread Cert.FwdGatherRefIdeal.nD Cert.FwdGatherRefIdeal.τ).loc Cert.FwdGatherRefIdeal.main_arg3)) (m' (((0 : Dev Cert.FwdGatherRefIdeal.nD).tc : Thread Cert.FwdGatherRefIdeal.nD Cert.FwdGatherRefIdeal.τ).loc Cert.FwdGatherRefIdeal.main_arg4)) (m' (((0 : Dev Cert.FwdGatherRefIdeal.nD).tc : Thread Cert.FwdGatherRefIdeal.nD Cert.FwdGatherRefIdeal.τ).loc Cert.FwdGatherRefIdeal.main_arg5)) (m' (((0 : Dev Cert.FwdGatherRefIdeal.nD).tc : Thread Cert.FwdGatherRefIdeal.nD Cert.FwdGatherRefIdeal.τ).loc Cert.FwdGatherRefIdeal.main_arg6)) (m' (((0 : Dev Cert.FwdGatherRefIdeal.nD).tc : Thread Cert.FwdGatherRefIdeal.nD Cert.FwdGatherRefIdeal.τ).loc Cert.FwdGatherRefIdeal.main_arg7)) (m' (((0 : Dev Cert.FwdGatherRefIdeal.nD).tc : Thread Cert.FwdGatherRefIdeal.nD Cert.FwdGatherRefIdeal.τ).loc Cert.FwdGatherRefIdeal.main_arg8)) (m' (((0 : Dev Cert.FwdGatherRefIdeal.nD).tc : Thread Cert.FwdGatherRefIdeal.nD Cert.FwdGatherRefIdeal.τ).loc Cert.FwdGatherRefIdeal.main_arg9)) (m' (((0 : Dev Cert.FwdGatherRefIdeal.nD).tc : Thread Cert.FwdGatherRefIdeal.nD Cert.FwdGatherRefIdeal.τ).loc Cert.FwdGatherRefIdeal.main_arg10)) (m' (((0 : Dev Cert.FwdGatherRefIdeal.nD).tc : Thread Cert.FwdGatherRefIdeal.nD Cert.FwdGatherRefIdeal.τ).loc Cert.FwdGatherRefIdeal.main_arg11))).2.2.2.2.2.1) : (⟨3, ![4, 256, 1024]⟩ : Shape).Idx → _) i = 1#1 → r.2.mem ((c.tc : Thread Cert.FwdGatherIdeal.nD Cert.FwdGatherIdeal.τ).loc Cert.FwdGatherIdeal.main_v1_5) i = (Layout.block ⟨3, ![4, 256, 1024]⟩ ⟨3, ![32, 256, 1024]⟩ 0 8 c v5 : (⟨3, ![4, 256, 1024]⟩ : Shape).Idx → _) i)
          ∧ (∀ i : (⟨3, ![4, 704, 1024]⟩ : Shape).Idx, (Layout.block ⟨3, ![4, 704, 1024]⟩ ⟨3, ![32, 704, 1024]⟩ 0 8 c ((Cert.On_received.fn (F := Ideal) (m' (((0 : Dev Cert.FwdGatherRefIdeal.nD).tc : Thread Cert.FwdGatherRefIdeal.nD Cert.FwdGatherRefIdeal.τ).loc Cert.FwdGatherRefIdeal.main_arg0)) (m' (((0 : Dev Cert.FwdGatherRefIdeal.nD).tc : Thread Cert.FwdGatherRefIdeal.nD Cert.FwdGatherRefIdeal.τ).loc Cert.FwdGatherRefIdeal.main_arg1)) (m' (((0 : Dev Cert.FwdGatherRefIdeal.nD).tc : Thread Cert.FwdGatherRefIdeal.nD Cert.FwdGatherRefIdeal.τ).loc Cert.FwdGatherRefIdeal.main_arg2)) (m' (((0 : Dev Cert.FwdGatherRefIdeal.nD).tc : Thread Cert.FwdGatherRefIdeal.nD Cert.FwdGatherRefIdeal.τ).loc Cert.FwdGatherRefIdeal.main_arg3)) (m' (((0 : Dev Cert.FwdGatherRefIdeal.nD).tc : Thread Cert.FwdGatherRefIdeal.nD Cert.FwdGatherRefIdeal.τ).loc Cert.FwdGatherRefIdeal.main_arg4)) (m' (((0 : Dev Cert.FwdGatherRefIdeal.nD).tc : Thread Cert.FwdGatherRefIdeal.nD Cert.FwdGatherRefIdeal.τ).loc Cert.FwdGatherRefIdeal.main_arg5)) (m' (((0 : Dev Cert.FwdGatherRefIdeal.nD).tc : Thread Cert.FwdGatherRefIdeal.nD Cert.FwdGatherRefIdeal.τ).loc Cert.FwdGatherRefIdeal.main_arg6)) (m' (((0 : Dev Cert.FwdGatherRefIdeal.nD).tc : Thread Cert.FwdGatherRefIdeal.nD Cert.FwdGatherRefIdeal.τ).loc Cert.FwdGatherRefIdeal.main_arg7)) (m' (((0 : Dev Cert.FwdGatherRefIdeal.nD).tc : Thread Cert.FwdGatherRefIdeal.nD Cert.FwdGatherRefIdeal.τ).loc Cert.FwdGatherRefIdeal.main_arg8)) (m' (((0 : Dev Cert.FwdGatherRefIdeal.nD).tc : Thread Cert.FwdGatherRefIdeal.nD Cert.FwdGatherRefIdeal.τ).loc Cert.FwdGatherRefIdeal.main_arg9)) (m' (((0 : Dev Cert.FwdGatherRefIdeal.nD).tc : Thread Cert.FwdGatherRefIdeal.nD Cert.FwdGatherRefIdeal.τ).loc Cert.FwdGatherRefIdeal.main_arg10)) (m' (((0 : Dev Cert.FwdGatherRefIdeal.nD).tc : Thread Cert.FwdGatherRefIdeal.nD Cert.FwdGatherRefIdeal.τ).loc Cert.FwdGatherRefIdeal.main_arg11))).2.2.2.2.2.2.1) : (⟨3, ![4, 704, 1024]⟩ : Shape).Idx → _) i = 1#1 → r.2.mem ((c.tc : Thread Cert.FwdGatherIdeal.nD Cert.FwdGatherIdeal.τ).loc Cert.FwdGatherIdeal.main_v1_6) i = (Layout.block ⟨3, ![4, 704, 1024]⟩ ⟨3, ![32, 704, 1024]⟩ 0 8 c v6 : (⟨3, ![4, 704, 1024]⟩ : Shape).Idx → _) i)
          ∧ (∀ i : (⟨3, ![4, 704, 1024]⟩ : Shape).Idx, (Layout.block ⟨3, ![4, 704, 1024]⟩ ⟨3, ![32, 704, 1024]⟩ 0 8 c ((Cert.On_received.fn (F := Ideal) (m' (((0 : Dev Cert.FwdGatherRefIdeal.nD).tc : Thread Cert.FwdGatherRefIdeal.nD Cert.FwdGatherRefIdeal.τ).loc Cert.FwdGatherRefIdeal.main_arg0)) (m' (((0 : Dev Cert.FwdGatherRefIdeal.nD).tc : Thread Cert.FwdGatherRefIdeal.nD Cert.FwdGatherRefIdeal.τ).loc Cert.FwdGatherRefIdeal.main_arg1)) (m' (((0 : Dev Cert.FwdGatherRefIdeal.nD).tc : Thread Cert.FwdGatherRefIdeal.nD Cert.FwdGatherRefIdeal.τ).loc Cert.FwdGatherRefIdeal.main_arg2)) (m' (((0 : Dev Cert.FwdGatherRefIdeal.nD).tc : Thread Cert.FwdGatherRefIdeal.nD Cert.FwdGatherRefIdeal.τ).loc Cert.FwdGatherRefIdeal.main_arg3)) (m' (((0 : Dev Cert.FwdGatherRefIdeal.nD).tc : Thread Cert.FwdGatherRefIdeal.nD Cert.FwdGatherRefIdeal.τ).loc Cert.FwdGatherRefIdeal.main_arg4)) (m' (((0 : Dev Cert.FwdGatherRefIdeal.nD).tc : Thread Cert.FwdGatherRefIdeal.nD Cert.FwdGatherRefIdeal.τ).loc Cert.FwdGatherRefIdeal.main_arg5)) (m' (((0 : Dev Cert.FwdGatherRefIdeal.nD).tc : Thread Cert.FwdGatherRefIdeal.nD Cert.FwdGatherRefIdeal.τ).loc Cert.FwdGatherRefIdeal.main_arg6)) (m' (((0 : Dev Cert.FwdGatherRefIdeal.nD).tc : Thread Cert.FwdGatherRefIdeal.nD Cert.FwdGatherRefIdeal.τ).loc Cert.FwdGatherRefIdeal.main_arg7)) (m' (((0 : Dev Cert.FwdGatherRefIdeal.nD).tc : Thread Cert.FwdGatherRefIdeal.nD Cert.FwdGatherRefIdeal.τ).loc Cert.FwdGatherRefIdeal.main_arg8)) (m' (((0 : Dev Cert.FwdGatherRefIdeal.nD).tc : Thread Cert.FwdGatherRefIdeal.nD Cert.FwdGatherRefIdeal.τ).loc Cert.FwdGatherRefIdeal.main_arg9)) (m' (((0 : Dev Cert.FwdGatherRefIdeal.nD).tc : Thread Cert.FwdGatherRefIdeal.nD Cert.FwdGatherRefIdeal.τ).loc Cert.FwdGatherRefIdeal.main_arg10)) (m' (((0 : Dev Cert.FwdGatherRefIdeal.nD).tc : Thread Cert.FwdGatherRefIdeal.nD Cert.FwdGatherRefIdeal.τ).loc Cert.FwdGatherRefIdeal.main_arg11))).2.2.2.2.2.2.2.1) : (⟨3, ![4, 704, 1024]⟩ : Shape).Idx → _) i = 1#1 → r.2.mem ((c.tc : Thread Cert.FwdGatherIdeal.nD Cert.FwdGatherIdeal.τ).loc Cert.FwdGatherIdeal.main_v1_7) i = (Layout.block ⟨3, ![4, 704, 1024]⟩ ⟨3, ![32, 704, 1024]⟩ 0 8 c v7 : (⟨3, ![4, 704, 1024]⟩ : Shape).Idx → _) i)
          ∧ (∀ i : (⟨3, ![4, 704, 1024]⟩ : Shape).Idx, (Layout.block ⟨3, ![4, 704, 1024]⟩ ⟨3, ![32, 704, 1024]⟩ 0 8 c ((Cert.On_received.fn (F := Ideal) (m' (((0 : Dev Cert.FwdGatherRefIdeal.nD).tc : Thread Cert.FwdGatherRefIdeal.nD Cert.FwdGatherRefIdeal.τ).loc Cert.FwdGatherRefIdeal.main_arg0)) (m' (((0 : Dev Cert.FwdGatherRefIdeal.nD).tc : Thread Cert.FwdGatherRefIdeal.nD Cert.FwdGatherRefIdeal.τ).loc Cert.FwdGatherRefIdeal.main_arg1)) (m' (((0 : Dev Cert.FwdGatherRefIdeal.nD).tc : Thread Cert.FwdGatherRefIdeal.nD Cert.FwdGatherRefIdeal.τ).loc Cert.FwdGatherRefIdeal.main_arg2)) (m' (((0 : Dev Cert.FwdGatherRefIdeal.nD).tc : Thread Cert.FwdGatherRefIdeal.nD Cert.FwdGatherRefIdeal.τ).loc Cert.FwdGatherRefIdeal.main_arg3)) (m' (((0 : Dev Cert.FwdGatherRefIdeal.nD).tc : Thread Cert.FwdGatherRefIdeal.nD Cert.FwdGatherRefIdeal.τ).loc Cert.FwdGatherRefIdeal.main_arg4)) (m' (((0 : Dev Cert.FwdGatherRefIdeal.nD).tc : Thread Cert.FwdGatherRefIdeal.nD Cert.FwdGatherRefIdeal.τ).loc Cert.FwdGatherRefIdeal.main_arg5)) (m' (((0 : Dev Cert.FwdGatherRefIdeal.nD).tc : Thread Cert.FwdGatherRefIdeal.nD Cert.FwdGatherRefIdeal.τ).loc Cert.FwdGatherRefIdeal.main_arg6)) (m' (((0 : Dev Cert.FwdGatherRefIdeal.nD).tc : Thread Cert.FwdGatherRefIdeal.nD Cert.FwdGatherRefIdeal.τ).loc Cert.FwdGatherRefIdeal.main_arg7)) (m' (((0 : Dev Cert.FwdGatherRefIdeal.nD).tc : Thread Cert.FwdGatherRefIdeal.nD Cert.FwdGatherRefIdeal.τ).loc Cert.FwdGatherRefIdeal.main_arg8)) (m' (((0 : Dev Cert.FwdGatherRefIdeal.nD).tc : Thread Cert.FwdGatherRefIdeal.nD Cert.FwdGatherRefIdeal.τ).loc Cert.FwdGatherRefIdeal.main_arg9)) (m' (((0 : Dev Cert.FwdGatherRefIdeal.nD).tc : Thread Cert.FwdGatherRefIdeal.nD Cert.FwdGatherRefIdeal.τ).loc Cert.FwdGatherRefIdeal.main_arg10)) (m' (((0 : Dev Cert.FwdGatherRefIdeal.nD).tc : Thread Cert.FwdGatherRefIdeal.nD Cert.FwdGatherRefIdeal.τ).loc Cert.FwdGatherRefIdeal.main_arg11))).2.2.2.2.2.2.2.2.1) : (⟨3, ![4, 704, 1024]⟩ : Shape).Idx → _) i = 1#1 → r.2.mem ((c.tc : Thread Cert.FwdGatherIdeal.nD Cert.FwdGatherIdeal.τ).loc Cert.FwdGatherIdeal.main_v1_8) i = (Layout.block ⟨3, ![4, 704, 1024]⟩ ⟨3, ![32, 704, 1024]⟩ 0 8 c v8 : (⟨3, ![4, 704, 1024]⟩ : Shape).Idx → _) i)
          ∧ (∀ i : (⟨3, ![4, 256, 1024]⟩ : Shape).Idx, (Layout.block ⟨3, ![4, 256, 1024]⟩ ⟨3, ![32, 256, 1024]⟩ 0 8 c ((Cert.On_received.fn (F := Ideal) (m' (((0 : Dev Cert.FwdGatherRefIdeal.nD).tc : Thread Cert.FwdGatherRefIdeal.nD Cert.FwdGatherRefIdeal.τ).loc Cert.FwdGatherRefIdeal.main_arg0)) (m' (((0 : Dev Cert.FwdGatherRefIdeal.nD).tc : Thread Cert.FwdGatherRefIdeal.nD Cert.FwdGatherRefIdeal.τ).loc Cert.FwdGatherRefIdeal.main_arg1)) (m' (((0 : Dev Cert.FwdGatherRefIdeal.nD).tc : Thread Cert.FwdGatherRefIdeal.nD Cert.FwdGatherRefIdeal.τ).loc Cert.FwdGatherRefIdeal.main_arg2)) (m' (((0 : Dev Cert.FwdGatherRefIdeal.nD).tc : Thread Cert.FwdGatherRefIdeal.nD Cert.FwdGatherRefIdeal.τ).loc Cert.FwdGatherRefIdeal.main_arg3)) (m' (((0 : Dev Cert.FwdGatherRefIdeal.nD).tc : Thread Cert.FwdGatherRefIdeal.nD Cert.FwdGatherRefIdeal.τ).loc Cert.FwdGatherRefIdeal.main_arg4)) (m' (((0 : Dev Cert.FwdGatherRefIdeal.nD).tc : Thread Cert.FwdGatherRefIdeal.nD Cert.FwdGatherRefIdeal.τ).loc Cert.FwdGatherRefIdeal.main_arg5)) (m' (((0 : Dev Cert.FwdGatherRefIdeal.nD).tc : Thread Cert.FwdGatherRefIdeal.nD Cert.FwdGatherRefIdeal.τ).loc Cert.FwdGatherRefIdeal.main_arg6)) (m' (((0 : Dev Cert.FwdGatherRefIdeal.nD).tc : Thread Cert.FwdGatherRefIdeal.nD Cert.FwdGatherRefIdeal.τ).loc Cert.FwdGatherRefIdeal.main_arg7)) (m' (((0 : Dev Cert.FwdGatherRefIdeal.nD).tc : Thread Cert.FwdGatherRefIdeal.nD Cert.FwdGatherRefIdeal.τ).loc Cert.FwdGatherRefIdeal.main_arg8)) (m' (((0 : Dev Cert.FwdGatherRefIdeal.nD).tc : Thread Cert.FwdGatherRefIdeal.nD Cert.FwdGatherRefIdeal.τ).loc Cert.FwdGatherRefIdeal.main_arg9)) (m' (((0 : Dev Cert.FwdGatherRefIdeal.nD).tc : Thread Cert.FwdGatherRefIdeal.nD Cert.FwdGatherRefIdeal.τ).loc Cert.FwdGatherRefIdeal.main_arg10)) (m' (((0 : Dev Cert.FwdGatherRefIdeal.nD).tc : Thread Cert.FwdGatherRefIdeal.nD Cert.FwdGatherRefIdeal.τ).loc Cert.FwdGatherRefIdeal.main_arg11))).2.2.2.2.2.2.2.2.2.1) : (⟨3, ![4, 256, 1024]⟩ : Shape).Idx → _) i = 1#1 → r.2.mem ((c.tc : Thread Cert.FwdGatherIdeal.nD Cert.FwdGatherIdeal.τ).loc Cert.FwdGatherIdeal.main_v1_9) i = (Layout.block ⟨3, ![4, 256, 1024]⟩ ⟨3, ![32, 256, 1024]⟩ 0 8 c v9 : (⟨3, ![4, 256, 1024]⟩ : Shape).Idx → _) i)
          ∧ (∀ i : (⟨3, ![4, 256, 256]⟩ : Shape).Idx, (Layout.block ⟨3, ![4, 256, 256]⟩ ⟨3, ![32, 256, 256]⟩ 0 8 c ((Cert.On_received.fn (F := Ideal) (m' (((0 : Dev Cert.FwdGatherRefIdeal.nD).tc : Thread Cert.FwdGatherRefIdeal.nD Cert.FwdGatherRefIdeal.τ).loc Cert.FwdGatherRefIdeal.main_arg0)) (m' (((0 : Dev Cert.FwdGatherRefIdeal.nD).tc : Thread Cert.FwdGatherRefIdeal.nD Cert.FwdGatherRefIdeal.τ).loc Cert.FwdGatherRefIdeal.main_arg1)) (m' (((0 : Dev Cert.FwdGatherRefIdeal.nD).tc : Thread Cert.FwdGatherRefIdeal.nD Cert.FwdGatherRefIdeal.τ).loc Cert.FwdGatherRefIdeal.main_arg2)) (m' (((0 : Dev Cert.FwdGatherRefIdeal.nD).tc : Thread Cert.FwdGatherRefIdeal.nD Cert.FwdGatherRefIdeal.τ).loc Cert.FwdGatherRefIdeal.main_arg3)) (m' (((0 : Dev Cert.FwdGatherRefIdeal.nD).tc : Thread Cert.FwdGatherRefIdeal.nD Cert.FwdGatherRefIdeal.τ).loc Cert.FwdGatherRefIdeal.main_arg4)) (m' (((0 : Dev Cert.FwdGatherRefIdeal.nD).tc : Thread Cert.FwdGatherRefIdeal.nD Cert.FwdGatherRefIdeal.τ).loc Cert.FwdGatherRefIdeal.main_arg5)) (m' (((0 : Dev Cert.FwdGatherRefIdeal.nD).tc : Thread Cert.FwdGatherRefIdeal.nD Cert.FwdGatherRefIdeal.τ).loc Cert.FwdGatherRefIdeal.main_arg6)) (m' (((0 : Dev Cert.FwdGatherRefIdeal.nD).tc : Thread Cert.FwdGatherRefIdeal.nD Cert.FwdGatherRefIdeal.τ).loc Cert.FwdGatherRefIdeal.main_arg7)) (m' (((0 : Dev Cert.FwdGatherRefIdeal.nD).tc : Thread Cert.FwdGatherRefIdeal.nD Cert.FwdGatherRefIdeal.τ).loc Cert.FwdGatherRefIdeal.main_arg8)) (m' (((0 : Dev Cert.FwdGatherRefIdeal.nD).tc : Thread Cert.FwdGatherRefIdeal.nD Cert.FwdGatherRefIdeal.τ).loc Cert.FwdGatherRefIdeal.main_arg9)) (m' (((0 : Dev Cert.FwdGatherRefIdeal.nD).tc : Thread Cert.FwdGatherRefIdeal.nD Cert.FwdGatherRefIdeal.τ).loc Cert.FwdGatherRefIdeal.main_arg10)) (m' (((0 : Dev Cert.FwdGatherRefIdeal.nD).tc : Thread Cert.FwdGatherRefIdeal.nD Cert.FwdGatherRefIdeal.τ).loc Cert.FwdGatherRefIdeal.main_arg11))).2.2.2.2.2.2.2.2.2.2) : (⟨3, ![4, 256, 256]⟩ : Shape).Idx → _) i = 1#1 → r.2.mem ((c.tc : Thread Cert.FwdGatherIdeal.nD Cert.FwdGatherIdeal.τ).loc Cert.FwdGatherIdeal.main_v1_10) i = (Layout.block ⟨3, ![4, 256, 256]⟩ ⟨3, ![32, 256, 256]⟩ 0 8 c v10 : (⟨3, ![4, 256, 256]⟩ : Shape).Idx → _) i)
          ∧ r.2.mem ((c.tc : Thread Cert.FwdGatherIdeal.nD Cert.FwdGatherIdeal.τ).loc Cert.FwdGatherIdeal.main_arg0) = m ((c.tc : Thread Cert.FwdGatherIdeal.nD Cert.FwdGatherIdeal.τ).loc Cert.FwdGatherIdeal.main_arg0)
          ∧ r.2.mem ((c.tc : Thread Cert.FwdGatherIdeal.nD Cert.FwdGatherIdeal.τ).loc Cert.FwdGatherIdeal.main_arg1) = m ((c.tc : Thread Cert.FwdGatherIdeal.nD Cert.FwdGatherIdeal.τ).loc Cert.FwdGatherIdeal.main_arg1)
          ∧ r.2.mem ((c.tc : Thread Cert.FwdGatherIdeal.nD Cert.FwdGatherIdeal.τ).loc Cert.FwdGatherIdeal.main_arg2) = m ((c.tc : Thread Cert.FwdGatherIdeal.nD Cert.FwdGatherIdeal.τ).loc Cert.FwdGatherIdeal.main_arg2)
          ∧ r.2.mem ((c.tc : Thread Cert.FwdGatherIdeal.nD Cert.FwdGatherIdeal.τ).loc Cert.FwdGatherIdeal.main_arg3) = m ((c.tc : Thread Cert.FwdGatherIdeal.nD Cert.FwdGatherIdeal.τ).loc Cert.FwdGatherIdeal.main_arg3)
          ∧ r.2.mem ((c.tc : Thread Cert.FwdGatherIdeal.nD Cert.FwdGatherIdeal.τ).loc Cert.FwdGatherIdeal.main_arg4) = m ((c.tc : Thread Cert.FwdGatherIdeal.nD Cert.FwdGatherIdeal.τ).loc Cert.FwdGatherIdeal.main_arg4)
          ∧ r.2.mem ((c.tc : Thread Cert.FwdGatherIdeal.nD Cert.FwdGatherIdeal.τ).loc Cert.FwdGatherIdeal.main_arg5) = m ((c.tc : Thread Cert.FwdGatherIdeal.nD Cert.FwdGatherIdeal.τ).loc Cert.FwdGatherIdeal.main_arg5)
          ∧ r.2.mem ((c.tc : Thread Cert.FwdGatherIdeal.nD Cert.FwdGatherIdeal.τ).loc Cert.FwdGatherIdeal.main_arg6) = m ((c.tc : Thread Cert.FwdGatherIdeal.nD Cert.FwdGatherIdeal.τ).loc Cert.FwdGatherIdeal.main_arg6)
          ∧ r.2.mem ((c.tc : Thread Cert.FwdGatherIdeal.nD Cert.FwdGatherIdeal.τ).loc Cert.FwdGatherIdeal.main_arg7) = m ((c.tc : Thread Cert.FwdGatherIdeal.nD Cert.FwdGatherIdeal.τ).loc Cert.FwdGatherIdeal.main_arg7)
          ∧ r.2.mem ((c.tc : Thread Cert.FwdGatherIdeal.nD Cert.FwdGatherIdeal.τ).loc Cert.FwdGatherIdeal.main_arg8) = m ((c.tc : Thread Cert.FwdGatherIdeal.nD Cert.FwdGatherIdeal.τ).loc Cert.FwdGatherIdeal.main_arg8)
          ∧ r.2.mem ((c.tc : Thread Cert.FwdGatherIdeal.nD Cert.FwdGatherIdeal.τ).loc Cert.FwdGatherIdeal.main_arg9) = m ((c.tc : Thread Cert.FwdGatherIdeal.nD Cert.FwdGatherIdeal.τ).loc Cert.FwdGatherIdeal.main_arg9)
          ∧ r.2.mem ((c.tc : Thread Cert.FwdGatherIdeal.nD Cert.FwdGatherIdeal.τ).loc Cert.FwdGatherIdeal.main_arg10) = m ((c.tc : Thread Cert.FwdGatherIdeal.nD Cert.FwdGatherIdeal.τ).loc Cert.FwdGatherIdeal.main_arg10)
          ∧ r.2.mem ((c.tc : Thread Cert.FwdGatherIdeal.nD Cert.FwdGatherIdeal.τ).loc Cert.FwdGatherIdeal.main_arg11) = m ((c.tc : Thread Cert.FwdGatherIdeal.nD Cert.FwdGatherIdeal.τ).loc Cert.FwdGatherIdeal.main_arg11))
      ∧ θ_run (Cert.FwdGatherRefIdeal.defs (F := Ideal)) (onTc (τ := Cert.FwdGatherRefIdeal.τ) (Cert.FwdGatherRefIdeal.main (F := Ideal))) ⟨m', fun _ => 0, g'⟩ (fun r =>
          (∀ i : (⟨2, ![65536, 1024]⟩ : Shape).Idx, (Cert.On_received.fn (F := Ideal) (m' (((0 : Dev Cert.FwdGatherRefIdeal.nD).tc : Thread Cert.FwdGatherRefIdeal.nD Cert.FwdGatherRefIdeal.τ).loc Cert.FwdGatherRefIdeal.main_arg0)) (m' (((0 : Dev Cert.FwdGatherRefIdeal.nD).tc : Thread Cert.FwdGatherRefIdeal.nD Cert.FwdGatherRefIdeal.τ).loc Cert.FwdGatherRefIdeal.main_arg1)) (m' (((0 : Dev Cert.FwdGatherRefIdeal.nD).tc : Thread Cert.FwdGatherRefIdeal.nD Cert.FwdGatherRefIdeal.τ).loc Cert.FwdGatherRefIdeal.main_arg2)) (m' (((0 : Dev Cert.FwdGatherRefIdeal.nD).tc : Thread Cert.FwdGatherRefIdeal.nD Cert.FwdGatherRefIdeal.τ).loc Cert.FwdGatherRefIdeal.main_arg3)) (m' (((0 : Dev Cert.FwdGatherRefIdeal.nD).tc : Thread Cert.FwdGatherRefIdeal.nD Cert.FwdGatherRefIdeal.τ).loc Cert.FwdGatherRefIdeal.main_arg4)) (m' (((0 : Dev Cert.FwdGatherRefIdeal.nD).tc : Thread Cert.FwdGatherRefIdeal.nD Cert.FwdGatherRefIdeal.τ).loc Cert.FwdGatherRefIdeal.main_arg5)) (m' (((0 : Dev Cert.FwdGatherRefIdeal.nD).tc : Thread Cert.FwdGatherRefIdeal.nD Cert.FwdGatherRefIdeal.τ).loc Cert.FwdGatherRefIdeal.main_arg6)) (m' (((0 : Dev Cert.FwdGatherRefIdeal.nD).tc : Thread Cert.FwdGatherRefIdeal.nD Cert.FwdGatherRefIdeal.τ).loc Cert.FwdGatherRefIdeal.main_arg7)) (m' (((0 : Dev Cert.FwdGatherRefIdeal.nD).tc : Thread Cert.FwdGatherRefIdeal.nD Cert.FwdGatherRefIdeal.τ).loc Cert.FwdGatherRefIdeal.main_arg8)) (m' (((0 : Dev Cert.FwdGatherRefIdeal.nD).tc : Thread Cert.FwdGatherRefIdeal.nD Cert.FwdGatherRefIdeal.τ).loc Cert.FwdGatherRefIdeal.main_arg9)) (m' (((0 : Dev Cert.FwdGatherRefIdeal.nD).tc : Thread Cert.FwdGatherRefIdeal.nD Cert.FwdGatherRefIdeal.τ).loc Cert.FwdGatherRefIdeal.main_arg10)) (m' (((0 : Dev Cert.FwdGatherRefIdeal.nD).tc : Thread Cert.FwdGatherRefIdeal.nD Cert.FwdGatherRefIdeal.τ).loc Cert.FwdGatherRefIdeal.main_arg11))).1 i = 1#1 → r.2.mem (((0 : Dev Cert.FwdGatherRefIdeal.nD).tc : Thread Cert.FwdGatherRefIdeal.nD Cert.FwdGatherRefIdeal.τ).loc Cert.FwdGatherRefIdeal.main_v34) i = v0 i)
          ∧ (∀ i : (⟨2, ![65536, 1024]⟩ : Shape).Idx, (Cert.On_received.fn (F := Ideal) (m' (((0 : Dev Cert.FwdGatherRefIdeal.nD).tc : Thread Cert.FwdGatherRefIdeal.nD Cert.FwdGatherRefIdeal.τ).loc Cert.FwdGatherRefIdeal.main_arg0)) (m' (((0 : Dev Cert.FwdGatherRefIdeal.nD).tc : Thread Cert.FwdGatherRefIdeal.nD Cert.FwdGatherRefIdeal.τ).loc Cert.FwdGatherRefIdeal.main_arg1)) (m' (((0 : Dev Cert.FwdGatherRefIdeal.nD).tc : Thread Cert.FwdGatherRefIdeal.nD Cert.FwdGatherRefIdeal.τ).loc Cert.FwdGatherRefIdeal.main_arg2)) (m' (((0 : Dev Cert.FwdGatherRefIdeal.nD).tc : Thread Cert.FwdGatherRefIdeal.nD Cert.FwdGatherRefIdeal.τ).loc Cert.FwdGatherRefIdeal.main_arg3)) (m' (((0 : Dev Cert.FwdGatherRefIdeal.nD).tc : Thread Cert.FwdGatherRefIdeal.nD Cert.FwdGatherRefIdeal.τ).loc Cert.FwdGatherRefIdeal.main_arg4)) (m' (((0 : Dev Cert.FwdGatherRefIdeal.nD).tc : Thread Cert.FwdGatherRefIdeal.nD Cert.FwdGatherRefIdeal.τ).loc Cert.FwdGatherRefIdeal.main_arg5)) (m' (((0 : Dev Cert.FwdGatherRefIdeal.nD).tc : Thread Cert.FwdGatherRefIdeal.nD Cert.FwdGatherRefIdeal.τ).loc Cert.FwdGatherRefIdeal.main_arg6)) (m' (((0 : Dev Cert.FwdGatherRefIdeal.nD).tc : Thread Cert.FwdGatherRefIdeal.nD Cert.FwdGatherRefIdeal.τ).loc Cert.FwdGatherRefIdeal.main_arg7)) (m' (((0 : Dev Cert.FwdGatherRefIdeal.nD).tc : Thread Cert.FwdGatherRefIdeal.nD Cert.FwdGatherRefIdeal.τ).loc Cert.FwdGatherRefIdeal.main_arg8)) (m' (((0 : Dev Cert.FwdGatherRefIdeal.nD).tc : Thread Cert.FwdGatherRefIdeal.nD Cert.FwdGatherRefIdeal.τ).loc Cert.FwdGatherRefIdeal.main_arg9)) (m' (((0 : Dev Cert.FwdGatherRefIdeal.nD).tc : Thread Cert.FwdGatherRefIdeal.nD Cert.FwdGatherRefIdeal.τ).loc Cert.FwdGatherRefIdeal.main_arg10)) (m' (((0 : Dev Cert.FwdGatherRefIdeal.nD).tc : Thread Cert.FwdGatherRefIdeal.nD Cert.FwdGatherRefIdeal.τ).loc Cert.FwdGatherRefIdeal.main_arg11))).2.1 i = 1#1 → r.2.mem (((0 : Dev Cert.FwdGatherRefIdeal.nD).tc : Thread Cert.FwdGatherRefIdeal.nD Cert.FwdGatherRefIdeal.τ).loc Cert.FwdGatherRefIdeal.main_v35) i = v1 i)
          ∧ (∀ i : (⟨3, ![32, 8192, 704]⟩ : Shape).Idx, (Cert.On_received.fn (F := Ideal) (m' (((0 : Dev Cert.FwdGatherRefIdeal.nD).tc : Thread Cert.FwdGatherRefIdeal.nD Cert.FwdGatherRefIdeal.τ).loc Cert.FwdGatherRefIdeal.main_arg0)) (m' (((0 : Dev Cert.FwdGatherRefIdeal.nD).tc : Thread Cert.FwdGatherRefIdeal.nD Cert.FwdGatherRefIdeal.τ).loc Cert.FwdGatherRefIdeal.main_arg1)) (m' (((0 : Dev Cert.FwdGatherRefIdeal.nD).tc : Thread Cert.FwdGatherRefIdeal.nD Cert.FwdGatherRefIdeal.τ).loc Cert.FwdGatherRefIdeal.main_arg2)) (m' (((0 : Dev Cert.FwdGatherRefIdeal.nD).tc : Thread Cert.FwdGatherRefIdeal.nD Cert.FwdGatherRefIdeal.τ).loc Cert.FwdGatherRefIdeal.main_arg3)) (m' (((0 : Dev Cert.FwdGatherRefIdeal.nD).tc : Thread Cert.FwdGatherRefIdeal.nD Cert.FwdGatherRefIdeal.τ).loc Cert.FwdGatherRefIdeal.main_arg4)) (m' (((0 : Dev Cert.FwdGatherRefIdeal.nD).tc : Thread Cert.FwdGatherRefIdeal.nD Cert.FwdGatherRefIdeal.τ).loc Cert.FwdGatherRefIdeal.main_arg5)) (m' (((0 : Dev Cert.FwdGatherRefIdeal.nD).tc : Thread Cert.FwdGatherRefIdeal.nD Cert.FwdGatherRefIdeal.τ).loc Cert.FwdGatherRefIdeal.main_arg6)) (m' (((0 : Dev Cert.FwdGatherRefIdeal.nD).tc : Thread Cert.FwdGatherRefIdeal.nD Cert.FwdGatherRefIdeal.τ).loc Cert.FwdGatherRefIdeal.main_arg7)) (m' (((0 : Dev Cert.FwdGatherRefIdeal.nD).tc : Thread Cert.FwdGatherRefIdeal.nD Cert.FwdGatherRefIdeal.τ).loc Cert.FwdGatherRefIdeal.main_arg8)) (m' (((0 : Dev Cert.FwdGatherRefIdeal.nD).tc : Thread Cert.FwdGatherRefIdeal.nD Cert.FwdGatherRefIdeal.τ).loc Cert.FwdGatherRefIdeal.main_arg9)) (m' (((0 : Dev Cert.FwdGatherRefIdeal.nD).tc : Thread Cert.FwdGatherRefIdeal.nD Cert.FwdGatherRefIdeal.τ).loc Cert.FwdGatherRefIdeal.main_arg10)) (m' (((0 : Dev Cert.FwdGatherRefIdeal.nD).tc : Thread Cert.FwdGatherRefIdeal.nD Cert.FwdGatherRefIdeal.τ).loc Cert.FwdGatherRefIdeal.main_arg11))).2.2.1 i = 1#1 → r.2.mem (((0 : Dev Cert.FwdGatherRefIdeal.nD).tc : Thread Cert.FwdGatherRefIdeal.nD Cert.FwdGatherRefIdeal.τ).loc Cert.FwdGatherRefIdeal.main_v36) i = v2 i)
          ∧ (∀ i : (⟨3, ![32, 8192, 704]⟩ : Shape).Idx, (Cert.On_received.fn (F := Ideal) (m' (((0 : Dev Cert.FwdGatherRefIdeal.nD).tc : Thread Cert.FwdGatherRefIdeal.nD Cert.FwdGatherRefIdeal.τ).loc Cert.FwdGatherRefIdeal.main_arg0)) (m' (((0 : Dev Cert.FwdGatherRefIdeal.nD).tc : Thread Cert.FwdGatherRefIdeal.nD Cert.FwdGatherRefIdeal.τ).loc Cert.FwdGatherRefIdeal.main_arg1)) (m' (((0 : Dev Cert.FwdGatherRefIdeal.nD).tc : Thread Cert.FwdGatherRefIdeal.nD Cert.FwdGatherRefIdeal.τ).loc Cert.FwdGatherRefIdeal.main_arg2)) (m' (((0 : Dev Cert.FwdGatherRefIdeal.nD).tc : Thread Cert.FwdGatherRefIdeal.nD Cert.FwdGatherRefIdeal.τ).loc Cert.FwdGatherRefIdeal.main_arg3)) (m' (((0 : Dev Cert.FwdGatherRefIdeal.nD).tc : Thread Cert.FwdGatherRefIdeal.nD Cert.FwdGatherRefIdeal.τ).loc Cert.FwdGatherRefIdeal.main_arg4)) (m' (((0 : Dev Cert.FwdGatherRefIdeal.nD).tc : Thread Cert.FwdGatherRefIdeal.nD Cert.FwdGatherRefIdeal.τ).loc Cert.FwdGatherRefIdeal.main_arg5)) (m' (((0 : Dev Cert.FwdGatherRefIdeal.nD).tc : Thread Cert.FwdGatherRefIdeal.nD Cert.FwdGatherRefIdeal.τ).loc Cert.FwdGatherRefIdeal.main_arg6)) (m' (((0 : Dev Cert.FwdGatherRefIdeal.nD).tc : Thread Cert.FwdGatherRefIdeal.nD Cert.FwdGatherRefIdeal.τ).loc Cert.FwdGatherRefIdeal.main_arg7)) (m' (((0 : Dev Cert.FwdGatherRefIdeal.nD).tc : Thread Cert.FwdGatherRefIdeal.nD Cert.FwdGatherRefIdeal.τ).loc Cert.FwdGatherRefIdeal.main_arg8)) (m' (((0 : Dev Cert.FwdGatherRefIdeal.nD).tc : Thread Cert.FwdGatherRefIdeal.nD Cert.FwdGatherRefIdeal.τ).loc Cert.FwdGatherRefIdeal.main_arg9)) (m' (((0 : Dev Cert.FwdGatherRefIdeal.nD).tc : Thread Cert.FwdGatherRefIdeal.nD Cert.FwdGatherRefIdeal.τ).loc Cert.FwdGatherRefIdeal.main_arg10)) (m' (((0 : Dev Cert.FwdGatherRefIdeal.nD).tc : Thread Cert.FwdGatherRefIdeal.nD Cert.FwdGatherRefIdeal.τ).loc Cert.FwdGatherRefIdeal.main_arg11))).2.2.2.1 i = 1#1 → r.2.mem (((0 : Dev Cert.FwdGatherRefIdeal.nD).tc : Thread Cert.FwdGatherRefIdeal.nD Cert.FwdGatherRefIdeal.τ).loc Cert.FwdGatherRefIdeal.main_v37) i = v3 i)
          ∧ (∀ i : (⟨3, ![32, 1024, 768]⟩ : Shape).Idx, (Cert.On_received.fn (F := Ideal) (m' (((0 : Dev Cert.FwdGatherRefIdeal.nD).tc : Thread Cert.FwdGatherRefIdeal.nD Cert.FwdGatherRefIdeal.τ).loc Cert.FwdGatherRefIdeal.main_arg0)) (m' (((0 : Dev Cert.FwdGatherRefIdeal.nD).tc : Thread Cert.FwdGatherRefIdeal.nD Cert.FwdGatherRefIdeal.τ).loc Cert.FwdGatherRefIdeal.main_arg1)) (m' (((0 : Dev Cert.FwdGatherRefIdeal.nD).tc : Thread Cert.FwdGatherRefIdeal.nD Cert.FwdGatherRefIdeal.τ).loc Cert.FwdGatherRefIdeal.main_arg2)) (m' (((0 : Dev Cert.FwdGatherRefIdeal.nD).tc : Thread Cert.FwdGatherRefIdeal.nD Cert.FwdGatherRefIdeal.τ).loc Cert.FwdGatherRefIdeal.main_arg3)) (m' (((0 : Dev Cert.FwdGatherRefIdeal.nD).tc : Thread Cert.FwdGatherRefIdeal.nD Cert.FwdGatherRefIdeal.τ).loc Cert.FwdGatherRefIdeal.main_arg4)) (m' (((0 : Dev Cert.FwdGatherRefIdeal.nD).tc : Thread Cert.FwdGatherRefIdeal.nD Cert.FwdGatherRefIdeal.τ).loc Cert.FwdGatherRefIdeal.main_arg5)) (m' (((0 : Dev Cert.FwdGatherRefIdeal.nD).tc : Thread Cert.FwdGatherRefIdeal.nD Cert.FwdGatherRefIdeal.τ).loc Cert.FwdGatherRefIdeal.main_arg6)) (m' (((0 : Dev Cert.FwdGatherRefIdeal.nD).tc : Thread Cert.FwdGatherRefIdeal.nD Cert.FwdGatherRefIdeal.τ).loc Cert.FwdGatherRefIdeal.main_arg7)) (m' (((0 : Dev Cert.FwdGatherRefIdeal.nD).tc : Thread Cert.FwdGatherRefIdeal.nD Cert.FwdGatherRefIdeal.τ).loc Cert.FwdGatherRefIdeal.main_arg8)) (m' (((0 : Dev Cert.FwdGatherRefIdeal.nD).tc : Thread Cert.FwdGatherRefIdeal.nD Cert.FwdGatherRefIdeal.τ).loc Cert.FwdGatherRefIdeal.main_arg9)) (m' (((0 : Dev Cert.FwdGatherRefIdeal.nD).tc : Thread Cert.FwdGatherRefIdeal.nD Cert.FwdGatherRefIdeal.τ).loc Cert.FwdGatherRefIdeal.main_arg10)) (m' (((0 : Dev Cert.FwdGatherRefIdeal.nD).tc : Thread Cert.FwdGatherRefIdeal.nD Cert.FwdGatherRefIdeal.τ).loc Cert.FwdGatherRefIdeal.main_arg11))).2.2.2.2.1 i = 1#1 → r.2.mem (((0 : Dev Cert.FwdGatherRefIdeal.nD).tc : Thread Cert.FwdGatherRefIdeal.nD Cert.FwdGatherRefIdeal.τ).loc Cert.FwdGatherRefIdeal.main_v40) i = v4 i)
          ∧ (∀ i : (⟨3, ![32, 256, 1024]⟩ : Shape).Idx, (Cert.On_received.fn (F := Ideal) (m' (((0 : Dev Cert.FwdGatherRefIdeal.nD).tc : Thread Cert.FwdGatherRefIdeal.nD Cert.FwdGatherRefIdeal.τ).loc Cert.FwdGatherRefIdeal.main_arg0)) (m' (((0 : Dev Cert.FwdGatherRefIdeal.nD).tc : Thread Cert.FwdGatherRefIdeal.nD Cert.FwdGatherRefIdeal.τ).loc Cert.FwdGatherRefIdeal.main_arg1)) (m' (((0 : Dev Cert.FwdGatherRefIdeal.nD).tc : Thread Cert.FwdGatherRefIdeal.nD Cert.FwdGatherRefIdeal.τ).loc Cert.FwdGatherRefIdeal.main_arg2)) (m' (((0 : Dev Cert.FwdGatherRefIdeal.nD).tc : Thread Cert.FwdGatherRefIdeal.nD Cert.FwdGatherRefIdeal.τ).loc Cert.FwdGatherRefIdeal.main_arg3)) (m' (((0 : Dev Cert.FwdGatherRefIdeal.nD).tc : Thread Cert.FwdGatherRefIdeal.nD Cert.FwdGatherRefIdeal.τ).loc Cert.FwdGatherRefIdeal.main_arg4)) (m' (((0 : Dev Cert.FwdGatherRefIdeal.nD).tc : Thread Cert.FwdGatherRefIdeal.nD Cert.FwdGatherRefIdeal.τ).loc Cert.FwdGatherRefIdeal.main_arg5)) (m' (((0 : Dev Cert.FwdGatherRefIdeal.nD).tc : Thread Cert.FwdGatherRefIdeal.nD Cert.FwdGatherRefIdeal.τ).loc Cert.FwdGatherRefIdeal.main_arg6)) (m' (((0 : Dev Cert.FwdGatherRefIdeal.nD).tc : Thread Cert.FwdGatherRefIdeal.nD Cert.FwdGatherRefIdeal.τ).loc Cert.FwdGatherRefIdeal.main_arg7)) (m' (((0 : Dev Cert.FwdGatherRefIdeal.nD).tc : Thread Cert.FwdGatherRefIdeal.nD Cert.FwdGatherRefIdeal.τ).loc Cert.FwdGatherRefIdeal.main_arg8)) (m' (((0 : Dev Cert.FwdGatherRefIdeal.nD).tc : Thread Cert.FwdGatherRefIdeal.nD Cert.FwdGatherRefIdeal.τ).loc Cert.FwdGatherRefIdeal.main_arg9)) (m' (((0 : Dev Cert.FwdGatherRefIdeal.nD).tc : Thread Cert.FwdGatherRefIdeal.nD Cert.FwdGatherRefIdeal.τ).loc Cert.FwdGatherRefIdeal.main_arg10)) (m' (((0 : Dev Cert.FwdGatherRefIdeal.nD).tc : Thread Cert.FwdGatherRefIdeal.nD Cert.FwdGatherRefIdeal.τ).loc Cert.FwdGatherRefIdeal.main_arg11))).2.2.2.2.2.1 i = 1#1 → r.2.mem (((0 : Dev Cert.FwdGatherRefIdeal.nD).tc : Thread Cert.FwdGatherRefIdeal.nD Cert.FwdGatherRefIdeal.τ).loc Cert.FwdGatherRefIdeal.main_v43) i = v5 i)
          ∧ (∀ i : (⟨3, ![32, 704, 1024]⟩ : Shape).Idx, (Cert.On_received.fn (F := Ideal) (m' (((0 : Dev Cert.FwdGatherRefIdeal.nD).tc : Thread Cert.FwdGatherRefIdeal.nD Cert.FwdGatherRefIdeal.τ).loc Cert.FwdGatherRefIdeal.main_arg0)) (m' (((0 : Dev Cert.FwdGatherRefIdeal.nD).tc : Thread Cert.FwdGatherRefIdeal.nD Cert.FwdGatherRefIdeal.τ).loc Cert.FwdGatherRefIdeal.main_arg1)) (m' (((0 : Dev Cert.FwdGatherRefIdeal.nD).tc : Thread Cert.FwdGatherRefIdeal.nD Cert.FwdGatherRefIdeal.τ).loc Cert.FwdGatherRefIdeal.main_arg2)) (m' (((0 : Dev Cert.FwdGatherRefIdeal.nD).tc : Thread Cert.FwdGatherRefIdeal.nD Cert.FwdGatherRefIdeal.τ).loc Cert.FwdGatherRefIdeal.main_arg3)) (m' (((0 : Dev Cert.FwdGatherRefIdeal.nD).tc : Thread Cert.FwdGatherRefIdeal.nD Cert.FwdGatherRefIdeal.τ).loc Cert.FwdGatherRefIdeal.main_arg4)) (m' (((0 : Dev Cert.FwdGatherRefIdeal.nD).tc : Thread Cert.FwdGatherRefIdeal.nD Cert.FwdGatherRefIdeal.τ).loc Cert.FwdGatherRefIdeal.main_arg5)) (m' (((0 : Dev Cert.FwdGatherRefIdeal.nD).tc : Thread Cert.FwdGatherRefIdeal.nD Cert.FwdGatherRefIdeal.τ).loc Cert.FwdGatherRefIdeal.main_arg6)) (m' (((0 : Dev Cert.FwdGatherRefIdeal.nD).tc : Thread Cert.FwdGatherRefIdeal.nD Cert.FwdGatherRefIdeal.τ).loc Cert.FwdGatherRefIdeal.main_arg7)) (m' (((0 : Dev Cert.FwdGatherRefIdeal.nD).tc : Thread Cert.FwdGatherRefIdeal.nD Cert.FwdGatherRefIdeal.τ).loc Cert.FwdGatherRefIdeal.main_arg8)) (m' (((0 : Dev Cert.FwdGatherRefIdeal.nD).tc : Thread Cert.FwdGatherRefIdeal.nD Cert.FwdGatherRefIdeal.τ).loc Cert.FwdGatherRefIdeal.main_arg9)) (m' (((0 : Dev Cert.FwdGatherRefIdeal.nD).tc : Thread Cert.FwdGatherRefIdeal.nD Cert.FwdGatherRefIdeal.τ).loc Cert.FwdGatherRefIdeal.main_arg10)) (m' (((0 : Dev Cert.FwdGatherRefIdeal.nD).tc : Thread Cert.FwdGatherRefIdeal.nD Cert.FwdGatherRefIdeal.τ).loc Cert.FwdGatherRefIdeal.main_arg11))).2.2.2.2.2.2.1 i = 1#1 → r.2.mem (((0 : Dev Cert.FwdGatherRefIdeal.nD).tc : Thread Cert.FwdGatherRefIdeal.nD Cert.FwdGatherRefIdeal.τ).loc Cert.FwdGatherRefIdeal.main_v46) i = v6 i)
          ∧ (∀ i : (⟨3, ![32, 704, 1024]⟩ : Shape).Idx, (Cert.On_received.fn (F := Ideal) (m' (((0 : Dev Cert.FwdGatherRefIdeal.nD).tc : Thread Cert.FwdGatherRefIdeal.nD Cert.FwdGatherRefIdeal.τ).loc Cert.FwdGatherRefIdeal.main_arg0)) (m' (((0 : Dev Cert.FwdGatherRefIdeal.nD).tc : Thread Cert.FwdGatherRefIdeal.nD Cert.FwdGatherRefIdeal.τ).loc Cert.FwdGatherRefIdeal.main_arg1)) (m' (((0 : Dev Cert.FwdGatherRefIdeal.nD).tc : Thread Cert.FwdGatherRefIdeal.nD Cert.FwdGatherRefIdeal.τ).loc Cert.FwdGatherRefIdeal.main_arg2)) (m' (((0 : Dev Cert.FwdGatherRefIdeal.nD).tc : Thread Cert.FwdGatherRefIdeal.nD Cert.FwdGatherRefIdeal.τ).loc Cert.FwdGatherRefIdeal.main_arg3)) (m' (((0 : Dev Cert.FwdGatherRefIdeal.nD).tc : Thread Cert.FwdGatherRefIdeal.nD Cert.FwdGatherRefIdeal.τ).loc Cert.FwdGatherRefIdeal.main_arg4)) (m' (((0 : Dev Cert.FwdGatherRefIdeal.nD).tc : Thread Cert.FwdGatherRefIdeal.nD Cert.FwdGatherRefIdeal.τ).loc Cert.FwdGatherRefIdeal.main_arg5)) (m' (((0 : Dev Cert.FwdGatherRefIdeal.nD).tc : Thread Cert.FwdGatherRefIdeal.nD Cert.FwdGatherRefIdeal.τ).loc Cert.FwdGatherRefIdeal.main_arg6)) (m' (((0 : Dev Cert.FwdGatherRefIdeal.nD).tc : Thread Cert.FwdGatherRefIdeal.nD Cert.FwdGatherRefIdeal.τ).loc Cert.FwdGatherRefIdeal.main_arg7)) (m' (((0 : Dev Cert.FwdGatherRefIdeal.nD).tc : Thread Cert.FwdGatherRefIdeal.nD Cert.FwdGatherRefIdeal.τ).loc Cert.FwdGatherRefIdeal.main_arg8)) (m' (((0 : Dev Cert.FwdGatherRefIdeal.nD).tc : Thread Cert.FwdGatherRefIdeal.nD Cert.FwdGatherRefIdeal.τ).loc Cert.FwdGatherRefIdeal.main_arg9)) (m' (((0 : Dev Cert.FwdGatherRefIdeal.nD).tc : Thread Cert.FwdGatherRefIdeal.nD Cert.FwdGatherRefIdeal.τ).loc Cert.FwdGatherRefIdeal.main_arg10)) (m' (((0 : Dev Cert.FwdGatherRefIdeal.nD).tc : Thread Cert.FwdGatherRefIdeal.nD Cert.FwdGatherRefIdeal.τ).loc Cert.FwdGatherRefIdeal.main_arg11))).2.2.2.2.2.2.2.1 i = 1#1 → r.2.mem (((0 : Dev Cert.FwdGatherRefIdeal.nD).tc : Thread Cert.FwdGatherRefIdeal.nD Cert.FwdGatherRefIdeal.τ).loc Cert.FwdGatherRefIdeal.main_v49) i = v7 i)
          ∧ (∀ i : (⟨3, ![32, 704, 1024]⟩ : Shape).Idx, (Cert.On_received.fn (F := Ideal) (m' (((0 : Dev Cert.FwdGatherRefIdeal.nD).tc : Thread Cert.FwdGatherRefIdeal.nD Cert.FwdGatherRefIdeal.τ).loc Cert.FwdGatherRefIdeal.main_arg0)) (m' (((0 : Dev Cert.FwdGatherRefIdeal.nD).tc : Thread Cert.FwdGatherRefIdeal.nD Cert.FwdGatherRefIdeal.τ).loc Cert.FwdGatherRefIdeal.main_arg1)) (m' (((0 : Dev Cert.FwdGatherRefIdeal.nD).tc : Thread Cert.FwdGatherRefIdeal.nD Cert.FwdGatherRefIdeal.τ).loc Cert.FwdGatherRefIdeal.main_arg2)) (m' (((0 : Dev Cert.FwdGatherRefIdeal.nD).tc : Thread Cert.FwdGatherRefIdeal.nD Cert.FwdGatherRefIdeal.τ).loc Cert.FwdGatherRefIdeal.main_arg3)) (m' (((0 : Dev Cert.FwdGatherRefIdeal.nD).tc : Thread Cert.FwdGatherRefIdeal.nD Cert.FwdGatherRefIdeal.τ).loc Cert.FwdGatherRefIdeal.main_arg4)) (m' (((0 : Dev Cert.FwdGatherRefIdeal.nD).tc : Thread Cert.FwdGatherRefIdeal.nD Cert.FwdGatherRefIdeal.τ).loc Cert.FwdGatherRefIdeal.main_arg5)) (m' (((0 : Dev Cert.FwdGatherRefIdeal.nD).tc : Thread Cert.FwdGatherRefIdeal.nD Cert.FwdGatherRefIdeal.τ).loc Cert.FwdGatherRefIdeal.main_arg6)) (m' (((0 : Dev Cert.FwdGatherRefIdeal.nD).tc : Thread Cert.FwdGatherRefIdeal.nD Cert.FwdGatherRefIdeal.τ).loc Cert.FwdGatherRefIdeal.main_arg7)) (m' (((0 : Dev Cert.FwdGatherRefIdeal.nD).tc : Thread Cert.FwdGatherRefIdeal.nD Cert.FwdGatherRefIdeal.τ).loc Cert.FwdGatherRefIdeal.main_arg8)) (m' (((0 : Dev Cert.FwdGatherRefIdeal.nD).tc : Thread Cert.FwdGatherRefIdeal.nD Cert.FwdGatherRefIdeal.τ).loc Cert.FwdGatherRefIdeal.main_arg9)) (m' (((0 : Dev Cert.FwdGatherRefIdeal.nD).tc : Thread Cert.FwdGatherRefIdeal.nD Cert.FwdGatherRefIdeal.τ).loc Cert.FwdGatherRefIdeal.main_arg10)) (m' (((0 : Dev Cert.FwdGatherRefIdeal.nD).tc : Thread Cert.FwdGatherRefIdeal.nD Cert.FwdGatherRefIdeal.τ).loc Cert.FwdGatherRefIdeal.main_arg11))).2.2.2.2.2.2.2.2.1 i = 1#1 → r.2.mem (((0 : Dev Cert.FwdGatherRefIdeal.nD).tc : Thread Cert.FwdGatherRefIdeal.nD Cert.FwdGatherRefIdeal.τ).loc Cert.FwdGatherRefIdeal.main_v52) i = v8 i)
          ∧ (∀ i : (⟨3, ![32, 256, 1024]⟩ : Shape).Idx, (Cert.On_received.fn (F := Ideal) (m' (((0 : Dev Cert.FwdGatherRefIdeal.nD).tc : Thread Cert.FwdGatherRefIdeal.nD Cert.FwdGatherRefIdeal.τ).loc Cert.FwdGatherRefIdeal.main_arg0)) (m' (((0 : Dev Cert.FwdGatherRefIdeal.nD).tc : Thread Cert.FwdGatherRefIdeal.nD Cert.FwdGatherRefIdeal.τ).loc Cert.FwdGatherRefIdeal.main_arg1)) (m' (((0 : Dev Cert.FwdGatherRefIdeal.nD).tc : Thread Cert.FwdGatherRefIdeal.nD Cert.FwdGatherRefIdeal.τ).loc Cert.FwdGatherRefIdeal.main_arg2)) (m' (((0 : Dev Cert.FwdGatherRefIdeal.nD).tc : Thread Cert.FwdGatherRefIdeal.nD Cert.FwdGatherRefIdeal.τ).loc Cert.FwdGatherRefIdeal.main_arg3)) (m' (((0 : Dev Cert.FwdGatherRefIdeal.nD).tc : Thread Cert.FwdGatherRefIdeal.nD Cert.FwdGatherRefIdeal.τ).loc Cert.FwdGatherRefIdeal.main_arg4)) (m' (((0 : Dev Cert.FwdGatherRefIdeal.nD).tc : Thread Cert.FwdGatherRefIdeal.nD Cert.FwdGatherRefIdeal.τ).loc Cert.FwdGatherRefIdeal.main_arg5)) (m' (((0 : Dev Cert.FwdGatherRefIdeal.nD).tc : Thread Cert.FwdGatherRefIdeal.nD Cert.FwdGatherRefIdeal.τ).loc Cert.FwdGatherRefIdeal.main_arg6)) (m' (((0 : Dev Cert.FwdGatherRefIdeal.nD).tc : Thread Cert.FwdGatherRefIdeal.nD Cert.FwdGatherRefIdeal.τ).loc Cert.FwdGatherRefIdeal.main_arg7)) (m' (((0 : Dev Cert.FwdGatherRefIdeal.nD).tc : Thread Cert.FwdGatherRefIdeal.nD Cert.FwdGatherRefIdeal.τ).loc Cert.FwdGatherRefIdeal.main_arg8)) (m' (((0 : Dev Cert.FwdGatherRefIdeal.nD).tc : Thread Cert.FwdGatherRefIdeal.nD Cert.FwdGatherRefIdeal.τ).loc Cert.FwdGatherRefIdeal.main_arg9)) (m' (((0 : Dev Cert.FwdGatherRefIdeal.nD).tc : Thread Cert.FwdGatherRefIdeal.nD Cert.FwdGatherRefIdeal.τ).loc Cert.FwdGatherRefIdeal.main_arg10)) (m' (((0 : Dev Cert.FwdGatherRefIdeal.nD).tc : Thread Cert.FwdGatherRefIdeal.nD Cert.FwdGatherRefIdeal.τ).loc Cert.FwdGatherRefIdeal.main_arg11))).2.2.2.2.2.2.2.2.2.1 i = 1#1 → r.2.mem (((0 : Dev Cert.FwdGatherRefIdeal.nD).tc : Thread Cert.FwdGatherRefIdeal.nD Cert.FwdGatherRefIdeal.τ).loc Cert.FwdGatherRefIdeal.main_v55) i = v9 i)
          ∧ (∀ i : (⟨3, ![32, 256, 256]⟩ : Shape).Idx, (Cert.On_received.fn (F := Ideal) (m' (((0 : Dev Cert.FwdGatherRefIdeal.nD).tc : Thread Cert.FwdGatherRefIdeal.nD Cert.FwdGatherRefIdeal.τ).loc Cert.FwdGatherRefIdeal.main_arg0)) (m' (((0 : Dev Cert.FwdGatherRefIdeal.nD).tc : Thread Cert.FwdGatherRefIdeal.nD Cert.FwdGatherRefIdeal.τ).loc Cert.FwdGatherRefIdeal.main_arg1)) (m' (((0 : Dev Cert.FwdGatherRefIdeal.nD).tc : Thread Cert.FwdGatherRefIdeal.nD Cert.FwdGatherRefIdeal.τ).loc Cert.FwdGatherRefIdeal.main_arg2)) (m' (((0 : Dev Cert.FwdGatherRefIdeal.nD).tc : Thread Cert.FwdGatherRefIdeal.nD Cert.FwdGatherRefIdeal.τ).loc Cert.FwdGatherRefIdeal.main_arg3)) (m' (((0 : Dev Cert.FwdGatherRefIdeal.nD).tc : Thread Cert.FwdGatherRefIdeal.nD Cert.FwdGatherRefIdeal.τ).loc Cert.FwdGatherRefIdeal.main_arg4)) (m' (((0 : Dev Cert.FwdGatherRefIdeal.nD).tc : Thread Cert.FwdGatherRefIdeal.nD Cert.FwdGatherRefIdeal.τ).loc Cert.FwdGatherRefIdeal.main_arg5)) (m' (((0 : Dev Cert.FwdGatherRefIdeal.nD).tc : Thread Cert.FwdGatherRefIdeal.nD Cert.FwdGatherRefIdeal.τ).loc Cert.FwdGatherRefIdeal.main_arg6)) (m' (((0 : Dev Cert.FwdGatherRefIdeal.nD).tc : Thread Cert.FwdGatherRefIdeal.nD Cert.FwdGatherRefIdeal.τ).loc Cert.FwdGatherRefIdeal.main_arg7)) (m' (((0 : Dev Cert.FwdGatherRefIdeal.nD).tc : Thread Cert.FwdGatherRefIdeal.nD Cert.FwdGatherRefIdeal.τ).loc Cert.FwdGatherRefIdeal.main_arg8)) (m' (((0 : Dev Cert.FwdGatherRefIdeal.nD).tc : Thread Cert.FwdGatherRefIdeal.nD Cert.FwdGatherRefIdeal.τ).loc Cert.FwdGatherRefIdeal.main_arg9)) (m' (((0 : Dev Cert.FwdGatherRefIdeal.nD).tc : Thread Cert.FwdGatherRefIdeal.nD Cert.FwdGatherRefIdeal.τ).loc Cert.FwdGatherRefIdeal.main_arg10)) (m' (((0 : Dev Cert.FwdGatherRefIdeal.nD).tc : Thread Cert.FwdGatherRefIdeal.nD Cert.FwdGatherRefIdeal.τ).loc Cert.FwdGatherRefIdeal.main_arg11))).2.2.2.2.2.2.2.2.2.2 i = 1#1 → r.2.mem (((0 : Dev Cert.FwdGatherRefIdeal.nD).tc : Thread Cert.FwdGatherRefIdeal.nD Cert.FwdGatherRefIdeal.τ).loc Cert.FwdGatherRefIdeal.main_v58) i = v10 i)
          ∧ r.2.mem (((0 : Dev Cert.FwdGatherRefIdeal.nD).tc : Thread Cert.FwdGatherRefIdeal.nD Cert.FwdGatherRefIdeal.τ).loc Cert.FwdGatherRefIdeal.main_arg0) = m' (((0 : Dev Cert.FwdGatherRefIdeal.nD).tc : Thread Cert.FwdGatherRefIdeal.nD Cert.FwdGatherRefIdeal.τ).loc Cert.FwdGatherRefIdeal.main_arg0)
          ∧ r.2.mem (((0 : Dev Cert.FwdGatherRefIdeal.nD).tc : Thread Cert.FwdGatherRefIdeal.nD Cert.FwdGatherRefIdeal.τ).loc Cert.FwdGatherRefIdeal.main_arg1) = m' (((0 : Dev Cert.FwdGatherRefIdeal.nD).tc : Thread Cert.FwdGatherRefIdeal.nD Cert.FwdGatherRefIdeal.τ).loc Cert.FwdGatherRefIdeal.main_arg1)
          ∧ r.2.mem (((0 : Dev Cert.FwdGatherRefIdeal.nD).tc : Thread Cert.FwdGatherRefIdeal.nD Cert.FwdGatherRefIdeal.τ).loc Cert.FwdGatherRefIdeal.main_arg2) = m' (((0 : Dev Cert.FwdGatherRefIdeal.nD).tc : Thread Cert.FwdGatherRefIdeal.nD Cert.FwdGatherRefIdeal.τ).loc Cert.FwdGatherRefIdeal.main_arg2)
          ∧ r.2.mem (((0 : Dev Cert.FwdGatherRefIdeal.nD).tc : Thread Cert.FwdGatherRefIdeal.nD Cert.FwdGatherRefIdeal.τ).loc Cert.FwdGatherRefIdeal.main_arg3) = m' (((0 : Dev Cert.FwdGatherRefIdeal.nD).tc : Thread Cert.FwdGatherRefIdeal.nD Cert.FwdGatherRefIdeal.τ).loc Cert.FwdGatherRefIdeal.main_arg3)
          ∧ r.2.mem (((0 : Dev Cert.FwdGatherRefIdeal.nD).tc : Thread Cert.FwdGatherRefIdeal.nD Cert.FwdGatherRefIdeal.τ).loc Cert.FwdGatherRefIdeal.main_arg4) = m' (((0 : Dev Cert.FwdGatherRefIdeal.nD).tc : Thread Cert.FwdGatherRefIdeal.nD Cert.FwdGatherRefIdeal.τ).loc Cert.FwdGatherRefIdeal.main_arg4)
          ∧ r.2.mem (((0 : Dev Cert.FwdGatherRefIdeal.nD).tc : Thread Cert.FwdGatherRefIdeal.nD Cert.FwdGatherRefIdeal.τ).loc Cert.FwdGatherRefIdeal.main_arg5) = m' (((0 : Dev Cert.FwdGatherRefIdeal.nD).tc : Thread Cert.FwdGatherRefIdeal.nD Cert.FwdGatherRefIdeal.τ).loc Cert.FwdGatherRefIdeal.main_arg5)
          ∧ r.2.mem (((0 : Dev Cert.FwdGatherRefIdeal.nD).tc : Thread Cert.FwdGatherRefIdeal.nD Cert.FwdGatherRefIdeal.τ).loc Cert.FwdGatherRefIdeal.main_arg6) = m' (((0 : Dev Cert.FwdGatherRefIdeal.nD).tc : Thread Cert.FwdGatherRefIdeal.nD Cert.FwdGatherRefIdeal.τ).loc Cert.FwdGatherRefIdeal.main_arg6)
          ∧ r.2.mem (((0 : Dev Cert.FwdGatherRefIdeal.nD).tc : Thread Cert.FwdGatherRefIdeal.nD Cert.FwdGatherRefIdeal.τ).loc Cert.FwdGatherRefIdeal.main_arg7) = m' (((0 : Dev Cert.FwdGatherRefIdeal.nD).tc : Thread Cert.FwdGatherRefIdeal.nD Cert.FwdGatherRefIdeal.τ).loc Cert.FwdGatherRefIdeal.main_arg7)
          ∧ r.2.mem (((0 : Dev Cert.FwdGatherRefIdeal.nD).tc : Thread Cert.FwdGatherRefIdeal.nD Cert.FwdGatherRefIdeal.τ).loc Cert.FwdGatherRefIdeal.main_arg8) = m' (((0 : Dev Cert.FwdGatherRefIdeal.nD).tc : Thread Cert.FwdGatherRefIdeal.nD Cert.FwdGatherRefIdeal.τ).loc Cert.FwdGatherRefIdeal.main_arg8)
          ∧ r.2.mem (((0 : Dev Cert.FwdGatherRefIdeal.nD).tc : Thread Cert.FwdGatherRefIdeal.nD Cert.FwdGatherRefIdeal.τ).loc Cert.FwdGatherRefIdeal.main_arg9) = m' (((0 : Dev Cert.FwdGatherRefIdeal.nD).tc : Thread Cert.FwdGatherRefIdeal.nD Cert.FwdGatherRefIdeal.τ).loc Cert.FwdGatherRefIdeal.main_arg9)
          ∧ r.2.mem (((0 : Dev Cert.FwdGatherRefIdeal.nD).tc : Thread Cert.FwdGatherRefIdeal.nD Cert.FwdGatherRefIdeal.τ).loc Cert.FwdGatherRefIdeal.main_arg10) = m' (((0 : Dev Cert.FwdGatherRefIdeal.nD).tc : Thread Cert.FwdGatherRefIdeal.nD Cert.FwdGatherRefIdeal.τ).loc Cert.FwdGatherRefIdeal.main_arg10)
          ∧ r.2.mem (((0 : Dev Cert.FwdGatherRefIdeal.nD).tc : Thread Cert.FwdGatherRefIdeal.nD Cert.FwdGatherRefIdeal.τ).loc Cert.FwdGatherRefIdeal.main_arg11) = m' (((0 : Dev Cert.FwdGatherRefIdeal.nD).tc : Thread Cert.FwdGatherRefIdeal.nD Cert.FwdGatherRefIdeal.τ).loc Cert.FwdGatherRefIdeal.main_arg11))

def preserves_AdamFfn_AdamFfnIdeal : Prop :=
  True

def algebraic_AdamFfnIdeal_AdamFfnRefIdeal [hAdamFfnIdeal : Cert.AdamFfnIdeal.Facts] [hAdamFfnRefIdeal : Cert.AdamFfnRefIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg)
    (m' : (ℓ : Loc Cert.AdamFfnRefIdeal.nD Cert.AdamFfnRefIdeal.τ Cert.AdamFfnRefIdeal.sig) → Buf (Elt Ideal) ℓ) (g' : Dev Cert.AdamFfnRefIdeal.nD → PrngReg), Pre_AdamFfnIdeal m →
    (∀ c : Dev Cert.AdamFfnIdeal.nD,
      m' ((c.tc : Thread Cert.AdamFfnRefIdeal.nD Cert.AdamFfnRefIdeal.τ).loc Cert.AdamFfnRefIdeal.main_arg0) = m ((c.tc : Thread Cert.AdamFfnIdeal.nD Cert.AdamFfnIdeal.τ).loc Cert.AdamFfnIdeal.main_arg0)
      ∧ m' ((c.tc : Thread Cert.AdamFfnRefIdeal.nD Cert.AdamFfnRefIdeal.τ).loc Cert.AdamFfnRefIdeal.main_arg1) = m ((c.tc : Thread Cert.AdamFfnIdeal.nD Cert.AdamFfnIdeal.τ).loc Cert.AdamFfnIdeal.main_arg1)
      ∧ m' ((c.tc : Thread Cert.AdamFfnRefIdeal.nD Cert.AdamFfnRefIdeal.τ).loc Cert.AdamFfnRefIdeal.main_arg2) = m ((c.tc : Thread Cert.AdamFfnIdeal.nD Cert.AdamFfnIdeal.τ).loc Cert.AdamFfnIdeal.main_arg2)
      ∧ m' ((c.tc : Thread Cert.AdamFfnRefIdeal.nD Cert.AdamFfnRefIdeal.τ).loc Cert.AdamFfnRefIdeal.main_arg3) = m ((c.tc : Thread Cert.AdamFfnIdeal.nD Cert.AdamFfnIdeal.τ).loc Cert.AdamFfnIdeal.main_arg3)) →
    ∃ (v0 : (c : Dev Cert.AdamFfnIdeal.nD) → Buf (Elt Ideal) ((c.tc : Thread Cert.AdamFfnIdeal.nD Cert.AdamFfnIdeal.τ).loc Cert.AdamFfnIdeal.main_v0_0)) (v1 : (c : Dev Cert.AdamFfnIdeal.nD) → Buf (Elt Ideal) ((c.tc : Thread Cert.AdamFfnIdeal.nD Cert.AdamFfnIdeal.τ).loc Cert.AdamFfnIdeal.main_v0_1)) (v2 : (c : Dev Cert.AdamFfnIdeal.nD) → Buf (Elt Ideal) ((c.tc : Thread Cert.AdamFfnIdeal.nD Cert.AdamFfnIdeal.τ).loc Cert.AdamFfnIdeal.main_v0_2)),
      θ_run (Cert.AdamFfnIdeal.defs (F := Ideal)) (onTc (τ := Cert.AdamFfnIdeal.τ) (Cert.AdamFfnIdeal.main (F := Ideal))) ⟨m, fun _ => 0, g⟩ (fun r => ∀ c : Dev Cert.AdamFfnIdeal.nD,
          r.2.mem ((c.tc : Thread Cert.AdamFfnIdeal.nD Cert.AdamFfnIdeal.τ).loc Cert.AdamFfnIdeal.main_v0_0) = v0 c
          ∧ r.2.mem ((c.tc : Thread Cert.AdamFfnIdeal.nD Cert.AdamFfnIdeal.τ).loc Cert.AdamFfnIdeal.main_v0_1) = v1 c
          ∧ r.2.mem ((c.tc : Thread Cert.AdamFfnIdeal.nD Cert.AdamFfnIdeal.τ).loc Cert.AdamFfnIdeal.main_v0_2) = v2 c
          ∧ r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
          ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
          ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
          ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ θ_run (Cert.AdamFfnRefIdeal.defs (F := Ideal)) (onTc (τ := Cert.AdamFfnRefIdeal.τ) (Cert.AdamFfnRefIdeal.main (F := Ideal))) ⟨m', fun _ => 0, g'⟩ (fun r => ∀ c : Dev Cert.AdamFfnRefIdeal.nD,
          r.2.mem ((c.tc : Thread Cert.AdamFfnRefIdeal.nD Cert.AdamFfnRefIdeal.τ).loc Cert.AdamFfnRefIdeal.main_v23) = v0 c
          ∧ r.2.mem ((c.tc : Thread Cert.AdamFfnRefIdeal.nD Cert.AdamFfnRefIdeal.τ).loc Cert.AdamFfnRefIdeal.main_v4) = v1 c
          ∧ r.2.mem ((c.tc : Thread Cert.AdamFfnRefIdeal.nD Cert.AdamFfnRefIdeal.τ).loc Cert.AdamFfnRefIdeal.main_v10) = v2 c
          ∧ r.2.mem ((c.tc : Thread Cert.AdamFfnRefIdeal.nD Cert.AdamFfnRefIdeal.τ).loc Cert.AdamFfnRefIdeal.main_arg0) = m' ((c.tc : Thread Cert.AdamFfnRefIdeal.nD Cert.AdamFfnRefIdeal.τ).loc Cert.AdamFfnRefIdeal.main_arg0)
          ∧ r.2.mem ((c.tc : Thread Cert.AdamFfnRefIdeal.nD Cert.AdamFfnRefIdeal.τ).loc Cert.AdamFfnRefIdeal.main_arg1) = m' ((c.tc : Thread Cert.AdamFfnRefIdeal.nD Cert.AdamFfnRefIdeal.τ).loc Cert.AdamFfnRefIdeal.main_arg1)
          ∧ r.2.mem ((c.tc : Thread Cert.AdamFfnRefIdeal.nD Cert.AdamFfnRefIdeal.τ).loc Cert.AdamFfnRefIdeal.main_arg2) = m' ((c.tc : Thread Cert.AdamFfnRefIdeal.nD Cert.AdamFfnRefIdeal.τ).loc Cert.AdamFfnRefIdeal.main_arg2)
          ∧ r.2.mem ((c.tc : Thread Cert.AdamFfnRefIdeal.nD Cert.AdamFfnRefIdeal.τ).loc Cert.AdamFfnRefIdeal.main_arg3) = m' ((c.tc : Thread Cert.AdamFfnRefIdeal.nD Cert.AdamFfnRefIdeal.τ).loc Cert.AdamFfnRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamPle_AdamPleIdeal : Prop :=
  True

def algebraic_AdamPleIdeal_AdamPleRefIdeal [hAdamPleIdeal : Cert.AdamPleIdeal.Facts] [hAdamPleRefIdeal : Cert.AdamPleRefIdeal.Facts] : Prop :=
  ∀ (m : (ℓ : Loc Cert.AdamPleIdeal.nD Cert.AdamPleIdeal.τ Cert.AdamPleIdeal.sig) → Buf (Elt Ideal) ℓ) (g : Dev Cert.AdamPleIdeal.nD → PrngReg)
    (m' : (ℓ : Loc Cert.AdamPleRefIdeal.nD Cert.AdamPleRefIdeal.τ Cert.AdamPleRefIdeal.sig) → Buf (Elt Ideal) ℓ) (g' : Dev Cert.AdamPleRefIdeal.nD → PrngReg), Pre_AdamPleIdeal m →
    (∀ c : Dev Cert.AdamPleIdeal.nD,
      m' ((c.tc : Thread Cert.AdamPleRefIdeal.nD Cert.AdamPleRefIdeal.τ).loc Cert.AdamPleRefIdeal.main_arg0) = m ((c.tc : Thread Cert.AdamPleIdeal.nD Cert.AdamPleIdeal.τ).loc Cert.AdamPleIdeal.main_arg0)
      ∧ m' ((c.tc : Thread Cert.AdamPleRefIdeal.nD Cert.AdamPleRefIdeal.τ).loc Cert.AdamPleRefIdeal.main_arg1) = m ((c.tc : Thread Cert.AdamPleIdeal.nD Cert.AdamPleIdeal.τ).loc Cert.AdamPleIdeal.main_arg1)
      ∧ m' ((c.tc : Thread Cert.AdamPleRefIdeal.nD Cert.AdamPleRefIdeal.τ).loc Cert.AdamPleRefIdeal.main_arg2) = m ((c.tc : Thread Cert.AdamPleIdeal.nD Cert.AdamPleIdeal.τ).loc Cert.AdamPleIdeal.main_arg2)
      ∧ m' ((c.tc : Thread Cert.AdamPleRefIdeal.nD Cert.AdamPleRefIdeal.τ).loc Cert.AdamPleRefIdeal.main_arg3) = m ((c.tc : Thread Cert.AdamPleIdeal.nD Cert.AdamPleIdeal.τ).loc Cert.AdamPleIdeal.main_arg3)) →
    ∃ (v0 : (c : Dev Cert.AdamPleIdeal.nD) → Buf (Elt Ideal) ((c.tc : Thread Cert.AdamPleIdeal.nD Cert.AdamPleIdeal.τ).loc Cert.AdamPleIdeal.main_v0_0)) (v1 : (c : Dev Cert.AdamPleIdeal.nD) → Buf (Elt Ideal) ((c.tc : Thread Cert.AdamPleIdeal.nD Cert.AdamPleIdeal.τ).loc Cert.AdamPleIdeal.main_v0_1)) (v2 : (c : Dev Cert.AdamPleIdeal.nD) → Buf (Elt Ideal) ((c.tc : Thread Cert.AdamPleIdeal.nD Cert.AdamPleIdeal.τ).loc Cert.AdamPleIdeal.main_v0_2)),
      θ_run (Cert.AdamPleIdeal.defs (F := Ideal)) (onTc (τ := Cert.AdamPleIdeal.τ) (Cert.AdamPleIdeal.main (F := Ideal))) ⟨m, fun _ => 0, g⟩ (fun r => ∀ c : Dev Cert.AdamPleIdeal.nD,
          r.2.mem ((c.tc : Thread Cert.AdamPleIdeal.nD Cert.AdamPleIdeal.τ).loc Cert.AdamPleIdeal.main_v0_0) = v0 c
          ∧ r.2.mem ((c.tc : Thread Cert.AdamPleIdeal.nD Cert.AdamPleIdeal.τ).loc Cert.AdamPleIdeal.main_v0_1) = v1 c
          ∧ r.2.mem ((c.tc : Thread Cert.AdamPleIdeal.nD Cert.AdamPleIdeal.τ).loc Cert.AdamPleIdeal.main_v0_2) = v2 c
          ∧ r.2.mem ((c.tc : Thread Cert.AdamPleIdeal.nD Cert.AdamPleIdeal.τ).loc Cert.AdamPleIdeal.main_arg0) = m ((c.tc : Thread Cert.AdamPleIdeal.nD Cert.AdamPleIdeal.τ).loc Cert.AdamPleIdeal.main_arg0)
          ∧ r.2.mem ((c.tc : Thread Cert.AdamPleIdeal.nD Cert.AdamPleIdeal.τ).loc Cert.AdamPleIdeal.main_arg1) = m ((c.tc : Thread Cert.AdamPleIdeal.nD Cert.AdamPleIdeal.τ).loc Cert.AdamPleIdeal.main_arg1)
          ∧ r.2.mem ((c.tc : Thread Cert.AdamPleIdeal.nD Cert.AdamPleIdeal.τ).loc Cert.AdamPleIdeal.main_arg2) = m ((c.tc : Thread Cert.AdamPleIdeal.nD Cert.AdamPleIdeal.τ).loc Cert.AdamPleIdeal.main_arg2)
          ∧ r.2.mem ((c.tc : Thread Cert.AdamPleIdeal.nD Cert.AdamPleIdeal.τ).loc Cert.AdamPleIdeal.main_arg3) = m ((c.tc : Thread Cert.AdamPleIdeal.nD Cert.AdamPleIdeal.τ).loc Cert.AdamPleIdeal.main_arg3))
      ∧ θ_run (Cert.AdamPleRefIdeal.defs (F := Ideal)) (onTc (τ := Cert.AdamPleRefIdeal.τ) (Cert.AdamPleRefIdeal.main (F := Ideal))) ⟨m', fun _ => 0, g'⟩ (fun r => ∀ c : Dev Cert.AdamPleRefIdeal.nD,
          r.2.mem ((c.tc : Thread Cert.AdamPleRefIdeal.nD Cert.AdamPleRefIdeal.τ).loc Cert.AdamPleRefIdeal.main_v23) = v0 c
          ∧ r.2.mem ((c.tc : Thread Cert.AdamPleRefIdeal.nD Cert.AdamPleRefIdeal.τ).loc Cert.AdamPleRefIdeal.main_v4) = v1 c
          ∧ r.2.mem ((c.tc : Thread Cert.AdamPleRefIdeal.nD Cert.AdamPleRefIdeal.τ).loc Cert.AdamPleRefIdeal.main_v10) = v2 c
          ∧ r.2.mem ((c.tc : Thread Cert.AdamPleRefIdeal.nD Cert.AdamPleRefIdeal.τ).loc Cert.AdamPleRefIdeal.main_arg0) = m' ((c.tc : Thread Cert.AdamPleRefIdeal.nD Cert.AdamPleRefIdeal.τ).loc Cert.AdamPleRefIdeal.main_arg0)
          ∧ r.2.mem ((c.tc : Thread Cert.AdamPleRefIdeal.nD Cert.AdamPleRefIdeal.τ).loc Cert.AdamPleRefIdeal.main_arg1) = m' ((c.tc : Thread Cert.AdamPleRefIdeal.nD Cert.AdamPleRefIdeal.τ).loc Cert.AdamPleRefIdeal.main_arg1)
          ∧ r.2.mem ((c.tc : Thread Cert.AdamPleRefIdeal.nD Cert.AdamPleRefIdeal.τ).loc Cert.AdamPleRefIdeal.main_arg2) = m' ((c.tc : Thread Cert.AdamPleRefIdeal.nD Cert.AdamPleRefIdeal.τ).loc Cert.AdamPleRefIdeal.main_arg2)
          ∧ r.2.mem ((c.tc : Thread Cert.AdamPleRefIdeal.nD Cert.AdamPleRefIdeal.τ).loc Cert.AdamPleRefIdeal.main_arg3) = m' ((c.tc : Thread Cert.AdamPleRefIdeal.nD Cert.AdamPleRefIdeal.τ).loc Cert.AdamPleRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_ShardFfn_ShardFfnIdeal : Prop :=
  True

def algebraic_ShardFfnIdeal_ShardFfnRefIdeal_on_own_half_ffn [hShardFfnIdeal : Cert.ShardFfnIdeal.Facts] [hShardFfnRefIdeal : Cert.ShardFfnRefIdeal.Facts] [hPre_placed_ffn : Cert.Pre_placed_ffn.Facts] [hOn_own_half_ffn : Cert.On_own_half_ffn.Facts] : Prop :=
  ∀ (m : (ℓ : Loc Cert.ShardFfnIdeal.nD Cert.ShardFfnIdeal.τ Cert.ShardFfnIdeal.sig) → Buf (Elt Ideal) ℓ) (g : Dev Cert.ShardFfnIdeal.nD → PrngReg)
    (m' : (ℓ : Loc Cert.ShardFfnRefIdeal.nD Cert.ShardFfnRefIdeal.τ Cert.ShardFfnRefIdeal.sig) → Buf (Elt Ideal) ℓ) (g' : Dev Cert.ShardFfnRefIdeal.nD → PrngReg), Pre_ShardFfnIdeal m →
    (∀ c : Dev Cert.ShardFfnIdeal.nD,
      m' ((c.tc : Thread Cert.ShardFfnRefIdeal.nD Cert.ShardFfnRefIdeal.τ).loc Cert.ShardFfnRefIdeal.main_arg0) = m ((c.tc : Thread Cert.ShardFfnIdeal.nD Cert.ShardFfnIdeal.τ).loc Cert.ShardFfnIdeal.main_arg0)
      ∧ m' ((c.tc : Thread Cert.ShardFfnRefIdeal.nD Cert.ShardFfnRefIdeal.τ).loc Cert.ShardFfnRefIdeal.main_arg1) = m ((c.tc : Thread Cert.ShardFfnIdeal.nD Cert.ShardFfnIdeal.τ).loc Cert.ShardFfnIdeal.main_arg1)
      ∧ m' ((c.tc : Thread Cert.ShardFfnRefIdeal.nD Cert.ShardFfnRefIdeal.τ).loc Cert.ShardFfnRefIdeal.main_arg2) = m ((c.tc : Thread Cert.ShardFfnIdeal.nD Cert.ShardFfnIdeal.τ).loc Cert.ShardFfnIdeal.main_arg2)) →
    ∃ (v0 : (c : Dev Cert.ShardFfnIdeal.nD) → Buf (Elt Ideal) ((c.tc : Thread Cert.ShardFfnIdeal.nD Cert.ShardFfnIdeal.τ).loc Cert.ShardFfnIdeal.main_v0)),
      θ_run (Cert.ShardFfnIdeal.defs (F := Ideal)) (onTc (τ := Cert.ShardFfnIdeal.τ) (Cert.ShardFfnIdeal.main (F := Ideal))) ⟨m, fun _ => 0, g⟩ (fun r => ∀ c : Dev Cert.ShardFfnIdeal.nD,
          (∀ i : (⟨2, ![704, 1024]⟩ : Shape).Idx, (Cert.On_own_half_ffn.fn (F := Ideal) (m ((c.tc : Thread Cert.ShardFfnIdeal.nD Cert.ShardFfnIdeal.τ).loc Cert.ShardFfnIdeal.main_arg0)) (m ((c.tc : Thread Cert.ShardFfnIdeal.nD Cert.ShardFfnIdeal.τ).loc Cert.ShardFfnIdeal.main_arg1)) (m ((c.tc : Thread Cert.ShardFfnIdeal.nD Cert.ShardFfnIdeal.τ).loc Cert.ShardFfnIdeal.main_arg2))) i = 1#1 → r.2.mem ((c.tc : Thread Cert.ShardFfnIdeal.nD Cert.ShardFfnIdeal.τ).loc Cert.ShardFfnIdeal.main_v0) i = v0 c i)
          ∧ r.2.mem ((c.tc : Thread Cert.ShardFfnIdeal.nD Cert.ShardFfnIdeal.τ).loc Cert.ShardFfnIdeal.main_arg0) = m ((c.tc : Thread Cert.ShardFfnIdeal.nD Cert.ShardFfnIdeal.τ).loc Cert.ShardFfnIdeal.main_arg0)
          ∧ r.2.mem ((c.tc : Thread Cert.ShardFfnIdeal.nD Cert.ShardFfnIdeal.τ).loc Cert.ShardFfnIdeal.main_arg1) = m ((c.tc : Thread Cert.ShardFfnIdeal.nD Cert.ShardFfnIdeal.τ).loc Cert.ShardFfnIdeal.main_arg1)
          ∧ r.2.mem ((c.tc : Thread Cert.ShardFfnIdeal.nD Cert.ShardFfnIdeal.τ).loc Cert.ShardFfnIdeal.main_arg2) = m ((c.tc : Thread Cert.ShardFfnIdeal.nD Cert.ShardFfnIdeal.τ).loc Cert.ShardFfnIdeal.main_arg2))
      ∧ θ_run (Cert.ShardFfnRefIdeal.defs (F := Ideal)) (onTc (τ := Cert.ShardFfnRefIdeal.τ) (Cert.ShardFfnRefIdeal.main (F := Ideal))) ⟨m', fun _ => 0, g'⟩ (fun r => ∀ c : Dev Cert.ShardFfnRefIdeal.nD,
          (∀ i : (⟨2, ![704, 1024]⟩ : Shape).Idx, (Cert.On_own_half_ffn.fn (F := Ideal) (m ((c.tc : Thread Cert.ShardFfnIdeal.nD Cert.ShardFfnIdeal.τ).loc Cert.ShardFfnIdeal.main_arg0)) (m ((c.tc : Thread Cert.ShardFfnIdeal.nD Cert.ShardFfnIdeal.τ).loc Cert.ShardFfnIdeal.main_arg1)) (m ((c.tc : Thread Cert.ShardFfnIdeal.nD Cert.ShardFfnIdeal.τ).loc Cert.ShardFfnIdeal.main_arg2))) i = 1#1 → r.2.mem ((c.tc : Thread Cert.ShardFfnRefIdeal.nD Cert.ShardFfnRefIdeal.τ).loc Cert.ShardFfnRefIdeal.main_v13) i = v0 c i)
          ∧ r.2.mem ((c.tc : Thread Cert.ShardFfnRefIdeal.nD Cert.ShardFfnRefIdeal.τ).loc Cert.ShardFfnRefIdeal.main_arg0) = m' ((c.tc : Thread Cert.ShardFfnRefIdeal.nD Cert.ShardFfnRefIdeal.τ).loc Cert.ShardFfnRefIdeal.main_arg0)
          ∧ r.2.mem ((c.tc : Thread Cert.ShardFfnRefIdeal.nD Cert.ShardFfnRefIdeal.τ).loc Cert.ShardFfnRefIdeal.main_arg1) = m' ((c.tc : Thread Cert.ShardFfnRefIdeal.nD Cert.ShardFfnRefIdeal.τ).loc Cert.ShardFfnRefIdeal.main_arg1)
          ∧ r.2.mem ((c.tc : Thread Cert.ShardFfnRefIdeal.nD Cert.ShardFfnRefIdeal.τ).loc Cert.ShardFfnRefIdeal.main_arg2) = m' ((c.tc : Thread Cert.ShardFfnRefIdeal.nD Cert.ShardFfnRefIdeal.τ).loc Cert.ShardFfnRefIdeal.main_arg2))

def preserves_ShardIn_ShardInIdeal : Prop :=
  True

def algebraic_ShardInIdeal_ShardInRefIdeal_on_own_half_in [hShardInIdeal : Cert.ShardInIdeal.Facts] [hShardInRefIdeal : Cert.ShardInRefIdeal.Facts] [hPre_placed_in : Cert.Pre_placed_in.Facts] [hOn_own_half_in : Cert.On_own_half_in.Facts] : Prop :=
  ∀ (m : (ℓ : Loc Cert.ShardInIdeal.nD Cert.ShardInIdeal.τ Cert.ShardInIdeal.sig) → Buf (Elt Ideal) ℓ) (g : Dev Cert.ShardInIdeal.nD → PrngReg)
    (m' : (ℓ : Loc Cert.ShardInRefIdeal.nD Cert.ShardInRefIdeal.τ Cert.ShardInRefIdeal.sig) → Buf (Elt Ideal) ℓ) (g' : Dev Cert.ShardInRefIdeal.nD → PrngReg), Pre_ShardInIdeal m →
    (∀ c : Dev Cert.ShardInIdeal.nD,
      m' ((c.tc : Thread Cert.ShardInRefIdeal.nD Cert.ShardInRefIdeal.τ).loc Cert.ShardInRefIdeal.main_arg0) = m ((c.tc : Thread Cert.ShardInIdeal.nD Cert.ShardInIdeal.τ).loc Cert.ShardInIdeal.main_arg0)
      ∧ m' ((c.tc : Thread Cert.ShardInRefIdeal.nD Cert.ShardInRefIdeal.τ).loc Cert.ShardInRefIdeal.main_arg1) = m ((c.tc : Thread Cert.ShardInIdeal.nD Cert.ShardInIdeal.τ).loc Cert.ShardInIdeal.main_arg1)
      ∧ m' ((c.tc : Thread Cert.ShardInRefIdeal.nD Cert.ShardInRefIdeal.τ).loc Cert.ShardInRefIdeal.main_arg2) = m ((c.tc : Thread Cert.ShardInIdeal.nD Cert.ShardInIdeal.τ).loc Cert.ShardInIdeal.main_arg2)) →
    ∃ (v0 : (c : Dev Cert.ShardInIdeal.nD) → Buf (Elt Ideal) ((c.tc : Thread Cert.ShardInIdeal.nD Cert.ShardInIdeal.τ).loc Cert.ShardInIdeal.main_v0)),
      θ_run (Cert.ShardInIdeal.defs (F := Ideal)) (onTc (τ := Cert.ShardInIdeal.τ) (Cert.ShardInIdeal.main (F := Ideal))) ⟨m, fun _ => 0, g⟩ (fun r => ∀ c : Dev Cert.ShardInIdeal.nD,
          (∀ i : (⟨2, ![1024, 768]⟩ : Shape).Idx, (Cert.On_own_half_in.fn (F := Ideal) (m ((c.tc : Thread Cert.ShardInIdeal.nD Cert.ShardInIdeal.τ).loc Cert.ShardInIdeal.main_arg0)) (m ((c.tc : Thread Cert.ShardInIdeal.nD Cert.ShardInIdeal.τ).loc Cert.ShardInIdeal.main_arg1)) (m ((c.tc : Thread Cert.ShardInIdeal.nD Cert.ShardInIdeal.τ).loc Cert.ShardInIdeal.main_arg2))) i = 1#1 → r.2.mem ((c.tc : Thread Cert.ShardInIdeal.nD Cert.ShardInIdeal.τ).loc Cert.ShardInIdeal.main_v0) i = v0 c i)
          ∧ r.2.mem ((c.tc : Thread Cert.ShardInIdeal.nD Cert.ShardInIdeal.τ).loc Cert.ShardInIdeal.main_arg0) = m ((c.tc : Thread Cert.ShardInIdeal.nD Cert.ShardInIdeal.τ).loc Cert.ShardInIdeal.main_arg0)
          ∧ r.2.mem ((c.tc : Thread Cert.ShardInIdeal.nD Cert.ShardInIdeal.τ).loc Cert.ShardInIdeal.main_arg1) = m ((c.tc : Thread Cert.ShardInIdeal.nD Cert.ShardInIdeal.τ).loc Cert.ShardInIdeal.main_arg1)
          ∧ r.2.mem ((c.tc : Thread Cert.ShardInIdeal.nD Cert.ShardInIdeal.τ).loc Cert.ShardInIdeal.main_arg2) = m ((c.tc : Thread Cert.ShardInIdeal.nD Cert.ShardInIdeal.τ).loc Cert.ShardInIdeal.main_arg2))
      ∧ θ_run (Cert.ShardInRefIdeal.defs (F := Ideal)) (onTc (τ := Cert.ShardInRefIdeal.τ) (Cert.ShardInRefIdeal.main (F := Ideal))) ⟨m', fun _ => 0, g'⟩ (fun r => ∀ c : Dev Cert.ShardInRefIdeal.nD,
          (∀ i : (⟨2, ![1024, 768]⟩ : Shape).Idx, (Cert.On_own_half_in.fn (F := Ideal) (m ((c.tc : Thread Cert.ShardInIdeal.nD Cert.ShardInIdeal.τ).loc Cert.ShardInIdeal.main_arg0)) (m ((c.tc : Thread Cert.ShardInIdeal.nD Cert.ShardInIdeal.τ).loc Cert.ShardInIdeal.main_arg1)) (m ((c.tc : Thread Cert.ShardInIdeal.nD Cert.ShardInIdeal.τ).loc Cert.ShardInIdeal.main_arg2))) i = 1#1 → r.2.mem ((c.tc : Thread Cert.ShardInRefIdeal.nD Cert.ShardInRefIdeal.τ).loc Cert.ShardInRefIdeal.main_v13) i = v0 c i)
          ∧ r.2.mem ((c.tc : Thread Cert.ShardInRefIdeal.nD Cert.ShardInRefIdeal.τ).loc Cert.ShardInRefIdeal.main_arg0) = m' ((c.tc : Thread Cert.ShardInRefIdeal.nD Cert.ShardInRefIdeal.τ).loc Cert.ShardInRefIdeal.main_arg0)
          ∧ r.2.mem ((c.tc : Thread Cert.ShardInRefIdeal.nD Cert.ShardInRefIdeal.τ).loc Cert.ShardInRefIdeal.main_arg1) = m' ((c.tc : Thread Cert.ShardInRefIdeal.nD Cert.ShardInRefIdeal.τ).loc Cert.ShardInRefIdeal.main_arg1)
          ∧ r.2.mem ((c.tc : Thread Cert.ShardInRefIdeal.nD Cert.ShardInRefIdeal.τ).loc Cert.ShardInRefIdeal.main_arg2) = m' ((c.tc : Thread Cert.ShardInRefIdeal.nD Cert.ShardInRefIdeal.τ).loc Cert.ShardInRefIdeal.main_arg2))

def preserves_ShardOut_ShardOutIdeal : Prop :=
  True

def algebraic_ShardOutIdeal_ShardOutRefIdeal_on_own_half_out [hShardOutIdeal : Cert.ShardOutIdeal.Facts] [hShardOutRefIdeal : Cert.ShardOutRefIdeal.Facts] [hPre_placed_out : Cert.Pre_placed_out.Facts] [hOn_own_half_out : Cert.On_own_half_out.Facts] : Prop :=
  ∀ (m : (ℓ : Loc Cert.ShardOutIdeal.nD Cert.ShardOutIdeal.τ Cert.ShardOutIdeal.sig) → Buf (Elt Ideal) ℓ) (g : Dev Cert.ShardOutIdeal.nD → PrngReg)
    (m' : (ℓ : Loc Cert.ShardOutRefIdeal.nD Cert.ShardOutRefIdeal.τ Cert.ShardOutRefIdeal.sig) → Buf (Elt Ideal) ℓ) (g' : Dev Cert.ShardOutRefIdeal.nD → PrngReg), Pre_ShardOutIdeal m →
    (∀ c : Dev Cert.ShardOutIdeal.nD,
      m' ((c.tc : Thread Cert.ShardOutRefIdeal.nD Cert.ShardOutRefIdeal.τ).loc Cert.ShardOutRefIdeal.main_arg0) = m ((c.tc : Thread Cert.ShardOutIdeal.nD Cert.ShardOutIdeal.τ).loc Cert.ShardOutIdeal.main_arg0)
      ∧ m' ((c.tc : Thread Cert.ShardOutRefIdeal.nD Cert.ShardOutRefIdeal.τ).loc Cert.ShardOutRefIdeal.main_arg1) = m ((c.tc : Thread Cert.ShardOutIdeal.nD Cert.ShardOutIdeal.τ).loc Cert.ShardOutIdeal.main_arg1)
      ∧ m' ((c.tc : Thread Cert.ShardOutRefIdeal.nD Cert.ShardOutRefIdeal.τ).loc Cert.ShardOutRefIdeal.main_arg2) = m ((c.tc : Thread Cert.ShardOutIdeal.nD Cert.ShardOutIdeal.τ).loc Cert.ShardOutIdeal.main_arg2)) →
    ∃ (v0 : (c : Dev Cert.ShardOutIdeal.nD) → Buf (Elt Ideal) ((c.tc : Thread Cert.ShardOutIdeal.nD Cert.ShardOutIdeal.τ).loc Cert.ShardOutIdeal.main_v0)),
      θ_run (Cert.ShardOutIdeal.defs (F := Ideal)) (onTc (τ := Cert.ShardOutIdeal.τ) (Cert.ShardOutIdeal.main (F := Ideal))) ⟨m, fun _ => 0, g⟩ (fun r => ∀ c : Dev Cert.ShardOutIdeal.nD,
          (∀ i : (⟨2, ![256, 1024]⟩ : Shape).Idx, (Cert.On_own_half_out.fn (F := Ideal) (m ((c.tc : Thread Cert.ShardOutIdeal.nD Cert.ShardOutIdeal.τ).loc Cert.ShardOutIdeal.main_arg0)) (m ((c.tc : Thread Cert.ShardOutIdeal.nD Cert.ShardOutIdeal.τ).loc Cert.ShardOutIdeal.main_arg1)) (m ((c.tc : Thread Cert.ShardOutIdeal.nD Cert.ShardOutIdeal.τ).loc Cert.ShardOutIdeal.main_arg2))) i = 1#1 → r.2.mem ((c.tc : Thread Cert.ShardOutIdeal.nD Cert.ShardOutIdeal.τ).loc Cert.ShardOutIdeal.main_v0) i = v0 c i)
          ∧ r.2.mem ((c.tc : Thread Cert.ShardOutIdeal.nD Cert.ShardOutIdeal.τ).loc Cert.ShardOutIdeal.main_arg0) = m ((c.tc : Thread Cert.ShardOutIdeal.nD Cert.ShardOutIdeal.τ).loc Cert.ShardOutIdeal.main_arg0)
          ∧ r.2.mem ((c.tc : Thread Cert.ShardOutIdeal.nD Cert.ShardOutIdeal.τ).loc Cert.ShardOutIdeal.main_arg1) = m ((c.tc : Thread Cert.ShardOutIdeal.nD Cert.ShardOutIdeal.τ).loc Cert.ShardOutIdeal.main_arg1)
          ∧ r.2.mem ((c.tc : Thread Cert.ShardOutIdeal.nD Cert.ShardOutIdeal.τ).loc Cert.ShardOutIdeal.main_arg2) = m ((c.tc : Thread Cert.ShardOutIdeal.nD Cert.ShardOutIdeal.τ).loc Cert.ShardOutIdeal.main_arg2))
      ∧ θ_run (Cert.ShardOutRefIdeal.defs (F := Ideal)) (onTc (τ := Cert.ShardOutRefIdeal.τ) (Cert.ShardOutRefIdeal.main (F := Ideal))) ⟨m', fun _ => 0, g'⟩ (fun r => ∀ c : Dev Cert.ShardOutRefIdeal.nD,
          (∀ i : (⟨2, ![256, 1024]⟩ : Shape).Idx, (Cert.On_own_half_out.fn (F := Ideal) (m ((c.tc : Thread Cert.ShardOutIdeal.nD Cert.ShardOutIdeal.τ).loc Cert.ShardOutIdeal.main_arg0)) (m ((c.tc : Thread Cert.ShardOutIdeal.nD Cert.ShardOutIdeal.τ).loc Cert.ShardOutIdeal.main_arg1)) (m ((c.tc : Thread Cert.ShardOutIdeal.nD Cert.ShardOutIdeal.τ).loc Cert.ShardOutIdeal.main_arg2))) i = 1#1 → r.2.mem ((c.tc : Thread Cert.ShardOutRefIdeal.nD Cert.ShardOutRefIdeal.τ).loc Cert.ShardOutRefIdeal.main_v13) i = v0 c i)
          ∧ r.2.mem ((c.tc : Thread Cert.ShardOutRefIdeal.nD Cert.ShardOutRefIdeal.τ).loc Cert.ShardOutRefIdeal.main_arg0) = m' ((c.tc : Thread Cert.ShardOutRefIdeal.nD Cert.ShardOutRefIdeal.τ).loc Cert.ShardOutRefIdeal.main_arg0)
          ∧ r.2.mem ((c.tc : Thread Cert.ShardOutRefIdeal.nD Cert.ShardOutRefIdeal.τ).loc Cert.ShardOutRefIdeal.main_arg1) = m' ((c.tc : Thread Cert.ShardOutRefIdeal.nD Cert.ShardOutRefIdeal.τ).loc Cert.ShardOutRefIdeal.main_arg1)
          ∧ r.2.mem ((c.tc : Thread Cert.ShardOutRefIdeal.nD Cert.ShardOutRefIdeal.τ).loc Cert.ShardOutRefIdeal.main_arg2) = m' ((c.tc : Thread Cert.ShardOutRefIdeal.nD Cert.ShardOutRefIdeal.τ).loc Cert.ShardOutRefIdeal.main_arg2))

def preserves_ShardPle_ShardPleIdeal : Prop :=
  True

def algebraic_ShardPleIdeal_ShardPleRefIdeal_on_own_half_ple [hShardPleIdeal : Cert.ShardPleIdeal.Facts] [hShardPleRefIdeal : Cert.ShardPleRefIdeal.Facts] [hPre_placed_ple : Cert.Pre_placed_ple.Facts] [hOn_own_half_ple : Cert.On_own_half_ple.Facts] : Prop :=
  ∀ (m : (ℓ : Loc Cert.ShardPleIdeal.nD Cert.ShardPleIdeal.τ Cert.ShardPleIdeal.sig) → Buf (Elt Ideal) ℓ) (g : Dev Cert.ShardPleIdeal.nD → PrngReg)
    (m' : (ℓ : Loc Cert.ShardPleRefIdeal.nD Cert.ShardPleRefIdeal.τ Cert.ShardPleRefIdeal.sig) → Buf (Elt Ideal) ℓ) (g' : Dev Cert.ShardPleRefIdeal.nD → PrngReg), Pre_ShardPleIdeal m →
    (∀ c : Dev Cert.ShardPleIdeal.nD,
      m' ((c.tc : Thread Cert.ShardPleRefIdeal.nD Cert.ShardPleRefIdeal.τ).loc Cert.ShardPleRefIdeal.main_arg0) = m ((c.tc : Thread Cert.ShardPleIdeal.nD Cert.ShardPleIdeal.τ).loc Cert.ShardPleIdeal.main_arg0)
      ∧ m' ((c.tc : Thread Cert.ShardPleRefIdeal.nD Cert.ShardPleRefIdeal.τ).loc Cert.ShardPleRefIdeal.main_arg1) = m ((c.tc : Thread Cert.ShardPleIdeal.nD Cert.ShardPleIdeal.τ).loc Cert.ShardPleIdeal.main_arg1)
      ∧ m' ((c.tc : Thread Cert.ShardPleRefIdeal.nD Cert.ShardPleRefIdeal.τ).loc Cert.ShardPleRefIdeal.main_arg2) = m ((c.tc : Thread Cert.ShardPleIdeal.nD Cert.ShardPleIdeal.τ).loc Cert.ShardPleIdeal.main_arg2)) →
    ∃ (v0 : (c : Dev Cert.ShardPleIdeal.nD) → Buf (Elt Ideal) ((c.tc : Thread Cert.ShardPleIdeal.nD Cert.ShardPleIdeal.τ).loc Cert.ShardPleIdeal.main_v0)),
      θ_run (Cert.ShardPleIdeal.defs (F := Ideal)) (onTc (τ := Cert.ShardPleIdeal.τ) (Cert.ShardPleIdeal.main (F := Ideal))) ⟨m, fun _ => 0, g⟩ (fun r => ∀ c : Dev Cert.ShardPleIdeal.nD,
          (∀ i : (⟨2, ![256, 256]⟩ : Shape).Idx, (Cert.On_own_half_ple.fn (F := Ideal) (m ((c.tc : Thread Cert.ShardPleIdeal.nD Cert.ShardPleIdeal.τ).loc Cert.ShardPleIdeal.main_arg0)) (m ((c.tc : Thread Cert.ShardPleIdeal.nD Cert.ShardPleIdeal.τ).loc Cert.ShardPleIdeal.main_arg1)) (m ((c.tc : Thread Cert.ShardPleIdeal.nD Cert.ShardPleIdeal.τ).loc Cert.ShardPleIdeal.main_arg2))) i = 1#1 → r.2.mem ((c.tc : Thread Cert.ShardPleIdeal.nD Cert.ShardPleIdeal.τ).loc Cert.ShardPleIdeal.main_v0) i = v0 c i)
          ∧ r.2.mem ((c.tc : Thread Cert.ShardPleIdeal.nD Cert.ShardPleIdeal.τ).loc Cert.ShardPleIdeal.main_arg0) = m ((c.tc : Thread Cert.ShardPleIdeal.nD Cert.ShardPleIdeal.τ).loc Cert.ShardPleIdeal.main_arg0)
          ∧ r.2.mem ((c.tc : Thread Cert.ShardPleIdeal.nD Cert.ShardPleIdeal.τ).loc Cert.ShardPleIdeal.main_arg1) = m ((c.tc : Thread Cert.ShardPleIdeal.nD Cert.ShardPleIdeal.τ).loc Cert.ShardPleIdeal.main_arg1)
          ∧ r.2.mem ((c.tc : Thread Cert.ShardPleIdeal.nD Cert.ShardPleIdeal.τ).loc Cert.ShardPleIdeal.main_arg2) = m ((c.tc : Thread Cert.ShardPleIdeal.nD Cert.ShardPleIdeal.τ).loc Cert.ShardPleIdeal.main_arg2))
      ∧ θ_run (Cert.ShardPleRefIdeal.defs (F := Ideal)) (onTc (τ := Cert.ShardPleRefIdeal.τ) (Cert.ShardPleRefIdeal.main (F := Ideal))) ⟨m', fun _ => 0, g'⟩ (fun r => ∀ c : Dev Cert.ShardPleRefIdeal.nD,
          (∀ i : (⟨2, ![256, 256]⟩ : Shape).Idx, (Cert.On_own_half_ple.fn (F := Ideal) (m ((c.tc : Thread Cert.ShardPleIdeal.nD Cert.ShardPleIdeal.τ).loc Cert.ShardPleIdeal.main_arg0)) (m ((c.tc : Thread Cert.ShardPleIdeal.nD Cert.ShardPleIdeal.τ).loc Cert.ShardPleIdeal.main_arg1)) (m ((c.tc : Thread Cert.ShardPleIdeal.nD Cert.ShardPleIdeal.τ).loc Cert.ShardPleIdeal.main_arg2))) i = 1#1 → r.2.mem ((c.tc : Thread Cert.ShardPleRefIdeal.nD Cert.ShardPleRefIdeal.τ).loc Cert.ShardPleRefIdeal.main_v13) i = v0 c i)
          ∧ r.2.mem ((c.tc : Thread Cert.ShardPleRefIdeal.nD Cert.ShardPleRefIdeal.τ).loc Cert.ShardPleRefIdeal.main_arg0) = m' ((c.tc : Thread Cert.ShardPleRefIdeal.nD Cert.ShardPleRefIdeal.τ).loc Cert.ShardPleRefIdeal.main_arg0)
          ∧ r.2.mem ((c.tc : Thread Cert.ShardPleRefIdeal.nD Cert.ShardPleRefIdeal.τ).loc Cert.ShardPleRefIdeal.main_arg1) = m' ((c.tc : Thread Cert.ShardPleRefIdeal.nD Cert.ShardPleRefIdeal.τ).loc Cert.ShardPleRefIdeal.main_arg1)
          ∧ r.2.mem ((c.tc : Thread Cert.ShardPleRefIdeal.nD Cert.ShardPleRefIdeal.τ).loc Cert.ShardPleRefIdeal.main_arg2) = m' ((c.tc : Thread Cert.ShardPleRefIdeal.nD Cert.ShardPleRefIdeal.τ).loc Cert.ShardPleRefIdeal.main_arg2))

def preserves_PleLoss_PleLossIdeal : Prop :=
  True

def algebraic_PleLossIdeal_PleLossRefIdeal [hPleLossIdeal : Cert.PleLossIdeal.Facts] [hPleLossRefIdeal : Cert.PleLossRefIdeal.Facts] : Prop :=
  ∀ (m : (ℓ : Loc Cert.PleLossIdeal.nD Cert.PleLossIdeal.τ Cert.PleLossIdeal.sig) → Buf (Elt Ideal) ℓ) (g : Dev Cert.PleLossIdeal.nD → PrngReg)
    (m' : (ℓ : Loc Cert.PleLossRefIdeal.nD Cert.PleLossRefIdeal.τ Cert.PleLossRefIdeal.sig) → Buf (Elt Ideal) ℓ) (g' : Dev Cert.PleLossRefIdeal.nD → PrngReg), Pre_PleLossIdeal m →
    (∀ c : Dev Cert.PleLossIdeal.nD,
      m' ((c.tc : Thread Cert.PleLossRefIdeal.nD Cert.PleLossRefIdeal.τ).loc Cert.PleLossRefIdeal.main_arg0) = m ((c.tc : Thread Cert.PleLossIdeal.nD Cert.PleLossIdeal.τ).loc Cert.PleLossIdeal.main_arg0)
      ∧ m' ((c.tc : Thread Cert.PleLossRefIdeal.nD Cert.PleLossRefIdeal.τ).loc Cert.PleLossRefIdeal.main_arg1) = m ((c.tc : Thread Cert.PleLossIdeal.nD Cert.PleLossIdeal.τ).loc Cert.PleLossIdeal.main_arg1)
      ∧ m' ((c.tc : Thread Cert.PleLossRefIdeal.nD Cert.PleLossRefIdeal.τ).loc Cert.PleLossRefIdeal.main_arg2) = m ((c.tc : Thread Cert.PleLossIdeal.nD Cert.PleLossIdeal.τ).loc Cert.PleLossIdeal.main_arg2)
      ∧ m' ((c.tc : Thread Cert.PleLossRefIdeal.nD Cert.PleLossRefIdeal.τ).loc Cert.PleLossRefIdeal.main_arg3) = m ((c.tc : Thread Cert.PleLossIdeal.nD Cert.PleLossIdeal.τ).loc Cert.PleLossIdeal.main_arg3)
      ∧ m' ((c.tc : Thread Cert.PleLossRefIdeal.nD Cert.PleLossRefIdeal.τ).loc Cert.PleLossRefIdeal.main_arg4) = m ((c.tc : Thread Cert.PleLossIdeal.nD Cert.PleLossIdeal.τ).loc Cert.PleLossIdeal.main_arg4)
      ∧ m' ((c.tc : Thread Cert.PleLossRefIdeal.nD Cert.PleLossRefIdeal.τ).loc Cert.PleLossRefIdeal.main_arg5) = m ((c.tc : Thread Cert.PleLossIdeal.nD Cert.PleLossIdeal.τ).loc Cert.PleLossIdeal.main_arg5)) →
    ∃ (v0 : (c : Dev Cert.PleLossIdeal.nD) → Buf (Elt Ideal) ((c.tc : Thread Cert.PleLossIdeal.nD Cert.PleLossIdeal.τ).loc Cert.PleLossIdeal.main_v0_0)) (v1 : (c : Dev Cert.PleLossIdeal.nD) → Buf (Elt Ideal) ((c.tc : Thread Cert.PleLossIdeal.nD Cert.PleLossIdeal.τ).loc Cert.PleLossIdeal.main_v0_1)) (v2 : (c : Dev Cert.PleLossIdeal.nD) → Buf (Elt Ideal) ((c.tc : Thread Cert.PleLossIdeal.nD Cert.PleLossIdeal.τ).loc Cert.PleLossIdeal.main_v0_2)) (v3 : (c : Dev Cert.PleLossIdeal.nD) → Buf (Elt Ideal) ((c.tc : Thread Cert.PleLossIdeal.nD Cert.PleLossIdeal.τ).loc Cert.PleLossIdeal.main_v0_3)) (v4 : (c : Dev Cert.PleLossIdeal.nD) → Buf (Elt Ideal) ((c.tc : Thread Cert.PleLossIdeal.nD Cert.PleLossIdeal.τ).loc Cert.PleLossIdeal.main_v0_4)) (v5 : (c : Dev Cert.PleLossIdeal.nD) → Buf (Elt Ideal) ((c.tc : Thread Cert.PleLossIdeal.nD Cert.PleLossIdeal.τ).loc Cert.PleLossIdeal.main_v0_5)),
      θ_run (Cert.PleLossIdeal.defs (F := Ideal)) (onTc (τ := Cert.PleLossIdeal.τ) (Cert.PleLossIdeal.main (F := Ideal))) ⟨m, fun _ => 0, g⟩ (fun r => ∀ c : Dev Cert.PleLossIdeal.nD,
          r.2.mem ((c.tc : Thread Cert.PleLossIdeal.nD Cert.PleLossIdeal.τ).loc Cert.PleLossIdeal.main_v0_0) = v0 c
          ∧ r.2.mem ((c.tc : Thread Cert.PleLossIdeal.nD Cert.PleLossIdeal.τ).loc Cert.PleLossIdeal.main_v0_1) = v1 c
          ∧ r.2.mem ((c.tc : Thread Cert.PleLossIdeal.nD Cert.PleLossIdeal.τ).loc Cert.PleLossIdeal.main_v0_2) = v2 c
          ∧ r.2.mem ((c.tc : Thread Cert.PleLossIdeal.nD Cert.PleLossIdeal.τ).loc Cert.PleLossIdeal.main_v0_3) = v3 c
          ∧ r.2.mem ((c.tc : Thread Cert.PleLossIdeal.nD Cert.PleLossIdeal.τ).loc Cert.PleLossIdeal.main_v0_4) = v4 c
          ∧ r.2.mem ((c.tc : Thread Cert.PleLossIdeal.nD Cert.PleLossIdeal.τ).loc Cert.PleLossIdeal.main_v0_5) = v5 c
          ∧ r.2.mem ((c.tc : Thread Cert.PleLossIdeal.nD Cert.PleLossIdeal.τ).loc Cert.PleLossIdeal.main_arg0) = m ((c.tc : Thread Cert.PleLossIdeal.nD Cert.PleLossIdeal.τ).loc Cert.PleLossIdeal.main_arg0)
          ∧ r.2.mem ((c.tc : Thread Cert.PleLossIdeal.nD Cert.PleLossIdeal.τ).loc Cert.PleLossIdeal.main_arg1) = m ((c.tc : Thread Cert.PleLossIdeal.nD Cert.PleLossIdeal.τ).loc Cert.PleLossIdeal.main_arg1)
          ∧ r.2.mem ((c.tc : Thread Cert.PleLossIdeal.nD Cert.PleLossIdeal.τ).loc Cert.PleLossIdeal.main_arg2) = m ((c.tc : Thread Cert.PleLossIdeal.nD Cert.PleLossIdeal.τ).loc Cert.PleLossIdeal.main_arg2)
          ∧ r.2.mem ((c.tc : Thread Cert.PleLossIdeal.nD Cert.PleLossIdeal.τ).loc Cert.PleLossIdeal.main_arg3) = m ((c.tc : Thread Cert.PleLossIdeal.nD Cert.PleLossIdeal.τ).loc Cert.PleLossIdeal.main_arg3)
          ∧ r.2.mem ((c.tc : Thread Cert.PleLossIdeal.nD Cert.PleLossIdeal.τ).loc Cert.PleLossIdeal.main_arg4) = m ((c.tc : Thread Cert.PleLossIdeal.nD Cert.PleLossIdeal.τ).loc Cert.PleLossIdeal.main_arg4)
          ∧ r.2.mem ((c.tc : Thread Cert.PleLossIdeal.nD Cert.PleLossIdeal.τ).loc Cert.PleLossIdeal.main_arg5) = m ((c.tc : Thread Cert.PleLossIdeal.nD Cert.PleLossIdeal.τ).loc Cert.PleLossIdeal.main_arg5))
      ∧ θ_run (Cert.PleLossRefIdeal.defs (F := Ideal)) (onTc (τ := Cert.PleLossRefIdeal.τ) (Cert.PleLossRefIdeal.main (F := Ideal))) ⟨m', fun _ => 0, g'⟩ (fun r => ∀ c : Dev Cert.PleLossRefIdeal.nD,
          r.2.mem ((c.tc : Thread Cert.PleLossRefIdeal.nD Cert.PleLossRefIdeal.τ).loc Cert.PleLossRefIdeal.main_v55) = v0 c
          ∧ r.2.mem ((c.tc : Thread Cert.PleLossRefIdeal.nD Cert.PleLossRefIdeal.τ).loc Cert.PleLossRefIdeal.main_v59) = v1 c
          ∧ r.2.mem ((c.tc : Thread Cert.PleLossRefIdeal.nD Cert.PleLossRefIdeal.τ).loc Cert.PleLossRefIdeal.main_v60) = v2 c
          ∧ r.2.mem ((c.tc : Thread Cert.PleLossRefIdeal.nD Cert.PleLossRefIdeal.τ).loc Cert.PleLossRefIdeal.main_v62) = v3 c
          ∧ r.2.mem ((c.tc : Thread Cert.PleLossRefIdeal.nD Cert.PleLossRefIdeal.τ).loc Cert.PleLossRefIdeal.main_v63) = v4 c
          ∧ r.2.mem ((c.tc : Thread Cert.PleLossRefIdeal.nD Cert.PleLossRefIdeal.τ).loc Cert.PleLossRefIdeal.main_v64) = v5 c
          ∧ r.2.mem ((c.tc : Thread Cert.PleLossRefIdeal.nD Cert.PleLossRefIdeal.τ).loc Cert.PleLossRefIdeal.main_arg0) = m' ((c.tc : Thread Cert.PleLossRefIdeal.nD Cert.PleLossRefIdeal.τ).loc Cert.PleLossRefIdeal.main_arg0)
          ∧ r.2.mem ((c.tc : Thread Cert.PleLossRefIdeal.nD Cert.PleLossRefIdeal.τ).loc Cert.PleLossRefIdeal.main_arg1) = m' ((c.tc : Thread Cert.PleLossRefIdeal.nD Cert.PleLossRefIdeal.τ).loc Cert.PleLossRefIdeal.main_arg1)
          ∧ r.2.mem ((c.tc : Thread Cert.PleLossRefIdeal.nD Cert.PleLossRefIdeal.τ).loc Cert.PleLossRefIdeal.main_arg2) = m' ((c.tc : Thread Cert.PleLossRefIdeal.nD Cert.PleLossRefIdeal.τ).loc Cert.PleLossRefIdeal.main_arg2)
          ∧ r.2.mem ((c.tc : Thread Cert.PleLossRefIdeal.nD Cert.PleLossRefIdeal.τ).loc Cert.PleLossRefIdeal.main_arg3) = m' ((c.tc : Thread Cert.PleLossRefIdeal.nD Cert.PleLossRefIdeal.τ).loc Cert.PleLossRefIdeal.main_arg3)
          ∧ r.2.mem ((c.tc : Thread Cert.PleLossRefIdeal.nD Cert.PleLossRefIdeal.τ).loc Cert.PleLossRefIdeal.main_arg4) = m' ((c.tc : Thread Cert.PleLossRefIdeal.nD Cert.PleLossRefIdeal.τ).loc Cert.PleLossRefIdeal.main_arg4)
          ∧ r.2.mem ((c.tc : Thread Cert.PleLossRefIdeal.nD Cert.PleLossRefIdeal.τ).loc Cert.PleLossRefIdeal.main_arg5) = m' ((c.tc : Thread Cert.PleLossRefIdeal.nD Cert.PleLossRefIdeal.τ).loc Cert.PleLossRefIdeal.main_arg5))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v28) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)) →
    ∃ (v0 : (c : Dev Cert.OutBwdIdeal.nD) → Buf (Elt Ideal) ((c.tc : Thread Cert.OutBwdIdeal.nD Cert.OutBwdIdeal.τ).loc Cert.OutBwdIdeal.main_v0)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v0) = v0 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v2) = v0 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1))

def preserves_GradFfn_GradFfnIdeal : Prop :=
  True

def algebraic_GradFfnIdeal_GradFfnRefIdeal [hGradFfnIdeal : Cert.GradFfnIdeal.Facts] [hGradFfnRefIdeal : Cert.GradFfnRefIdeal.Facts] : Prop :=
  ∀ (m : (ℓ : Loc Cert.GradFfnIdeal.nD Cert.GradFfnIdeal.τ Cert.GradFfnIdeal.sig) → Buf (Elt Ideal) ℓ) (g : Dev Cert.GradFfnIdeal.nD → PrngReg)
    (m' : (ℓ : Loc Cert.GradFfnRefIdeal.nD Cert.GradFfnRefIdeal.τ Cert.GradFfnRefIdeal.sig) → Buf (Elt Ideal) ℓ) (g' : Dev Cert.GradFfnRefIdeal.nD → PrngReg), Pre_GradFfnIdeal m →
    (∀ c : Dev Cert.GradFfnIdeal.nD,
      m' ((c.tc : Thread Cert.GradFfnRefIdeal.nD Cert.GradFfnRefIdeal.τ).loc Cert.GradFfnRefIdeal.main_arg0) = m ((c.tc : Thread Cert.GradFfnIdeal.nD Cert.GradFfnIdeal.τ).loc Cert.GradFfnIdeal.main_arg0)
      ∧ m' ((c.tc : Thread Cert.GradFfnRefIdeal.nD Cert.GradFfnRefIdeal.τ).loc Cert.GradFfnRefIdeal.main_arg1) = m ((c.tc : Thread Cert.GradFfnIdeal.nD Cert.GradFfnIdeal.τ).loc Cert.GradFfnIdeal.main_arg1)) →
    ∃ (v0 : (c : Dev Cert.GradFfnIdeal.nD) → Buf (Elt Ideal) ((c.tc : Thread Cert.GradFfnIdeal.nD Cert.GradFfnIdeal.τ).loc Cert.GradFfnIdeal.main_v0)),
      θ_run (Cert.GradFfnIdeal.defs (F := Ideal)) (onTc (τ := Cert.GradFfnIdeal.τ) (Cert.GradFfnIdeal.main (F := Ideal))) ⟨m, fun _ => 0, g⟩ (fun r => ∀ c : Dev Cert.GradFfnIdeal.nD,
          r.2.mem ((c.tc : Thread Cert.GradFfnIdeal.nD Cert.GradFfnIdeal.τ).loc Cert.GradFfnIdeal.main_v0) = v0 c
          ∧ r.2.mem ((c.tc : Thread Cert.GradFfnIdeal.nD Cert.GradFfnIdeal.τ).loc Cert.GradFfnIdeal.main_arg0) = m ((c.tc : Thread Cert.GradFfnIdeal.nD Cert.GradFfnIdeal.τ).loc Cert.GradFfnIdeal.main_arg0)
          ∧ r.2.mem ((c.tc : Thread Cert.GradFfnIdeal.nD Cert.GradFfnIdeal.τ).loc Cert.GradFfnIdeal.main_arg1) = m ((c.tc : Thread Cert.GradFfnIdeal.nD Cert.GradFfnIdeal.τ).loc Cert.GradFfnIdeal.main_arg1))
      ∧ θ_run (Cert.GradFfnRefIdeal.defs (F := Ideal)) (onTc (τ := Cert.GradFfnRefIdeal.τ) (Cert.GradFfnRefIdeal.main (F := Ideal))) ⟨m', fun _ => 0, g'⟩ (fun r => ∀ c : Dev Cert.GradFfnRefIdeal.nD,
          r.2.mem ((c.tc : Thread Cert.GradFfnRefIdeal.nD Cert.GradFfnRefIdeal.τ).loc Cert.GradFfnRefIdeal.main_v2) = v0 c
          ∧ r.2.mem ((c.tc : Thread Cert.GradFfnRefIdeal.nD Cert.GradFfnRefIdeal.τ).loc Cert.GradFfnRefIdeal.main_arg0) = m' ((c.tc : Thread Cert.GradFfnRefIdeal.nD Cert.GradFfnRefIdeal.τ).loc Cert.GradFfnRefIdeal.main_arg0)
          ∧ r.2.mem ((c.tc : Thread Cert.GradFfnRefIdeal.nD Cert.GradFfnRefIdeal.τ).loc Cert.GradFfnRefIdeal.main_arg1) = m' ((c.tc : Thread Cert.GradFfnRefIdeal.nD Cert.GradFfnRefIdeal.τ).loc Cert.GradFfnRefIdeal.main_arg1))

def preserves_GradOut_GradOutIdeal : Prop :=
  True

def algebraic_GradOutIdeal_GradOutRefIdeal [hGradOutIdeal : Cert.GradOutIdeal.Facts] [hGradOutRefIdeal : Cert.GradOutRefIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutRefIdeal.nD Cert.GradOutRefIdeal.τ Cert.GradOutRefIdeal.sig) → Buf (Elt Ideal) ℓ) (g' : Dev Cert.GradOutRefIdeal.nD → PrngReg), Pre_GradOutIdeal m →
    (∀ c : Dev Cert.GradOutIdeal.nD,
      m' ((c.tc : Thread Cert.GradOutRefIdeal.nD Cert.GradOutRefIdeal.τ).loc Cert.GradOutRefIdeal.main_arg0) = m ((c.tc : Thread Cert.GradOutIdeal.nD Cert.GradOutIdeal.τ).loc Cert.GradOutIdeal.main_arg0)
      ∧ m' ((c.tc : Thread Cert.GradOutRefIdeal.nD Cert.GradOutRefIdeal.τ).loc Cert.GradOutRefIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutRefIdeal.defs (F := Ideal)) (onTc (τ := Cert.GradOutRefIdeal.τ) (Cert.GradOutRefIdeal.main (F := Ideal))) ⟨m', fun _ => 0, g'⟩ (fun r => ∀ c : Dev Cert.GradOutRefIdeal.nD,
          r.2.mem ((c.tc : Thread Cert.GradOutRefIdeal.nD Cert.GradOutRefIdeal.τ).loc Cert.GradOutRefIdeal.main_v3) = v0 c
          ∧ r.2.mem ((c.tc : Thread Cert.GradOutRefIdeal.nD Cert.GradOutRefIdeal.τ).loc Cert.GradOutRefIdeal.main_arg0) = m' ((c.tc : Thread Cert.GradOutRefIdeal.nD Cert.GradOutRefIdeal.τ).loc Cert.GradOutRefIdeal.main_arg0)
          ∧ r.2.mem ((c.tc : Thread Cert.GradOutRefIdeal.nD Cert.GradOutRefIdeal.τ).loc Cert.GradOutRefIdeal.main_arg1) = m' ((c.tc : Thread Cert.GradOutRefIdeal.nD Cert.GradOutRefIdeal.τ).loc Cert.GradOutRefIdeal.main_arg1))

def preserves_GradGate_GradGateIdeal : Prop :=
  True

def algebraic_GradGateIdeal_GradGateRefIdeal [hGradGateIdeal : Cert.GradGateIdeal.Facts] [hGradGateRefIdeal : Cert.GradGateRefIdeal.Facts] : Prop :=
  ∀ (m : (ℓ : Loc Cert.GradGateIdeal.nD Cert.GradGateIdeal.τ Cert.GradGateIdeal.sig) → Buf (Elt Ideal) ℓ) (g : Dev Cert.GradGateIdeal.nD → PrngReg)
    (m' : (ℓ : Loc Cert.GradGateRefIdeal.nD Cert.GradGateRefIdeal.τ Cert.GradGateRefIdeal.sig) → Buf (Elt Ideal) ℓ) (g' : Dev Cert.GradGateRefIdeal.nD → PrngReg), Pre_GradGateIdeal m →
    (∀ c : Dev Cert.GradGateIdeal.nD,
      m' ((c.tc : Thread Cert.GradGateRefIdeal.nD Cert.GradGateRefIdeal.τ).loc Cert.GradGateRefIdeal.main_arg0) = m ((c.tc : Thread Cert.GradGateIdeal.nD Cert.GradGateIdeal.τ).loc Cert.GradGateIdeal.main_arg0)
      ∧ m' ((c.tc : Thread Cert.GradGateRefIdeal.nD Cert.GradGateRefIdeal.τ).loc Cert.GradGateRefIdeal.main_arg1) = m ((c.tc : Thread Cert.GradGateIdeal.nD Cert.GradGateIdeal.τ).loc Cert.GradGateIdeal.main_arg1)) →
    ∃ (v0 : (c : Dev Cert.GradGateIdeal.nD) → Buf (Elt Ideal) ((c.tc : Thread Cert.GradGateIdeal.nD Cert.GradGateIdeal.τ).loc Cert.GradGateIdeal.main_v0)),
      θ_run (Cert.GradGateIdeal.defs (F := Ideal)) (onTc (τ := Cert.GradGateIdeal.τ) (Cert.GradGateIdeal.main (F := Ideal))) ⟨m, fun _ => 0, g⟩ (fun r => ∀ c : Dev Cert.GradGateIdeal.nD,
          r.2.mem ((c.tc : Thread Cert.GradGateIdeal.nD Cert.GradGateIdeal.τ).loc Cert.GradGateIdeal.main_v0) = v0 c
          ∧ r.2.mem ((c.tc : Thread Cert.GradGateIdeal.nD Cert.GradGateIdeal.τ).loc Cert.GradGateIdeal.main_arg0) = m ((c.tc : Thread Cert.GradGateIdeal.nD Cert.GradGateIdeal.τ).loc Cert.GradGateIdeal.main_arg0)
          ∧ r.2.mem ((c.tc : Thread Cert.GradGateIdeal.nD Cert.GradGateIdeal.τ).loc Cert.GradGateIdeal.main_arg1) = m ((c.tc : Thread Cert.GradGateIdeal.nD Cert.GradGateIdeal.τ).loc Cert.GradGateIdeal.main_arg1))
      ∧ θ_run (Cert.GradGateRefIdeal.defs (F := Ideal)) (onTc (τ := Cert.GradGateRefIdeal.τ) (Cert.GradGateRefIdeal.main (F := Ideal))) ⟨m', fun _ => 0, g'⟩ (fun r => ∀ c : Dev Cert.GradGateRefIdeal.nD,
          r.2.mem ((c.tc : Thread Cert.GradGateRefIdeal.nD Cert.GradGateRefIdeal.τ).loc Cert.GradGateRefIdeal.main_v4) = v0 c
          ∧ r.2.mem ((c.tc : Thread Cert.GradGateRefIdeal.nD Cert.GradGateRefIdeal.τ).loc Cert.GradGateRefIdeal.main_arg0) = m' ((c.tc : Thread Cert.GradGateRefIdeal.nD Cert.GradGateRefIdeal.τ).loc Cert.GradGateRefIdeal.main_arg0)
          ∧ r.2.mem ((c.tc : Thread Cert.GradGateRefIdeal.nD Cert.GradGateRefIdeal.τ).loc Cert.GradGateRefIdeal.main_arg1) = m' ((c.tc : Thread Cert.GradGateRefIdeal.nD Cert.GradGateRefIdeal.τ).loc Cert.GradGateRefIdeal.main_arg1))

def preserves_GradIn_GradInIdeal : Prop :=
  True

def algebraic_GradInIdeal_GradInRefIdeal [hGradInIdeal : Cert.GradInIdeal.Facts] [hGradInRefIdeal : Cert.GradInRefIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInRefIdeal.nD Cert.GradInRefIdeal.τ Cert.GradInRefIdeal.sig) → Buf (Elt Ideal) ℓ) (g' : Dev Cert.GradInRefIdeal.nD → PrngReg), Pre_GradInIdeal m →
    (∀ c : Dev Cert.GradInIdeal.nD,
      m' ((c.tc : Thread Cert.GradInRefIdeal.nD Cert.GradInRefIdeal.τ).loc Cert.GradInRefIdeal.main_arg0) = m ((c.tc : Thread Cert.GradInIdeal.nD Cert.GradInIdeal.τ).loc Cert.GradInIdeal.main_arg0)
      ∧ m' ((c.tc : Thread Cert.GradInRefIdeal.nD Cert.GradInRefIdeal.τ).loc Cert.GradInRefIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v0)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInRefIdeal.defs (F := Ideal)) (onTc (τ := Cert.GradInRefIdeal.τ) (Cert.GradInRefIdeal.main (F := Ideal))) ⟨m', fun _ => 0, g'⟩ (fun r => ∀ c : Dev Cert.GradInRefIdeal.nD,
          r.2.mem ((c.tc : Thread Cert.GradInRefIdeal.nD Cert.GradInRefIdeal.τ).loc Cert.GradInRefIdeal.main_v5) = v0 c
          ∧ r.2.mem ((c.tc : Thread Cert.GradInRefIdeal.nD Cert.GradInRefIdeal.τ).loc Cert.GradInRefIdeal.main_arg0) = m' ((c.tc : Thread Cert.GradInRefIdeal.nD Cert.GradInRefIdeal.τ).loc Cert.GradInRefIdeal.main_arg0)
          ∧ r.2.mem ((c.tc : Thread Cert.GradInRefIdeal.nD Cert.GradInRefIdeal.τ).loc Cert.GradInRefIdeal.main_arg1) = m' ((c.tc : Thread Cert.GradInRefIdeal.nD Cert.GradInRefIdeal.τ).loc Cert.GradInRefIdeal.main_arg1))

def preserves_GradProj_GradProjIdeal : Prop :=
  True

def algebraic_GradProjIdeal_GradProjRefIdeal [hGradProjIdeal : Cert.GradProjIdeal.Facts] [hGradProjRefIdeal : Cert.GradProjRefIdeal.Facts] : Prop :=
  ∀ (m : (ℓ : Loc Cert.GradProjIdeal.nD Cert.GradProjIdeal.τ Cert.GradProjIdeal.sig) → Buf (Elt Ideal) ℓ) (g : Dev Cert.GradProjIdeal.nD → PrngReg)
    (m' : (ℓ : Loc Cert.GradProjRefIdeal.nD Cert.GradProjRefIdeal.τ Cert.GradProjRefIdeal.sig) → Buf (Elt Ideal) ℓ) (g' : Dev Cert.GradProjRefIdeal.nD → PrngReg), Pre_GradProjIdeal m →
    (∀ c : Dev Cert.GradProjIdeal.nD,
      m' ((c.tc : Thread Cert.GradProjRefIdeal.nD Cert.GradProjRefIdeal.τ).loc Cert.GradProjRefIdeal.main_arg0) = m ((c.tc : Thread Cert.GradProjIdeal.nD Cert.GradProjIdeal.τ).loc Cert.GradProjIdeal.main_arg0)
      ∧ m' ((c.tc : Thread Cert.GradProjRefIdeal.nD Cert.GradProjRefIdeal.τ).loc Cert.GradProjRefIdeal.main_arg1) = m ((c.tc : Thread Cert.GradProjIdeal.nD Cert.GradProjIdeal.τ).loc Cert.GradProjIdeal.main_arg1)) →
    ∃ (v0 : (c : Dev Cert.GradProjIdeal.nD) → Buf (Elt Ideal) ((c.tc : Thread Cert.GradProjIdeal.nD Cert.GradProjIdeal.τ).loc Cert.GradProjIdeal.main_v0)),
      θ_run (Cert.GradProjIdeal.defs (F := Ideal)) (onTc (τ := Cert.GradProjIdeal.τ) (Cert.GradProjIdeal.main (F := Ideal))) ⟨m, fun _ => 0, g⟩ (fun r => ∀ c : Dev Cert.GradProjIdeal.nD,
          r.2.mem ((c.tc : Thread Cert.GradProjIdeal.nD Cert.GradProjIdeal.τ).loc Cert.GradProjIdeal.main_v0) = v0 c
          ∧ r.2.mem ((c.tc : Thread Cert.GradProjIdeal.nD Cert.GradProjIdeal.τ).loc Cert.GradProjIdeal.main_arg0) = m ((c.tc : Thread Cert.GradProjIdeal.nD Cert.GradProjIdeal.τ).loc Cert.GradProjIdeal.main_arg0)
          ∧ r.2.mem ((c.tc : Thread Cert.GradProjIdeal.nD Cert.GradProjIdeal.τ).loc Cert.GradProjIdeal.main_arg1) = m ((c.tc : Thread Cert.GradProjIdeal.nD Cert.GradProjIdeal.τ).loc Cert.GradProjIdeal.main_arg1))
      ∧ θ_run (Cert.GradProjRefIdeal.defs (F := Ideal)) (onTc (τ := Cert.GradProjRefIdeal.τ) (Cert.GradProjRefIdeal.main (F := Ideal))) ⟨m', fun _ => 0, g'⟩ (fun r => ∀ c : Dev Cert.GradProjRefIdeal.nD,
          r.2.mem ((c.tc : Thread Cert.GradProjRefIdeal.nD Cert.GradProjRefIdeal.τ).loc Cert.GradProjRefIdeal.main_v4) = v0 c
          ∧ r.2.mem ((c.tc : Thread Cert.GradProjRefIdeal.nD Cert.GradProjRefIdeal.τ).loc Cert.GradProjRefIdeal.main_arg0) = m' ((c.tc : Thread Cert.GradProjRefIdeal.nD Cert.GradProjRefIdeal.τ).loc Cert.GradProjRefIdeal.main_arg0)
          ∧ r.2.mem ((c.tc : Thread Cert.GradProjRefIdeal.nD Cert.GradProjRefIdeal.τ).loc Cert.GradProjRefIdeal.main_arg1) = m' ((c.tc : Thread Cert.GradProjRefIdeal.nD Cert.GradProjRefIdeal.τ).loc Cert.GradProjRefIdeal.main_arg1))

def Claim : Prop :=
  ∃ (hSwap : Cert.Swap.Facts) (hSwapIdeal : Cert.SwapIdeal.Facts) (hSwapRefIdeal : Cert.SwapRefIdeal.Facts) (hSwapRef : Cert.SwapRef.Facts) (hProjSwap : Cert.ProjSwap.Facts) (hProjSwapIdeal : Cert.ProjSwapIdeal.Facts) (hProjSwapRefIdeal : Cert.ProjSwapRefIdeal.Facts) (hInScatter : Cert.InScatter.Facts) (hInScatterIdeal : Cert.InScatterIdeal.Facts) (hInScatterRefIdeal : Cert.InScatterRefIdeal.Facts) (hActScatter : Cert.ActScatter.Facts) (hActScatterIdeal : Cert.ActScatterIdeal.Facts) (hActScatterRefIdeal : Cert.ActScatterRefIdeal.Facts) (hFwdGather : Cert.FwdGather.Facts) (hFwdGatherIdeal : Cert.FwdGatherIdeal.Facts) (hFwdGatherRefIdeal : Cert.FwdGatherRefIdeal.Facts) (hAdamFfn : Cert.AdamFfn.Facts) (hAdamFfnIdeal : Cert.AdamFfnIdeal.Facts) (hAdamFfnRefIdeal : Cert.AdamFfnRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamPle : Cert.AdamPle.Facts) (hAdamPleIdeal : Cert.AdamPleIdeal.Facts) (hAdamPleRefIdeal : Cert.AdamPleRefIdeal.Facts) (hAdamSmall : Cert.AdamSmall.Facts) (hAdamSmallIdeal : Cert.AdamSmallIdeal.Facts) (hAdamSmallRefIdeal : Cert.AdamSmallRefIdeal.Facts) (hShardFfn : Cert.ShardFfn.Facts) (hShardFfnIdeal : Cert.ShardFfnIdeal.Facts) (hShardFfnRefIdeal : Cert.ShardFfnRefIdeal.Facts) (hShardIn : Cert.ShardIn.Facts) (hShardInIdeal : Cert.ShardInIdeal.Facts) (hShardInRefIdeal : Cert.ShardInRefIdeal.Facts) (hShardOut : Cert.ShardOut.Facts) (hShardOutIdeal : Cert.ShardOutIdeal.Facts) (hShardOutRefIdeal : Cert.ShardOutRefIdeal.Facts) (hShardPle : Cert.ShardPle.Facts) (hShardPleIdeal : Cert.ShardPleIdeal.Facts) (hShardPleRefIdeal : Cert.ShardPleRefIdeal.Facts) (hPleLoss : Cert.PleLoss.Facts) (hPleLossIdeal : Cert.PleLossIdeal.Facts) (hPleLossRefIdeal : Cert.PleLossRefIdeal.Facts) (hConvFwd : Cert.ConvFwd.Facts) (hConvFwdIdeal : Cert.ConvFwdIdeal.Facts) (hConvFwdRefIdeal : Cert.ConvFwdRefIdeal.Facts) (hOutProj : Cert.OutProj.Facts) (hOutProjIdeal : Cert.OutProjIdeal.Facts) (hOutProjRefIdeal : Cert.OutProjRefIdeal.Facts) (hOutBwd : Cert.OutBwd.Facts) (hOutBwdIdeal : Cert.OutBwdIdeal.Facts) (hOutBwdRefIdeal : Cert.OutBwdRefIdeal.Facts) (hGradFfn : Cert.GradFfn.Facts) (hGradFfnIdeal : Cert.GradFfnIdeal.Facts) (hGradFfnRefIdeal : Cert.GradFfnRefIdeal.Facts) (hGradOut : Cert.GradOut.Facts) (hGradOutIdeal : Cert.GradOutIdeal.Facts) (hGradOutRefIdeal : Cert.GradOutRefIdeal.Facts) (hGradGate : Cert.GradGate.Facts) (hGradGateIdeal : Cert.GradGateIdeal.Facts) (hGradGateRefIdeal : Cert.GradGateRefIdeal.Facts) (hGradIn : Cert.GradIn.Facts) (hGradInIdeal : Cert.GradInIdeal.Facts) (hGradInRefIdeal : Cert.GradInRefIdeal.Facts) (hGradProj : Cert.GradProj.Facts) (hGradProjIdeal : Cert.GradProjIdeal.Facts) (hGradProjRefIdeal : Cert.GradProjRefIdeal.Facts) (hPre_placed_ffn : Cert.Pre_placed_ffn.Facts) (hPre_placed_in : Cert.Pre_placed_in.Facts) (hPre_placed_out : Cert.Pre_placed_out.Facts) (hPre_placed_ple : Cert.Pre_placed_ple.Facts) (hOn_received : Cert.On_received.Facts) (hOn_own_half_ffn : Cert.On_own_half_ffn.Facts) (hOn_own_half_in : Cert.On_own_half_in.Facts) (hOn_own_half_out : Cert.On_own_half_out.Facts) (hOn_own_half_ple : Cert.On_own_half_ple.Facts),
    quiescent_Swap (hSwap := hSwap)
    ∧ quiescent_SwapIdeal (hSwapIdeal := hSwapIdeal)
    ∧ quiescent_SwapRefIdeal (hSwapRefIdeal := hSwapRefIdeal)
    ∧ quiescent_SwapRef (hSwapRef := hSwapRef)
    ∧ quiescent_ProjSwap (hProjSwap := hProjSwap)
    ∧ quiescent_ProjSwapIdeal (hProjSwapIdeal := hProjSwapIdeal)
    ∧ quiescent_ProjSwapRefIdeal (hProjSwapRefIdeal := hProjSwapRefIdeal)
    ∧ quiescent_InScatter (hInScatter := hInScatter)
    ∧ quiescent_InScatterIdeal (hInScatterIdeal := hInScatterIdeal)
    ∧ quiescent_InScatterRefIdeal (hInScatterRefIdeal := hInScatterRefIdeal)
    ∧ quiescent_ActScatter (hActScatter := hActScatter)
    ∧ quiescent_ActScatterIdeal (hActScatterIdeal := hActScatterIdeal)
    ∧ quiescent_ActScatterRefIdeal (hActScatterRefIdeal := hActScatterRefIdeal)
    ∧ quiescent_FwdGather (hFwdGather := hFwdGather)
    ∧ quiescent_FwdGatherIdeal (hFwdGatherIdeal := hFwdGatherIdeal)
    ∧ quiescent_FwdGatherRefIdeal (hFwdGatherRefIdeal := hFwdGatherRefIdeal)
    ∧ quiescent_AdamFfn (hAdamFfn := hAdamFfn)
    ∧ quiescent_AdamFfnIdeal (hAdamFfnIdeal := hAdamFfnIdeal)
    ∧ quiescent_AdamFfnRefIdeal (hAdamFfnRefIdeal := hAdamFfnRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamPle (hAdamPle := hAdamPle)
    ∧ quiescent_AdamPleIdeal (hAdamPleIdeal := hAdamPleIdeal)
    ∧ quiescent_AdamPleRefIdeal (hAdamPleRefIdeal := hAdamPleRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_ShardFfn (hShardFfn := hShardFfn) (hPre_placed_ffn := hPre_placed_ffn)
    ∧ quiescent_ShardFfnIdeal (hShardFfnIdeal := hShardFfnIdeal) (hPre_placed_ffn := hPre_placed_ffn)
    ∧ quiescent_ShardFfnRefIdeal (hShardFfnRefIdeal := hShardFfnRefIdeal)
    ∧ quiescent_ShardFfnRefIdeal_pre_placed_ffn (hShardFfnRefIdeal := hShardFfnRefIdeal) (hPre_placed_ffn := hPre_placed_ffn)
    ∧ quiescent_ShardIn (hShardIn := hShardIn) (hPre_placed_in := hPre_placed_in)
    ∧ quiescent_ShardInIdeal (hShardInIdeal := hShardInIdeal) (hPre_placed_in := hPre_placed_in)
    ∧ quiescent_ShardInRefIdeal (hShardInRefIdeal := hShardInRefIdeal)
    ∧ quiescent_ShardInRefIdeal_pre_placed_in (hShardInRefIdeal := hShardInRefIdeal) (hPre_placed_in := hPre_placed_in)
    ∧ quiescent_ShardOut (hShardOut := hShardOut) (hPre_placed_out := hPre_placed_out)
    ∧ quiescent_ShardOutIdeal (hShardOutIdeal := hShardOutIdeal) (hPre_placed_out := hPre_placed_out)
    ∧ quiescent_ShardOutRefIdeal (hShardOutRefIdeal := hShardOutRefIdeal)
    ∧ quiescent_ShardOutRefIdeal_pre_placed_out (hShardOutRefIdeal := hShardOutRefIdeal) (hPre_placed_out := hPre_placed_out)
    ∧ quiescent_ShardPle (hShardPle := hShardPle) (hPre_placed_ple := hPre_placed_ple)
    ∧ quiescent_ShardPleIdeal (hShardPleIdeal := hShardPleIdeal) (hPre_placed_ple := hPre_placed_ple)
    ∧ quiescent_ShardPleRefIdeal (hShardPleRefIdeal := hShardPleRefIdeal)
    ∧ quiescent_ShardPleRefIdeal_pre_placed_ple (hShardPleRefIdeal := hShardPleRefIdeal) (hPre_placed_ple := hPre_placed_ple)
    ∧ quiescent_PleLoss (hPleLoss := hPleLoss)
    ∧ quiescent_PleLossIdeal (hPleLossIdeal := hPleLossIdeal)
    ∧ quiescent_PleLossRefIdeal (hPleLossRefIdeal := hPleLossRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_GradFfn (hGradFfn := hGradFfn)
    ∧ quiescent_GradFfnIdeal (hGradFfnIdeal := hGradFfnIdeal)
    ∧ quiescent_GradFfnRefIdeal (hGradFfnRefIdeal := hGradFfnRefIdeal)
    ∧ quiescent_GradOut (hGradOut := hGradOut)
    ∧ quiescent_GradOutIdeal (hGradOutIdeal := hGradOutIdeal)
    ∧ quiescent_GradOutRefIdeal (hGradOutRefIdeal := hGradOutRefIdeal)
    ∧ quiescent_GradGate (hGradGate := hGradGate)
    ∧ quiescent_GradGateIdeal (hGradGateIdeal := hGradGateIdeal)
    ∧ quiescent_GradGateRefIdeal (hGradGateRefIdeal := hGradGateRefIdeal)
    ∧ quiescent_GradIn (hGradIn := hGradIn)
    ∧ quiescent_GradInIdeal (hGradInIdeal := hGradInIdeal)
    ∧ quiescent_GradInRefIdeal (hGradInRefIdeal := hGradInRefIdeal)
    ∧ quiescent_GradProj (hGradProj := hGradProj)
    ∧ quiescent_GradProjIdeal (hGradProjIdeal := hGradProjIdeal)
    ∧ quiescent_GradProjRefIdeal (hGradProjRefIdeal := hGradProjRefIdeal)
    ∧ preserves_Swap_SwapIdeal
    ∧ algebraic_SwapIdeal_SwapRefIdeal (hSwapIdeal := hSwapIdeal) (hSwapRefIdeal := hSwapRefIdeal)
    ∧ bitexact_Swap_SwapRef (hSwap := hSwap) (hSwapRef := hSwapRef)
    ∧ preserves_ProjSwap_ProjSwapIdeal
    ∧ algebraic_ProjSwapIdeal_ProjSwapRefIdeal (hProjSwapIdeal := hProjSwapIdeal) (hProjSwapRefIdeal := hProjSwapRefIdeal)
    ∧ preserves_InScatter_InScatterIdeal
    ∧ algebraic_InScatterIdeal_InScatterRefIdeal (hInScatterIdeal := hInScatterIdeal) (hInScatterRefIdeal := hInScatterRefIdeal)
    ∧ preserves_ActScatter_ActScatterIdeal
    ∧ algebraic_ActScatterIdeal_ActScatterRefIdeal (hActScatterIdeal := hActScatterIdeal) (hActScatterRefIdeal := hActScatterRefIdeal)
    ∧ preserves_FwdGather_FwdGatherIdeal
    ∧ algebraic_FwdGatherIdeal_FwdGatherRefIdeal_on_received (hFwdGatherIdeal := hFwdGatherIdeal) (hFwdGatherRefIdeal := hFwdGatherRefIdeal) (hOn_received := hOn_received)
    ∧ preserves_AdamFfn_AdamFfnIdeal
    ∧ algebraic_AdamFfnIdeal_AdamFfnRefIdeal (hAdamFfnIdeal := hAdamFfnIdeal) (hAdamFfnRefIdeal := hAdamFfnRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamPle_AdamPleIdeal
    ∧ algebraic_AdamPleIdeal_AdamPleRefIdeal (hAdamPleIdeal := hAdamPleIdeal) (hAdamPleRefIdeal := hAdamPleRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_ShardFfn_ShardFfnIdeal
    ∧ algebraic_ShardFfnIdeal_ShardFfnRefIdeal_on_own_half_ffn (hShardFfnIdeal := hShardFfnIdeal) (hShardFfnRefIdeal := hShardFfnRefIdeal) (hPre_placed_ffn := hPre_placed_ffn) (hOn_own_half_ffn := hOn_own_half_ffn)
    ∧ preserves_ShardIn_ShardInIdeal
    ∧ algebraic_ShardInIdeal_ShardInRefIdeal_on_own_half_in (hShardInIdeal := hShardInIdeal) (hShardInRefIdeal := hShardInRefIdeal) (hPre_placed_in := hPre_placed_in) (hOn_own_half_in := hOn_own_half_in)
    ∧ preserves_ShardOut_ShardOutIdeal
    ∧ algebraic_ShardOutIdeal_ShardOutRefIdeal_on_own_half_out (hShardOutIdeal := hShardOutIdeal) (hShardOutRefIdeal := hShardOutRefIdeal) (hPre_placed_out := hPre_placed_out) (hOn_own_half_out := hOn_own_half_out)
    ∧ preserves_ShardPle_ShardPleIdeal
    ∧ algebraic_ShardPleIdeal_ShardPleRefIdeal_on_own_half_ple (hShardPleIdeal := hShardPleIdeal) (hShardPleRefIdeal := hShardPleRefIdeal) (hPre_placed_ple := hPre_placed_ple) (hOn_own_half_ple := hOn_own_half_ple)
    ∧ preserves_PleLoss_PleLossIdeal
    ∧ algebraic_PleLossIdeal_PleLossRefIdeal (hPleLossIdeal := hPleLossIdeal) (hPleLossRefIdeal := hPleLossRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_OutProj_OutProjIdeal
    ∧ algebraic_OutProjIdeal_OutProjRefIdeal (hOutProjIdeal := hOutProjIdeal) (hOutProjRefIdeal := hOutProjRefIdeal)
    ∧ preserves_OutBwd_OutBwdIdeal
    ∧ algebraic_OutBwdIdeal_OutBwdRefIdeal (hOutBwdIdeal := hOutBwdIdeal) (hOutBwdRefIdeal := hOutBwdRefIdeal)
    ∧ preserves_GradFfn_GradFfnIdeal
    ∧ algebraic_GradFfnIdeal_GradFfnRefIdeal (hGradFfnIdeal := hGradFfnIdeal) (hGradFfnRefIdeal := hGradFfnRefIdeal)
    ∧ preserves_GradOut_GradOutIdeal
    ∧ algebraic_GradOutIdeal_GradOutRefIdeal (hGradOutIdeal := hGradOutIdeal) (hGradOutRefIdeal := hGradOutRefIdeal)
    ∧ preserves_GradGate_GradGateIdeal
    ∧ algebraic_GradGateIdeal_GradGateRefIdeal (hGradGateIdeal := hGradGateIdeal) (hGradGateRefIdeal := hGradGateRefIdeal)
    ∧ preserves_GradIn_GradInIdeal
    ∧ algebraic_GradInIdeal_GradInRefIdeal (hGradInIdeal := hGradInIdeal) (hGradInRefIdeal := hGradInRefIdeal)
    ∧ preserves_GradProj_GradProjIdeal
    ∧ algebraic_GradProjIdeal_GradProjRefIdeal (hGradProjIdeal := hGradProjIdeal) (hGradProjRefIdeal := hGradProjRefIdeal)
-- ==== On_own_half_ffn.lean ====
abbrev S4x352x1024 : Shape := ⟨3, ![4, 352, 1024]⟩
abbrev S3x352x1024 : Shape := ⟨3, ![3, 352, 1024]⟩
abbrev S2 : Shape := ⟨1, ![2]⟩
abbrev S1 : Shape := ⟨1, ![1]⟩
abbrev S_ : Shape := ⟨0, ![]⟩
abbrev S2x352x1024 : Shape := ⟨3, ![2, 352, 1024]⟩
abbrev S704x1024 : Shape := ⟨2, ![704, 1024]⟩

class Facts : Prop where
  slices_S2_S1_1 : S2.Slices ![1] S1
  shapeCasts_S1_S_ : S1.ShapeCasts S_
  bcast_S_S2 : S_.BroadcastsInDim S2 (![] : Fin 0 → Fin S2.rank)
  bcast_S2_S2x352x1024_0 : S2.BroadcastsInDim S2x352x1024 (![0] : Fin 1 → Fin S2x352x1024.rank)
  shapeCasts_S2x352x1024_S704x1024 : S2x352x1024.ShapeCasts S704x1024

variable [Facts]

def fn {F : FTy → Type} [FloatOps F] (main_arg0 : FVec F S4x352x1024 .f32) (main_arg1 : FVec F S3x352x1024 .bf16) (main_arg2 : IVec S2 32) : IVec S704x1024 1 :=
  let main_v0 : IVec S2 32 := iotaInDim S2 32 0
  let main_v1 : IVec S1 32 := (extractStridedSlice S1 ![1] · slices_S2_S1_1) main_arg2
  let main_v2 : IVec S_ 32 := shapeCast S_ main_v1 shapeCasts_S1_S_
  let main_v3 : IVec S2 32 := broadcastInDim S2 ![] bcast_S_S2 main_v2
  let main_v4 : IVec S2 1 := cmpi .eq main_v0 main_v3
  let main_v5 : IVec S2x352x1024 1 := broadcastInDim S2x352x1024 ![0] bcast_S2_S2x352x1024_0 main_v4
  let main_v6 : IVec S704x1024 1 := shapeCast S704x1024 main_v5 shapeCasts_S2x352x1024_S704x1024
  main_v6
-- ==== On_own_half_in.lean ====
abbrev S4x512x768 : Shape := ⟨3, ![4, 512, 768]⟩
abbrev S3x512x768 : Shape := ⟨3, ![3, 512, 768]⟩
abbrev S2 : Shape := ⟨1, ![2]⟩
abbrev S1 : Shape := ⟨1, ![1]⟩
abbrev S_ : Shape := ⟨0, ![]⟩
abbrev S2x512x768 : Shape := ⟨3, ![2, 512, 768]⟩
abbrev S1024x768 : Shape := ⟨2, ![1024, 768]⟩

class Facts : Prop where
  slices_S2_S1_1 : S2.Slices ![1] S1
  shapeCasts_S1_S_ : S1.ShapeCasts S_
  bcast_S_S2 : S_.BroadcastsInDim S2 (![] : Fin 0 → Fin S2.rank)
  bcast_S2_S2x512x768_0 : S2.BroadcastsInDim S2x512x768 (![0] : Fin 1 → Fin S2x512x768.rank)
  shapeCasts_S2x512x768_S1024x768 : S2x512x768.ShapeCasts S1024x768

variable [Facts]

def fn {F : FTy → Type} [FloatOps F] (main_arg0 : FVec F S4x512x768 .f32) (main_arg1 : FVec F S3x512x768 .bf16) (main_arg2 : IVec S2 32) : IVec S1024x768 1 :=
  let main_v0 : IVec S2 32 := iotaInDim S2 32 0
  let main_v1 : IVec S1 32 := (extractStridedSlice S1 ![1] · slices_S2_S1_1) main_arg2
  let main_v2 : IVec S_ 32 := shapeCast S_ main_v1 shapeCasts_S1_S_
  let main_v3 : IVec S2 32 := broadcastInDim S2 ![] bcast_S_S2 main_v2
  let main_v4 : IVec S2 1 := cmpi .eq main_v0 main_v3
  let main_v5 : IVec S2x512x768 1 := broadcastInDim S2x512x768 ![0] bcast_S2_S2x512x768_0 main_v4
  let main_v6 : IVec S1024x768 1 := shapeCast S1024x768 main_v5 shapeCasts_S2x512x768_S1024x768
  main_v6
-- ==== On_own_half_out.lean ====
abbrev S4x128x1024 : Shape := ⟨3, ![4, 128, 1024]⟩
abbrev S3x128x1024 : Shape := ⟨3, ![3, 128, 1024]⟩
abbrev S2 : Shape := ⟨1, ![2]⟩
abbrev S1 : Shape := ⟨1, ![1]⟩
abbrev S_ : Shape := ⟨0, ![]⟩
abbrev S2x128x1024 : Shape := ⟨3, ![2, 128, 1024]⟩
abbrev S256x1024 : Shape := ⟨2, ![256, 1024]⟩

class Facts : Prop where
  slices_S2_S1_1 : S2.Slices ![1] S1
  shapeCasts_S1_S_ : S1.ShapeCasts S_
  bcast_S_S2 : S_.BroadcastsInDim S2 (![] : Fin 0 → Fin S2.rank)
  bcast_S2_S2x128x1024_0 : S2.BroadcastsInDim S2x128x1024 (![0] : Fin 1 → Fin S2x128x1024.rank)
  shapeCasts_S2x128x1024_S256x1024 : S2x128x1024.ShapeCasts S256x1024

variable [Facts]

def fn {F : FTy → Type} [FloatOps F] (main_arg0 : FVec F S4x128x1024 .f32) (main_arg1 : FVec F S3x128x1024 .bf16) (main_arg2 : IVec S2 32) : IVec S256x1024 1 :=
  let main_v0 : IVec S2 32 := iotaInDim S2 32 0
  let main_v1 : IVec S1 32 := (extractStridedSlice S1 ![1] · slices_S2_S1_1) main_arg2
  let main_v2 : IVec S_ 32 := shapeCast S_ main_v1 shapeCasts_S1_S_
  let main_v3 : IVec S2 32 := broadcastInDim S2 ![] bcast_S_S2 main_v2
  let main_v4 : IVec S2 1 := cmpi .eq main_v0 main_v3
  let main_v5 : IVec S2x128x1024 1 := broadcastInDim S2x128x1024 ![0] bcast_S2_S2x128x1024_0 main_v4
  let main_v6 : IVec S256x1024 1 := shapeCast S256x1024 main_v5 shapeCasts_S2x128x1024_S256x1024
  main_v6
-- ==== On_own_half_ple.lean ====
abbrev S4x128x256 : Shape := ⟨3, ![4, 128, 256]⟩
abbrev S3x128x256 : Shape := ⟨3, ![3, 128, 256]⟩
abbrev S2 : Shape := ⟨1, ![2]⟩
abbrev S1 : Shape := ⟨1, ![1]⟩
abbrev S_ : Shape := ⟨0, ![]⟩
abbrev S2x128x256 : Shape := ⟨3, ![2, 128, 256]⟩
abbrev S256x256 : Shape := ⟨2, ![256, 256]⟩

class Facts : Prop where
  slices_S2_S1_1 : S2.Slices ![1] S1
  shapeCasts_S1_S_ : S1.ShapeCasts S_
  bcast_S_S2 : S_.BroadcastsInDim S2 (![] : Fin 0 → Fin S2.rank)
  bcast_S2_S2x128x256_0 : S2.BroadcastsInDim S2x128x256 (![0] : Fin 1 → Fin S2x128x256.rank)
  shapeCasts_S2x128x256_S256x256 : S2x128x256.ShapeCasts S256x256

variable [Facts]

def fn {F : FTy → Type} [FloatOps F] (main_arg0 : FVec F S4x128x256 .f32) (main_arg1 : FVec F S3x128x256 .bf16) (main_arg2 : IVec S2 32) : IVec S256x256 1 :=
  let main_v0 : IVec S2 32 := iotaInDim S2 32 0
  let main_v1 : IVec S1 32 := (extractStridedSlice S1 ![1] · slices_S2_S1_1) main_arg2
  let main_v2 : IVec S_ 32 := shapeCast S_ main_v1 shapeCasts_S1_S_
  let main_v3 : IVec S2 32 := broadcastInDim S2 ![] bcast_S_S2 main_v2
  let main_v4 : IVec S2 1 := cmpi .eq main_v0 main_v3
  let main_v5 : IVec S2x128x256 1 := broadcastInDim S2x128x256 ![0] bcast_S2_S2x128x256_0 main_v4
  let main_v6 : IVec S256x256 1 := shapeCast S256x256 main_v5 shapeCasts_S2x128x256_S256x256
  main_v6
-- ==== On_received.lean ====
abbrev S65536x1024 : Shape := ⟨2, ![65536, 1024]⟩
abbrev S1x1024 : Shape := ⟨2, ![1, 1024]⟩
abbrev S4x1024x704 : Shape := ⟨3, ![4, 1024, 704]⟩
abbrev S4x704x1024 : Shape := ⟨3, ![4, 704, 1024]⟩
abbrev S4096x768 : Shape := ⟨2, ![4096, 768]⟩
abbrev S1024x1024 : Shape := ⟨2, ![1024, 1024]⟩
abbrev S2816x1024 : Shape := ⟨2, ![2816, 1024]⟩
abbrev S1024x256 : Shape := ⟨2, ![1024, 256]⟩
abbrev S32x2 : Shape := ⟨2, ![32, 2]⟩
abbrev S_ : Shape := ⟨0, ![]⟩
abbrev S32x8192x704 : Shape := ⟨3, ![32, 8192, 704]⟩
abbrev S32x2x512x768 : Shape := ⟨4, ![32, 2, 512, 768]⟩
abbrev S32x1024x768 : Shape := ⟨3, ![32, 1024, 768]⟩
abbrev S32x2x128x1024 : Shape := ⟨4, ![32, 2, 128, 1024]⟩
abbrev S32x256x1024 : Shape := ⟨3, ![32, 256, 1024]⟩
abbrev S32x2x352x1024 : Shape := ⟨4, ![32, 2, 352, 1024]⟩
abbrev S32x704x1024 : Shape := ⟨3, ![32, 704, 1024]⟩
abbrev S32x2x128x256 : Shape := ⟨4, ![32, 2, 128, 256]⟩
abbrev S32x256x256 : Shape := ⟨3, ![32, 256, 256]⟩

class Facts : Prop where
  bcast_S_S65536x1024 : S_.BroadcastsInDim S65536x1024 (![] : Fin 0 → Fin S65536x1024.rank)
  bcast_S_S32x8192x704 : S_.BroadcastsInDim S32x8192x704 (![] : Fin 0 → Fin S32x8192x704.rank)
  bcast_S32x2_S32x2x512x768_0_1 : S32x2.BroadcastsInDim S32x2x512x768 (![0, 1] : Fin 2 → Fin S32x2x512x768.rank)
  shapeCasts_S32x2x512x768_S32x1024x768 : S32x2x512x768.ShapeCasts S32x1024x768
  bcast_S32x2_S32x2x128x1024_0_1 : S32x2.BroadcastsInDim S32x2x128x1024 (![0, 1] : Fin 2 → Fin S32x2x128x1024.rank)
  shapeCasts_S32x2x128x1024_S32x256x1024 : S32x2x128x1024.ShapeCasts S32x256x1024
  bcast_S32x2_S32x2x352x1024_0_1 : S32x2.BroadcastsInDim S32x2x352x1024 (![0, 1] : Fin 2 → Fin S32x2x352x1024.rank)
  shapeCasts_S32x2x352x1024_S32x704x1024 : S32x2x352x1024.ShapeCasts S32x704x1024
  bcast_S32x2_S32x2x128x256_0_1 : S32x2.BroadcastsInDim S32x2x128x256 (![0, 1] : Fin 2 → Fin S32x2x128x256.rank)
  shapeCasts_S32x2x128x256_S32x256x256 : S32x2x128x256.ShapeCasts S32x256x256

variable [Facts]

noncomputable abbrev lit0 : Fin 64 → BitVec 1 := fun
  | 0 => 1#1 | 1 => 1#1 | 2 => 1#1 | 3 => 0#1 | 4 => 1#1 | 5 => 0#1 | 6 => 1#1 | 7 => 0#1
  | 8 => 1#1 | 9 => 1#1 | 10 => 0#1 | 11 => 1#1 | 12 => 0#1 | 13 => 1#1 | 14 => 0#1 | 15 => 1#1
  | 16 => 1#1 | 17 => 0#1 | 18 => 1#1 | 19 => 1#1 | 20 => 1#1 | 21 => 0#1 | 22 => 1#1 | 23 => 0#1
  | 24 => 0#1 | 25 => 1#1 | 26 => 1#1 | 27 => 1#1 | 28 => 0#1 | 29 => 1#1 | 30 => 0#1 | 31 => 1#1
  | 32 => 1#1 | 33 => 0#1 | 34 => 1#1 | 35 => 0#1 | 36 => 1#1 | 37 => 1#1 | 38 => 1#1 | 39 => 0#1
  | 40 => 0#1 | 41 => 1#1 | 42 => 0#1 | 43 => 1#1 | 44 => 1#1 | 45 => 1#1 | 46 => 0#1 | 47 => 1#1
  | 48 => 1#1 | 49 => 0#1 | 50 => 1#1 | 51 => 0#1 | 52 => 1#1 | 53 => 0#1 | 54 => 1#1 | 55 => 1#1
  | 56 => 0#1 | 57 => 1#1 | 58 => 0#1 | 59 => 1#1 | 60 => 0#1 | 61 => 1#1 | 62 => 1#1 | 63 => 1#1
  | _ => 0#1

def fn {F : FTy → Type} [FloatOps F] (main_arg0 : FVec F S65536x1024 .f32) (main_arg1 : FVec F S1x1024 .f32) (main_arg2 : FVec F S4x1024x704 .bf16) (main_arg3 : FVec F S4x1024x704 .bf16) (main_arg4 : FVec F S4x704x1024 .bf16) (main_arg5 : FVec F S4096x768 .bf16) (main_arg6 : FVec F S1024x1024 .bf16) (main_arg7 : FVec F S2816x1024 .bf16) (main_arg8 : FVec F S2816x1024 .bf16) (main_arg9 : FVec F S2816x1024 .bf16) (main_arg10 : FVec F S1024x1024 .bf16) (main_arg11 : FVec F S1024x256 .bf16) : IVec S65536x1024 1 × IVec S65536x1024 1 × IVec S32x8192x704 1 × IVec S32x8192x704 1 × IVec S32x1024x768 1 × IVec S32x256x1024 1 × IVec S32x704x1024 1 × IVec S32x704x1024 1 × IVec S32x704x1024 1 × IVec S32x256x1024 1 × IVec S32x256x256 1 :=
  let main_c : IVec S32x2 1 := fun i => lit0 (S32x2.rowMajor i)
  let main_c_0 : IVec S_ 1 := constantI S_ 1 1#1
  let main_v0 : IVec S65536x1024 1 := broadcastInDim S65536x1024 ![] bcast_S_S65536x1024 main_c_0
  let main_c_1 : IVec S_ 1 := constantI S_ 1 1#1
  let main_v1 : IVec S65536x1024 1 := broadcastInDim S65536x1024 ![] bcast_S_S65536x1024 main_c_1
  let main_c_2 : IVec S_ 1 := constantI S_ 1 1#1
  let main_v2 : IVec S32x8192x704 1 := broadcastInDim S32x8192x704 ![] bcast_S_S32x8192x704 main_c_2
  let main_c_3 : IVec S_ 1 := constantI S_ 1 1#1
  let main_v3 : IVec S32x8192x704 1 := broadcastInDim S32x8192x704 ![] bcast_S_S32x8192x704 main_c_3
  let main_v4 : IVec S32x2x512x768 1 := broadcastInDim S32x2x512x768 ![0, 1] bcast_S32x2_S32x2x512x768_0_1 main_c
  let main_v5 : IVec S32x1024x768 1 := shapeCast S32x1024x768 main_v4 shapeCasts_S32x2x512x768_S32x1024x768
  let main_v6 : IVec S32x2x128x1024 1 := broadcastInDim S32x2x128x1024 ![0, 1] bcast_S32x2_S32x2x128x1024_0_1 main_c
  let main_v7 : IVec S32x256x1024 1 := shapeCast S32x256x1024 main_v6 shapeCasts_S32x2x128x1024_S32x256x1024
  let main_v8 : IVec S32x2x352x1024 1 := broadcastInDim S32x2x352x1024 ![0, 1] bcast_S32x2_S32x2x352x1024_0_1 main_c
  let main_v9 : IVec S32x704x1024 1 := shapeCast S32x704x1024 main_v8 shapeCasts_S32x2x352x1024_S32x704x1024
  let main_v10 : IVec S32x2x352x1024 1 := broadcastInDim S32x2x352x1024 ![0, 1] bcast_S32x2_S32x2x352x1024_0_1 main_c
  let main_v11 : IVec S32x704x1024 1 := shapeCast S32x704x1024 main_v10 shapeCasts_S32x2x352x1024_S32x704x1024
  let main_v12 : IVec S32x2x352x1024 1 := broadcastInDim S32x2x352x1024 ![0, 1] bcast_S32x2_S32x2x352x1024_0_1 main_c
  let main_v13 : IVec S32x704x1024 1 := shapeCast S32x704x1024 main_v12 shapeCasts_S32x2x352x1024_S32x704x1024
  let main_v14 : IVec S32x2x128x1024 1 := broadcastInDim S32x2x128x1024 ![0, 1] bcast_S32x2_S32x2x128x1024_0_1 main_c
  let main_v15 : IVec S32x256x1024 1 := shapeCast S32x256x1024 main_v14 shapeCasts_S32x2x128x1024_S32x256x1024
  let main_v16 : IVec S32x2x128x256 1 := broadcastInDim S32x2x128x256 ![0, 1] bcast_S32x2_S32x2x128x256_0_1 main_c
  let main_v17 : IVec S32x256x256 1 := shapeCast S32x256x256 main_v16 shapeCasts_S32x2x128x256_S32x256x256
  (main_v0, main_v1, main_v2, main_v3, main_v5, main_v7, main_v9, main_v11, main_v13, main_v15, main_v17)
-- ==== Pre_placed_ffn.lean ====
abbrev S4x352x1024 : Shape := ⟨3, ![4, 352, 1024]⟩
abbrev S3x352x1024 : Shape := ⟨3, ![3, 352, 1024]⟩
abbrev S2 : Shape := ⟨1, ![2]⟩
abbrev S_ : Shape := ⟨0, ![]⟩

class Facts : Prop where
  bcast_S_S2 : S_.BroadcastsInDim S2 (![] : Fin 0 → Fin S2.rank)

variable [Facts]

noncomputable abbrev lit0 : Fin 2 → BitVec 32 := fun
  | 0 => 4#32 | 1 => 2#32
  | _ => 0#32

def fn {F : FTy → Type} [FloatOps F] (main_arg0 : FVec F S4x352x1024 .f32) (main_arg1 : FVec F S3x352x1024 .bf16) (main_arg2 : IVec S2 32) : IVec S2 1 :=
  let main_c : IVec S2 32 := fun i => lit0 (S2.rowMajor i)
  let main_c_0 : IVec S_ 32 := constantI S_ 32 0#32
  let main_v0 : IVec S2 32 := broadcastInDim S2 ![] bcast_S_S2 main_c_0
  let main_v1 : IVec S2 1 := cmpi .sge main_arg2 main_v0
  let main_v2 : IVec S2 1 := cmpi .slt main_arg2 main_c
  let main_v3 : IVec S2 1 := andi main_v1 main_v2
  main_v3
-- ==== Pre_placed_in.lean ====
abbrev S4x512x768 : Shape := ⟨3, ![4, 512, 768]⟩
abbrev S3x512x768 : Shape := ⟨3, ![3, 512, 768]⟩
abbrev S2 : Shape := ⟨1, ![2]⟩
abbrev S_ : Shape := ⟨0, ![]⟩

class Facts : Prop where
  bcast_S_S2 : S_.BroadcastsInDim S2 (![] : Fin 0 → Fin S2.rank)

variable [Facts]

noncomputable abbrev lit0 : Fin 2 → BitVec 32 := fun
  | 0 => 4#32 | 1 => 2#32
  | _ => 0#32

def fn {F : FTy → Type} [FloatOps F] (main_arg0 : FVec F S4x512x768 .f32) (main_arg1 : FVec F S3x512x768 .bf16) (main_arg2 : IVec S2 32) : IVec S2 1 :=
  let main_c : IVec S2 32 := fun i => lit0 (S2.rowMajor i)
  let main_c_0 : IVec S_ 32 := constantI S_ 32 0#32
  let main_v0 : IVec S2 32 := broadcastInDim S2 ![] bcast_S_S2 main_c_0
  let main_v1 : IVec S2 1 := cmpi .sge main_arg2 main_v0
  let main_v2 : IVec S2 1 := cmpi .slt main_arg2 main_c
  let main_v3 : IVec S2 1 := andi main_v1 main_v2
  main_v3
-- ==== Pre_placed_out.lean ====
abbrev S4x128x1024 : Shape := ⟨3, ![4, 128, 1024]⟩
abbrev S3x128x1024 : Shape := ⟨3, ![3, 128, 1024]⟩
abbrev S2 : Shape := ⟨1, ![2]⟩
abbrev S_ : Shape := ⟨0, ![]⟩

class Facts : Prop where
  bcast_S_S2 : S_.BroadcastsInDim S2 (![] : Fin 0 → Fin S2.rank)

variable [Facts]

noncomputable abbrev lit0 : Fin 2 → BitVec 32 := fun
  | 0 => 4#32 | 1 => 2#32
  | _ => 0#32

def fn {F : FTy → Type} [FloatOps F] (main_arg0 : FVec F S4x128x1024 .f32) (main_arg1 : FVec F S3x128x1024 .bf16) (main_arg2 : IVec S2 32) : IVec S2 1 :=
  let main_c : IVec S2 32 := fun i => lit0 (S2.rowMajor i)
  let main_c_0 : IVec S_ 32 := constantI S_ 32 0#32
  let main_v0 : IVec S2 32 := broadcastInDim S2 ![] bcast_S_S2 main_c_0
  let main_v1 : IVec S2 1 := cmpi .sge main_arg2 main_v0
  let main_v2 : IVec S2 1 := cmpi .slt main_arg2 main_c
  let main_v3 : IVec S2 1 := andi main_v1 main_v2
  main_v3
-- ==== Pre_placed_ple.lean ====
abbrev S4x128x256 : Shape := ⟨3, ![4, 128, 256]⟩
abbrev S3x128x256 : Shape := ⟨3, ![3, 128, 256]⟩
abbrev S2 : Shape := ⟨1, ![2]⟩
abbrev S_ : Shape := ⟨0, ![]⟩

class Facts : Prop where
  bcast_S_S2 : S_.BroadcastsInDim S2 (![] : Fin 0 → Fin S2.rank)

variable [Facts]

noncomputable abbrev lit0 : Fin 2 → BitVec 32 := fun
  | 0 => 4#32 | 1 => 2#32
  | _ => 0#32

def fn {F : FTy → Type} [FloatOps F] (main_arg0 : FVec F S4x128x256 .f32) (main_arg1 : FVec F S3x128x256 .bf16) (main_arg2 : IVec S2 32) : IVec S2 1 :=
  let main_c : IVec S2 32 := fun i => lit0 (S2.rowMajor i)
  let main_c_0 : IVec S_ 32 := constantI S_ 32 0#32
  let main_v0 : IVec S2 32 := broadcastInDim S2 ![] bcast_S_S2 main_c_0
  let main_v1 : IVec S2 1 := cmpi .sge main_arg2 main_v0
  let main_v2 : IVec S2 1 := cmpi .slt main_arg2 main_c
  let main_v3 : IVec S2 1 := andi main_v1 main_v2
  main_v3
-- ==== Swap.lean ====
abbrev S4x704x1024 : Shape := ⟨3, ![4, 704, 1024]⟩
abbrev S4x352x1024 : Shape := ⟨3, ![4, 352, 1024]⟩
abbrev S3 : Shape := ⟨1, ![3]⟩
abbrev S1 : Shape := ⟨1, ![1]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩

abbrev nD : Nat := 8
abbrev τ : Topo := Topo.v7x

variable {F : FTy → Type} [FloatOps F]

abbrev grid0 : Pipeline.Grid := .none

def k0_mult1 (d0 : Dev nD) : BitVec 32 :=
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c352_i32 : BitVec 32 := 352#32
  let v10 : BitVec 32 := Scalar.muli v9 c352_i32
  v10
def k0_mult2 (d0 : Dev nD) : BitVec 32 :=
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c352_i32_6 : BitVec 32 := 352#32
  let v14 : BitVec 32 := Scalar.muli v13 c352_i32_6
  v14
def k0_mult3 (d0 : Dev nD) : BitVec 32 :=
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c352_i32_9 : BitVec 32 := 352#32
  let v18 : BitVec 32 := Scalar.muli v17 c352_i32_9
  v18
def k0_off1 (d0 : Dev nD) : Fin 3 → Nat :=
  let c0_i32_16 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c352_i32 : BitVec 32 := 352#32
  let v10 : BitVec 32 := Scalar.muli v9 c352_i32
  let v11 : BitVec 32 := v10
  let c0_i32_17 : BitVec 32 := 0#32
  ![0, v11.toNat, 0]
def k0_dev1 (d0 : Dev nD) : Nat :=
  let c0_i32_13 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_12 : BitVec 32 := 4#32
  let v21 : BitVec 32 := Scalar.muli v2 c4_i32_12
  let v22 : BitVec 32 := Scalar.addi c0_i32_13 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v23 : BitVec 32 := Scalar.muli v5 c2_i32_14
  let v24 : BitVec 32 := Scalar.addi v22 v23
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_15 : BitVec 32 := 1#32
  let v25 : BitVec 32 := Scalar.muli v12 c1_i32_15
  let v26 : BitVec 32 := Scalar.addi v24 v25
  v26.toNat
def k0_dev2 (d0 : Dev nD) : Nat :=
  let c0_i32_21 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_20 : BitVec 32 := 4#32
  let v32 : BitVec 32 := Scalar.muli v2 c4_i32_20
  let v33 : BitVec 32 := Scalar.addi c0_i32_21 v32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_22 : BitVec 32 := 2#32
  let v34 : BitVec 32 := Scalar.muli v5 c2_i32_22
  let v35 : BitVec 32 := Scalar.addi v33 v34
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_7 v8
  let c1_i32_23 : BitVec 32 := 1#32
  let v36 : BitVec 32 := Scalar.muli v16 c1_i32_23
  let v37 : BitVec 32 := Scalar.addi v35 v36
  v37.toNat
def k0_dev3 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_28 : BitVec 32 := 4#32
  let v43 : BitVec 32 := Scalar.muli v2 c4_i32_28
  let v44 : BitVec 32 := Scalar.addi c0_i32_29 v43
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_30 : BitVec 32 := 2#32
  let v45 : BitVec 32 := Scalar.muli v5 c2_i32_30
  let v46 : BitVec 32 := Scalar.addi v44 v45
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_10 v8
  let c1_i32_31 : BitVec 32 := 1#32
  let v47 : BitVec 32 := Scalar.muli v20 c1_i32_31
  let v48 : BitVec 32 := Scalar.addi v46 v47
  v48.toNat
-- ==== SwapRef.lean ====
abbrev S32x704x1024 : Shape := ⟨3, ![32, 704, 1024]⟩
abbrev S4x2x4x2x352x1024 : Shape := ⟨6, ![4, 2, 4, 2, 352, 1024]⟩
abbrev S4x1x4x1x352x1024 : Shape := ⟨6, ![4, 1, 4, 1, 352, 1024]⟩
abbrev S4x4x352x1024 : Shape := ⟨4, ![4, 4, 352, 1024]⟩
abbrev S4x1x4x352x1024 : Shape := ⟨5, ![4, 1, 4, 352, 1024]⟩
abbrev S4x2x4x352x1024 : Shape := ⟨5, ![4, 2, 4, 352, 1024]⟩
abbrev S32x352x1024 : Shape := ⟨3, ![32, 352, 1024]⟩

abbrev nBuf : Space → Nat
  | .hbm => 30
  | .vmem => 0
  | .smem => 0
  | _ => 0

abbrev bufTy : (tb : Table) → Fin (tcTables nBuf tb) → BufTy
  | .hbm, ⟨0, _⟩ => ⟨S32x704x1024, .f32⟩
  | .hbm, ⟨1, _⟩ => ⟨S32x704x1024, .f32⟩
  | .hbm, ⟨2, _⟩ => ⟨S32x704x1024, .f32⟩
  | .hbm, ⟨3, _⟩ => ⟨S4x2x4x2x352x1024, .f32⟩
  | .hbm, ⟨4, _⟩ => ⟨S4x1x4x1x352x1024, .f32⟩
  | .hbm, ⟨5, _⟩ => ⟨S4x4x352x1024, .f32⟩
  | .hbm, ⟨6, _⟩ => ⟨S4x1x4x1x352x1024, .f32⟩
  | .hbm, ⟨7, _⟩ => ⟨S4x4x352x1024, .f32⟩
  | .hbm, ⟨8, _⟩ => ⟨S4x1x4x352x1024, .f32⟩
  | .hbm, ⟨9, _⟩ => ⟨S4x1x4x352x1024, .f32⟩
  | .hbm, ⟨10, _⟩ => ⟨S4x2x4x352x1024, .f32⟩
  | .hbm, ⟨11, _⟩ => ⟨S32x352x1024, .f32⟩
  | .hbm, ⟨12, _⟩ => ⟨S4x2x4x2x352x1024, .f32⟩
  | .hbm, ⟨13, _⟩ => ⟨S4x1x4x1x352x1024, .f32⟩
  | .hbm, ⟨14, _⟩ => ⟨S4x4x352x1024, .f32⟩
  | .hbm, ⟨15, _⟩ => ⟨S4x1x4x1x352x1024, .f32⟩
  | .hbm, ⟨16, _⟩ => ⟨S4x4x352x1024, .f32⟩
  | .hbm, ⟨17, _⟩ => ⟨S4x1x4x352x1024, .f32⟩
  | .hbm, ⟨18, _⟩ => ⟨S4x1x4x352x1024, .f32⟩
  | .hbm, ⟨19, _⟩ => ⟨S4x2x4x352x1024, .f32⟩
  | .hbm, ⟨20, _⟩ => ⟨S32x352x1024, .f32⟩
  | .hbm, ⟨21, _⟩ => ⟨S4x2x4x2x352x1024, .f32⟩
  | .hbm, ⟨22, _⟩ => ⟨S4x1x4x1x352x1024, .f32⟩
  | .hbm, ⟨23, _⟩ => ⟨S4x4x352x1024, .f32⟩
  | .hbm, ⟨24, _⟩ => ⟨S4x1x4x1x352x1024, .f32⟩
  | .hbm, ⟨25, _⟩ => ⟨S4x4x352x1024, .f32⟩
  | .hbm, ⟨26, _⟩ => ⟨S4x1x4x352x1024, .f32⟩
  | .hbm, ⟨27, _⟩ => ⟨S4x1x4x352x1024, .f32⟩
  | .hbm, ⟨28, _⟩ => ⟨S4x2x4x352x1024, .f32⟩
  | .hbm, ⟨29, _⟩ => ⟨S32x352x1024, .f32⟩
  | _, _ => ⟨S32x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩

abbrev nD : Nat := 1
abbrev τ : Topo := Topo.v7x

variable {F : FTy → Type} [FloatOps F]
-- ==== ProjSwap.lean ====
abbrev S8192x3072 : Shape := ⟨2, ![8192, 3072]⟩
abbrev S4x1024x768 : Shape := ⟨3, ![4, 1024, 768]⟩
abbrev S8192x1024 : Shape := ⟨2, ![8192, 1024]⟩
abbrev S1x1024 : Shape := ⟨2, ![1, 1024]⟩
abbrev S4x256x1024 : Shape := ⟨3, ![4, 256, 1024]⟩
abbrev S4x704x1024 : Shape := ⟨3, ![4, 704, 1024]⟩
abbrev S4x256x256 : Shape := ⟨3, ![4, 256, 256]⟩
abbrev S8x1024 : Shape := ⟨2, ![8, 1024]⟩
abbrev S4x512x768 : Shape := ⟨3, ![4, 512, 768]⟩
abbrev S4x128x1024 : Shape := ⟨3, ![4, 128, 1024]⟩
abbrev S4x352x1024 : Shape := ⟨3, ![4, 352, 1024]⟩
abbrev S4x128x256 : Shape := ⟨3, ![4, 128, 256]⟩
abbrev S1024x768 : Shape := ⟨2, ![1024, 768]⟩
abbrev S1x1024x768 : Shape := ⟨3, ![1, 1024, 768]⟩
abbrev S1024x1024 : Shape := ⟨2, ![1024, 1024]⟩
abbrev S7 : Shape := ⟨1, ![7]⟩
abbrev S1 : Shape := ⟨1, ![1]⟩
abbrev S_ : Shape := ⟨0, ![]⟩
abbrev S1024 : Shape := ⟨1, ![1024]⟩
abbrev S1024x1 : Shape := ⟨2, ![1024, 1]⟩

abbrev nBuf : Space → Nat
  | .hbm => 21
  | .vmem => 13
  | .smem => 0
  | _ => 0

abbrev bufTy : (tb : Table) → Fin (tcTables nBuf tb) → BufTy
  | .hbm, ⟨0, _⟩ => ⟨S8192x3072, .bf16⟩
  | .hbm, ⟨1, _⟩ => ⟨S4x1024x768, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S4x1024x768, .f32⟩
  | .hbm, ⟨6, _⟩ => ⟨S4x256x1024, .f32⟩
  | .hbm, ⟨7, _⟩ => ⟨S4x704x1024, .f32⟩
  | .hbm, ⟨8, _⟩ => ⟨S4x704x1024, .f32⟩
  | .hbm, ⟨9, _⟩ => ⟨S4x704x1024, .f32⟩
  | .hbm, ⟨10, _⟩ => ⟨S4x256x1024, .f32⟩
  | .hbm, ⟨11, _⟩ => ⟨S4x256x256, .f32⟩
  | .hbm, ⟨12, _⟩ => ⟨S8192x1024, .f32⟩
  | .hbm, ⟨13, _⟩ => ⟨S8x1024, .f32⟩
  | .hbm, ⟨14, _⟩ => ⟨S4x512x768, .f32⟩
  | .hbm, ⟨15, _⟩ => ⟨S4x128x1024, .f32⟩
  | .hbm, ⟨16, _⟩ => ⟨S4x352x1024, .f32⟩
  | .hbm, ⟨17, _⟩ => ⟨S4x352x1024, .f32⟩
  | .hbm, ⟨18, _⟩ => ⟨S4x352x1024, .f32⟩
  | .hbm, ⟨19, _⟩ => ⟨S4x128x1024, .f32⟩
  | .hbm, ⟨20, _⟩ => ⟨S4x128x256, .f32⟩
  | .local _ .vmem, ⟨0, _⟩ => ⟨S1024x768, .bf16⟩
  | .local _ .vmem, ⟨1, _⟩ => ⟨S1024x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S8x1024, .f32⟩
  | .local _ .vmem, ⟨12, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v1_3 : Ref sig .tc := ⟨.hbm, 15, rfl⟩
abbrev main_v1_4 : Ref sig .tc := ⟨.hbm, 16, rfl⟩
abbrev main_v1_5 : Ref sig .tc := ⟨.hbm, 17, rfl⟩
abbrev main_v1_6 : Ref sig .tc := ⟨.hbm, 18, rfl⟩
abbrev main_v1_7 : Ref sig .tc := ⟨.hbm, 19, rfl⟩
abbrev main_v1_8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 8
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v6 : BitVec 32 := Scalar.extui v2
  let c0_i32_1 : BitVec 32 := 0#32
  let v7 : BitVec 1 := Scalar.cmpi .ne v6 c0_i32_1
  v7

def k0_mult1 (d31 : Dev nD) : BitVec 32 :=
  let c1_i32_21 : BitVec 32 := 1#32
  let v37 : BitVec 32 := Dev.word d31
  let c1_i32 : BitVec 32 := 1#32
  let v38 : BitVec 32 := Scalar.divsi v37 c1_i32
  let c2_i32_20 : BitVec 32 := 2#32
  let v39 : BitVec 32 := Scalar.remsi v38 c2_i32_20
  let v40 : BitVec 32 := Scalar.subi c1_i32_21 v39
  let c512_i32 : BitVec 32 := 512#32
  let v41 : BitVec 32 := Scalar.muli v40 c512_i32
  v41
def k0_mult2 (d31 : Dev nD) : BitVec 32 :=
  let c1_i32_23 : BitVec 32 := 1#32
  let v37 : BitVec 32 := Dev.word d31
  let c1_i32 : BitVec 32 := 1#32
  let v38 : BitVec 32 := Scalar.divsi v37 c1_i32
  let c2_i32_20 : BitVec 32 := 2#32
  let v39 : BitVec 32 := Scalar.remsi v38 c2_i32_20
  let v44 : BitVec 32 := Scalar.subi c1_i32_23 v39
  let c128_i32 : BitVec 32 := 128#32
  let v45 : BitVec 32 := Scalar.muli v44 c128_i32
  v45
def k0_mult3 (d31 : Dev nD) : BitVec 32 :=
  let c1_i32_25 : BitVec 32 := 1#32
  let v37 : BitVec 32 := Dev.word d31
  let c1_i32 : BitVec 32 := 1#32
  let v38 : BitVec 32 := Scalar.divsi v37 c1_i32
  let c2_i32_20 : BitVec 32 := 2#32
  let v39 : BitVec 32 := Scalar.remsi v38 c2_i32_20
  let v48 : BitVec 32 := Scalar.subi c1_i32_25 v39
  let c352_i32 : BitVec 32 := 352#32
  let v49 : BitVec 32 := Scalar.muli v48 c352_i32
  v49
def k0_mult4 (d31 : Dev nD) : BitVec 32 :=
  let c1_i32_27 : BitVec 32 := 1#32
  let v37 : BitVec 32 := Dev.word d31
  let c1_i32 : BitVec 32 := 1#32
  let v38 : BitVec 32 := Scalar.divsi v37 c1_i32
  let c2_i32_20 : BitVec 32 := 2#32
  let v39 : BitVec 32 := Scalar.remsi v38 c2_i32_20
  let v52 : BitVec 32 := Scalar.subi c1_i32_27 v39
  let c352_i32_28 : BitVec 32 := 352#32
  let v53 : BitVec 32 := Scalar.muli v52 c352_i32_28
  v53
def k0_mult5 (d31 : Dev nD) : BitVec 32 :=
  let c1_i32_30 : BitVec 32 := 1#32
  let v37 : BitVec 32 := Dev.word d31
  let c1_i32 : BitVec 32 := 1#32
  let v38 : BitVec 32 := Scalar.divsi v37 c1_i32
  let c2_i32_20 : BitVec 32 := 2#32
  let v39 : BitVec 32 := Scalar.remsi v38 c2_i32_20
  let v56 : BitVec 32 := Scalar.subi c1_i32_30 v39
  let c352_i32_31 : BitVec 32 := 352#32
  let v57 : BitVec 32 := Scalar.muli v56 c352_i32_31
  v57
def k0_mult6 (d31 : Dev nD) : BitVec 32 :=
  let c1_i32_33 : BitVec 32 := 1#32
  let v37 : BitVec 32 := Dev.word d31
  let c1_i32 : BitVec 32 := 1#32
  let v38 : BitVec 32 := Scalar.divsi v37 c1_i32
  let c2_i32_20 : BitVec 32 := 2#32
  let v39 : BitVec 32 := Scalar.remsi v38 c2_i32_20
  let v60 : BitVec 32 := Scalar.subi c1_i32_33 v39
  let c128_i32_34 : BitVec 32 := 128#32
  let v61 : BitVec 32 := Scalar.muli v60 c128_i32_34
  v61
def k0_mult7 (d31 : Dev nD) : BitVec 32 :=
  let c1_i32_36 : BitVec 32 := 1#32
  let v37 : BitVec 32 := Dev.word d31
  let c1_i32 : BitVec 32 := 1#32
  let v38 : BitVec 32 := Scalar.divsi v37 c1_i32
  let c2_i32_20 : BitVec 32 := 2#32
  let v39 : BitVec 32 := Scalar.remsi v38 c2_i32_20
  let v64 : BitVec 32 := Scalar.subi c1_i32_36 v39
  let c128_i32_37 : BitVec 32 := 128#32
  let v65 : BitVec 32 := Scalar.muli v64 c128_i32_37
  v65
def k0_off1 (d31 : Dev nD) : Fin 3 → Nat :=
  let c0_i32_45 : BitVec 32 := 0#32
  let c1_i32_21 : BitVec 32 := 1#32
  let v37 : BitVec 32 := Dev.word d31
  let c1_i32 : BitVec 32 := 1#32
  let v38 : BitVec 32 := Scalar.divsi v37 c1_i32
  let c2_i32_20 : BitVec 32 := 2#32
  let v39 : BitVec 32 := Scalar.remsi v38 c2_i32_20
  let v40 : BitVec 32 := Scalar.subi c1_i32_21 v39
  let c512_i32 : BitVec 32 := 512#32
  let v41 : BitVec 32 := Scalar.muli v40 c512_i32
  let v42 : BitVec 32 := v41
  let c0_i32_46 : BitVec 32 := 0#32
  ![0, v42.toNat, 0]
def k0_dev1 (d31 : Dev nD) : Nat :=
  let c0_i32_42 : BitVec 32 := 0#32
  let v31 : BitVec 32 := Dev.word d31
  let c4_i32 : BitVec 32 := 4#32
  let v32 : BitVec 32 := Scalar.divsi v31 c4_i32
  let c2_i32 : BitVec 32 := 2#32
  let v33 : BitVec 32 := Scalar.remsi v32 c2_i32
  let c4_i32_41 : BitVec 32 := 4#32
  let v68 : BitVec 32 := Scalar.muli v33 c4_i32_41
  let v69 : BitVec 32 := Scalar.addi c0_i32_42 v68
  let v34 : BitVec 32 := Dev.word d31
  let c2_i32_19 : BitVec 32 := 2#32
  let v35 : BitVec 32 := Scalar.divsi v34 c2_i32_19
  let c2_i32_18 : BitVec 32 := 2#32
  let v36 : BitVec 32 := Scalar.remsi v35 c2_i32_18
  let c2_i32_43 : BitVec 32 := 2#32
  let v70 : BitVec 32 := Scalar.muli v36 c2_i32_43
  let v71 : BitVec 32 := Scalar.addi v69 v70
  let c1_i32_22 : BitVec 32 := 1#32
  let v37 : BitVec 32 := Dev.word d31
  let c1_i32 : BitVec 32 := 1#32
  let v38 : BitVec 32 := Scalar.divsi v37 c1_i32
  let c2_i32_20 : BitVec 32 := 2#32
  let v39 : BitVec 32 := Scalar.remsi v38 c2_i32_20
  let v43 : BitVec 32 := Scalar.subi c1_i32_22 v39
  let c1_i32_44 : BitVec 32 := 1#32
  let v72 : BitVec 32 := Scalar.muli v43 c1_i32_44
  let v73 : BitVec 32 := Scalar.addi v71 v72
  v73.toNat
def k0_off2 (d31 : Dev nD) : Fin 3 → Nat :=
  let c0_i32_53 : BitVec 32 := 0#32
  let c1_i32_23 : BitVec 32 := 1#32
  let v37 : BitVec 32 := Dev.word d31
  let c1_i32 : BitVec 32 := 1#32
  let v38 : BitVec 32 := Scalar.divsi v37 c1_i32
  let c2_i32_20 : BitVec 32 := 2#32
  let v39 : BitVec 32 := Scalar.remsi v38 c2_i32_20
  let v44 : BitVec 32 := Scalar.subi c1_i32_23 v39
  let c128_i32 : BitVec 32 := 128#32
  let v45 : BitVec 32 := Scalar.muli v44 c128_i32
  let v46 : BitVec 32 := v45
  let c0_i32_54 : BitVec 32 := 0#32
  ![0, v46.toNat, 0]
def k0_dev2 (d31 : Dev nD) : Nat :=
  let c0_i32_50 : BitVec 32 := 0#32
  let v31 : BitVec 32 := Dev.word d31
  let c4_i32 : BitVec 32 := 4#32
  let v32 : BitVec 32 := Scalar.divsi v31 c4_i32
  let c2_i32 : BitVec 32 := 2#32
  let v33 : BitVec 32 := Scalar.remsi v32 c2_i32
  let c4_i32_49 : BitVec 32 := 4#32
  let v79 : BitVec 32 := Scalar.muli v33 c4_i32_49
  let v80 : BitVec 32 := Scalar.addi c0_i32_50 v79
  let v34 : BitVec 32 := Dev.word d31
  let c2_i32_19 : BitVec 32 := 2#32
  let v35 : BitVec 32 := Scalar.divsi v34 c2_i32_19
  let c2_i32_18 : BitVec 32 := 2#32
  let v36 : BitVec 32 := Scalar.remsi v35 c2_i32_18
  let c2_i32_51 : BitVec 32 := 2#32
  let v81 : BitVec 32 := Scalar.muli v36 c2_i32_51
  let v82 : BitVec 32 := Scalar.addi v80 v81
  let c1_i32_24 : BitVec 32 := 1#32
  let v37 : BitVec 32 := Dev.word d31
  let c1_i32 : BitVec 32 := 1#32
  let v38 : BitVec 32 := Scalar.divsi v37 c1_i32
  let c2_i32_20 : BitVec 32 := 2#32
  let v39 : BitVec 32 := Scalar.remsi v38 c2_i32_20
  let v47 : BitVec 32 := Scalar.subi c1_i32_24 v39
  let c1_i32_52 : BitVec 32 := 1#32
  let v83 : BitVec 32 := Scalar.muli v47 c1_i32_52
  let v84 : BitVec 32 := Scalar.addi v82 v83
  v84.toNat
def k0_off3 (d31 : Dev nD) : Fin 3 → Nat :=
  let c0_i32_61 : BitVec 32 := 0#32
  let c1_i32_25 : BitVec 32 := 1#32
  let v37 : BitVec 32 := Dev.word d31
  let c1_i32 : BitVec 32 := 1#32
  let v38 : BitVec 32 := Scalar.divsi v37 c1_i32
  let c2_i32_20 : BitVec 32 := 2#32
  let v39 : BitVec 32 := Scalar.remsi v38 c2_i32_20
  let v48 : BitVec 32 := Scalar.subi c1_i32_25 v39
  let c352_i32 : BitVec 32 := 352#32
  let v49 : BitVec 32 := Scalar.muli v48 c352_i32
  let v50 : BitVec 32 := v49
  let c0_i32_62 : BitVec 32 := 0#32
  ![0, v50.toNat, 0]
def k0_dev3 (d31 : Dev nD) : Nat :=
  let c0_i32_58 : BitVec 32 := 0#32
  let v31 : BitVec 32 := Dev.word d31
  let c4_i32 : BitVec 32 := 4#32
  let v32 : BitVec 32 := Scalar.divsi v31 c4_i32
  let c2_i32 : BitVec 32 := 2#32
  let v33 : BitVec 32 := Scalar.remsi v32 c2_i32
  let c4_i32_57 : BitVec 32 := 4#32
  let v90 : BitVec 32 := Scalar.muli v33 c4_i32_57
  let v91 : BitVec 32 := Scalar.addi c0_i32_58 v90
  let v34 : BitVec 32 := Dev.word d31
  let c2_i32_19 : BitVec 32 := 2#32
  let v35 : BitVec 32 := Scalar.divsi v34 c2_i32_19
  let c2_i32_18 : BitVec 32 := 2#32
  let v36 : BitVec 32 := Scalar.remsi v35 c2_i32_18
  let c2_i32_59 : BitVec 32 := 2#32
  let v92 : BitVec 32 := Scalar.muli v36 c2_i32_59
  let v93 : BitVec 32 := Scalar.addi v91 v92
  let c1_i32_26 : BitVec 32 := 1#32
  let v37 : BitVec 32 := Dev.word d31
  let c1_i32 : BitVec 32 := 1#32
  let v38 : BitVec 32 := Scalar.divsi v37 c1_i32
  let c2_i32_20 : BitVec 32 := 2#32
  let v39 : BitVec 32 := Scalar.remsi v38 c2_i32_20
  let v51 : BitVec 32 := Scalar.subi c1_i32_26 v39
  let c1_i32_60 : BitVec 32 := 1#32
  let v94 : BitVec 32 := Scalar.muli v51 c1_i32_60
  let v95 : BitVec 32 := Scalar.addi v93 v94
  v95.toNat
def k0_dev4 (d31 : Dev nD) : Nat :=
  let c0_i32_66 : BitVec 32 := 0#32
  let v31 : BitVec 32 := Dev.word d31
  let c4_i32 : BitVec 32 := 4#32
  let v32 : BitVec 32 := Scalar.divsi v31 c4_i32
  let c2_i32 : BitVec 32 := 2#32
  let v33 : BitVec 32 := Scalar.remsi v32 c2_i32
  let c4_i32_65 : BitVec 32 := 4#32
  let v101 : BitVec 32 := Scalar.muli v33 c4_i32_65
  let v102 : BitVec 32 := Scalar.addi c0_i32_66 v101
  let v34 : BitVec 32 := Dev.word d31
  let c2_i32_19 : BitVec 32 := 2#32
  let v35 : BitVec 32 := Scalar.divsi v34 c2_i32_19
  let c2_i32_18 : BitVec 32 := 2#32
  let v36 : BitVec 32 := Scalar.remsi v35 c2_i32_18
  let c2_i32_67 : BitVec 32 := 2#32
  let v103 : BitVec 32 := Scalar.muli v36 c2_i32_67
  let v104 : BitVec 32 := Scalar.addi v102 v103
  let c1_i32_29 : BitVec 32 := 1#32
  let v37 : BitVec 32 := Dev.word d31
  let c1_i32 : BitVec 32 := 1#32
  let v38 : BitVec 32 := Scalar.divsi v37 c1_i32
  let c2_i32_20 : BitVec 32 := 2#32
  let v39 : BitVec 32 := Scalar.remsi v38 c2_i32_20
  let v55 : BitVec 32 := Scalar.subi c1_i32_29 v39
  let c1_i32_68 : BitVec 32 := 1#32
  let v105 : BitVec 32 := Scalar.muli v55 c1_i32_68
  let v106 : BitVec 32 := Scalar.addi v104 v105
  v106.toNat
def k0_dev5 (d31 : Dev nD) : Nat :=
  let c0_i32_74 : BitVec 32 := 0#32
  let v31 : BitVec 32 := Dev.word d31
  let c4_i32 : BitVec 32 := 4#32
  let v32 : BitVec 32 := Scalar.divsi v31 c4_i32
  let c2_i32 : BitVec 32 := 2#32
  let v33 : BitVec 32 := Scalar.remsi v32 c2_i32
  let c4_i32_73 : BitVec 32 := 4#32
  let v112 : BitVec 32 := Scalar.muli v33 c4_i32_73
  let v113 : BitVec 32 := Scalar.addi c0_i32_74 v112
  let v34 : BitVec 32 := Dev.word d31
  let c2_i32_19 : BitVec 32 := 2#32
  let v35 : BitVec 32 := Scalar.divsi v34 c2_i32_19
  let c2_i32_18 : BitVec 32 := 2#32
  let v36 : BitVec 32 := Scalar.remsi v35 c2_i32_18
  let c2_i32_75 : BitVec 32 := 2#32
  let v114 : BitVec 32 := Scalar.muli v36 c2_i32_75
  let v115 : BitVec 32 := Scalar.addi v113 v114
  let c1_i32_32 : BitVec 32 := 1#32
  let v37 : BitVec 32 := Dev.word d31
  let c1_i32 : BitVec 32 := 1#32
  let v38 : BitVec 32 := Scalar.divsi v37 c1_i32
  let c2_i32_20 : BitVec 32 := 2#32
  let v39 : BitVec 32 := Scalar.remsi v38 c2_i32_20
  let v59 : BitVec 32 := Scalar.subi c1_i32_32 v39
  let c1_i32_76 : BitVec 32 := 1#32
  let v116 : BitVec 32 := Scalar.muli v59 c1_i32_76
  let v117 : BitVec 32 := Scalar.addi v115 v116
  v117.toNat
def k0_dev6 (d31 : Dev nD) : Nat :=
  let c0_i32_81 : BitVec 32 := 0#32
  let v31 : BitVec 32 := Dev.word d31
  let c4_i32 : BitVec 32 := 4#32
  let v32 : BitVec 32 := Scalar.divsi v31 c4_i32
  let c2_i32 : BitVec 32 := 2#32
  let v33 : BitVec 32 := Scalar.remsi v32 c2_i32
  let c4_i32_80 : BitVec 32 := 4#32
  let v123 : BitVec 32 := Scalar.muli v33 c4_i32_80
  let v124 : BitVec 32 := Scalar.addi c0_i32_81 v123
  let v34 : BitVec 32 := Dev.word d31
  let c2_i32_19 : BitVec 32 := 2#32
  let v35 : BitVec 32 := Scalar.divsi v34 c2_i32_19
  let c2_i32_18 : BitVec 32 := 2#32
  let v36 : BitVec 32 := Scalar.remsi v35 c2_i32_18
  let c2_i32_82 : BitVec 32 := 2#32
  let v125 : BitVec 32 := Scalar.muli v36 c2_i32_82
  let v126 : BitVec 32 := Scalar.addi v124 v125
  let c1_i32_35 : BitVec 32 := 1#32
  let v37 : BitVec 32 := Dev.word d31
  let c1_i32 : BitVec 32 := 1#32
  let v38 : BitVec 32 := Scalar.divsi v37 c1_i32
  let c2_i32_20 : BitVec 32 := 2#32
  let v39 : BitVec 32 := Scalar.remsi v38 c2_i32_20
  let v63 : BitVec 32 := Scalar.subi c1_i32_35 v39
  let c1_i32_83 : BitVec 32 := 1#32
  let v127 : BitVec 32 := Scalar.muli v63 c1_i32_83
  let v128 : BitVec 32 := Scalar.addi v126 v127
  v128.toNat
def k0_off4 (d31 : Dev nD) : Fin 3 → Nat :=
  let c0_i32_91 : BitVec 32 := 0#32
  let c1_i32_36 : BitVec 32 := 1#32
  let v37 : BitVec 32 := Dev.word d31
  let c1_i32 : BitVec 32 := 1#32
  let v38 : BitVec 32 := Scalar.divsi v37 c1_i32
  let c2_i32_20 : BitVec 32 := 2#32
  let v39 : BitVec 32 := Scalar.remsi v38 c2_i32_20
  let v64 : BitVec 32 := Scalar.subi c1_i32_36 v39
  let c128_i32_37 : BitVec 32 := 128#32
  let v65 : BitVec 32 := Scalar.muli v64 c128_i32_37
  let v66 : BitVec 32 := v65
  let c0_i32_92 : BitVec 32 := 0#32
  ![0, v66.toNat, 0]
def k0_dev7 (d31 : Dev nD) : Nat :=
  let c0_i32_88 : BitVec 32 := 0#32
  let v31 : BitVec 32 := Dev.word d31
  let c4_i32 : BitVec 32 := 4#32
  let v32 : BitVec 32 := Scalar.divsi v31 c4_i32
  let c2_i32 : BitVec 32 := 2#32
  let v33 : BitVec 32 := Scalar.remsi v32 c2_i32
  let c4_i32_87 : BitVec 32 := 4#32
  let v134 : BitVec 32 := Scalar.muli v33 c4_i32_87
  let v135 : BitVec 32 := Scalar.addi c0_i32_88 v134
  let v34 : BitVec 32 := Dev.word d31
  let c2_i32_19 : BitVec 32 := 2#32
  let v35 : BitVec 32 := Scalar.divsi v34 c2_i32_19
  let c2_i32_18 : BitVec 32 := 2#32
  let v36 : BitVec 32 := Scalar.remsi v35 c2_i32_18
  let c2_i32_89 : BitVec 32 := 2#32
  let v136 : BitVec 32 := Scalar.muli v36 c2_i32_89
  let v137 : BitVec 32 := Scalar.addi v135 v136
  let c1_i32_38 : BitVec 32 := 1#32
  let v37 : BitVec 32 := Dev.word d31
  let c1_i32 : BitVec 32 := 1#32
  let v38 : BitVec 32 := Scalar.divsi v37 c1_i32
  let c2_i32_20 : BitVec 32 := 2#32
  let v39 : BitVec 32 := Scalar.remsi v38 c2_i32_20
  let v67 : BitVec 32 := Scalar.subi c1_i32_38 v39
  let c1_i32_90 : BitVec 32 := 1#32
  let v138 : BitVec 32 := Scalar.muli v67 c1_i32_90
  let v139 : BitVec 32 := Scalar.addi v137 v138
  v139.toNat
def k0_cond2 (i : grid0.Coords) : BitVec 1 :=
  let arg0 : BitVec 32 := BitVec.ofNat 32 (i 0).val
  let c7_i32 : BitVec 32 := 7#32
  let v3 : BitVec 1 := Scalar.cmpi .eq arg0 c7_i32
  let arg1 : BitVec 32 := BitVec.ofNat 32 (i 1).val
  let c3_i32 : BitVec 32 := 3#32
  let v4 : BitVec 1 := Scalar.cmpi .eq arg1 c3_i32
  let v5 : BitVec 1 := Scalar.andi v3 v4
  let v8 : BitVec 32 := Scalar.extui v5
  let c0_i32_2 : BitVec 32 := 0#32
  let v9 : BitVec 1 := Scalar.cmpi .ne v8 c0_i32_2
  v9

def k0_mult8 (d31 : Dev nD) : BitVec 32 :=
  let c1_i32_21 : BitVec 32 := 1#32
  let v37 : BitVec 32 := Dev.word d31
  let c1_i32 : BitVec 32 := 1#32
  let v38 : BitVec 32 := Scalar.divsi v37 c1_i32
  let c2_i32_20 : BitVec 32 := 2#32
  let v39 : BitVec 32 := Scalar.remsi v38 c2_i32_20
  let v40 : BitVec 32 := Scalar.subi c1_i32_21 v39
  let c512_i32 : BitVec 32 := 512#32
  let v41 : BitVec 32 := Scalar.muli v40 c512_i32
  v41
def k0_mult9 (d31 : Dev nD) : BitVec 32 :=
  let c1_i32_23 : BitVec 32 := 1#32
  let v37 : BitVec 32 := Dev.word d31
  let c1_i32 : BitVec 32 := 1#32
  let v38 : BitVec 32 := Scalar.divsi v37 c1_i32
  let c2_i32_20 : BitVec 32 := 2#32
  let v39 : BitVec 32 := Scalar.remsi v38 c2_i32_20
  let v44 : BitVec 32 := Scalar.subi c1_i32_23 v39
  let c128_i32 : BitVec 32 := 128#32
  let v45 : BitVec 32 := Scalar.muli v44 c128_i32
  v45
def k0_mult10 (d31 : Dev nD) : BitVec 32 :=
  let c1_i32_25 : BitVec 32 := 1#32
  let v37 : BitVec 32 := Dev.word d31
  let c1_i32 : BitVec 32 := 1#32
  let v38 : BitVec 32 := Scalar.divsi v37 c1_i32
  let c2_i32_20 : BitVec 32 := 2#32
  let v39 : BitVec 32 := Scalar.remsi v38 c2_i32_20
  let v48 : BitVec 32 := Scalar.subi c1_i32_25 v39
  let c352_i32 : BitVec 32 := 352#32
  let v49 : BitVec 32 := Scalar.muli v48 c352_i32
  v49
def k0_mult11 (d31 : Dev nD) : BitVec 32 :=
  let c1_i32_27 : BitVec 32 := 1#32
  let v37 : BitVec 32 := Dev.word d31
  let c1_i32 : BitVec 32 := 1#32
  let v38 : BitVec 32 := Scalar.divsi v37 c1_i32
  let c2_i32_20 : BitVec 32 := 2#32
  let v39 : BitVec 32 := Scalar.remsi v38 c2_i32_20
  let v52 : BitVec 32 := Scalar.subi c1_i32_27 v39
  let c352_i32_28 : BitVec 32 := 352#32
  let v53 : BitVec 32 := Scalar.muli v52 c352_i32_28
  v53
def k0_mult12 (d31 : Dev nD) : BitVec 32 :=
  let c1_i32_30 : BitVec 32 := 1#32
  let v37 : BitVec 32 := Dev.word d31
  let c1_i32 : BitVec 32 := 1#32
  let v38 : BitVec 32 := Scalar.divsi v37 c1_i32
  let c2_i32_20 : BitVec 32 := 2#32
  let v39 : BitVec 32 := Scalar.remsi v38 c2_i32_20
  let v56 : BitVec 32 := Scalar.subi c1_i32_30 v39
  let c352_i32_31 : BitVec 32 := 352#32
  let v57 : BitVec 32 := Scalar.muli v56 c352_i32_31
  v57
def k0_mult13 (d31 : Dev nD) : BitVec 32 :=
  let c1_i32_33 : BitVec 32 := 1#32
  let v37 : BitVec 32 := Dev.word d31
  let c1_i32 : BitVec 32 := 1#32
  let v38 : BitVec 32 := Scalar.divsi v37 c1_i32
  let c2_i32_20 : BitVec 32 := 2#32
  let v39 : BitVec 32 := Scalar.remsi v38 c2_i32_20
  let v60 : BitVec 32 := Scalar.subi c1_i32_33 v39
  let c128_i32_34 : BitVec 32 := 128#32
  let v61 : BitVec 32 := Scalar.muli v60 c128_i32_34
  v61
def k0_mult14 (d31 : Dev nD) : BitVec 32 :=
  let c1_i32_36 : BitVec 32 := 1#32
  let v37 : BitVec 32 := Dev.word d31
  let c1_i32 : BitVec 32 := 1#32
  let v38 : BitVec 32 := Scalar.divsi v37 c1_i32
  let c2_i32_20 : BitVec 32 := 2#32
  let v39 : BitVec 32 := Scalar.remsi v38 c2_i32_20
  let v64 : BitVec 32 := Scalar.subi c1_i32_36 v39
  let c128_i32_37 : BitVec 32 := 128#32
  let v65 : BitVec 32 := Scalar.muli v64 c128_i32_37
  v65
def k0_off5 (d31 : Dev nD) : Fin 3 → Nat :=
  let c0_i32_42 : BitVec 32 := 0#32
  let c1_i32_21 : BitVec 32 := 1#32
  let v37 : BitVec 32 := Dev.word d31
  let c1_i32 : BitVec 32 := 1#32
  let v38 : BitVec 32 := Scalar.divsi v37 c1_i32
  let c2_i32_20 : BitVec 32 := 2#32
  let v39 : BitVec 32 := Scalar.remsi v38 c2_i32_20
  let v40 : BitVec 32 := Scalar.subi c1_i32_21 v39
  let c512_i32 : BitVec 32 := 512#32
  let v41 : BitVec 32 := Scalar.muli v40 c512_i32
  let v42 : BitVec 32 := v41
  let c0_i32_43 : BitVec 32 := 0#32
  ![0, v42.toNat, 0]
def k0_off6 (d31 : Dev nD) : Fin 3 → Nat :=
  let c0_i32_55 : BitVec 32 := 0#32
  let c1_i32_23 : BitVec 32 := 1#32
  let v37 : BitVec 32 := Dev.word d31
  let c1_i32 : BitVec 32 := 1#32
  let v38 : BitVec 32 := Scalar.divsi v37 c1_i32
  let c2_i32_20 : BitVec 32 := 2#32
  let v39 : BitVec 32 := Scalar.remsi v38 c2_i32_20
  let v44 : BitVec 32 := Scalar.subi c1_i32_23 v39
  let c128_i32 : BitVec 32 := 128#32
  let v45 : BitVec 32 := Scalar.muli v44 c128_i32
  let v46 : BitVec 32 := v45
  let c0_i32_56 : BitVec 32 := 0#32
  ![0, v46.toNat, 0]
def k0_off7 (d31 : Dev nD) : Fin 3 → Nat :=
  let c0_i32_68 : BitVec 32 := 0#32
  let c1_i32_25 : BitVec 32 := 1#32
  let v37 : BitVec 32 := Dev.word d31
  let c1_i32 : BitVec 32 := 1#32
  let v38 : BitVec 32 := Scalar.divsi v37 c1_i32
  let c2_i32_20 : BitVec 32 := 2#32
  let v39 : BitVec 32 := Scalar.remsi v38 c2_i32_20
  let v48 : BitVec 32 := Scalar.subi c1_i32_25 v39
  let c352_i32 : BitVec 32 := 352#32
  let v49 : BitVec 32 := Scalar.muli v48 c352_i32
  let v50 : BitVec 32 := v49
  let c0_i32_69 : BitVec 32 := 0#32
  ![0, v50.toNat, 0]
def k0_off8 (d31 : Dev nD) : Fin 3 → Nat :=
  let c0_i32_118 : BitVec 32 := 0#32
  let c1_i32_36 : BitVec 32 := 1#32
  let v37 : BitVec 32 := Dev.word d31
  let c1_i32 : BitVec 32 := 1#32
  let v38 : BitVec 32 := Scalar.divsi v37 c1_i32
  let c2_i32_20 : BitVec 32 := 2#32
  let v39 : BitVec 32 := Scalar.remsi v38 c2_i32_20
  let v64 : BitVec 32 := Scalar.subi c1_i32_36 v39
  let c128_i32_37 : BitVec 32 := 128#32
  let v65 : BitVec 32 := Scalar.muli v64 c128_i32_37
  let v66 : BitVec 32 := v65
  let c0_i32_119 : BitVec 32 := 0#32
  ![0, v66.toNat, 0]
def k0_cond5 (i : grid0.Coords) : BitVec 1 :=
  let arg1 : BitVec 32 := BitVec.ofNat 32 (i 1).val
  let c3_i32_16 : BitVec 32 := 3#32
  let v28 : BitVec 1 := Scalar.cmpi .eq arg1 c3_i32_16
  let v29 : BitVec 32 := Scalar.extui v28
  let c0_i32_17 : BitVec 32 := 0#32
  let v30 : BitVec 1 := Scalar.cmpi .ne v29 c0_i32_17
  v30

def k0_cond3 (i : grid0.Coords) : BitVec 1 :=
  let arg0 : BitVec 32 := BitVec.ofNat 32 (i 0).val
  let c0_i32_3 : BitVec 32 := 0#32
  let v10 : BitVec 1 := Scalar.cmpi .eq arg0 c0_i32_3
  let arg1 : BitVec 32 := BitVec.ofNat 32 (i 1).val
  let c0_i32_4 : BitVec 32 := 0#32
  let v11 : BitVec 1 := Scalar.cmpi .eq arg1 c0_i32_4
  let v12 : BitVec 1 := Scalar.andi v10 v11
  let v13 : BitVec 32 := Scalar.extui v12
  let c0_i32_5 : BitVec 32 := 0#32
  let v14 : BitVec 1 := Scalar.cmpi .ne v13 c0_i32_5
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ProjSwapRefIdeal.lean ====
abbrev S65536x3072 : Shape := ⟨2, ![65536, 3072]⟩
abbrev S4x1024x768 : Shape := ⟨3, ![4, 1024, 768]⟩
abbrev S65536x1024 : Shape := ⟨2, ![65536, 1024]⟩
abbrev S1x1024 : Shape := ⟨2, ![1, 1024]⟩
abbrev S32x1024x768 : Shape := ⟨3, ![32, 1024, 768]⟩
abbrev S32x256x1024 : Shape := ⟨3, ![32, 256, 1024]⟩
abbrev S32x704x1024 : Shape := ⟨3, ![32, 704, 1024]⟩
abbrev S32x256x256 : Shape := ⟨3, ![32, 256, 256]⟩
abbrev S4x768x1024 : Shape := ⟨3, ![4, 768, 1024]⟩
abbrev S3072x1024 : Shape := ⟨2, ![3072, 1024]⟩
abbrev S_ : Shape := ⟨0, ![]⟩
abbrev S65536 : Shape := ⟨1, ![65536]⟩
abbrev S65536x1 : Shape := ⟨2, ![65536, 1]⟩
abbrev S8x8192x1024 : Shape := ⟨3, ![8, 8192, 1024]⟩
abbrev S8x1024 : Shape := ⟨2, ![8, 1024]⟩
abbrev S8x1x1024 : Shape := ⟨3, ![8, 1, 1024]⟩
abbrev S8x8x1024 : Shape := ⟨3, ![8, 8, 1024]⟩
abbrev S64x1024 : Shape := ⟨2, ![64, 1024]⟩
abbrev S4x2x4x2x512x768 : Shape := ⟨6, ![4, 2, 4, 2, 512, 768]⟩
abbrev S4x1x4x1x512x768 : Shape := ⟨6, ![4, 1, 4, 1, 512, 768]⟩
abbrev S4x4x512x768 : Shape := ⟨4, ![4, 4, 512, 768]⟩
abbrev S4x1x4x512x768 : Shape := ⟨5, ![4, 1, 4, 512, 768]⟩
abbrev S4x2x4x512x768 : Shape := ⟨5, ![4, 2, 4, 512, 768]⟩
abbrev S32x512x768 : Shape := ⟨3, ![32, 512, 768]⟩
abbrev S4x2x4x2x128x1024 : Shape := ⟨6, ![4, 2, 4, 2, 128, 1024]⟩
abbrev S4x1x4x1x128x1024 : Shape := ⟨6, ![4, 1, 4, 1, 128, 1024]⟩
abbrev S4x4x128x1024 : Shape := ⟨4, ![4, 4, 128, 1024]⟩
abbrev S4x1x4x128x1024 : Shape := ⟨5, ![4, 1, 4, 128, 1024]⟩
abbrev S4x2x4x128x1024 : Shape := ⟨5, ![4, 2, 4, 128, 1024]⟩
abbrev S32x128x1024 : Shape := ⟨3, ![32, 128, 1024]⟩
abbrev S4x2x4x2x352x1024 : Shape := ⟨6, ![4, 2, 4, 2, 352, 1024]⟩
abbrev S4x1x4x1x352x1024 : Shape := ⟨6, ![4, 1, 4, 1, 352, 1024]⟩
abbrev S4x4x352x1024 : Shape := ⟨4, ![4, 4, 352, 1024]⟩
abbrev S4x1x4x352x1024 : Shape := ⟨5, ![4, 1, 4, 352, 1024]⟩
abbrev S4x2x4x352x1024 : Shape := ⟨5, ![4, 2, 4, 352, 1024]⟩
abbrev S32x352x1024 : Shape := ⟨3, ![32, 352, 1024]⟩
abbrev S4x2x4x2x128x256 : Shape := ⟨6, ![4, 2, 4, 2, 128, 256]⟩
abbrev S4x1x4x1x128x256 : Shape := ⟨6, ![4, 1, 4, 1, 128, 256]⟩
abbrev S4x4x128x256 : Shape := ⟨4, ![4, 4, 128, 256]⟩
abbrev S4x1x4x128x256 : Shape := ⟨5, ![4, 1, 4, 128, 256]⟩
abbrev S4x2x4x128x256 : Shape := ⟨5, ![4, 2, 4, 128, 256]⟩
abbrev S32x128x256 : Shape := ⟨3, ![32, 128, 256]⟩

abbrev nBuf : Space → Nat
  | .hbm => 115
  | .vmem => 0
  | .smem => 0
  | _ => 0

abbrev bufTy : (tb : Table) → Fin (tcTables nBuf tb) → BufTy
  | .hbm, ⟨0, _⟩ => ⟨S65536x3072, .bf16⟩
  | .hbm, ⟨1, _⟩ => ⟨S4x1024x768, .bf16⟩
  | .hbm, ⟨2, _⟩ => ⟨S65536x1024, .f32⟩
  | .hbm, ⟨3, _⟩ => ⟨S65536x1024, .f32⟩
  | .hbm, ⟨4, _⟩ => ⟨S1x1024, .f32⟩
  | .hbm, ⟨5, _⟩ => ⟨S32x1024x768, .f32⟩
  | .hbm, ⟨6, _⟩ => ⟨S32x256x1024, .f32⟩
  | .hbm, ⟨7, _⟩ => ⟨S32x704x1024, .f32⟩
  | .hbm, ⟨8, _⟩ => ⟨S32x704x1024, .f32⟩
  | .hbm, ⟨9, _⟩ => ⟨S32x704x1024, .f32⟩
  | .hbm, ⟨10, _⟩ => ⟨S32x256x1024, .f32⟩
  | .hbm, ⟨11, _⟩ => ⟨S32x256x256, .f32⟩
  | .hbm, ⟨12, _⟩ => ⟨S4x1024x768, .f32⟩
  | .hbm, ⟨13, _⟩ => ⟨S4x768x1024, .f32⟩
  | .hbm, ⟨14, _⟩ => ⟨S3072x1024, .f32⟩
  | .hbm, ⟨15, _⟩ => ⟨S65536x3072, .f32⟩
  | .hbm, ⟨16, _⟩ => ⟨S65536x1024, .f32⟩
  | .hbm, ⟨17, _⟩ => ⟨S65536x1024, .f32⟩
  | .hbm, ⟨18, _⟩ => ⟨S_, .f32⟩
  | .hbm, ⟨19, _⟩ => ⟨S65536, .f32⟩
  | .hbm, ⟨20, _⟩ => ⟨S65536x1, .f32⟩
  | .hbm, ⟨21, _⟩ => ⟨S_, .f32⟩
  | .hbm, ⟨22, _⟩ => ⟨S65536x1, .f32⟩
  | .hbm, ⟨23, _⟩ => ⟨S65536x1, .f32⟩
  | .hbm, ⟨24, _⟩ => ⟨S_, .f32⟩
  | .hbm, ⟨25, _⟩ => ⟨S65536x1, .f32⟩
  | .hbm, ⟨26, _⟩ => ⟨S65536x1, .f32⟩
  | .hbm, ⟨27, _⟩ => ⟨S65536x1, .f32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S65536x1024, .f32⟩
  | .hbm, ⟨33, _⟩ => ⟨S_, .f32⟩
  | .hbm, ⟨34, _⟩ => ⟨S65536, .f32⟩
  | .hbm, ⟨35, _⟩ => ⟨S65536x1, .f32⟩
  | .hbm, ⟨36, _⟩ => ⟨S_, .f32⟩
  | .hbm, ⟨37, _⟩ => ⟨S65536x1, .f32⟩
  | .hbm, ⟨38, _⟩ => ⟨S65536x1, .f32⟩
  | .hbm, ⟨39, _⟩ => ⟨S65536x1024, .f32⟩
  | .hbm, ⟨40, _⟩ => ⟨S65536x1024, .f32⟩
  | .hbm, ⟨41, _⟩ => ⟨S65536x1024, .f32⟩
  | .hbm, ⟨42, _⟩ => ⟨S65536x1024, .f32⟩
  | .hbm, ⟨43, _⟩ => ⟨S65536x1024, .f32⟩
  | .hbm, ⟨44, _⟩ => ⟨S65536x1024, .f32⟩
  | .hbm, ⟨45, _⟩ => ⟨S65536x1024, .f32⟩
  | .hbm, ⟨46, _⟩ => ⟨S8x8192x1024, .f32⟩
  | .hbm, ⟨47, _⟩ => ⟨S_, .f32⟩
  | .hbm, ⟨48, _⟩ => ⟨S8x1024, .f32⟩
  | .hbm, ⟨49, _⟩ => ⟨S8x1x1024, .f32⟩
  | .hbm, ⟨50, _⟩ => ⟨S8x8x1024, .f32⟩
  | .hbm, ⟨51, _⟩ => ⟨S64x1024, .f32⟩
  | .hbm, ⟨52, _⟩ => ⟨S4x2x4x2x512x768, .f32⟩
  | .hbm, ⟨53, _⟩ => ⟨S4x1x4x1x512x768, .f32⟩
  | .hbm, ⟨54, _⟩ => ⟨S4x4x512x768, .f32⟩
  | .hbm, ⟨55, _⟩ => ⟨S4x1x4x1x512x768, .f32⟩
  | .hbm, ⟨56, _⟩ => ⟨S4x4x512x768, .f32⟩
  | .hbm, ⟨57, _⟩ => ⟨S4x1x4x512x768, .f32⟩
  | .hbm, ⟨58, _⟩ => ⟨S4x1x4x512x768, .f32⟩
  | .hbm, ⟨59, _⟩ => ⟨S4x2x4x512x768, .f32⟩
  | .hbm, ⟨60, _⟩ => ⟨S32x512x768, .f32⟩
  | .hbm, ⟨61, _⟩ => ⟨S4x2x4x2x128x1024, .f32⟩
  | .hbm, ⟨62, _⟩ => ⟨S4x1x4x1x128x1024, .f32⟩
  | .hbm, ⟨63, _⟩ => ⟨S4x4x128x1024, .f32⟩
  | .hbm, ⟨64, _⟩ => ⟨S4x1x4x1x128x1024, .f32⟩
  | .hbm, ⟨65, _⟩ => ⟨S4x4x128x1024, .f32⟩
  | .hbm, ⟨66, _⟩ => ⟨S4x1x4x128x1024, .f32⟩
  | .hbm, ⟨67, _⟩ => ⟨S4x1x4x128x1024, .f32⟩
  | .hbm, ⟨68, _⟩ => ⟨S4x2x4x128x1024, .f32⟩
  | .hbm, ⟨69, _⟩ => ⟨S32x128x1024, .f32⟩
  | .hbm, ⟨70, _⟩ => ⟨S4x2x4x2x352x1024, .f32⟩
  | .hbm, ⟨71, _⟩ => ⟨S4x1x4x1x352x1024, .f32⟩
  | .hbm, ⟨72, _⟩ => ⟨S4x4x352x1024, .f32⟩
  | .hbm, ⟨73, _⟩ => ⟨S4x1x4x1x352x1024, .f32⟩
  | .hbm, ⟨74, _⟩ => ⟨S4x4x352x1024, .f32⟩
  | .hbm, ⟨75, _⟩ => ⟨S4x1x4x352x1024, .f32⟩
  | .hbm, ⟨76, _⟩ => ⟨S4x1x4x352x1024, .f32⟩
  | .hbm, ⟨77, _⟩ => ⟨S4x2x4x352x1024, .f32⟩
  | .hbm, ⟨78, _⟩ => ⟨S32x352x1024, .f32⟩
  | .hbm, ⟨79, _⟩ => ⟨S4x2x4x2x352x1024, .f32⟩
  | .hbm, ⟨80, _⟩ => ⟨S4x1x4x1x352x1024, .f32⟩
  | .hbm, ⟨81, _⟩ => ⟨S4x4x352x1024, .f32⟩
  | .hbm, ⟨82, _⟩ => ⟨S4x1x4x1x352x1024, .f32⟩
  | .hbm, ⟨83, _⟩ => ⟨S4x4x352x1024, .f32⟩
  | .hbm, ⟨84, _⟩ => ⟨S4x1x4x352x1024, .f32⟩
  | .hbm, ⟨85, _⟩ => ⟨S4x1x4x352x1024, .f32⟩
  | .hbm, ⟨86, _⟩ => ⟨S4x2x4x352x1024, .f32⟩
  | .hbm, ⟨87, _⟩ => ⟨S32x352x1024, .f32⟩
  | .hbm, ⟨88, _⟩ => ⟨S4x2x4x2x352x1024, .f32⟩
  | .hbm, ⟨89, _⟩ => ⟨S4x1x4x1x352x1024, .f32⟩
  | .hbm, ⟨90, _⟩ => ⟨S4x4x352x1024, .f32⟩
  | .hbm, ⟨91, _⟩ => ⟨S4x1x4x1x352x1024, .f32⟩
  | .hbm, ⟨92, _⟩ => ⟨S4x4x352x1024, .f32⟩
  | .hbm, ⟨93, _⟩ => ⟨S4x1x4x352x1024, .f32⟩
  | .hbm, ⟨94, _⟩ => ⟨S4x1x4x352x1024, .f32⟩
  | .hbm, ⟨95, _⟩ => ⟨S4x2x4x352x1024, .f32⟩
  | .hbm, ⟨96, _⟩ => ⟨S32x352x1024, .f32⟩
  | .hbm, ⟨97, _⟩ => ⟨S4x2x4x2x128x1024, .f32⟩
  | .hbm, ⟨98, _⟩ => ⟨S4x1x4x1x128x1024, .f32⟩
  | .hbm, ⟨99, _⟩ => ⟨S4x4x128x1024, .f32⟩
  | .hbm, ⟨100, _⟩ => ⟨S4x1x4x1x128x1024, .f32⟩
  | .hbm, ⟨101, _⟩ => ⟨S4x4x128x1024, .f32⟩
  | .hbm, ⟨102, _⟩ => ⟨S4x1x4x128x1024, .f32⟩
  | .hbm, ⟨103, _⟩ => ⟨S4x1x4x128x1024, .f32⟩
  | .hbm, ⟨104, _⟩ => ⟨S4x2x4x128x1024, .f32⟩
  | .hbm, ⟨105, _⟩ => ⟨S32x128x1024, .f32⟩
  | .hbm, ⟨106, _⟩ => ⟨S4x2x4x2x128x256, .f32⟩
  | .hbm, ⟨107, _⟩ => ⟨S4x1x4x1x128x256, .f32⟩
  | .hbm, ⟨108, _⟩ => ⟨S4x4x128x256, .f32⟩
  | .hbm, ⟨109, _⟩ => ⟨S4x1x4x1x128x256, .f32⟩
  | .hbm, ⟨110, _⟩ => ⟨S4x4x128x256, .f32⟩
  | .hbm, ⟨111, _⟩ => ⟨S4x1x4x128x256, .f32⟩
  | .hbm, ⟨112, _⟩ => ⟨S4x1x4x128x256, .f32⟩
  | .hbm, ⟨113, _⟩ => ⟨S4x2x4x128x256, .f32⟩
  | .hbm, ⟨114, _⟩ => ⟨S32x128x256, .f32⟩
  | _, _ => ⟨S65536x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩

abbrev nD : Nat := 1
abbrev τ : Topo := Topo.v7x

variable {F : FTy → Type} [FloatOps F]
-- ==== InScatter.lean ====
abbrev S4x8192x704 : Shape := ⟨3, ![4, 8192, 704]⟩
abbrev S4x1024x704 : Shape := ⟨3, ![4, 1024, 704]⟩
abbrev S8192x1024 : Shape := ⟨2, ![8192, 1024]⟩
abbrev S1x1024 : Shape := ⟨2, ![1, 1024]⟩
abbrev S4x352x1024 : Shape := ⟨3, ![4, 352, 1024]⟩
abbrev S8x1024 : Shape := ⟨2, ![8, 1024]⟩
abbrev S3x352x1024 : Shape := ⟨3, ![3, 352, 1024]⟩
abbrev S1x512x704 : Shape := ⟨3, ![1, 512, 704]⟩
abbrev S1x1024x704 : Shape := ⟨3, ![1, 1024, 704]⟩
abbrev S512x1024 : Shape := ⟨2, ![512, 1024]⟩
abbrev S3x3 : Shape := ⟨2, ![3, 3]⟩
abbrev S1x1 : Shape := ⟨2, ![1, 1]⟩
abbrev S_ : Shape := ⟨0, ![]⟩
abbrev S1x352x1024 : Shape := ⟨3, ![1, 352, 1024]⟩
abbrev S352x1024 : Shape := ⟨2, ![352, 1024]⟩
abbrev S512x704 : Shape := ⟨2, ![512, 704]⟩
abbrev S1024x704 : Shape := ⟨2, ![1024, 704]⟩
abbrev S512 : Shape := ⟨1, ![512]⟩
abbrev S512x1 : Shape := ⟨2, ![512, 1]⟩
abbrev S1024 : Shape := ⟨1, ![1024]⟩

abbrev nBuf : Space → Nat
  | .hbm => 15
  | .vmem => 17
  | .smem => 0
  | _ => 0

abbrev bufTy : (tb : Table) → Fin (tcTables nBuf tb) → BufTy
  | .hbm, ⟨0, _⟩ => ⟨S4x8192x704, .bf16⟩
  | .hbm, ⟨1, _⟩ => ⟨S4x8192x704, .bf16⟩
  | .hbm, ⟨2, _⟩ => ⟨S4x1024x704, .bf16⟩
  | .hbm, ⟨3, _⟩ => ⟨S4x1024x704, .bf16⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S4x352x1024, .bf16⟩
  | .hbm, ⟨8, _⟩ => ⟨S4x352x1024, .bf16⟩
  | .hbm, ⟨9, _⟩ => ⟨S4x352x1024, .bf16⟩
  | .hbm, ⟨10, _⟩ => ⟨S8192x1024, .f32⟩
  | .hbm, ⟨11, _⟩ => ⟨S8x1024, .f32⟩
  | .hbm, ⟨12, _⟩ => ⟨S3x352x1024, .bf16⟩
  | .hbm, ⟨13, _⟩ => ⟨S3x352x1024, .bf16⟩
  | .hbm, ⟨14, _⟩ => ⟨S3x352x1024, .bf16⟩
  | .local _ .vmem, ⟨0, _⟩ => ⟨S1x512x704, .bf16⟩
  | .local _ .vmem, ⟨1, _⟩ => ⟨S1x512x704, .bf16⟩
  | .local _ .vmem, ⟨2, _⟩ => ⟨S1x512x704, .bf16⟩
  | .local _ .vmem, ⟨3, _⟩ => ⟨S1x512x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S8x1024, .f32⟩
  | .local _ .vmem, ⟨16, _⟩ => ⟨S512x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 8
abbrev τ : Topo := Topo.v7x

variable {F : FTy → Type} [FloatOps F]

abbrev grid0 : Pipeline.Grid := ⟨2, ![16, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v6 : BitVec 32 := Scalar.extui v2
  let c0_i32_1 : BitVec 32 := 0#32
  let v7 : BitVec 1 := Scalar.cmpi .ne v6 c0_i32_1
  v7

def k0_off1 (d37 : Dev nD) : Fin 3 → Nat :=
  let c2_i32_33 : BitVec 32 := 2#32
  let c1_i32_29 : BitVec 32 := 1#32
  let v37 : BitVec 32 := Dev.word d37
  let c4_i32 : BitVec 32 := 4#32
  let v38 : BitVec 32 := Scalar.divsi v37 c4_i32
  let c2_i32 : BitVec 32 := 2#32
  let v39 : BitVec 32 := Scalar.remsi v38 c2_i32
  let v46 : BitVec 32 := Scalar.subi c1_i32_29 v39
  let v50 : BitVec 32 := Scalar.muli c2_i32_33 v46
  let v40 : BitVec 32 := Dev.word d37
  let c2_i32_27 : BitVec 32 := 2#32
  let v41 : BitVec 32 := Scalar.divsi v40 c2_i32_27
  let c2_i32_26 : BitVec 32 := 2#32
  let v42 : BitVec 32 := Scalar.remsi v41 c2_i32_26
  let v51 : BitVec 32 := Scalar.addi v50 v42
  let c0_i32_53 : BitVec 32 := 0#32
  let c0_i32_54 : BitVec 32 := 0#32
  ![v51.toNat, 0, 0]
def k0_dev1 (d37 : Dev nD) : Nat :=
  let c0_i32_48 : BitVec 32 := 0#32
  let c1_i32_29 : BitVec 32 := 1#32
  let v37 : BitVec 32 := Dev.word d37
  let c4_i32 : BitVec 32 := 4#32
  let v38 : BitVec 32 := Scalar.divsi v37 c4_i32
  let c2_i32 : BitVec 32 := 2#32
  let v39 : BitVec 32 := Scalar.remsi v38 c2_i32
  let v46 : BitVec 32 := Scalar.subi c1_i32_29 v39
  let c4_i32_47 : BitVec 32 := 4#32
  let v68 : BitVec 32 := Scalar.muli v46 c4_i32_47
  let v69 : BitVec 32 := Scalar.addi c0_i32_48 v68
  let v40 : BitVec 32 := Dev.word d37
  let c2_i32_27 : BitVec 32 := 2#32
  let v41 : BitVec 32 := Scalar.divsi v40 c2_i32_27
  let c2_i32_26 : BitVec 32 := 2#32
  let v42 : BitVec 32 := Scalar.remsi v41 c2_i32_26
  let c2_i32_49 : BitVec 32 := 2#32
  let v70 : BitVec 32 := Scalar.muli v42 c2_i32_49
  let v71 : BitVec 32 := Scalar.addi v69 v70
  let v43 : BitVec 32 := Dev.word d37
  let c1_i32 : BitVec 32 := 1#32
  let v44 : BitVec 32 := Scalar.divsi v43 c1_i32
  let c2_i32_28 : BitVec 32 := 2#32
  let v45 : BitVec 32 := Scalar.remsi v44 c2_i32_28
  let c1_i32_50 : BitVec 32 := 1#32
  let v72 : BitVec 32 := Scalar.muli v45 c1_i32_50
  let v73 : BitVec 32 := Scalar.addi v71 v72
  v73.toNat
def k0_off2 (d37 : Dev nD) : Fin 3 → Nat :=
  let c2_i32_34 : BitVec 32 := 2#32
  let v37 : BitVec 32 := Dev.word d37
  let c4_i32 : BitVec 32 := 4#32
  let v38 : BitVec 32 := Scalar.divsi v37 c4_i32
  let c2_i32 : BitVec 32 := 2#32
  let v39 : BitVec 32 := Scalar.remsi v38 c2_i32
  let v52 : BitVec 32 := Scalar.muli c2_i32_34 v39
  let c1_i32_30 : BitVec 32 := 1#32
  let v40 : BitVec 32 := Dev.word d37
  let c2_i32_27 : BitVec 32 := 2#32
  let v41 : BitVec 32 := Scalar.divsi v40 c2_i32_27
  let c2_i32_26 : BitVec 32 := 2#32
  let v42 : BitVec 32 := Scalar.remsi v41 c2_i32_26
  let v47 : BitVec 32 := Scalar.subi c1_i32_30 v42
  let v53 : BitVec 32 := Scalar.addi v52 v47
  let c0_i32_66 : BitVec 32 := 0#32
  let c0_i32_67 : BitVec 32 := 0#32
  ![v53.toNat, 0, 0]
def k0_dev2 (d37 : Dev nD) : Nat :=
  let c0_i32_61 : BitVec 32 := 0#32
  let v37 : BitVec 32 := Dev.word d37
  let c4_i32 : BitVec 32 := 4#32
  let v38 : BitVec 32 := Scalar.divsi v37 c4_i32
  let c2_i32 : BitVec 32 := 2#32
  let v39 : BitVec 32 := Scalar.remsi v38 c2_i32
  let c4_i32_60 : BitVec 32 := 4#32
  let v82 : BitVec 32 := Scalar.muli v39 c4_i32_60
  let v83 : BitVec 32 := Scalar.addi c0_i32_61 v82
  let c1_i32_30 : BitVec 32 := 1#32
  let v40 : BitVec 32 := Dev.word d37
  let c2_i32_27 : BitVec 32 := 2#32
  let v41 : BitVec 32 := Scalar.divsi v40 c2_i32_27
  let c2_i32_26 : BitVec 32 := 2#32
  let v42 : BitVec 32 := Scalar.remsi v41 c2_i32_26
  let v47 : BitVec 32 := Scalar.subi c1_i32_30 v42
  let c2_i32_62 : BitVec 32 := 2#32
  let v84 : BitVec 32 := Scalar.muli v47 c2_i32_62
  let v85 : BitVec 32 := Scalar.addi v83 v84
  let v43 : BitVec 32 := Dev.word d37
  let c1_i32 : BitVec 32 := 1#32
  let v44 : BitVec 32 := Scalar.divsi v43 c1_i32
  let c2_i32_28 : BitVec 32 := 2#32
  let v45 : BitVec 32 := Scalar.remsi v44 c2_i32_28
  let c1_i32_63 : BitVec 32 := 1#32
  let v86 : BitVec 32 := Scalar.muli v45 c1_i32_63
  let v87 : BitVec 32 := Scalar.addi v85 v86
  v87.toNat
def k0_off3 (d37 : Dev nD) : Fin 3 → Nat :=
  let c2_i32_35 : BitVec 32 := 2#32
  let c1_i32_31 : BitVec 32 := 1#32
  let v37 : BitVec 32 := Dev.word d37
  let c4_i32 : BitVec 32 := 4#32
  let v38 : BitVec 32 := Scalar.divsi v37 c4_i32
  let c2_i32 : BitVec 32 := 2#32
  let v39 : BitVec 32 := Scalar.remsi v38 c2_i32
  let v48 : BitVec 32 := Scalar.subi c1_i32_31 v39
  let v54 : BitVec 32 := Scalar.muli c2_i32_35 v48
  let c1_i32_32 : BitVec 32 := 1#32
  let v40 : BitVec 32 := Dev.word d37
  let c2_i32_27 : BitVec 32 := 2#32
  let v41 : BitVec 32 := Scalar.divsi v40 c2_i32_27
  let c2_i32_26 : BitVec 32 := 2#32
  let v42 : BitVec 32 := Scalar.remsi v41 c2_i32_26
  let v49 : BitVec 32 := Scalar.subi c1_i32_32 v42
  let v55 : BitVec 32 := Scalar.addi v54 v49
  let c0_i32_79 : BitVec 32 := 0#32
  let c0_i32_80 : BitVec 32 := 0#32
  ![v55.toNat, 0, 0]
def k0_dev3 (d37 : Dev nD) : Nat :=
  let c0_i32_74 : BitVec 32 := 0#32
  let c1_i32_31 : BitVec 32 := 1#32
  let v37 : BitVec 32 := Dev.word d37
  let c4_i32 : BitVec 32 := 4#32
  let v38 : BitVec 32 := Scalar.divsi v37 c4_i32
  let c2_i32 : BitVec 32 := 2#32
  let v39 : BitVec 32 := Scalar.remsi v38 c2_i32
  let v48 : BitVec 32 := Scalar.subi c1_i32_31 v39
  let c4_i32_73 : BitVec 32 := 4#32
  let v96 : BitVec 32 := Scalar.muli v48 c4_i32_73
  let v97 : BitVec 32 := Scalar.addi c0_i32_74 v96
  let c1_i32_32 : BitVec 32 := 1#32
  let v40 : BitVec 32 := Dev.word d37
  let c2_i32_27 : BitVec 32 := 2#32
  let v41 : BitVec 32 := Scalar.divsi v40 c2_i32_27
  let c2_i32_26 : BitVec 32 := 2#32
  let v42 : BitVec 32 := Scalar.remsi v41 c2_i32_26
  let v49 : BitVec 32 := Scalar.subi c1_i32_32 v42
  let c2_i32_75 : BitVec 32 := 2#32
  let v98 : BitVec 32 := Scalar.muli v49 c2_i32_75
  let v99 : BitVec 32 := Scalar.addi v97 v98
  let v43 : BitVec 32 := Dev.word d37
  let c1_i32 : BitVec 32 := 1#32
  let v44 : BitVec 32 := Scalar.divsi v43 c1_i32
  let c2_i32_28 : BitVec 32 := 2#32
  let v45 : BitVec 32 := Scalar.remsi v44 c2_i32_28
  let c1_i32_76 : BitVec 32 := 1#32
  let v100 : BitVec 32 := Scalar.muli v45 c1_i32_76
  let v101 : BitVec 32 := Scalar.addi v99 v100
  v101.toNat
def k0_dev4 (d37 : Dev nD) : Nat :=
  let c0_i32_87 : BitVec 32 := 0#32
  let c1_i32_29 : BitVec 32 := 1#32
  let v37 : BitVec 32 := Dev.word d37
  let c4_i32 : BitVec 32 := 4#32
  let v38 : BitVec 32 := Scalar.divsi v37 c4_i32
  let c2_i32 : BitVec 32 := 2#32
  let v39 : BitVec 32 := Scalar.remsi v38 c2_i32
  let v46 : BitVec 32 := Scalar.subi c1_i32_29 v39
  let c4_i32_86 : BitVec 32 := 4#32
  let v110 : BitVec 32 := Scalar.muli v46 c4_i32_86
  let v111 : BitVec 32 := Scalar.addi c0_i32_87 v110
  let v40 : BitVec 32 := Dev.word d37
  let c2_i32_27 : BitVec 32 := 2#32
  let v41 : BitVec 32 := Scalar.divsi v40 c2_i32_27
  let c2_i32_26 : BitVec 32 := 2#32
  let v42 : BitVec 32 := Scalar.remsi v41 c2_i32_26
  let c2_i32_88 : BitVec 32 := 2#32
  let v112 : BitVec 32 := Scalar.muli v42 c2_i32_88
  let v113 : BitVec 32 := Scalar.addi v111 v112
  let v43 : BitVec 32 := Dev.word d37
  let c1_i32 : BitVec 32 := 1#32
  let v44 : BitVec 32 := Scalar.divsi v43 c1_i32
  let c2_i32_28 : BitVec 32 := 2#32
  let v45 : BitVec 32 := Scalar.remsi v44 c2_i32_28
  let c1_i32_89 : BitVec 32 := 1#32
  let v114 : BitVec 32 := Scalar.muli v45 c1_i32_89
  let v115 : BitVec 32 := Scalar.addi v113 v114
  v115.toNat
def k0_dev5 (d37 : Dev nD) : Nat :=
  let c0_i32_100 : BitVec 32 := 0#32
  let v37 : BitVec 32 := Dev.word d37
  let c4_i32 : BitVec 32 := 4#32
  let v38 : BitVec 32 := Scalar.divsi v37 c4_i32
  let c2_i32 : BitVec 32 := 2#32
  let v39 : BitVec 32 := Scalar.remsi v38 c2_i32
  let c4_i32_99 : BitVec 32 := 4#32
  let v124 : BitVec 32 := Scalar.muli v39 c4_i32_99
  let v125 : BitVec 32 := Scalar.addi c0_i32_100 v124
  let c1_i32_30 : BitVec 32 := 1#32
  let v40 : BitVec 32 := Dev.word d37
  let c2_i32_27 : BitVec 32 := 2#32
  let v41 : BitVec 32 := Scalar.divsi v40 c2_i32_27
  let c2_i32_26 : BitVec 32 := 2#32
  let v42 : BitVec 32 := Scalar.remsi v41 c2_i32_26
  let v47 : BitVec 32 := Scalar.subi c1_i32_30 v42
  let c2_i32_101 : BitVec 32 := 2#32
  let v126 : BitVec 32 := Scalar.muli v47 c2_i32_101
  let v127 : BitVec 32 := Scalar.addi v125 v126
  let v43 : BitVec 32 := Dev.word d37
  let c1_i32 : BitVec 32 := 1#32
  let v44 : BitVec 32 := Scalar.divsi v43 c1_i32
  let c2_i32_28 : BitVec 32 := 2#32
  let v45 : BitVec 32 := Scalar.remsi v44 c2_i32_28
  let c1_i32_102 : BitVec 32 := 1#32
  let v128 : BitVec 32 := Scalar.muli v45 c1_i32_102
  let v129 : BitVec 32 := Scalar.addi v127 v128
  v129.toNat
def k0_dev6 (d37 : Dev nD) : Nat :=
  let c0_i32_113 : BitVec 32 := 0#32
  let c1_i32_31 : BitVec 32 := 1#32
  let v37 : BitVec 32 := Dev.word d37
  let c4_i32 : BitVec 32 := 4#32
  let v38 : BitVec 32 := Scalar.divsi v37 c4_i32
  let c2_i32 : BitVec 32 := 2#32
  let v39 : BitVec 32 := Scalar.remsi v38 c2_i32
  let v48 : BitVec 32 := Scalar.subi c1_i32_31 v39
  let c4_i32_112 : BitVec 32 := 4#32
  let v138 : BitVec 32 := Scalar.muli v48 c4_i32_112
  let v139 : BitVec 32 := Scalar.addi c0_i32_113 v138
  let c1_i32_32 : BitVec 32 := 1#32
  let v40 : BitVec 32 := Dev.word d37
  let c2_i32_27 : BitVec 32 := 2#32
  let v41 : BitVec 32 := Scalar.divsi v40 c2_i32_27
  let c2_i32_26 : BitVec 32 := 2#32
  let v42 : BitVec 32 := Scalar.remsi v41 c2_i32_26
  let v49 : BitVec 32 := Scalar.subi c1_i32_32 v42
  let c2_i32_114 : BitVec 32 := 2#32
  let v140 : BitVec 32 := Scalar.muli v49 c2_i32_114
  let v141 : BitVec 32 := Scalar.addi v139 v140
  let v43 : BitVec 32 := Dev.word d37
  let c1_i32 : BitVec 32 := 1#32
  let v44 : BitVec 32 := Scalar.divsi v43 c1_i32
  let c2_i32_28 : BitVec 32 := 2#32
  let v45 : BitVec 32 := Scalar.remsi v44 c2_i32_28
  let c1_i32_115 : BitVec 32 := 1#32
  let v142 : BitVec 32 := Scalar.muli v45 c1_i32_115
  let v143 : BitVec 32 := Scalar.addi v141 v142
  v143.toNat
def k0_dev7 (d37 : Dev nD) : Nat :=
  let c0_i32_126 : BitVec 32 := 0#32
  let c1_i32_29 : BitVec 32 := 1#32
  let v37 : BitVec 32 := Dev.word d37
  let c4_i32 : BitVec 32 := 4#32
  let v38 : BitVec 32 := Scalar.divsi v37 c4_i32
  let c2_i32 : BitVec 32 := 2#32
  let v39 : BitVec 32 := Scalar.remsi v38 c2_i32
  let v46 : BitVec 32 := Scalar.subi c1_i32_29 v39
  let c4_i32_125 : BitVec 32 := 4#32
  let v152 : BitVec 32 := Scalar.muli v46 c4_i32_125
  let v153 : BitVec 32 := Scalar.addi c0_i32_126 v152
  let v40 : BitVec 32 := Dev.word d37
  let c2_i32_27 : BitVec 32 := 2#32
  let v41 : BitVec 32 := Scalar.divsi v40 c2_i32_27
  let c2_i32_26 : BitVec 32 := 2#32
  let v42 : BitVec 32 := Scalar.remsi v41 c2_i32_26
  let c2_i32_127 : BitVec 32 := 2#32
  let v154 : BitVec 32 := Scalar.muli v42 c2_i32_127
  let v155 : BitVec 32 := Scalar.addi v153 v154
  let v43 : BitVec 32 := Dev.word d37
  let c1_i32 : BitVec 32 := 1#32
  let v44 : BitVec 32 := Scalar.divsi v43 c1_i32
  let c2_i32_28 : BitVec 32 := 2#32
  let v45 : BitVec 32 := Scalar.remsi v44 c2_i32_28
  let c1_i32_128 : BitVec 32 := 1#32
  let v156 : BitVec 32 := Scalar.muli v45 c1_i32_128
  let v157 : BitVec 32 := Scalar.addi v155 v156
  v157.toNat
def k0_dev8 (d37 : Dev nD) : Nat :=
  let c0_i32_139 : BitVec 32 := 0#32
  let v37 : BitVec 32 := Dev.word d37
  let c4_i32 : BitVec 32 := 4#32
  let v38 : BitVec 32 := Scalar.divsi v37 c4_i32
  let c2_i32 : BitVec 32 := 2#32
  let v39 : BitVec 32 := Scalar.remsi v38 c2_i32
  let c4_i32_138 : BitVec 32 := 4#32
  let v166 : BitVec 32 := Scalar.muli v39 c4_i32_138
  let v167 : BitVec 32 := Scalar.addi c0_i32_139 v166
  let c1_i32_30 : BitVec 32 := 1#32
  let v40 : BitVec 32 := Dev.word d37
  let c2_i32_27 : BitVec 32 := 2#32
  let v41 : BitVec 32 := Scalar.divsi v40 c2_i32_27
  let c2_i32_26 : BitVec 32 := 2#32
  let v42 : BitVec 32 := Scalar.remsi v41 c2_i32_26
  let v47 : BitVec 32 := Scalar.subi c1_i32_30 v42
  let c2_i32_140 : BitVec 32 := 2#32
  let v168 : BitVec 32 := Scalar.muli v47 c2_i32_140
  let v169 : BitVec 32 := Scalar.addi v167 v168
  let v43 : BitVec 32 := Dev.word d37
  let c1_i32 : BitVec 32 := 1#32
  let v44 : BitVec 32 := Scalar.divsi v43 c1_i32
  let c2_i32_28 : BitVec 32 := 2#32
  let v45 : BitVec 32 := Scalar.remsi v44 c2_i32_28
  let c1_i32_141 : BitVec 32 := 1#32
  let v170 : BitVec 32 := Scalar.muli v45 c1_i32_141
  let v171 : BitVec 32 := Scalar.addi v169 v170
  v171.toNat
def k0_dev9 (d37 : Dev nD) : Nat :=
  let c0_i32_152 : BitVec 32 := 0#32
  let c1_i32_31 : BitVec 32 := 1#32
  let v37 : BitVec 32 := Dev.word d37
  let c4_i32 : BitVec 32 := 4#32
  let v38 : BitVec 32 := Scalar.divsi v37 c4_i32
  let c2_i32 : BitVec 32 := 2#32
  let v39 : BitVec 32 := Scalar.remsi v38 c2_i32
  let v48 : BitVec 32 := Scalar.subi c1_i32_31 v39
  let c4_i32_151 : BitVec 32 := 4#32
  let v180 : BitVec 32 := Scalar.muli v48 c4_i32_151
  let v181 : BitVec 32 := Scalar.addi c0_i32_152 v180
  let c1_i32_32 : BitVec 32 := 1#32
  let v40 : BitVec 32 := Dev.word d37
  let c2_i32_27 : BitVec 32 := 2#32
  let v41 : BitVec 32 := Scalar.divsi v40 c2_i32_27
  let c2_i32_26 : BitVec 32 := 2#32
  let v42 : BitVec 32 := Scalar.remsi v41 c2_i32_26
  let v49 : BitVec 32 := Scalar.subi c1_i32_32 v42
  let c2_i32_153 : BitVec 32 := 2#32
  let v182 : BitVec 32 := Scalar.muli v49 c2_i32_153
  let v183 : BitVec 32 := Scalar.addi v181 v182
  let v43 : BitVec 32 := Dev.word d37
  let c1_i32 : BitVec 32 := 1#32
  let v44 : BitVec 32 := Scalar.divsi v43 c1_i32
  let c2_i32_28 : BitVec 32 := 2#32
  let v45 : BitVec 32 := Scalar.remsi v44 c2_i32_28
  let c1_i32_154 : BitVec 32 := 1#32
  let v184 : BitVec 32 := Scalar.muli v45 c1_i32_154
  let v185 : BitVec 32 := Scalar.addi v183 v184
  v185.toNat
def k0_cond2 (i : grid0.Coords) : BitVec 1 :=
  let arg0 : BitVec 32 := BitVec.ofNat 32 (i 0).val
  let c15_i32 : BitVec 32 := 15#32
  let v3 : BitVec 1 := Scalar.cmpi .eq arg0 c15_i32
  let arg1 : BitVec 32 := BitVec.ofNat 32 (i 1).val
  let c3_i32 : BitVec 32 := 3#32
  let v4 : BitVec 1 := Scalar.cmpi .eq arg1 c3_i32
  let v5 : BitVec 1 := Scalar.andi v3 v4
  let v8 : BitVec 32 := Scalar.extui v5
  let c0_i32_2 : BitVec 32 := 0#32
  let v9 : BitVec 1 := Scalar.cmpi .ne v8 c0_i32_2
  v9

def k0_off4 (d37 : Dev nD) : Fin 3 → Nat :=
  let c2_i32_33 : BitVec 32 := 2#32
  let c1_i32_29 : BitVec 32 := 1#32
  let v37 : BitVec 32 := Dev.word d37
  let c4_i32 : BitVec 32 := 4#32
  let v38 : BitVec 32 := Scalar.divsi v37 c4_i32
  let c2_i32 : BitVec 32 := 2#32
  let v39 : BitVec 32 := Scalar.remsi v38 c2_i32
  let v46 : BitVec 32 := Scalar.subi c1_i32_29 v39
  let v50 : BitVec 32 := Scalar.muli c2_i32_33 v46
  let v40 : BitVec 32 := Dev.word d37
  let c2_i32_27 : BitVec 32 := 2#32
  let v41 : BitVec 32 := Scalar.divsi v40 c2_i32_27
  let c2_i32_26 : BitVec 32 := 2#32
  let v42 : BitVec 32 := Scalar.remsi v41 c2_i32_26
  let v51 : BitVec 32 := Scalar.addi v50 v42
  let c0_i32_48 : BitVec 32 := 0#32
  let c0_i32_49 : BitVec 32 := 0#32
  ![v51.toNat, 0, 0]
def k0_off5 (d37 : Dev nD) : Fin 3 → Nat :=
  let c2_i32_34 : BitVec 32 := 2#32
  let v37 : BitVec 32 := Dev.word d37
  let c4_i32 : BitVec 32 := 4#32
  let v38 : BitVec 32 := Scalar.divsi v37 c4_i32
  let c2_i32 : BitVec 32 := 2#32
  let v39 : BitVec 32 := Scalar.remsi v38 c2_i32
  let v52 : BitVec 32 := Scalar.muli c2_i32_34 v39
  let c1_i32_30 : BitVec 32 := 1#32
  let v40 : BitVec 32 := Dev.word d37
  let c2_i32_27 : BitVec 32 := 2#32
  let v41 : BitVec 32 := Scalar.divsi v40 c2_i32_27
  let c2_i32_26 : BitVec 32 := 2#32
  let v42 : BitVec 32 := Scalar.remsi v41 c2_i32_26
  let v47 : BitVec 32 := Scalar.subi c1_i32_30 v42
  let v53 : BitVec 32 := Scalar.addi v52 v47
  let c0_i32_71 : BitVec 32 := 0#32
  let c0_i32_72 : BitVec 32 := 0#32
  ![v53.toNat, 0, 0]
def k0_off6 (d37 : Dev nD) : Fin 3 → Nat :=
  let c2_i32_35 : BitVec 32 := 2#32
  let c1_i32_31 : BitVec 32 := 1#32
  let v37 : BitVec 32 := Dev.word d37
  let c4_i32 : BitVec 32 := 4#32
  let v38 : BitVec 32 := Scalar.divsi v37 c4_i32
  let c2_i32 : BitVec 32 := 2#32
  let v39 : BitVec 32 := Scalar.remsi v38 c2_i32
  let v48 : BitVec 32 := Scalar.subi c1_i32_31 v39
  let v54 : BitVec 32 := Scalar.muli c2_i32_35 v48
  let c1_i32_32 : BitVec 32 := 1#32
  let v40 : BitVec 32 := Dev.word d37
  let c2_i32_27 : BitVec 32 := 2#32
  let v41 : BitVec 32 := Scalar.divsi v40 c2_i32_27
  let c2_i32_26 : BitVec 32 := 2#32
  let v42 : BitVec 32 := Scalar.remsi v41 c2_i32_26
  let v49 : BitVec 32 := Scalar.subi c1_i32_32 v42
  let v55 : BitVec 32 := Scalar.addi v54 v49
  let c0_i32_94 : BitVec 32 := 0#32
  let c0_i32_95 : BitVec 32 := 0#32
  ![v55.toNat, 0, 0]
def k0_cond5 (i : grid0.Coords) : BitVec 1 :=
  let arg1 : BitVec 32 := BitVec.ofNat 32 (i 1).val
  let c3_i32_24 : BitVec 32 := 3#32
  let v34 : BitVec 1 := Scalar.cmpi .eq arg1 c3_i32_24
  let v35 : BitVec 32 := Scalar.extui v34
  let c0_i32_25 : BitVec 32 := 0#32
  let v36 : BitVec 1 := Scalar.cmpi .ne v35 c0_i32_25
  v36

def k0_cond3 (i : grid0.Coords) : BitVec 1 :=
  let arg0 : BitVec 32 := BitVec.ofNat 32 (i 0).val
  let c0_i32_3 : BitVec 32 := 0#32
  let v10 : BitVec 1 := Scalar.cmpi .eq arg0 c0_i32_3
  let arg1 : BitVec 32 := BitVec.ofNat 32 (i 1).val
  let c0_i32_4 : BitVec 32 := 0#32
  let v11 : BitVec 1 := Scalar.cmpi .eq arg1 c0_i32_4
  let v12 : BitVec 1 := Scalar.andi v10 v11
  let v13 : BitVec 32 := Scalar.extui v12
  let c0_i32_5 : BitVec 32 := 0#32
  let v14 : BitVec 1 := Scalar.cmpi .ne v13 c0_i32_5
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== InScatterRefIdeal.lean ====
abbrev S32x8192x704 : Shape := ⟨3, ![32, 8192, 704]⟩
abbrev S4x1024x704 : Shape := ⟨3, ![4, 1024, 704]⟩
abbrev S65536x1024 : Shape := ⟨2, ![65536, 1024]⟩
abbrev S1x1024 : Shape := ⟨2, ![1, 1024]⟩
abbrev S32x352x1024 : Shape := ⟨3, ![32, 352, 1024]⟩
abbrev S24 : Shape := ⟨1, ![24]⟩
abbrev S8x4x8192x704 : Shape := ⟨4, ![8, 4, 8192, 704]⟩
abbrev S8x8192x1024 : Shape := ⟨3, ![8, 8192, 1024]⟩
abbrev S_ : Shape := ⟨0, ![]⟩
abbrev S65536 : Shape := ⟨1, ![65536]⟩
abbrev S65536x1 : Shape := ⟨2, ![65536, 1]⟩
abbrev S8x1024 : Shape := ⟨2, ![8, 1024]⟩
abbrev S8x1x1024 : Shape := ⟨3, ![8, 1, 1024]⟩
abbrev S8x8x1024 : Shape := ⟨3, ![8, 8, 1024]⟩
abbrev S64x1024 : Shape := ⟨2, ![64, 1024]⟩
abbrev S24x1 : Shape := ⟨2, ![24, 1]⟩
abbrev S24x352x1024 : Shape := ⟨3, ![24, 352, 1024]⟩

abbrev nBuf : Space → Nat
  | .hbm => 63
  | .vmem => 0
  | .smem => 0
  | _ => 0

abbrev bufTy : (tb : Table) → Fin (tcTables nBuf tb) → BufTy
  | .hbm, ⟨0, _⟩ => ⟨S32x8192x704, .bf16⟩
  | .hbm, ⟨1, _⟩ => ⟨S32x8192x704, .bf16⟩
  | .hbm, ⟨2, _⟩ => ⟨S4x1024x704, .bf16⟩
  | .hbm, ⟨3, _⟩ => ⟨S4x1024x704, .bf16⟩
  | .hbm, ⟨4, _⟩ => ⟨S65536x1024, .f32⟩
  | .hbm, ⟨5, _⟩ => ⟨S65536x1024, .f32⟩
  | .hbm, ⟨6, _⟩ => ⟨S1x1024, .f32⟩
  | .hbm, ⟨7, _⟩ => ⟨S32x352x1024, .bf16⟩
  | .hbm, ⟨8, _⟩ => ⟨S32x352x1024, .bf16⟩
  | .hbm, ⟨9, _⟩ => ⟨S32x352x1024, .bf16⟩
  | .hbm, ⟨10, _⟩ => ⟨S24, .i32⟩
  | .hbm, ⟨11, _⟩ => ⟨S32x8192x704, .f32⟩
  | .hbm, ⟨12, _⟩ => ⟨S8x4x8192x704, .f32⟩
  | .hbm, ⟨13, _⟩ => ⟨S4x1024x704, .f32⟩
  | .hbm, ⟨14, _⟩ => ⟨S8x8192x1024, .f32⟩
  | .hbm, ⟨15, _⟩ => ⟨S65536x1024, .f32⟩
  | .hbm, ⟨16, _⟩ => ⟨S32x8192x704, .f32⟩
  | .hbm, ⟨17, _⟩ => ⟨S8x4x8192x704, .f32⟩
  | .hbm, ⟨18, _⟩ => ⟨S4x1024x704, .f32⟩
  | .hbm, ⟨19, _⟩ => ⟨S8x8192x1024, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S_, .f32⟩
  | .hbm, ⟨24, _⟩ => ⟨S65536, .f32⟩
  | .hbm, ⟨25, _⟩ => ⟨S65536x1, .f32⟩
  | .hbm, ⟨26, _⟩ => ⟨S_, .f32⟩
  | .hbm, ⟨27, _⟩ => ⟨S65536x1, .f32⟩
  | .hbm, ⟨28, _⟩ => ⟨S65536x1, .f32⟩
  | .hbm, ⟨29, _⟩ => ⟨S_, .f32⟩
  | .hbm, ⟨30, _⟩ => ⟨S65536x1, .f32⟩
  | .hbm, ⟨31, _⟩ => ⟨S65536x1, .f32⟩
  | .hbm, ⟨32, _⟩ => ⟨S65536x1, .f32⟩
  | .hbm, ⟨33, _⟩ => ⟨S65536x1024, .f32⟩
  | .hbm, ⟨34, _⟩ => ⟨S65536x1024, .f32⟩
  | .hbm, ⟨35, _⟩ => ⟨S65536x1024, .f32⟩
  | .hbm, ⟨36, _⟩ => ⟨S65536x1024, .f32⟩
  | .hbm, ⟨37, _⟩ => ⟨S65536x1024, .f32⟩
  | .hbm, ⟨38, _⟩ => ⟨S_, .f32⟩
  | .hbm, ⟨39, _⟩ => ⟨S65536, .f32⟩
  | .hbm, ⟨40, _⟩ => ⟨S65536x1, .f32⟩
  | .hbm, ⟨41, _⟩ => ⟨S_, .f32⟩
  | .hbm, ⟨42, _⟩ => ⟨S65536x1, .f32⟩
  | .hbm, ⟨43, _⟩ => ⟨S65536x1, .f32⟩
  | .hbm, ⟨44, _⟩ => ⟨S65536x1024, .f32⟩
  | .hbm, ⟨45, _⟩ => ⟨S65536x1024, .f32⟩
  | .hbm, ⟨46, _⟩ => ⟨S65536x1024, .f32⟩
  | .hbm, ⟨47, _⟩ => ⟨S65536x1024, .f32⟩
  | .hbm, ⟨48, _⟩ => ⟨S65536x1024, .f32⟩
  | .hbm, ⟨49, _⟩ => ⟨S65536x1024, .f32⟩
  | .hbm, ⟨50, _⟩ => ⟨S65536x1024, .f32⟩
  | .hbm, ⟨51, _⟩ => ⟨S8x8192x1024, .f32⟩
  | .hbm, ⟨52, _⟩ => ⟨S_, .f32⟩
  | .hbm, ⟨53, _⟩ => ⟨S8x1024, .f32⟩
  | .hbm, ⟨54, _⟩ => ⟨S8x1x1024, .f32⟩
  | .hbm, ⟨55, _⟩ => ⟨S8x8x1024, .f32⟩
  | .hbm, ⟨56, _⟩ => ⟨S64x1024, .f32⟩
  | .hbm, ⟨57, _⟩ => ⟨S24x1, .i32⟩
  | .hbm, ⟨58, _⟩ => ⟨S24x352x1024, .bf16⟩
  | .hbm, ⟨59, _⟩ => ⟨S24x1, .i32⟩
  | .hbm, ⟨60, _⟩ => ⟨S24x352x1024, .bf16⟩
  | .hbm, ⟨61, _⟩ => ⟨S24x1, .i32⟩
  | .hbm, ⟨62, _⟩ => ⟨S24x352x1024, .bf16⟩
  | _, _ => ⟨S32x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== ActScatter.lean ====
abbrev S8192x1024 : Shape := ⟨2, ![8192, 1024]⟩
abbrev S4x8192x704 : Shape := ⟨3, ![4, 8192, 704]⟩
abbrev S4x704x1024 : Shape := ⟨3, ![4, 704, 1024]⟩
abbrev S4x512x768 : Shape := ⟨3, ![4, 512, 768]⟩
abbrev S4x128x1024 : Shape := ⟨3, ![4, 128, 1024]⟩
abbrev S4x352x1024 : Shape := ⟨3, ![4, 352, 1024]⟩
abbrev S4x128x256 : Shape := ⟨3, ![4, 128, 256]⟩
abbrev S3x512x768 : Shape := ⟨3, ![3, 512, 768]⟩
abbrev S3x128x1024 : Shape := ⟨3, ![3, 128, 1024]⟩
abbrev S3x352x1024 : Shape := ⟨3, ![3, 352, 1024]⟩
abbrev S3x128x256 : Shape := ⟨3, ![3, 128, 256]⟩
abbrev S512x1024 : Shape := ⟨2, ![512, 1024]⟩
abbrev S1x512x704 : Shape := ⟨3, ![1, 512, 704]⟩
abbrev S1x704x1024 : Shape := ⟨3, ![1, 704, 1024]⟩
abbrev S7x3 : Shape := ⟨2, ![7, 3]⟩
abbrev S1x1 : Shape := ⟨2, ![1, 1]⟩
abbrev S_ : Shape := ⟨0, ![]⟩
abbrev S1x512x768 : Shape := ⟨3, ![1, 512, 768]⟩
abbrev S512x768 : Shape := ⟨2, ![512, 768]⟩
abbrev S1x128x1024 : Shape := ⟨3, ![1, 128, 1024]⟩
abbrev S128x1024 : Shape := ⟨2, ![128, 1024]⟩
abbrev S1x352x1024 : Shape := ⟨3, ![1, 352, 1024]⟩
abbrev S352x1024 : Shape := ⟨2, ![352, 1024]⟩
abbrev S1x128x256 : Shape := ⟨3, ![1, 128, 256]⟩
abbrev S128x256 : Shape := ⟨2, ![128, 256]⟩
abbrev S512x704 : Shape := ⟨2, ![512, 704]⟩
abbrev S704x1024 : Shape := ⟨2, ![704, 1024]⟩

abbrev nBuf : Space → Nat
  | .hbm => 22
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S4x8192x704, .bf16⟩
  | .hbm, ⟨2, _⟩ => ⟨S4x8192x704, .bf16⟩
  | .hbm, ⟨3, _⟩ => ⟨S4x704x1024, .bf16⟩
  | .hbm, ⟨4, _⟩ => ⟨S4x512x768, .bf16⟩
  | .hbm, ⟨5, _⟩ => ⟨S4x128x1024, .bf16⟩
  | .hbm, ⟨6, _⟩ => ⟨S4x352x1024, .bf16⟩
  | .hbm, ⟨7, _⟩ => ⟨S4x352x1024, .bf16⟩
  | .hbm, ⟨8, _⟩ => ⟨S4x352x1024, .bf16⟩
  | .hbm, ⟨9, _⟩ => ⟨S4x128x1024, .bf16⟩
  | .hbm, ⟨10, _⟩ => ⟨S4x128x256, .bf16⟩
  | .hbm, ⟨11, _⟩ => ⟨S4x8192x704, .bf16⟩
  | .hbm, ⟨12, _⟩ => ⟨S4x8192x704, .bf16⟩
  | .hbm, ⟨13, _⟩ => ⟨S4x8192x704, .bf16⟩
  | .hbm, ⟨14, _⟩ => ⟨S8192x1024, .bf16⟩
  | .hbm, ⟨15, _⟩ => ⟨S3x512x768, .bf16⟩
  | .hbm, ⟨16, _⟩ => ⟨S3x128x1024, .bf16⟩
  | .hbm, ⟨17, _⟩ => ⟨S3x352x1024, .bf16⟩
  | .hbm, ⟨18, _⟩ => ⟨S3x352x1024, .bf16⟩
  | .hbm, ⟨19, _⟩ => ⟨S3x352x1024, .bf16⟩
  | .hbm, ⟨20, _⟩ => ⟨S3x128x1024, .bf16⟩
  | .hbm, ⟨21, _⟩ => ⟨S3x128x256, .bf16⟩
  | .local _ .vmem, ⟨0, _⟩ => ⟨S512x1024, .f32⟩
  | .local _ .vmem, ⟨1, _⟩ => ⟨S512x1024, .f32⟩
  | .local _ .vmem, ⟨2, _⟩ => ⟨S1x512x704, .bf16⟩
  | .local _ .vmem, ⟨3, _⟩ => ⟨S1x512x704, .bf16⟩
  | .local _ .vmem, ⟨4, _⟩ => ⟨S1x512x704, .bf16⟩
  | .local _ .vmem, ⟨5, _⟩ => ⟨S1x512x704, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x512x704, .bf16⟩
  | .local _ .vmem, ⟨9, _⟩ => ⟨S1x512x704, .bf16⟩
  | .local _ .vmem, ⟨10, _⟩ => ⟨S1x512x704, .bf16⟩
  | .local _ .vmem, ⟨11, _⟩ => ⟨S1x512x704, .bf16⟩
  | .local _ .vmem, ⟨12, _⟩ => ⟨S1x512x704, .bf16⟩
  | .local _ .vmem, ⟨13, _⟩ => ⟨S1x512x704, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v1_4 : Ref sig .tc := ⟨.hbm, 15, rfl⟩
abbrev main_v1_5 : Ref sig .tc := ⟨.hbm, 16, rfl⟩
abbrev main_v1_6 : Ref sig .tc := ⟨.hbm, 17, rfl⟩
abbrev main_v1_7 : Ref sig .tc := ⟨.hbm, 18, rfl⟩
abbrev main_v1_8 : Ref sig .tc := ⟨.hbm, 19, rfl⟩
abbrev main_v1_9 : Ref sig .tc := ⟨.hbm, 20, rfl⟩
abbrev main_v1_10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 8
abbrev τ : Topo := Topo.v7x

variable {F : FTy → Type} [FloatOps F]

abbrev grid0 : Pipeline.Grid := ⟨2, ![16, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v6 : BitVec 32 := Scalar.extui v2
  let c0_i32_1 : BitVec 32 := 0#32
  let v7 : BitVec 1 := Scalar.cmpi .ne v6 c0_i32_1
  v7

def k0_off1 (d47 : Dev nD) : Fin 3 → Nat :=
  let c2_i32_33 : BitVec 32 := 2#32
  let c1_i32_29 : BitVec 32 := 1#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v56 : BitVec 32 := Scalar.subi c1_i32_29 v49
  let v60 : BitVec 32 := Scalar.muli c2_i32_33 v56
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v61 : BitVec 32 := Scalar.addi v60 v52
  let c0_i32_65 : BitVec 32 := 0#32
  let c0_i32_66 : BitVec 32 := 0#32
  ![v61.toNat, 0, 0]
def k0_dev1 (d47 : Dev nD) : Nat :=
  let c0_i32_60 : BitVec 32 := 0#32
  let c1_i32_29 : BitVec 32 := 1#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v56 : BitVec 32 := Scalar.subi c1_i32_29 v49
  let c4_i32_59 : BitVec 32 := 4#32
  let v102 : BitVec 32 := Scalar.muli v56 c4_i32_59
  let v103 : BitVec 32 := Scalar.addi c0_i32_60 v102
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let c2_i32_61 : BitVec 32 := 2#32
  let v104 : BitVec 32 := Scalar.muli v52 c2_i32_61
  let v105 : BitVec 32 := Scalar.addi v103 v104
  let v53 : BitVec 32 := Dev.word d47
  let c1_i32 : BitVec 32 := 1#32
  let v54 : BitVec 32 := Scalar.divsi v53 c1_i32
  let c2_i32_28 : BitVec 32 := 2#32
  let v55 : BitVec 32 := Scalar.remsi v54 c2_i32_28
  let c1_i32_62 : BitVec 32 := 1#32
  let v106 : BitVec 32 := Scalar.muli v55 c1_i32_62
  let v107 : BitVec 32 := Scalar.addi v105 v106
  v107.toNat
def k0_off2 (d47 : Dev nD) : Fin 3 → Nat :=
  let c2_i32_34 : BitVec 32 := 2#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v62 : BitVec 32 := Scalar.muli c2_i32_34 v49
  let c1_i32_30 : BitVec 32 := 1#32
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v57 : BitVec 32 := Scalar.subi c1_i32_30 v52
  let v63 : BitVec 32 := Scalar.addi v62 v57
  let c0_i32_78 : BitVec 32 := 0#32
  let c0_i32_79 : BitVec 32 := 0#32
  ![v63.toNat, 0, 0]
def k0_dev2 (d47 : Dev nD) : Nat :=
  let c0_i32_73 : BitVec 32 := 0#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let c4_i32_72 : BitVec 32 := 4#32
  let v116 : BitVec 32 := Scalar.muli v49 c4_i32_72
  let v117 : BitVec 32 := Scalar.addi c0_i32_73 v116
  let c1_i32_30 : BitVec 32 := 1#32
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v57 : BitVec 32 := Scalar.subi c1_i32_30 v52
  let c2_i32_74 : BitVec 32 := 2#32
  let v118 : BitVec 32 := Scalar.muli v57 c2_i32_74
  let v119 : BitVec 32 := Scalar.addi v117 v118
  let v53 : BitVec 32 := Dev.word d47
  let c1_i32 : BitVec 32 := 1#32
  let v54 : BitVec 32 := Scalar.divsi v53 c1_i32
  let c2_i32_28 : BitVec 32 := 2#32
  let v55 : BitVec 32 := Scalar.remsi v54 c2_i32_28
  let c1_i32_75 : BitVec 32 := 1#32
  let v120 : BitVec 32 := Scalar.muli v55 c1_i32_75
  let v121 : BitVec 32 := Scalar.addi v119 v120
  v121.toNat
def k0_off3 (d47 : Dev nD) : Fin 3 → Nat :=
  let c2_i32_35 : BitVec 32 := 2#32
  let c1_i32_31 : BitVec 32 := 1#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v58 : BitVec 32 := Scalar.subi c1_i32_31 v49
  let v64 : BitVec 32 := Scalar.muli c2_i32_35 v58
  let c1_i32_32 : BitVec 32 := 1#32
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v59 : BitVec 32 := Scalar.subi c1_i32_32 v52
  let v65 : BitVec 32 := Scalar.addi v64 v59
  let c0_i32_91 : BitVec 32 := 0#32
  let c0_i32_92 : BitVec 32 := 0#32
  ![v65.toNat, 0, 0]
def k0_dev3 (d47 : Dev nD) : Nat :=
  let c0_i32_86 : BitVec 32 := 0#32
  let c1_i32_31 : BitVec 32 := 1#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v58 : BitVec 32 := Scalar.subi c1_i32_31 v49
  let c4_i32_85 : BitVec 32 := 4#32
  let v130 : BitVec 32 := Scalar.muli v58 c4_i32_85
  let v131 : BitVec 32 := Scalar.addi c0_i32_86 v130
  let c1_i32_32 : BitVec 32 := 1#32
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v59 : BitVec 32 := Scalar.subi c1_i32_32 v52
  let c2_i32_87 : BitVec 32 := 2#32
  let v132 : BitVec 32 := Scalar.muli v59 c2_i32_87
  let v133 : BitVec 32 := Scalar.addi v131 v132
  let v53 : BitVec 32 := Dev.word d47
  let c1_i32 : BitVec 32 := 1#32
  let v54 : BitVec 32 := Scalar.divsi v53 c1_i32
  let c2_i32_28 : BitVec 32 := 2#32
  let v55 : BitVec 32 := Scalar.remsi v54 c2_i32_28
  let c1_i32_88 : BitVec 32 := 1#32
  let v134 : BitVec 32 := Scalar.muli v55 c1_i32_88
  let v135 : BitVec 32 := Scalar.addi v133 v134
  v135.toNat
def k0_off4 (d47 : Dev nD) : Fin 3 → Nat :=
  let c2_i32_36 : BitVec 32 := 2#32
  let c1_i32_29 : BitVec 32 := 1#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v56 : BitVec 32 := Scalar.subi c1_i32_29 v49
  let v66 : BitVec 32 := Scalar.muli c2_i32_36 v56
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v67 : BitVec 32 := Scalar.addi v66 v52
  let c0_i32_104 : BitVec 32 := 0#32
  let c0_i32_105 : BitVec 32 := 0#32
  ![v67.toNat, 0, 0]
def k0_dev4 (d47 : Dev nD) : Nat :=
  let c0_i32_99 : BitVec 32 := 0#32
  let c1_i32_29 : BitVec 32 := 1#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v56 : BitVec 32 := Scalar.subi c1_i32_29 v49
  let c4_i32_98 : BitVec 32 := 4#32
  let v144 : BitVec 32 := Scalar.muli v56 c4_i32_98
  let v145 : BitVec 32 := Scalar.addi c0_i32_99 v144
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let c2_i32_100 : BitVec 32 := 2#32
  let v146 : BitVec 32 := Scalar.muli v52 c2_i32_100
  let v147 : BitVec 32 := Scalar.addi v145 v146
  let v53 : BitVec 32 := Dev.word d47
  let c1_i32 : BitVec 32 := 1#32
  let v54 : BitVec 32 := Scalar.divsi v53 c1_i32
  let c2_i32_28 : BitVec 32 := 2#32
  let v55 : BitVec 32 := Scalar.remsi v54 c2_i32_28
  let c1_i32_101 : BitVec 32 := 1#32
  let v148 : BitVec 32 := Scalar.muli v55 c1_i32_101
  let v149 : BitVec 32 := Scalar.addi v147 v148
  v149.toNat
def k0_off5 (d47 : Dev nD) : Fin 3 → Nat :=
  let c2_i32_37 : BitVec 32 := 2#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v68 : BitVec 32 := Scalar.muli c2_i32_37 v49
  let c1_i32_30 : BitVec 32 := 1#32
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v57 : BitVec 32 := Scalar.subi c1_i32_30 v52
  let v69 : BitVec 32 := Scalar.addi v68 v57
  let c0_i32_117 : BitVec 32 := 0#32
  let c0_i32_118 : BitVec 32 := 0#32
  ![v69.toNat, 0, 0]
def k0_dev5 (d47 : Dev nD) : Nat :=
  let c0_i32_112 : BitVec 32 := 0#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let c4_i32_111 : BitVec 32 := 4#32
  let v158 : BitVec 32 := Scalar.muli v49 c4_i32_111
  let v159 : BitVec 32 := Scalar.addi c0_i32_112 v158
  let c1_i32_30 : BitVec 32 := 1#32
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v57 : BitVec 32 := Scalar.subi c1_i32_30 v52
  let c2_i32_113 : BitVec 32 := 2#32
  let v160 : BitVec 32 := Scalar.muli v57 c2_i32_113
  let v161 : BitVec 32 := Scalar.addi v159 v160
  let v53 : BitVec 32 := Dev.word d47
  let c1_i32 : BitVec 32 := 1#32
  let v54 : BitVec 32 := Scalar.divsi v53 c1_i32
  let c2_i32_28 : BitVec 32 := 2#32
  let v55 : BitVec 32 := Scalar.remsi v54 c2_i32_28
  let c1_i32_114 : BitVec 32 := 1#32
  let v162 : BitVec 32 := Scalar.muli v55 c1_i32_114
  let v163 : BitVec 32 := Scalar.addi v161 v162
  v163.toNat
def k0_off6 (d47 : Dev nD) : Fin 3 → Nat :=
  let c2_i32_38 : BitVec 32 := 2#32
  let c1_i32_31 : BitVec 32 := 1#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v58 : BitVec 32 := Scalar.subi c1_i32_31 v49
  let v70 : BitVec 32 := Scalar.muli c2_i32_38 v58
  let c1_i32_32 : BitVec 32 := 1#32
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v59 : BitVec 32 := Scalar.subi c1_i32_32 v52
  let v71 : BitVec 32 := Scalar.addi v70 v59
  let c0_i32_130 : BitVec 32 := 0#32
  let c0_i32_131 : BitVec 32 := 0#32
  ![v71.toNat, 0, 0]
def k0_dev6 (d47 : Dev nD) : Nat :=
  let c0_i32_125 : BitVec 32 := 0#32
  let c1_i32_31 : BitVec 32 := 1#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v58 : BitVec 32 := Scalar.subi c1_i32_31 v49
  let c4_i32_124 : BitVec 32 := 4#32
  let v172 : BitVec 32 := Scalar.muli v58 c4_i32_124
  let v173 : BitVec 32 := Scalar.addi c0_i32_125 v172
  let c1_i32_32 : BitVec 32 := 1#32
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v59 : BitVec 32 := Scalar.subi c1_i32_32 v52
  let c2_i32_126 : BitVec 32 := 2#32
  let v174 : BitVec 32 := Scalar.muli v59 c2_i32_126
  let v175 : BitVec 32 := Scalar.addi v173 v174
  let v53 : BitVec 32 := Dev.word d47
  let c1_i32 : BitVec 32 := 1#32
  let v54 : BitVec 32 := Scalar.divsi v53 c1_i32
  let c2_i32_28 : BitVec 32 := 2#32
  let v55 : BitVec 32 := Scalar.remsi v54 c2_i32_28
  let c1_i32_127 : BitVec 32 := 1#32
  let v176 : BitVec 32 := Scalar.muli v55 c1_i32_127
  let v177 : BitVec 32 := Scalar.addi v175 v176
  v177.toNat
def k0_off7 (d47 : Dev nD) : Fin 3 → Nat :=
  let c2_i32_39 : BitVec 32 := 2#32
  let c1_i32_29 : BitVec 32 := 1#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v56 : BitVec 32 := Scalar.subi c1_i32_29 v49
  let v72 : BitVec 32 := Scalar.muli c2_i32_39 v56
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v73 : BitVec 32 := Scalar.addi v72 v52
  let c0_i32_143 : BitVec 32 := 0#32
  let c0_i32_144 : BitVec 32 := 0#32
  ![v73.toNat, 0, 0]
def k0_dev7 (d47 : Dev nD) : Nat :=
  let c0_i32_138 : BitVec 32 := 0#32
  let c1_i32_29 : BitVec 32 := 1#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v56 : BitVec 32 := Scalar.subi c1_i32_29 v49
  let c4_i32_137 : BitVec 32 := 4#32
  let v186 : BitVec 32 := Scalar.muli v56 c4_i32_137
  let v187 : BitVec 32 := Scalar.addi c0_i32_138 v186
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let c2_i32_139 : BitVec 32 := 2#32
  let v188 : BitVec 32 := Scalar.muli v52 c2_i32_139
  let v189 : BitVec 32 := Scalar.addi v187 v188
  let v53 : BitVec 32 := Dev.word d47
  let c1_i32 : BitVec 32 := 1#32
  let v54 : BitVec 32 := Scalar.divsi v53 c1_i32
  let c2_i32_28 : BitVec 32 := 2#32
  let v55 : BitVec 32 := Scalar.remsi v54 c2_i32_28
  let c1_i32_140 : BitVec 32 := 1#32
  let v190 : BitVec 32 := Scalar.muli v55 c1_i32_140
  let v191 : BitVec 32 := Scalar.addi v189 v190
  v191.toNat
def k0_off8 (d47 : Dev nD) : Fin 3 → Nat :=
  let c2_i32_40 : BitVec 32 := 2#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v74 : BitVec 32 := Scalar.muli c2_i32_40 v49
  let c1_i32_30 : BitVec 32 := 1#32
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v57 : BitVec 32 := Scalar.subi c1_i32_30 v52
  let v75 : BitVec 32 := Scalar.addi v74 v57
  let c0_i32_156 : BitVec 32 := 0#32
  let c0_i32_157 : BitVec 32 := 0#32
  ![v75.toNat, 0, 0]
def k0_dev8 (d47 : Dev nD) : Nat :=
  let c0_i32_151 : BitVec 32 := 0#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let c4_i32_150 : BitVec 32 := 4#32
  let v200 : BitVec 32 := Scalar.muli v49 c4_i32_150
  let v201 : BitVec 32 := Scalar.addi c0_i32_151 v200
  let c1_i32_30 : BitVec 32 := 1#32
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v57 : BitVec 32 := Scalar.subi c1_i32_30 v52
  let c2_i32_152 : BitVec 32 := 2#32
  let v202 : BitVec 32 := Scalar.muli v57 c2_i32_152
  let v203 : BitVec 32 := Scalar.addi v201 v202
  let v53 : BitVec 32 := Dev.word d47
  let c1_i32 : BitVec 32 := 1#32
  let v54 : BitVec 32 := Scalar.divsi v53 c1_i32
  let c2_i32_28 : BitVec 32 := 2#32
  let v55 : BitVec 32 := Scalar.remsi v54 c2_i32_28
  let c1_i32_153 : BitVec 32 := 1#32
  let v204 : BitVec 32 := Scalar.muli v55 c1_i32_153
  let v205 : BitVec 32 := Scalar.addi v203 v204
  v205.toNat
def k0_off9 (d47 : Dev nD) : Fin 3 → Nat :=
  let c2_i32_41 : BitVec 32 := 2#32
  let c1_i32_31 : BitVec 32 := 1#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v58 : BitVec 32 := Scalar.subi c1_i32_31 v49
  let v76 : BitVec 32 := Scalar.muli c2_i32_41 v58
  let c1_i32_32 : BitVec 32 := 1#32
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v59 : BitVec 32 := Scalar.subi c1_i32_32 v52
  let v77 : BitVec 32 := Scalar.addi v76 v59
  let c0_i32_169 : BitVec 32 := 0#32
  let c0_i32_170 : BitVec 32 := 0#32
  ![v77.toNat, 0, 0]
def k0_dev9 (d47 : Dev nD) : Nat :=
  let c0_i32_164 : BitVec 32 := 0#32
  let c1_i32_31 : BitVec 32 := 1#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v58 : BitVec 32 := Scalar.subi c1_i32_31 v49
  let c4_i32_163 : BitVec 32 := 4#32
  let v214 : BitVec 32 := Scalar.muli v58 c4_i32_163
  let v215 : BitVec 32 := Scalar.addi c0_i32_164 v214
  let c1_i32_32 : BitVec 32 := 1#32
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v59 : BitVec 32 := Scalar.subi c1_i32_32 v52
  let c2_i32_165 : BitVec 32 := 2#32
  let v216 : BitVec 32 := Scalar.muli v59 c2_i32_165
  let v217 : BitVec 32 := Scalar.addi v215 v216
  let v53 : BitVec 32 := Dev.word d47
  let c1_i32 : BitVec 32 := 1#32
  let v54 : BitVec 32 := Scalar.divsi v53 c1_i32
  let c2_i32_28 : BitVec 32 := 2#32
  let v55 : BitVec 32 := Scalar.remsi v54 c2_i32_28
  let c1_i32_166 : BitVec 32 := 1#32
  let v218 : BitVec 32 := Scalar.muli v55 c1_i32_166
  let v219 : BitVec 32 := Scalar.addi v217 v218
  v219.toNat
def k0_dev10 (d47 : Dev nD) : Nat :=
  let c0_i32_177 : BitVec 32 := 0#32
  let c1_i32_29 : BitVec 32 := 1#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v56 : BitVec 32 := Scalar.subi c1_i32_29 v49
  let c4_i32_176 : BitVec 32 := 4#32
  let v228 : BitVec 32 := Scalar.muli v56 c4_i32_176
  let v229 : BitVec 32 := Scalar.addi c0_i32_177 v228
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let c2_i32_178 : BitVec 32 := 2#32
  let v230 : BitVec 32 := Scalar.muli v52 c2_i32_178
  let v231 : BitVec 32 := Scalar.addi v229 v230
  let v53 : BitVec 32 := Dev.word d47
  let c1_i32 : BitVec 32 := 1#32
  let v54 : BitVec 32 := Scalar.divsi v53 c1_i32
  let c2_i32_28 : BitVec 32 := 2#32
  let v55 : BitVec 32 := Scalar.remsi v54 c2_i32_28
  let c1_i32_179 : BitVec 32 := 1#32
  let v232 : BitVec 32 := Scalar.muli v55 c1_i32_179
  let v233 : BitVec 32 := Scalar.addi v231 v232
  v233.toNat
def k0_dev11 (d47 : Dev nD) : Nat :=
  let c0_i32_190 : BitVec 32 := 0#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let c4_i32_189 : BitVec 32 := 4#32
  let v242 : BitVec 32 := Scalar.muli v49 c4_i32_189
  let v243 : BitVec 32 := Scalar.addi c0_i32_190 v242
  let c1_i32_30 : BitVec 32 := 1#32
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v57 : BitVec 32 := Scalar.subi c1_i32_30 v52
  let c2_i32_191 : BitVec 32 := 2#32
  let v244 : BitVec 32 := Scalar.muli v57 c2_i32_191
  let v245 : BitVec 32 := Scalar.addi v243 v244
  let v53 : BitVec 32 := Dev.word d47
  let c1_i32 : BitVec 32 := 1#32
  let v54 : BitVec 32 := Scalar.divsi v53 c1_i32
  let c2_i32_28 : BitVec 32 := 2#32
  let v55 : BitVec 32 := Scalar.remsi v54 c2_i32_28
  let c1_i32_192 : BitVec 32 := 1#32
  let v246 : BitVec 32 := Scalar.muli v55 c1_i32_192
  let v247 : BitVec 32 := Scalar.addi v245 v246
  v247.toNat
def k0_dev12 (d47 : Dev nD) : Nat :=
  let c0_i32_203 : BitVec 32 := 0#32
  let c1_i32_31 : BitVec 32 := 1#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v58 : BitVec 32 := Scalar.subi c1_i32_31 v49
  let c4_i32_202 : BitVec 32 := 4#32
  let v256 : BitVec 32 := Scalar.muli v58 c4_i32_202
  let v257 : BitVec 32 := Scalar.addi c0_i32_203 v256
  let c1_i32_32 : BitVec 32 := 1#32
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v59 : BitVec 32 := Scalar.subi c1_i32_32 v52
  let c2_i32_204 : BitVec 32 := 2#32
  let v258 : BitVec 32 := Scalar.muli v59 c2_i32_204
  let v259 : BitVec 32 := Scalar.addi v257 v258
  let v53 : BitVec 32 := Dev.word d47
  let c1_i32 : BitVec 32 := 1#32
  let v54 : BitVec 32 := Scalar.divsi v53 c1_i32
  let c2_i32_28 : BitVec 32 := 2#32
  let v55 : BitVec 32 := Scalar.remsi v54 c2_i32_28
  let c1_i32_205 : BitVec 32 := 1#32
  let v260 : BitVec 32 := Scalar.muli v55 c1_i32_205
  let v261 : BitVec 32 := Scalar.addi v259 v260
  v261.toNat
def k0_dev13 (d47 : Dev nD) : Nat :=
  let c0_i32_216 : BitVec 32 := 0#32
  let c1_i32_29 : BitVec 32 := 1#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v56 : BitVec 32 := Scalar.subi c1_i32_29 v49
  let c4_i32_215 : BitVec 32 := 4#32
  let v270 : BitVec 32 := Scalar.muli v56 c4_i32_215
  let v271 : BitVec 32 := Scalar.addi c0_i32_216 v270
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let c2_i32_217 : BitVec 32 := 2#32
  let v272 : BitVec 32 := Scalar.muli v52 c2_i32_217
  let v273 : BitVec 32 := Scalar.addi v271 v272
  let v53 : BitVec 32 := Dev.word d47
  let c1_i32 : BitVec 32 := 1#32
  let v54 : BitVec 32 := Scalar.divsi v53 c1_i32
  let c2_i32_28 : BitVec 32 := 2#32
  let v55 : BitVec 32 := Scalar.remsi v54 c2_i32_28
  let c1_i32_218 : BitVec 32 := 1#32
  let v274 : BitVec 32 := Scalar.muli v55 c1_i32_218
  let v275 : BitVec 32 := Scalar.addi v273 v274
  v275.toNat
def k0_dev14 (d47 : Dev nD) : Nat :=
  let c0_i32_229 : BitVec 32 := 0#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let c4_i32_228 : BitVec 32 := 4#32
  let v284 : BitVec 32 := Scalar.muli v49 c4_i32_228
  let v285 : BitVec 32 := Scalar.addi c0_i32_229 v284
  let c1_i32_30 : BitVec 32 := 1#32
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v57 : BitVec 32 := Scalar.subi c1_i32_30 v52
  let c2_i32_230 : BitVec 32 := 2#32
  let v286 : BitVec 32 := Scalar.muli v57 c2_i32_230
  let v287 : BitVec 32 := Scalar.addi v285 v286
  let v53 : BitVec 32 := Dev.word d47
  let c1_i32 : BitVec 32 := 1#32
  let v54 : BitVec 32 := Scalar.divsi v53 c1_i32
  let c2_i32_28 : BitVec 32 := 2#32
  let v55 : BitVec 32 := Scalar.remsi v54 c2_i32_28
  let c1_i32_231 : BitVec 32 := 1#32
  let v288 : BitVec 32 := Scalar.muli v55 c1_i32_231
  let v289 : BitVec 32 := Scalar.addi v287 v288
  v289.toNat
def k0_dev15 (d47 : Dev nD) : Nat :=
  let c0_i32_242 : BitVec 32 := 0#32
  let c1_i32_31 : BitVec 32 := 1#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v58 : BitVec 32 := Scalar.subi c1_i32_31 v49
  let c4_i32_241 : BitVec 32 := 4#32
  let v298 : BitVec 32 := Scalar.muli v58 c4_i32_241
  let v299 : BitVec 32 := Scalar.addi c0_i32_242 v298
  let c1_i32_32 : BitVec 32 := 1#32
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v59 : BitVec 32 := Scalar.subi c1_i32_32 v52
  let c2_i32_243 : BitVec 32 := 2#32
  let v300 : BitVec 32 := Scalar.muli v59 c2_i32_243
  let v301 : BitVec 32 := Scalar.addi v299 v300
  let v53 : BitVec 32 := Dev.word d47
  let c1_i32 : BitVec 32 := 1#32
  let v54 : BitVec 32 := Scalar.divsi v53 c1_i32
  let c2_i32_28 : BitVec 32 := 2#32
  let v55 : BitVec 32 := Scalar.remsi v54 c2_i32_28
  let c1_i32_244 : BitVec 32 := 1#32
  let v302 : BitVec 32 := Scalar.muli v55 c1_i32_244
  let v303 : BitVec 32 := Scalar.addi v301 v302
  v303.toNat
def k0_dev16 (d47 : Dev nD) : Nat :=
  let c0_i32_254 : BitVec 32 := 0#32
  let c1_i32_29 : BitVec 32 := 1#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v56 : BitVec 32 := Scalar.subi c1_i32_29 v49
  let c4_i32_253 : BitVec 32 := 4#32
  let v312 : BitVec 32 := Scalar.muli v56 c4_i32_253
  let v313 : BitVec 32 := Scalar.addi c0_i32_254 v312
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let c2_i32_255 : BitVec 32 := 2#32
  let v314 : BitVec 32 := Scalar.muli v52 c2_i32_255
  let v315 : BitVec 32 := Scalar.addi v313 v314
  let v53 : BitVec 32 := Dev.word d47
  let c1_i32 : BitVec 32 := 1#32
  let v54 : BitVec 32 := Scalar.divsi v53 c1_i32
  let c2_i32_28 : BitVec 32 := 2#32
  let v55 : BitVec 32 := Scalar.remsi v54 c2_i32_28
  let c1_i32_256 : BitVec 32 := 1#32
  let v316 : BitVec 32 := Scalar.muli v55 c1_i32_256
  let v317 : BitVec 32 := Scalar.addi v315 v316
  v317.toNat
def k0_dev17 (d47 : Dev nD) : Nat :=
  let c0_i32_267 : BitVec 32 := 0#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let c4_i32_266 : BitVec 32 := 4#32
  let v326 : BitVec 32 := Scalar.muli v49 c4_i32_266
  let v327 : BitVec 32 := Scalar.addi c0_i32_267 v326
  let c1_i32_30 : BitVec 32 := 1#32
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v57 : BitVec 32 := Scalar.subi c1_i32_30 v52
  let c2_i32_268 : BitVec 32 := 2#32
  let v328 : BitVec 32 := Scalar.muli v57 c2_i32_268
  let v329 : BitVec 32 := Scalar.addi v327 v328
  let v53 : BitVec 32 := Dev.word d47
  let c1_i32 : BitVec 32 := 1#32
  let v54 : BitVec 32 := Scalar.divsi v53 c1_i32
  let c2_i32_28 : BitVec 32 := 2#32
  let v55 : BitVec 32 := Scalar.remsi v54 c2_i32_28
  let c1_i32_269 : BitVec 32 := 1#32
  let v330 : BitVec 32 := Scalar.muli v55 c1_i32_269
  let v331 : BitVec 32 := Scalar.addi v329 v330
  v331.toNat
def k0_dev18 (d47 : Dev nD) : Nat :=
  let c0_i32_280 : BitVec 32 := 0#32
  let c1_i32_31 : BitVec 32 := 1#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v58 : BitVec 32 := Scalar.subi c1_i32_31 v49
  let c4_i32_279 : BitVec 32 := 4#32
  let v340 : BitVec 32 := Scalar.muli v58 c4_i32_279
  let v341 : BitVec 32 := Scalar.addi c0_i32_280 v340
  let c1_i32_32 : BitVec 32 := 1#32
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v59 : BitVec 32 := Scalar.subi c1_i32_32 v52
  let c2_i32_281 : BitVec 32 := 2#32
  let v342 : BitVec 32 := Scalar.muli v59 c2_i32_281
  let v343 : BitVec 32 := Scalar.addi v341 v342
  let v53 : BitVec 32 := Dev.word d47
  let c1_i32 : BitVec 32 := 1#32
  let v54 : BitVec 32 := Scalar.divsi v53 c1_i32
  let c2_i32_28 : BitVec 32 := 2#32
  let v55 : BitVec 32 := Scalar.remsi v54 c2_i32_28
  let c1_i32_282 : BitVec 32 := 1#32
  let v344 : BitVec 32 := Scalar.muli v55 c1_i32_282
  let v345 : BitVec 32 := Scalar.addi v343 v344
  v345.toNat
def k0_off10 (d47 : Dev nD) : Fin 3 → Nat :=
  let c2_i32_51 : BitVec 32 := 2#32
  let c1_i32_29 : BitVec 32 := 1#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v56 : BitVec 32 := Scalar.subi c1_i32_29 v49
  let v96 : BitVec 32 := Scalar.muli c2_i32_51 v56
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v97 : BitVec 32 := Scalar.addi v96 v52
  let c0_i32_297 : BitVec 32 := 0#32
  let c0_i32_298 : BitVec 32 := 0#32
  ![v97.toNat, 0, 0]
def k0_dev19 (d47 : Dev nD) : Nat :=
  let c0_i32_292 : BitVec 32 := 0#32
  let c1_i32_29 : BitVec 32 := 1#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v56 : BitVec 32 := Scalar.subi c1_i32_29 v49
  let c4_i32_291 : BitVec 32 := 4#32
  let v354 : BitVec 32 := Scalar.muli v56 c4_i32_291
  let v355 : BitVec 32 := Scalar.addi c0_i32_292 v354
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let c2_i32_293 : BitVec 32 := 2#32
  let v356 : BitVec 32 := Scalar.muli v52 c2_i32_293
  let v357 : BitVec 32 := Scalar.addi v355 v356
  let v53 : BitVec 32 := Dev.word d47
  let c1_i32 : BitVec 32 := 1#32
  let v54 : BitVec 32 := Scalar.divsi v53 c1_i32
  let c2_i32_28 : BitVec 32 := 2#32
  let v55 : BitVec 32 := Scalar.remsi v54 c2_i32_28
  let c1_i32_294 : BitVec 32 := 1#32
  let v358 : BitVec 32 := Scalar.muli v55 c1_i32_294
  let v359 : BitVec 32 := Scalar.addi v357 v358
  v359.toNat
def k0_off11 (d47 : Dev nD) : Fin 3 → Nat :=
  let c2_i32_52 : BitVec 32 := 2#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v98 : BitVec 32 := Scalar.muli c2_i32_52 v49
  let c1_i32_30 : BitVec 32 := 1#32
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v57 : BitVec 32 := Scalar.subi c1_i32_30 v52
  let v99 : BitVec 32 := Scalar.addi v98 v57
  let c0_i32_310 : BitVec 32 := 0#32
  let c0_i32_311 : BitVec 32 := 0#32
  ![v99.toNat, 0, 0]
def k0_dev20 (d47 : Dev nD) : Nat :=
  let c0_i32_305 : BitVec 32 := 0#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let c4_i32_304 : BitVec 32 := 4#32
  let v368 : BitVec 32 := Scalar.muli v49 c4_i32_304
  let v369 : BitVec 32 := Scalar.addi c0_i32_305 v368
  let c1_i32_30 : BitVec 32 := 1#32
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v57 : BitVec 32 := Scalar.subi c1_i32_30 v52
  let c2_i32_306 : BitVec 32 := 2#32
  let v370 : BitVec 32 := Scalar.muli v57 c2_i32_306
  let v371 : BitVec 32 := Scalar.addi v369 v370
  let v53 : BitVec 32 := Dev.word d47
  let c1_i32 : BitVec 32 := 1#32
  let v54 : BitVec 32 := Scalar.divsi v53 c1_i32
  let c2_i32_28 : BitVec 32 := 2#32
  let v55 : BitVec 32 := Scalar.remsi v54 c2_i32_28
  let c1_i32_307 : BitVec 32 := 1#32
  let v372 : BitVec 32 := Scalar.muli v55 c1_i32_307
  let v373 : BitVec 32 := Scalar.addi v371 v372
  v373.toNat
def k0_off12 (d47 : Dev nD) : Fin 3 → Nat :=
  let c2_i32_53 : BitVec 32 := 2#32
  let c1_i32_31 : BitVec 32 := 1#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v58 : BitVec 32 := Scalar.subi c1_i32_31 v49
  let v100 : BitVec 32 := Scalar.muli c2_i32_53 v58
  let c1_i32_32 : BitVec 32 := 1#32
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v59 : BitVec 32 := Scalar.subi c1_i32_32 v52
  let v101 : BitVec 32 := Scalar.addi v100 v59
  let c0_i32_323 : BitVec 32 := 0#32
  let c0_i32_324 : BitVec 32 := 0#32
  ![v101.toNat, 0, 0]
def k0_dev21 (d47 : Dev nD) : Nat :=
  let c0_i32_318 : BitVec 32 := 0#32
  let c1_i32_31 : BitVec 32 := 1#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v58 : BitVec 32 := Scalar.subi c1_i32_31 v49
  let c4_i32_317 : BitVec 32 := 4#32
  let v382 : BitVec 32 := Scalar.muli v58 c4_i32_317
  let v383 : BitVec 32 := Scalar.addi c0_i32_318 v382
  let c1_i32_32 : BitVec 32 := 1#32
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v59 : BitVec 32 := Scalar.subi c1_i32_32 v52
  let c2_i32_319 : BitVec 32 := 2#32
  let v384 : BitVec 32 := Scalar.muli v59 c2_i32_319
  let v385 : BitVec 32 := Scalar.addi v383 v384
  let v53 : BitVec 32 := Dev.word d47
  let c1_i32 : BitVec 32 := 1#32
  let v54 : BitVec 32 := Scalar.divsi v53 c1_i32
  let c2_i32_28 : BitVec 32 := 2#32
  let v55 : BitVec 32 := Scalar.remsi v54 c2_i32_28
  let c1_i32_320 : BitVec 32 := 1#32
  let v386 : BitVec 32 := Scalar.muli v55 c1_i32_320
  let v387 : BitVec 32 := Scalar.addi v385 v386
  v387.toNat
def k0_cond2 (i : grid0.Coords) : BitVec 1 :=
  let arg0 : BitVec 32 := BitVec.ofNat 32 (i 0).val
  let c15_i32 : BitVec 32 := 15#32
  let v3 : BitVec 1 := Scalar.cmpi .eq arg0 c15_i32
  let arg1 : BitVec 32 := BitVec.ofNat 32 (i 1).val
  let c3_i32 : BitVec 32 := 3#32
  let v4 : BitVec 1 := Scalar.cmpi .eq arg1 c3_i32
  let v5 : BitVec 1 := Scalar.andi v3 v4
  let v8 : BitVec 32 := Scalar.extui v5
  let c0_i32_2 : BitVec 32 := 0#32
  let v9 : BitVec 1 := Scalar.cmpi .ne v8 c0_i32_2
  v9

def k0_off13 (d47 : Dev nD) : Fin 3 → Nat :=
  let c2_i32_33 : BitVec 32 := 2#32
  let c1_i32_29 : BitVec 32 := 1#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v56 : BitVec 32 := Scalar.subi c1_i32_29 v49
  let v60 : BitVec 32 := Scalar.muli c2_i32_33 v56
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v61 : BitVec 32 := Scalar.addi v60 v52
  let c0_i32_60 : BitVec 32 := 0#32
  let c0_i32_61 : BitVec 32 := 0#32
  ![v61.toNat, 0, 0]
def k0_off14 (d47 : Dev nD) : Fin 3 → Nat :=
  let c2_i32_34 : BitVec 32 := 2#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v62 : BitVec 32 := Scalar.muli c2_i32_34 v49
  let c1_i32_30 : BitVec 32 := 1#32
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v57 : BitVec 32 := Scalar.subi c1_i32_30 v52
  let v63 : BitVec 32 := Scalar.addi v62 v57
  let c0_i32_83 : BitVec 32 := 0#32
  let c0_i32_84 : BitVec 32 := 0#32
  ![v63.toNat, 0, 0]
def k0_off15 (d47 : Dev nD) : Fin 3 → Nat :=
  let c2_i32_35 : BitVec 32 := 2#32
  let c1_i32_31 : BitVec 32 := 1#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v58 : BitVec 32 := Scalar.subi c1_i32_31 v49
  let v64 : BitVec 32 := Scalar.muli c2_i32_35 v58
  let c1_i32_32 : BitVec 32 := 1#32
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v59 : BitVec 32 := Scalar.subi c1_i32_32 v52
  let v65 : BitVec 32 := Scalar.addi v64 v59
  let c0_i32_106 : BitVec 32 := 0#32
  let c0_i32_107 : BitVec 32 := 0#32
  ![v65.toNat, 0, 0]
def k0_off16 (d47 : Dev nD) : Fin 3 → Nat :=
  let c2_i32_36 : BitVec 32 := 2#32
  let c1_i32_29 : BitVec 32 := 1#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v56 : BitVec 32 := Scalar.subi c1_i32_29 v49
  let v66 : BitVec 32 := Scalar.muli c2_i32_36 v56
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v67 : BitVec 32 := Scalar.addi v66 v52
  let c0_i32_129 : BitVec 32 := 0#32
  let c0_i32_130 : BitVec 32 := 0#32
  ![v67.toNat, 0, 0]
def k0_off17 (d47 : Dev nD) : Fin 3 → Nat :=
  let c2_i32_37 : BitVec 32 := 2#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v68 : BitVec 32 := Scalar.muli c2_i32_37 v49
  let c1_i32_30 : BitVec 32 := 1#32
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v57 : BitVec 32 := Scalar.subi c1_i32_30 v52
  let v69 : BitVec 32 := Scalar.addi v68 v57
  let c0_i32_152 : BitVec 32 := 0#32
  let c0_i32_153 : BitVec 32 := 0#32
  ![v69.toNat, 0, 0]
def k0_off18 (d47 : Dev nD) : Fin 3 → Nat :=
  let c2_i32_38 : BitVec 32 := 2#32
  let c1_i32_31 : BitVec 32 := 1#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v58 : BitVec 32 := Scalar.subi c1_i32_31 v49
  let v70 : BitVec 32 := Scalar.muli c2_i32_38 v58
  let c1_i32_32 : BitVec 32 := 1#32
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v59 : BitVec 32 := Scalar.subi c1_i32_32 v52
  let v71 : BitVec 32 := Scalar.addi v70 v59
  let c0_i32_175 : BitVec 32 := 0#32
  let c0_i32_176 : BitVec 32 := 0#32
  ![v71.toNat, 0, 0]
def k0_off19 (d47 : Dev nD) : Fin 3 → Nat :=
  let c2_i32_39 : BitVec 32 := 2#32
  let c1_i32_29 : BitVec 32 := 1#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v56 : BitVec 32 := Scalar.subi c1_i32_29 v49
  let v72 : BitVec 32 := Scalar.muli c2_i32_39 v56
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v73 : BitVec 32 := Scalar.addi v72 v52
  let c0_i32_198 : BitVec 32 := 0#32
  let c0_i32_199 : BitVec 32 := 0#32
  ![v73.toNat, 0, 0]
def k0_off20 (d47 : Dev nD) : Fin 3 → Nat :=
  let c2_i32_40 : BitVec 32 := 2#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v74 : BitVec 32 := Scalar.muli c2_i32_40 v49
  let c1_i32_30 : BitVec 32 := 1#32
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v57 : BitVec 32 := Scalar.subi c1_i32_30 v52
  let v75 : BitVec 32 := Scalar.addi v74 v57
  let c0_i32_221 : BitVec 32 := 0#32
  let c0_i32_222 : BitVec 32 := 0#32
  ![v75.toNat, 0, 0]
def k0_off21 (d47 : Dev nD) : Fin 3 → Nat :=
  let c2_i32_41 : BitVec 32 := 2#32
  let c1_i32_31 : BitVec 32 := 1#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v58 : BitVec 32 := Scalar.subi c1_i32_31 v49
  let v76 : BitVec 32 := Scalar.muli c2_i32_41 v58
  let c1_i32_32 : BitVec 32 := 1#32
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v59 : BitVec 32 := Scalar.subi c1_i32_32 v52
  let v77 : BitVec 32 := Scalar.addi v76 v59
  let c0_i32_244 : BitVec 32 := 0#32
  let c0_i32_245 : BitVec 32 := 0#32
  ![v77.toNat, 0, 0]
def k0_off22 (d47 : Dev nD) : Fin 3 → Nat :=
  let c2_i32_51 : BitVec 32 := 2#32
  let c1_i32_29 : BitVec 32 := 1#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v56 : BitVec 32 := Scalar.subi c1_i32_29 v49
  let v96 : BitVec 32 := Scalar.muli c2_i32_51 v56
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v97 : BitVec 32 := Scalar.addi v96 v52
  let c0_i32_472 : BitVec 32 := 0#32
  let c0_i32_473 : BitVec 32 := 0#32
  ![v97.toNat, 0, 0]
def k0_off23 (d47 : Dev nD) : Fin 3 → Nat :=
  let c2_i32_52 : BitVec 32 := 2#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v98 : BitVec 32 := Scalar.muli c2_i32_52 v49
  let c1_i32_30 : BitVec 32 := 1#32
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v57 : BitVec 32 := Scalar.subi c1_i32_30 v52
  let v99 : BitVec 32 := Scalar.addi v98 v57
  let c0_i32_495 : BitVec 32 := 0#32
  let c0_i32_496 : BitVec 32 := 0#32
  ![v99.toNat, 0, 0]
def k0_off24 (d47 : Dev nD) : Fin 3 → Nat :=
  let c2_i32_53 : BitVec 32 := 2#32
  let c1_i32_31 : BitVec 32 := 1#32
  let v47 : BitVec 32 := Dev.word d47
  let c4_i32 : BitVec 32 := 4#32
  let v48 : BitVec 32 := Scalar.divsi v47 c4_i32
  let c2_i32 : BitVec 32 := 2#32
  let v49 : BitVec 32 := Scalar.remsi v48 c2_i32
  let v58 : BitVec 32 := Scalar.subi c1_i32_31 v49
  let v100 : BitVec 32 := Scalar.muli c2_i32_53 v58
  let c1_i32_32 : BitVec 32 := 1#32
  let v50 : BitVec 32 := Dev.word d47
  let c2_i32_27 : BitVec 32 := 2#32
  let v51 : BitVec 32 := Scalar.divsi v50 c2_i32_27
  let c2_i32_26 : BitVec 32 := 2#32
  let v52 : BitVec 32 := Scalar.remsi v51 c2_i32_26
  let v59 : BitVec 32 := Scalar.subi c1_i32_32 v52
  let v101 : BitVec 32 := Scalar.addi v100 v59
  let c0_i32_518 : BitVec 32 := 0#32
  let c0_i32_519 : BitVec 32 := 0#32
  ![v101.toNat, 0, 0]
def k0_cond3 (i : grid0.Coords) : BitVec 1 :=
  let arg1 : BitVec 32 := BitVec.ofNat 32 (i 1).val
  let c0_i32_3 : BitVec 32 := 0#32
  let v10 : BitVec 1 := Scalar.cmpi .eq arg1 c0_i32_3
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ActScatterRefIdeal.lean ====
abbrev S65536x1024 : Shape := ⟨2, ![65536, 1024]⟩
abbrev S32x8192x704 : Shape := ⟨3, ![32, 8192, 704]⟩
abbrev S4x704x1024 : Shape := ⟨3, ![4, 704, 1024]⟩
abbrev S32x512x768 : Shape := ⟨3, ![32, 512, 768]⟩
abbrev S32x128x1024 : Shape := ⟨3, ![32, 128, 1024]⟩
abbrev S32x352x1024 : Shape := ⟨3, ![32, 352, 1024]⟩
abbrev S32x128x256 : Shape := ⟨3, ![32, 128, 256]⟩
abbrev S24 : Shape := ⟨1, ![24]⟩
abbrev S_ : Shape := ⟨0, ![]⟩
abbrev S8x8192x1024 : Shape := ⟨3, ![8, 8192, 1024]⟩
abbrev S4x704x8x8192 : Shape := ⟨4, ![4, 704, 8, 8192]⟩
abbrev S8x4x8192x704 : Shape := ⟨4, ![8, 4, 8192, 704]⟩
abbrev S24x1 : Shape := ⟨2, ![24, 1]⟩
abbrev S24x512x768 : Shape := ⟨3, ![24, 512, 768]⟩
abbrev S24x128x1024 : Shape := ⟨3, ![24, 128, 1024]⟩
abbrev S24x352x1024 : Shape := ⟨3, ![24, 352, 1024]⟩
abbrev S24x128x256 : Shape := ⟨3, ![24, 128, 256]⟩

abbrev nBuf : Space → Nat
  | .hbm => 61
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S32x8192x704, .bf16⟩
  | .hbm, ⟨2, _⟩ => ⟨S32x8192x704, .bf16⟩
  | .hbm, ⟨3, _⟩ => ⟨S4x704x1024, .bf16⟩
  | .hbm, ⟨4, _⟩ => ⟨S32x512x768, .bf16⟩
  | .hbm, ⟨5, _⟩ => ⟨S32x128x1024, .bf16⟩
  | .hbm, ⟨6, _⟩ => ⟨S32x352x1024, .bf16⟩
  | .hbm, ⟨7, _⟩ => ⟨S32x352x1024, .bf16⟩
  | .hbm, ⟨8, _⟩ => ⟨S32x352x1024, .bf16⟩
  | .hbm, ⟨9, _⟩ => ⟨S32x128x1024, .bf16⟩
  | .hbm, ⟨10, _⟩ => ⟨S32x128x256, .bf16⟩
  | .hbm, ⟨11, _⟩ => ⟨S24, .i32⟩
  | .hbm, ⟨12, _⟩ => ⟨S32x8192x704, .f32⟩
  | .hbm, ⟨13, _⟩ => ⟨S32x8192x704, .f32⟩
  | .hbm, ⟨14, _⟩ => ⟨S_, .f32⟩
  | .hbm, ⟨15, _⟩ => ⟨S65536x1024, .f32⟩
  | .hbm, ⟨16, _⟩ => ⟨S65536x1024, .f32⟩
  | .hbm, ⟨17, _⟩ => ⟨S8x8192x1024, .f32⟩
  | .hbm, ⟨18, _⟩ => ⟨S4x704x1024, .f32⟩
  | .hbm, ⟨19, _⟩ => ⟨S4x704x8x8192, .f32⟩
  | .hbm, ⟨20, _⟩ => ⟨S8x4x8192x704, .f32⟩
  | .hbm, ⟨21, _⟩ => ⟨S32x8192x704, .f32⟩
  | .hbm, ⟨22, _⟩ => ⟨S32x8192x704, .f32⟩
  | .hbm, ⟨23, _⟩ => ⟨S32x8192x704, .f32⟩
  | .hbm, ⟨24, _⟩ => ⟨S_, .f32⟩
  | .hbm, ⟨25, _⟩ => ⟨S32x8192x704, .f32⟩
  | .hbm, ⟨26, _⟩ => ⟨S32x8192x704, .f32⟩
  | .hbm, ⟨27, _⟩ => ⟨S_, .f32⟩
  | .hbm, ⟨28, _⟩ => ⟨S32x8192x704, .f32⟩
  | .hbm, ⟨29, _⟩ => ⟨S32x8192x704, .f32⟩
  | .hbm, ⟨30, _⟩ => ⟨S32x8192x704, .f32⟩
  | .hbm, ⟨31, _⟩ => ⟨S_, .f32⟩
  | .hbm, ⟨32, _⟩ => ⟨S32x8192x704, .f32⟩
  | .hbm, ⟨33, _⟩ => ⟨S32x8192x704, .f32⟩
  | .hbm, ⟨34, _⟩ => ⟨S32x8192x704, .f32⟩
  | .hbm, ⟨35, _⟩ => ⟨S_, .f32⟩
  | .hbm, ⟨36, _⟩ => ⟨S32x8192x704, .f32⟩
  | .hbm, ⟨37, _⟩ => ⟨S32x8192x704, .f32⟩
  | .hbm, ⟨38, _⟩ => ⟨S32x8192x704, .f32⟩
  | .hbm, ⟨39, _⟩ => ⟨S32x8192x704, .f32⟩
  | .hbm, ⟨40, _⟩ => ⟨S32x8192x704, .f32⟩
  | .hbm, ⟨41, _⟩ => ⟨S32x8192x704, .f32⟩
  | .hbm, ⟨42, _⟩ => ⟨S32x8192x704, .f32⟩
  | .hbm, ⟨43, _⟩ => ⟨S32x8192x704, .bf16⟩
  | .hbm, ⟨44, _⟩ => ⟨S32x8192x704, .bf16⟩
  | .hbm, ⟨45, _⟩ => ⟨S32x8192x704, .bf16⟩
  | .hbm, ⟨46, _⟩ => ⟨S65536x1024, .bf16⟩
  | .hbm, ⟨47, _⟩ => ⟨S24x1, .i32⟩
  | .hbm, ⟨48, _⟩ => ⟨S24x512x768, .bf16⟩
  | .hbm, ⟨49, _⟩ => ⟨S24x1, .i32⟩
  | .hbm, ⟨50, _⟩ => ⟨S24x128x1024, .bf16⟩
  | .hbm, ⟨51, _⟩ => ⟨S24x1, .i32⟩
  | .hbm, ⟨52, _⟩ => ⟨S24x352x1024, .bf16⟩
  | .hbm, ⟨53, _⟩ => ⟨S24x1, .i32⟩
  | .hbm, ⟨54, _⟩ => ⟨S24x352x1024, .bf16⟩
  | .hbm, ⟨55, _⟩ => ⟨S24x1, .i32⟩
  | .hbm, ⟨56, _⟩ => ⟨S24x352x1024, .bf16⟩
  | .hbm, ⟨57, _⟩ => ⟨S24x1, .i32⟩
  | .hbm, ⟨58, _⟩ => ⟨S24x128x1024, .bf16⟩
  | .hbm, ⟨59, _⟩ => ⟨S24x1, .i32⟩
  | .hbm, ⟨60, _⟩ => ⟨S24x128x256, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]
-- ==== FwdGather.lean ====
abbrev S8192x1024 : Shape := ⟨2, ![8192, 1024]⟩
abbrev S1x1024 : Shape := ⟨2, ![1, 1024]⟩
abbrev S4x1024x704 : Shape := ⟨3, ![4, 1024, 704]⟩
abbrev S4x704x1024 : Shape := ⟨3, ![4, 704, 1024]⟩
abbrev S1024x768 : Shape := ⟨2, ![1024, 768]⟩
abbrev S256x1024 : Shape := ⟨2, ![256, 1024]⟩
abbrev S704x1024 : Shape := ⟨2, ![704, 1024]⟩
abbrev S256x256 : Shape := ⟨2, ![256, 256]⟩
abbrev S4x8192x704 : Shape := ⟨3, ![4, 8192, 704]⟩
abbrev S4x1024x768 : Shape := ⟨3, ![4, 1024, 768]⟩
abbrev S4x256x1024 : Shape := ⟨3, ![4, 256, 1024]⟩
abbrev S4x256x256 : Shape := ⟨3, ![4, 256, 256]⟩
abbrev S512x1024 : Shape := ⟨2, ![512, 1024]⟩
abbrev S1x1024x704 : Shape := ⟨3, ![1, 1024, 704]⟩
abbrev S1x704x1024 : Shape := ⟨3, ![1, 704, 1024]⟩
abbrev S1x512x704 : Shape := ⟨3, ![1, 512, 704]⟩
abbrev S7 : Shape := ⟨1, ![7]⟩
abbrev S7x3 : Shape := ⟨2, ![7, 3]⟩
abbrev S1 : Shape := ⟨1, ![1]⟩
abbrev S_ : Shape := ⟨0, ![]⟩
abbrev S1x1024x768 : Shape := ⟨3, ![1, 1024, 768]⟩
abbrev S1x256x1024 : Shape := ⟨3, ![1, 256, 1024]⟩
abbrev S1x256x256 : Shape := ⟨3, ![1, 256, 256]⟩
abbrev S1x1 : Shape := ⟨2, ![1, 1]⟩
abbrev S512x768 : Shape := ⟨2, ![512, 768]⟩
abbrev S1x512x768 : Shape := ⟨3, ![1, 512, 768]⟩
abbrev S128x1024 : Shape := ⟨2, ![128, 1024]⟩
abbrev S1x128x1024 : Shape := ⟨3, ![1, 128, 1024]⟩
abbrev S352x1024 : Shape := ⟨2, ![352, 1024]⟩
abbrev S1x352x1024 : Shape := ⟨3, ![1, 352, 1024]⟩
abbrev S128x256 : Shape := ⟨2, ![128, 256]⟩
abbrev S1x128x256 : Shape := ⟨3, ![1, 128, 256]⟩
abbrev S512 : Shape := ⟨1, ![512]⟩
abbrev S512x1 : Shape := ⟨2, ![512, 1]⟩
abbrev S1024x704 : Shape := ⟨2, ![1024, 704]⟩
abbrev S512x704 : Shape := ⟨2, ![512, 704]⟩

abbrev nBuf : Space → Nat
  | .hbm => 23
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x704, .bf16⟩
  | .hbm, ⟨3, _⟩ => ⟨S4x1024x704, .bf16⟩
  | .hbm, ⟨4, _⟩ => ⟨S4x704x1024, .bf16⟩
  | .hbm, ⟨5, _⟩ => ⟨S1024x768, .bf16⟩
  | .hbm, ⟨6, _⟩ => ⟨S256x1024, .bf16⟩
  | .hbm, ⟨7, _⟩ => ⟨S704x1024, .bf16⟩
  | .hbm, ⟨8, _⟩ => ⟨S704x1024, .bf16⟩
  | .hbm, ⟨9, _⟩ => ⟨S704x1024, .bf16⟩
  | .hbm, ⟨10, _⟩ => ⟨S256x1024, .bf16⟩
  | .hbm, ⟨11, _⟩ => ⟨S256x256, .bf16⟩
  | .hbm, ⟨12, _⟩ => ⟨S8192x1024, .f32⟩
  | .hbm, ⟨13, _⟩ => ⟨S8192x1024, .bf16⟩
  | .hbm, ⟨14, _⟩ => ⟨S4x8192x704, .bf16⟩
  | .hbm, ⟨15, _⟩ => ⟨S4x8192x704, .bf16⟩
  | .hbm, ⟨16, _⟩ => ⟨S4x1024x768, .bf16⟩
  | .hbm, ⟨17, _⟩ => ⟨S4x256x1024, .bf16⟩
  | .hbm, ⟨18, _⟩ => ⟨S4x704x1024, .bf16⟩
  | .hbm, ⟨19, _⟩ => ⟨S4x704x1024, .bf16⟩
  | .hbm, ⟨20, _⟩ => ⟨S4x704x1024, .bf16⟩
  | .hbm, ⟨21, _⟩ => ⟨S4x256x1024, .bf16⟩
  | .hbm, ⟨22, _⟩ => ⟨S4x256x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x704x1024, .bf16⟩
  | .local _ .vmem, ⟨8, _⟩ => ⟨S1x704x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x512x704, .bf16⟩
  | .local _ .vmem, ⟨14, _⟩ => ⟨S1x512x704, .bf16⟩
  | .local _ .vmem, ⟨15, _⟩ => ⟨S1x512x704, .bf16⟩
  | .local _ .vmem, ⟨16, _⟩ => ⟨S1x512x704, .bf16⟩
  | .local _ .vmem, ⟨17, _⟩ => ⟨S512x1024, .bf16⟩
  | .local _ .vmem, ⟨18, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 73 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | _ => false

abbrev sig : RefSig :=
  ofTc nBuf bufTy 0 73 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v1_3 : Ref sig .tc := ⟨.hbm, 15, rfl⟩
abbrev main_v1_4 : Ref sig .tc := ⟨.hbm, 16, rfl⟩
abbrev main_v1_5 : Ref sig .tc := ⟨.hbm, 17, rfl⟩
abbrev main_v1_6 : Ref sig .tc := ⟨.hbm, 18, rfl⟩
abbrev main_v1_7 : Ref sig .tc := ⟨.hbm, 19, rfl⟩
abbrev main_v1_8 : Ref sig .tc := ⟨.hbm, 20, rfl⟩
abbrev main_v1_9 : Ref sig .tc := ⟨.hbm, 21, rfl⟩
abbrev main_v1_10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 8
abbrev τ : Topo := Topo.v7x

variable {F : FTy → Type} [FloatOps F]

abbrev grid0 : Pipeline.Grid := ⟨2, ![16, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v6 : BitVec 32 := Scalar.extui v2
  let c0_i32_1 : BitVec 32 := 0#32
  let v7 : BitVec 1 := Scalar.cmpi .ne v6 c0_i32_1
  v7

def k0_mult1 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c512_i32 : BitVec 32 := 512#32
  let v65 : BitVec 32 := Scalar.muli v51 c512_i32
  v65
def k0_mult2 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c512_i32_44 : BitVec 32 := 512#32
  let v67 : BitVec 32 := Scalar.muli v51 c512_i32_44
  v67
def k0_mult3 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c512_i32_45 : BitVec 32 := 512#32
  let v69 : BitVec 32 := Scalar.muli v51 c512_i32_45
  v69
def k0_mult4 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c512_i32_46 : BitVec 32 := 512#32
  let v71 : BitVec 32 := Scalar.muli v51 c512_i32_46
  v71
def k0_mult5 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c512_i32_47 : BitVec 32 := 512#32
  let v73 : BitVec 32 := Scalar.muli v51 c512_i32_47
  v73
def k0_mult6 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c512_i32_48 : BitVec 32 := 512#32
  let v75 : BitVec 32 := Scalar.muli v51 c512_i32_48
  v75
def k0_mult7 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32 : BitVec 32 := 128#32
  let v77 : BitVec 32 := Scalar.muli v51 c128_i32
  v77
def k0_mult8 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_49 : BitVec 32 := 128#32
  let v79 : BitVec 32 := Scalar.muli v51 c128_i32_49
  v79
def k0_mult9 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_50 : BitVec 32 := 128#32
  let v81 : BitVec 32 := Scalar.muli v51 c128_i32_50
  v81
def k0_mult10 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_51 : BitVec 32 := 128#32
  let v83 : BitVec 32 := Scalar.muli v51 c128_i32_51
  v83
def k0_mult11 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_52 : BitVec 32 := 128#32
  let v85 : BitVec 32 := Scalar.muli v51 c128_i32_52
  v85
def k0_mult12 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_53 : BitVec 32 := 128#32
  let v87 : BitVec 32 := Scalar.muli v51 c128_i32_53
  v87
def k0_mult13 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32 : BitVec 32 := 352#32
  let v89 : BitVec 32 := Scalar.muli v51 c352_i32
  v89
def k0_mult14 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_54 : BitVec 32 := 352#32
  let v91 : BitVec 32 := Scalar.muli v51 c352_i32_54
  v91
def k0_mult15 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_55 : BitVec 32 := 352#32
  let v93 : BitVec 32 := Scalar.muli v51 c352_i32_55
  v93
def k0_mult16 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_56 : BitVec 32 := 352#32
  let v95 : BitVec 32 := Scalar.muli v51 c352_i32_56
  v95
def k0_mult17 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_57 : BitVec 32 := 352#32
  let v97 : BitVec 32 := Scalar.muli v51 c352_i32_57
  v97
def k0_mult18 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_58 : BitVec 32 := 352#32
  let v99 : BitVec 32 := Scalar.muli v51 c352_i32_58
  v99
def k0_mult19 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_59 : BitVec 32 := 352#32
  let v101 : BitVec 32 := Scalar.muli v51 c352_i32_59
  v101
def k0_mult20 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_60 : BitVec 32 := 352#32
  let v103 : BitVec 32 := Scalar.muli v51 c352_i32_60
  v103
def k0_mult21 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_61 : BitVec 32 := 352#32
  let v105 : BitVec 32 := Scalar.muli v51 c352_i32_61
  v105
def k0_mult22 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_62 : BitVec 32 := 352#32
  let v107 : BitVec 32 := Scalar.muli v51 c352_i32_62
  v107
def k0_mult23 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_63 : BitVec 32 := 352#32
  let v109 : BitVec 32 := Scalar.muli v51 c352_i32_63
  v109
def k0_mult24 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_64 : BitVec 32 := 352#32
  let v111 : BitVec 32 := Scalar.muli v51 c352_i32_64
  v111
def k0_mult25 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_65 : BitVec 32 := 352#32
  let v113 : BitVec 32 := Scalar.muli v51 c352_i32_65
  v113
def k0_mult26 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_66 : BitVec 32 := 352#32
  let v115 : BitVec 32 := Scalar.muli v51 c352_i32_66
  v115
def k0_mult27 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_67 : BitVec 32 := 352#32
  let v117 : BitVec 32 := Scalar.muli v51 c352_i32_67
  v117
def k0_mult28 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_68 : BitVec 32 := 352#32
  let v119 : BitVec 32 := Scalar.muli v51 c352_i32_68
  v119
def k0_mult29 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_69 : BitVec 32 := 352#32
  let v121 : BitVec 32 := Scalar.muli v51 c352_i32_69
  v121
def k0_mult30 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_70 : BitVec 32 := 352#32
  let v123 : BitVec 32 := Scalar.muli v51 c352_i32_70
  v123
def k0_mult31 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_71 : BitVec 32 := 128#32
  let v125 : BitVec 32 := Scalar.muli v51 c128_i32_71
  v125
def k0_mult32 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_72 : BitVec 32 := 128#32
  let v127 : BitVec 32 := Scalar.muli v51 c128_i32_72
  v127
def k0_mult33 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_73 : BitVec 32 := 128#32
  let v129 : BitVec 32 := Scalar.muli v51 c128_i32_73
  v129
def k0_mult34 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_74 : BitVec 32 := 128#32
  let v131 : BitVec 32 := Scalar.muli v51 c128_i32_74
  v131
def k0_mult35 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_75 : BitVec 32 := 128#32
  let v133 : BitVec 32 := Scalar.muli v51 c128_i32_75
  v133
def k0_mult36 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_76 : BitVec 32 := 128#32
  let v135 : BitVec 32 := Scalar.muli v51 c128_i32_76
  v135
def k0_mult37 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_77 : BitVec 32 := 128#32
  let v137 : BitVec 32 := Scalar.muli v51 c128_i32_77
  v137
def k0_mult38 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_78 : BitVec 32 := 128#32
  let v139 : BitVec 32 := Scalar.muli v51 c128_i32_78
  v139
def k0_mult39 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_79 : BitVec 32 := 128#32
  let v141 : BitVec 32 := Scalar.muli v51 c128_i32_79
  v141
def k0_mult40 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_80 : BitVec 32 := 128#32
  let v143 : BitVec 32 := Scalar.muli v51 c128_i32_80
  v143
def k0_mult41 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_81 : BitVec 32 := 128#32
  let v145 : BitVec 32 := Scalar.muli v51 c128_i32_81
  v145
def k0_mult42 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_82 : BitVec 32 := 128#32
  let v147 : BitVec 32 := Scalar.muli v51 c128_i32_82
  v147
def k0_off1 (d43 : Dev nD) : Fin 3 → Nat :=
  let c2_i32_36 : BitVec 32 := 2#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let v56 : BitVec 32 := Scalar.muli c2_i32_36 v45
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let v57 : BitVec 32 := Scalar.addi v56 v48
  let c0_i32_89 : BitVec 32 := 0#32
  let c0_i32_90 : BitVec 32 := 0#32
  ![v57.toNat, 0, 0]
def k0_dev1 (d43 : Dev nD) : Nat :=
  let c0_i32_86 : BitVec 32 := 0#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let c4_i32_85 : BitVec 32 := 4#32
  let v149 : BitVec 32 := Scalar.muli v45 c4_i32_85
  let v150 : BitVec 32 := Scalar.addi c0_i32_86 v149
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let c2_i32_87 : BitVec 32 := 2#32
  let v151 : BitVec 32 := Scalar.muli v48 c2_i32_87
  let v152 : BitVec 32 := Scalar.addi v150 v151
  let c1_i32_37 : BitVec 32 := 1#32
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let v58 : BitVec 32 := Scalar.subi c1_i32_37 v51
  let c1_i32_88 : BitVec 32 := 1#32
  let v153 : BitVec 32 := Scalar.muli v58 c1_i32_88
  let v154 : BitVec 32 := Scalar.addi v152 v153
  v154.toNat
def k0_off2 (d43 : Dev nD) : Fin 3 → Nat :=
  let c2_i32_36 : BitVec 32 := 2#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let v56 : BitVec 32 := Scalar.muli c2_i32_36 v45
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let v57 : BitVec 32 := Scalar.addi v56 v48
  let c0_i32_97 : BitVec 32 := 0#32
  let c0_i32_98 : BitVec 32 := 0#32
  ![v57.toNat, 0, 0]
def k0_dev2 (d43 : Dev nD) : Nat :=
  let c0_i32_94 : BitVec 32 := 0#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let c4_i32_93 : BitVec 32 := 4#32
  let v161 : BitVec 32 := Scalar.muli v45 c4_i32_93
  let v162 : BitVec 32 := Scalar.addi c0_i32_94 v161
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let c2_i32_95 : BitVec 32 := 2#32
  let v163 : BitVec 32 := Scalar.muli v48 c2_i32_95
  let v164 : BitVec 32 := Scalar.addi v162 v163
  let c1_i32_38 : BitVec 32 := 1#32
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let v59 : BitVec 32 := Scalar.subi c1_i32_38 v51
  let c1_i32_96 : BitVec 32 := 1#32
  let v165 : BitVec 32 := Scalar.muli v59 c1_i32_96
  let v166 : BitVec 32 := Scalar.addi v164 v165
  v166.toNat
def k0_off3 (d43 : Dev nD) : Fin 3 → Nat :=
  let c2_i32_36 : BitVec 32 := 2#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let v56 : BitVec 32 := Scalar.muli c2_i32_36 v45
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let v57 : BitVec 32 := Scalar.addi v56 v48
  let c0_i32_105 : BitVec 32 := 0#32
  let c0_i32_106 : BitVec 32 := 0#32
  ![v57.toNat, 0, 0]
def k0_dev3 (d43 : Dev nD) : Nat :=
  let c0_i32_102 : BitVec 32 := 0#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let c4_i32_101 : BitVec 32 := 4#32
  let v173 : BitVec 32 := Scalar.muli v45 c4_i32_101
  let v174 : BitVec 32 := Scalar.addi c0_i32_102 v173
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let c2_i32_103 : BitVec 32 := 2#32
  let v175 : BitVec 32 := Scalar.muli v48 c2_i32_103
  let v176 : BitVec 32 := Scalar.addi v174 v175
  let c1_i32_39 : BitVec 32 := 1#32
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let v60 : BitVec 32 := Scalar.subi c1_i32_39 v51
  let c1_i32_104 : BitVec 32 := 1#32
  let v177 : BitVec 32 := Scalar.muli v60 c1_i32_104
  let v178 : BitVec 32 := Scalar.addi v176 v177
  v178.toNat
def k0_dev4 (d43 : Dev nD) : Nat :=
  let c0_i32_110 : BitVec 32 := 0#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let c4_i32_109 : BitVec 32 := 4#32
  let v185 : BitVec 32 := Scalar.muli v45 c4_i32_109
  let v186 : BitVec 32 := Scalar.addi c0_i32_110 v185
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let c2_i32_111 : BitVec 32 := 2#32
  let v187 : BitVec 32 := Scalar.muli v48 c2_i32_111
  let v188 : BitVec 32 := Scalar.addi v186 v187
  let c1_i32_40 : BitVec 32 := 1#32
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let v61 : BitVec 32 := Scalar.subi c1_i32_40 v51
  let c1_i32_112 : BitVec 32 := 1#32
  let v189 : BitVec 32 := Scalar.muli v61 c1_i32_112
  let v190 : BitVec 32 := Scalar.addi v188 v189
  v190.toNat
def k0_dev5 (d43 : Dev nD) : Nat :=
  let c0_i32_118 : BitVec 32 := 0#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let c4_i32_117 : BitVec 32 := 4#32
  let v197 : BitVec 32 := Scalar.muli v45 c4_i32_117
  let v198 : BitVec 32 := Scalar.addi c0_i32_118 v197
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let c2_i32_119 : BitVec 32 := 2#32
  let v199 : BitVec 32 := Scalar.muli v48 c2_i32_119
  let v200 : BitVec 32 := Scalar.addi v198 v199
  let c1_i32_41 : BitVec 32 := 1#32
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let v62 : BitVec 32 := Scalar.subi c1_i32_41 v51
  let c1_i32_120 : BitVec 32 := 1#32
  let v201 : BitVec 32 := Scalar.muli v62 c1_i32_120
  let v202 : BitVec 32 := Scalar.addi v200 v201
  v202.toNat
def k0_dev6 (d43 : Dev nD) : Nat :=
  let c0_i32_125 : BitVec 32 := 0#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let c4_i32_124 : BitVec 32 := 4#32
  let v209 : BitVec 32 := Scalar.muli v45 c4_i32_124
  let v210 : BitVec 32 := Scalar.addi c0_i32_125 v209
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let c2_i32_126 : BitVec 32 := 2#32
  let v211 : BitVec 32 := Scalar.muli v48 c2_i32_126
  let v212 : BitVec 32 := Scalar.addi v210 v211
  let c1_i32_42 : BitVec 32 := 1#32
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let v63 : BitVec 32 := Scalar.subi c1_i32_42 v51
  let c1_i32_127 : BitVec 32 := 1#32
  let v213 : BitVec 32 := Scalar.muli v63 c1_i32_127
  let v214 : BitVec 32 := Scalar.addi v212 v213
  v214.toNat
def k0_off4 (d43 : Dev nD) : Fin 3 → Nat :=
  let c2_i32_36 : BitVec 32 := 2#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let v56 : BitVec 32 := Scalar.muli c2_i32_36 v45
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let v57 : BitVec 32 := Scalar.addi v56 v48
  let c0_i32_135 : BitVec 32 := 0#32
  let c0_i32_136 : BitVec 32 := 0#32
  ![v57.toNat, 0, 0]
def k0_dev7 (d43 : Dev nD) : Nat :=
  let c0_i32_132 : BitVec 32 := 0#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let c4_i32_131 : BitVec 32 := 4#32
  let v221 : BitVec 32 := Scalar.muli v45 c4_i32_131
  let v222 : BitVec 32 := Scalar.addi c0_i32_132 v221
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let c2_i32_133 : BitVec 32 := 2#32
  let v223 : BitVec 32 := Scalar.muli v48 c2_i32_133
  let v224 : BitVec 32 := Scalar.addi v222 v223
  let c1_i32_43 : BitVec 32 := 1#32
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let v64 : BitVec 32 := Scalar.subi c1_i32_43 v51
  let c1_i32_134 : BitVec 32 := 1#32
  let v225 : BitVec 32 := Scalar.muli v64 c1_i32_134
  let v226 : BitVec 32 := Scalar.addi v224 v225
  v226.toNat
def k0_off5 (d43 : Dev nD) : Fin 2 → Nat :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c512_i32_44 : BitVec 32 := 512#32
  let v67 : BitVec 32 := Scalar.muli v51 c512_i32_44
  let v68 : BitVec 32 := v67
  let c0_i32_147 : BitVec 32 := 0#32
  ![v68.toNat, 0]
def k0_off6 (d43 : Dev nD) : Fin 3 → Nat :=
  let c2_i32_36 : BitVec 32 := 2#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let v56 : BitVec 32 := Scalar.muli c2_i32_36 v45
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let v57 : BitVec 32 := Scalar.addi v56 v48
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c512_i32_44 : BitVec 32 := 512#32
  let v67 : BitVec 32 := Scalar.muli v51 c512_i32_44
  let v68 : BitVec 32 := v67
  let c0_i32_146 : BitVec 32 := 0#32
  ![v57.toNat, v68.toNat, 0]
def k0_dev8 (d43 : Dev nD) : Nat :=
  let c0_i32_142 : BitVec 32 := 0#32
  let c1_i32_32 : BitVec 32 := 1#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let v52 : BitVec 32 := Scalar.subi c1_i32_32 v45
  let c4_i32_141 : BitVec 32 := 4#32
  let v233 : BitVec 32 := Scalar.muli v52 c4_i32_141
  let v234 : BitVec 32 := Scalar.addi c0_i32_142 v233
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let c2_i32_143 : BitVec 32 := 2#32
  let v235 : BitVec 32 := Scalar.muli v48 c2_i32_143
  let v236 : BitVec 32 := Scalar.addi v234 v235
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c1_i32_144 : BitVec 32 := 1#32
  let v237 : BitVec 32 := Scalar.muli v51 c1_i32_144
  let v238 : BitVec 32 := Scalar.addi v236 v237
  v238.toNat
def k0_dev9 (d43 : Dev nD) : Nat :=
  let c0_i32_154 : BitVec 32 := 0#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let c4_i32_153 : BitVec 32 := 4#32
  let v247 : BitVec 32 := Scalar.muli v45 c4_i32_153
  let v248 : BitVec 32 := Scalar.addi c0_i32_154 v247
  let c1_i32_33 : BitVec 32 := 1#32
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let v53 : BitVec 32 := Scalar.subi c1_i32_33 v48
  let c2_i32_155 : BitVec 32 := 2#32
  let v249 : BitVec 32 := Scalar.muli v53 c2_i32_155
  let v250 : BitVec 32 := Scalar.addi v248 v249
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c1_i32_156 : BitVec 32 := 1#32
  let v251 : BitVec 32 := Scalar.muli v51 c1_i32_156
  let v252 : BitVec 32 := Scalar.addi v250 v251
  v252.toNat
def k0_dev10 (d43 : Dev nD) : Nat :=
  let c0_i32_166 : BitVec 32 := 0#32
  let c1_i32_34 : BitVec 32 := 1#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let v54 : BitVec 32 := Scalar.subi c1_i32_34 v45
  let c4_i32_165 : BitVec 32 := 4#32
  let v261 : BitVec 32 := Scalar.muli v54 c4_i32_165
  let v262 : BitVec 32 := Scalar.addi c0_i32_166 v261
  let c1_i32_35 : BitVec 32 := 1#32
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let v55 : BitVec 32 := Scalar.subi c1_i32_35 v48
  let c2_i32_167 : BitVec 32 := 2#32
  let v263 : BitVec 32 := Scalar.muli v55 c2_i32_167
  let v264 : BitVec 32 := Scalar.addi v262 v263
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c1_i32_168 : BitVec 32 := 1#32
  let v265 : BitVec 32 := Scalar.muli v51 c1_i32_168
  let v266 : BitVec 32 := Scalar.addi v264 v265
  v266.toNat
def k0_off7 (d43 : Dev nD) : Fin 2 → Nat :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_49 : BitVec 32 := 128#32
  let v79 : BitVec 32 := Scalar.muli v51 c128_i32_49
  let v80 : BitVec 32 := v79
  let c0_i32_183 : BitVec 32 := 0#32
  ![v80.toNat, 0]
def k0_off8 (d43 : Dev nD) : Fin 3 → Nat :=
  let c2_i32_36 : BitVec 32 := 2#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let v56 : BitVec 32 := Scalar.muli c2_i32_36 v45
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let v57 : BitVec 32 := Scalar.addi v56 v48
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_49 : BitVec 32 := 128#32
  let v79 : BitVec 32 := Scalar.muli v51 c128_i32_49
  let v80 : BitVec 32 := v79
  let c0_i32_182 : BitVec 32 := 0#32
  ![v57.toNat, v80.toNat, 0]
def k0_dev11 (d43 : Dev nD) : Nat :=
  let c0_i32_178 : BitVec 32 := 0#32
  let c1_i32_32 : BitVec 32 := 1#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let v52 : BitVec 32 := Scalar.subi c1_i32_32 v45
  let c4_i32_177 : BitVec 32 := 4#32
  let v275 : BitVec 32 := Scalar.muli v52 c4_i32_177
  let v276 : BitVec 32 := Scalar.addi c0_i32_178 v275
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let c2_i32_179 : BitVec 32 := 2#32
  let v277 : BitVec 32 := Scalar.muli v48 c2_i32_179
  let v278 : BitVec 32 := Scalar.addi v276 v277
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c1_i32_180 : BitVec 32 := 1#32
  let v279 : BitVec 32 := Scalar.muli v51 c1_i32_180
  let v280 : BitVec 32 := Scalar.addi v278 v279
  v280.toNat
def k0_dev12 (d43 : Dev nD) : Nat :=
  let c0_i32_190 : BitVec 32 := 0#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let c4_i32_189 : BitVec 32 := 4#32
  let v289 : BitVec 32 := Scalar.muli v45 c4_i32_189
  let v290 : BitVec 32 := Scalar.addi c0_i32_190 v289
  let c1_i32_33 : BitVec 32 := 1#32
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let v53 : BitVec 32 := Scalar.subi c1_i32_33 v48
  let c2_i32_191 : BitVec 32 := 2#32
  let v291 : BitVec 32 := Scalar.muli v53 c2_i32_191
  let v292 : BitVec 32 := Scalar.addi v290 v291
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c1_i32_192 : BitVec 32 := 1#32
  let v293 : BitVec 32 := Scalar.muli v51 c1_i32_192
  let v294 : BitVec 32 := Scalar.addi v292 v293
  v294.toNat
def k0_dev13 (d43 : Dev nD) : Nat :=
  let c0_i32_202 : BitVec 32 := 0#32
  let c1_i32_34 : BitVec 32 := 1#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let v54 : BitVec 32 := Scalar.subi c1_i32_34 v45
  let c4_i32_201 : BitVec 32 := 4#32
  let v303 : BitVec 32 := Scalar.muli v54 c4_i32_201
  let v304 : BitVec 32 := Scalar.addi c0_i32_202 v303
  let c1_i32_35 : BitVec 32 := 1#32
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let v55 : BitVec 32 := Scalar.subi c1_i32_35 v48
  let c2_i32_203 : BitVec 32 := 2#32
  let v305 : BitVec 32 := Scalar.muli v55 c2_i32_203
  let v306 : BitVec 32 := Scalar.addi v304 v305
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c1_i32_204 : BitVec 32 := 1#32
  let v307 : BitVec 32 := Scalar.muli v51 c1_i32_204
  let v308 : BitVec 32 := Scalar.addi v306 v307
  v308.toNat
def k0_off9 (d43 : Dev nD) : Fin 2 → Nat :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_54 : BitVec 32 := 352#32
  let v91 : BitVec 32 := Scalar.muli v51 c352_i32_54
  let v92 : BitVec 32 := v91
  let c0_i32_219 : BitVec 32 := 0#32
  ![v92.toNat, 0]
def k0_off10 (d43 : Dev nD) : Fin 3 → Nat :=
  let c2_i32_36 : BitVec 32 := 2#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let v56 : BitVec 32 := Scalar.muli c2_i32_36 v45
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let v57 : BitVec 32 := Scalar.addi v56 v48
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_54 : BitVec 32 := 352#32
  let v91 : BitVec 32 := Scalar.muli v51 c352_i32_54
  let v92 : BitVec 32 := v91
  let c0_i32_218 : BitVec 32 := 0#32
  ![v57.toNat, v92.toNat, 0]
def k0_dev14 (d43 : Dev nD) : Nat :=
  let c0_i32_214 : BitVec 32 := 0#32
  let c1_i32_32 : BitVec 32 := 1#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let v52 : BitVec 32 := Scalar.subi c1_i32_32 v45
  let c4_i32_213 : BitVec 32 := 4#32
  let v317 : BitVec 32 := Scalar.muli v52 c4_i32_213
  let v318 : BitVec 32 := Scalar.addi c0_i32_214 v317
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let c2_i32_215 : BitVec 32 := 2#32
  let v319 : BitVec 32 := Scalar.muli v48 c2_i32_215
  let v320 : BitVec 32 := Scalar.addi v318 v319
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c1_i32_216 : BitVec 32 := 1#32
  let v321 : BitVec 32 := Scalar.muli v51 c1_i32_216
  let v322 : BitVec 32 := Scalar.addi v320 v321
  v322.toNat
def k0_dev15 (d43 : Dev nD) : Nat :=
  let c0_i32_226 : BitVec 32 := 0#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let c4_i32_225 : BitVec 32 := 4#32
  let v331 : BitVec 32 := Scalar.muli v45 c4_i32_225
  let v332 : BitVec 32 := Scalar.addi c0_i32_226 v331
  let c1_i32_33 : BitVec 32 := 1#32
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let v53 : BitVec 32 := Scalar.subi c1_i32_33 v48
  let c2_i32_227 : BitVec 32 := 2#32
  let v333 : BitVec 32 := Scalar.muli v53 c2_i32_227
  let v334 : BitVec 32 := Scalar.addi v332 v333
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c1_i32_228 : BitVec 32 := 1#32
  let v335 : BitVec 32 := Scalar.muli v51 c1_i32_228
  let v336 : BitVec 32 := Scalar.addi v334 v335
  v336.toNat
def k0_dev16 (d43 : Dev nD) : Nat :=
  let c0_i32_238 : BitVec 32 := 0#32
  let c1_i32_34 : BitVec 32 := 1#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let v54 : BitVec 32 := Scalar.subi c1_i32_34 v45
  let c4_i32_237 : BitVec 32 := 4#32
  let v345 : BitVec 32 := Scalar.muli v54 c4_i32_237
  let v346 : BitVec 32 := Scalar.addi c0_i32_238 v345
  let c1_i32_35 : BitVec 32 := 1#32
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let v55 : BitVec 32 := Scalar.subi c1_i32_35 v48
  let c2_i32_239 : BitVec 32 := 2#32
  let v347 : BitVec 32 := Scalar.muli v55 c2_i32_239
  let v348 : BitVec 32 := Scalar.addi v346 v347
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c1_i32_240 : BitVec 32 := 1#32
  let v349 : BitVec 32 := Scalar.muli v51 c1_i32_240
  let v350 : BitVec 32 := Scalar.addi v348 v349
  v350.toNat
def k0_dev17 (d43 : Dev nD) : Nat :=
  let c0_i32_250 : BitVec 32 := 0#32
  let c1_i32_32 : BitVec 32 := 1#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let v52 : BitVec 32 := Scalar.subi c1_i32_32 v45
  let c4_i32_249 : BitVec 32 := 4#32
  let v359 : BitVec 32 := Scalar.muli v52 c4_i32_249
  let v360 : BitVec 32 := Scalar.addi c0_i32_250 v359
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let c2_i32_251 : BitVec 32 := 2#32
  let v361 : BitVec 32 := Scalar.muli v48 c2_i32_251
  let v362 : BitVec 32 := Scalar.addi v360 v361
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c1_i32_252 : BitVec 32 := 1#32
  let v363 : BitVec 32 := Scalar.muli v51 c1_i32_252
  let v364 : BitVec 32 := Scalar.addi v362 v363
  v364.toNat
def k0_dev18 (d43 : Dev nD) : Nat :=
  let c0_i32_262 : BitVec 32 := 0#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let c4_i32_261 : BitVec 32 := 4#32
  let v373 : BitVec 32 := Scalar.muli v45 c4_i32_261
  let v374 : BitVec 32 := Scalar.addi c0_i32_262 v373
  let c1_i32_33 : BitVec 32 := 1#32
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let v53 : BitVec 32 := Scalar.subi c1_i32_33 v48
  let c2_i32_263 : BitVec 32 := 2#32
  let v375 : BitVec 32 := Scalar.muli v53 c2_i32_263
  let v376 : BitVec 32 := Scalar.addi v374 v375
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c1_i32_264 : BitVec 32 := 1#32
  let v377 : BitVec 32 := Scalar.muli v51 c1_i32_264
  let v378 : BitVec 32 := Scalar.addi v376 v377
  v378.toNat
def k0_dev19 (d43 : Dev nD) : Nat :=
  let c0_i32_274 : BitVec 32 := 0#32
  let c1_i32_34 : BitVec 32 := 1#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let v54 : BitVec 32 := Scalar.subi c1_i32_34 v45
  let c4_i32_273 : BitVec 32 := 4#32
  let v387 : BitVec 32 := Scalar.muli v54 c4_i32_273
  let v388 : BitVec 32 := Scalar.addi c0_i32_274 v387
  let c1_i32_35 : BitVec 32 := 1#32
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let v55 : BitVec 32 := Scalar.subi c1_i32_35 v48
  let c2_i32_275 : BitVec 32 := 2#32
  let v389 : BitVec 32 := Scalar.muli v55 c2_i32_275
  let v390 : BitVec 32 := Scalar.addi v388 v389
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c1_i32_276 : BitVec 32 := 1#32
  let v391 : BitVec 32 := Scalar.muli v51 c1_i32_276
  let v392 : BitVec 32 := Scalar.addi v390 v391
  v392.toNat
def k0_dev20 (d43 : Dev nD) : Nat :=
  let c0_i32_286 : BitVec 32 := 0#32
  let c1_i32_32 : BitVec 32 := 1#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let v52 : BitVec 32 := Scalar.subi c1_i32_32 v45
  let c4_i32_285 : BitVec 32 := 4#32
  let v401 : BitVec 32 := Scalar.muli v52 c4_i32_285
  let v402 : BitVec 32 := Scalar.addi c0_i32_286 v401
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let c2_i32_287 : BitVec 32 := 2#32
  let v403 : BitVec 32 := Scalar.muli v48 c2_i32_287
  let v404 : BitVec 32 := Scalar.addi v402 v403
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c1_i32_288 : BitVec 32 := 1#32
  let v405 : BitVec 32 := Scalar.muli v51 c1_i32_288
  let v406 : BitVec 32 := Scalar.addi v404 v405
  v406.toNat
def k0_dev21 (d43 : Dev nD) : Nat :=
  let c0_i32_298 : BitVec 32 := 0#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let c4_i32_297 : BitVec 32 := 4#32
  let v415 : BitVec 32 := Scalar.muli v45 c4_i32_297
  let v416 : BitVec 32 := Scalar.addi c0_i32_298 v415
  let c1_i32_33 : BitVec 32 := 1#32
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let v53 : BitVec 32 := Scalar.subi c1_i32_33 v48
  let c2_i32_299 : BitVec 32 := 2#32
  let v417 : BitVec 32 := Scalar.muli v53 c2_i32_299
  let v418 : BitVec 32 := Scalar.addi v416 v417
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c1_i32_300 : BitVec 32 := 1#32
  let v419 : BitVec 32 := Scalar.muli v51 c1_i32_300
  let v420 : BitVec 32 := Scalar.addi v418 v419
  v420.toNat
def k0_dev22 (d43 : Dev nD) : Nat :=
  let c0_i32_310 : BitVec 32 := 0#32
  let c1_i32_34 : BitVec 32 := 1#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let v54 : BitVec 32 := Scalar.subi c1_i32_34 v45
  let c4_i32_309 : BitVec 32 := 4#32
  let v429 : BitVec 32 := Scalar.muli v54 c4_i32_309
  let v430 : BitVec 32 := Scalar.addi c0_i32_310 v429
  let c1_i32_35 : BitVec 32 := 1#32
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let v55 : BitVec 32 := Scalar.subi c1_i32_35 v48
  let c2_i32_311 : BitVec 32 := 2#32
  let v431 : BitVec 32 := Scalar.muli v55 c2_i32_311
  let v432 : BitVec 32 := Scalar.addi v430 v431
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c1_i32_312 : BitVec 32 := 1#32
  let v433 : BitVec 32 := Scalar.muli v51 c1_i32_312
  let v434 : BitVec 32 := Scalar.addi v432 v433
  v434.toNat
def k0_dev23 (d43 : Dev nD) : Nat :=
  let c0_i32_322 : BitVec 32 := 0#32
  let c1_i32_32 : BitVec 32 := 1#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let v52 : BitVec 32 := Scalar.subi c1_i32_32 v45
  let c4_i32_321 : BitVec 32 := 4#32
  let v443 : BitVec 32 := Scalar.muli v52 c4_i32_321
  let v444 : BitVec 32 := Scalar.addi c0_i32_322 v443
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let c2_i32_323 : BitVec 32 := 2#32
  let v445 : BitVec 32 := Scalar.muli v48 c2_i32_323
  let v446 : BitVec 32 := Scalar.addi v444 v445
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c1_i32_324 : BitVec 32 := 1#32
  let v447 : BitVec 32 := Scalar.muli v51 c1_i32_324
  let v448 : BitVec 32 := Scalar.addi v446 v447
  v448.toNat
def k0_dev24 (d43 : Dev nD) : Nat :=
  let c0_i32_334 : BitVec 32 := 0#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let c4_i32_333 : BitVec 32 := 4#32
  let v457 : BitVec 32 := Scalar.muli v45 c4_i32_333
  let v458 : BitVec 32 := Scalar.addi c0_i32_334 v457
  let c1_i32_33 : BitVec 32 := 1#32
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let v53 : BitVec 32 := Scalar.subi c1_i32_33 v48
  let c2_i32_335 : BitVec 32 := 2#32
  let v459 : BitVec 32 := Scalar.muli v53 c2_i32_335
  let v460 : BitVec 32 := Scalar.addi v458 v459
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c1_i32_336 : BitVec 32 := 1#32
  let v461 : BitVec 32 := Scalar.muli v51 c1_i32_336
  let v462 : BitVec 32 := Scalar.addi v460 v461
  v462.toNat
def k0_dev25 (d43 : Dev nD) : Nat :=
  let c0_i32_346 : BitVec 32 := 0#32
  let c1_i32_34 : BitVec 32 := 1#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let v54 : BitVec 32 := Scalar.subi c1_i32_34 v45
  let c4_i32_345 : BitVec 32 := 4#32
  let v471 : BitVec 32 := Scalar.muli v54 c4_i32_345
  let v472 : BitVec 32 := Scalar.addi c0_i32_346 v471
  let c1_i32_35 : BitVec 32 := 1#32
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let v55 : BitVec 32 := Scalar.subi c1_i32_35 v48
  let c2_i32_347 : BitVec 32 := 2#32
  let v473 : BitVec 32 := Scalar.muli v55 c2_i32_347
  let v474 : BitVec 32 := Scalar.addi v472 v473
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c1_i32_348 : BitVec 32 := 1#32
  let v475 : BitVec 32 := Scalar.muli v51 c1_i32_348
  let v476 : BitVec 32 := Scalar.addi v474 v475
  v476.toNat
def k0_off11 (d43 : Dev nD) : Fin 2 → Nat :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_78 : BitVec 32 := 128#32
  let v139 : BitVec 32 := Scalar.muli v51 c128_i32_78
  let v140 : BitVec 32 := v139
  let c0_i32_363 : BitVec 32 := 0#32
  ![v140.toNat, 0]
def k0_off12 (d43 : Dev nD) : Fin 3 → Nat :=
  let c2_i32_36 : BitVec 32 := 2#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let v56 : BitVec 32 := Scalar.muli c2_i32_36 v45
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let v57 : BitVec 32 := Scalar.addi v56 v48
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_78 : BitVec 32 := 128#32
  let v139 : BitVec 32 := Scalar.muli v51 c128_i32_78
  let v140 : BitVec 32 := v139
  let c0_i32_362 : BitVec 32 := 0#32
  ![v57.toNat, v140.toNat, 0]
def k0_dev26 (d43 : Dev nD) : Nat :=
  let c0_i32_358 : BitVec 32 := 0#32
  let c1_i32_32 : BitVec 32 := 1#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let v52 : BitVec 32 := Scalar.subi c1_i32_32 v45
  let c4_i32_357 : BitVec 32 := 4#32
  let v485 : BitVec 32 := Scalar.muli v52 c4_i32_357
  let v486 : BitVec 32 := Scalar.addi c0_i32_358 v485
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let c2_i32_359 : BitVec 32 := 2#32
  let v487 : BitVec 32 := Scalar.muli v48 c2_i32_359
  let v488 : BitVec 32 := Scalar.addi v486 v487
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c1_i32_360 : BitVec 32 := 1#32
  let v489 : BitVec 32 := Scalar.muli v51 c1_i32_360
  let v490 : BitVec 32 := Scalar.addi v488 v489
  v490.toNat
def k0_dev27 (d43 : Dev nD) : Nat :=
  let c0_i32_370 : BitVec 32 := 0#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let c4_i32_369 : BitVec 32 := 4#32
  let v499 : BitVec 32 := Scalar.muli v45 c4_i32_369
  let v500 : BitVec 32 := Scalar.addi c0_i32_370 v499
  let c1_i32_33 : BitVec 32 := 1#32
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let v53 : BitVec 32 := Scalar.subi c1_i32_33 v48
  let c2_i32_371 : BitVec 32 := 2#32
  let v501 : BitVec 32 := Scalar.muli v53 c2_i32_371
  let v502 : BitVec 32 := Scalar.addi v500 v501
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c1_i32_372 : BitVec 32 := 1#32
  let v503 : BitVec 32 := Scalar.muli v51 c1_i32_372
  let v504 : BitVec 32 := Scalar.addi v502 v503
  v504.toNat
def k0_dev28 (d43 : Dev nD) : Nat :=
  let c0_i32_382 : BitVec 32 := 0#32
  let c1_i32_34 : BitVec 32 := 1#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let v54 : BitVec 32 := Scalar.subi c1_i32_34 v45
  let c4_i32_381 : BitVec 32 := 4#32
  let v513 : BitVec 32 := Scalar.muli v54 c4_i32_381
  let v514 : BitVec 32 := Scalar.addi c0_i32_382 v513
  let c1_i32_35 : BitVec 32 := 1#32
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let v55 : BitVec 32 := Scalar.subi c1_i32_35 v48
  let c2_i32_383 : BitVec 32 := 2#32
  let v515 : BitVec 32 := Scalar.muli v55 c2_i32_383
  let v516 : BitVec 32 := Scalar.addi v514 v515
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c1_i32_384 : BitVec 32 := 1#32
  let v517 : BitVec 32 := Scalar.muli v51 c1_i32_384
  let v518 : BitVec 32 := Scalar.addi v516 v517
  v518.toNat
def k0_cond2 (i : grid0.Coords) : BitVec 1 :=
  let arg0 : BitVec 32 := BitVec.ofNat 32 (i 0).val
  let c15_i32 : BitVec 32 := 15#32
  let v3 : BitVec 1 := Scalar.cmpi .eq arg0 c15_i32
  let arg1 : BitVec 32 := BitVec.ofNat 32 (i 1).val
  let c3_i32 : BitVec 32 := 3#32
  let v4 : BitVec 1 := Scalar.cmpi .eq arg1 c3_i32
  let v5 : BitVec 1 := Scalar.andi v3 v4
  let v8 : BitVec 32 := Scalar.extui v5
  let c0_i32_2 : BitVec 32 := 0#32
  let v9 : BitVec 1 := Scalar.cmpi .ne v8 c0_i32_2
  v9

def k0_mult43 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c512_i32 : BitVec 32 := 512#32
  let v65 : BitVec 32 := Scalar.muli v51 c512_i32
  v65
def k0_mult44 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c512_i32_44 : BitVec 32 := 512#32
  let v67 : BitVec 32 := Scalar.muli v51 c512_i32_44
  v67
def k0_mult45 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c512_i32_45 : BitVec 32 := 512#32
  let v69 : BitVec 32 := Scalar.muli v51 c512_i32_45
  v69
def k0_mult46 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c512_i32_46 : BitVec 32 := 512#32
  let v71 : BitVec 32 := Scalar.muli v51 c512_i32_46
  v71
def k0_mult47 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c512_i32_47 : BitVec 32 := 512#32
  let v73 : BitVec 32 := Scalar.muli v51 c512_i32_47
  v73
def k0_mult48 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c512_i32_48 : BitVec 32 := 512#32
  let v75 : BitVec 32 := Scalar.muli v51 c512_i32_48
  v75
def k0_mult49 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32 : BitVec 32 := 128#32
  let v77 : BitVec 32 := Scalar.muli v51 c128_i32
  v77
def k0_mult50 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_49 : BitVec 32 := 128#32
  let v79 : BitVec 32 := Scalar.muli v51 c128_i32_49
  v79
def k0_mult51 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_50 : BitVec 32 := 128#32
  let v81 : BitVec 32 := Scalar.muli v51 c128_i32_50
  v81
def k0_mult52 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_51 : BitVec 32 := 128#32
  let v83 : BitVec 32 := Scalar.muli v51 c128_i32_51
  v83
def k0_mult53 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_52 : BitVec 32 := 128#32
  let v85 : BitVec 32 := Scalar.muli v51 c128_i32_52
  v85
def k0_mult54 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_53 : BitVec 32 := 128#32
  let v87 : BitVec 32 := Scalar.muli v51 c128_i32_53
  v87
def k0_mult55 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32 : BitVec 32 := 352#32
  let v89 : BitVec 32 := Scalar.muli v51 c352_i32
  v89
def k0_mult56 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_54 : BitVec 32 := 352#32
  let v91 : BitVec 32 := Scalar.muli v51 c352_i32_54
  v91
def k0_mult57 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_55 : BitVec 32 := 352#32
  let v93 : BitVec 32 := Scalar.muli v51 c352_i32_55
  v93
def k0_mult58 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_56 : BitVec 32 := 352#32
  let v95 : BitVec 32 := Scalar.muli v51 c352_i32_56
  v95
def k0_mult59 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_57 : BitVec 32 := 352#32
  let v97 : BitVec 32 := Scalar.muli v51 c352_i32_57
  v97
def k0_mult60 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_58 : BitVec 32 := 352#32
  let v99 : BitVec 32 := Scalar.muli v51 c352_i32_58
  v99
def k0_mult61 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_59 : BitVec 32 := 352#32
  let v101 : BitVec 32 := Scalar.muli v51 c352_i32_59
  v101
def k0_mult62 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_60 : BitVec 32 := 352#32
  let v103 : BitVec 32 := Scalar.muli v51 c352_i32_60
  v103
def k0_mult63 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_61 : BitVec 32 := 352#32
  let v105 : BitVec 32 := Scalar.muli v51 c352_i32_61
  v105
def k0_mult64 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_62 : BitVec 32 := 352#32
  let v107 : BitVec 32 := Scalar.muli v51 c352_i32_62
  v107
def k0_mult65 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_63 : BitVec 32 := 352#32
  let v109 : BitVec 32 := Scalar.muli v51 c352_i32_63
  v109
def k0_mult66 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_64 : BitVec 32 := 352#32
  let v111 : BitVec 32 := Scalar.muli v51 c352_i32_64
  v111
def k0_mult67 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_65 : BitVec 32 := 352#32
  let v113 : BitVec 32 := Scalar.muli v51 c352_i32_65
  v113
def k0_mult68 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_66 : BitVec 32 := 352#32
  let v115 : BitVec 32 := Scalar.muli v51 c352_i32_66
  v115
def k0_mult69 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_67 : BitVec 32 := 352#32
  let v117 : BitVec 32 := Scalar.muli v51 c352_i32_67
  v117
def k0_mult70 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_68 : BitVec 32 := 352#32
  let v119 : BitVec 32 := Scalar.muli v51 c352_i32_68
  v119
def k0_mult71 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_69 : BitVec 32 := 352#32
  let v121 : BitVec 32 := Scalar.muli v51 c352_i32_69
  v121
def k0_mult72 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_70 : BitVec 32 := 352#32
  let v123 : BitVec 32 := Scalar.muli v51 c352_i32_70
  v123
def k0_mult73 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_71 : BitVec 32 := 128#32
  let v125 : BitVec 32 := Scalar.muli v51 c128_i32_71
  v125
def k0_mult74 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_72 : BitVec 32 := 128#32
  let v127 : BitVec 32 := Scalar.muli v51 c128_i32_72
  v127
def k0_mult75 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_73 : BitVec 32 := 128#32
  let v129 : BitVec 32 := Scalar.muli v51 c128_i32_73
  v129
def k0_mult76 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_74 : BitVec 32 := 128#32
  let v131 : BitVec 32 := Scalar.muli v51 c128_i32_74
  v131
def k0_mult77 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_75 : BitVec 32 := 128#32
  let v133 : BitVec 32 := Scalar.muli v51 c128_i32_75
  v133
def k0_mult78 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_76 : BitVec 32 := 128#32
  let v135 : BitVec 32 := Scalar.muli v51 c128_i32_76
  v135
def k0_mult79 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_77 : BitVec 32 := 128#32
  let v137 : BitVec 32 := Scalar.muli v51 c128_i32_77
  v137
def k0_mult80 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_78 : BitVec 32 := 128#32
  let v139 : BitVec 32 := Scalar.muli v51 c128_i32_78
  v139
def k0_mult81 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_79 : BitVec 32 := 128#32
  let v141 : BitVec 32 := Scalar.muli v51 c128_i32_79
  v141
def k0_mult82 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_80 : BitVec 32 := 128#32
  let v143 : BitVec 32 := Scalar.muli v51 c128_i32_80
  v143
def k0_mult83 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_81 : BitVec 32 := 128#32
  let v145 : BitVec 32 := Scalar.muli v51 c128_i32_81
  v145
def k0_mult84 (d43 : Dev nD) : BitVec 32 :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_82 : BitVec 32 := 128#32
  let v147 : BitVec 32 := Scalar.muli v51 c128_i32_82
  v147
def k0_off13 (d43 : Dev nD) : Fin 3 → Nat :=
  let c2_i32_36 : BitVec 32 := 2#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let v56 : BitVec 32 := Scalar.muli c2_i32_36 v45
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let v57 : BitVec 32 := Scalar.addi v56 v48
  let c0_i32_86 : BitVec 32 := 0#32
  let c0_i32_87 : BitVec 32 := 0#32
  ![v57.toNat, 0, 0]
def k0_off14 (d43 : Dev nD) : Fin 3 → Nat :=
  let c2_i32_36 : BitVec 32 := 2#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let v56 : BitVec 32 := Scalar.muli c2_i32_36 v45
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let v57 : BitVec 32 := Scalar.addi v56 v48
  let c0_i32_99 : BitVec 32 := 0#32
  let c0_i32_100 : BitVec 32 := 0#32
  ![v57.toNat, 0, 0]
def k0_off15 (d43 : Dev nD) : Fin 3 → Nat :=
  let c2_i32_36 : BitVec 32 := 2#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let v56 : BitVec 32 := Scalar.muli c2_i32_36 v45
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let v57 : BitVec 32 := Scalar.addi v56 v48
  let c0_i32_112 : BitVec 32 := 0#32
  let c0_i32_113 : BitVec 32 := 0#32
  ![v57.toNat, 0, 0]
def k0_off16 (d43 : Dev nD) : Fin 3 → Nat :=
  let c2_i32_36 : BitVec 32 := 2#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let v56 : BitVec 32 := Scalar.muli c2_i32_36 v45
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let v57 : BitVec 32 := Scalar.addi v56 v48
  let c0_i32_162 : BitVec 32 := 0#32
  let c0_i32_163 : BitVec 32 := 0#32
  ![v57.toNat, 0, 0]
def k0_off17 (d43 : Dev nD) : Fin 2 → Nat :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c512_i32 : BitVec 32 := 512#32
  let v65 : BitVec 32 := Scalar.muli v51 c512_i32
  let v66 : BitVec 32 := v65
  let c0_i32_177 : BitVec 32 := 0#32
  ![v66.toNat, 0]
def k0_off18 (d43 : Dev nD) : Fin 3 → Nat :=
  let c2_i32_36 : BitVec 32 := 2#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let v56 : BitVec 32 := Scalar.muli c2_i32_36 v45
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let v57 : BitVec 32 := Scalar.addi v56 v48
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c512_i32_44 : BitVec 32 := 512#32
  let v67 : BitVec 32 := Scalar.muli v51 c512_i32_44
  let v68 : BitVec 32 := v67
  let c0_i32_179 : BitVec 32 := 0#32
  ![v57.toNat, v68.toNat, 0]
def k0_off19 (d43 : Dev nD) : Fin 2 → Nat :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32 : BitVec 32 := 128#32
  let v77 : BitVec 32 := Scalar.muli v51 c128_i32
  let v78 : BitVec 32 := v77
  let c0_i32_240 : BitVec 32 := 0#32
  ![v78.toNat, 0]
def k0_off20 (d43 : Dev nD) : Fin 3 → Nat :=
  let c2_i32_36 : BitVec 32 := 2#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let v56 : BitVec 32 := Scalar.muli c2_i32_36 v45
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let v57 : BitVec 32 := Scalar.addi v56 v48
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_49 : BitVec 32 := 128#32
  let v79 : BitVec 32 := Scalar.muli v51 c128_i32_49
  let v80 : BitVec 32 := v79
  let c0_i32_242 : BitVec 32 := 0#32
  ![v57.toNat, v80.toNat, 0]
def k0_off21 (d43 : Dev nD) : Fin 2 → Nat :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32 : BitVec 32 := 352#32
  let v89 : BitVec 32 := Scalar.muli v51 c352_i32
  let v90 : BitVec 32 := v89
  let c0_i32_303 : BitVec 32 := 0#32
  ![v90.toNat, 0]
def k0_off22 (d43 : Dev nD) : Fin 3 → Nat :=
  let c2_i32_36 : BitVec 32 := 2#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let v56 : BitVec 32 := Scalar.muli c2_i32_36 v45
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let v57 : BitVec 32 := Scalar.addi v56 v48
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c352_i32_54 : BitVec 32 := 352#32
  let v91 : BitVec 32 := Scalar.muli v51 c352_i32_54
  let v92 : BitVec 32 := v91
  let c0_i32_305 : BitVec 32 := 0#32
  ![v57.toNat, v92.toNat, 0]
def k0_off23 (d43 : Dev nD) : Fin 2 → Nat :=
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_77 : BitVec 32 := 128#32
  let v137 : BitVec 32 := Scalar.muli v51 c128_i32_77
  let v138 : BitVec 32 := v137
  let c0_i32_555 : BitVec 32 := 0#32
  ![v138.toNat, 0]
def k0_off24 (d43 : Dev nD) : Fin 3 → Nat :=
  let c2_i32_36 : BitVec 32 := 2#32
  let v43 : BitVec 32 := Dev.word d43
  let c4_i32 : BitVec 32 := 4#32
  let v44 : BitVec 32 := Scalar.divsi v43 c4_i32
  let c2_i32 : BitVec 32 := 2#32
  let v45 : BitVec 32 := Scalar.remsi v44 c2_i32
  let v56 : BitVec 32 := Scalar.muli c2_i32_36 v45
  let v46 : BitVec 32 := Dev.word d43
  let c2_i32_30 : BitVec 32 := 2#32
  let v47 : BitVec 32 := Scalar.divsi v46 c2_i32_30
  let c2_i32_29 : BitVec 32 := 2#32
  let v48 : BitVec 32 := Scalar.remsi v47 c2_i32_29
  let v57 : BitVec 32 := Scalar.addi v56 v48
  let v49 : BitVec 32 := Dev.word d43
  let c1_i32 : BitVec 32 := 1#32
  let v50 : BitVec 32 := Scalar.divsi v49 c1_i32
  let c2_i32_31 : BitVec 32 := 2#32
  let v51 : BitVec 32 := Scalar.remsi v50 c2_i32_31
  let c128_i32_78 : BitVec 32 := 128#32
  let v139 : BitVec 32 := Scalar.muli v51 c128_i32_78
  let v140 : BitVec 32 := v139
  let c0_i32_557 : BitVec 32 := 0#32
  ![v57.toNat, v140.toNat, 0]
def k0_cond4 (i : grid0.Coords) : BitVec 1 :=
  let arg1 : BitVec 32 := BitVec.ofNat 32 (i 1).val
  let c3_i32_27 : BitVec 32 := 3#32
  let v40 : BitVec 1 := Scalar.cmpi .eq arg1 c3_i32_27
  let v41 : BitVec 32 := Scalar.extui v40
  let c0_i32_28 : BitVec 32 := 0#32
  let v42 : BitVec 1 := Scalar.cmpi .ne v41 c0_i32_28
  v42

def k0_cond3 (i : grid0.Coords) : BitVec 1 :=
  let arg1 : BitVec 32 := BitVec.ofNat 32 (i 1).val
  let c0_i32_3 : BitVec 32 := 0#32
  let v10 : BitVec 1 := Scalar.cmpi .eq arg1 c0_i32_3
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FwdGatherRefIdeal.lean ====
abbrev S65536x1024 : Shape := ⟨2, ![65536, 1024]⟩
abbrev S1x1024 : Shape := ⟨2, ![1, 1024]⟩
abbrev S4x1024x704 : Shape := ⟨3, ![4, 1024, 704]⟩
abbrev S4x704x1024 : Shape := ⟨3, ![4, 704, 1024]⟩
abbrev S4096x768 : Shape := ⟨2, ![4096, 768]⟩
abbrev S1024x1024 : Shape := ⟨2, ![1024, 1024]⟩
abbrev S2816x1024 : Shape := ⟨2, ![2816, 1024]⟩
abbrev S1024x256 : Shape := ⟨2, ![1024, 256]⟩
abbrev S_ : Shape := ⟨0, ![]⟩
abbrev S65536 : Shape := ⟨1, ![65536]⟩
abbrev S65536x1 : Shape := ⟨2, ![65536, 1]⟩
abbrev S8x8192x1024 : Shape := ⟨3, ![8, 8192, 1024]⟩
abbrev S4x704x8x8192 : Shape := ⟨4, ![4, 704, 8, 8192]⟩
abbrev S8x4x8192x704 : Shape := ⟨4, ![8, 4, 8192, 704]⟩
abbrev S32x8192x704 : Shape := ⟨3, ![32, 8192, 704]⟩
abbrev S1x4x1024x768 : Shape := ⟨4, ![1, 4, 1024, 768]⟩
abbrev S8x4x1024x768 : Shape := ⟨4, ![8, 4, 1024, 768]⟩
abbrev S32x1024x768 : Shape := ⟨3, ![32, 1024, 768]⟩
abbrev S1x4x256x1024 : Shape := ⟨4, ![1, 4, 256, 1024]⟩
abbrev S8x4x256x1024 : Shape := ⟨4, ![8, 4, 256, 1024]⟩
abbrev S32x256x1024 : Shape := ⟨3, ![32, 256, 1024]⟩
abbrev S1x4x704x1024 : Shape := ⟨4, ![1, 4, 704, 1024]⟩
abbrev S8x4x704x1024 : Shape := ⟨4, ![8, 4, 704, 1024]⟩
abbrev S32x704x1024 : Shape := ⟨3, ![32, 704, 1024]⟩
abbrev S1x4x256x256 : Shape := ⟨4, ![1, 4, 256, 256]⟩
abbrev S8x4x256x256 : Shape := ⟨4, ![8, 4, 256, 256]⟩
abbrev S32x256x256 : Shape := ⟨3, ![32, 256, 256]⟩

abbrev nBuf : Space → Nat
  | .hbm => 77
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S4x1024x704, .bf16⟩
  | .hbm, ⟨3, _⟩ => ⟨S4x1024x704, .bf16⟩
  | .hbm, ⟨4, _⟩ => ⟨S4x704x1024, .bf16⟩
  | .hbm, ⟨5, _⟩ => ⟨S4096x768, .bf16⟩
  | .hbm, ⟨6, _⟩ => ⟨S1024x1024, .bf16⟩
  | .hbm, ⟨7, _⟩ => ⟨S2816x1024, .bf16⟩
  | .hbm, ⟨8, _⟩ => ⟨S2816x1024, .bf16⟩
  | .hbm, ⟨9, _⟩ => ⟨S2816x1024, .bf16⟩
  | .hbm, ⟨10, _⟩ => ⟨S1024x1024, .bf16⟩
  | .hbm, ⟨11, _⟩ => ⟨S1024x256, .bf16⟩
  | .hbm, ⟨12, _⟩ => ⟨S65536x1024, .f32⟩
  | .hbm, ⟨13, _⟩ => ⟨S_, .f32⟩
  | .hbm, ⟨14, _⟩ => ⟨S65536, .f32⟩
  | .hbm, ⟨15, _⟩ => ⟨S65536x1, .f32⟩
  | .hbm, ⟨16, _⟩ => ⟨S_, .f32⟩
  | .hbm, ⟨17, _⟩ => ⟨S65536x1, .f32⟩
  | .hbm, ⟨18, _⟩ => ⟨S65536x1, .f32⟩
  | .hbm, ⟨19, _⟩ => ⟨S_, .f32⟩
  | .hbm, ⟨20, _⟩ => ⟨S65536x1, .f32⟩
  | .hbm, ⟨21, _⟩ => ⟨S65536x1, .f32⟩
  | .hbm, ⟨22, _⟩ => ⟨S65536x1, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S65536x1024, .f32⟩
  | .hbm, ⟨27, _⟩ => ⟨S8x8192x1024, .f32⟩
  | .hbm, ⟨28, _⟩ => ⟨S4x1024x704, .f32⟩
  | .hbm, ⟨29, _⟩ => ⟨S4x704x8x8192, .f32⟩
  | .hbm, ⟨30, _⟩ => ⟨S8x4x8192x704, .f32⟩
  | .hbm, ⟨31, _⟩ => ⟨S4x1024x704, .f32⟩
  | .hbm, ⟨32, _⟩ => ⟨S4x704x8x8192, .f32⟩
  | .hbm, ⟨33, _⟩ => ⟨S8x4x8192x704, .f32⟩
  | .hbm, ⟨34, _⟩ => ⟨S8x4x8192x704, .f32⟩
  | .hbm, ⟨35, _⟩ => ⟨S8x4x8192x704, .f32⟩
  | .hbm, ⟨36, _⟩ => ⟨S_, .f32⟩
  | .hbm, ⟨37, _⟩ => ⟨S8x4x8192x704, .f32⟩
  | .hbm, ⟨38, _⟩ => ⟨S8x4x8192x704, .f32⟩
  | .hbm, ⟨39, _⟩ => ⟨S_, .f32⟩
  | .hbm, ⟨40, _⟩ => ⟨S8x4x8192x704, .f32⟩
  | .hbm, ⟨41, _⟩ => ⟨S8x4x8192x704, .f32⟩
  | .hbm, ⟨42, _⟩ => ⟨S8x4x8192x704, .f32⟩
  | .hbm, ⟨43, _⟩ => ⟨S8x4x8192x704, .f32⟩
  | .hbm, ⟨44, _⟩ => ⟨S4x704x1024, .f32⟩
  | .hbm, ⟨45, _⟩ => ⟨S8x8192x1024, .f32⟩
  | .hbm, ⟨46, _⟩ => ⟨S65536x1024, .f32⟩
  | .hbm, ⟨47, _⟩ => ⟨S32x8192x704, .f32⟩
  | .hbm, ⟨48, _⟩ => ⟨S32x8192x704, .f32⟩
  | .hbm, ⟨49, _⟩ => ⟨S_, .f32⟩
  | .hbm, ⟨50, _⟩ => ⟨S65536x1024, .f32⟩
  | .hbm, ⟨51, _⟩ => ⟨S65536x1024, .f32⟩
  | .hbm, ⟨52, _⟩ => ⟨S65536x1024, .f32⟩
  | .hbm, ⟨53, _⟩ => ⟨S65536x1024, .bf16⟩
  | .hbm, ⟨54, _⟩ => ⟨S32x8192x704, .bf16⟩
  | .hbm, ⟨55, _⟩ => ⟨S32x8192x704, .bf16⟩
  | .hbm, ⟨56, _⟩ => ⟨S1x4x1024x768, .bf16⟩
  | .hbm, ⟨57, _⟩ => ⟨S8x4x1024x768, .bf16⟩
  | .hbm, ⟨58, _⟩ => ⟨S32x1024x768, .bf16⟩
  | .hbm, ⟨59, _⟩ => ⟨S1x4x256x1024, .bf16⟩
  | .hbm, ⟨60, _⟩ => ⟨S8x4x256x1024, .bf16⟩
  | .hbm, ⟨61, _⟩ => ⟨S32x256x1024, .bf16⟩
  | .hbm, ⟨62, _⟩ => ⟨S1x4x704x1024, .bf16⟩
  | .hbm, ⟨63, _⟩ => ⟨S8x4x704x1024, .bf16⟩
  | .hbm, ⟨64, _⟩ => ⟨S32x704x1024, .bf16⟩
  | .hbm, ⟨65, _⟩ => ⟨S1x4x704x1024, .bf16⟩
  | .hbm, ⟨66, _⟩ => ⟨S8x4x704x1024, .bf16⟩
  | .hbm, ⟨67, _⟩ => ⟨S32x704x1024, .bf16⟩
  | .hbm, ⟨68, _⟩ => ⟨S1x4x704x1024, .bf16⟩
  | .hbm, ⟨69, _⟩ => ⟨S8x4x704x1024, .bf16⟩
  | .hbm, ⟨70, _⟩ => ⟨S32x704x1024, .bf16⟩
  | .hbm, ⟨71, _⟩ => ⟨S1x4x256x1024, .bf16⟩
  | .hbm, ⟨72, _⟩ => ⟨S8x4x256x1024, .bf16⟩
  | .hbm, ⟨73, _⟩ => ⟨S32x256x1024, .bf16⟩
  | .hbm, ⟨74, _⟩ => ⟨S1x4x256x256, .bf16⟩
  | .hbm, ⟨75, _⟩ => ⟨S8x4x256x256, .bf16⟩
  | .hbm, ⟨76, _⟩ => ⟨S32x256x256, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]
-- ==== AdamFfn.lean ====
abbrev S704x1024 : Shape := ⟨2, ![704, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnIdeal.lean ====
abbrev S704x1024 : Shape := ⟨2, ![704, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnRefIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S1024x768 : Shape := ⟨2, ![1024, 768]⟩
abbrev S512x768 : Shape := ⟨2, ![512, 768]⟩

abbrev nBuf : Space → Nat
  | .hbm => 7
  | .vmem => 14
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S1024x768 : Shape := ⟨2, ![1024, 768]⟩
abbrev S512x768 : Shape := ⟨2, ![512, 768]⟩

abbrev nBuf : Space → Nat
  | .hbm => 7
  | .vmem => 14
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S1024x768 : Shape := ⟨2, ![1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamPle.lean ====
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPleIdeal.lean ====
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPleRefIdeal.lean ====
abbrev S256x256 : Shape := ⟨2, ![256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S16x1024 : Shape := ⟨2, ![16, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S16x1024, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S16x1024 : Shape := ⟨2, ![16, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S_, .f32⟩
  | .hbm, ⟨16, _⟩ => ⟨S16x1024, .f32⟩
  | .hbm, ⟨17, _⟩ => ⟨S16x1024, .f32⟩
  | .hbm, ⟨18, _⟩ => ⟨S16x1024, .f32⟩
  | .hbm, ⟨19, _⟩ => ⟨S_, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S16x1024, .f32⟩
  | .hbm, ⟨26, _⟩ => ⟨S_, .f32⟩
  | .hbm, ⟨27, _⟩ => ⟨S16x1024, .f32⟩
  | .hbm, ⟨28, _⟩ => ⟨S16x1024, .f32⟩
  | .hbm, ⟨29, _⟩ => ⟨S16x1024, .f32⟩
  | .hbm, ⟨30, _⟩ => ⟨S_, .f32⟩
  | .hbm, ⟨31, _⟩ => ⟨S16x1024, .f32⟩
  | .hbm, ⟨32, _⟩ => ⟨S16x1024, .f32⟩
  | .hbm, ⟨33, _⟩ => ⟨S16x1024, .f32⟩
  | .hbm, ⟨34, _⟩ => ⟨S_, .f32⟩
  | .hbm, ⟨35, _⟩ => ⟨S16x1024, .f32⟩
  | .hbm, ⟨36, _⟩ => ⟨S16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ShardFfn.lean ====
abbrev S4x352x1024 : Shape := ⟨3, ![4, 352, 1024]⟩
abbrev S3x352x1024 : Shape := ⟨3, ![3, 352, 1024]⟩
abbrev S2 : Shape := ⟨1, ![2]⟩
abbrev S704x1024 : Shape := ⟨2, ![704, 1024]⟩
abbrev S1x352x1024 : Shape := ⟨3, ![1, 352, 1024]⟩
abbrev S1 : Shape := ⟨1, ![1]⟩
abbrev S352x1024 : Shape := ⟨2, ![352, 1024]⟩

abbrev nBuf : Space → Nat
  | .hbm => 3
  | .vmem => 5
  | .smem => 1
  | _ => 0

abbrev bufTy : (tb : Table) → Fin (tcTables nBuf tb) → BufTy
  | .hbm, ⟨0, _⟩ => ⟨S4x352x1024, .f32⟩
  | .hbm, ⟨1, _⟩ => ⟨S3x352x1024, .bf16⟩
  | .hbm, ⟨2, _⟩ => ⟨S704x1024, .f32⟩
  | .local _ .vmem, ⟨0, _⟩ => ⟨S1x352x1024, .f32⟩
  | .local _ .vmem, ⟨1, _⟩ => ⟨S1x352x1024, .bf16⟩
  | .local _ .vmem, ⟨2, _⟩ => ⟨S1x352x1024, .bf16⟩
  | .local _ .vmem, ⟨3, _⟩ => ⟨S1x352x1024, .bf16⟩
  | .local _ .vmem, ⟨4, _⟩ => ⟨S352x1024, .f32⟩
  | .local _ .smem, ⟨0, _⟩ => ⟨S2, .i32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

abbrev stage0_0 : Fin 1 → Memref sig .tc .vmem S1x352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x352x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== ShardFfnIdeal.lean ====
abbrev S4x352x1024 : Shape := ⟨3, ![4, 352, 1024]⟩
abbrev S3x352x1024 : Shape := ⟨3, ![3, 352, 1024]⟩
abbrev S2 : Shape := ⟨1, ![2]⟩
abbrev S704x1024 : Shape := ⟨2, ![704, 1024]⟩
abbrev S1x352x1024 : Shape := ⟨3, ![1, 352, 1024]⟩
abbrev S1 : Shape := ⟨1, ![1]⟩
abbrev S352x1024 : Shape := ⟨2, ![352, 1024]⟩

abbrev nBuf : Space → Nat
  | .hbm => 3
  | .vmem => 5
  | .smem => 1
  | _ => 0

abbrev bufTy : (tb : Table) → Fin (tcTables nBuf tb) → BufTy
  | .hbm, ⟨0, _⟩ => ⟨S4x352x1024, .f32⟩
  | .hbm, ⟨1, _⟩ => ⟨S3x352x1024, .bf16⟩
  | .hbm, ⟨2, _⟩ => ⟨S704x1024, .f32⟩
  | .local _ .vmem, ⟨0, _⟩ => ⟨S1x352x1024, .f32⟩
  | .local _ .vmem, ⟨1, _⟩ => ⟨S1x352x1024, .bf16⟩
  | .local _ .vmem, ⟨2, _⟩ => ⟨S1x352x1024, .bf16⟩
  | .local _ .vmem, ⟨3, _⟩ => ⟨S1x352x1024, .bf16⟩
  | .local _ .vmem, ⟨4, _⟩ => ⟨S352x1024, .f32⟩
  | .local _ .smem, ⟨0, _⟩ => ⟨S2, .i32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

abbrev stage0_0 : Fin 1 → Memref sig .tc .vmem S1x352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x352x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== ShardFfnRefIdeal.lean ====
abbrev S4x352x1024 : Shape := ⟨3, ![4, 352, 1024]⟩
abbrev S3x352x1024 : Shape := ⟨3, ![3, 352, 1024]⟩
abbrev S2 : Shape := ⟨1, ![2]⟩
abbrev S4 : Shape := ⟨1, ![4]⟩
abbrev S1 : Shape := ⟨1, ![1]⟩
abbrev S_ : Shape := ⟨0, ![]⟩
abbrev S352x1024 : Shape := ⟨2, ![352, 1024]⟩
abbrev S2x352x1024 : Shape := ⟨3, ![2, 352, 1024]⟩
abbrev S704x1024 : Shape := ⟨2, ![704, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S3x352x1024, .bf16⟩
  | .hbm, ⟨2, _⟩ => ⟨S2, .i32⟩
  | .hbm, ⟨3, _⟩ => ⟨S4, .i32⟩
  | .hbm, ⟨4, _⟩ => ⟨S1, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S4x352x1024, .i1⟩
  | .hbm, ⟨9, _⟩ => ⟨S_, .f32⟩
  | .hbm, ⟨10, _⟩ => ⟨S4x352x1024, .f32⟩
  | .hbm, ⟨11, _⟩ => ⟨S4x352x1024, .f32⟩
  | .hbm, ⟨12, _⟩ => ⟨S_, .f32⟩
  | .hbm, ⟨13, _⟩ => ⟨S352x1024, .f32⟩
  | .hbm, ⟨14, _⟩ => ⟨S3x352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S2x352x1024, .f32⟩
  | .hbm, ⟨19, _⟩ => ⟨S704x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== ShardIn.lean ====
abbrev S4x512x768 : Shape := ⟨3, ![4, 512, 768]⟩
abbrev S3x512x768 : Shape := ⟨3, ![3, 512, 768]⟩
abbrev S2 : Shape := ⟨1, ![2]⟩
abbrev S1024x768 : Shape := ⟨2, ![1024, 768]⟩
abbrev S1x512x768 : Shape := ⟨3, ![1, 512, 768]⟩
abbrev S1 : Shape := ⟨1, ![1]⟩
abbrev S512x768 : Shape := ⟨2, ![512, 768]⟩

abbrev nBuf : Space → Nat
  | .hbm => 3
  | .vmem => 5
  | .smem => 1
  | _ => 0

abbrev bufTy : (tb : Table) → Fin (tcTables nBuf tb) → BufTy
  | .hbm, ⟨0, _⟩ => ⟨S4x512x768, .f32⟩
  | .hbm, ⟨1, _⟩ => ⟨S3x512x768, .bf16⟩
  | .hbm, ⟨2, _⟩ => ⟨S1024x768, .f32⟩
  | .local _ .vmem, ⟨0, _⟩ => ⟨S1x512x768, .f32⟩
  | .local _ .vmem, ⟨1, _⟩ => ⟨S1x512x768, .bf16⟩
  | .local _ .vmem, ⟨2, _⟩ => ⟨S1x512x768, .bf16⟩
  | .local _ .vmem, ⟨3, _⟩ => ⟨S1x512x768, .bf16⟩
  | .local _ .vmem, ⟨4, _⟩ => ⟨S512x768, .f32⟩
  | .local _ .smem, ⟨0, _⟩ => ⟨S2, .i32⟩
  | _, _ => ⟨S4x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

abbrev stage0_0 : Fin 1 → Memref sig .tc .vmem S1x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== ShardInIdeal.lean ====
abbrev S4x512x768 : Shape := ⟨3, ![4, 512, 768]⟩
abbrev S3x512x768 : Shape := ⟨3, ![3, 512, 768]⟩
abbrev S2 : Shape := ⟨1, ![2]⟩
abbrev S1024x768 : Shape := ⟨2, ![1024, 768]⟩
abbrev S1x512x768 : Shape := ⟨3, ![1, 512, 768]⟩
abbrev S1 : Shape := ⟨1, ![1]⟩
abbrev S512x768 : Shape := ⟨2, ![512, 768]⟩

abbrev nBuf : Space → Nat
  | .hbm => 3
  | .vmem => 5
  | .smem => 1
  | _ => 0

abbrev bufTy : (tb : Table) → Fin (tcTables nBuf tb) → BufTy
  | .hbm, ⟨0, _⟩ => ⟨S4x512x768, .f32⟩
  | .hbm, ⟨1, _⟩ => ⟨S3x512x768, .bf16⟩
  | .hbm, ⟨2, _⟩ => ⟨S1024x768, .f32⟩
  | .local _ .vmem, ⟨0, _⟩ => ⟨S1x512x768, .f32⟩
  | .local _ .vmem, ⟨1, _⟩ => ⟨S1x512x768, .bf16⟩
  | .local _ .vmem, ⟨2, _⟩ => ⟨S1x512x768, .bf16⟩
  | .local _ .vmem, ⟨3, _⟩ => ⟨S1x512x768, .bf16⟩
  | .local _ .vmem, ⟨4, _⟩ => ⟨S512x768, .f32⟩
  | .local _ .smem, ⟨0, _⟩ => ⟨S2, .i32⟩
  | _, _ => ⟨S4x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

abbrev stage0_0 : Fin 1 → Memref sig .tc .vmem S1x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== ShardInRefIdeal.lean ====
abbrev S4x512x768 : Shape := ⟨3, ![4, 512, 768]⟩
abbrev S3x512x768 : Shape := ⟨3, ![3, 512, 768]⟩
abbrev S2 : Shape := ⟨1, ![2]⟩
abbrev S4 : Shape := ⟨1, ![4]⟩
abbrev S1 : Shape := ⟨1, ![1]⟩
abbrev S_ : Shape := ⟨0, ![]⟩
abbrev S512x768 : Shape := ⟨2, ![512, 768]⟩
abbrev S2x512x768 : Shape := ⟨3, ![2, 512, 768]⟩
abbrev S1024x768 : Shape := ⟨2, ![1024, 768]⟩

abbrev nBuf : Space → Nat
  | .hbm => 20
  | .vmem => 0
  | .smem => 0
  | _ => 0

abbrev bufTy : (tb : Table) → Fin (tcTables nBuf tb) → BufTy
  | .hbm, ⟨0, _⟩ => ⟨S4x512x768, .f32⟩
  | .hbm, ⟨1, _⟩ => ⟨S3x512x768, .bf16⟩
  | .hbm, ⟨2, _⟩ => ⟨S2, .i32⟩
  | .hbm, ⟨3, _⟩ => ⟨S4, .i32⟩
  | .hbm, ⟨4, _⟩ => ⟨S1, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S4x512x768, .i1⟩
  | .hbm, ⟨9, _⟩ => ⟨S_, .f32⟩
  | .hbm, ⟨10, _⟩ => ⟨S4x512x768, .f32⟩
  | .hbm, ⟨11, _⟩ => ⟨S4x512x768, .f32⟩
  | .hbm, ⟨12, _⟩ => ⟨S_, .f32⟩
  | .hbm, ⟨13, _⟩ => ⟨S512x768, .f32⟩
  | .hbm, ⟨14, _⟩ => ⟨S3x512x768, .f32⟩
  | .hbm, ⟨15, _⟩ => ⟨S_, .f32⟩
  | .hbm, ⟨16, _⟩ => ⟨S512x768, .f32⟩
  | .hbm, ⟨17, _⟩ => ⟨S512x768, .f32⟩
  | .hbm, ⟨18, _⟩ => ⟨S2x512x768, .f32⟩
  | .hbm, ⟨19, _⟩ => ⟨S1024x768, .f32⟩
  | _, _ => ⟨S4x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== ShardOut.lean ====
abbrev S4x128x1024 : Shape := ⟨3, ![4, 128, 1024]⟩
abbrev S3x128x1024 : Shape := ⟨3, ![3, 128, 1024]⟩
abbrev S2 : Shape := ⟨1, ![2]⟩
abbrev S256x1024 : Shape := ⟨2, ![256, 1024]⟩
abbrev S1x128x1024 : Shape := ⟨3, ![1, 128, 1024]⟩
abbrev S1 : Shape := ⟨1, ![1]⟩
abbrev S128x1024 : Shape := ⟨2, ![128, 1024]⟩

abbrev nBuf : Space → Nat
  | .hbm => 3
  | .vmem => 5
  | .smem => 1
  | _ => 0

abbrev bufTy : (tb : Table) → Fin (tcTables nBuf tb) → BufTy
  | .hbm, ⟨0, _⟩ => ⟨S4x128x1024, .f32⟩
  | .hbm, ⟨1, _⟩ => ⟨S3x128x1024, .bf16⟩
  | .hbm, ⟨2, _⟩ => ⟨S256x1024, .f32⟩
  | .local _ .vmem, ⟨0, _⟩ => ⟨S1x128x1024, .f32⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S128x1024, .f32⟩
  | .local _ .smem, ⟨0, _⟩ => ⟨S2, .i32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== ShardOutIdeal.lean ====
abbrev S4x128x1024 : Shape := ⟨3, ![4, 128, 1024]⟩
abbrev S3x128x1024 : Shape := ⟨3, ![3, 128, 1024]⟩
abbrev S2 : Shape := ⟨1, ![2]⟩
abbrev S256x1024 : Shape := ⟨2, ![256, 1024]⟩
abbrev S1x128x1024 : Shape := ⟨3, ![1, 128, 1024]⟩
abbrev S1 : Shape := ⟨1, ![1]⟩
abbrev S128x1024 : Shape := ⟨2, ![128, 1024]⟩

abbrev nBuf : Space → Nat
  | .hbm => 3
  | .vmem => 5
  | .smem => 1
  | _ => 0

abbrev bufTy : (tb : Table) → Fin (tcTables nBuf tb) → BufTy
  | .hbm, ⟨0, _⟩ => ⟨S4x128x1024, .f32⟩
  | .hbm, ⟨1, _⟩ => ⟨S3x128x1024, .bf16⟩
  | .hbm, ⟨2, _⟩ => ⟨S256x1024, .f32⟩
  | .local _ .vmem, ⟨0, _⟩ => ⟨S1x128x1024, .f32⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S128x1024, .f32⟩
  | .local _ .smem, ⟨0, _⟩ => ⟨S2, .i32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== ShardOutRefIdeal.lean ====
abbrev S4x128x1024 : Shape := ⟨3, ![4, 128, 1024]⟩
abbrev S3x128x1024 : Shape := ⟨3, ![3, 128, 1024]⟩
abbrev S2 : Shape := ⟨1, ![2]⟩
abbrev S4 : Shape := ⟨1, ![4]⟩
abbrev S1 : Shape := ⟨1, ![1]⟩
abbrev S_ : Shape := ⟨0, ![]⟩
abbrev S128x1024 : Shape := ⟨2, ![128, 1024]⟩
abbrev S2x128x1024 : Shape := ⟨3, ![2, 128, 1024]⟩
abbrev S256x1024 : Shape := ⟨2, ![256, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S3x128x1024, .bf16⟩
  | .hbm, ⟨2, _⟩ => ⟨S2, .i32⟩
  | .hbm, ⟨3, _⟩ => ⟨S4, .i32⟩
  | .hbm, ⟨4, _⟩ => ⟨S1, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S4x128x1024, .i1⟩
  | .hbm, ⟨9, _⟩ => ⟨S_, .f32⟩
  | .hbm, ⟨10, _⟩ => ⟨S4x128x1024, .f32⟩
  | .hbm, ⟨11, _⟩ => ⟨S4x128x1024, .f32⟩
  | .hbm, ⟨12, _⟩ => ⟨S_, .f32⟩
  | .hbm, ⟨13, _⟩ => ⟨S128x1024, .f32⟩
  | .hbm, ⟨14, _⟩ => ⟨S3x128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S2x128x1024, .f32⟩
  | .hbm, ⟨19, _⟩ => ⟨S256x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== ShardPle.lean ====
abbrev S4x128x256 : Shape := ⟨3, ![4, 128, 256]⟩
abbrev S3x128x256 : Shape := ⟨3, ![3, 128, 256]⟩
abbrev S2 : Shape := ⟨1, ![2]⟩
abbrev S256x256 : Shape := ⟨2, ![256, 256]⟩
abbrev S1x128x256 : Shape := ⟨3, ![1, 128, 256]⟩
abbrev S1 : Shape := ⟨1, ![1]⟩
abbrev S128x256 : Shape := ⟨2, ![128, 256]⟩

abbrev nBuf : Space → Nat
  | .hbm => 3
  | .vmem => 5
  | .smem => 1
  | _ => 0

abbrev bufTy : (tb : Table) → Fin (tcTables nBuf tb) → BufTy
  | .hbm, ⟨0, _⟩ => ⟨S4x128x256, .f32⟩
  | .hbm, ⟨1, _⟩ => ⟨S3x128x256, .bf16⟩
  | .hbm, ⟨2, _⟩ => ⟨S256x256, .f32⟩
  | .local _ .vmem, ⟨0, _⟩ => ⟨S1x128x256, .f32⟩
  | .local _ .vmem, ⟨1, _⟩ => ⟨S1x128x256, .bf16⟩
  | .local _ .vmem, ⟨2, _⟩ => ⟨S1x128x256, .bf16⟩
  | .local _ .vmem, ⟨3, _⟩ => ⟨S1x128x256, .bf16⟩
  | .local _ .vmem, ⟨4, _⟩ => ⟨S128x256, .f32⟩
  | .local _ .smem, ⟨0, _⟩ => ⟨S2, .i32⟩
  | _, _ => ⟨S4x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

abbrev stage0_0 : Fin 1 → Memref sig .tc .vmem S1x128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== ShardPleRefIdeal.lean ====
abbrev S4x128x256 : Shape := ⟨3, ![4, 128, 256]⟩
abbrev S3x128x256 : Shape := ⟨3, ![3, 128, 256]⟩
abbrev S2 : Shape := ⟨1, ![2]⟩
abbrev S4 : Shape := ⟨1, ![4]⟩
abbrev S1 : Shape := ⟨1, ![1]⟩
abbrev S_ : Shape := ⟨0, ![]⟩
abbrev S128x256 : Shape := ⟨2, ![128, 256]⟩
abbrev S2x128x256 : Shape := ⟨3, ![2, 128, 256]⟩
abbrev S256x256 : Shape := ⟨2, ![256, 256]⟩

abbrev nBuf : Space → Nat
  | .hbm => 20
  | .vmem => 0
  | .smem => 0
  | _ => 0

abbrev bufTy : (tb : Table) → Fin (tcTables nBuf tb) → BufTy
  | .hbm, ⟨0, _⟩ => ⟨S4x128x256, .f32⟩
  | .hbm, ⟨1, _⟩ => ⟨S3x128x256, .bf16⟩
  | .hbm, ⟨2, _⟩ => ⟨S2, .i32⟩
  | .hbm, ⟨3, _⟩ => ⟨S4, .i32⟩
  | .hbm, ⟨4, _⟩ => ⟨S1, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S4x128x256, .i1⟩
  | .hbm, ⟨9, _⟩ => ⟨S_, .f32⟩
  | .hbm, ⟨10, _⟩ => ⟨S4x128x256, .f32⟩
  | .hbm, ⟨11, _⟩ => ⟨S4x128x256, .f32⟩
  | .hbm, ⟨12, _⟩ => ⟨S_, .f32⟩
  | .hbm, ⟨13, _⟩ => ⟨S128x256, .f32⟩
  | .hbm, ⟨14, _⟩ => ⟨S3x128x256, .f32⟩
  | .hbm, ⟨15, _⟩ => ⟨S_, .f32⟩
  | .hbm, ⟨16, _⟩ => ⟨S128x256, .f32⟩
  | .hbm, ⟨17, _⟩ => ⟨S128x256, .f32⟩
  | .hbm, ⟨18, _⟩ => ⟨S2x128x256, .f32⟩
  | .hbm, ⟨19, _⟩ => ⟨S256x256, .f32⟩
  | _, _ => ⟨S4x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== PleLoss.lean ====
abbrev S8192x1024 : Shape := ⟨2, ![8192, 1024]⟩
abbrev S8192x256 : Shape := ⟨2, ![8192, 256]⟩
abbrev S1x1024 : Shape := ⟨2, ![1, 1024]⟩
abbrev S1024x1024 : Shape := ⟨2, ![1024, 1024]⟩
abbrev S4x256x256 : Shape := ⟨3, ![4, 256, 256]⟩
abbrev S8x128 : Shape := ⟨2, ![8, 128]⟩
abbrev S8x1024 : Shape := ⟨2, ![8, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x256x256 : Shape := ⟨3, ![1, 256, 256]⟩
abbrev S256x256 : Shape := ⟨2, ![256, 256]⟩
abbrev S1x512x1024 : Shape := ⟨3, ![1, 512, 1024]⟩
abbrev S1 : Shape := ⟨1, ![1]⟩
abbrev S1x1x1 : Shape := ⟨3, ![1, 1, 1]⟩
abbrev S1024 : Shape := ⟨1, ![1024]⟩

abbrev nBuf : Space → Nat
  | .hbm => 12
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S1x1024, .f32⟩
  | .hbm, ⟨4, _⟩ => ⟨S1024x1024, .bf16⟩
  | .hbm, ⟨5, _⟩ => ⟨S4x256x256, .bf16⟩
  | .hbm, ⟨6, _⟩ => ⟨S8192x1024, .f32⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8x128, .f32⟩
  | .hbm, ⟨11, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .bf16⟩
  | .local _ .vmem, ⟨8, _⟩ => ⟨S4x256x256, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S8x128, .f32⟩
  | .local _ .vmem, ⟨18, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== PleLossRefIdeal.lean ====
abbrev S8192x1024 : Shape := ⟨2, ![8192, 1024]⟩
abbrev S8192x256 : Shape := ⟨2, ![8192, 256]⟩
abbrev S1x1024 : Shape := ⟨2, ![1, 1024]⟩
abbrev S1024x1024 : Shape := ⟨2, ![1024, 1024]⟩
abbrev S4x256x256 : Shape := ⟨3, ![4, 256, 256]⟩
abbrev S_ : Shape := ⟨0, ![]⟩
abbrev S8192 : Shape := ⟨1, ![8192]⟩
abbrev S8192x1 : Shape := ⟨2, ![8192, 1]⟩
abbrev S256x4x256 : Shape := ⟨3, ![256, 4, 256]⟩
abbrev S256x1024 : Shape := ⟨2, ![256, 1024]⟩
abbrev S1024 : Shape := ⟨1, ![1024]⟩
abbrev S8x128 : Shape := ⟨2, ![8, 128]⟩
abbrev S8x1024 : Shape := ⟨2, ![8, 1024]⟩

abbrev nBuf : Space → Nat
  | .hbm => 85
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S1x1024, .f32⟩
  | .hbm, ⟨4, _⟩ => ⟨S1024x1024, .bf16⟩
  | .hbm, ⟨5, _⟩ => ⟨S4x256x256, .bf16⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S1024x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S4x256x256, .f32⟩
  | .hbm, ⟨32, _⟩ => ⟨S256x4x256, .f32⟩
  | .hbm, ⟨33, _⟩ => ⟨S256x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S1024x1024, .f32⟩
  | .hbm, ⟨58, _⟩ => ⟨S1024x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S8192x1024, .bf16⟩
  | .hbm, ⟨80, _⟩ => ⟨S8192x1024, .bf16⟩
  | .hbm, ⟨81, _⟩ => ⟨S8192x1024, .f32⟩
  | .hbm, ⟨82, _⟩ => ⟨S8192x1024, .bf16⟩
  | .hbm, ⟨83, _⟩ => ⟨S8x128, .f32⟩
  | .hbm, ⟨84, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩

abbrev nD : Nat := 1
abbrev τ : Topo := Topo.v7x

variable {F : FTy → Type} [FloatOps F]
-- ==== ConvFwd.lean ====
abbrev S8192x3072 : Shape := ⟨2, ![8192, 3072]⟩
abbrev S8x512 : Shape := ⟨2, ![8, 512]⟩
abbrev S1x512 : Shape := ⟨2, ![1, 512]⟩
abbrev S8192x512 : Shape := ⟨2, ![8192, 512]⟩
abbrev S1024x256 : Shape := ⟨2, ![1024, 256]⟩
abbrev S8x256 : Shape := ⟨2, ![8, 256]⟩
abbrev S1x256 : Shape := ⟨2, ![1, 256]⟩

abbrev nBuf : Space → Nat
  | .hbm => 4
  | .vmem => 16
  | .smem => 0
  | _ => 0

abbrev bufTy : (tb : Table) → Fin (tcTables nBuf tb) → BufTy
  | .hbm, ⟨0, _⟩ => ⟨S8192x3072, .f32⟩
  | .hbm, ⟨1, _⟩ => ⟨S8x512, .f32⟩
  | .hbm, ⟨2, _⟩ => ⟨S1x512, .f32⟩
  | .hbm, ⟨3, _⟩ => ⟨S8192x512, .bf16⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S8x256, .f32⟩
  | .local _ .vmem, ⟨10, _⟩ => ⟨S8x256, .f32⟩
  | .local _ .vmem, ⟨11, _⟩ => ⟨S8x256, .f32⟩
  | .local _ .vmem, ⟨12, _⟩ => ⟨S1x256, .f32⟩
  | .local _ .vmem, ⟨13, _⟩ => ⟨S1x256, .f32⟩
  | .local _ .vmem, ⟨14, _⟩ => ⟨S1024x256, .bf16⟩
  | .local _ .vmem, ⟨15, _⟩ => ⟨S1024x256, .bf16⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg0
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ConvFwdRefIdeal.lean ====
abbrev S8192x3072 : Shape := ⟨2, ![8192, 3072]⟩
abbrev S8x512 : Shape := ⟨2, ![8, 512]⟩
abbrev S1x512 : Shape := ⟨2, ![1, 512]⟩
abbrev S8192x512 : Shape := ⟨2, ![8192, 512]⟩
abbrev S_ : Shape := ⟨0, ![]⟩
abbrev S8194x512 : Shape := ⟨2, ![8194, 512]⟩
abbrev S512 : Shape := ⟨1, ![512]⟩

abbrev nBuf : Space → Nat
  | .hbm => 34
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8x512, .f32⟩
  | .hbm, ⟨2, _⟩ => ⟨S1x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S_, .i32⟩
  | .hbm, ⟨8, _⟩ => ⟨S_, .f32⟩
  | .hbm, ⟨9, _⟩ => ⟨S8194x512, .f32⟩
  | .hbm, ⟨10, _⟩ => ⟨S1x512, .f32⟩
  | .hbm, ⟨11, _⟩ => ⟨S512, .f32⟩
  | .hbm, ⟨12, _⟩ => ⟨S8192x512, .f32⟩
  | .hbm, ⟨13, _⟩ => ⟨S1x512, .f32⟩
  | .hbm, ⟨14, _⟩ => ⟨S8192x512, .f32⟩
  | .hbm, ⟨15, _⟩ => ⟨S8192x512, .f32⟩
  | .hbm, ⟨16, _⟩ => ⟨S1x512, .f32⟩
  | .hbm, ⟨17, _⟩ => ⟨S512, .f32⟩
  | .hbm, ⟨18, _⟩ => ⟨S8192x512, .f32⟩
  | .hbm, ⟨19, _⟩ => ⟨S1x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S1x512, .f32⟩
  | .hbm, ⟨24, _⟩ => ⟨S512, .f32⟩
  | .hbm, ⟨25, _⟩ => ⟨S8192x512, .f32⟩
  | .hbm, ⟨26, _⟩ => ⟨S1x512, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== OutProj.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutProjRefIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutBwd.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutBwdRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradFfn.lean ====
abbrev S4x8192x704 : Shape := ⟨3, ![4, 8192, 704]⟩
abbrev S8192x1024 : Shape := ⟨2, ![8192, 1024]⟩
abbrev S4x704x1024 : Shape := ⟨3, ![4, 704, 1024]⟩
abbrev S1x4096x704 : Shape := ⟨3, ![1, 4096, 704]⟩
abbrev S4096x1024 : Shape := ⟨2, ![4096, 1024]⟩
abbrev S1x704x1024 : Shape := ⟨3, ![1, 704, 1024]⟩
abbrev S704x1024 : Shape := ⟨2, ![704, 1024]⟩
abbrev S4096x704 : Shape := ⟨2, ![4096, 704]⟩

abbrev nBuf : Space → Nat
  | .hbm => 3
  | .vmem => 6
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S4x704x1024, .f32⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S4096x1024, .bf16⟩
  | .local _ .vmem, ⟨4, _⟩ => ⟨S1x704x1024, .f32⟩
  | .local _ .vmem, ⟨5, _⟩ => ⟨S1x704x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradFfnRefIdeal.lean ====
abbrev S4x8192x704 : Shape := ⟨3, ![4, 8192, 704]⟩
abbrev S8192x1024 : Shape := ⟨2, ![8192, 1024]⟩
abbrev S4x704x1024 : Shape := ⟨3, ![4, 704, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S4x8192x704, .f32⟩
  | .hbm, ⟨3, _⟩ => ⟨S8192x1024, .f32⟩
  | .hbm, ⟨4, _⟩ => ⟨S4x704x1024, .f32⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradOut.lean ====
abbrev S8192x1024 : Shape := ⟨2, ![8192, 1024]⟩
abbrev S4x256x1024 : Shape := ⟨3, ![4, 256, 1024]⟩
abbrev S2048x256 : Shape := ⟨2, ![2048, 256]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S4x256x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .f32⟩
  | .local _ .vmem, ⟨3, _⟩ => ⟨S2048x1024, .f32⟩
  | .local _ .vmem, ⟨4, _⟩ => ⟨S1x256x1024, .f32⟩
  | .local _ .vmem, ⟨5, _⟩ => ⟨S1x256x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradOutIdeal.lean ====
abbrev S8192x1024 : Shape := ⟨2, ![8192, 1024]⟩
abbrev S4x256x1024 : Shape := ⟨3, ![4, 256, 1024]⟩
abbrev S2048x256 : Shape := ⟨2, ![2048, 256]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S4x256x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .f32⟩
  | .local _ .vmem, ⟨3, _⟩ => ⟨S2048x1024, .f32⟩
  | .local _ .vmem, ⟨4, _⟩ => ⟨S1x256x1024, .f32⟩
  | .local _ .vmem, ⟨5, _⟩ => ⟨S1x256x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradOutRefIdeal.lean ====
abbrev S8192x1024 : Shape := ⟨2, ![8192, 1024]⟩
abbrev S1024x8192 : Shape := ⟨2, ![1024, 8192]⟩
abbrev S1024x1024 : Shape := ⟨2, ![1024, 1024]⟩
abbrev S4x256x1024 : Shape := ⟨3, ![4, 256, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S1024x8192, .f32⟩
  | .hbm, ⟨4, _⟩ => ⟨S1024x1024, .f32⟩
  | .hbm, ⟨5, _⟩ => ⟨S4x256x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradGate.lean ====
abbrev S8192x1024 : Shape := ⟨2, ![8192, 1024]⟩
abbrev S4x256x1024 : Shape := ⟨3, ![4, 256, 1024]⟩
abbrev S2048x256 : Shape := ⟨2, ![2048, 256]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x256x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S1x256x1024, .f32⟩
  | .local _ .vmem, ⟨5, _⟩ => ⟨S1x256x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradGateRefIdeal.lean ====
abbrev S8192x1024 : Shape := ⟨2, ![8192, 1024]⟩
abbrev S1024x8192 : Shape := ⟨2, ![1024, 8192]⟩
abbrev S1024x1024 : Shape := ⟨2, ![1024, 1024]⟩
abbrev S4x256x1024 : Shape := ⟨3, ![4, 256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S1024x8192, .f32⟩
  | .hbm, ⟨4, _⟩ => ⟨S8192x1024, .f32⟩
  | .hbm, ⟨5, _⟩ => ⟨S1024x1024, .f32⟩
  | .hbm, ⟨6, _⟩ => ⟨S4x256x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GradIn.lean ====
abbrev S8192x1024 : Shape := ⟨2, ![8192, 1024]⟩
abbrev S8192x3072 : Shape := ⟨2, ![8192, 3072]⟩
abbrev S4x1024x768 : Shape := ⟨3, ![4, 1024, 768]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S4x1024x768, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .f32⟩
  | .local _ .vmem, ⟨5, _⟩ => ⟨S1x1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradInIdeal.lean ====
abbrev S8192x1024 : Shape := ⟨2, ![8192, 1024]⟩
abbrev S8192x3072 : Shape := ⟨2, ![8192, 3072]⟩
abbrev S4x1024x768 : Shape := ⟨3, ![4, 1024, 768]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S4x1024x768, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .f32⟩
  | .local _ .vmem, ⟨5, _⟩ => ⟨S1x1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradInRefIdeal.lean ====
abbrev S8192x1024 : Shape := ⟨2, ![8192, 1024]⟩
abbrev S8192x3072 : Shape := ⟨2, ![8192, 3072]⟩
abbrev S1024x8192 : Shape := ⟨2, ![1024, 8192]⟩
abbrev S1024x3072 : Shape := ⟨2, ![1024, 3072]⟩
abbrev S1024x4x768 : Shape := ⟨3, ![1024, 4, 768]⟩
abbrev S4x1024x768 : Shape := ⟨3, ![4, 1024, 768]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8192x1024, .f32⟩
  | .hbm, ⟨3, _⟩ => ⟨S1024x8192, .f32⟩
  | .hbm, ⟨4, _⟩ => ⟨S8192x3072, .f32⟩
  | .hbm, ⟨5, _⟩ => ⟨S1024x3072, .f32⟩
  | .hbm, ⟨6, _⟩ => ⟨S1024x4x768, .f32⟩
  | .hbm, ⟨7, _⟩ => ⟨S4x1024x768, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== GradProj.lean ====
abbrev S8192x256 : Shape := ⟨2, ![8192, 256]⟩
abbrev S8192x1024 : Shape := ⟨2, ![8192, 1024]⟩
abbrev S4x256x256 : Shape := ⟨3, ![4, 256, 256]⟩
abbrev S2048x256 : Shape := ⟨2, ![2048, 256]⟩
abbrev S1x256x256 : Shape := ⟨3, ![1, 256, 256]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S4x256x256, .f32⟩
  | .local _ .vmem, ⟨0, _⟩ => ⟨S2048x256, .f32⟩
  | .local _ .vmem, ⟨1, _⟩ => ⟨S2048x256, .f32⟩
  | .local _ .vmem, ⟨2, _⟩ => ⟨S2048x256, .bf16⟩
  | .local _ .vmem, ⟨3, _⟩ => ⟨S2048x256, .bf16⟩
  | .local _ .vmem, ⟨4, _⟩ => ⟨S1x256x256, .f32⟩
  | .local _ .vmem, ⟨5, _⟩ => ⟨S1x256x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradProjRefIdeal.lean ====
abbrev S8192x256 : Shape := ⟨2, ![8192, 256]⟩
abbrev S8192x1024 : Shape := ⟨2, ![8192, 1024]⟩
abbrev S256x8192 : Shape := ⟨2, ![256, 8192]⟩
abbrev S256x1024 : Shape := ⟨2, ![256, 1024]⟩
abbrev S256x4x256 : Shape := ⟨3, ![256, 4, 256]⟩
abbrev S4x256x256 : Shape := ⟨3, ![4, 256, 256]⟩

abbrev nBuf : Space → Nat
  | .hbm => 7
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S256x8192, .f32⟩
  | .hbm, ⟨3, _⟩ => ⟨S8192x1024, .f32⟩
  | .hbm, ⟨4, _⟩ => ⟨S256x1024, .f32⟩
  | .hbm, ⟨5, _⟩ => ⟨S256x4x256, .f32⟩
  | .hbm, ⟨6, _⟩ => ⟨S4x256x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.MemLaunch.lean ====
/-
  The launch of a program of one region whose devices write into each other's arrays without a handshake.

  Every device owns its own arrays at the start. A copy that lands in a peer's array, with no signal from that
  peer beforehand, needs the peer's array on the sender's side (or in a place both agree on) from the very start.
  So the step at launch takes the arrays of ALL devices at once, beside all their semaphores, and deals them out
  again (`hglob`). What it deals device `c` is `X c`, which enters the pipeline's invariant, and `Z c`, which stays
  outside it.
-/
module

public import Idealize.ShloMosaic.Lib.Pipeline.Launch

@[expose] public section

set_option Elab.async false

noncomputable section

namespace Idealize.ShloMosaic.Pipeline.PerCore.RDat.MemLaunch

open Idealize.ShloMosaic Idealize.ShloMosaic.TcCoe
open Idealize.SL Idealize.SL.RA
open Idealize.SL.BI (sProp bigSep bigSep_sep' bigSep_mono bigSep_congr bigSep_univ_prod)
open scoped Idealize.SL.BI
open Idealize.SL.BI.BIBase Idealize.SL.BI.Laws Idealize.SL.ProofMode Idealize.SL.Sem
open Idealize.ShloMosaic.Rounds
open PCS

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- All levels at once: from every TensorCore's cells unassigned to the one assignment `lv`. -/
theorem assign_levels (L : GSem nD τ sig → Finset Ix) (lv : GSem nD τ sig → Ix → Lvl)
    (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  refine (bigSep_mono fun c _ => lev_assign_cells (c.tc : Thread nD τ) L lv).trans <|
    (BI.bigSep_bupd _ _).trans <| BI.bupd_mono ?_
  have hnone (c : Thread nD τ) (hc : c.2 ≠ .tc) : (coreLevAts c L lv : sProp 𝕄) = BI.emp := by
    unfold coreLevAts
    rw [bigSep_congr (Ψ := fun _ : SemLoc sig => (BI.emp : sProp 𝕄)) fun sm _ => by
      rw [hL (c, sm) hc, BI.bigSep_empty], BI.bigSep_emp_const]
  have hothers : (bigSep Finset.univ fun d : Dev nD => bigSep (Finset.univ.erase Proc.tc) fun p =>
      (coreLevAts ((d, p) : Thread nD τ) L lv : sProp 𝕄)) = BI.emp := by
    rw [bigSep_congr (Ψ := fun _ : Dev nD => (BI.emp : sProp 𝕄)) fun d _ =>
      (bigSep_congr (Ψ := fun _ : Proc τ => (BI.emp : sProp 𝕄)) fun p hp => hnone (d, p) (Finset.ne_of_mem_erase hp)).trans
        (BI.bigSep_emp_const _), BI.bigSep_emp_const]
  rw [show (levAts L lv : sProp 𝕄) = bigSep Finset.univ fun c : Thread nD τ => coreLevAts c L lv
      from bigSep_univ_prod fun g : GSem nD τ sig => bigSep (L g) fun ι => levAt g ι (lv g ι),
    bigSep_threads (fun c : Thread nD τ => coreLevAts c L lv)]
  have hdrop : (bigSep Finset.univ fun c : Dev nD =>
        iprop((bigSep Finset.univ fun sm : SemLoc sig => levels ((c.tc : Thread nD τ), sm) (L ((c.tc : Thread nD τ), sm))) ∗ coreLevAts (c.tc : Thread nD τ) L lv))
      ⊢ iprop((bigSep Finset.univ fun d : Dev nD => coreLevAts (d.tc : Thread nD τ) L lv)
          ∗ bigSep Finset.univ fun d : Dev nD => bigSep (Finset.univ.erase Proc.tc) fun p => (coreLevAts ((d, p) : Thread nD τ) L lv : sProp 𝕄)) := by
    rw [hothers, bigSep_sep']
    iintro ⟨-, H⟩
    isplitl [H]; · iexact H
    iempintro
  exact hdrop

variable {Λ₀ : SL.Sem.Labels} {P : Type} [Fintype P]
variable (pcs : P → PCfg sig Λ₀ Val) (a : Dev nD → (p : P) → (pcs p).Adm)
  (rdats : (p : P) → (c : Dev nD) → RDat τ Val Ix Name U Lvl (pinD pcs a c p) c) (ι : Ix)
  (phinj : Function.Injective (cellOf (nD := nD) (pinD pcs a))) (p : P)
variable {K : Type} [Fintype K] {osem : K → SemLoc sig} (hw : WinFacts₀ (pcs p).spec) (ho : OwnSemFacts (pcs p).spec osem) (hp : PreFacts (pcs p).spec (pcs p).pre)
variable (EP : Emb (URounds (GSem nD τ sig) Unit) (MT nD τ sig Ix Val Name U Lvl))
  (defs₀ : Defs nD τ sig Val Λ₀) (𝒱₀ : Variants)

/-- The buffers behind the windows of device `c`, whole, at the contents the launch finds. -/
def winBufs (m : (ℓ : Loc nD τ sig) → Buf Val ℓ) (c : Dev nD) : sProp 𝕄 :=
  bigSep Finset.univ fun w => ((c.tc : Thread nD τ).loc (arrRef (pinD pcs a c p).spec w)) ↦{fullShare}
    m ((c.tc : Thread nD τ).loc (arrRef (pinD pcs a c p).spec w))

/-- What the launch leaves with the pipeline of device `c`: scoped buffers, its cells at zero, the idle cells, the
    windows' buffers. -/
def coreRest (m : (ℓ : Loc nD τ sig) → Buf Val ℓ) (c : Dev nD) : sProp 𝕄 :=
  iprop(scopedBufs (c.tc : Thread nD τ) ∗ cellsSems0 (pinD pcs a) p c ∗ idleSems0 (pinD pcs a) phinj p (fun _ => ho) c
    ∗ winBufs pcs a p m c)

include phinj hw ho in
/-- What one device holds at launch, sorted. -/
theorem core_parts (hdistinct : Function.Injective (arrRef (pcs p).spec))
    (m : (ℓ : Loc nD τ sig) → Buf Val ℓ) (g : Dev nD → PrngReg) (O₀ : Dev nD → CellTallies nD τ sig Ix) (c : Dev nD) :
    coreInit (Ix := Ix) (Name := Name) (U := U) (Lvl := Lvl) (owing O₀) 0 (⟨m, fun _ => 0, g⟩ : MemSt nD τ sig Val) (c.tc : Thread nD τ)
      ⊢ iprop(coreRest pcs a phinj p ho m c ∗ ownSems0 osem c ∗ unscopedSems0 c
          ∗ unscopedRest (pinD pcs a c p).spec c (fun b => m ((c.tc : Thread nD τ).loc b))
          ∗ launchCred O₀ c ∗ prngReg c (g c) ∗ owes (c.tc : Thread nD τ) (O₀ c) ∅ ∗ levels0 c) := by
  refine (coreInit_boundary_owing O₀ m g c).trans ?_
  unfold boundary coreRest winBufs
  rw [scopedSems0_split (pinD pcs a) phinj p (fun _ => hw) (fun _ => ho) c,
    unscopedBufs_split (pinD pcs a) p c hw.arr_unscoped hdistinct (fun b => m ((c.tc : Thread nD τ).loc b))]
  iintro ⟨⟨Hsc, ⟨⟨Hcells, Hos⟩, Hidle⟩, -⟩, ⟨Hw, Hr⟩, Hus, HL, Hlv, Hpr, Hcr⟩
  isplitl [Hsc Hcells Hidle Hw]
  · isplitl [Hsc]; · iexact Hsc
    isplitl [Hcells]; · iexact Hcells
    isplitl [Hidle] <;> iassumption
  isplitl [Hos]; · iexact Hos
  isplitl [Hus]; · iexact Hus
  isplitl [Hr]; · iexact Hr
  isplitl [Hcr]; · iexact Hcr
  isplitl [Hpr]; · iexact Hpr
  isplitl [HL] <;> iassumption

local notation "𝔻" => Pipeline.defs pcs defs₀
local notation "𝕍" => Variants.lift 𝒱₀

/-- What device `c` ends with. -/
def coreEnd (Y Z : Dev nD → sProp 𝕄) (c : Dev nD) : sProp 𝕄 :=
  iprop((rdats p c).arraysAt (pinD pcs a c p).N ∗ Y c ∗ Z c ∗ scopedSems0 (c.tc : Thread nD τ))

/-- What device `c` starts its program with, after the step at launch. -/
def coreStart (O₀ : Dev nD → CellTallies nD τ sig Ix) (L : GSem nD τ sig → Finset Ix) (lv : GSem nD τ sig → Ix → Lvl)
    (m : (ℓ : Loc nD τ sig) → Buf Val ℓ) (X Z : Dev nD → sProp 𝕄) (c : Dev nD) : sProp 𝕄 :=
  iprop(coreRest pcs a phinj p ho m c ∗ owes (c.tc : Thread nD τ) (O₀ c) ∅ ∗ levAts L lv
    ∗ cellsGhost (pinD pcs a) EP p c ∗ toksInit (pinD pcs a) EP p c ∗ X c ∗ Z c)

include phinj hw ho in
/-- One device's program, from what the launch dealt it to what it ends with. -/
theorem core_run [DecidableEq P] [Preorder Lvl] [∀ e, Nonempty (Val e)] [Infinite Name]
    [EP.LandsIn (upEmb : UEmb _ 𝕄)]
    (m : (ℓ : Loc nD τ sig) → Buf Val ℓ)
    (prog : Prog (TpuEff nD τ sig Val (Sig Λ₀ P fun p => (pcs p).Adm) .tc) PUnit) (c : Dev nD)
    (hprog : prog = .op (.customCall (entry p) ()) fun _ => .ret ⟨⟩)
    (hpre : IsEmpty (Fin (pcs p).pre.K))
    (hbody : (rdats p c).BodyObligation defs₀ 𝒱₀ ι Set.univ)
    (hne : ∀ w : Fin (pcs p).W, 0 < ((pcs p).spec w).block.numel)
    (harr : ∀ w, ((pcs p).spec w).arr.IsWhole) (hstage : ∀ w s, (((pcs p).spec w).stage s).IsWhole)
    (hshare : ∀ w, (rdats p c).share w = fullShare)
    (O₀ : Dev nD → CellTallies nD τ sig Ix) (howed₀ : (rdats p c).owed 0 = O₀ c) (howedN : (rdats p c).owed (Fin.last _) = 0)
    (L : GSem nD τ sig → Finset Ix) (lv : GSem nD τ sig → Ix → Lvl)
    (hwaits : (levAts L lv : sProp 𝕄) ⊢ cellsWaits (pinD pcs a) rdats ι p c)
    (hA : ∀ w, (rdats p c).A w = m (((pinD pcs a c p).spec w).arr.view.loc (c.tc : Thread nD τ)))
    (X Y Z : Dev nD → sProp 𝕄)
    (hin : iprop(X c ∗ scopedRest (pinD pcs a c p).spec c) ⊢ (rdats p c).Φ 0)
    (hout : (rdats p c).Φ (Fin.last (pinD pcs a c p).N) ⊢ iprop(Y c ∗ ownSems0 osem c ∗ scopedRest (pinD pcs a c p).spec c)) :
    coreStart pcs a phinj p ho EP O₀ L lv m X Z c
      ⊢ wp frame (wpE 𝔻 𝕍 (c.tc : Thread nD τ) none) Set.univ prog
          fun _ => post (liftTc (coreEnd pcs a rdats p Y Z) BI.emp) (c.tc : Thread nD τ) := by
  have hss := scopedSems0_split (pinD pcs a) phinj p (fun _ => hw) (fun _ => ho) (Ix := Ix) (Val := Val) (Name := Name) (U := U) (Lvl := Lvl) c
  have hsb := scopedBufs_split (pinD pcs a) p c hw.stage_scoped hw.stage_inj hstage (nD := nD) (τ := τ) (Ix := Ix) (Val := Val) (Name := Name) (U := U) (Lvl := Lvl)
  have hwin : (winBufs pcs a p m c : sProp 𝕄) = (rdats p c).arrays (rdats p c).A := by
    unfold winBufs
    rw [arrays_eq pcs a rdats p c harr hshare]
    exact bigSep_congr fun w _ => by rw [hA]
  have htab : (BI.emp : sProp 𝕄) ⊢ prefHeld (pcs p).pre c (fun _ => fullShare.right) (a c p).1 := by
    unfold prefHeld
    rw [Finset.univ_eq_empty, BI.bigSep_empty]
  have hin' : iprop(X c ∗ prefHeld (pcs p).pre c (fun _ => fullShare.right) (a c p).1 ∗ scopedRest (pinD pcs a c p).spec c) ⊢ (rdats p c).Φ 0 := by
    iintro ⟨HX, -, Hr⟩
    iapply hin
    isplitl [HX] <;> iassumption
  have hout' : iprop((rdats p c).Φ (Fin.last (pinD pcs a c p).N) ∗ cellsSems0 (pinD pcs a) p c ∗ Dat.staging (pinD pcs a c p) c ∗ idleSems0 (pinD pcs a) phinj p (fun _ => ho) c)
      ⊢ iprop(Y c ∗ scopedSems0 (c.tc : Thread nD τ) ∗ scopedBufs (c.tc : Thread nD τ)) := by
    rw [hss, hsb]
    iintro ⟨HΦ, Hcells, Hst, Hidle⟩
    ihave H := hout $$ HΦ
    icases H with ⟨HY, Hos, Hrest⟩
    isplitl [HY]; · iexact HY
    isplitl [Hcells Hos Hidle]
    · isplitl [Hcells Hos]; · isplitl [Hcells] <;> iassumption
      iexact Hidle
    isplitl [Hst] <;> iassumption
  have hend : EntryPost (pinD pcs a) rdats ι p c
      ⊢ iprop((rdats p c).arraysAt (pinD pcs a c p).N ∗ ∃ W, owes (c.tc : Thread nD τ) (0 : CellTallies nD τ sig Ix) W) := by
    unfold EntryPost RDat.owesAt owesWithin
    rw [howedN]
    iintro ⟨Ha, ⟨%W, -, HW⟩⟩
    isplitl [Ha]; · iexact Ha
    iexists W; iexact HW
  subst hprog
  unfold coreStart coreRest
  rw [hwin]
  iintro ⟨⟨Hsc, Hcells, Hidle, Harr⟩, HL, #Hla, Hg, Ht, HX, HZ⟩
  ihave Hw := hwaits $$ Hla
  iapply (fupd_wp frame (wpE 𝔻 𝕍 (c.tc : Thread nD τ) none) Set.univ _ _)
  imod (cellsInit_alloc (pinD pcs a) rdats EP phinj p c) $$ [Hcells Hg] with ⟨%κ, -, Hinit⟩
  · isplitl [Hcells] <;> iassumption
  imodintro
  iapply (wp_customCall_entry_frame pcs a rdats ι EP κ phinj p defs₀ 𝒱₀ (fun _ => fullShare.right) c Set.univ (fun _ _ => Set.mem_univ _)
      hbody hne none (fun u h => nomatch h) (X := X c) (Y := Y c) (R := scopedRest (pinD pcs a c p).spec c) (I := idleSems0 (pinD pcs a) phinj p (fun _ => ho) c)
      (Entails.of_eq hsb) hin' hout'
      (k := fun _ => .ret ⟨⟩) (Q := fun _ => post (liftTc (coreEnd pcs a rdats p Y Z) BI.emp) (c.tc : Thread nD τ))) $$ [Harr HL Hinit Ht HX Hidle Hsc Hw]
  · isplitl [Harr HL Hinit Ht Hw]
    · unfold EntryPre RDat.owesAt owesWithin
      rw [howed₀]
      isplitl [Harr]; · iexact Harr
      isplitl [HL]
      · iexists ∅; isplitr; · ipureintro; rw [Finset.coe_empty]; exact Set.empty_subset _
        iexact HL
      isplitl [Hw]; · iexact Hw
      isplitl [Hinit] <;> iassumption
    isplitr; · iapply htab; iempintro
    isplitl [HX]; · iexact HX
    isplitl [Hidle]; · iexact Hidle
    iexact Hsc
  iintro ⟨Hpost, HY, Hss, -⟩
  rw [wp_ret]; imodintro
  unfold post; simp only [liftTc_tc, coreEnd]
  ihave Hp := hend $$ Hpost
  icases Hp with ⟨Ha, HW⟩
  isplitr [HW]
  · isplitl [Ha]; · iexact Ha
    isplitl [HY]; · iexact HY
    isplitl [HZ] <;> iassumption
  · iexact HW

/-- What one device ends with, read against a final state. -/
theorem core_read [Preorder Lvl] [∀ e, Nonempty (Val e)] (c : Dev nD) (harr : ∀ w, ((pcs p).spec w).arr.IsWhole)
    (Y Z : Dev nD → sProp 𝕄) (QY : Dev nD → MemSt nD τ sig Val → Prop)
    (hY : ∀ s' : Phys nD τ sig Val, iprop(Y c ∗ Z c ∗ SI s') ⊢ |={Set.univ}=> iprop(⌜QY c s'.mem⌝ ∗ SI s'))
    (s' : Phys nD τ sig Val) :
    iprop(coreEnd pcs a rdats p Y Z c ∗ SI s') ⊢ |={Set.univ}=>
      iprop(⌜((∀ w, (rdats p c).ArrAt w (pinD pcs a c p).N (s'.mem.mem (((pinD pcs a c p).spec w).arr.view.loc (c.tc : Thread nD τ)))) ∧ QY c s'.mem)
        ∧ ∀ sm : SemLoc sig, sm.isScoped .tc = true → s'.mem.sem ((c.tc : Thread nD τ), sm) = 0⌝ ∗ SI s') := by
  unfold coreEnd
  iintro ⟨⟨Ha, HY, HZ, Hss⟩, HSI⟩
  ihave %hz := (tcScoped_read_pers c s') $$ [Hss HSI]
  · isplitl [Hss] <;> iassumption
  ihave Hr := (arraysAt_read pcs a rdats p c harr (pinD pcs a c p).N s') $$ [Ha HSI]
  · isplitl [Ha] <;> iassumption
  icases Hr with ⟨%ha, HSI⟩
  imod (hY s') $$ [HY HZ HSI] with ⟨%hy, HSI⟩
  · isplitl [HY]; · iexact HY
    isplitl [HZ] <;> iassumption
  imodintro
  isplitr
  · ipureintro; exact ⟨⟨ha, hy⟩, hz⟩
  · iexact HSI

include phinj hw ho in
/-- The run of a program of one region, every device's arrays and semaphores dealt at launch in one step. -/
theorem run_rel [DecidableEq P] [Preorder Lvl] [∀ e, Nonempty (Val e)] [Infinite Name]
    [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    (hmain : ∀ c, main c = .op (.customCall (entry p) ()) fun _ => .ret ⟨⟩)
    (hpre : IsEmpty (Fin (pcs p).pre.K))
    (hbody : ∀ c, (rdats p c).BodyObligation defs₀ 𝒱₀ ι Set.univ)
    (hne : ∀ w : Fin (pcs p).W, 0 < ((pcs p).spec w).block.numel)
    (harr : ∀ w, ((pcs p).spec w).arr.IsWhole) (hstage : ∀ w s, (((pcs p).spec w).stage s).IsWhole)
    (hshare : ∀ c w, (rdats p c).share w = fullShare) (hdistinct : Function.Injective (arrRef (pcs p).spec))
    (O₀ : Dev nD → CellTallies nD τ sig Ix) (howed₀ : ∀ c, (rdats p c).owed 0 = O₀ c) (howedN : ∀ c, (rdats p c).owed (Fin.last _) = 0)
    (L : GSem nD τ sig → Finset Ix) (lv : GSem nD τ sig → Ix → Lvl) (hL : ∀ g : GSem nD τ sig, g.1.2 ≠ .tc → L g = ∅)
    (hwaits : ∀ c, (levAts L lv : sProp 𝕄) ⊢ cellsWaits (pinD pcs a) rdats ι p c)
    (G : sProp 𝕄) (u₀ : U)
    (hu₀ : (ownU u₀ : sProp 𝕄)
      ⊢ |={Set.univ}=> iprop(BI.own (EP (initOf (cells (pinD pcs a) phinj) (launchToks (pinD pcs a) phinj))) ∗ G))
    (hA : ∀ c w, (rdats p c).A w = m (((pinD pcs a c p).spec w).arr.view.loc (c.tc : Thread nD τ)))
    (X Y Z : Dev nD → sProp 𝕄)
    (hglob : iprop((bigSep Finset.univ fun c => iprop(ownSems0 osem c ∗ unscopedSems0 c
          ∗ unscopedRest (pinD pcs a c p).spec c (fun b => m ((c.tc : Thread nD τ).loc b)) ∗ launchCred O₀ c ∗ prngReg c (g c)))
        ∗ G ∗ levAts L lv)
      ⊢ |={Set.univ}=> (bigSep Finset.univ fun c => iprop(X c ∗ Z c) : sProp 𝕄))
    (hin : ∀ c, iprop(X c ∗ scopedRest (pinD pcs a c p).spec c) ⊢ (rdats p c).Φ 0)
    (hout : ∀ c, (rdats p c).Φ (Fin.last (pinD pcs a c p).N) ⊢ iprop(Y c ∗ ownSems0 osem c ∗ scopedRest (pinD pcs a c p).spec c))
    (QY : Dev nD → MemSt nD τ sig Val → Prop)
    (hY : ∀ c (s' : Phys nD τ sig Val), iprop(Y c ∗ Z c ∗ SI s') ⊢ |={Set.univ}=> iprop(⌜QY c s'.mem⌝ ∗ SI s'))
    {Q : PUnit × MemSt nD τ sig Val → Prop}
    (hQ : ∀ s : MemSt nD τ sig Val,
      (∀ c : Dev nD, (∀ w, (rdats p c).ArrAt w (pinD pcs a c p).N (s.mem (((pinD pcs a c p).spec w).arr.view.loc (c.tc : Thread nD τ)))) ∧ QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  refine (θ_run 𝔻 _ _).mono (Q := fun r => (∀ c : Dev nD, ((∀ w, (rdats p c).ArrAt w (pinD pcs a c p).N (r.2.mem (((pinD pcs a c p).spec w).arr.view.loc (c.tc : Thread nD τ)))) ∧ QY c r.2)
      ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀
      (fun _ => coreStart pcs a phinj p ho EP O₀ L lv m X Z) (fun _ => coreEnd pcs a rdats p Y Z)
      (fun _ => iprop(emp)) Set.univ ?_ (fun _ c => ?_) fun _ => ?_))
  · have hcores : (bigSep Finset.univ fun c : Dev nD => coreInit (Ix := Ix) (Name := Name) (U := U) (Lvl := Lvl) (owing O₀) 0 (⟨m, fun _ => 0, g⟩ : MemSt nD τ sig Val) (c.tc : Thread nD τ)) ⊢ _ :=
      bigSep_mono (s := Finset.univ) fun (c : Dev nD) _ => core_parts (Ix := Ix) (Name := Name) (U := U) (Lvl := Lvl) pcs a phinj p hw ho hdistinct m g O₀ c
    have hown (Φ : P → Dev nD → sProp 𝕄) :
        (bigSep Finset.univ fun c : Dev nD => bigSep Finset.univ fun p' => Φ p' c) ⊢ bigSep Finset.univ fun c : Dev nD => Φ p c :=
      bigSep_mono fun c _ => BI.bigSep_elim (Finset.mem_univ p)
    simp only [bigSep_sep'] at hcores hglob
    iintro ⟨Hcores, Hu⟩
    ihave Hc := hcores $$ Hcores
    icases Hc with ⟨Hrest, Hos, Hus, Hm, Hcr, Hpr, HL, Hlv⟩
    imod (assign_levels L lv hL) $$ Hlv with #Hla
    imod hu₀ $$ Hu with ⟨HP, HG⟩
    imod (fund_ghost (pinD pcs a) EP phinj) $$ HP with ⟨Hg, Ht⟩
    imod hglob $$ [Hos Hus Hm Hcr Hpr HG] with ⟨HX, HZ⟩
    · isplitl [Hos Hus Hm Hcr Hpr]
      · isplitl [Hos]; · iexact Hos
        isplitl [Hus]; · iexact Hus
        isplitl [Hm]; · iexact Hm
        isplitl [Hcr] <;> iassumption
      isplitl [HG]; · iexact HG
      iexact Hla
    imodintro
    iexists ()
    isplitr []
    · unfold coreStart; simp only [bigSep_sep']
      isplitl [Hrest]; · iexact Hrest
      isplitl [HL]; · iexact HL
      isplitr; · iapply (BI.bigSep_intro_persistent (S := Finset.univ) fun (c : Dev nD) _ => (BI.Entails.refl (levAts L lv : sProp 𝕄))); iexact Hla
      isplitl [Hg]; · iapply (hown fun p' c => cellsGhost (pinD pcs a) EP p' c); iexact Hg
      isplitl [Ht]; · iapply (hown fun p' c => toksInit (pinD pcs a) EP p' c); iexact Ht
      isplitl [HX] <;> iassumption
    · iempintro
  · exact core_run pcs a rdats ι phinj p hw ho EP defs₀ 𝒱₀ m (main c) c (hmain c) hpre (hbody c) hne harr hstage (hshare c)
      O₀ (howed₀ c) (howedN c) L lv (hwaits c) (hA c) X Y Z (hin c) (hout c)
  · iintro ⟨H, -, Hsc⟩ %s' HSI
    ihave %hsc := (scSems_read_zero m g s') $$ [Hsc HSI]
    · isplitl [Hsc] <;> iassumption
    imod (posts_fupd Finset.univ (fun c s' => core_read pcs a rdats p c harr Y Z QY (hY c) s') s') $$ [H HSI] with %h
    · isplitl [H] <;> iassumption
    imodintro
    ipureintro
    exact ⟨fun c => h c (Finset.mem_univ c), hsc⟩

end Idealize.ShloMosaic.Pipeline.PerCore.RDat.MemLaunch

namespace Idealize.ShloMosaic.Pipeline.MemLaunch

open Idealize.ShloMosaic Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Rounds
open PCS

variable {nD : Nat} {τ : Topo} {sig : RefSig} {Val : EltTy → Type}
variable {Ix : Type} [DecidableEq Ix] {Name : Type} [DecidableEq Name] {U : Type} [URA U] {Lvl : Type}
variable {Λ₀ : SL.Sem.Labels} {P : Type} [Fintype P]
variable (pcs : P → PCfg sig Λ₀ Val) (a : (p : P) → (pcs p).Adm)
  (pdats : (p : P) → (c : Dev nD) → Dat τ Val Ix Name U Lvl (pin pcs a p) c) (ι : Ix)
  (phinj : Function.Injective (cellOf (nD := nD) (τ := τ) (pin pcs a))) (p : P)
variable {K : Type} [Fintype K] {osem : K → SemLoc sig} (hw : WinFacts₀ (pcs p).spec) (ho : OwnSemFacts (pcs p).spec osem)
variable (EP : Emb (URounds (GSem nD τ sig) Unit) (MT nD τ sig Ix Val Name U Lvl))
  (defs₀ : Defs nD τ sig Val Λ₀) (𝒱₀ : Variants)

local notation "𝕄" => MT nD τ sig Ix Val Name U Lvl

include phinj hw ho in
/-- `run_rel` for one configuration on every device and proof data that name the contents. -/
theorem run [DecidableEq P] [Preorder Lvl] [∀ e, Nonempty (Val e)] [Infinite Name]
    [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    (hmain : ∀ c, main c = .op (.customCall (entry p) ()) fun _ => .ret ⟨⟩)
    (hpre : IsEmpty (Fin (pcs p).pre.K))
    (hbody : ∀ c, BodyObligationLoose (pdats p c) defs₀ 𝒱₀ ι Set.univ)
    (hne : ∀ w : Fin (pcs p).W, 0 < ((pcs p).spec w).block.numel)
    (harr : ∀ w, ((pcs p).spec w).arr.IsWhole) (hstage : ∀ w s, (((pcs p).spec w).stage s).IsWhole)
    (hshare : ∀ c w, (pdats p c).share w = fullShare) (hdistinct : Function.Injective (arrRef (pcs p).spec))
    (O₀ : Dev nD → CellTallies nD τ sig Ix) (howed₀ : ∀ c, (pdats p c).owed 0 = O₀ c) (howedN : ∀ c, (pdats p c).owed (Fin.last _) = 0)
    (L : GSem nD τ sig → Finset Ix) (lv : GSem nD τ sig → Ix → Lvl) (hL : ∀ g : GSem nD τ sig, g.1.2 ≠ .tc → L g = ∅)
    (hwaits : ∀ c, (levAts L lv : sProp 𝕄) ⊢ cellsWaits (pin pcs a) pdats ι p c)
    (G : sProp 𝕄) (u₀ : U)
    (hu₀ : (ownU u₀ : sProp 𝕄)
      ⊢ |={Set.univ}=> iprop(BI.own (EP (initOf (cells (pin pcs a) phinj) (launchToks (pin pcs a) phinj))) ∗ G))
    (hA : ∀ c w, (pdats p c).A w = m (((pin pcs a p).spec w).arr.view.loc (c.tc : Thread nD τ)))
    (X Y Z : Dev nD → sProp 𝕄)
    (hglob : iprop((bigSep Finset.univ fun c => iprop(ownSems0 osem c ∗ unscopedSems0 c
          ∗ unscopedRest (pin pcs a p).spec c (fun b => m ((c.tc : Thread nD τ).loc b)) ∗ launchCred O₀ c ∗ prngReg c (g c)))
        ∗ G ∗ levAts L lv)
      ⊢ |={Set.univ}=> (bigSep Finset.univ fun c => iprop(X c ∗ Z c) : sProp 𝕄))
    (hin : ∀ c, iprop(X c ∗ scopedRest (pin pcs a p).spec c) ⊢ (pdats p c).Φ 0)
    (hout : ∀ c, (pdats p c).Φ (Fin.last (pin pcs a p).N) ⊢ iprop(Y c ∗ ownSems0 osem c ∗ scopedRest (pin pcs a p).spec c))
    (QY : Dev nD → MemSt nD τ sig Val → Prop)
    (hY : ∀ c (s' : Phys nD τ sig Val), iprop(Y c ∗ Z c ∗ SI s') ⊢ |={Set.univ}=> iprop(⌜QY c s'.mem⌝ ∗ SI s'))
    {Q : PUnit × MemSt nD τ sig Val → Prop}
    (hQ : ∀ s : MemSt nD τ sig Val,
      (∀ c : Dev nD, (∀ w, s.mem (((pin pcs a p).spec w).arr.view.loc (c.tc : Thread nD τ)) = (pdats p c).arrAt w (pin pcs a p).N) ∧ QY c s) →
      (∀ g' : GSem nD τ sig, (g'.1.2 ≠ .tc ∨ g'.2.isScoped .tc = true) → s.sem g' = 0) → Q (⟨⟩, s)) :
    θ_run (Pipeline.defs pcs defs₀) (onTc main) ⟨m, fun _ => 0, g⟩ Q :=
  PerCore.RDat.MemLaunch.run_rel pcs (fun _ => a) (Dat.toRs pdats) ι phinj p hw ho EP defs₀ 𝒱₀ m g main hmain hpre
    (fun c => (hbody c).toR) hne harr hstage hshare hdistinct O₀ howed₀ howedN L lv hL hwaits G u₀ hu₀ hA X Y Z hglob hin hout QY hY
    fun s h hs => hQ s (fun c => ⟨fun w => ((pdats p c).toR_arrAt_iff w _ _).mp ((h c).1 w), (h c).2⟩) hs

end Idealize.ShloMosaic.Pipeline.MemLaunch

end
-- ==== Proof.Exchange.lean ====
/-
  One round of copies between paired devices, for any table of copies.

  A table names the copies `i : I`. In copy `i` every device sends one block to its partner `peer i c`, and so
  receives one from it. The copy has its own sending and its own receiving semaphore on every device. Nothing is
  signalled beforehand: the landing places are handed to the senders at launch. Each semaphore is raised once and
  waited for once.

  The state of a device is either `Sending c S` (the copies in `S` are still to start) or `Waiting c T` (the
  semaphores in `T` are still to be waited for). The two rules move one copy out of `S`, or one semaphore out of `T`.
-/
module

public import Idealize.ShloMosaic.Lib.Pipeline.Launch
public import Idealize.ShloMosaic.Lib.Pipeline.Kit
public import Idealize.ShloMosaic.Lib.Tactic

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The copies of one kernel: who is whose partner, and which semaphores and how many units each copy uses. -/
structure Table (sig : RefSig) (nD : Nat) (I : Type) where
  peer : I → Dev nD → Dev nD
  snd : I → SemLoc sig
  rcv : I → SemLoc sig
  amt : I → ℕ
  back : ∀ i c, peer i (peer i c) = c
  inj : Function.Injective (Sum.elim snd rcv)
  pos : ∀ i, 0 < amt i

variable {sig : RefSig} {nD : Nat} {τ : Topo} {I : Type} [Fintype I] [DecidableEq I]
variable {Val : EltTy → Type} {U : Type} [URA U]

local notation "𝕄" => MT nD τ sig Unit Val ℕ U ℕ

variable (T : Table sig nD I)

/-- The semaphores of a copy: its sending one and its receiving one. -/
abbrev Table.sem (s : I ⊕ I) : SemLoc sig := Sum.elim T.snd T.rcv s
/-- The copy of a semaphore. -/
abbrev copyOf (s : I ⊕ I) : I := Sum.elim id id s
/-- A device's semaphore as a cell of the machine. -/
abbrev Table.cell (x : Dev nD × (I ⊕ I)) : GSem nD τ sig := ((x.1.tc : Thread nD τ), T.sem x.2)

omit [Fintype I] [DecidableEq I] in
theorem Table.cell_inj : Function.Injective (T.cell : Dev nD × (I ⊕ I) → GSem nD τ sig) := by
  rintro ⟨c, s⟩ ⟨c', s'⟩ h
  obtain rfl : c = c' := congrArg (fun g : GSem nD τ sig => g.1.1) h
  obtain rfl : s = s' := T.inj (congrArg Prod.snd h)
  rfl

/-- A copy's partner map as a permutation of the devices. -/
def Table.swap (i : I) : Dev nD ≃ Dev nD := ⟨T.peer i, T.peer i, T.back i, T.back i⟩

/-- What device `c` owes its partners for the copies in `S`. -/
def Table.dues (c : Dev nD) (S : Finset I) : CellTallies nD τ sig Unit :=
  ∑ i ∈ S, tallyAt (T.cell (τ := τ) (T.peer i c, .inr i)) () (T.amt i)

/-- Only TensorCore semaphores are levelled; a receiving semaphore is above every other one. -/
def tcOnly (g : GSem nD τ sig) : Finset Unit := if g.1.2 = .tc then {()} else ∅
open Classical in
def Table.level (g : GSem nD τ sig) (_ : Unit) : ℕ := if ∃ i, g.2 = T.rcv i then 1 else 0
omit [Fintype I] [DecidableEq I] in
theorem tcOnly_of_ne (g : GSem nD τ sig) (h : g.1.2 ≠ .tc) : tcOnly g = ∅ := if_neg h

omit [Fintype I] [DecidableEq I] in
theorem Table.dues_pos {c : Dev nD} {S : Finset I} {g : GSem nD τ sig} {u : Unit} (h : 0 < T.dues c S g u) :
    ∃ i, g = T.cell (τ := τ) (T.peer i c, .inr i) := by
  by_contra hn
  unfold Table.dues at h
  rw [Finset.sum_apply, Finsupp.finsetSum_apply, Finset.sum_eq_zero fun i _ => ?_] at h
  · exact Nat.lt_irrefl 0 h
  · rw [tallyAt_apply, if_neg fun h' => hn ⟨i, h'.1⟩]

/-- A semaphore that receives nothing may be waited for while copies are still owed. -/
theorem Table.mayWait (c : Dev nD) (q : DmaSem sig) (hq : ∀ i, SemLoc.dma q ≠ T.rcv i) (S : Finset I) :
    (levAts tcOnly T.level : sProp 𝕄) ⊢ MayWait (c.tc : Thread nD τ) (.dma q) () (T.dues c S) := by
  refine MayOwe.of_cut (L := tcOnly) (lev := T.level) 0 (fun p hp => ?_) (fun g u hg => ?_) (fun p hp => ?_) (fun g u hg => ?_)
  · rw [Finset.mem_singleton.mp hp]; exact Finset.mem_singleton_self _
  · obtain ⟨i, rfl⟩ := T.dues_pos hg; exact Finset.mem_singleton_self _
  · rw [Finset.mem_singleton.mp hp]; unfold Table.level; rw [if_neg fun ⟨i, h⟩ => hq i h]
  · obtain ⟨i, rfl⟩ := T.dues_pos hg; unfold Table.level; rw [if_pos ⟨i, rfl⟩]; exact Nat.one_pos

theorem Table.dues_erase (c : Dev nD) {S : Finset I} {i : I} (hi : i ∈ S) :
    (T.dues c S : CellTallies nD τ sig Unit) = T.dues c (S.erase i) + tallyAt (T.cell (T.peer i c, .inr i)) () (T.amt i) :=
  (Finset.sum_erase_add S _ hi).symm
omit [Fintype I] [DecidableEq I] in
theorem Table.dues_empty (c : Dev nD) : (T.dues c ∅ : CellTallies nD τ sig Unit) = 0 := Finset.sum_empty

/-- A device owes `O`, whatever it has waited for so far. -/
def owing (c : Dev nD) (O : CellTallies nD τ sig Unit) : sProp 𝕄 := iprop(∃ W, owes (c.tc : Thread nD τ) O W)

/-- An array in two half shares: one whole, the other only on the elements `S`. -/
theorem lend {ℓ : Loc nD τ sig} {q : PosShare TreeShare} (S : Finset (Idx ℓ)) (f : Buf Val ℓ) :
    (ℓ ↦{q} f : sProp 𝕄) ⊢ iprop((ℓ ↦{q.left} f) ∗ ℓ ↦[S]{q.right} f) := by
  iintro H
  ihave H := (pointsTo_share (PosShare.mem_left_op_right q)).1 $$ H
  icases H with ⟨Hl, Hr⟩
  isplitl [Hl]; · iexact Hl
  ihave H := (pointsTo_split_subset (Finset.subset_univ S)).1 $$ Hr
  icases H with ⟨H, -⟩
  iexact H

/-- A whole array read against the machine's state. -/
theorem read_whole {ℓ : Loc nD τ sig} {q : PosShare TreeShare} (f : Buf Val ℓ) (s' : Phys nD τ sig Val) :
    iprop((ℓ ↦{q} f : sProp 𝕄) ∗ SI s') ⊢ iprop(⌜s'.mem.mem ℓ = f⌝ ∗ SI s') := by
  iintro ⟨H, HSI⟩
  icombine HSI H gives %h
  isplitr
  · ipureintro; exact Buf.eq_of_forall_mem_univ h
  iexact HSI

/-- Some elements of an array read against the machine's state. -/
theorem read_some {ℓ : Loc nD τ sig} {q : PosShare TreeShare} {S : Finset (Idx ℓ)} (f : Buf Val ℓ) (s' : Phys nD τ sig Val) :
    iprop((ℓ ↦[S]{q} f : sProp 𝕄) ∗ SI s') ⊢ iprop(⌜∀ j ∈ S, s'.mem.mem ℓ j = f j⌝ ∗ SI s') := by
  iintro ⟨H, HSI⟩
  icombine HSI H gives %h
  isplitr
  · ipureintro; exact h
  iexact HSI

/-! ## The schedule -/

/-- What each copy moves: `src` is what the sender lends and gets back, `landed` what the receiver gets, `room` the
    place where it lands. -/
structure Goods (τ : Topo) (sig : RefSig) (nD : Nat) (I : Type) (Val : EltTy → Type) (U : Type) [URA U] where
  src : I → Dev nD → sProp (MT nD τ sig Unit Val ℕ U ℕ)
  landed : I → Dev nD → sProp (MT nD τ sig Unit Val ℕ U ℕ)
  room : I → Dev nD → sProp (MT nD τ sig Unit Val ℕ U ℕ)
  src_storable : ∀ i c, BI.Storable (upEmb : UEmb _ (MT nD τ sig Unit Val ℕ U ℕ)) (src i c)
  landed_storable : ∀ i c, BI.Storable (upEmb : UEmb _ (MT nD τ sig Unit Val ℕ U ℕ)) (landed i c)

variable (P : Goods τ sig nD I Val U)

/-- What a semaphore hands over when it has been waited for. -/
def Goods.pay (x : Dev nD × (I ⊕ I)) : sProp 𝕄 :=
  match x.2 with
  | .inl i => P.src i x.1
  | .inr i => P.landed i x.1

instance (x : Dev nD × (I ⊕ I)) : BI.Storable (upEmb : UEmb _ 𝕄) (P.pay x) := by
  obtain ⟨c, i | i⟩ := x
  · exact P.src_storable i c
  · exact P.landed_storable i c

open Classical in
/-- One duty per cell of the table, in round 0. -/
def sched : Rounds.Schedule (GSem nD τ sig) Unit 𝕄 where
  duties g r := if r = 0 ∧ ∃ x, T.cell x = g then {()} else ∅
  unitless _ := False
  amount g _ _ := if h : ∃ x, T.cell x = g then T.amt (copyOf h.choose.2) else 1
  payload g _ _ := if h : ∃ x, T.cell x = g then P.pay h.choose else iprop(emp)
  amount_pos g _ _ _ := by
    split
    · exact T.pos _
    · exact Nat.one_pos

omit [Fintype I] [DecidableEq I] in
theorem choose_eq (x : Dev nD × (I ⊕ I)) (h : ∃ y, (T.cell y : GSem nD τ sig) = T.cell x) : h.choose = x := T.cell_inj h.choose_spec

instance (g : GSem nD τ sig) (r : ℕ) (d : Unit) : BI.Storable (upEmb : UEmb _ 𝕄) ((sched T P).payload g r d) := by
  unfold sched; dsimp only; split <;> infer_instance

theorem duties_cell (x : Dev nD × (I ⊕ I)) : (sched T P).duties (T.cell x) 0 = {()} := by
  dsimp only [sched]; exact if_pos ⟨rfl, x, rfl⟩
theorem duties_later (g : GSem nD τ sig) : ∀ r, 0 + 1 ≤ r → (sched T P).duties g r = ∅ :=
  fun r hr => by dsimp only [sched]; exact if_neg fun h => by omega
theorem amount_cell (x : Dev nD × (I ⊕ I)) (u : Unit) : (sched T P).amount (T.cell x) 0 u = T.amt (copyOf x.2) := by
  have h : ∃ y, (T.cell y : GSem nD τ sig) = T.cell x := ⟨x, rfl⟩
  dsimp only [sched]; rw [dif_pos h, choose_eq T x h]
theorem payload_cell (x : Dev nD × (I ⊕ I)) (u : Unit) : (sched T P).payload (T.cell x) 0 u = P.pay x := by
  have h : ∃ y, (T.cell y : GSem nD τ sig) = T.cell x := ⟨x, rfl⟩
  dsimp only [sched]; rw [dif_pos h, choose_eq T x h]
theorem expect_cell (x : Dev nD × (I ⊕ I)) : (sched T P).expect (T.cell x) 0 = T.amt (copyOf x.2) := by
  unfold Schedule.expect Schedule.amountOf; rw [duties_cell, Finset.sum_singleton, amount_cell]
theorem rest_cell (x : Dev nD × (I ⊕ I)) :
    bigSep ((sched T P).duties (T.cell x) 0 \ ∅) (fun u => (sched T P).payload (T.cell x) 0 u) = P.pay x := by
  rw [Finset.sdiff_empty, duties_cell, bigSep_singleton, payload_cell]

/-! ## The state of a device -/

section State

variable (ER : Emb (Rounds.URounds (GSem nD τ sig) Unit) (MT nD τ sig Unit Val ℕ U ℕ))
  [ER.LandsIn (upEmb : UEmb _ (MT nD τ sig Unit Val ℕ U ℕ))]

/-- What everybody knows: every cell is run by the schedule, and has begun. -/
def records (K : Dev nD × (I ⊕ I) → ℕ) : sProp 𝕄 :=
  iprop((bigSep Finset.univ fun x : Dev nD × (I ⊕ I) => cellInv ER (sched T P) (K x) (T.cell x))
    ∗ bigSep Finset.univ fun x : Dev nD × (I ⊕ I) => reached ER (T.cell x) 0)
instance (K : Dev nD × (I ⊕ I) → ℕ) : BI.Persistent (records T P ER K) := by unfold records; infer_instance

theorem records_at (K : Dev nD × (I ⊕ I) → ℕ) (x : Dev nD × (I ⊕ I)) :
    records T P ER K ⊢ iprop(cellInv ER (sched T P) (K x) (T.cell x) ∗ reached ER (T.cell x) 0) := by
  unfold records
  iintro ⟨#H1, #H2⟩
  isplitl
  · iapply (show _ ⊢ cellInv ER (sched T P) (K x) (T.cell x) from bigSep_elim (Φ := fun x : Dev nD × (I ⊕ I) => cellInv ER (sched T P) (K x) (T.cell x)) (Finset.mem_univ x)); iexact H1
  iapply (show _ ⊢ reached ER (T.cell x) 0 from bigSep_elim (Φ := fun x : Dev nD × (I ⊕ I) => (reached ER (T.cell x) 0 : sProp 𝕄)) (Finset.mem_univ x)); iexact H2

/-- What the start of copy `i` takes. -/
def ready (c : Dev nD) (i : I) : sProp 𝕄 :=
  iprop(dutyTok ER (T.cell (c, .inl i)) 0 () ∗ dutyTok ER (T.cell (T.peer i c, .inr i)) 0 () ∗ P.src i c ∗ P.room i (T.peer i c))
/-- What a wait takes besides the semaphore's place in its schedule. -/
def token (c : Dev nD) (s : I ⊕ I) : sProp 𝕄 := cred (tallyAt (T.cell (c, s) : GSem nD τ sig) () (T.amt (copyOf s)))
def place (c : Dev nD) (s : I ⊕ I) : sProp 𝕄 := atPos ER (T.cell (c, s)) 0 ∅ 0
/-- What a wait leaves. -/
def done (c : Dev nD) (s : I ⊕ I) : sProp 𝕄 := iprop(semVal (T.cell (c, s) : GSem nD τ sig) 0 ∗ P.pay (c, s))

/-- The copies in `S` are still to start. -/
def Sending (c : Dev nD) (S : Finset I) : sProp 𝕄 :=
  iprop((∃ K, records T P ER K) ∗ bigSep S (ready T P ER c) ∗ bigSep (Finset.univ \ S) (fun i => token T c (.inl i))
    ∗ bigSep Finset.univ (place T ER c) ∗ bigSep Finset.univ fun i => token T c (.inr i))

/-- The semaphores in `W` are still to be waited for. -/
def Waiting (c : Dev nD) (W : Finset (I ⊕ I)) : sProp 𝕄 :=
  iprop((∃ K, records T P ER K) ∗ bigSep W (fun s => iprop(token T c s ∗ place T ER c s)) ∗ bigSep (Finset.univ \ W) (done T P c))

theorem sdiff_erase' {A : Type} [Fintype A] [DecidableEq A] {S : Finset A} {i : A} (hi : i ∈ S) (Φ : A → sProp 𝕄) :
    bigSep (Finset.univ \ S.erase i) Φ = iprop(Φ i ∗ bigSep (Finset.univ \ S) Φ) := by
  rw [show (Finset.univ \ S.erase i) = insert i (Finset.univ \ S) from by
    ext j; simp only [Finset.mem_sdiff, Finset.mem_univ, Finset.mem_erase, Finset.mem_insert, true_and]; tauto]
  exact bigSep_insert (by simp [hi])

theorem sum' {A : Type} [Fintype A] (Φ : A ⊕ A → sProp 𝕄) :
    bigSep Finset.univ Φ = iprop((bigSep Finset.univ fun a => Φ (.inl a)) ∗ bigSep Finset.univ fun a => Φ (.inr a)) := bigSep_univ_sum Φ

theorem erase' {A : Type} [DecidableEq A] {S : Finset A} {i : A} (hi : i ∈ S) (Φ : A → sProp 𝕄) :
    bigSep S Φ = iprop(Φ i ∗ bigSep (S.erase i) Φ) := bigSep_erase hi

variable {Λ : Labels} {defs : Defs nD τ sig Val Λ} {𝒱 : Variants}

/-- Starting one copy. -/
theorem wp_start {c n : Dev nD} {S : Finset I} (i : I) (hi : i ∈ S) (hn : n = T.peer i c)
    {sp sp' : Space} {s : Shape} {e : EltTy} {src : Memref sig .tc sp s e} {dst : Memref sig .tc sp' s e}
    {hsc : (show Memref sig (n.tc : Thread nD τ).2.kind sp' s e from dst).view.ref.isScScratch = false} {sS sem : SemLoc sig}
    (hS : sS = T.snd i) (hR : sem = T.rcv i)
    {hsrc : src.view.WordExact} {hdst : dst.view.WordExact}
    {hsem : DmaTarget.Typed sp sem (.remote (n.tc : Thread nD τ) dst sS hsc)}
    {α : Type} {Q : α → sProp 𝕄} {k : PUnit → Prog (TpuEff nD τ sig Val Λ .tc) α} {q : PosShare TreeShare}
    (hN : dst.view.amount sem = T.amt i)
    (fs : Buf Val (src.view.loc (c.tc : Thread nD τ)))
    (hsrc' : P.src i c = (src.view.loc (c.tc : Thread nD τ) ↦[src.view.set]{q} fs))
    (hroom : P.room i n ⊢ iprop(∃ fd, dst.view.loc (n.tc : Thread nD τ) ↦[dst.view.set]{fullShare} fd))
    (hland : ∀ fd, (dst.view.loc (n.tc : Thread nD τ) ↦[dst.view.set]{fullShare}
        (dst.view.write Val fd (src.view.read Val fs) Finset.univ)) ⊢ P.landed i n)
    (hr : τ.routes (c.tc : Thread nD τ) (n.tc : Thread nD τ) = true := by routes) :
    iprop(Sending T P ER c S ∗ owing c (T.dues c S))
      ⊢ iprop(((Sending T P ER c (S.erase i) ∗ owing c (T.dues c (S.erase i)))
            -∗ wp frame (wpE defs 𝒱 (c.tc : Thread nD τ) none) Set.univ (k ⟨⟩) Q)
          -∗ wp frame (wpE defs 𝒱 (c.tc : Thread nD τ) none) Set.univ
              (.op (.enqueueDma src (.remote (n.tc : Thread nD τ) dst sS hsc) sem hsrc hdst hsem) k) Q) := by
  subst hn; subst hS; subst hR
  have hd := T.dues_erase (τ := τ) c hi
  unfold Sending owing
  rw [erase' hi (ready T P ER c), sdiff_erase' hi]
  iintro ⟨⟨⟨%K, #HK⟩, ⟨Hi, HS⟩, HT, Hpl, Hrc⟩, ⟨%W, HO⟩⟩ Hk
  unfold ready
  icases Hi with ⟨Ht1, Ht2, Hsrc, Hroom⟩
  ihave Hd := hroom $$ Hroom
  icases Hd with ⟨%fd, Hd⟩
  ihave H1 := (records_at T P ER K (c, .inl i)) $$ HK
  icases H1 with ⟨#Hinv1, #Hr1⟩
  ihave H2 := (records_at T P ER K (T.peer i c, .inr i)) $$ HK
  icases H2 with ⟨#Hinv2, #Hr2⟩
  ihave Hs := (Entails.of_eq hsrc') $$ Hsrc
  iapply (Rounds.wp_send_pointsTo 𝒱 ER (sched T P) (c.tc : Thread nD τ) none (κ₁ := K (c, .inl i)) (κ₂ := K (T.peer i c, .inr i))
    (r₁ := 0) (r₂ := 0) (d₁ := ()) (d₂ := ()) (fd := fd)
    (by
      show () ∈ (sched T P).duties (T.cell (c, .inl i)) 0
      rw [duties_cell]; exact Finset.mem_singleton_self _)
    (by
      show () ∈ (sched T P).duties (T.cell (T.peer i c, .inr i)) 0
      rw [duties_cell]; exact Finset.mem_singleton_self _)
    () () (T.amt i) hN (amount_cell T P (c, .inl i) ()) (amount_cell T P (T.peer i c, .inr i) ())
    (T.dues c (S.erase i)) hd (W := W)
    (Entails.of_eq (hsrc'.symm.trans (payload_cell T P (c, .inl i) ()).symm))
    ((hland fd).trans (Entails.of_eq (payload_cell T P (T.peer i c, .inr i) ()).symm)) hr) $$ [Hs Hd HO Ht1 Ht2]
  · isplitr; · iexact Hinv1
    isplitr; · iexact Hinv2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitr [HO]
  · isplitr; · iexists K; iexact HK
    isplitl [HS]; · iexact HS
    isplitl [Hc HT]
    · isplitl [Hc]; · unfold token; iexact Hc
      iexact HT
    isplitl [Hpl]; · iexact Hpl
    iexact Hrc
  iexists W; iexact HO

/-- All copies started: every semaphore can be waited for. -/
theorem waiting_of_sent (c : Dev nD) : Sending T P ER c ∅ ⊢ Waiting T P ER c Finset.univ := by
  unfold Sending Waiting
  rw [bigSep_sep', sum' (token T c), Finset.sdiff_empty, Finset.sdiff_self, bigSep_empty, bigSep_empty]
  iintro ⟨HK, -, Hs, Hp, Hr⟩
  isplitl [HK]; · iexact HK
  isplitl
  · isplitl [Hs Hr]
    · isplitl [Hs]; · iexact Hs
      iexact Hr
    iexact Hp
  iempintro

/-- Waiting for one semaphore. -/
theorem wp_finish {c : Dev nD} {S : Finset (I ⊕ I)} (s : I ⊕ I) (hs : s ∈ S) {w : TpuEff nD τ sig Val Λ .tc PUnit} {sm : SemLoc sig} {n : ℕ}
    (hw : ∀ K : PUnit → sProp 𝕄, wpE defs 𝒱 (c.tc : Thread nD τ) none Set.univ w K = waitSpec (c.tc : Thread nD τ) Set.univ sm n K)
    (hsm : sm = T.sem s) (hn : n = T.amt (copyOf s))
    {α : Type} {Q : α → sProp 𝕄} {k : PUnit → Prog (TpuEff nD τ sig Val Λ .tc) α} :
    iprop(Waiting T P ER c S ∗ owing c 0)
      ⊢ iprop(((Waiting T P ER c (S.erase s) ∗ owing c 0)
            -∗ wp frame (wpE defs 𝒱 (c.tc : Thread nD τ) none) Set.univ (k ⟨⟩) Q)
          -∗ wp frame (wpE defs 𝒱 (c.tc : Thread nD τ) none) Set.univ (.op w k) Q) := by
  subst hsm; subst hn
  unfold Waiting owing
  rw [erase' hs, sdiff_erase' hs]
  iintro ⟨⟨⟨%K, #HK⟩, ⟨⟨Ht, Hp⟩, HS⟩, HD⟩, ⟨%W, HO⟩⟩ Hk
  unfold token place
  ihave H1 := (records_at T P ER K (c, s)) $$ HK
  icases H1 with ⟨#Hinv, -⟩
  iapply (Rounds.wp_wait_rest_token 𝒱 ER (sched T P) (c.tc : Thread nD τ) none (κ := K (c, s)) hw (Set.mem_univ _) () (O := 0) (W := W)
    (R := 0) (m := 0) (T := ∅) (by rw [Nat.zero_add]; exact (expect_cell T P (c, s)).symm)) $$ [Ht Hp HO]
  · isplitr; · iexact Hinv
    isplitl [Ht]; · iexact Ht
    isplitl [HO]; · iexact HO
    isplitr; · rw [MayWait_zero]; iempintro
    iexact Hp
  iintro ⟨HO, Hp, -, Hpay⟩
  ihave Hpay' := (Entails.of_eq (rest_cell T P (c, s))) $$ Hpay
  imod (Rounds.cell_close ER (sched T P) (Set.mem_univ (K (c, s))) (fun h => h) (R := 0 + 1) (duties_later T P (T.cell (c, s)))) $$ [Hp] with Hz
  · isplitr; · iexact Hinv
    iexact Hp
  iapply Hk
  isplitr [HO]
  · isplitr; · iexists K; iexact HK
    isplitl [HS]; · iexact HS
    isplitr [HD]
    · unfold done
      isplitl [Hz]; · iexact Hz
      iexact Hpay'
    iexact HD
  iexists (insert (T.sem s, ()) W); iexact HO

/-- All waited for: the semaphores are at zero, the lent blocks are back and the blocks from the partners are here. -/
theorem waited (c : Dev nD) : Waiting T P ER c ∅
    ⊢ iprop(Pipeline.ownSems0 T.sem c ∗ (bigSep Finset.univ fun i => P.src i c) ∗ bigSep Finset.univ fun i => P.landed i c) := by
  unfold Waiting done
  rw [Finset.sdiff_empty, bigSep_empty, bigSep_sep', sum' (fun s => P.pay (c, s))]
  iintro ⟨-, -, Hz, Hs, Hl⟩
  isplitl [Hz]
  · iapply (show (bigSep Finset.univ fun s => (semVal (T.cell (c, s)) 0 : sProp 𝕄)) ⊢ Pipeline.ownSems0 T.sem c from Entails.of_eq rfl); iexact Hz
  isplitl [Hs]; · iexact Hs
  iexact Hl

/-! ## The launch -/

def cells : Finset (GSem nD τ sig) := Finset.univ.map ⟨T.cell, T.cell_inj⟩
def toks : Finset (GSem nD τ sig × ℕ × Unit) :=
  Finset.univ.map ⟨fun x : Dev nD × (I ⊕ I) => (T.cell x, 0, ()), fun _ _ h => T.cell_inj (congrArg Prod.fst h)⟩

/-- The protocol's own state at launch, for all cells. -/
def fresh : sProp 𝕄 :=
  iprop((bigSep Finset.univ fun x : Dev nD × (I ⊕ I) => roundState ER (sched T P) (T.cell x) 0)
    ∗ (bigSep Finset.univ fun x : Dev nD × (I ⊕ I) => reached ER (T.cell x) 0)
    ∗ (bigSep Finset.univ fun x : Dev nD × (I ⊕ I) => atPos ER (T.cell x) 0 ∅ 0)
    ∗ bigSep Finset.univ fun x : Dev nD × (I ⊕ I) => dutyTok ER (T.cell x) 0 ())

theorem fresh_intro : BI.own (ER (initOf (cells T) (toks T))) ⊢ |==> fresh T P ER := by
  have h := Rounds.fund ER (sched T P) (cells T) (toks T)
  unfold cells toks at h
  simp only [bigSep_map] at h
  unfold cells toks fresh
  exact h

/-- What device `c` is dealt at launch, before the tokens change hands. -/
theorem tokens_dealt :
    (bigSep Finset.univ fun x : Dev nD × (I ⊕ I) => (dutyTok ER (T.cell x) 0 () : sProp 𝕄))
      = iprop((bigSep Finset.univ fun c : Dev nD => bigSep Finset.univ fun i : I => dutyTok ER (T.cell (c, .inl i)) 0 ())
        ∗ bigSep Finset.univ fun c : Dev nD => bigSep Finset.univ fun i : I => dutyTok ER (T.cell (T.peer i c, .inr i)) 0 ()) := by
  rw [bigSep_univ_prod]
  rw [show (fun c : Dev nD => bigSep Finset.univ fun s : I ⊕ I => (dutyTok ER (T.cell (c, s)) 0 () : sProp 𝕄))
    = fun c => iprop((bigSep Finset.univ fun i : I => dutyTok ER (T.cell (c, .inl i)) 0 ())
        ∗ bigSep Finset.univ fun i : I => dutyTok ER (T.cell (c, .inr i)) 0 ()) from funext fun c => bigSep_univ_sum _]
  rw [bigSep_sep', bigSep_univ_comm (fun (c : Dev nD) (i : I) => (dutyTok ER (T.cell (c, .inr i)) 0 () : sProp 𝕄)),
    bigSep_univ_comm (fun (c : Dev nD) (i : I) => (dutyTok ER (T.cell (T.peer i c, .inr i)) 0 () : sProp 𝕄))]
  congr 1
  exact bigSep_congr fun i _ => bigSep_univ_equiv (T.swap i) _

theorem rooms_dealt : (bigSep Finset.univ fun c : Dev nD => bigSep Finset.univ fun i : I => P.room i c)
    = bigSep Finset.univ fun c : Dev nD => bigSep Finset.univ fun i : I => P.room i (T.peer i c) := by
  rw [bigSep_univ_comm (fun (c : Dev nD) (i : I) => P.room i c), bigSep_univ_comm (fun (c : Dev nD) (i : I) => P.room i (T.peer i c))]
  exact bigSep_congr fun i _ => bigSep_univ_equiv (T.swap i) (fun c => P.room i c)

theorem credit (c : Dev nD) : (Pipeline.launchCred (fun d => T.dues d Finset.univ) c : sProp 𝕄) ⊢ bigSep Finset.univ fun i => token T c (.inr i) := by
  unfold Table.dues
  rw [Pipeline.launchCred_sum]
  exact bigSep_mono fun i _ => Pipeline.launchCred_tallyAt (T.rcv i) (T.peer i) (T.peer i) (T.back i) (T.back i) () (T.amt i) c

theorem with_records {A : Type} [DecidableEq A] {S : Finset A} {R : sProp 𝕄} [BI.Persistent R] {Φ Ψ : A → sProp 𝕄}
    (h : ∀ a ∈ S, iprop(R ∗ Φ a) ⊢ Ψ a) : iprop(R ∗ bigSep S Φ) ⊢ bigSep S Ψ :=
  (sep_mono_left (BI.bigSep_of_persistent S R)).trans (by rw [← bigSep_sep']; exact bigSep_mono h)

/-- The launch of the exchange: semaphores at zero, the fresh protocol state, the credit of what is owed, what the
    devices lend and the room they offer become the state of every device before its first copy. -/
theorem launch :
    iprop((bigSep Finset.univ fun c : Dev nD => Pipeline.ownSems0 T.sem c) ∗ fresh T P ER
        ∗ (bigSep Finset.univ fun c => Pipeline.launchCred (fun d => T.dues d Finset.univ) c)
        ∗ (bigSep Finset.univ fun c : Dev nD => bigSep Finset.univ fun i : I => P.src i c)
        ∗ bigSep Finset.univ fun c : Dev nD => bigSep Finset.univ fun i : I => P.room i c)
      ⊢ |={Set.univ}=> (bigSep Finset.univ fun c : Dev nD => Sending T P ER c Finset.univ : sProp 𝕄) := by
  have hcr : (bigSep Finset.univ fun c : Dev nD => Pipeline.launchCred (fun d => T.dues d Finset.univ) c : sProp 𝕄) ⊢ _ :=
    bigSep_mono (s := Finset.univ) fun (c : Dev nD) _ => credit T c
  unfold fresh
  rw [tokens_dealt, rooms_dealt T P]
  iintro ⟨Hz, ⟨Hst, #Hr, Hat, Ht1, Ht2⟩, Hcr, Hsrc, Hroom⟩
  imod (show iprop((bigSep Finset.univ fun c : Dev nD => Pipeline.ownSems0 T.sem c)
        ∗ bigSep Finset.univ fun x : Dev nD × (I ⊕ I) => roundState ER (sched T P) (T.cell x) 0)
      ⊢ (|={Set.univ}=> bigSep Finset.univ fun x : Dev nD × (I ⊕ I) => iprop(∃ κ : ℕ, cellInv ER (sched T P) κ (T.cell x)) : sProp 𝕄) from by
        rw [show (bigSep Finset.univ fun c : Dev nD => Pipeline.ownSems0 T.sem c : sProp 𝕄)
            = bigSep Finset.univ fun x : Dev nD × (I ⊕ I) => semVal (T.cell x) 0 from
          (bigSep_univ_prod fun x : Dev nD × (I ⊕ I) => (semVal (T.cell x) 0 : sProp 𝕄)).symm, ← bigSep_sep']
        exact (bigSep_mono fun x _ => (Rounds.body_intro ER (sched T P) (T.cell x)).trans inv_alloc).trans (bigSep_fupd _ _)) $$ [Hz Hst] with Hinv
  · isplitl [Hz] <;> iassumption
  ihave HK := (BI.bigSep_exists_pi Finset.univ (fun (x : Dev nD × (I ⊕ I)) (κ : ℕ) => (cellInv ER (sched T P) κ (T.cell x) : sProp 𝕄))) $$ Hinv
  icases HK with ⟨%K, #HI⟩
  ihave Hc := hcr $$ Hcr
  ihave Hat' := (Entails.of_eq (bigSep_univ_prod (fun x : Dev nD × (I ⊕ I) => (atPos ER (T.cell x) 0 ∅ 0 : sProp 𝕄)))) $$ Hat
  imodintro
  iapply (with_records (S := Finset.univ) (R := records T P ER K)
    (Φ := fun c : Dev nD => iprop(bigSep Finset.univ (ready T P ER c) ∗ bigSep Finset.univ (place T ER c) ∗ bigSep Finset.univ fun i => token T c (.inr i)))
    fun c _ => ?_)
  · unfold Sending
    rw [Finset.sdiff_self, bigSep_empty]
    iintro ⟨#HR, H1, H2, H3⟩
    isplitr; · iexists K; iexact HR
    isplitl [H1]; · iexact H1
    isplitr; · iempintro
    isplitl [H2] <;> iassumption
  isplitr
  · unfold records; isplitl; · iexact HI
    iexact Hr
  unfold ready place
  simp only [bigSep_sep']
  isplitl [Ht1 Ht2 Hsrc Hroom]
  · isplitl [Ht1]; · iexact Ht1
    isplitl [Ht2]; · iexact Ht2
    isplitl [Hsrc] <;> iassumption
  isplitl [Hat']; · iexact Hat'
  iexact Hc

/-- The same with what the devices keep, and with what the launch gives them beside it. -/
theorem deal {K M Y Z : Dev nD → sProp (MT nD τ sig Unit Val ℕ U ℕ)} {L : sProp (MT nD τ sig Unit Val ℕ U ℕ)}
    (arrays : ∀ c, M c ⊢ iprop(K c ∗ (bigSep Finset.univ fun i : I => P.src i c) ∗ bigSep Finset.univ fun i : I => P.room i c)) :
    iprop((bigSep Finset.univ fun c : Dev nD => iprop(Pipeline.ownSems0 T.sem c ∗ Y c ∗ M c
          ∗ Pipeline.launchCred (fun d => T.dues d Finset.univ) c ∗ Z c)) ∗ fresh T P ER ∗ L)
      ⊢ |={Set.univ}=> (bigSep Finset.univ fun c : Dev nD => iprop(Sending T P ER c Finset.univ ∗ K c) : sProp 𝕄) := by
  have ha : (bigSep Finset.univ fun c : Dev nD => M c : sProp 𝕄) ⊢ _ := bigSep_mono (s := Finset.univ) fun c _ => arrays c
  simp only [bigSep_sep'] at ha
  simp only [bigSep_sep']
  iintro ⟨⟨Hz, -, Hm, Hc, -⟩, HG, -⟩
  ihave Hm := ha $$ Hm
  icases Hm with ⟨Hk, Hl, Hr⟩
  imod (launch T P ER) $$ [Hz HG Hc Hl Hr] with H
  · isplitl [Hz]; · iexact Hz
    isplitl [HG]; · iexact HG
    isplitl [Hc]; · iexact Hc
    isplitl [Hl] <;> iassumption
  imodintro
  isplitl [H] <;> iassumption

end State

end Cert.Exchange

end
-- ==== Proof.Scatter.lean ====
/-
  The scatter between chips, for any number of arrays.

  Each of the eight devices holds, for every array, one block per chip. It sends the block of each of the three other chips
  to the same core of that chip; so it receives three blocks, into the three slabs of a result array. Copy `(a, k)` is that
  of array `a` with the `k`-th other chip. The copies start, and are waited for, in the order of the index.
-/
module

public import proofs.«01_k».proof.Proof.Exchange

@[expose] public section

noncomputable section

namespace Cert.Scatter

open Cert.Exchange
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The same core of the `k`-th other chip: the other row, the other column, both. -/
def peer (k : Fin 3) (c : Dev 8) : Dev 8 :=
  match k with
  | 0 => ⟨(2 * ((c.val / 2) % 2) + (c.val % 2) + 4) - 4 * (c.val / 4), by have := c.isLt; omega⟩
  | 1 => ⟨(4 * (c.val / 4) + (c.val % 2) + 2) - 2 * ((c.val / 2) % 2), by have := c.isLt; omega⟩
  | 2 => ⟨((c.val % 2) + 6) - (4 * (c.val / 4) + 2 * ((c.val / 2) % 2)), by have := c.isLt; omega⟩
theorem peer_peer : ∀ (k : Fin 3) (c : Dev 8), peer k (peer k c) = c := by decide

/-! ## The order of the copies -/

variable {A : ℕ}

/-- The place of a copy in the order, and of a semaphore in the order of the waits. -/
def place (i : Fin A × Fin 3) : ℕ := 3 * i.1.val + i.2.val
def turn (s : (Fin A × Fin 3) ⊕ (Fin A × Fin 3)) : ℕ := match s with | .inl i => 2 * place i | .inr i => 2 * place i + 1

theorem place_inj : Function.Injective (place (A := A)) := by
  rintro ⟨a, k⟩ ⟨a', k'⟩ h
  unfold place at h
  dsimp only at h
  have := k.isLt; have := k'.isLt
  exact Prod.ext (Fin.ext (by show a.val = a'.val; omega)) (Fin.ext (by show k.val = k'.val; omega))
theorem turn_inj : Function.Injective (turn (A := A)) := by
  rintro (i | i) (j | j) h <;> unfold turn at h <;> dsimp only at h
  · exact congrArg Sum.inl (place_inj (by omega))
  · omega
  · omega
  · exact congrArg Sum.inr (place_inj (by omega))

/-- The copies from place `n` on, and the semaphores from turn `n` on. -/
def left (A n : ℕ) : Finset (Fin A × Fin 3) := Finset.univ.filter fun i => n ≤ place i
def open' (A n : ℕ) : Finset ((Fin A × Fin 3) ⊕ (Fin A × Fin 3)) := Finset.univ.filter fun s => n ≤ turn s

theorem filter_erase {I : Type} [Fintype I] [DecidableEq I] (f : I → ℕ) (hf : Function.Injective f) (i : I) (n : ℕ) (h : f i = n) :
    i ∈ (Finset.univ.filter fun j => n ≤ f j) ∧ (Finset.univ.filter fun j => n ≤ f j).erase i = Finset.univ.filter fun j => n + 1 ≤ f j := by
  refine ⟨Finset.mem_filter.2 ⟨Finset.mem_univ i, h.ge⟩, ?_⟩
  ext j
  simp only [Finset.mem_erase, Finset.mem_filter, Finset.mem_univ, true_and]
  constructor
  · rintro ⟨hne, hle⟩
    have : f j ≠ f i := fun e => hne (hf e)
    omega
  · intro hle
    exact ⟨fun e => by subst e; omega, by omega⟩

theorem left_zero : left A 0 = Finset.univ := Finset.filter_true_of_mem fun _ _ => Nat.zero_le _
theorem open_zero : open' A 0 = Finset.univ := Finset.filter_true_of_mem fun _ _ => Nat.zero_le _
theorem left_end (n : ℕ) (h : n = 3 * A) : left A n = ∅ :=
  Finset.filter_false_of_mem fun i _ => by have := i.1.isLt; have := i.2.isLt; unfold place; omega
theorem open_end (n : ℕ) (h : n = 6 * A) : open' A n = ∅ :=
  Finset.filter_false_of_mem fun s _ => by
    rcases s with i | i <;> have := i.1.isLt <;> have := i.2.isLt <;> unfold turn place <;> dsimp only <;> omega

/-! ## Blocks -/

variable {sig : RefSig} {nD : Nat} {τ : Topo} {Val : EltTy → Type} {U : Type} [URA U]

local notation "𝕄" => MT nD τ sig Unit Val ℕ U ℕ

theorem write_agree {κ : Kind} {sp : Space} {s : Shape} {e : EltTy} (v : View sig κ sp s e) (f g : v.ty.Contents Val) (w : s.Idx → Val e) :
    ∀ j ∈ v.set, v.write Val f w Finset.univ j = v.write Val g w Finset.univ j := by
  intro j hj
  rw [View.set, Finset.mem_map] at hj
  obtain ⟨x, -, rfl⟩ := hj
  rw [View.write_emb_of_mem _ _ (Finset.mem_univ x), View.write_emb_of_mem _ _ (Finset.mem_univ x)]

/-- The elements of `v` hold `X`. -/
def filled {sp : Space} {s : Shape} {e : EltTy} (v : View sig .tc sp s e) (c : Dev nD) (f : Buf Val (v.loc (c : Thread nD τ))) (X : s.Idx → Val e) : sProp 𝕄 :=
  iprop(v.loc (c : Thread nD τ) ↦[v.set]{fullShare} v.write Val f X Finset.univ)
instance {sp : Space} {s : Shape} {e : EltTy} (v : View sig .tc sp s e) (c : Dev nD) (f : Buf Val (v.loc (c : Thread nD τ))) (X : s.Idx → Val e) :
    BI.Storable (upEmb : UEmb _ 𝕄) (filled v c f X) := by unfold filled; infer_instance

theorem filled_of {sp : Space} {s : Shape} {e : EltTy} (v : View sig .tc sp s e) (c : Dev nD) (f g : Buf Val (v.loc (c : Thread nD τ))) (X : s.Idx → Val e) :
    (v.loc (c : Thread nD τ) ↦[v.set]{fullShare} v.write Val f X Finset.univ : sProp 𝕄) ⊢ filled v c g X := by
  unfold filled
  exact Entails.of_eq (pointsTo_congr (write_agree v f g X))

theorem read_filled {sp : Space} {s : Shape} {e : EltTy} (v : View sig .tc sp s e) (c : Dev nD) (f : Buf Val (v.loc (c : Thread nD τ))) (X : s.Idx → Val e)
    (s' : Phys nD τ sig Val) :
    iprop((filled v c f X : sProp 𝕄) ∗ SI s') ⊢ iprop(⌜v.read Val (s'.mem.mem (v.loc (c : Thread nD τ))) = X⌝ ∗ SI s') := by
  unfold filled
  iintro H
  ihave H := (read_some _ s') $$ H
  icases H with ⟨%h, HSI⟩
  isplitr
  · ipureintro
    rw [View.read_congr h, View.read_write_univ]
  iexact HSI

/-- Facts read off a state one after the other. -/
theorem read_all {I : Type} [Fintype I] [DecidableEq I] (Φ : I → sProp 𝕄) (p : I → Prop) (s' : Phys nD τ sig Val)
    (h : ∀ i, iprop(Φ i ∗ SI s') ⊢ iprop(⌜p i⌝ ∗ SI s')) :
    iprop(bigSep Finset.univ Φ ∗ SI s') ⊢ iprop(⌜∀ i, p i⌝ ∗ SI s') := by
  suffices hs : ∀ S : Finset I, iprop(bigSep S Φ ∗ SI s') ⊢ iprop(⌜∀ i ∈ S, p i⌝ ∗ SI s') by
    refine (hs Finset.univ).trans ?_
    iintro ⟨%h, H⟩
    isplitr
    · ipureintro; exact fun i => h i (Finset.mem_univ i)
    iexact H
  intro S
  induction S using Finset.induction_on with
  | empty =>
    iintro ⟨-, H⟩
    isplitr
    · ipureintro; exact fun i hi => absurd hi (Finset.notMem_empty i)
    iexact H
  | insert i S hi ih =>
    rw [show bigSep (insert i S) Φ = iprop(Φ i ∗ bigSep S Φ) from bigSep_insert hi]
    iintro ⟨⟨H1, H2⟩, HSI⟩
    ihave H := (h i) $$ [H1 HSI]
    · isplitl [H1] <;> iassumption
    icases H with ⟨%h1, HSI⟩
    ihave H := ih $$ [H2 HSI]
    · isplitl [H2] <;> iassumption
    icases H with ⟨%h2, HSI⟩
    isplitr
    · ipureintro
      intro j hj
      rcases Finset.mem_insert.1 hj with rfl | hj
      · exact h1
      · exact h2 j hj
    iexact HSI

theorem bigSep3 {M : Type} [URA M] (Φ : Fin 3 → sProp M) : bigSep Finset.univ Φ = iprop(Φ 0 ∗ Φ 1 ∗ Φ 2) :=
  bigSep_univ_eq_bigSepL [0, 1, 2] (by decide) (by decide) Φ

/-- Three disjoint parts of an array. -/
theorem parts {ℓ : Loc nD τ sig} {q : PosShare TreeShare} (S : Fin 3 → Finset (Idx ℓ)) (h01 : Disjoint (S 0) (S 1)) (h02 : Disjoint (S 0) (S 2))
    (h12 : Disjoint (S 1) (S 2)) (f : Buf Val ℓ) :
    (ℓ ↦{q} f : sProp 𝕄) ⊢ bigSep Finset.univ fun k => ℓ ↦[S k]{q} f := by
  rw [bigSep3]
  iintro H
  ihave H := (pointsTo_split_subset (Finset.subset_univ (S 0 ∪ (S 1 ∪ S 2)))).1 $$ H
  icases H with ⟨H, -⟩
  ihave H := (pointsTo_union (Finset.disjoint_union_right.2 ⟨h01, h02⟩)).1 $$ H
  icases H with ⟨H0, H⟩
  ihave H := (pointsTo_union h12).1 $$ H
  icases H with ⟨H1, H2⟩
  isplitl [H0]; · iexact H0
  isplitl [H1]; · iexact H1
  iexact H2

/-- An array kept at an eighth of its share, and three parts of it lent. -/
theorem lend3 {ℓ : Loc nD τ sig} (S : Fin 3 → Finset (Idx ℓ)) (f : Buf Val ℓ) :
    (ℓ ↦{fullShare} f : sProp 𝕄) ⊢ iprop((ℓ ↦{fullShare.left.left.left} f)
      ∗ (ℓ ↦[S 0]{fullShare.right} f) ∗ (ℓ ↦[S 1]{fullShare.left.right} f) ∗ ℓ ↦[S 2]{fullShare.left.left.right} f) := by
  iintro H
  ihave H := (lend (S 0) f) $$ H
  icases H with ⟨H, H0⟩
  ihave H := (lend (S 1) f) $$ H
  icases H with ⟨H, H1⟩
  ihave H := (lend (S 2) f) $$ H
  icases H with ⟨H, H2⟩
  iframe

/-! ## Starting and waiting in order -/

variable (T : Table sig nD (Fin A × Fin 3)) (P : Goods τ sig nD (Fin A × Fin 3) Val U)
  (ER : Emb (Rounds.URounds (GSem nD τ sig) Unit) (MT nD τ sig Unit Val ℕ U ℕ)) [ER.LandsIn (upEmb : UEmb _ (MT nD τ sig Unit Val ℕ U ℕ))]
  {Λ : Labels} {defs : Defs nD τ sig Val Λ} {𝒱 : Variants}

/-- The wait for the semaphore whose turn it is. -/
theorem wp_next {c : Dev nD} {n : ℕ} (s : (Fin A × Fin 3) ⊕ (Fin A × Fin 3)) (ht : turn s = n) {w : TpuEff nD τ sig Val Λ .tc PUnit} {sm : SemLoc sig} {N : ℕ}
    (hw : ∀ K : PUnit → sProp 𝕄, wpE defs 𝒱 (c.tc : Thread nD τ) none Set.univ w K = waitSpec (c.tc : Thread nD τ) Set.univ sm N K)
    (hsm : sm = T.sem s) (hn : N = T.amt (copyOf s))
    {α : Type} {Q : α → sProp 𝕄} {k : PUnit → Prog (TpuEff nD τ sig Val Λ .tc) α} :
    iprop(Waiting T P ER c (open' A n) ∗ owing c 0)
      ⊢ iprop(((Waiting T P ER c (open' A (n + 1)) ∗ owing c 0)
            -∗ wp frame (wpE defs 𝒱 (c.tc : Thread nD τ) none) Set.univ (k ⟨⟩) Q)
          -∗ wp frame (wpE defs 𝒱 (c.tc : Thread nD τ) none) Set.univ (.op w k) Q) := by
  have h := filter_erase turn turn_inj s n ht
  unfold open'
  rw [← h.2]
  exact wp_finish T P ER s h.1 hw hsm hn

end Cert.Scatter

end
-- ==== Proof.Staged.lean ====
/-
  Steps of a kernel body on whole buffers, and its parts one after another.

  A staged block is held as `owns`. Loading all of it gives what it holds, and storing all of it replaces what it holds.
  `wp_guard` proves a body with guarded parts part by part, with what is held between two parts stated once.
-/
module

public import Idealize.ShloMosaic.Lib.Pipeline.Launch
public import Idealize.ShloMosaic.Lib.Pipeline.Kit
public import Idealize.ShloMosaic.Lib.Tactic

@[expose] public section

noncomputable section

namespace Cert.Staged

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U] {Λ : Labels}
variable {defs : Defs nD τ sig Val Λ} (𝒱 : Variants) (c : Thread nD τ) (bd : Option 𝒱.V) (E : Set ℕ)
variable {sp : CoreSpace} {s : Shape} {e : EltTy} {α : Type} {Q : α → sProp (MT nD τ sig Unit Val ℕ U ℕ)}

theorem guard_bind {κ : Proc τ} {β γ : Type} {g : Prop} [Decidable g] {A : g → Prog (TpuEff nD τ sig Val Λ κ) β} {B : ¬ g → Prog (TpuEff nD τ sig Val Λ κ) β}
    {k : β → Prog (TpuEff nD τ sig Val Λ κ) γ} :
    (dite g A B >>= k) = dite g (fun h => A h >>= k) (fun h => B h >>= k) := by
  split <;> rfl

/-- A guarded part of a body, then the rest: what is held before the rest is stated once. -/
theorem wp_guard {P : sProp (MT nD τ sig Unit Val ℕ U ℕ)} (R : sProp (MT nD τ sig Unit Val ℕ U ℕ)) {g : Prop} [Decidable g]
    {A : g → Prog (TpuEff nD τ sig Val Λ c.2) α} {rest : Prog (TpuEff nD τ sig Val Λ c.2) α}
    (hskip : ¬ g → (P ⊢ R)) (hrest : R ⊢ wp frame (wpE defs 𝒱 c bd) E rest Q)
    (hA : ∀ h : g, (R ⊢ wp frame (wpE defs 𝒱 c bd) E rest Q) → P ⊢ wp frame (wpE defs 𝒱 c bd) E (A h) Q) :
    P ⊢ wp frame (wpE defs 𝒱 c bd) E (dite g A (fun _ => rest)) Q := by
  by_cases h : g
  · rw [dif_pos h]; exact hA h hrest
  · rw [dif_neg h]; exact (hskip h).trans hrest

theorem unit_idx {off : Fin s.rank → Nat} (inb) (ho : off = fun _ => 0) (x : s.Idx) : (Rect.unit off s.size inb).emb x = x := by
  subst ho
  funext a
  exact Fin.ext (by rw [Rect.emb_apply]; show 0 + 1 * (x a).val = (x a).val; omega)

/-- Loading a whole staged block gives its contents. -/
theorem wp_load_owns {m : Memref sig c.2.kind sp s e} {off : Fin s.rank → Nat} {inb} (ho : off = fun _ => 0)
    (X : s.Idx → Val e) {hl : m.view.LoadsAt (Rect.unit off s.size inb).toLoadRect}
    {k : (s.Idx → Val e) → Prog (TpuEff nD τ sig Val Λ c.2) α} :
    (owns c m fullShare X : sProp (MT nD τ sig Unit Val ℕ U ℕ))
      ⊢ iprop((owns c m fullShare X -∗ wp frame (wpE defs 𝒱 c bd) E (k X) Q)
          -∗ wp frame (wpE defs 𝒱 c bd) E (.op (.load m (Rect.unit off s.size inb).toLoadRect hl) k) Q) := by
  unfold owns
  iintro ⟨%f, %hf, H⟩ Hk
  iapply (wp_load_rect 𝒱 c bd E (m := m) (r := Rect.unit off s.size inb) (View.set_slice_subset _ _)) $$ H
  iintro H
  have hr : (m.access (Rect.unit off s.size inb)).read Val f = X := by
    rw [← hf]
    funext x
    show m.view.read Val f ((Rect.unit off s.size inb).emb x) = m.view.read Val f x
    rw [unit_idx inb ho]
  rw [hr]
  iapply Hk
  iexists f
  isplitr; · ipureintro; exact hf
  iexact H

/-- Storing a whole staged block replaces its contents. -/
theorem wp_store_owns {m : Memref sig c.2.kind sp s e} {off : Fin s.rank → Nat} {inb} (ho : off = fun _ => 0)
    (X w : s.Idx → Val e) {hx hy} {k : PUnit → Prog (TpuEff nD τ sig Val Λ c.2) α} :
    (owns c m fullShare X : sProp (MT nD τ sig Unit Val ℕ U ℕ))
      ⊢ iprop((owns c m fullShare w -∗ wp frame (wpE defs 𝒱 c bd) E (k ⟨⟩) Q)
          -∗ wp frame (wpE defs 𝒱 c bd) E (.op (.store m (Rect.unit off s.size inb) w Finset.univ hx hy) k) Q) := by
  unfold owns
  iintro ⟨%f, %hf, H⟩ Hk
  iapply (wp_store 𝒱 c bd E (m := m) (r := Rect.unit off s.size inb) (Mk := Finset.univ) (View.set_slice_subset _ _)) $$ H
  iintro H
  iapply Hk
  iexists _
  isplitr
  swap; · iexact H
  ipureintro
  have hw := View.read_write_univ (v := m.access (Rect.unit off s.size inb)) f w
  funext x
  refine Eq.trans ?_ (congrFun hw x)
  show _ = m.view.read Val _ ((Rect.unit off s.size inb).emb x)
  rw [unit_idx inb ho]

/-- A device given by its number. -/
theorem dev_eq {p : Dev nD} {n : ℕ} {h : n < nD} (e : n = p.val) : (⟨n, h⟩ : Dev nD) = p := Fin.ext e

end Cert.Staged

end
-- ==== Proof.ActScatter.lean ====
/-
  The kernel `ffn1_bwd_act`: the gradient through the activation of a feed-forward block, with a scatter riding along.

  The grid has sixteen row tiles of four slabs. At the first slab of a row tile the kernel scales the rows of the gradient
  and puts them in a scratch array and in the last result; at every slab it multiplies them with the slab's weights and
  computes the slab's part of the three other results.

  Along with it every device sends the blocks of seven arrays to the same core of the three other chips (`Scatter`). The
  copies start at the first grid point and are waited for at the last. The run is written for any float values.
-/
module

public import Idealize.ShloMosaic.Lib.Pipeline.TableIdle
public import proofs.«01_k».proof.Proof.MemLaunch
public import proofs.«01_k».proof.Proof.Scatter
public import proofs.«01_k».proof.Proof.Staged
public import proofs.«01_k».proof.Proof.Gen.ActScatterIdeal
public import proofs.«01_k».proof.Proof.Gen.ActScatterIdeal.Skeleton
public import proofs.«01_k».proof.Proof.Gen.ActScatterIdeal.Launch
public import proofs.«01_k».proof.Proof.Gen.ActScatterIdeal.Points
public import proofs.«01_k».proof.Proof.Gen.ActScatterIdeal.Frame

@[expose] public section

noncomputable section

namespace Cert.ActScatterProof

open Cert.ActScatterIdeal Cert.ActScatterIdeal.Gen Cert.Exchange Cert.Scatter Cert.Staged
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU : Type := UR sig nD τ × UR sig nD τ
local notation "𝕄" => MT nD τ sig Unit (Elt F) ℕ UU ℕ
abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-! ## The table of copies -/

abbrev p₀ : grid0.Coords := grid0.coords ⟨0, by decide⟩
theorem first : k0_cond1 p₀ = 1#1 := by decide +kernel

/-- Rows and columns of a slab of each array. -/
abbrev rowsOf (a : Fin 7) : ℕ := match a with | 0 => 512 | 1 => 128 | 2 => 352 | 3 => 352 | 4 => 352 | 5 => 128 | 6 => 128
abbrev colsOf (a : Fin 7) : ℕ := match a with | 0 => 768 | 1 => 1024 | 2 => 1024 | 3 => 1024 | 4 => 1024 | 5 => 1024 | 6 => 256
abbrev four (a : Fin 7) : Shape := ⟨3, ![4, rowsOf a, colsOf a]⟩
abbrev three (a : Fin 7) : Shape := ⟨3, ![3, rowsOf a, colsOf a]⟩
abbrev one (a : Fin 7) : Shape := ⟨3, ![1, rowsOf a, colsOf a]⟩
abbrev flat (a : Fin 7) : Shape := ⟨2, ![rowsOf a, colsOf a]⟩

theorem flattens (a : Fin 7) : (one a).Squeezes (flat a) := match a with | 0 => squeezes_S1x512x768_S512x768 | 1 => squeezes_S1x128x1024_S128x1024 | 2 => squeezes_S1x352x1024_S352x1024 | 3 => squeezes_S1x352x1024_S352x1024 | 4 => squeezes_S1x352x1024_S352x1024 | 5 => squeezes_S1x128x1024_S128x1024 | 6 => squeezes_S1x128x256_S128x256

theorem flat_pos : ∀ a : Fin 7, 0 < (flat a).numel := by decide +kernel

/-- Where the slab starts that device `c` sends in its `k`-th copy of an array. -/
abbrev start (a : Fin 7) (k : Fin 3) (c : Dev nD) : Fin 3 → ℕ :=
  match a, k with
  | 0, 0 => k0_off1 c | 0, 1 => k0_off2 c | 0, 2 => k0_off3 c | 1, 0 => k0_off4 c | 1, 1 => k0_off5 c | 1, 2 => k0_off6 c | 2, 0 => k0_off7 c | 2, 1 => k0_off8 c | 2, 2 => k0_off9 c | 3, 0 => k0_off7 c | 3, 1 => k0_off8 c | 3, 2 => k0_off9 c | 4, 0 => k0_off7 c | 4, 1 => k0_off8 c | 4, 2 => k0_off9 c | 5, 0 => k0_off4 c | 5, 1 => k0_off5 c | 5, 2 => k0_off6 c | 6, 0 => k0_off10 c | 6, 1 => k0_off11 c | 6, 2 => k0_off12 c
theorem start_inb (a : Fin 7) (k : Fin 3) (c : Dev nD) : ∀ b, start a k c b + (one a).size b ≤ (four a).size b :=
  match a, k with
  | 0, 0 => k0_off1_inb p₀ c first | 0, 1 => k0_off2_inb p₀ c first | 0, 2 => k0_off3_inb p₀ c first | 1, 0 => k0_off4_inb p₀ c first | 1, 1 => k0_off5_inb p₀ c first | 1, 2 => k0_off6_inb p₀ c first | 2, 0 => k0_off7_inb p₀ c first | 2, 1 => k0_off8_inb p₀ c first | 2, 2 => k0_off9_inb p₀ c first | 3, 0 => k0_off7_inb p₀ c first | 3, 1 => k0_off8_inb p₀ c first | 3, 2 => k0_off9_inb p₀ c first | 4, 0 => k0_off7_inb p₀ c first | 4, 1 => k0_off8_inb p₀ c first | 4, 2 => k0_off9_inb p₀ c first | 5, 0 => k0_off4_inb p₀ c first | 5, 1 => k0_off5_inb p₀ c first | 5, 2 => k0_off6_inb p₀ c first | 6, 0 => k0_off10_inb p₀ c first | 6, 1 => k0_off11_inb p₀ c first | 6, 2 => k0_off12_inb p₀ c first
theorem slab_inb (a : Fin 7) (k : Fin 3) : ∀ b, (![k.val, 0, 0] : Fin 3 → ℕ) b + (one a).size b ≤ (three a).size b :=
  match a, k with
  | 0, 0 => inb_S3x512x768_S1x512x768_0_0_0 | 0, 1 => inb_S3x512x768_S1x512x768_1_0_0 | 0, 2 => inb_S3x512x768_S1x512x768_2_0_0 | 1, 0 => inb_S3x128x1024_S1x128x1024_0_0_0 | 1, 1 => inb_S3x128x1024_S1x128x1024_1_0_0 | 1, 2 => inb_S3x128x1024_S1x128x1024_2_0_0 | 2, 0 => inb_S3x352x1024_S1x352x1024_0_0_0 | 2, 1 => inb_S3x352x1024_S1x352x1024_1_0_0 | 2, 2 => inb_S3x352x1024_S1x352x1024_2_0_0 | 3, 0 => inb_S3x352x1024_S1x352x1024_0_0_0 | 3, 1 => inb_S3x352x1024_S1x352x1024_1_0_0 | 3, 2 => inb_S3x352x1024_S1x352x1024_2_0_0 | 4, 0 => inb_S3x352x1024_S1x352x1024_0_0_0 | 4, 1 => inb_S3x352x1024_S1x352x1024_1_0_0 | 4, 2 => inb_S3x352x1024_S1x352x1024_2_0_0 | 5, 0 => inb_S3x128x1024_S1x128x1024_0_0_0 | 5, 1 => inb_S3x128x1024_S1x128x1024_1_0_0 | 5, 2 => inb_S3x128x1024_S1x128x1024_2_0_0 | 6, 0 => inb_S3x128x256_S1x128x256_0_0_0 | 6, 1 => inb_S3x128x256_S1x128x256_1_0_0 | 6, 2 => inb_S3x128x256_S1x128x256_2_0_0

/-- The arrays sent, and the arrays of the blocks received. -/
abbrev argM (a : Fin 7) : Memref sig .tc .hbm (four a) .bf16 :=
  match a with | 0 => Memref.whole main_arg4 | 1 => Memref.whole main_arg5 | 2 => Memref.whole main_arg6 | 3 => Memref.whole main_arg7 | 4 => Memref.whole main_arg8 | 5 => Memref.whole main_arg9 | 6 => Memref.whole main_arg10
abbrev outM (a : Fin 7) : Memref sig .tc .hbm (three a) .bf16 :=
  match a with | 0 => Memref.whole main_v1_4 | 1 => Memref.whole main_v1_5 | 2 => Memref.whole main_v1_6 | 3 => Memref.whole main_v1_7 | 4 => Memref.whole main_v1_8 | 5 => Memref.whole main_v1_9 | 6 => Memref.whole main_v1_10
/-- The block that device `c` sends in copy `i`. -/
abbrev srcM (i : Fin 7 × Fin 3) (c : Dev nD) : Memref sig .tc .hbm (flat i.1) .bf16 :=
  ((argM i.1).slice (Rect.unit (s := four i.1) (start i.1 i.2 c) (one i.1).size (start_inb i.1 i.2 c)) (fun _ => rfl)).squeeze (flat i.1) (flattens i.1)
/-- The slab into which copy `i` lands. -/
abbrev resM (i : Fin 7 × Fin 3) : Memref sig .tc .hbm (flat i.1) .bf16 :=
  ((outM i.1).slice (Rect.unit (s := three i.1) ![i.2.val, 0, 0] (one i.1).size (slab_inb i.1 i.2)) (fun _ => rfl)).squeeze (flat i.1) (flattens i.1)

def table : Table sig nD (Fin 7 × Fin 3) where
  peer i := peer i.2
  snd i := .dma (match i.1, i.2 with | 0, 0 => 16 | 0, 1 => 17 | 0, 2 => 18 | 1, 0 => 19 | 1, 1 => 20 | 1, 2 => 21 | 2, 0 => 22 | 2, 1 => 23 | 2, 2 => 24 | 3, 0 => 25 | 3, 1 => 26 | 3, 2 => 27 | 4, 0 => 28 | 4, 1 => 29 | 4, 2 => 30 | 5, 0 => 31 | 5, 1 => 32 | 5, 2 => 33 | 6, 0 => 34 | 6, 1 => 35 | 6, 2 => 36)
  rcv i := .dma (match i.1, i.2 with | 0, 0 => 37 | 0, 1 => 38 | 0, 2 => 39 | 1, 0 => 40 | 1, 1 => 41 | 1, 2 => 42 | 2, 0 => 43 | 2, 1 => 44 | 2, 2 => 45 | 3, 0 => 46 | 3, 1 => 47 | 3, 2 => 48 | 4, 0 => 49 | 4, 1 => 50 | 4, 2 => 51 | 5, 0 => 52 | 5, 1 => 53 | 5, 2 => 54 | 6, 0 => 55 | 6, 1 => 56 | 6, 2 => 57)
  amt i := (resM i).view.dmaCredit
  back i := peer_peer i.2
  inj := by decide +kernel
  pos i := by obtain ⟨a, k⟩ := i; exact View.dmaCredit_pos _ (flat_pos a)

/-- The block device `c` sends in copy `i`, as it is at launch. -/
def block (i : Fin 7 × Fin 3) (c : Dev nD) : (⟨(flat i.1), .bf16⟩ : BufTy).Contents (Elt F) :=
  (srcM i c).view.read (Elt F) (m ((srcM i c).view.loc (c : Thread nD τ)))

/-- The share at which the block of copy `i` is lent. -/
def portion (k : Fin 3) : PosShare TreeShare :=
  match k with | 0 => fullShare.right | 1 => fullShare.left.right | 2 => fullShare.left.left.right

/-- Copy `i` in terms of arrays: the block is lent, the slab is offered and comes back filled. -/
def goods : Goods τ sig nD (Fin 7 × Fin 3) (Elt F) UU where
  src i c := iprop((srcM i c).view.loc (c : Thread nD τ) ↦[(srcM i c).view.set]{portion i.2} m ((srcM i c).view.loc (c : Thread nD τ)))
  landed i c := filled (resM i).view c (m ((resM i).view.loc (c : Thread nD τ))) (block m i (peer i.2 c))
  room i c := iprop(∃ f, (resM i).view.loc (c : Thread nD τ) ↦[(resM i).view.set]{fullShare} f)
  src_storable i c := by infer_instance
  landed_storable i c := by infer_instance

theorem land_close (i : Fin 7 × Fin 3) (c : Dev nD) (fd : Buf (Elt F) ((resM i).view.loc (peer i.2 c : Thread nD τ))) :
    ((resM i).view.loc (peer i.2 c : Thread nD τ) ↦[(resM i).view.set]{fullShare} (resM i).view.write (Elt F) fd (block m i c) Finset.univ : sProp 𝕄)
      ⊢ (goods m).landed i (peer i.2 c) := by
  have hb : block m i c = block m i (peer i.2 (peer i.2 c)) := by rw [peer_peer]
  rw [hb]
  exact filled_of (resM i).view (peer i.2 c) fd _ _

abbrev 𝒱₀ : Variants := Variants.none

theorem wp_copy {c n' : Dev nD} {n : ℕ} (i : Fin 7 × Fin 3) (hi : place i = n) (hn : n' = peer i.2 c)
    {hsc : (show Memref sig (n'.tc : Thread nD τ).2.kind .hbm (flat i.1) .bf16 from resM i).view.ref.isScScratch = false} {sS sem : SemLoc sig}
    (hS : sS = table.snd i) (hR : sem = table.rcv i)
    {hsrc : (srcM i c).view.WordExact} {hdst : (resM i).view.WordExact}
    {hsem : DmaTarget.Typed .hbm sem (.remote (n'.tc : Thread nD τ) (resM i) sS hsc)}
    {α : Type} {Q : α → sProp 𝕄} {k : PUnit → Prog (TpuEff nD τ sig (Elt F) Λ₀ .tc) α} :
    iprop(Sending table (goods m) ER c (left 7 n) ∗ owing c (table.dues c (left 7 n)))
      ⊢ iprop(((Sending table (goods m) ER c (left 7 (n + 1)) ∗ owing c (table.dues c (left 7 (n + 1))))
            -∗ wp frame (wpE (defs₀ (F := F)) 𝒱₀ (c.tc : Thread nD τ) none) Set.univ (k ⟨⟩) Q)
          -∗ wp frame (wpE (defs₀ (F := F)) 𝒱₀ (c.tc : Thread nD τ) none) Set.univ
              (.op (.enqueueDma (srcM i c) (.remote (n'.tc : Thread nD τ) (resM i) sS hsc) sem hsrc hdst hsem) k) Q) := by
  subst hn
  have h := filter_erase place place_inj i n hi
  unfold left
  rw [← h.2]
  refine wp_start table (goods m) ER (c := c) i h.1 rfl hS hR (src := srcM i c) (dst := resM i) ?_ _ rfl .rfl (fun fd => ?_)
  · subst hR; rfl
  · exact land_close m i c fd

/-! ## The body -/

/-- What is in flight before the first point, between the first and the last, and after the last. -/
def before (c : Dev nD) : sProp 𝕄 := iprop(Sending table (goods m) ER c Finset.univ ∗ owing c (table.dues c Finset.univ))
def flying (c : Dev nD) : sProp 𝕄 := iprop(Waiting table (goods m) ER c Finset.univ ∗ owing c 0)
def arrived (c : Dev nD) : sProp 𝕄 := iprop(Waiting table (goods m) ER c ∅ ∗ owing c 0)

section body

variable (c : Dev nD) (i : grid0.Coords)
  (a2 : Memref sig .tc .vmem S512x1024 .f32) (h2 : a2.IsWhole)
  (a3 : Memref sig .tc .vmem S1x512x704 .bf16) (h3 : a3.IsWhole)
  (a4 : Memref sig .tc .vmem S1x512x704 .bf16) (h4 : a4.IsWhole)
  (a5 : Memref sig .tc .vmem S1x704x1024 .bf16) (h5 : a5.IsWhole)
  (a13 : Memref sig .tc .vmem S1x512x704 .bf16) (h13 : a13.IsWhole)
  (a14 : Memref sig .tc .vmem S1x512x704 .bf16) (h14 : a14.IsWhole)
  (a15 : Memref sig .tc .vmem S1x512x704 .bf16) (h15 : a15.IsWhole)
  (a16 : Memref sig .tc .vmem S512x1024 .bf16) (h16 : a16.IsWhole)
  (X2 : Vec F S512x1024 .f32) (X3 X4 : Vec F S1x512x704 .bf16) (X5 : Vec F S1x704x1024 .bf16)

/-- The staged blocks and the scratch array, with what the written ones hold. -/
def held (X13 X14 X15 : Vec F S1x512x704 .bf16) (X16 f : Vec F S512x1024 .bf16) : sProp 𝕄 :=
  iprop(owns (c : Thread nD τ) a2 fullShare X2 ∗ owns (c : Thread nD τ) a3 fullShare X3 ∗ owns (c : Thread nD τ) a4 fullShare X4 ∗ owns (c : Thread nD τ) a5 fullShare X5 ∗ owns (c : Thread nD τ) a13 fullShare X13 ∗ owns (c : Thread nD τ) a14 fullShare X14 ∗ owns (c : Thread nD τ) a15 fullShare X15 ∗ owns (c : Thread nD τ) a16 fullShare X16
    ∗ owns (c : Thread nD τ) (Memref.whole cc0_scratch0) fullShare f)

theorem zero2 : (![0, 0] : Fin 2 → ℕ) = fun _ => 0 := by funext a; fin_cases a <;> rfl
theorem zero3 : (![0, 0, 0] : Fin 3 → ℕ) = fun _ => 0 := by funext a; fin_cases a <;> rfl

set_option maxHeartbeats 4000000 in
theorem sound_body (X13 X14 X15 : Vec F S1x512x704 .bf16) (X16 f : Vec F S512x1024 .bf16) :
    iprop((if k0_cond1 i = 1#1 then before m c else flying m c) ∗ held c a2 a3 a4 a5 a13 a14 a15 a16 X2 X3 X4 X5 X13 X14 X15 X16 f)
      ⊢ wp frame (wpE (defs₀ (F := F)) 𝒱₀ c none) Set.univ
          (cc0_ffn1_bwd_act i a2 h2 a3 h3 a4 h4 a5 h5 (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_arg9) (Memref.isWhole_whole _) (Memref.whole main_arg10) (Memref.isWhole_whole _)
            a13 h13 a14 h14 a15 h15 a16 h16 (Memref.whole main_v1_4) (Memref.isWhole_whole _) (Memref.whole main_v1_5) (Memref.isWhole_whole _) (Memref.whole main_v1_6) (Memref.isWhole_whole _) (Memref.whole main_v1_7) (Memref.isWhole_whole _) (Memref.whole main_v1_8) (Memref.isWhole_whole _) (Memref.whole main_v1_9) (Memref.isWhole_whole _) (Memref.whole main_v1_10) (Memref.isWhole_whole _) (Memref.whole cc0_scratch0) (Memref.isWhole_whole _) cc0_scratch1 cc0_scratch2)
          (fun _ => iprop((if k0_cond2 i = 1#1 then arrived m c else flying m c)
            ∗ held c a2 a3 a4 a5 a13 a14 a15 a16 X2 X3 X4 X5 (k0_pay10 X3 X4)
                (k0_pay1 (k0_pay5 X3) (k0_pay8 X3) (k0_pay11 X4 (if k0_cond3 i = 1#1 then k0_pay4 X2 else f) X5))
                (k0_pay2 (k0_pay7 (if k0_cond3 i = 1#1 then k0_pay4 X2 else f) X5) (k0_pay9 X3))
                (if k0_cond3 i = 1#1 then k0_pay3 X2 else X16)
                (if k0_cond3 i = 1#1 then k0_pay4 X2 else f))) := by
  simp only [cc0_ffn1_bwd_act_eq_skeleton]; unfold cc0_ffn1_bwd_act_skel
  simp only [k0_part28_eq_skeleton]; unfold k0_part28_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel
  simp only [Prog.lift, Prog.bind_op, Prog.bind_ret, Prog.pure_eq_ret, guard_bind]
  -- the copies start
  refine wp_guard 𝒱₀ (c : Thread nD τ) none Set.univ (iprop(flying m c ∗ held c a2 a3 a4 a5 a13 a14 a15 a16 X2 X3 X4 X5 X13 X14 X15 X16 f))
    ?_ ?_ (fun hc hk => ?_)
  · intro h; rw [if_neg h]
  rotate_left
  · rw [wp_deviceId, if_pos hc]
    unfold before flying at *
    rw [← left_zero]
    iintro ⟨H, HB⟩
    iapply (wp_copy m (n := 0) (0, 0) rfl (dev_eq (k0_dev1_eq c)) rfl rfl) $$ H
    iintro H
    iapply (wp_copy m (n := 1) (0, 1) rfl (dev_eq (k0_dev2_eq c)) rfl rfl) $$ H
    iintro H
    iapply (wp_copy m (n := 2) (0, 2) rfl (dev_eq (k0_dev3_eq c)) rfl rfl) $$ H
    iintro H
    iapply (wp_copy m (n := 3) (1, 0) rfl (dev_eq (k0_dev4_eq c)) rfl rfl) $$ H
    iintro H
    iapply (wp_copy m (n := 4) (1, 1) rfl (dev_eq (k0_dev5_eq c)) rfl rfl) $$ H
    iintro H
    iapply (wp_copy m (n := 5) (1, 2) rfl (dev_eq (k0_dev6_eq c)) rfl rfl) $$ H
    iintro H
    iapply (wp_copy m (n := 6) (2, 0) rfl (dev_eq (k0_dev7_eq c)) rfl rfl) $$ H
    iintro H
    iapply (wp_copy m (n := 7) (2, 1) rfl (dev_eq (k0_dev8_eq c)) rfl rfl) $$ H
    iintro H
    iapply (wp_copy m (n := 8) (2, 2) rfl (dev_eq (k0_dev9_eq c)) rfl rfl) $$ H
    iintro H
    iapply (wp_copy m (n := 9) (3, 0) rfl (dev_eq (k0_dev10_eq c)) rfl rfl) $$ H
    iintro H
    iapply (wp_copy m (n := 10) (3, 1) rfl (dev_eq (k0_dev11_eq c)) rfl rfl) $$ H
    iintro H
    iapply (wp_copy m (n := 11) (3, 2) rfl (dev_eq (k0_dev12_eq c)) rfl rfl) $$ H
    iintro H
    iapply (wp_copy m (n := 12) (4, 0) rfl (dev_eq (k0_dev13_eq c)) rfl rfl) $$ H
    iintro H
    iapply (wp_copy m (n := 13) (4, 1) rfl (dev_eq (k0_dev14_eq c)) rfl rfl) $$ H
    iintro H
    iapply (wp_copy m (n := 14) (4, 2) rfl (dev_eq (k0_dev15_eq c)) rfl rfl) $$ H
    iintro H
    iapply (wp_copy m (n := 15) (5, 0) rfl (dev_eq (k0_dev16_eq c)) rfl rfl) $$ H
    iintro H
    iapply (wp_copy m (n := 16) (5, 1) rfl (dev_eq (k0_dev17_eq c)) rfl rfl) $$ H
    iintro H
    iapply (wp_copy m (n := 17) (5, 2) rfl (dev_eq (k0_dev18_eq c)) rfl rfl) $$ H
    iintro H
    iapply (wp_copy m (n := 18) (6, 0) rfl (dev_eq (k0_dev19_eq c)) rfl rfl) $$ H
    iintro H
    iapply (wp_copy m (n := 19) (6, 1) rfl (dev_eq (k0_dev20_eq c)) rfl rfl) $$ H
    iintro H
    iapply (wp_copy m (n := 20) (6, 2) rfl (dev_eq (k0_dev21_eq c)) rfl rfl) $$ H
    iintro H
    rw [left_end _ rfl, table.dues_empty]
    icases H with ⟨HS, HO⟩
    ihave HS := (waiting_of_sent table (goods m) ER c) $$ HS
    iapply hk
    isplitl [HS HO]
    · isplitl [HS] <;> iassumption
    iexact HB
  -- the copies are waited for
  refine wp_guard 𝒱₀ (c : Thread nD τ) none Set.univ (iprop((if k0_cond2 i = 1#1 then arrived m c else flying m c)
    ∗ held c a2 a3 a4 a5 a13 a14 a15 a16 X2 X3 X4 X5 X13 X14 X15 X16 f)) ?_ ?_ (fun hc hk => ?_)
  · intro h; rw [if_neg h]
  rotate_left
  · rw [wp_deviceId]
    simp only [if_pos hc] at hk ⊢
    unfold arrived at hk ⊢
    unfold flying
    rw [← open_zero]
    iintro ⟨H, HB⟩
    iapply (wp_next table (goods m) ER (c := c) (n := 0) (.inl (0, 0)) rfl (wpE_waitDma2_eq 𝒱₀ (c : Thread nD τ) none Set.univ) rfl rfl) $$ H
    iintro H
    iapply (wp_next table (goods m) ER (c := c) (n := 1) (.inr (0, 0)) rfl (wpE_waitDma2_eq 𝒱₀ (c : Thread nD τ) none Set.univ) rfl rfl) $$ H
    iintro H
    iapply (wp_next table (goods m) ER (c := c) (n := 2) (.inl (0, 1)) rfl (wpE_waitDma2_eq 𝒱₀ (c : Thread nD τ) none Set.univ) rfl rfl) $$ H
    iintro H
    iapply (wp_next table (goods m) ER (c := c) (n := 3) (.inr (0, 1)) rfl (wpE_waitDma2_eq 𝒱₀ (c : Thread nD τ) none Set.univ) rfl rfl) $$ H
    iintro H
    iapply (wp_next table (goods m) ER (c := c) (n := 4) (.inl (0, 2)) rfl (wpE_waitDma2_eq 𝒱₀ (c : Thread nD τ) none Set.univ) rfl rfl) $$ H
    iintro H
    iapply (wp_next table (goods m) ER (c := c) (n := 5) (.inr (0, 2)) rfl (wpE_waitDma2_eq 𝒱₀ (c : Thread nD τ) none Set.univ) rfl rfl) $$ H
    iintro H
    iapply (wp_next table (goods m) ER (c := c) (n := 6) (.inl (1, 0)) rfl (wpE_waitDma2_eq 𝒱₀ (c : Thread nD τ) none Set.univ) rfl rfl) $$ H
    iintro H
    iapply (wp_next table (goods m) ER (c := c) (n := 7) (.inr (1, 0)) rfl (wpE_waitDma2_eq 𝒱₀ (c : Thread nD τ) none Set.univ) rfl rfl) $$ H
    iintro H
    iapply (wp_next table (goods m) ER (c := c) (n := 8) (.inl (1, 1)) rfl (wpE_waitDma2_eq 𝒱₀ (c : Thread nD τ) none Set.univ) rfl rfl) $$ H
    iintro H
    iapply (wp_next table (goods m) ER (c := c) (n := 9) (.inr (1, 1)) rfl (wpE_waitDma2_eq 𝒱₀ (c : Thread nD τ) none Set.univ) rfl rfl) $$ H
    iintro H
    iapply (wp_next table (goods m) ER (c := c) (n := 10) (.inl (1, 2)) rfl (wpE_waitDma2_eq 𝒱₀ (c : Thread nD τ) none Set.univ) rfl rfl) $$ H
    iintro H
    iapply (wp_next table (goods m) ER (c := c) (n := 11) (.inr (1, 2)) rfl (wpE_waitDma2_eq 𝒱₀ (c : Thread nD τ) none Set.univ) rfl rfl) $$ H
    iintro H
    iapply (wp_next table (goods m) ER (c := c) (n := 12) (.inl (2, 0)) rfl (wpE_waitDma2_eq 𝒱₀ (c : Thread nD τ) none Set.univ) rfl rfl) $$ H
    iintro H
    iapply (wp_next table (goods m) ER (c := c) (n := 13) (.inr (2, 0)) rfl (wpE_waitDma2_eq 𝒱₀ (c : Thread nD τ) none Set.univ) rfl rfl) $$ H
    iintro H
    iapply (wp_next table (goods m) ER (c := c) (n := 14) (.inl (2, 1)) rfl (wpE_waitDma2_eq 𝒱₀ (c : Thread nD τ) none Set.univ) rfl rfl) $$ H
    iintro H
    iapply (wp_next table (goods m) ER (c := c) (n := 15) (.inr (2, 1)) rfl (wpE_waitDma2_eq 𝒱₀ (c : Thread nD τ) none Set.univ) rfl rfl) $$ H
    iintro H
    iapply (wp_next table (goods m) ER (c := c) (n := 16) (.inl (2, 2)) rfl (wpE_waitDma2_eq 𝒱₀ (c : Thread nD τ) none Set.univ) rfl rfl) $$ H
    iintro H
    iapply (wp_next table (goods m) ER (c := c) (n := 17) (.inr (2, 2)) rfl (wpE_waitDma2_eq 𝒱₀ (c : Thread nD τ) none Set.univ) rfl rfl) $$ H
    iintro H
    iapply (wp_next table (goods m) ER (c := c) (n := 18) (.inl (3, 0)) rfl (wpE_waitDma2_eq 𝒱₀ (c : Thread nD τ) none Set.univ) rfl rfl) $$ H
    iintro H
    iapply (wp_next table (goods m) ER (c := c) (n := 19) (.inr (3, 0)) rfl (wpE_waitDma2_eq 𝒱₀ (c : Thread nD τ) none Set.univ) rfl rfl) $$ H
    iintro H
    iapply (wp_next table (goods m) ER (c := c) (n := 20) (.inl (3, 1)) rfl (wpE_waitDma2_eq 𝒱₀ (c : Thread nD τ) none Set.univ) rfl rfl) $$ H
    iintro H
    iapply (wp_next table (goods m) ER (c := c) (n := 21) (.inr (3, 1)) rfl (wpE_waitDma2_eq 𝒱₀ (c : Thread nD τ) none Set.univ) rfl rfl) $$ H
    iintro H
    iapply (wp_next table (goods m) ER (c := c) (n := 22) (.inl (3, 2)) rfl (wpE_waitDma2_eq 𝒱₀ (c : Thread nD τ) none Set.univ) rfl rfl) $$ H
    iintro H
    iapply (wp_next table (goods m) ER (c := c) (n := 23) (.inr (3, 2)) rfl (wpE_waitDma2_eq 𝒱₀ (c : Thread nD τ) none Set.univ) rfl rfl) $$ H
    iintro H
    iapply (wp_next table (goods m) ER (c := c) (n := 24) (.inl (4, 0)) rfl (wpE_waitDma2_eq 𝒱₀ (c : Thread nD τ) none Set.univ) rfl rfl) $$ H
    iintro H
    iapply (wp_next table (goods m) ER (c := c) (n := 25) (.inr (4, 0)) rfl (wpE_waitDma2_eq 𝒱₀ (c : Thread nD τ) none Set.univ) rfl rfl) $$ H
    iintro H
    iapply (wp_next table (goods m) ER (c := c) (n := 26) (.inl (4, 1)) rfl (wpE_waitDma2_eq 𝒱₀ (c : Thread nD τ) none Set.univ) rfl rfl) $$ H
    iintro H
    iapply (wp_next table (goods m) ER (c := c) (n := 27) (.inr (4, 1)) rfl (wpE_waitDma2_eq 𝒱₀ (c : Thread nD τ) none Set.univ) rfl rfl) $$ H
    iintro H
    iapply (wp_next table (goods m) ER (c := c) (n := 28) (.inl (4, 2)) rfl (wpE_waitDma2_eq 𝒱₀ (c : Thread nD τ) none Set.univ) rfl rfl) $$ H
    iintro H
    iapply (wp_next table (goods m) ER (c := c) (n := 29) (.inr (4, 2)) rfl (wpE_waitDma2_eq 𝒱₀ (c : Thread nD τ) none Set.univ) rfl rfl) $$ H
    iintro H
    iapply (wp_next table (goods m) ER (c := c) (n := 30) (.inl (5, 0)) rfl (wpE_waitDma2_eq 𝒱₀ (c : Thread nD τ) none Set.univ) rfl rfl) $$ H
    iintro H
    iapply (wp_next table (goods m) ER (c := c) (n := 31) (.inr (5, 0)) rfl (wpE_waitDma2_eq 𝒱₀ (c : Thread nD τ) none Set.univ) rfl rfl) $$ H
    iintro H
    iapply (wp_next table (goods m) ER (c := c) (n := 32) (.inl (5, 1)) rfl (wpE_waitDma2_eq 𝒱₀ (c : Thread nD τ) none Set.univ) rfl rfl) $$ H
    iintro H
    iapply (wp_next table (goods m) ER (c := c) (n := 33) (.inr (5, 1)) rfl (wpE_waitDma2_eq 𝒱₀ (c : Thread nD τ) none Set.univ) rfl rfl) $$ H
    iintro H
    iapply (wp_next table (goods m) ER (c := c) (n := 34) (.inl (5, 2)) rfl (wpE_waitDma2_eq 𝒱₀ (c : Thread nD τ) none Set.univ) rfl rfl) $$ H
    iintro H
    iapply (wp_next table (goods m) ER (c := c) (n := 35) (.inr (5, 2)) rfl (wpE_waitDma2_eq 𝒱₀ (c : Thread nD τ) none Set.univ) rfl rfl) $$ H
    iintro H
    iapply (wp_next table (goods m) ER (c := c) (n := 36) (.inl (6, 0)) rfl (wpE_waitDma2_eq 𝒱₀ (c : Thread nD τ) none Set.univ) rfl rfl) $$ H
    iintro H
    iapply (wp_next table (goods m) ER (c := c) (n := 37) (.inr (6, 0)) rfl (wpE_waitDma2_eq 𝒱₀ (c : Thread nD τ) none Set.univ) rfl rfl) $$ H
    iintro H
    iapply (wp_next table (goods m) ER (c := c) (n := 38) (.inl (6, 1)) rfl (wpE_waitDma2_eq 𝒱₀ (c : Thread nD τ) none Set.univ) rfl rfl) $$ H
    iintro H
    iapply (wp_next table (goods m) ER (c := c) (n := 39) (.inr (6, 1)) rfl (wpE_waitDma2_eq 𝒱₀ (c : Thread nD τ) none Set.univ) rfl rfl) $$ H
    iintro H
    iapply (wp_next table (goods m) ER (c := c) (n := 40) (.inl (6, 2)) rfl (wpE_waitDma2_eq 𝒱₀ (c : Thread nD τ) none Set.univ) rfl rfl) $$ H
    iintro H
    iapply (wp_next table (goods m) ER (c := c) (n := 41) (.inr (6, 2)) rfl (wpE_waitDma2_eq 𝒱₀ (c : Thread nD τ) none Set.univ) rfl rfl) $$ H
    iintro H
    rw [open_end _ rfl]
    iapply hk
    isplitl [H] <;> iassumption
  generalize (if k0_cond2 i = 1#1 then arrived m c else flying m c) = HX
  -- the rows of a tile are scaled
  refine wp_guard 𝒱₀ (c : Thread nD τ) none Set.univ (iprop(HX ∗ held c a2 a3 a4 a5 a13 a14 a15 a16 X2 X3 X4 X5 X13 X14 X15
      (if k0_cond3 i = 1#1 then k0_pay3 X2 else X16) (if k0_cond3 i = 1#1 then k0_pay4 X2 else f)))
    ?_ ?_ (fun hc hk => ?_)
  · intro h; rw [if_neg h, if_neg h]
  rotate_left
  · simp only [if_pos hc] at hk ⊢
    unfold held at *
    iintro ⟨HE, B2, B3, B4, B5, B13, B14, B15, B16, BS⟩
    iapply (wp_load_owns 𝒱₀ (c : Thread nD τ) none Set.univ zero2) $$ B2
    iintro B2
    iapply (wp_load_owns 𝒱₀ (c : Thread nD τ) none Set.univ zero2) $$ BS
    iintro BS
    iapply (wp_store_owns 𝒱₀ (c : Thread nD τ) none Set.univ zero2) $$ BS
    iintro BS
    iapply (wp_load_owns 𝒱₀ (c : Thread nD τ) none Set.univ zero2) $$ B16
    iintro B16
    iapply (wp_store_owns 𝒱₀ (c : Thread nD τ) none Set.univ zero2) $$ B16
    iintro B16
    iapply hk
    iframe
  generalize (if k0_cond3 i = 1#1 then k0_pay3 X2 else X16) = Y16
  generalize (if k0_cond3 i = 1#1 then k0_pay4 X2 else f) = f'
  -- the part of a slab
  unfold held
  iintro ⟨HE, B2, B3, B4, B5, B13, B14, B15, B16, BS⟩
  iapply (wp_load_owns 𝒱₀ (c : Thread nD τ) none Set.univ zero3) $$ B3
  iintro B3
  iapply (wp_load_owns 𝒱₀ (c : Thread nD τ) none Set.univ zero3) $$ B4
  iintro B4
  iapply (wp_load_owns 𝒱₀ (c : Thread nD τ) none Set.univ zero2) $$ BS
  iintro BS
  iapply (wp_load_owns 𝒱₀ (c : Thread nD τ) none Set.univ zero3) $$ B5
  iintro B5
  iapply (wp_load_owns 𝒱₀ (c : Thread nD τ) none Set.univ zero3) $$ B13
  iintro B13
  iapply (wp_store_owns 𝒱₀ (c : Thread nD τ) none Set.univ zero3) $$ B13
  iintro B13
  iapply (wp_load_owns 𝒱₀ (c : Thread nD τ) none Set.univ zero3) $$ B14
  iintro B14
  iapply (wp_store_owns 𝒱₀ (c : Thread nD τ) none Set.univ zero3) $$ B14
  iintro B14
  iapply (wp_load_owns 𝒱₀ (c : Thread nD τ) none Set.univ zero3) $$ B15
  iintro B15
  iapply (wp_store_owns 𝒱₀ (c : Thread nD τ) none Set.univ zero3) $$ B15
  iintro B15
  rw [wp_ret]; imodintro
  iframe

end body

/-! ## The pipeline's data -/

theorem N_eq : cfg0.N = 64 := N_0

/-- Grid point number `n`. -/
def pt (n : ℕ) : Fin cfg0.N := ⟨n % 64, by rw [N_eq]; omega⟩
theorem pt_val (t : Fin cfg0.N) : pt t.val = t := Fin.ext (Nat.mod_eq_of_lt (N_eq ▸ t.isLt))

abbrev x0 (c : Dev nD) (t : Fin cfg0.N) : Vec F S512x1024 .f32 := iblk m c 0 t
abbrev x1 (c : Dev nD) (t : Fin cfg0.N) : Vec F S1x512x704 .bf16 := iblk m c 1 t
abbrev x2 (c : Dev nD) (t : Fin cfg0.N) : Vec F S1x512x704 .bf16 := iblk m c 2 t
abbrev x3 (c : Dev nD) (t : Fin cfg0.N) : Vec F S1x704x1024 .bf16 := iblk m c 3 t

/-- The scaled rows of tile `n`, as they are written and as the scratch array holds them. -/
def scaled (c : Dev nD) (n : ℕ) : Vec F S512x1024 .bf16 := k0_pay3 (x0 m c (pt (4 * n)))
def stored (c : Dev nD) (n : ℕ) : Vec F S512x1024 .bf16 := k0_pay4 (x0 m c (pt (4 * n)))

/-- The parts of the three other results that point `t` gives. -/
def part0 (c : Dev nD) (t : Fin cfg0.N) : Vec F S1x512x704 .bf16 := k0_pay10 (x1 m c t) (x2 m c t)
def part1 (c : Dev nD) (t : Fin cfg0.N) : Vec F S1x512x704 .bf16 :=
  k0_pay1 (k0_pay5 (x1 m c t)) (k0_pay8 (x1 m c t)) (k0_pay11 (x2 m c t) (stored m c (t.val / 4)) (x3 m c t))
def part2 (c : Dev nD) (t : Fin cfg0.N) : Vec F S1x512x704 .bf16 := k0_pay2 (k0_pay7 (stored m c (t.val / 4)) (x3 m c t)) (k0_pay9 (x1 m c t))

def dats (_ : Fin 1) (c : Dev nD) : Dat τ (Elt F) Unit ℕ UU ℕ cfg0 c where
  A w := m ((c : Thread nD τ).loc (Pipeline.arrRef spec0 w))
  after w t := match w with
    | 0 => iblk m c 0 t
    | 1 => iblk m c 1 t
    | 2 => iblk m c 2 t
    | 3 => iblk m c 3 t
    | 4 => part0 m c t
    | 5 => part1 m c t
    | 6 => part2 m c t
    | 7 => scaled m c (t.val / 4)
  Φ t := if t.val = 0 then iprop(Sending table (goods m) ER c Finset.univ ∗ ∃ f, owns (c : Thread nD τ) (Memref.whole cc0_scratch0) fullShare f)
    else iprop(Waiting table (goods m) ER c (if t.val = 64 then ∅ else Finset.univ) ∗ owns (c : Thread nD τ) (Memref.whole cc0_scratch0) fullShare (stored m c ((t.val - 1) / 4)))
  q _ := fullShare
  owed t := if t.val = 0 then table.dues c Finset.univ else 0

theorem cond1_iff : ∀ t : Fin cfg0.N, k0_cond1 (grid0.coords t) = 1#1 ↔ t.val = 0 := by decide +kernel
theorem cond2_iff : ∀ t : Fin cfg0.N, k0_cond2 (grid0.coords t) = 1#1 ↔ t.val = 63 := by decide +kernel
theorem cond3_iff : ∀ t : Fin cfg0.N, k0_cond3 (grid0.coords t) = 1#1 ↔ t.val % 4 = 0 := by decide +kernel
theorem idle7_iff : ∀ t : Fin cfg0.N, cfg0.idle 7 (grid0.coords t) = true ↔ t.val % 4 ≠ 0 := by decide +kernel
theorem fresh7 : ∀ t : Fin cfg0.N, cfg0.fresh 7 t.val = true → t.val % 4 = 0 := by decide +kernel

theorem tile_first (t : Fin cfg0.N) (h : t.val % 4 = 0) : pt (4 * (t.val / 4)) = t := by
  rw [show 4 * (t.val / 4) = t.val by omega, pt_val]

theorem stored_step (c : Dev nD) (t : Fin cfg0.N) (f : Vec F S512x1024 .bf16) (h : t.val ≠ 0 → f = stored m c ((t.val - 1) / 4)) :
    (if k0_cond3 (grid0.coords t) = 1#1 then k0_pay4 (x0 m c t) else f) = stored m c (t.val / 4) := by
  by_cases h0 : t.val % 4 = 0
  · rw [if_pos ((cond3_iff t).2 h0)]
    unfold stored
    rw [tile_first t h0]
  · rw [if_neg (fun hc => h0 ((cond3_iff t).1 hc)), h (by omega), show (t.val - 1) / 4 = t.val / 4 by omega]

/-- An input's staged block is its array's block at every point. -/
theorem before_in (c : Dev nD) (t : Fin cfg0.N) :
    (∀ d, (dats m 0 c).before 0 t d = x0 m c t)
      ∧ (∀ d, (dats m 0 c).before 1 t d = x1 m c t)
      ∧ (∀ d, (dats m 0 c).before 2 t d = x2 m c t)
      ∧ (∀ d, (dats m 0 c).before 3 t d = x3 m c t) :=
  ⟨fun d => (dats m 0 c).before_in_eq_fetched 0 rfl (fun _ => rfl) (fun _ _ _ => rfl) (fun _ => rfl) t d,
   fun d => (dats m 0 c).before_in_eq_fetched 1 rfl (fun _ => rfl) (fun _ _ _ => rfl) (fun _ => rfl) t d,
   fun d => (dats m 0 c).before_in_eq_fetched 2 rfl (fun _ => rfl) (fun _ _ _ => rfl) (fun _ => rfl) t d,
   fun d => (dats m 0 c).before_in_eq_fetched 3 rfl (fun _ => rfl) (fun _ _ _ => rfl) (fun _ => rfl) t d⟩

/-- After the first slab of a tile the last result's staged block holds the scaled rows. -/
theorem before_scaled (c : Dev nD) (t : Fin cfg0.N) (ht : t.val % 4 ≠ 0) (d) : (dats m 0 c).before 7 t d = scaled m c (t.val / 4) := by
  rw [(dats m 0 c).before_out_traj 7 rfl (fun _ _ => rfl) (fun t ht hi _ => ?_) t.val t rfl d, if_neg (fun h => ht (fresh7 t h))]
  · show scaled m c ((t.val - 1) / 4) = _
    congr 1; omega
  · show scaled m c (t.val / 4) = scaled m c ((t.val - 1) / 4)
    have := (idle7_iff t).1 hi
    congr 1; omega

theorem owes_open (c : Dev nD) (t : Fin (cfg0.N + 1)) : (dats m 0 c).owesAt () t ⊢ owing c ((dats m 0 c).owed t) := by
  unfold Dat.owesAt Pipeline.owesWithin owing
  iintro ⟨%W, %hW, HO⟩
  iexists W; iexact HO

theorem owes_close (c : Dev nD) (t : Fin (cfg0.N + 1)) : owing c ((dats m 0 c).owed t) ⊢ (dats m 0 c).owesAt () t := by
  unfold Dat.owesAt Pipeline.owesWithin owing
  iintro ⟨%W, HO⟩
  iexists W
  isplitr; · ipureintro; exact fun _ _ => Or.inl trivial
  iexact HO

theorem inv_first (c : Dev nD) (t : Fin (cfg0.N + 1)) (h : t.val = 0) :
    (dats m 0 c).Φ t = iprop(Sending table (goods m) ER c Finset.univ ∗ ∃ f, owns (c : Thread nD τ) (Memref.whole cc0_scratch0) fullShare f) := if_pos h
theorem inv_later (c : Dev nD) (t : Fin (cfg0.N + 1)) (h : t.val ≠ 0) :
    (dats m 0 c).Φ t = iprop(Waiting table (goods m) ER c (if t.val = 64 then ∅ else Finset.univ)
      ∗ owns (c : Thread nD τ) (Memref.whole cc0_scratch0) fullShare (stored m c ((t.val - 1) / 4))) := if_neg h
theorem owed_first (c : Dev nD) (t : Fin (cfg0.N + 1)) (h : t.val = 0) : (dats m 0 c).owed t = table.dues c Finset.univ := if_pos h
theorem owed_later (c : Dev nD) (t : Fin (cfg0.N + 1)) (h : t.val ≠ 0) : (dats m 0 c).owed t = 0 := if_neg h

/-- The exchange's state before a point, taken from the invariant. -/
theorem exchange_open (c : Dev nD) (t : Fin cfg0.N) :
    iprop((dats m 0 c).Φ t.castSucc ∗ (dats m 0 c).owesAt () t.castSucc)
      ⊢ iprop(∃ f, ⌜t.val ≠ 0 → f = stored m c ((t.val - 1) / 4)⌝ ∗ (if k0_cond1 (grid0.coords t) = 1#1 then before m c else flying m c)
          ∗ owns (c : Thread nD τ) (Memref.whole cc0_scratch0) fullShare f) := by
  have hlt : t.val < 64 := N_eq ▸ t.isLt
  refine (sep_mono .rfl (owes_open m c _)).trans ?_
  by_cases h : t.val = 0
  · rw [inv_first m c t.castSucc h, owed_first m c t.castSucc h, if_pos ((cond1_iff t).2 h)]
    unfold before
    iintro ⟨⟨HS, ⟨%f, Hf⟩⟩, HO⟩
    iexists f
    isplitr; · ipureintro; exact fun h' => absurd h h'
    iframe
  · rw [inv_later m c t.castSucc h, owed_later m c t.castSucc h, if_neg (fun hc => h ((cond1_iff t).1 hc)), if_neg (show ¬ t.castSucc.val = 64 by show ¬ t.val = 64; omega)]
    unfold flying
    iintro ⟨⟨HS, Hf⟩, HO⟩
    iexists _
    isplitr
    swap
    · iframe
    ipureintro; exact fun _ => rfl

/-- The exchange's state after a point, given to the invariant. -/
theorem exchange_close (c : Dev nD) (t : Fin cfg0.N) :
    iprop((if k0_cond2 (grid0.coords t) = 1#1 then arrived m c else flying m c) ∗ owns (c : Thread nD τ) (Memref.whole cc0_scratch0) fullShare (stored m c (t.val / 4)))
      ⊢ iprop((dats m 0 c).Φ t.succ ∗ (dats m 0 c).owesAt () t.succ) := by
  have hlt : t.val < 64 := N_eq ▸ t.isLt
  refine BIBase.Entails.trans ?_ (sep_mono (.rfl (P := (dats m 0 c).Φ t.succ)) (owes_close m c t.succ))
  rw [inv_later m c t.succ (Nat.succ_ne_zero _), owed_later m c t.succ (Nat.succ_ne_zero _)]
  show _ ⊢ iprop((Waiting table (goods m) ER c (if t.val + 1 = 64 then ∅ else Finset.univ) ∗ owns (c : Thread nD τ) (Memref.whole cc0_scratch0) fullShare (stored m c (t.val / 4))) ∗ _)
  by_cases h : t.val = 63
  · rw [if_pos ((cond2_iff t).2 h), if_pos (show t.val + 1 = 64 by omega)]
    unfold arrived
    iintro ⟨⟨HS, HO⟩, Hf⟩
    iframe
  · rw [if_neg (fun hc => h ((cond2_iff t).1 hc)), if_neg (show ¬ t.val + 1 = 64 by omega)]
    unfold flying
    iintro ⟨⟨HS, HO⟩, Hf⟩
    iframe

/-- What a point leaves in the last result's staged block. -/
theorem left_scaled (c : Dev nD) (t : Fin cfg0.N) (d) :
    owns (c : Thread nD τ) (st0_7 t) fullShare (if k0_cond3 (grid0.coords t) = 1#1 then k0_pay3 (x0 m c t) else (dats m 0 c).before 7 t d)
      ⊢ (match cfg0.idle 7 (grid0.coords t) with
          | true => match (cfg0.win 7).flush t with
            | false => iprop(∃ d, owns (c : Thread nD τ) (st0_7 t) fullShare ((dats m 0 c).before 7 t d))
            | true => owns (c : Thread nD τ) (st0_7 t) fullShare ((dats m 0 c).after 7 t)
          | false => owns (c : Thread nD τ) (st0_7 t) fullShare ((dats m 0 c).after 7 t) : sProp 𝕄) := by
  by_cases h : t.val % 4 = 0
  · rw [if_pos ((cond3_iff t).2 h), show cfg0.idle 7 (grid0.coords t) = false from Bool.eq_false_iff.2 fun hi => (idle7_iff t).1 hi h]
    refine Entails.of_eq ?_
    show _ = owns (c : Thread nD τ) (st0_7 t) fullShare (scaled m c (t.val / 4))
    unfold scaled
    rw [tile_first t h]
  · rw [if_neg (fun hc => h ((cond3_iff t).1 hc)), (idle7_iff t).2 h]
    by_cases h3 : t.val % 4 = 3
    · rw [(flush0_7 t).2 h3, before_scaled m c t h]
      exact .rfl
    · rw [show (cfg0.win 7).flush t = false from Bool.eq_false_iff.2 fun hi => h3 ((flush0_7 t).1 hi)]
      iintro H; iexists d; iexact H

set_option maxHeartbeats 1600000 in
theorem body_point (c : Dev nD) (t : Fin cfg0.N) (d4 d5 d6 d7) (f : Vec F S512x1024 .bf16) (hf : t.val ≠ 0 → f = stored m c ((t.val - 1) / 4)) :
    iprop((if k0_cond1 (grid0.coords t) = 1#1 then before m c else flying m c)
        ∗ held c (st0_0 t) (st0_1 t) (st0_2 t) (st0_3 t) (st0_4 t) (st0_5 t) (st0_6 t) (st0_7 t) (x0 m c t) (x1 m c t) (x2 m c t) (x3 m c t)
            ((dats m 0 c).before 4 t d4) ((dats m 0 c).before 5 t d5) ((dats m 0 c).before 6 t d6) ((dats m 0 c).before 7 t d7) f)
      ⊢ wp frame (wpE (defs₀ (F := F)) 𝒱₀ c none) Set.univ (bodyAt0 t) (fun _ => iprop((dats m 0 c).Φ t.succ ∗ (dats m 0 c).owesAt () t.succ
          ∗ bigSep Finset.univ fun w : Fin cfg0.W =>
              match cfg0.idle w (grid0.coords t) with
              | true => match (cfg0.win w).flush t with
                | false => iprop(∃ d, owns c ((cfg0.win w).stage (cfg0.slots t w)) fullShare ((dats m 0 c).before w t d))
                | true => owns c ((cfg0.win w).stage (cfg0.slots t w)) fullShare ((dats m 0 c).after w t)
              | false => owns c ((cfg0.win w).stage (cfg0.slots t w)) fullShare ((dats m 0 c).after w t))) := by
  refine (sound_body m c (grid0.coords t) (st0_0 t) _ (st0_1 t) _ (st0_2 t) _ (st0_3 t) _ (st0_4 t) _ (st0_5 t) _ (st0_6 t) _ (st0_7 t) _ _ _ _ _ _ _ _ _ _).trans
    (wp_mono frame _ _ fun _ => ?_)
  rw [stored_step m c t f hf, bigSep_W0]
  unfold held
  iintro ⟨HX, B0, B1, B2, B3, B4, B5, B6, B7, BS⟩
  ihave H := (exchange_close m c t) $$ [HX BS]
  · isplitl [HX] <;> iassumption
  icases H with ⟨HΦ, HO⟩
  isplitl [HΦ]; · iexact HΦ
  isplitl [HO]; · iexact HO
  isplitl [B0]; · iexact B0
  isplitl [B1]; · iexact B1
  isplitl [B2]; · iexact B2
  isplitl [B3]; · iexact B3
  isplitl [B4]; · iexact B4
  isplitl [B5]; · iexact B5
  isplitl [B6]; · iexact B6
  iapply (left_scaled m c t d7); iexact B7

set_option maxHeartbeats 1600000 in
theorem body_obligation (c : Dev nD) : BodyObligation (dats (F := F) m 0 c) (defs₀ (F := F)) 𝒱₀ () Set.univ := fun t => by
  obtain ⟨b0, b1, b2, b3⟩ := before_in m c t
  dsimp only
  rw [bigSep_W0]
  simp only [b0, b1, b2, b3]
  iintro ⟨HΦ, HO, ⟨%_, B0⟩, ⟨%_, B1⟩, ⟨%_, B2⟩, ⟨%_, B3⟩, ⟨%d4, B4⟩, ⟨%d5, B5⟩, ⟨%d6, B6⟩, ⟨%d7, B7⟩⟩
  ihave H := (exchange_open m c t) $$ [HΦ HO]
  · isplitl [HΦ] <;> iassumption
  icases H with ⟨%f, %hf, HX, BS⟩
  iapply (body_point m c t d4 d5 d6 d7 f hf)
  unfold held
  iframe

/-! ## The launch -/

def u₀ : UU := (initOf (Pipeline.cells cfgs cellOf_inj) (Pipeline.launchToks cfgs cellOf_inj), initOf (cells table) (toks table))

theorem ownSemFacts : Pipeline.OwnSemFacts cfg0.spec table.sem := by decide +kernel

theorem staging_ne : ∀ (w : Fin cfg0.W) (s : Fin (spec0 w).nbuf) (i : Fin 7 × Fin 3), SemLoc.dma ((spec0 w).sem s) ≠ table.rcv i := by decide +kernel

theorem may_wait (c : Dev nD) (t : Fin (cfg0.N + 1)) (q : DmaSem sig) (hq : ∀ i, SemLoc.dma q ≠ table.rcv i) :
    (levAts tcOnly table.level : sProp 𝕄) ⊢ MayWait (c.tc : Thread nD τ) (.dma q) () ((dats m 0 c).owed t) := by
  by_cases h : t.val = 0
  · rw [owed_first m c t h]; exact table.mayWait c q hq Finset.univ
  · rw [owed_later m c t h, ← table.dues_empty c]; exact table.mayWait c q hq ∅

/-- What device `c` keeps of the arrays the copies read. -/
def kept (c : Dev nD) : sProp 𝕄 :=
  iprop((((c : Thread nD τ).loc main_arg4) ↦{fullShare.left.left.left} m ((c : Thread nD τ).loc main_arg4))
    ∗ (((c : Thread nD τ).loc main_arg5) ↦{fullShare.left.left.left} m ((c : Thread nD τ).loc main_arg5))
    ∗ (((c : Thread nD τ).loc main_arg6) ↦{fullShare.left.left.left} m ((c : Thread nD τ).loc main_arg6))
    ∗ (((c : Thread nD τ).loc main_arg7) ↦{fullShare.left.left.left} m ((c : Thread nD τ).loc main_arg7))
    ∗ (((c : Thread nD τ).loc main_arg8) ↦{fullShare.left.left.left} m ((c : Thread nD τ).loc main_arg8))
    ∗ (((c : Thread nD τ).loc main_arg9) ↦{fullShare.left.left.left} m ((c : Thread nD τ).loc main_arg9))
    ∗ (((c : Thread nD τ).loc main_arg10) ↦{fullShare.left.left.left} m ((c : Thread nD τ).loc main_arg10)))

/-- The three slabs of a result array have no element in common. -/
theorem slabs_disjoint (a : Fin 7) (k l : Fin 3) (h : k.val + 1 ≤ l.val) : Disjoint (resM (a, k)).view.set (resM (a, l)).view.set := by
  rw [Memref.set_view_squeeze, Memref.set_view_squeeze]
  exact View.disjoint_slice_of_sep (outM a).view _ _ 0 rfl rfl (.inl h)

theorem room_of (i : Fin 7 × Fin 3) (c : Dev nD) (f : Buf (Elt F) ((resM i).view.loc (c : Thread nD τ))) :
    ((resM i).view.loc (c : Thread nD τ) ↦[(resM i).view.set]{fullShare} f : sProp 𝕄) ⊢ (goods m).room i c := by
  unfold goods
  dsimp only
  iintro H
  iexists f; iexact H

theorem rooms (a : Fin 7) (c : Dev nD) (f : Buf (Elt F) ((outM a).view.loc (c : Thread nD τ))) :
    ((outM a).view.loc (c : Thread nD τ) ↦{fullShare} f : sProp 𝕄) ⊢ bigSep Finset.univ fun k => (goods m).room (a, k) c := by
  refine (parts (ℓ := (outM a).view.loc (c : Thread nD τ)) (fun k => match k with | 0 => (resM (a, 0)).view.set | 1 => (resM (a, 1)).view.set | 2 => (resM (a, 2)).view.set) (slabs_disjoint a 0 1 (by decide))
    (slabs_disjoint a 0 2 (by decide)) (slabs_disjoint a 1 2 (by decide)) f).trans (bigSep_mono fun k _ => ?_)
  match k with
  | 0 => exact room_of m (a, 0) c f
  | 1 => exact room_of m (a, 1) c f
  | 2 => exact room_of m (a, 2) c f

theorem loans (a : Fin 7) (c : Dev nD) :
    ((argM a).view.loc (c : Thread nD τ) ↦{fullShare} m ((argM a).view.loc (c : Thread nD τ)) : sProp 𝕄)
      ⊢ iprop(((argM a).view.loc (c : Thread nD τ) ↦{fullShare.left.left.left} m ((argM a).view.loc (c : Thread nD τ)))
        ∗ bigSep Finset.univ fun k => (goods m).src (a, k) c) := by
  refine (lend3 (ℓ := (argM a).view.loc (c : Thread nD τ)) (fun k => match k with | 0 => (srcM (a, 0) c).view.set | 1 => (srcM (a, 1) c).view.set | 2 => (srcM (a, 2) c).view.set) _).trans ?_
  rw [bigSep3]
  exact .rfl

theorem bigSep7 {M : Type} [URA M] (Φ : Fin 7 → sProp M) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- A device's arrays as what it keeps, what it lends and the room it offers. -/
theorem arrays (c : Dev nD) :
    (Pipeline.unscopedRest cfg0.spec c (fun b => m ((c : Thread nD τ).loc b)) : sProp 𝕄)
      ⊢ iprop(kept m c ∗ (bigSep Finset.univ fun i => (goods m).src i c) ∗ bigSep Finset.univ fun i => (goods m).room i c) := by
  rw [unscopedRest0_eq, bigSep_univ_prod (fun i => (goods m).src i c), bigSep_univ_prod (fun i => (goods m).room i c),
    bigSep7 (fun a => bigSep Finset.univ fun k => (goods m).src (a, k) c), bigSep7 (fun a => bigSep Finset.univ fun k => (goods m).room (a, k) c)]
  iintro ⟨H0, H1, H2, H3, H4, H5, H6, R0, R1, R2, R3, R4, R5, R6⟩
  ihave H0 := (loans m 0 c) $$ H0
  icases H0 with ⟨K0, L0⟩
  ihave H1 := (loans m 1 c) $$ H1
  icases H1 with ⟨K1, L1⟩
  ihave H2 := (loans m 2 c) $$ H2
  icases H2 with ⟨K2, L2⟩
  ihave H3 := (loans m 3 c) $$ H3
  icases H3 with ⟨K3, L3⟩
  ihave H4 := (loans m 4 c) $$ H4
  icases H4 with ⟨K4, L4⟩
  ihave H5 := (loans m 5 c) $$ H5
  icases H5 with ⟨K5, L5⟩
  ihave H6 := (loans m 6 c) $$ H6
  icases H6 with ⟨K6, L6⟩
  ihave R0 := (rooms m 0 c _) $$ R0
  ihave R1 := (rooms m 1 c _) $$ R1
  ihave R2 := (rooms m 2 c _) $$ R2
  ihave R3 := (rooms m 3 c _) $$ R3
  ihave R4 := (rooms m 4 c _) $$ R4
  ihave R5 := (rooms m 5 c _) $$ R5
  ihave R6 := (rooms m 6 c _) $$ R6
  isplitl [K0 K1 K2 K3 K4 K5 K6]
  · unfold kept
    isplitl [K0]; · iexact K0
    isplitl [K1]; · iexact K1
    isplitl [K2]; · iexact K2
    isplitl [K3]; · iexact K3
    isplitl [K4]; · iexact K4
    isplitl [K5]; · iexact K5
    iexact K6
  isplitl [L0 L1 L2 L3 L4 L5 L6]
  · isplitl [L0]; · iexact L0
    isplitl [L1]; · iexact L1
    isplitl [L2]; · iexact L2
    isplitl [L3]; · iexact L3
    isplitl [L4]; · iexact L4
    isplitl [L5]; · iexact L5
    iexact L6
  isplitl [R0]; · iexact R0
  isplitl [R1]; · iexact R1
  isplitl [R2]; · iexact R2
  isplitl [R3]; · iexact R3
  isplitl [R4]; · iexact R4
  isplitl [R5]; · iexact R5
  iexact R6

/-- What the final memory of device `c` holds where the copies read and write. -/
def Ends (c : Dev nD) (s : MemSt nD τ sig (Elt F)) : Prop :=
  s.mem ((c : Thread nD τ).loc main_arg4) = m ((c : Thread nD τ).loc main_arg4)
  ∧ s.mem ((c : Thread nD τ).loc main_arg5) = m ((c : Thread nD τ).loc main_arg5)
  ∧ s.mem ((c : Thread nD τ).loc main_arg6) = m ((c : Thread nD τ).loc main_arg6)
  ∧ s.mem ((c : Thread nD τ).loc main_arg7) = m ((c : Thread nD τ).loc main_arg7)
  ∧ s.mem ((c : Thread nD τ).loc main_arg8) = m ((c : Thread nD τ).loc main_arg8)
  ∧ s.mem ((c : Thread nD τ).loc main_arg9) = m ((c : Thread nD τ).loc main_arg9)
  ∧ s.mem ((c : Thread nD τ).loc main_arg10) = m ((c : Thread nD τ).loc main_arg10)
  ∧ ∀ i : Fin 7 × Fin 3, (resM i).view.read (Elt F) (s.mem ((resM i).view.loc (c : Thread nD τ))) = block m i (peer i.2 c)

theorem ends (c : Dev nD) (s' : Phys nD τ sig (Elt F)) :
    iprop((bigSep Finset.univ fun i => (goods m).landed i c) ∗ kept m c ∗ SI s') ⊢ |={Set.univ}=> iprop(⌜Ends m c s'.mem⌝ ∗ SI s' : sProp 𝕄) := by
  unfold kept
  iintro ⟨R, ⟨K0, K1, K2, K3, K4, K5, K6⟩, HSI⟩
  ihave H := (read_whole _ s') $$ [K0 HSI]
  · isplitl [K0] <;> iassumption
  icases H with ⟨%h0, HSI⟩
  ihave H := (read_whole _ s') $$ [K1 HSI]
  · isplitl [K1] <;> iassumption
  icases H with ⟨%h1, HSI⟩
  ihave H := (read_whole _ s') $$ [K2 HSI]
  · isplitl [K2] <;> iassumption
  icases H with ⟨%h2, HSI⟩
  ihave H := (read_whole _ s') $$ [K3 HSI]
  · isplitl [K3] <;> iassumption
  icases H with ⟨%h3, HSI⟩
  ihave H := (read_whole _ s') $$ [K4 HSI]
  · isplitl [K4] <;> iassumption
  icases H with ⟨%h4, HSI⟩
  ihave H := (read_whole _ s') $$ [K5 HSI]
  · isplitl [K5] <;> iassumption
  icases H with ⟨%h5, HSI⟩
  ihave H := (read_whole _ s') $$ [K6 HSI]
  · isplitl [K6] <;> iassumption
  icases H with ⟨%h6, HSI⟩
  ihave H := (read_all (fun i => (goods m).landed i c) (fun i => (resM i).view.read (Elt F) (s'.mem.mem ((resM i).view.loc (c : Thread nD τ))) = block m i (peer i.2 c)) s'
    (fun i => read_filled (resM i).view c _ _ s')) $$ [R HSI]
  · isplitl [R] <;> iassumption
  icases H with ⟨%g, HSI⟩
  imodintro
  isplitr
  · ipureintro; exact ⟨h0, h1, h2, h3, h4, h5, h6, g⟩
  iexact HSI

set_option maxRecDepth 8000 in
/-- From any memory with every counter at zero, every fair execution of the eight devices ends; then each device's window
    arrays hold what the grid's points left in them, the arrays the copies read are as before, the slabs the
    copies fill hold the partners' blocks, and every counter is at zero. -/
theorem run : θ_run defs (onTc (τ := τ) (main (F := F))) ⟨m, fun _ => 0, ρ⟩
    (fun r => (∀ c : Dev nD, (∀ w : Fin cfg0.W, r.2.mem ((c : Thread nD τ).loc (Pipeline.arrRef spec0 w)) = (dats m 0 c).arrAt w cfg0.N) ∧ Ends m c r.2)
      ∧ r.2.sem = fun _ => 0) :=
  Pipeline.MemLaunch.run (fun p => (cfgs p).toPCfg) (fun p => (cfgs p).toPCfg_adm) (dats m) () cellOf_inj (0 : Fin 1)
    winFacts0.to₀ ownSemFacts EP defs₀ 𝒱₀ m ρ main
    (hmain := fun _ => rfl) (hpre := inferInstanceAs (IsEmpty (Fin 0)))
    (hbody := fun c => (body_obligation m c).loose) (hne := block_pos0) (harr := arr_whole0) (hstage := stage_whole0)
    (hshare := fun _ w => by unfold Dat.share; split <;> rfl) (hdistinct := winFacts0.arr_inj)
    (O₀ := fun c => table.dues c Finset.univ) (howed₀ := fun _ => rfl) (howedN := fun _ => rfl)
    (L := tcOnly) (lv := table.level) (hL := tcOnly_of_ne)
    (hwaits := fun c => Pipeline.cellsWaits_intro cfgs (dats m) () 0 c fun w s t => may_wait m c t _ (staging_ne w s))
    (G := fresh table (goods m) ER) (u₀ := u₀)
    (hu₀ := by
      unfold u₀
      iintro Hu
      ihave H := (ownU_pair _ _) $$ Hu
      icases H with ⟨HP, HX⟩
      imod (fresh_intro table (goods m) ER) $$ [HX] with HX
      · iexact HX
      imodintro
      isplitl [HP]; · iexact HP
      iexact HX)
    (hA := fun _ _ => rfl)
    (X := fun c => Sending table (goods m) ER c Finset.univ) (Y := fun c => bigSep Finset.univ fun i => (goods m).landed i c) (Z := kept m)
    (hglob := deal table (goods m) ER (arrays m))
    (hin := fun c => by
      rw [show Pipeline.scopedRest _ c = (iprop(∃ f, ((c : Thread nD τ).loc cc0_scratch0) ↦{fullShare} f) : sProp 𝕄) from scopedRest0_eq c]
      refine BIBase.Entails.trans ?_ (Entails.of_eq (inv_first m c 0 rfl).symm)
      iintro ⟨H, ⟨%f, Hf⟩⟩
      isplitl [H]; · iexact H
      iexists f
      rw [owns_whole]; iexact Hf)
    (hout := fun c => by
      rw [show Pipeline.scopedRest _ c = (iprop(∃ f, ((c : Thread nD τ).loc cc0_scratch0) ↦{fullShare} f) : sProp 𝕄) from scopedRest0_eq c]
      refine (Entails.of_eq (inv_later m c (Fin.last _) (by decide))).trans ?_
      rw [if_pos (show (Fin.last cfg0.N).val = 64 from N_eq), owns_whole]
      iintro ⟨H, Hf⟩
      ihave H := (waited table (goods m) ER c) $$ H
      icases H with ⟨Hz, -, Hl⟩
      isplitl [Hl]; · iexact Hl
      isplitl [Hz]; · iexact Hz
      iexists _; iexact Hf)
    (QY := Ends m) (hY := ends m)
    (hQ := fun s h hs => ⟨h, sem_eq_zero_of_scoped (by decide) hs⟩)

end Cert.ActScatterProof

end
-- ==== Proof.Slabs.lean ====
/-
  The scatter between chips as values: a slab of an array read through its view, and the slabs a device receives as its
  block of the reference's scattered array.
-/
module

public import proofs.«01_k».proof.Proof.Scatter
public import Idealize.ShloMosaic.Lib.Pointwise
public import Idealize.ShloMosaic.Lib.ValueLayout
public import Idealize.ShloMosaic.Lib.Pipeline.ValueKit

@[expose] public section

noncomputable section

namespace Cert.Slabs

open Idealize.ShloMosaic Idealize.ShloMosaic.TcCoe

/-- One slab of a three-dimensional array, read through the view of the slab. -/
theorem slab_read {sig : RefSig} {κ : Kind} {cs : Space} {e : EltTy} {Val : EltTy → Type} {A R C : ℕ} (M : Memref sig κ cs ⟨3, ![A, R, C]⟩ e)
    (off : Fin 3 → ℕ) (p : Fin A) (ho : off = ![p.val, 0, 0]) (h) (hr) (hq) (f : M.view.ty.Contents Val) (r : Fin R) (q : Fin C) :
    ((M.slice (Rect.unit (s := ⟨3, ![A, R, C]⟩) off (⟨3, ![1, R, C]⟩ : Shape).size h) hr).squeeze ⟨2, ![R, C]⟩ hq).view.read Val f (ix2 r q)
      = M.view.read Val f (ix3 p r q) := by
  subst ho
  refine (congrFun (Memref.read_squeeze_slice M _ hr hq (Shape.Squeezes.numel_eq hq) f) (ix2 r q)).trans ?_
  refine (ValueIdx.shapeCast_1ab_ab_apply _ _ r q).trans ?_
  refine congrArg (M.view.read Val f) (funext fun a => Fin.ext ?_)
  match a with
  | ⟨0, _⟩ => show p.val + 1 * 0 = p.val; omega
  | ⟨1, _⟩ => show 0 + 1 * r.val = r.val; omega
  | ⟨2, _⟩ => show 0 + 1 * q.val = q.val; omega

/-- A device's block of an array cut by slabs, at an element. -/
theorem block_slabs {α : Type} {b B R C : ℕ} (c : Fin 8) (v : (⟨3, ![B, R, C]⟩ : Shape).Idx → α) (h : Layout.Tiles ⟨3, ![b, R, C]⟩ ⟨3, ![B, R, C]⟩ 0 8)
    (n : Fin b) (r : Fin R) (q : Fin C) (k : Fin B) (hk : k.val = c.val * b + n.val) :
    Layout.block ⟨3, ![b, R, C]⟩ ⟨3, ![B, R, C]⟩ 0 8 c v h (ix3 n r q) = v (ix3 k r q) := by
  refine congrArg v (funext fun a => Fin.ext ?_)
  rw [Layout.Tiles.idx_val]
  match a with
  | ⟨0, _⟩ => exact hk.symm
  | ⟨1, _⟩ => rfl
  | ⟨2, _⟩ => rfl

/-- The slabs that device `c` receives are its block of the scattered array. -/
theorem slabs_eq {α : Type} {R C : ℕ} (c : Fin 8) (out : (⟨3, ![3, R, C]⟩ : Shape).Idx → α) (ins : Fin 8 → (⟨3, ![4, R, C]⟩ : Shape).Idx → α)
    (g : (⟨3, ![32, R, C]⟩ : Shape).Idx → α) (ref : (⟨3, ![24, R, C]⟩ : Shape).Idx → α)
    (hb : Layout.Tiles ⟨3, ![3, R, C]⟩ ⟨3, ![24, R, C]⟩ 0 8) (hw : Layout.Tiles ⟨3, ![4, R, C]⟩ ⟨3, ![32, R, C]⟩ 0 8)
    (href : ∀ (c : Fin 8) (k : Fin 3) (r : Fin R) (q : Fin C) (n : Fin 24), n.val = c.val * 3 + k.val →
      ref (ix3 n r q) = g (ix3 ⟨(Scatter.peer k c).val * 4 + c.val / 2, by have := (Scatter.peer k c).isLt; omega⟩ r q))
    (hins : ∀ p, ins p = Layout.block ⟨3, ![4, R, C]⟩ ⟨3, ![32, R, C]⟩ 0 8 p g hw)
    (h : ∀ (k : Fin 3) (r : Fin R) (q : Fin C), out (ix3 k r q) = ins (Scatter.peer k c) (ix3 ⟨c.val / 2, by omega⟩ r q)) :
    out = Layout.block ⟨3, ![3, R, C]⟩ ⟨3, ![24, R, C]⟩ 0 8 c ref hb := by
  funext i
  obtain ⟨k, r, q, rfl⟩ : ∃ (k : Fin 3) (r : Fin R) (q : Fin C), i = ix3 k r q := ⟨i 0, i 1, i 2, eq_ix3 i⟩
  rw [h, hins, block_slabs (Scatter.peer k c) g hw _ r q ⟨(Scatter.peer k c).val * 4 + c.val / 2, by have := (Scatter.peer k c).isLt; omega⟩ rfl,
    block_slabs c ref hb k r q ⟨c.val * 3 + k.val, by omega⟩ rfl]
  exact (href c k r q _ rfl).symm

/-- The dimension numbers of a gather of whole slabs. -/
abbrev slabDims (N B R C : ℕ) (wf : GatherDims.WF ⟨3, ![N, R, C]⟩ ⟨2, ![B, 1]⟩ ⟨3, ![B, R, C]⟩ [1, 2] [0] [] [0] [] 1 ![1, R, C]) :
    GatherDims ⟨3, ![N, R, C]⟩ ⟨2, ![B, 1]⟩ ⟨3, ![B, R, C]⟩ where
  offsetDims := [1, 2]
  collapsedSliceDims := [0]
  operandBatchingDims := []
  startIndicesBatchingDims := []
  startIndexMap := [0]
  indexVectorDim := 1
  sliceSizes := ![1, R, C]
  wf := wf

/-- A gather of whole slabs, at an element: the slab is that of the row number, read as a signed number and clamped. -/
theorem gather_slab {α : Type} {N B R C w : ℕ} (wf : GatherDims.WF ⟨3, ![N, R, C]⟩ ⟨2, ![B, 1]⟩ ⟨3, ![B, R, C]⟩ [1, 2] [0] [] [0] [] 1 ![1, R, C])
    (g : (⟨3, ![N, R, C]⟩ : Shape).Idx → α) (rows : IVec ⟨2, ![B, 1]⟩ w) (n : Fin B) (r : Fin R) (q : Fin C) (p : Fin N)
    (hp : (rows (ix2 n 0)).toInt.toNat = p.val) :
    Host.gather (slabDims N B R C wf) g rows (ix3 n r q) = g (ix3 p r q) := by
  refine congrArg g (funext fun a => Fin.ext ?_)
  match a with
  | ⟨0, _⟩ =>
    show min (rows _).toInt.toNat (N - 1) + 0 + 0 = p.val
    have hi : (slabDims N B R C wf).siIdx (ix3 n r q) ⟨0, Nat.one_pos⟩ = ix2 n 0 := by
      funext b
      refine Fin.ext ?_
      match b with
      | ⟨0, _⟩ => rfl
      | ⟨1, _⟩ => rfl
    have hr := hi ▸ hp
    have := p.isLt
    refine (Nat.add_zero _).trans ((Nat.add_zero _).trans ?_)
    exact (congrArg (min · (N - 1)) hr).trans (by omega)
  | ⟨1, _⟩ => exact (Nat.zero_add _).trans rfl
  | ⟨2, _⟩ => exact (Nat.zero_add _).trans rfl

/-- The slab of all slabs that device `c` receives as its `k`-th. -/
theorem received_row (lit : Fin 24 → BitVec 32) (h : ∀ (c : Fin 8) (k : Fin 3), (lit ⟨c.val * 3 + k.val, by omega⟩).toInt.toNat = (Scatter.peer k c).val * 4 + c.val / 2)
    {R C : ℕ} {α : Type} (wf : GatherDims.WF ⟨3, ![32, R, C]⟩ ⟨2, ![24, 1]⟩ ⟨3, ![24, R, C]⟩ [1, 2] [0] [] [0] [] 1 ![1, R, C])
    (hb : (⟨1, ![24]⟩ : Shape).BroadcastsInDim ⟨2, ![24, 1]⟩ ![0]) (g : (⟨3, ![32, R, C]⟩ : Shape).Idx → α)
    (c : Fin 8) (k : Fin 3) (r : Fin R) (q : Fin C) (n : Fin 24) (hn : n.val = c.val * 3 + k.val) :
    Host.gather (slabDims 32 24 R C wf) g
        (broadcastInDim ⟨2, ![24, 1]⟩ ![0] hb (fun i => lit ((⟨1, ![24]⟩ : Shape).rowMajor i))) (ix3 n r q)
      = g (ix3 ⟨(Scatter.peer k c).val * 4 + c.val / 2, by have := (Scatter.peer k c).isLt; omega⟩ r q) := by
  refine gather_slab wf g _ n r q _ ?_
  refine Eq.trans (congrArg (fun j => (lit j).toInt.toNat) (Fin.ext ?_)) (h c k)
  exact (Shape.rowMajor_val_one _).trans hn

end Cert.Slabs

end
-- ==== Proof.ActScatterRefV.lean ====
/-
  The reference of `ffn1_bwd_act` with its ride, at the extended reals: its results, read at an element.
-/
module

public import proofs.«01_k».proof.Proof.Slabs
public import proofs.«01_k».proof.Proof.Gen.ActScatterRefIdeal
public import Idealize.ShloMosaic.Lib.Pointwise

@[expose] public section

noncomputable section

namespace Cert.ActScatterRefV

open Idealize.ShloMosaic Idealize.ShloMosaic.TcCoe
open Cert.ActScatterRefIdeal Cert.ActScatterRefIdeal.Gen

set_option maxRecDepth 16384

variable (x : S65536x1024.Idx → EReal) (a b : S32x8192x704.Idx → EReal) (w : S4x704x1024.Idx → EReal)
  (s : Fin 32) (n : Fin 8192) (k : Fin 704)

/-- The reference's sigmoid of the first array, and that array and the second one widened. -/
def refSig : FVec Ideal S32x8192x704 .f32 :=
  Host.divf (broadcastInDim S32x8192x704 ![] bcast_S_S32x8192x704 (constant S_ .f32 0x3F800000#32))
    (addf (broadcastInDim S32x8192x704 ![] bcast_S_S32x8192x704 (constant S_ .f32 0x3F800000#32)) (Host.exp (Host.negf (extf (F := Ideal) .f32 (φ := .bf16) a bitsLt_bf16_f32))))
def wide : FVec Ideal S32x8192x704 .f32 := extf (F := Ideal) .f32 (φ := .bf16) a bitsLt_bf16_f32

/-- The reference's scaled gradient, and its product with the weights of every slab. -/
def refDy : FVec Ideal S65536x1024 .f32 :=
  mulf (F := Ideal) (φ := .f32) (broadcastInDim S65536x1024 ![] bcast_S_S65536x1024 (constant S_ .f32 0x3F000000#32)) x
def refDs : FVec Ideal S32x8192x704 .f32 :=
  shapeCast S32x8192x704 (transpose S8x4x8192x704 [2, 0, 3, 1] (Host.dotGeneral (F := Ideal) dot_S4x704x1024_S8x8192x1024_S4x704x8x8192_2_2_01_01_n_n none
    (extf (F := Ideal) .f32 (φ := .bf16) w bitsLt_bf16_f32) (shapeCast S8x8192x1024 (refDy x) shapeCasts_S65536x1024_S8x8192x1024))
    transposes_S4x704x8x8192_S8x4x8192x704_2_0_3_1) shapeCasts_S8x4x8192x704_S32x8192x704

/-- The reference's four own results. -/
def refS : S32x8192x704.Idx → EReal := truncf (F := Ideal) .bf16 (mulf (mulf (wide a) (refSig a)) (wide b)) bitsLt_bf16_f32
def refA : S32x8192x704.Idx → EReal :=
  truncf (F := Ideal) .bf16 (mulf (mulf (refDs x w) (wide b)) (mulf (refSig a) (addf (broadcastInDim S32x8192x704 ![] bcast_S_S32x8192x704 (constant S_ .f32 0x3F800000#32))
    (mulf (wide a) (subf (broadcastInDim S32x8192x704 ![] bcast_S_S32x8192x704 (constant S_ .f32 0x3F800000#32)) (refSig a)))))) bitsLt_bf16_f32
def refB : S32x8192x704.Idx → EReal := truncf (F := Ideal) .bf16 (mulf (refDs x w) (mulf (wide a) (refSig a))) bitsLt_bf16_f32
def refY : S65536x1024.Idx → EReal := truncf (F := Ideal) .bf16 (refDy x) bitsLt_bf16_f32

theorem refDy_apply (n : Fin 65536) (q : Fin 1024) : refDy x (ix2 n q) = Ideal.ofBits .f32 0x3F000000#32 * x (ix2 n q) := by
  pointwise [refDy]

theorem refDs_apply : refDs x w (ix3 s n k)
    = ∑ q : Fin 1024, refDy x (ix2 ⟨s.val / 4 * 8192 + n.val, by omega⟩ q) * w (ix3 ⟨s.val % 4, by omega⟩ k q) := by
  pointwise [refDs]
  exact Finset.sum_congr rfl fun q _ => mul_comm _ _

theorem refSig_apply : refSig a (ix3 s n k) = Ideal.logistic (a (ix3 s n k)) := by
  pointwise [refSig]
  rfl

theorem refS_apply : refS a b (ix3 s n k) = a (ix3 s n k) * Ideal.logistic (a (ix3 s n k)) * b (ix3 s n k) := by
  pointwise [refS, wide, refSig_apply]
theorem refA_apply : refA x a b w (ix3 s n k)
    = refDs x w (ix3 s n k) * b (ix3 s n k) * (Ideal.logistic (a (ix3 s n k)) * (1 + a (ix3 s n k) * (1 - Ideal.logistic (a (ix3 s n k))))) := by
  pointwise [refA, wide, refSig_apply]
theorem refB_apply : refB x a w (ix3 s n k) = refDs x w (ix3 s n k) * (a (ix3 s n k) * Ideal.logistic (a (ix3 s n k))) := by
  pointwise [refB, wide, refSig_apply]
theorem refY_apply (n : Fin 65536) (q : Fin 1024) : refY x (ix2 n q) = Ideal.ofBits .f32 0x3F000000#32 * x (ix2 n q) := by
  pointwise [refY, refDy]

/-- The row numbers of the reference's scatter are those of the slabs each device receives. -/
theorem rows : ∀ (c : Fin 8) (k : Fin 3), (lit0 ⟨c.val * 3 + k.val, by omega⟩).toInt.toNat = (Scatter.peer k c).val * 4 + c.val / 2 := by decide

end Cert.ActScatterRefV

end
-- ==== Proof.ActScatterSums.lean ====
/-
  What `ffn1_bwd_act` computes, at the extended reals: its four own results, an element at a time.
-/
module

public import proofs.«01_k».proof.Proof.ActScatter
public import Idealize.ShloMosaic.Lib.Pointwise
public import Idealize.ShloMosaic.Lib.Pipeline.ValueKit

@[expose] public section

noncomputable section

namespace Cert.ActScatterProof

open Idealize.ShloMosaic Idealize.ShloMosaic.TcCoe
open Cert.ActScatterIdeal Cert.ActScatterIdeal.Gen
open Idealize.ShloMosaic.Pipeline (Dat Cfg Window)

set_option maxRecDepth 16384

variable (m : (ℓ : Loc nD τ sig) → Buf (Elt Ideal) ℓ)

/-- Where each window's block lies at each point. -/
theorem index_eq : ∀ t : Fin cfg0.N, win0_0.index t = ![t.val / 4, 0] ∧ win0_1.index t = ![t.val % 4, t.val / 4, 0]
    ∧ win0_2.index t = ![t.val % 4, t.val / 4, 0] ∧ win0_3.index t = ![t.val % 4, 0, 0]
    ∧ win0_4.index t = ![t.val % 4, t.val / 4, 0] ∧ win0_5.index t = ![t.val % 4, t.val / 4, 0]
    ∧ win0_6.index t = ![t.val % 4, t.val / 4, 0] ∧ win0_7.index t = ![t.val / 4, 0] := by decide +kernel

abbrev Dx (c : Dev nD) : S8192x1024.Idx → EReal := m ((c : Thread nD τ).loc main_arg0)
abbrev A (c : Dev nD) : S4x8192x704.Idx → EReal := m ((c : Thread nD τ).loc main_arg1)
abbrev B (c : Dev nD) : S4x8192x704.Idx → EReal := m ((c : Thread nD τ).loc main_arg2)
abbrev Wd (c : Dev nD) : S4x704x1024.Idx → EReal := m ((c : Thread nD τ).loc main_arg3)

/-- The scale that the gradient is multiplied with. -/
abbrev half : EReal := Ideal.ofBits .f32 0x3F000000#32

/-- The silu of a number, and its derivative. -/
def silu (x : EReal) : EReal := x * Ideal.logistic x
def dsilu (x : EReal) : EReal := Ideal.logistic x * (1 + x * (1 - Ideal.logistic x))

/-- The scaled gradient against the weights of slab `j`. -/
def ds (c : Dev nD) (j : Fin 4) (n : Fin 8192) (k : Fin 704) : EReal := ∑ q : Fin 1024, half * Dx m c (ix2 n q) * Wd m c (ix3 j k q)

def outS (c : Dev nD) : S4x8192x704.Idx → EReal := fun i => silu (A m c i) * B m c i
def outA (c : Dev nD) : S4x8192x704.Idx → EReal := fun i => ds m c (i 0) (i 1) (i 2) * B m c i * dsilu (A m c i)
def outB (c : Dev nD) : S4x8192x704.Idx → EReal := fun i => ds m c (i 0) (i 1) (i 2) * silu (A m c i)
def outY (c : Dev nD) : S8192x1024.Idx → EReal := fun i => half * Dx m c i

theorem lt64 (t : Fin cfg0.N) : t.val < 64 := N_eq ▸ t.isLt

theorem x0_apply (c : Dev nD) (t : Fin cfg0.N) (r : Fin 512) (q : Fin 1024) :
    x0 m c t (ix2 r q) = Dx m c (ix2 ⟨t.val / 4 * 512 + r.val, by have := lt64 t; omega⟩ q) := by
  blk_ext [iblk, V, (index_eq t).1]
theorem x1_apply (c : Dev nD) (t : Fin cfg0.N) (r : Fin 512) (k : Fin 704) :
    x1 m c t (ix3 0 r k) = A m c (ix3 ⟨t.val % 4, by omega⟩ ⟨t.val / 4 * 512 + r.val, by have := lt64 t; omega⟩ k) := by
  blk_ext [iblk, V, (index_eq t).2.1]
theorem x2_apply (c : Dev nD) (t : Fin cfg0.N) (r : Fin 512) (k : Fin 704) :
    x2 m c t (ix3 0 r k) = B m c (ix3 ⟨t.val % 4, by omega⟩ ⟨t.val / 4 * 512 + r.val, by have := lt64 t; omega⟩ k) := by
  blk_ext [iblk, V, (index_eq t).2.2.1]
theorem x3_apply (c : Dev nD) (t : Fin cfg0.N) (k : Fin 704) (q : Fin 1024) :
    x3 m c t (ix3 0 k q) = Wd m c (ix3 ⟨t.val % 4, by omega⟩ k q) := by
  blk_ext [iblk, V, (index_eq t).2.2.2.1]

theorem pay3_apply (x : Vec Ideal S512x1024 .f32) (r : Fin 512) (q : Fin 1024) : k0_pay3 x (ix2 r q) = half * x (ix2 r q) := by
  pointwise [k0_pay3]
theorem pay4_apply (x : Vec Ideal S512x1024 .f32) (r : Fin 512) (q : Fin 1024) : k0_pay4 x (ix2 r q) = half * x (ix2 r q) := by
  pointwise [k0_pay4, k0_pay3]
theorem pay10_apply (a b : Vec Ideal S1x512x704 .bf16) (r : Fin 512) (k : Fin 704) :
    k0_pay10 a b (ix3 0 r k) = silu (a (ix3 0 r k)) * b (ix3 0 r k) := by
  pointwise [k0_pay10, k0_pay9, k0_pay8, k0_pay5, k0_pay6, silu]
theorem pay1_apply (a b : Vec Ideal S1x512x704 .bf16) (s : Vec Ideal S512x1024 .bf16) (w : Vec Ideal S1x704x1024 .bf16) (r : Fin 512) (k : Fin 704) :
    k0_pay1 (k0_pay5 a) (k0_pay8 a) (k0_pay11 b s w) (ix3 0 r k)
      = (∑ q : Fin 1024, s (ix2 r q) * w (ix3 0 k q)) * b (ix3 0 r k) * dsilu (a (ix3 0 r k)) := by
  pointwise [k0_pay1, k0_pay11, k0_pay7, k0_pay8, k0_pay5, k0_pay6, dsilu]
theorem pay2_apply (a : Vec Ideal S1x512x704 .bf16) (s : Vec Ideal S512x1024 .bf16) (w : Vec Ideal S1x704x1024 .bf16) (r : Fin 512) (k : Fin 704) :
    k0_pay2 (k0_pay7 s w) (k0_pay9 a) (ix3 0 r k) = (∑ q : Fin 1024, s (ix2 r q) * w (ix3 0 k q)) * silu (a (ix3 0 r k)) := by
  pointwise [k0_pay2, k0_pay7, k0_pay9, k0_pay8, k0_pay5, silu]

/-- The row of the array that row `r` of a tile is. -/
theorem tile_row (c : Dev nD) (n : ℕ) (hn : n < 16) (r : Fin 512) (q : Fin 1024) :
    x0 m c (pt (4 * n)) (ix2 r q) = Dx m c (ix2 ⟨n * 512 + r.val, by omega⟩ q) := by
  rw [x0_apply]
  refine congrArg _ ?_
  have hp : (pt (4 * n)).val = 4 * n := Nat.mod_eq_of_lt (by omega)
  have hd : (pt (4 * n)).val / 4 = n := by omega
  simp only [hd]

theorem scaled_apply (c : Dev nD) (n : ℕ) (hn : n < 16) (r : Fin 512) (q : Fin 1024) :
    scaled m c n (ix2 r q) = half * Dx m c (ix2 ⟨n * 512 + r.val, by omega⟩ q) := by
  unfold scaled
  rw [pay3_apply, tile_row m c n hn]
theorem stored_apply (c : Dev nD) (n : ℕ) (hn : n < 16) (r : Fin 512) (q : Fin 1024) :
    stored m c n (ix2 r q) = half * Dx m c (ix2 ⟨n * 512 + r.val, by omega⟩ q) := by
  unfold stored
  rw [pay4_apply, tile_row m c n hn]

section parts
variable (c : Dev nD) (t : Fin cfg0.N) (r : Fin 512) (k : Fin 704)

theorem ds_point : (∑ q : Fin 1024, stored m c (t.val / 4) (ix2 r q) * x3 m c t (ix3 0 k q))
    = ds m c ⟨t.val % 4, by omega⟩ ⟨t.val / 4 * 512 + r.val, by have := lt64 t; omega⟩ k :=
  Finset.sum_congr rfl fun q _ => by rw [stored_apply m c (t.val / 4) (by have := lt64 t; omega), x3_apply]

theorem part0_apply : part0 m c t (ix3 0 r k) = outS m c (ix3 ⟨t.val % 4, by omega⟩ ⟨t.val / 4 * 512 + r.val, by have := lt64 t; omega⟩ k) := by
  unfold part0
  rw [pay10_apply, x1_apply, x2_apply]
  rfl
theorem part1_apply : part1 m c t (ix3 0 r k) = outA m c (ix3 ⟨t.val % 4, by omega⟩ ⟨t.val / 4 * 512 + r.val, by have := lt64 t; omega⟩ k) := by
  unfold part1
  rw [pay1_apply, x1_apply, x2_apply, ds_point]
  rfl
theorem part2_apply : part2 m c t (ix3 0 r k) = outB m c (ix3 ⟨t.val % 4, by omega⟩ ⟨t.val / 4 * 512 + r.val, by have := lt64 t; omega⟩ k) := by
  unfold part2
  rw [pay2_apply, x1_apply, ds_point]
  rfl

end parts

theorem final4 (c : Dev nD) : (dats m 0 c).arrAt 4 cfg0.N = outS m c := by
  refine (dats m 0 c).arrAt_eq_of_covers 4 _ (by decide +kernel) fun t hf y => ?_
  blk_simp
  show part0 m c t y = _
  obtain ⟨z, r, k, rfl⟩ : ∃ (z : Fin 1) (r : Fin 512) (k : Fin 704), y = ix3 z r k := ⟨y 0, y 1, y 2, eq_ix3 y⟩
  rw [Fin.fin_one_eq_zero z, part0_apply]
  refine congrArg _ ?_
  blk_ext [(index_eq t).2.2.2.2.1]

theorem final5 (c : Dev nD) : (dats m 0 c).arrAt 5 cfg0.N = outA m c := by
  refine (dats m 0 c).arrAt_eq_of_covers 5 _ (by decide +kernel) fun t hf y => ?_
  blk_simp
  show part1 m c t y = _
  obtain ⟨z, r, k, rfl⟩ : ∃ (z : Fin 1) (r : Fin 512) (k : Fin 704), y = ix3 z r k := ⟨y 0, y 1, y 2, eq_ix3 y⟩
  rw [Fin.fin_one_eq_zero z, part1_apply]
  refine congrArg _ ?_
  blk_ext [(index_eq t).2.2.2.2.2.1]

theorem final6 (c : Dev nD) : (dats m 0 c).arrAt 6 cfg0.N = outB m c := by
  refine (dats m 0 c).arrAt_eq_of_covers 6 _ (by decide +kernel) fun t hf y => ?_
  blk_simp
  show part2 m c t y = _
  obtain ⟨z, r, k, rfl⟩ : ∃ (z : Fin 1) (r : Fin 512) (k : Fin 704), y = ix3 z r k := ⟨y 0, y 1, y 2, eq_ix3 y⟩
  rw [Fin.fin_one_eq_zero z, part2_apply]
  refine congrArg _ ?_
  blk_ext [(index_eq t).2.2.2.2.2.2.1]

theorem final7 (c : Dev nD) : (dats m 0 c).arrAt 7 cfg0.N = outY m c := by
  refine (dats m 0 c).arrAt_eq_of_covers 7 _ (by decide +kernel) fun t hf y => ?_
  blk_simp
  show scaled m c (t.val / 4) y = _
  obtain ⟨r, q, rfl⟩ : ∃ (r : Fin 512) (q : Fin 1024), y = ix2 r q := ⟨y 0, y 1, eq_ix2 y⟩
  rw [scaled_apply m c (t.val / 4) (by have := lt64 t; omega)]
  refine congrArg (fun i => half * Dx m c i) ?_
  blk_ext [(index_eq t).2.2.2.2.2.2.2]

end Cert.ActScatterProof

end
-- ==== Proof.NormBwd.lean ====
/-
  The backward pass of the root-mean-square norm, at the extended reals: one row of it, and what the two references
  compute of it on the host, read at an element.
-/
module

public import proofs.«01_k».proof.ProjSwapRefIdeal
public import proofs.«01_k».proof.Proof.Gen.ProjSwapRefIdeal
public import Idealize.ShloMosaic.Lib.Pointwise

@[expose] public section

noncomputable section

namespace Cert.NormBwd

open Idealize.ShloMosaic Idealize.ShloMosaic.TcCoe
open Cert.ProjSwapRefIdeal Cert.ProjSwapRefIdeal.Gen

/-- The reciprocal root mean square of a row. -/
def inv (x : Fin 1024 → EReal) : EReal :=
  Ideal.rsqrt (Ideal.div (∑ k, x k * x k) (Ideal.ofBits .f32 0x44800000#32) + Ideal.ofBits .f32 0x358637BD#32)

/-- One element of the row's gradient, with the residual's gradient `d` added. -/
def dx (dh x g : Fin 1024 → EReal) (d : EReal) (q : Fin 1024) : EReal :=
  d + inv x * (dh q * g q - x q * inv x * Ideal.div (∑ k, dh k * g k * (x k * inv x)) (Ideal.ofBits .f32 0x44800000#32))

/-- The row's part of the gain's gradient. -/
def gain (dh x : Fin 1024 → EReal) (q : Fin 1024) : EReal := dh q * (x q * inv x)

/-- The reference's reciprocal root mean square of every row. -/
def refInv (x : S65536x1024.Idx → EReal) : S65536x1.Idx → EReal :=
  (Host.rsqrt (addf (Host.divf (broadcastInDim S65536x1 ![0] bcast_S65536_S65536x1_0 (Host.reduceAdd (mulf x x) (constant (F := Ideal) S_ .f32 0x00000000#32) reducesTo_S65536x1024_S65536_d1 h_S_)) (broadcastInDim S65536x1 ![] bcast_S_S65536x1 (constant (F := Ideal) S_ .f32 0x44800000#32))) (broadcastInDim S65536x1 ![] bcast_S_S65536x1 (constant (F := Ideal) S_ .f32 0x358637BD#32))) : FVec Ideal S65536x1 .f32)

/-- The reference's normalized rows. -/
def refXn (x : S65536x1024.Idx → EReal) : S65536x1024.Idx → EReal :=
  (mulf x (broadcastInDim S65536x1024 ![0, 1] bcast_S65536x1_S65536x1024_0_1 (refInv x)) : FVec Ideal S65536x1024 .f32)

/-- The reference's gradient of every row. -/
def refDx (dh d x : S65536x1024.Idx → EReal) (g : S1x1024.Idx → EReal) : S65536x1024.Idx → EReal :=
  (addf d (mulf (broadcastInDim S65536x1024 ![0, 1] bcast_S65536x1_S65536x1024_0_1 (refInv x)) (subf (mulf dh (broadcastInDim S65536x1024 ![0, 1] bcast_S1x1024_S65536x1024_0_1 g)) (mulf (refXn x) (broadcastInDim S65536x1024 ![0, 1] bcast_S65536x1_S65536x1024_0_1 (Host.divf (broadcastInDim S65536x1 ![0] bcast_S65536_S65536x1_0 (Host.reduceAdd (mulf (mulf dh (broadcastInDim S65536x1024 ![0, 1] bcast_S1x1024_S65536x1024_0_1 g)) (refXn x)) (constant (F := Ideal) S_ .f32 0x00000000#32) reducesTo_S65536x1024_S65536_d1 h_S_)) (broadcastInDim S65536x1 ![] bcast_S_S65536x1 (constant (F := Ideal) S_ .f32 0x44800000#32))))))) : FVec Ideal S65536x1024 .f32)

/-- The reference's gradient of the gain, one copy per device, each eight equal rows. -/
def refGain (dh x : S65536x1024.Idx → EReal) : S64x1024.Idx → EReal :=
  (shapeCast _ (broadcastInDim S8x8x1024 ![0, 1, 2] bcast_S8x1x1024_S8x8x1024_0_1_2 (broadcastInDim S8x1x1024 ![0, 2] bcast_S8x1024_S8x1x1024_0_2 (Host.reduceAdd (shapeCast _ (mulf dh (refXn x)) shapeCasts_S65536x1024_S8x8192x1024) (constant (F := Ideal) S_ .f32 0x00000000#32) reducesTo_S8x8192x1024_S8x1024_d1 h_S_))) shapeCasts_S8x8x1024_S64x1024 : FVec Ideal S64x1024 .f32)

set_option maxRecDepth 16384

theorem refDx_apply (dh d x : S65536x1024.Idx → EReal) (g : S1x1024.Idx → EReal) (n : Fin 65536) (q : Fin 1024) :
    refDx dh d x g (ix2 n q) = dx (fun k => dh (ix2 n k)) (fun k => x (ix2 n k)) (fun k => g (ix2 0 k)) (d (ix2 n q)) q := by
  pointwise [refDx, refXn, refInv, dx, inv]

theorem refGain_apply (dh x : S65536x1024.Idx → EReal) (c e : Fin 8) (q : Fin 1024) (n : Fin 64) (hn : n.val = c.val * 8 + e.val) :
    refGain dh x (ix2 n q) = ∑ r : Fin 8192, gain (fun k => dh (ix2 ⟨c.val * 8192 + r.val, by omega⟩ k)) (fun k => x (ix2 ⟨c.val * 8192 + r.val, by omega⟩ k)) q := by
  have hc : n.val / 8 = c.val := by omega
  pointwise [refGain, refXn, refInv, gain, inv]
  simp only [hc]

/-- The reference's product of the projection's gradient and the weights. -/
def refDot (d : S65536x3072.Idx → EReal) (w : S4x1024x768.Idx → EReal) : S65536x1024.Idx → EReal :=
  (Host.dotGeneral (F := Ideal) dot_S65536x3072_S3072x1024_S65536x1024_1_0_0_1_n_n none
    (extf (F := Ideal) .f32 (φ := .bf16) d bitsLt_bf16_f32)
    (shapeCast S3072x1024 (transpose S4x768x1024 [0, 2, 1] (extf (F := Ideal) .f32 (φ := .bf16) w bitsLt_bf16_f32)
      transposes_S4x1024x768_S4x768x1024_0_2_1) shapeCasts_S4x768x1024_S3072x1024))

theorem refDot_apply (d : S65536x3072.Idx → EReal) (w : S4x1024x768.Idx → EReal) (n : Fin 65536) (q : Fin 1024) :
    refDot d w (ix2 n q) = ∑ x : Fin 3072, d (ix2 n x) * w (ix3 ⟨x.val / 768, by omega⟩ q ⟨x.val % 768, by omega⟩) := by
  pointwise [refDot]

/-- A sum over `a * b` indices, `b` at a time. -/
theorem sum_split {M : Type} [AddCommMonoid M] (a b : ℕ) (f : Fin (a * b) → M) (h : ∀ (i : Fin a) (j : Fin b), i.val * b + j.val < a * b) :
    ∑ x, f x = ∑ i : Fin a, ∑ j : Fin b, f ⟨i.val * b + j.val, h i j⟩ := by
  rw [← Equiv.sum_comp finProdFinEquiv f, Fintype.sum_prod_type]
  refine Finset.sum_congr rfl fun i _ => Finset.sum_congr rfl fun j _ => congrArg f (Fin.ext ?_)
  show j.val + b * i.val = i.val * b + j.val
  rw [Nat.mul_comm b, Nat.add_comm]

/-- A device's block of an array cut by rows, at an element. -/
theorem block_rows {α : Type} {b B C : ℕ} (c : Fin 8) (v : (⟨2, ![B, C]⟩ : Shape).Idx → α) (h : Layout.Tiles ⟨2, ![b, C]⟩ ⟨2, ![B, C]⟩ 0 8)
    (n : Fin b) (q : Fin C) (k : Fin B) (hk : k.val = c.val * b + n.val) :
    Layout.block ⟨2, ![b, C]⟩ ⟨2, ![B, C]⟩ 0 8 c v h (ix2 n q) = v (ix2 k q) := by
  refine congrArg v (funext fun a => Fin.ext ?_)
  rw [Layout.Tiles.idx_val]
  match a with
  | ⟨0, _⟩ => exact hk.symm
  | ⟨1, _⟩ => rfl

end Cert.NormBwd

end
-- ==== Proof.ActScatterValue.lean ====
/-
  The claims of `ffn1_bwd_act` with its ride: the frames, and the values against the reference at the extended reals.
-/
module

public import proofs.«01_k».proof.Defs
public import proofs.«01_k».proof.Proof.ActScatter
public import proofs.«01_k».proof.Proof.ActScatterRefV
public import proofs.«01_k».proof.Proof.ActScatterSums
public import proofs.«01_k».proof.Proof.NormBwd
public import proofs.«01_k».proof.Proof.Slabs
public import proofs.«01_k».proof.Proof.Gen.ActScatter
public import proofs.«01_k».proof.Proof.Gen.ActScatterRefIdeal.Run

@[expose] public section

set_option maxRecDepth 16384

noncomputable section

namespace Cert.ActScatterValue

open Idealize.ShloMosaic Idealize.ShloMosaic.TcCoe Idealize.SL.Sem
open Cert.ActScatterIdeal Cert.ActScatterIdeal.Gen Cert.ActScatterProof Cert.ActScatterRefV
open Cert.Scatter (peer)

variable {F : FTy → Type} [FloatOps F]

/-- Every argument of device `c` holds what it held at launch. -/
def Kept (m : (ℓ : Loc nD τ Cert.ActScatterIdeal.sig) → Buf (Elt F) ℓ) (c : Dev nD) (s : MemSt nD τ Cert.ActScatterIdeal.sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)

theorem kept_of (m : (ℓ : Loc nD τ Cert.ActScatterIdeal.sig) → Buf (Elt F) ℓ) (c : Dev nD) (s : MemSt nD τ Cert.ActScatterIdeal.sig (Elt F))
    (hw : ∀ w : Fin cfg0.W, s.mem ((c : Thread nD τ).loc (Pipeline.arrRef spec0 w)) = (dats m 0 c).arrAt w cfg0.N) (he : Ends m c s) : Kept m c s :=
  ⟨(hw 0).trans ((dats m 0 c).arrAt_in 0 rfl _),
    (hw 1).trans ((dats m 0 c).arrAt_in 1 rfl _),
    (hw 2).trans ((dats m 0 c).arrAt_in 2 rfl _),
    (hw 3).trans ((dats m 0 c).arrAt_in 3 rfl _),
    he.1, he.2.1, he.2.2.1, he.2.2.2.1, he.2.2.2.2.1, he.2.2.2.2.2.1, he.2.2.2.2.2.2.1⟩

theorem kernel_frame (m : (ℓ : Loc nD τ Cert.ActScatterIdeal.sig) → Buf (Elt F) ℓ) (ρ : Dev nD → PrngReg) :
    θ_run (defs (F := F)) (onTc (τ := τ) (main (F := F))) ⟨m, fun _ => 0, ρ⟩ (fun r => (∀ c : Dev nD, Kept m c r.2) ∧ r.2.sem = fun _ => 0) :=
  (θ_run defs _ _).mono (fun r h => ⟨fun c => kept_of m c r.2 (h.1 c).1 (h.1 c).2, h.2⟩) (run m ρ)

/-! ## The claims -/

/-- The two printed texts of the call's body are one. -/
theorem defs_eq : Cert.ActScatter.defs (F := F) = Cert.ActScatterIdeal.defs (F := F) := by
  have h : Cert.ActScatter.defs₀ (F := F) = Cert.ActScatterIdeal.defs₀ (F := F) := by
    unfold Cert.ActScatter.defs₀ Cert.ActScatterIdeal.defs₀
    refine congrArg Defs.onTc ?_
    funext l a
    match l, a with
    | 0, (t, s) => rfl
    | ⟨_ + 1, h⟩, _ => exact absurd h (Nat.not_lt.2 (Nat.le_add_left _ _))
  exact congrArg (Pipeline.defs Cert.ActScatterIdeal.pcfgs) h

theorem frame_bits : Cert.quiescent_ActScatter := fun m ρ _ => by
  rw [defs_eq]
  exact kernel_frame (F := Bits) m ρ
theorem frame_ideal : Cert.quiescent_ActScatterIdeal := fun m ρ _ => kernel_frame (F := Ideal) m ρ
theorem ref_frame : Cert.quiescent_ActScatterRefIdeal := fun m ρ _ =>
  (θ_run Cert.ActScatterRefIdeal.defs _ _).mono (fun r h => ⟨fun c => (h c).2.2.2.2.2.2.2.2.2.2.2, sem_eq_zero_of_no_sems rfl _⟩)
    (Cert.ActScatterRefIdeal.Value.run (F := Ideal) m ρ)

section values
variable (m : (ℓ : Loc nD τ Cert.ActScatterIdeal.sig) → Buf (Elt Ideal) ℓ) (c : Dev nD)
variable (x : Cert.ActScatterRefIdeal.S65536x1024.Idx → EReal) (a b : Cert.ActScatterRefIdeal.S32x8192x704.Idx → EReal) (w : Cert.ActScatterRefIdeal.S4x704x1024.Idx → EReal)
  (hx : Dx m c = Layout.block ⟨2, ![8192, 1024]⟩ ⟨2, ![65536, 1024]⟩ 0 8 c x)
  (ha : A m c = Layout.block ⟨3, ![4, 8192, 704]⟩ ⟨3, ![32, 8192, 704]⟩ 0 8 c a)
  (hb : B m c = Layout.block ⟨3, ![4, 8192, 704]⟩ ⟨3, ![32, 8192, 704]⟩ 0 8 c b)
  (hw : Wd m c = w)

theorem row_lt (n : Fin 8192) : c.val * 8192 + n.val < 65536 := by
  have := c.isLt; change c.val < 8 at this; omega
theorem slab_lt (j : Fin 4) : c.val * 4 + j.val < 32 := by
  have := c.isLt; change c.val < 8 at this; omega

include hx in
theorem y_block : outY m c = Layout.block ⟨2, ![8192, 1024]⟩ ⟨2, ![65536, 1024]⟩ 0 8 c (refY x) := by
  funext i
  obtain ⟨n, q, rfl⟩ : ∃ (n : Fin 8192) (q : Fin 1024), i = ix2 n q := ⟨i 0, i 1, eq_ix2 i⟩
  rw [NormBwd.block_rows c _ _ n q ⟨c.val * 8192 + n.val, row_lt c n⟩ rfl, refY_apply]
  show half * Dx m c (ix2 n q) = _
  rw [hx, NormBwd.block_rows c x _ n q ⟨c.val * 8192 + n.val, row_lt c n⟩ rfl]

include hx hw in
theorem ds_block (j : Fin 4) (n : Fin 8192) (k : Fin 704) : ds m c j n k = refDs x w (ix3 ⟨c.val * 4 + j.val, slab_lt c j⟩ n k) := by
  have e1 : (c.val * 4 + j.val) / 4 = c.val := by omega
  have e2 : (c.val * 4 + j.val) % 4 = j.val := by omega
  rw [refDs_apply]
  refine Finset.sum_congr rfl fun q _ => ?_
  rw [refDy_apply, hw, hx, NormBwd.block_rows c x _ n q ⟨c.val * 8192 + n.val, row_lt c n⟩ rfl]
  simp only [e1, e2]

include ha in
theorem a_block (j : Fin 4) (n : Fin 8192) (k : Fin 704) : A m c (ix3 j n k) = a (ix3 ⟨c.val * 4 + j.val, slab_lt c j⟩ n k) := by
  rw [ha]; exact Slabs.block_slabs c a _ j n k _ rfl
include hb in
theorem b_block (j : Fin 4) (n : Fin 8192) (k : Fin 704) : B m c (ix3 j n k) = b (ix3 ⟨c.val * 4 + j.val, slab_lt c j⟩ n k) := by
  rw [hb]; exact Slabs.block_slabs c b _ j n k _ rfl

include ha hb in
theorem s_block : outS m c = Layout.block ⟨3, ![4, 8192, 704]⟩ ⟨3, ![32, 8192, 704]⟩ 0 8 c (refS a b) := by
  funext i
  obtain ⟨j, n, k, rfl⟩ : ∃ (j : Fin 4) (n : Fin 8192) (k : Fin 704), i = ix3 j n k := ⟨i 0, i 1, i 2, eq_ix3 i⟩
  rw [Slabs.block_slabs c _ _ j n k ⟨c.val * 4 + j.val, slab_lt c j⟩ rfl, refS_apply, ← a_block m c a ha, ← b_block m c b hb]
  rfl

include hx ha hb hw in
theorem da_block : outA m c = Layout.block ⟨3, ![4, 8192, 704]⟩ ⟨3, ![32, 8192, 704]⟩ 0 8 c (refA x a b w) := by
  funext i
  obtain ⟨j, n, k, rfl⟩ : ∃ (j : Fin 4) (n : Fin 8192) (k : Fin 704), i = ix3 j n k := ⟨i 0, i 1, i 2, eq_ix3 i⟩
  rw [Slabs.block_slabs c _ _ j n k ⟨c.val * 4 + j.val, slab_lt c j⟩ rfl, refA_apply, ← a_block m c a ha, ← b_block m c b hb, ← ds_block m c x w hx hw]
  rfl

include hx ha hw in
theorem db_block : outB m c = Layout.block ⟨3, ![4, 8192, 704]⟩ ⟨3, ![32, 8192, 704]⟩ 0 8 c (refB x a w) := by
  funext i
  obtain ⟨j, n, k, rfl⟩ : ∃ (j : Fin 4) (n : Fin 8192) (k : Fin 704), i = ix3 j n k := ⟨i 0, i 1, i 2, eq_ix3 i⟩
  rw [Slabs.block_slabs c _ _ j n k ⟨c.val * 4 + j.val, slab_lt c j⟩ rfl, refB_apply, ← a_block m c a ha, ← ds_block m c x w hx hw]
  rfl

end values

theorem chip0 : ∀ c : Fin 8, ((peer 0 c).val / 2 % 2 + 2) - 2 * ((peer 0 c).val / 4) = c.val / 2 := by decide
theorem chip1 : ∀ c : Fin 8, (2 * ((peer 1 c).val / 4) + 1) - (peer 1 c).val / 2 % 2 = c.val / 2 := by decide
theorem chip2 : ∀ c : Fin 8, 3 - (2 * ((peer 2 c).val / 4) + (peer 2 c).val / 2 % 2) = c.val / 2 := by decide

/-- The slab a device reads for a peer is that of the peer's chip. -/
theorem off_peer (a : Fin 7) (k : Fin 3) (c : Dev nD) : start a k (peer k c) = ![c.val / 2, 0, 0] := by
  match a, k with
  | 0, 0 => exact (k0_off1_eq _).trans (congrArg (fun x => ![x, 0, 0]) (chip0 c))
  | 0, 1 => exact (k0_off2_eq _).trans (congrArg (fun x => ![x, 0, 0]) (chip1 c))
  | 0, 2 => exact (k0_off3_eq _).trans (congrArg (fun x => ![x, 0, 0]) (chip2 c))
  | 1, 0 => exact (k0_off4_eq _).trans (congrArg (fun x => ![x, 0, 0]) (chip0 c))
  | 1, 1 => exact (k0_off5_eq _).trans (congrArg (fun x => ![x, 0, 0]) (chip1 c))
  | 1, 2 => exact (k0_off6_eq _).trans (congrArg (fun x => ![x, 0, 0]) (chip2 c))
  | 2, 0 => exact (k0_off7_eq _).trans (congrArg (fun x => ![x, 0, 0]) (chip0 c))
  | 2, 1 => exact (k0_off8_eq _).trans (congrArg (fun x => ![x, 0, 0]) (chip1 c))
  | 2, 2 => exact (k0_off9_eq _).trans (congrArg (fun x => ![x, 0, 0]) (chip2 c))
  | 3, 0 => exact (k0_off7_eq _).trans (congrArg (fun x => ![x, 0, 0]) (chip0 c))
  | 3, 1 => exact (k0_off8_eq _).trans (congrArg (fun x => ![x, 0, 0]) (chip1 c))
  | 3, 2 => exact (k0_off9_eq _).trans (congrArg (fun x => ![x, 0, 0]) (chip2 c))
  | 4, 0 => exact (k0_off7_eq _).trans (congrArg (fun x => ![x, 0, 0]) (chip0 c))
  | 4, 1 => exact (k0_off8_eq _).trans (congrArg (fun x => ![x, 0, 0]) (chip1 c))
  | 4, 2 => exact (k0_off9_eq _).trans (congrArg (fun x => ![x, 0, 0]) (chip2 c))
  | 5, 0 => exact (k0_off4_eq _).trans (congrArg (fun x => ![x, 0, 0]) (chip0 c))
  | 5, 1 => exact (k0_off5_eq _).trans (congrArg (fun x => ![x, 0, 0]) (chip1 c))
  | 5, 2 => exact (k0_off6_eq _).trans (congrArg (fun x => ![x, 0, 0]) (chip2 c))
  | 6, 0 => exact (k0_off10_eq _).trans (congrArg (fun x => ![x, 0, 0]) (chip0 c))
  | 6, 1 => exact (k0_off11_eq _).trans (congrArg (fun x => ![x, 0, 0]) (chip1 c))
  | 6, 2 => exact (k0_off12_eq _).trans (congrArg (fun x => ![x, 0, 0]) (chip2 c))

/-- What a device receives, an element at a time. -/
theorem received (m : (ℓ : Loc nD τ Cert.ActScatterIdeal.sig) → Buf (Elt F) ℓ) (c : Dev nD) (s : MemSt nD τ Cert.ActScatterIdeal.sig (Elt F)) (he : Ends m c s)
    (a : Fin 7) (k : Fin 3) (r : Fin (rowsOf a)) (q : Fin (colsOf a)) :
    (outM a).view.read (Elt F) (s.mem ((outM a).view.loc (c : Thread nD τ))) (ix3 k r q)
      = (argM a).view.read (Elt F) (m ((argM a).view.loc (peer k c : Thread nD τ))) (ix3 ⟨c.val / 2, by have := c.isLt; change c.val < 8 at this; omega⟩ r q) := by
  have h := congrFun (he.2.2.2.2.2.2.2 (a, k)) (ix2 r q)
  unfold block at h
  exact ((Slabs.slab_read (outM a) _ k rfl _ (fun _ => rfl) (flattens a) _ r q).symm.trans h).trans
    (Slabs.slab_read (argM a) _ ⟨c.val / 2, _⟩ (off_peer a k c) _ (fun _ => rfl) (flattens a) _ r q)

theorem algebraic : Cert.algebraic_ActScatterIdeal_ActScatterRefIdeal := fun m ρ m' ρ' _ hm =>
  ⟨_, _, _, _, _, _, _, _, _, _, _,
    (θ_run defs _ _).mono (fun r h c => by
      have he := (h.1 c).2
      have hk := kept_of m c r.2 (h.1 c).1 he
      obtain ⟨h0, h1, h2, h3, -⟩ := hm c
      refine ⟨?_, ?_, ?_, ?_, ?_, ?_, ?_, ?_, ?_, ?_, ?_, hk⟩
      · exact (((h.1 c).1 4).trans (final4 m c)).trans (s_block m c _ _ h1 h2)
      · exact (((h.1 c).1 5).trans (final5 m c)).trans (da_block m c _ _ _ _ h0 h1 h2 h3)
      · exact (((h.1 c).1 6).trans (final6 m c)).trans (db_block m c _ _ _ h0 h1 h3)
      · exact (((h.1 c).1 7).trans (final7 m c)).trans (y_block m c _ h0)
      · exact Slabs.slabs_eq c _ (fun p : Dev nD => m ((p.tc : Thread nD τ).loc main_arg4)) _ _ _ _ (Slabs.received_row Cert.ActScatterRefIdeal.lit0 rows _ Cert.ActScatterRefIdeal.Gen.bcast_S24_S24x1_0 _)
          (fun p => (hm p).2.2.2.2.1) (received m c r.2 he 0)
      · exact Slabs.slabs_eq c _ (fun p : Dev nD => m ((p.tc : Thread nD τ).loc main_arg5)) _ _ _ _ (Slabs.received_row Cert.ActScatterRefIdeal.lit0 rows _ Cert.ActScatterRefIdeal.Gen.bcast_S24_S24x1_0 _)
          (fun p => (hm p).2.2.2.2.2.1) (received m c r.2 he 1)
      · exact Slabs.slabs_eq c _ (fun p : Dev nD => m ((p.tc : Thread nD τ).loc main_arg6)) _ _ _ _ (Slabs.received_row Cert.ActScatterRefIdeal.lit0 rows _ Cert.ActScatterRefIdeal.Gen.bcast_S24_S24x1_0 _)
          (fun p => (hm p).2.2.2.2.2.2.1) (received m c r.2 he 2)
      · exact Slabs.slabs_eq c _ (fun p : Dev nD => m ((p.tc : Thread nD τ).loc main_arg7)) _ _ _ _ (Slabs.received_row Cert.ActScatterRefIdeal.lit0 rows _ Cert.ActScatterRefIdeal.Gen.bcast_S24_S24x1_0 _)
          (fun p => (hm p).2.2.2.2.2.2.2.1) (received m c r.2 he 3)
      · exact Slabs.slabs_eq c _ (fun p : Dev nD => m ((p.tc : Thread nD τ).loc main_arg8)) _ _ _ _ (Slabs.received_row Cert.ActScatterRefIdeal.lit0 rows _ Cert.ActScatterRefIdeal.Gen.bcast_S24_S24x1_0 _)
          (fun p => (hm p).2.2.2.2.2.2.2.2.1) (received m c r.2 he 4)
      · exact Slabs.slabs_eq c _ (fun p : Dev nD => m ((p.tc : Thread nD τ).loc main_arg9)) _ _ _ _ (Slabs.received_row Cert.ActScatterRefIdeal.lit0 rows _ Cert.ActScatterRefIdeal.Gen.bcast_S24_S24x1_0 _)
          (fun p => (hm p).2.2.2.2.2.2.2.2.2.1) (received m c r.2 he 5)
      · exact Slabs.slabs_eq c _ (fun p : Dev nD => m ((p.tc : Thread nD τ).loc main_arg10)) _ _ _ _ (Slabs.received_row Cert.ActScatterRefIdeal.lit0 rows _ Cert.ActScatterRefIdeal.Gen.bcast_S24_S24x1_0 _)
          (fun p => (hm p).2.2.2.2.2.2.2.2.2.2) (received m c r.2 he 6)) (run m ρ),
    (θ_run Cert.ActScatterRefIdeal.defs _ _).mono (fun r h => h 0) (Cert.ActScatterRefIdeal.Value.run (F := Ideal) m' ρ')⟩

end Cert.ActScatterValue

end
-- ==== Proof.AdamStep.lean ====
/-
  One step of the optimiser, element by element: the update of the weight and the two new moments, at the extended
  reals. The kernel's division and square root and the host's are the same operations there, so the host's arrays of
  operations are these functions at every index, whatever the shape of the weight.
-/
module

public import Idealize.ShloMosaic.Lib.StableHlo.Run
public import Idealize.ShloMosaic.PureOps.Ideal

@[expose] public section

noncomputable section

namespace Cert.AdamStep

open Idealize.ShloMosaic

/-- A 32-bit float constant at the extended reals. -/
abbrev lit (w : BitVec 32) : Ideal .f32 := Scalar.ofBits .f32 w

/-- The new first moment: a tenth of the gradient and nine tenths of the old one. -/
abbrev first {ι : Type} (g m : ι → Ideal .f32) : ι → Ideal .f32 := fun i =>
  FloatOps.addf (FloatOps.mulf (lit 0x3F666666#32) (m i)) (FloatOps.mulf (lit 0x3DCCCCCD#32) (g i))

/-- The new second moment: the same with the square of the gradient and the second rate. -/
abbrev second {ι : Type} (g v : ι → Ideal .f32) : ι → Ideal .f32 := fun i =>
  FloatOps.addf (FloatOps.mulf (lit 0x3F7FBE77#32) (v i)) (FloatOps.mulf (lit 0x3A83126F#32) (FloatOps.mulf (g i) (g i)))

/-- What is added to the weight: the step size times the quotient of the corrected moments, with weight decay. -/
abbrev update {ι : Type} (w g m v : ι → Ideal .f32) : ι → Ideal .f32 := fun i =>
  FloatOps.mulf (lit 0xBA83126F#32)
    (FloatOps.addf
      (FloatOps.divf (FloatOps.divf (first g m i) (lit 0x3F26BD02#32))
        (FloatOps.addf (FloatOps.sqrt (FloatOps.divf (second g v i) (lit 0x3C231ACC#32))) (lit 0x322BCC77#32)))
      (FloatOps.mulf (lit 0x3C23D70A#32) (w i)))

/-- A constant spread over the whole shape, as the host spreads it. -/
abbrev spread {s z : Shape} {d : Fin z.rank → Fin s.rank} (hb : z.BroadcastsInDim s d) (w : BitVec 32) : FVec Ideal s .f32 :=
  broadcastInDim s d hb (constant z .f32 w)

variable {s z : Shape} {d : Fin z.rank → Fin s.rank} (hb : z.BroadcastsInDim s d)

/-- The host's new first moment. -/
theorem host_first (g m : FVec Ideal s .f32) :
    addf (mulf (spread hb 0x3F666666#32) m) (mulf (spread hb 0x3DCCCCCD#32) g) = first g m := rfl

/-- The host's new second moment. -/
theorem host_second (g v : FVec Ideal s .f32) :
    addf (mulf (spread hb 0x3F7FBE77#32) v) (mulf (spread hb 0x3A83126F#32) (mulf g g)) = second g v := rfl

/-- The host's update of the weight. -/
theorem host_update (w g m v : FVec Ideal s .f32) :
    mulf (spread hb 0xBA83126F#32)
      (addf
        (Host.divf (Host.divf (addf (mulf (spread hb 0x3F666666#32) m) (mulf (spread hb 0x3DCCCCCD#32) g)) (spread hb 0x3F26BD02#32))
          (addf
            (Host.sqrt (Host.divf (addf (mulf (spread hb 0x3F7FBE77#32) v) (mulf (spread hb 0x3A83126F#32) (mulf g g)))
              (spread hb 0x3C231ACC#32)))
            (spread hb 0x322BCC77#32)))
        (mulf (spread hb 0x3C23D70A#32) w)) = update w g m v := rfl

end Cert.AdamStep

end
-- ==== Proof.AdamFfn.lean ====
/-
  The claims of the optimiser's step at the (704, 1024) weights of the feed-forward blocks, on one device: the frames, and the step against the
  reference at the extended reals. The blocks of the grid cover every row, so each result is one function of the
  argument arrays, index by index.
-/
module

public import proofs.«01_k».proof.Defs
public import proofs.«01_k».proof.Proof.AdamStep
public import proofs.«01_k».proof.Proof.Gen.AdamFfn.Frame
public import proofs.«01_k».proof.Proof.Gen.AdamFfnIdeal.Value
public import proofs.«01_k».proof.Proof.Gen.AdamFfnRefIdeal.Run
public import Idealize.ShloMosaic.Lib.Quiescent

@[expose] public section

noncomputable section

namespace Cert.AdamFfnValue

open Idealize.ShloMosaic Idealize.ShloMosaic.TcCoe Idealize.SL.Sem
open Cert.AdamFfnIdeal Cert.AdamFfnIdeal.Gen

theorem frame_bits : Cert.quiescent_AdamFfn := fun m ρ _ => Cert.AdamFfn.Gen.frame m ρ
theorem frame_ideal : Cert.quiescent_AdamFfnIdeal := fun m ρ _ => Cert.AdamFfnIdeal.Gen.frame m ρ
theorem ref_frame : Cert.quiescent_AdamFfnRefIdeal := fun m ρ _ =>
  (θ_run Cert.AdamFfnRefIdeal.defs _ _).mono (fun r h => ⟨fun c => (h c).2.2.2, sem_eq_zero_of_no_sems rfl _⟩)
    (Cert.AdamFfnRefIdeal.Value.run (F := Ideal) m ρ)

/-- The kernel's update, moments and the reference's are the same three functions of the same four arrays. -/
theorem algebraic : Cert.algebraic_AdamFfnIdeal_AdamFfnRefIdeal := by
  intro m ρ m' ρ' _ hagree
  refine ⟨fun c => AdamStep.update (m ((c.tc : Thread nD τ).loc main_arg0)) (m ((c.tc : Thread nD τ).loc main_arg1))
        (m ((c.tc : Thread nD τ).loc main_arg2)) (m ((c.tc : Thread nD τ).loc main_arg3)),
    fun c => AdamStep.first (m ((c.tc : Thread nD τ).loc main_arg1)) (m ((c.tc : Thread nD τ).loc main_arg2)),
    fun c => AdamStep.second (m ((c.tc : Thread nD τ).loc main_arg1)) (m ((c.tc : Thread nD τ).loc main_arg3)),
    Cert.AdamFfnIdeal.Value.run (F := Ideal) m ρ, ?_⟩
  refine (θ_run Cert.AdamFfnRefIdeal.defs _ _).mono
    (fun _ h c => ⟨(h c).1.trans ?_, (h c).2.1.trans ?_, (h c).2.2.1.trans ?_, (h c).2.2.2⟩)
    (Cert.AdamFfnRefIdeal.Value.run (F := Ideal) m' ρ') <;> rw [(hagree c).2.1]
  · rw [(hagree c).1, (hagree c).2.2.1, (hagree c).2.2.2]
    exact AdamStep.host_update _ _ _ _ _
  · rw [(hagree c).2.2.1]
    exact AdamStep.host_first _ _ _
  · rw [(hagree c).2.2.2]
    exact AdamStep.host_second _ _ _

end Cert.AdamFfnValue

end
-- ==== Proof.AdamIn.lean ====
/-
  The claims of the optimiser's step at the (1024, 768) weight w_in, on one device: the frames, and the step against the
  reference at the extended reals. The blocks of the grid cover every row, so each result is one function of the
  argument arrays, index by index.
-/
module

public import proofs.«01_k».proof.Defs
public import proofs.«01_k».proof.Proof.AdamStep
public import proofs.«01_k».proof.Proof.Gen.AdamIn.Frame
public import proofs.«01_k».proof.Proof.Gen.AdamInIdeal.Value
public import proofs.«01_k».proof.Proof.Gen.AdamInRefIdeal.Run
public import Idealize.ShloMosaic.Lib.Quiescent

@[expose] public section

noncomputable section

namespace Cert.AdamInValue

open Idealize.ShloMosaic Idealize.ShloMosaic.TcCoe Idealize.SL.Sem
open Cert.AdamInIdeal Cert.AdamInIdeal.Gen

theorem frame_bits : Cert.quiescent_AdamIn := fun m ρ _ => Cert.AdamIn.Gen.frame m ρ
theorem frame_ideal : Cert.quiescent_AdamInIdeal := fun m ρ _ => Cert.AdamInIdeal.Gen.frame m ρ
theorem ref_frame : Cert.quiescent_AdamInRefIdeal := fun m ρ _ =>
  (θ_run Cert.AdamInRefIdeal.defs _ _).mono (fun r h => ⟨fun c => (h c).2.2.2, sem_eq_zero_of_no_sems rfl _⟩)
    (Cert.AdamInRefIdeal.Value.run (F := Ideal) m ρ)

/-- The kernel's update, moments and the reference's are the same three functions of the same four arrays. -/
theorem algebraic : Cert.algebraic_AdamInIdeal_AdamInRefIdeal := by
  intro m ρ m' ρ' _ hagree
  refine ⟨fun c => AdamStep.update (m ((c.tc : Thread nD τ).loc main_arg0)) (m ((c.tc : Thread nD τ).loc main_arg1))
        (m ((c.tc : Thread nD τ).loc main_arg2)) (m ((c.tc : Thread nD τ).loc main_arg3)),
    fun c => AdamStep.first (m ((c.tc : Thread nD τ).loc main_arg1)) (m ((c.tc : Thread nD τ).loc main_arg2)),
    fun c => AdamStep.second (m ((c.tc : Thread nD τ).loc main_arg1)) (m ((c.tc : Thread nD τ).loc main_arg3)),
    Cert.AdamInIdeal.Value.run (F := Ideal) m ρ, ?_⟩
  refine (θ_run Cert.AdamInRefIdeal.defs _ _).mono
    (fun _ h c => ⟨(h c).1.trans ?_, (h c).2.1.trans ?_, (h c).2.2.1.trans ?_, (h c).2.2.2⟩)
    (Cert.AdamInRefIdeal.Value.run (F := Ideal) m' ρ') <;> rw [(hagree c).2.1]
  · rw [(hagree c).1, (hagree c).2.2.1, (hagree c).2.2.2]
    exact AdamStep.host_update _ _ _ _ _
  · rw [(hagree c).2.2.1]
    exact AdamStep.host_first _ _ _
  · rw [(hagree c).2.2.2]
    exact AdamStep.host_second _ _ _

end Cert.AdamInValue

end
-- ==== Proof.AdamOut.lean ====
/-
  The claims of the optimiser's step at the (256, 1024) weights w_out and ple_w_gate, on one device: the frames, and the step against the
  reference at the extended reals. The blocks of the grid cover every row, so each result is one function of the
  argument arrays, index by index.
-/
module

public import proofs.«01_k».proof.Defs
public import proofs.«01_k».proof.Proof.AdamStep
public import proofs.«01_k».proof.Proof.Gen.AdamOut.Frame
public import proofs.«01_k».proof.Proof.Gen.AdamOutIdeal.Value
public import proofs.«01_k».proof.Proof.Gen.AdamOutRefIdeal.Run
public import Idealize.ShloMosaic.Lib.Quiescent

@[expose] public section

noncomputable section

namespace Cert.AdamOutValue

open Idealize.ShloMosaic Idealize.ShloMosaic.TcCoe Idealize.SL.Sem
open Cert.AdamOutIdeal Cert.AdamOutIdeal.Gen

theorem frame_bits : Cert.quiescent_AdamOut := fun m ρ _ => Cert.AdamOut.Gen.frame m ρ
theorem frame_ideal : Cert.quiescent_AdamOutIdeal := fun m ρ _ => Cert.AdamOutIdeal.Gen.frame m ρ
theorem ref_frame : Cert.quiescent_AdamOutRefIdeal := fun m ρ _ =>
  (θ_run Cert.AdamOutRefIdeal.defs _ _).mono (fun r h => ⟨fun c => (h c).2.2.2, sem_eq_zero_of_no_sems rfl _⟩)
    (Cert.AdamOutRefIdeal.Value.run (F := Ideal) m ρ)

/-- The kernel's update, moments and the reference's are the same three functions of the same four arrays. -/
theorem algebraic : Cert.algebraic_AdamOutIdeal_AdamOutRefIdeal := by
  intro m ρ m' ρ' _ hagree
  refine ⟨fun c => AdamStep.update (m ((c.tc : Thread nD τ).loc main_arg0)) (m ((c.tc : Thread nD τ).loc main_arg1))
        (m ((c.tc : Thread nD τ).loc main_arg2)) (m ((c.tc : Thread nD τ).loc main_arg3)),
    fun c => AdamStep.first (m ((c.tc : Thread nD τ).loc main_arg1)) (m ((c.tc : Thread nD τ).loc main_arg2)),
    fun c => AdamStep.second (m ((c.tc : Thread nD τ).loc main_arg1)) (m ((c.tc : Thread nD τ).loc main_arg3)),
    Cert.AdamOutIdeal.Value.run (F := Ideal) m ρ, ?_⟩
  refine (θ_run Cert.AdamOutRefIdeal.defs _ _).mono
    (fun _ h c => ⟨(h c).1.trans ?_, (h c).2.1.trans ?_, (h c).2.2.1.trans ?_, (h c).2.2.2⟩)
    (Cert.AdamOutRefIdeal.Value.run (F := Ideal) m' ρ') <;> rw [(hagree c).2.1]
  · rw [(hagree c).1, (hagree c).2.2.1, (hagree c).2.2.2]
    exact AdamStep.host_update _ _ _ _ _
  · rw [(hagree c).2.2.1]
    exact AdamStep.host_first _ _ _
  · rw [(hagree c).2.2.2]
    exact AdamStep.host_second _ _ _

end Cert.AdamOutValue

end
-- ==== Proof.AdamPle.lean ====
/-
  The claims of the optimiser's step at the (256, 256) weight ple_w_proj, on one device: the frames, and the step against the
  reference at the extended reals. The blocks of the grid cover every row, so each result is one function of the
  argument arrays, index by index.
-/
module

public import proofs.«01_k».proof.Defs
public import proofs.«01_k».proof.Proof.AdamStep
public import proofs.«01_k».proof.Proof.Gen.AdamPle.Frame
public import proofs.«01_k».proof.Proof.Gen.AdamPleIdeal.Value
public import proofs.«01_k».proof.Proof.Gen.AdamPleRefIdeal.Run
public import Idealize.ShloMosaic.Lib.Quiescent

@[expose] public section

noncomputable section

namespace Cert.AdamPleValue

open Idealize.ShloMosaic Idealize.ShloMosaic.TcCoe Idealize.SL.Sem
open Cert.AdamPleIdeal Cert.AdamPleIdeal.Gen

theorem frame_bits : Cert.quiescent_AdamPle := fun m ρ _ => Cert.AdamPle.Gen.frame m ρ
theorem frame_ideal : Cert.quiescent_AdamPleIdeal := fun m ρ _ => Cert.AdamPleIdeal.Gen.frame m ρ
theorem ref_frame : Cert.quiescent_AdamPleRefIdeal := fun m ρ _ =>
  (θ_run Cert.AdamPleRefIdeal.defs _ _).mono (fun r h => ⟨fun c => (h c).2.2.2, sem_eq_zero_of_no_sems rfl _⟩)
    (Cert.AdamPleRefIdeal.Value.run (F := Ideal) m ρ)

/-- The kernel's update, moments and the reference's are the same three functions of the same four arrays. -/
theorem algebraic : Cert.algebraic_AdamPleIdeal_AdamPleRefIdeal := by
  intro m ρ m' ρ' _ hagree
  refine ⟨fun c => AdamStep.update (m ((c.tc : Thread nD τ).loc main_arg0)) (m ((c.tc : Thread nD τ).loc main_arg1))
        (m ((c.tc : Thread nD τ).loc main_arg2)) (m ((c.tc : Thread nD τ).loc main_arg3)),
    fun c => AdamStep.first (m ((c.tc : Thread nD τ).loc main_arg1)) (m ((c.tc : Thread nD τ).loc main_arg2)),
    fun c => AdamStep.second (m ((c.tc : Thread nD τ).loc main_arg1)) (m ((c.tc : Thread nD τ).loc main_arg3)),
    Cert.AdamPleIdeal.Value.run (F := Ideal) m ρ, ?_⟩
  refine (θ_run Cert.AdamPleRefIdeal.defs _ _).mono
    (fun _ h c => ⟨(h c).1.trans ?_, (h c).2.1.trans ?_, (h c).2.2.1.trans ?_, (h c).2.2.2⟩)
    (Cert.AdamPleRefIdeal.Value.run (F := Ideal) m' ρ') <;> rw [(hagree c).2.1]
  · rw [(hagree c).1, (hagree c).2.2.1, (hagree c).2.2.2]
    exact AdamStep.host_update _ _ _ _ _
  · rw [(hagree c).2.2.1]
    exact AdamStep.host_first _ _ _
  · rw [(hagree c).2.2.2]
    exact AdamStep.host_second _ _ _

end Cert.AdamPleValue

end
-- ==== Proof.AdamSmall.lean ====
/-
  The claims of the optimiser's step at the (16, 1024) array of the packed small weights, on one device: the frames, and the step against the
  reference at the extended reals. The blocks of the grid cover every row, so each result is one function of the
  argument arrays, index by index.
-/
module

public import proofs.«01_k».proof.Defs
public import proofs.«01_k».proof.Proof.AdamStep
public import proofs.«01_k».proof.Proof.Gen.AdamSmall.Frame
public import proofs.«01_k».proof.Proof.Gen.AdamSmallIdeal.Value
public import proofs.«01_k».proof.Proof.Gen.AdamSmallRefIdeal.Run
public import Idealize.ShloMosaic.Lib.Quiescent

@[expose] public section

noncomputable section

namespace Cert.AdamSmallValue

open Idealize.ShloMosaic Idealize.ShloMosaic.TcCoe Idealize.SL.Sem
open Cert.AdamSmallIdeal Cert.AdamSmallIdeal.Gen

theorem frame_bits : Cert.quiescent_AdamSmall := fun m ρ _ => Cert.AdamSmall.Gen.frame m ρ
theorem frame_ideal : Cert.quiescent_AdamSmallIdeal := fun m ρ _ => Cert.AdamSmallIdeal.Gen.frame m ρ
theorem ref_frame : Cert.quiescent_AdamSmallRefIdeal := fun m ρ _ =>
  (θ_run Cert.AdamSmallRefIdeal.defs _ _).mono (fun r h => ⟨fun c => (h c).2.2.2, sem_eq_zero_of_no_sems rfl _⟩)
    (Cert.AdamSmallRefIdeal.Value.run (F := Ideal) m ρ)

/-- The kernel's update, moments and the reference's are the same three functions of the same four arrays. -/
theorem algebraic : Cert.algebraic_AdamSmallIdeal_AdamSmallRefIdeal := by
  intro m ρ m' ρ' _ hagree
  refine ⟨fun c => AdamStep.update (m ((c.tc : Thread nD τ).loc main_arg0)) (m ((c.tc : Thread nD τ).loc main_arg1))
        (m ((c.tc : Thread nD τ).loc main_arg2)) (m ((c.tc : Thread nD τ).loc main_arg3)),
    fun c => AdamStep.first (m ((c.tc : Thread nD τ).loc main_arg1)) (m ((c.tc : Thread nD τ).loc main_arg2)),
    fun c => AdamStep.second (m ((c.tc : Thread nD τ).loc main_arg1)) (m ((c.tc : Thread nD τ).loc main_arg3)),
    Cert.AdamSmallIdeal.Value.run (F := Ideal) m ρ, ?_⟩
  refine (θ_run Cert.AdamSmallRefIdeal.defs _ _).mono
    (fun _ h c => ⟨(h c).1.trans ?_, (h c).2.1.trans ?_, (h c).2.2.1.trans ?_, (h c).2.2.2⟩)
    (Cert.AdamSmallRefIdeal.Value.run (F := Ideal) m' ρ') <;> rw [(hagree c).2.1]
  · rw [(hagree c).1, (hagree c).2.2.1, (hagree c).2.2.2]
    exact AdamStep.host_update _ _ _ _ _
  · rw [(hagree c).2.2.1]
    exact AdamStep.host_first _ _ _
  · rw [(hagree c).2.2.2]
    exact AdamStep.host_second _ _ _

end Cert.AdamSmallValue

end
-- ==== Proof.Gather.lean ====
/-
  The gather among all devices, for any number of arrays.

  Each of the eight devices holds one array per index, and every chip needs the array of every other chip. A device sends
  the whole of its array to the other core of its chip, and its half of the rows to the same core of the three other chips.
  Copy `(a, 3)` is that of array `a` with the other core, copy `(a, k)` for smaller `k` that with the `k`-th other chip.
  The copies between the cores come first; after them come those between the chips, in the order of the index.
-/
module

public import proofs.«01_k».proof.Proof.Scatter

@[expose] public section

noncomputable section

namespace Cert.Gather

open Cert.Exchange
open Cert.Scatter (filter_erase)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The partner of a copy: the same core of another chip, or the other core of the same chip. -/
def peer (k : Fin 4) (c : Dev 8) : Dev 8 :=
  match k with
  | 0 => Scatter.peer 0 c
  | 1 => Scatter.peer 1 c
  | 2 => Scatter.peer 2 c
  | 3 => ⟨(4 * (c.val / 4) + 2 * ((c.val / 2) % 2) + 1) - c.val % 2, by have := c.isLt; omega⟩
theorem peer_peer : ∀ (k : Fin 4) (c : Dev 8), peer k (peer k c) = c := by decide

/-! ## The order of the copies -/

variable {A : ℕ}

/-- The place of a copy in the order, and of a semaphore in the order of the waits. -/
def place (i : Fin A × Fin 4) : ℕ := if i.2.val = 3 then i.1.val else A + 3 * i.1.val + i.2.val
def turn (s : (Fin A × Fin 4) ⊕ (Fin A × Fin 4)) : ℕ := match s with | .inl i => 2 * place i | .inr i => 2 * place i + 1

theorem place_inj : Function.Injective (place (A := A)) := by
  rintro ⟨a, k⟩ ⟨b, l⟩ h
  unfold place at h
  dsimp only at h
  have := k.isLt; have := l.isLt; have := a.isLt; have := b.isLt
  split_ifs at h <;> exact Prod.ext (Fin.ext (by show a.val = b.val; omega)) (Fin.ext (by show k.val = l.val; omega))
theorem turn_inj : Function.Injective (turn (A := A)) := by
  rintro (i | i) (j | j) h <;> unfold turn at h <;> dsimp only at h
  · exact congrArg Sum.inl (place_inj (by omega))
  · omega
  · omega
  · exact congrArg Sum.inr (place_inj (by omega))

theorem place_lt (i : Fin A × Fin 4) : place i < 4 * A := by
  have := i.1.isLt; have := i.2.isLt
  unfold place
  split_ifs <;> omega

/-- The copies from place `n` on, and the semaphores from turn `n` on. -/
def left (A n : ℕ) : Finset (Fin A × Fin 4) := Finset.univ.filter fun i => n ≤ place i
def open' (A n : ℕ) : Finset ((Fin A × Fin 4) ⊕ (Fin A × Fin 4)) := Finset.univ.filter fun s => n ≤ turn s

theorem left_zero : left A 0 = Finset.univ := Finset.filter_true_of_mem fun _ _ => Nat.zero_le _
theorem open_zero : open' A 0 = Finset.univ := Finset.filter_true_of_mem fun _ _ => Nat.zero_le _
theorem left_end (n : ℕ) (h : n = 4 * A) : left A n = ∅ :=
  Finset.filter_false_of_mem fun i _ => by have := place_lt i; omega
theorem open_end (n : ℕ) (h : n = 8 * A) : open' A n = ∅ :=
  Finset.filter_false_of_mem fun s _ => by rcases s with i | i <;> have := place_lt i <;> unfold turn <;> dsimp only <;> omega

/-! ## Parts of arrays -/

variable {sig : RefSig} {nD : Nat} {τ : Topo} {Val : EltTy → Type} {U : Type} [URA U]

local notation "𝕄" => MT nD τ sig Unit Val ℕ U ℕ

theorem bigSep4 {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ

/-- Four disjoint parts of an array. -/
theorem parts4 {ℓ : Loc nD τ sig} {q : PosShare TreeShare} (S : Fin 4 → Finset (Idx ℓ)) (h : ∀ k l, k ≠ l → Disjoint (S k) (S l)) (f : Buf Val ℓ) :
    (ℓ ↦{q} f : sProp 𝕄) ⊢ bigSep Finset.univ fun k => ℓ ↦[S k]{q} f := by
  rw [bigSep4]
  iintro H
  ihave H := (pointsTo_split_subset (Finset.subset_univ (S 0 ∪ (S 1 ∪ (S 2 ∪ S 3))))).1 $$ H
  icases H with ⟨H, -⟩
  ihave H := (pointsTo_union (Finset.disjoint_union_right.2 ⟨h 0 1 (by decide), Finset.disjoint_union_right.2 ⟨h 0 2 (by decide), h 0 3 (by decide)⟩⟩)).1 $$ H
  icases H with ⟨H0, H⟩
  ihave H := (pointsTo_union (Finset.disjoint_union_right.2 ⟨h 1 2 (by decide), h 1 3 (by decide)⟩)).1 $$ H
  icases H with ⟨H1, H⟩
  ihave H := (pointsTo_union (h 2 3 (by decide))).1 $$ H
  icases H with ⟨H2, H3⟩
  isplitl [H0]; · iexact H0
  isplitl [H1]; · iexact H1
  isplitl [H2]; · iexact H2
  iexact H3

/-- The share at which the block of a copy is lent. -/
def portion (k : Fin 4) : PosShare TreeShare :=
  match k with | 0 => fullShare.right | 1 => fullShare.left.right | 2 => fullShare.left.left.right | 3 => fullShare.left.left.left.right

/-- An array kept at a sixteenth of its share, and four parts of it lent. -/
theorem lend4 {ℓ : Loc nD τ sig} (S : Fin 4 → Finset (Idx ℓ)) (f : Buf Val ℓ) :
    (ℓ ↦{fullShare} f : sProp 𝕄) ⊢ iprop((ℓ ↦{fullShare.left.left.left.left} f) ∗ bigSep Finset.univ fun k => ℓ ↦[S k]{portion k} f) := by
  rw [bigSep4]
  iintro H
  ihave H := (lend (S 0) f) $$ H
  icases H with ⟨H, H0⟩
  ihave H := (lend (S 1) f) $$ H
  icases H with ⟨H, H1⟩
  ihave H := (lend (S 2) f) $$ H
  icases H with ⟨H, H2⟩
  ihave H := (lend (S 3) f) $$ H
  icases H with ⟨H, H3⟩
  isplitl [H]; · iexact H
  isplitl [H0]; · iexact H0
  isplitl [H1]; · iexact H1
  isplitl [H2]; · iexact H2
  iexact H3

/-! ## Waiting in order -/

variable (T : Table sig nD (Fin A × Fin 4)) (P : Goods τ sig nD (Fin A × Fin 4) Val U)
  (ER : Emb (Rounds.URounds (GSem nD τ sig) Unit) (MT nD τ sig Unit Val ℕ U ℕ)) [ER.LandsIn (upEmb : UEmb _ (MT nD τ sig Unit Val ℕ U ℕ))]
  {Λ : Labels} {defs : Defs nD τ sig Val Λ} {𝒱 : Variants}

/-- The wait for the semaphore whose turn it is. -/
theorem wp_next {c : Dev nD} {n : ℕ} (s : (Fin A × Fin 4) ⊕ (Fin A × Fin 4)) (ht : turn s = n) {w : TpuEff nD τ sig Val Λ .tc PUnit} {sm : SemLoc sig} {N : ℕ}
    (hw : ∀ K : PUnit → sProp 𝕄, wpE defs 𝒱 (c.tc : Thread nD τ) none Set.univ w K = waitSpec (c.tc : Thread nD τ) Set.univ sm N K)
    (hsm : sm = T.sem s) (hn : N = T.amt (copyOf s))
    {α : Type} {Q : α → sProp 𝕄} {k : PUnit → Prog (TpuEff nD τ sig Val Λ .tc) α} :
    iprop(Waiting T P ER c (open' A n) ∗ owing c 0)
      ⊢ iprop(((Waiting T P ER c (open' A (n + 1)) ∗ owing c 0)
            -∗ wp frame (wpE defs 𝒱 (c.tc : Thread nD τ) none) Set.univ (k ⟨⟩) Q)
          -∗ wp frame (wpE defs 𝒱 (c.tc : Thread nD τ) none) Set.univ (.op w k) Q) := by
  have h := filter_erase turn turn_inj s n ht
  unfold open'
  rw [← h.2]
  exact wp_finish T P ER s h.1 hw hsm hn

end Cert.Gather

end
-- ==== Proof.FwdGather.lean ====
/-
  The kernel `ffn1_fwd`: the forward pass of a feed-forward block, with a gather of weights riding along.

  The grid has sixteen row tiles of four slabs. At the first slab of a row tile the kernel normalises the rows, puts them in
  a scratch array and in the second result, and starts a running sum at zero in another scratch array; at every slab it
  computes the slab's part of the third and fourth results and adds the slab's part of the product to the sum; at the last
  slab it adds half of the sum to the rows, which gives the first result.

  Along with it every device sends seven arrays to the other core of its chip, and halves of them to the same core of the
  three other chips (`Gather`). The copies start at the first grid point and are waited for at the last. The run is written
  for any float values.
-/
module

public import Idealize.ShloMosaic.Lib.Pipeline.TableIdle
public import proofs.«01_k».proof.Proof.MemLaunch
public import proofs.«01_k».proof.Proof.Gather
public import proofs.«01_k».proof.Proof.Staged
public import proofs.«01_k».proof.Proof.Gen.FwdGatherIdeal
public import proofs.«01_k».proof.Proof.Gen.FwdGatherIdeal.Skeleton
public import proofs.«01_k».proof.Proof.Gen.FwdGatherIdeal.Launch
public import proofs.«01_k».proof.Proof.Gen.FwdGatherIdeal.Points
public import proofs.«01_k».proof.Proof.Gen.FwdGatherIdeal.Frame

@[expose] public section

noncomputable section

namespace Cert.FwdGatherProof

open Cert.FwdGatherIdeal Cert.FwdGatherIdeal.Gen Cert.Exchange Cert.Gather Cert.Staged
open Cert.Scatter (filter_erase filled filled_of read_filled read_all)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU : Type := UR sig nD τ × UR sig nD τ
local notation "𝕄" => MT nD τ sig Unit (Elt F) ℕ UU ℕ
abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-! ## The table of copies -/

abbrev p₀ : grid0.Coords := grid0.coords ⟨0, by decide⟩
theorem first : k0_cond1 p₀ = 1#1 := by decide +kernel

/-- Rows and columns of each array, and the rows of a copy. -/
abbrev rowsOf (a : Fin 7) : ℕ := match a with | 0 => 1024 | 1 => 256 | 2 => 704 | 3 => 704 | 4 => 704 | 5 => 256 | 6 => 256
abbrev halfOf (a : Fin 7) : ℕ := match a with | 0 => 512 | 1 => 128 | 2 => 352 | 3 => 352 | 4 => 352 | 5 => 128 | 6 => 128
abbrev colsOf (a : Fin 7) : ℕ := match a with | 0 => 768 | 1 => 1024 | 2 => 1024 | 3 => 1024 | 4 => 1024 | 5 => 1024 | 6 => 256
abbrev sent (i : Fin 7 × Fin 4) : ℕ := match i.2 with | 0 => halfOf i.1 | 1 => halfOf i.1 | 2 => halfOf i.1 | 3 => rowsOf i.1
abbrev full (a : Fin 7) : Shape := ⟨2, ![rowsOf a, colsOf a]⟩
abbrev four (a : Fin 7) : Shape := ⟨3, ![4, rowsOf a, colsOf a]⟩
abbrev halfS (a : Fin 7) : Shape := ⟨2, ![halfOf a, colsOf a]⟩
abbrev one (i : Fin 7 × Fin 4) : Shape := ⟨3, ![1, sent i, colsOf i.1]⟩
abbrev flat (i : Fin 7 × Fin 4) : Shape := ⟨2, ![sent i, colsOf i.1]⟩

theorem flattens (a : Fin 7) (k : Fin 4) : (one (a, k)).Squeezes (flat (a, k)) :=
  match a, k with
  | 0, 0 => squeezes_S1x512x768_S512x768 | 0, 1 => squeezes_S1x512x768_S512x768 | 0, 2 => squeezes_S1x512x768_S512x768 | 0, 3 => squeezes_S1x1024x768_S1024x768 | 1, 0 => squeezes_S1x128x1024_S128x1024 | 1, 1 => squeezes_S1x128x1024_S128x1024 | 1, 2 => squeezes_S1x128x1024_S128x1024 | 1, 3 => squeezes_S1x256x1024_S256x1024 | 2, 0 => squeezes_S1x352x1024_S352x1024 | 2, 1 => squeezes_S1x352x1024_S352x1024 | 2, 2 => squeezes_S1x352x1024_S352x1024 | 2, 3 => squeezes_S1x704x1024_S704x1024 | 3, 0 => squeezes_S1x352x1024_S352x1024 | 3, 1 => squeezes_S1x352x1024_S352x1024 | 3, 2 => squeezes_S1x352x1024_S352x1024 | 3, 3 => squeezes_S1x704x1024_S704x1024 | 4, 0 => squeezes_S1x352x1024_S352x1024 | 4, 1 => squeezes_S1x352x1024_S352x1024 | 4, 2 => squeezes_S1x352x1024_S352x1024 | 4, 3 => squeezes_S1x704x1024_S704x1024 | 5, 0 => squeezes_S1x128x1024_S128x1024 | 5, 1 => squeezes_S1x128x1024_S128x1024 | 5, 2 => squeezes_S1x128x1024_S128x1024 | 5, 3 => squeezes_S1x256x1024_S256x1024 | 6, 0 => squeezes_S1x128x256_S128x256 | 6, 1 => squeezes_S1x128x256_S128x256 | 6, 2 => squeezes_S1x128x256_S128x256 | 6, 3 => squeezes_S1x256x256_S256x256

theorem flat_pos : ∀ i : Fin 7 × Fin 4, 0 < (flat i).numel := by decide +kernel

/-- Where the half starts that device `c` sends to the other chips. -/
abbrev from' (a : Fin 7) (c : Dev nD) : Fin 2 → ℕ := match a with | 0 => k0_off5 c | 1 => k0_off7 c | 2 => k0_off9 c | 3 => k0_off9 c | 4 => k0_off9 c | 5 => k0_off7 c | 6 => k0_off11 c
theorem from_inb (a : Fin 7) (c : Dev nD) : ∀ b, from' a c b + (halfS a).size b ≤ (full a).size b :=
  match a with | 0 => k0_off5_inb p₀ c first | 1 => k0_off7_inb p₀ c first | 2 => k0_off9_inb p₀ c first | 3 => k0_off9_inb p₀ c first | 4 => k0_off9_inb p₀ c first | 5 => k0_off7_inb p₀ c first | 6 => k0_off11_inb p₀ c first
/-- Where the block of a copy sent by device `c` lands. -/
abbrev start (a : Fin 7) (k : Fin 4) (c : Dev nD) : Fin 3 → ℕ :=
  match a, k with
  | 0, 0 => k0_off6 c | 0, 1 => k0_off6 c | 0, 2 => k0_off6 c | 0, 3 => k0_off1 c | 1, 0 => k0_off8 c | 1, 1 => k0_off8 c | 1, 2 => k0_off8 c | 1, 3 => k0_off2 c | 2, 0 => k0_off10 c | 2, 1 => k0_off10 c | 2, 2 => k0_off10 c | 2, 3 => k0_off3 c | 3, 0 => k0_off10 c | 3, 1 => k0_off10 c | 3, 2 => k0_off10 c | 3, 3 => k0_off3 c | 4, 0 => k0_off10 c | 4, 1 => k0_off10 c | 4, 2 => k0_off10 c | 4, 3 => k0_off3 c | 5, 0 => k0_off8 c | 5, 1 => k0_off8 c | 5, 2 => k0_off8 c | 5, 3 => k0_off2 c | 6, 0 => k0_off12 c | 6, 1 => k0_off12 c | 6, 2 => k0_off12 c | 6, 3 => k0_off4 c
theorem start_inb (a : Fin 7) (k : Fin 4) (c : Dev nD) : ∀ b, start a k c b + (one (a, k)).size b ≤ (four a).size b :=
  match a, k with
  | 0, 0 => k0_off6_inb p₀ c first | 0, 1 => k0_off6_inb p₀ c first | 0, 2 => k0_off6_inb p₀ c first | 0, 3 => k0_off1_inb p₀ c first | 1, 0 => k0_off8_inb p₀ c first | 1, 1 => k0_off8_inb p₀ c first | 1, 2 => k0_off8_inb p₀ c first | 1, 3 => k0_off2_inb p₀ c first | 2, 0 => k0_off10_inb p₀ c first | 2, 1 => k0_off10_inb p₀ c first | 2, 2 => k0_off10_inb p₀ c first | 2, 3 => k0_off3_inb p₀ c first | 3, 0 => k0_off10_inb p₀ c first | 3, 1 => k0_off10_inb p₀ c first | 3, 2 => k0_off10_inb p₀ c first | 3, 3 => k0_off3_inb p₀ c first | 4, 0 => k0_off10_inb p₀ c first | 4, 1 => k0_off10_inb p₀ c first | 4, 2 => k0_off10_inb p₀ c first | 4, 3 => k0_off3_inb p₀ c first | 5, 0 => k0_off8_inb p₀ c first | 5, 1 => k0_off8_inb p₀ c first | 5, 2 => k0_off8_inb p₀ c first | 5, 3 => k0_off2_inb p₀ c first | 6, 0 => k0_off12_inb p₀ c first | 6, 1 => k0_off12_inb p₀ c first | 6, 2 => k0_off12_inb p₀ c first | 6, 3 => k0_off4_inb p₀ c first

/-- The arrays sent, and the arrays of the blocks received. -/
abbrev argM (a : Fin 7) : Memref sig .tc .hbm (full a) .bf16 :=
  match a with | 0 => Memref.whole main_arg5 | 1 => Memref.whole main_arg6 | 2 => Memref.whole main_arg7 | 3 => Memref.whole main_arg8 | 4 => Memref.whole main_arg9 | 5 => Memref.whole main_arg10 | 6 => Memref.whole main_arg11
abbrev outM (a : Fin 7) : Memref sig .tc .hbm (four a) .bf16 :=
  match a with | 0 => Memref.whole main_v1_4 | 1 => Memref.whole main_v1_5 | 2 => Memref.whole main_v1_6 | 3 => Memref.whole main_v1_7 | 4 => Memref.whole main_v1_8 | 5 => Memref.whole main_v1_9 | 6 => Memref.whole main_v1_10
/-- The half of its array that device `c` sends to the other chips. -/
abbrev halfM (a : Fin 7) (c : Dev nD) : Memref sig .tc .hbm (halfS a) .bf16 :=
  (argM a).slice (Rect.unit (s := full a) (from' a c) (halfS a).size (from_inb a c)) (fun _ => rfl)
/-- The block that device `c` sends in copy `i`. -/
abbrev srcM (i : Fin 7 × Fin 4) (c : Dev nD) : Memref sig .tc .hbm (flat i) .bf16 :=
  match i with
  | (a, 0) => halfM a c | (a, 1) => halfM a c | (a, 2) => halfM a c | (a, 3) => argM a
/-- The place into which copy `i` lands when device `c` sends it. -/
abbrev dstM (i : Fin 7 × Fin 4) (c : Dev nD) : Memref sig .tc .hbm (flat i) .bf16 :=
  ((outM i.1).slice (Rect.unit (s := four i.1) (start i.1 i.2 c) (one i).size (start_inb i.1 i.2 c)) (fun _ => rfl)).squeeze (flat i) (flattens i.1 i.2)

theorem start_chip : ∀ (a : Fin 7) (k : Fin 4) (c : Dev nD), start a k c 0 = c.val / 2 := by decide +kernel
theorem chips_differ : ∀ (k l : Fin 4) (c : Dev nD), k ≠ l → (peer k c).val / 2 + 1 ≤ (peer l c).val / 2 ∨ (peer l c).val / 2 + 1 ≤ (peer k c).val / 2 := by decide +kernel

def table : Table sig nD (Fin 7 × Fin 4) where
  peer i := peer i.2
  snd i := .dma (match i.1, i.2 with | 0, 0 => 31 | 0, 1 => 32 | 0, 2 => 33 | 0, 3 => 17 | 1, 0 => 34 | 1, 1 => 35 | 1, 2 => 36 | 1, 3 => 18 | 2, 0 => 37 | 2, 1 => 38 | 2, 2 => 39 | 2, 3 => 19 | 3, 0 => 40 | 3, 1 => 41 | 3, 2 => 42 | 3, 3 => 20 | 4, 0 => 43 | 4, 1 => 44 | 4, 2 => 45 | 4, 3 => 21 | 5, 0 => 46 | 5, 1 => 47 | 5, 2 => 48 | 5, 3 => 22 | 6, 0 => 49 | 6, 1 => 50 | 6, 2 => 51 | 6, 3 => 23)
  rcv i := .dma (match i.1, i.2 with | 0, 0 => 52 | 0, 1 => 53 | 0, 2 => 54 | 0, 3 => 24 | 1, 0 => 55 | 1, 1 => 56 | 1, 2 => 57 | 1, 3 => 25 | 2, 0 => 58 | 2, 1 => 59 | 2, 2 => 60 | 2, 3 => 26 | 3, 0 => 61 | 3, 1 => 62 | 3, 2 => 63 | 3, 3 => 27 | 4, 0 => 64 | 4, 1 => 65 | 4, 2 => 66 | 4, 3 => 28 | 5, 0 => 67 | 5, 1 => 68 | 5, 2 => 69 | 5, 3 => 29 | 6, 0 => 70 | 6, 1 => 71 | 6, 2 => 72 | 6, 3 => 30)
  amt i := (dstM i 0).view.dmaCredit
  back i := peer_peer i.2
  inj := by decide +kernel
  pos i := View.dmaCredit_pos _ (flat_pos i)

/-- The block device `c` sends in copy `i`, as it is at launch. -/
def block (i : Fin 7 × Fin 4) (c : Dev nD) : (⟨(flat i), .bf16⟩ : BufTy).Contents (Elt F) :=
  (srcM i c).view.read (Elt F) (m ((srcM i c).view.loc (c : Thread nD τ)))

/-- Copy `i` in terms of arrays: the block is lent, the place of the partner's block is offered and comes back filled. -/
def goods : Goods τ sig nD (Fin 7 × Fin 4) (Elt F) UU where
  src i c := iprop((srcM i c).view.loc (c : Thread nD τ) ↦[(srcM i c).view.set]{portion i.2} m ((srcM i c).view.loc (c : Thread nD τ)))
  landed i c := filled (dstM i (peer i.2 c)).view c (m ((dstM i (peer i.2 c)).view.loc (c : Thread nD τ))) (block m i (peer i.2 c))
  room i c := iprop(∃ f, (dstM i (peer i.2 c)).view.loc (c : Thread nD τ) ↦[(dstM i (peer i.2 c)).view.set]{fullShare} f)
  src_storable i c := by infer_instance
  landed_storable i c := by infer_instance

theorem room_open (i : Fin 7 × Fin 4) (c : Dev nD) :
    (goods m).room i (peer i.2 c) ⊢ iprop(∃ f, (dstM i c).view.loc (peer i.2 c : Thread nD τ) ↦[(dstM i c).view.set]{fullShare} f : sProp 𝕄) := by
  show iprop(∃ f, (dstM i (peer i.2 (peer i.2 c))).view.loc (peer i.2 c : Thread nD τ) ↦[(dstM i (peer i.2 (peer i.2 c))).view.set]{fullShare} f : sProp 𝕄) ⊢ _
  rw [peer_peer]

theorem land_close (i : Fin 7 × Fin 4) (c : Dev nD) (fd : Buf (Elt F) ((dstM i c).view.loc (peer i.2 c : Thread nD τ))) :
    ((dstM i c).view.loc (peer i.2 c : Thread nD τ) ↦[(dstM i c).view.set]{fullShare} (dstM i c).view.write (Elt F) fd (block m i c) Finset.univ : sProp 𝕄)
      ⊢ (goods m).landed i (peer i.2 c) := by
  show _ ⊢ filled (dstM i (peer i.2 (peer i.2 c))).view (peer i.2 c) (m ((dstM i (peer i.2 (peer i.2 c))).view.loc (peer i.2 c : Thread nD τ))) (block m i (peer i.2 (peer i.2 c)))
  rw [peer_peer]
  exact filled_of (dstM i c).view (peer i.2 c) fd _ _

abbrev 𝒱₀ : Variants := Variants.none

theorem wp_copy {c n' : Dev nD} {n : ℕ} (i : Fin 7 × Fin 4) (hi : place i = n) (hn : n' = peer i.2 c)
    {hsc : (show Memref sig (n'.tc : Thread nD τ).2.kind .hbm (flat i) .bf16 from dstM i c).view.ref.isScScratch = false} {sS sem : SemLoc sig}
    (hS : sS = table.snd i) (hR : sem = table.rcv i)
    {hsrc : (srcM i c).view.WordExact} {hdst : (dstM i c).view.WordExact}
    {hsem : DmaTarget.Typed .hbm sem (.remote (n'.tc : Thread nD τ) (dstM i c) sS hsc)}
    {α : Type} {Q : α → sProp 𝕄} {k : PUnit → Prog (TpuEff nD τ sig (Elt F) Λ₀ .tc) α} :
    iprop(Sending table (goods m) ER c (left 7 n) ∗ owing c (table.dues c (left 7 n)))
      ⊢ iprop(((Sending table (goods m) ER c (left 7 (n + 1)) ∗ owing c (table.dues c (left 7 (n + 1))))
            -∗ wp frame (wpE (defs₀ (F := F)) 𝒱₀ (c.tc : Thread nD τ) none) Set.univ (k ⟨⟩) Q)
          -∗ wp frame (wpE (defs₀ (F := F)) 𝒱₀ (c.tc : Thread nD τ) none) Set.univ
              (.op (.enqueueDma (srcM i c) (.remote (n'.tc : Thread nD τ) (dstM i c) sS hsc) sem hsrc hdst hsem) k) Q) := by
  subst hn
  have h := filter_erase place place_inj i n hi
  unfold left
  rw [← h.2]
  refine wp_start table (goods m) ER (c := c) i h.1 rfl hS hR (src := srcM i c) (dst := dstM i c) ?_ _ rfl (room_open m i c) (fun fd => ?_)
  · subst hR; rfl
  · exact land_close m i c fd

/-! ## The body -/

/-- What is in flight before the first point, between the first and the last, and after the last. -/
def before (c : Dev nD) : sProp 𝕄 := iprop(Sending table (goods m) ER c Finset.univ ∗ owing c (table.dues c Finset.univ))
def flying (c : Dev nD) : sProp 𝕄 := iprop(Waiting table (goods m) ER c Finset.univ ∗ owing c 0)
def arrived (c : Dev nD) : sProp 𝕄 := iprop(Waiting table (goods m) ER c ∅ ∗ owing c 0)

section body

variable (c : Dev nD) (i : grid0.Coords)
  (a2 : Memref sig .tc .vmem S512x1024 .f32) (h2 : a2.IsWhole)
  (a3 : Memref sig .tc .vmem S1x1024 .f32) (h3 : a3.IsWhole)
  (a4 : Memref sig .tc .vmem S1x1024x704 .bf16) (h4 : a4.IsWhole)
  (a5 : Memref sig .tc .vmem S1x1024x704 .bf16) (h5 : a5.IsWhole)
  (a6 : Memref sig .tc .vmem S1x704x1024 .bf16) (h6 : a6.IsWhole)
  (a14 : Memref sig .tc .vmem S512x1024 .f32) (h14 : a14.IsWhole)
  (a15 : Memref sig .tc .vmem S512x1024 .bf16) (h15 : a15.IsWhole)
  (a16 : Memref sig .tc .vmem S1x512x704 .bf16) (h16 : a16.IsWhole)
  (a17 : Memref sig .tc .vmem S1x512x704 .bf16) (h17 : a17.IsWhole)
  (X2 : Vec F S512x1024 .f32) (X3 : Vec F S1x1024 .f32) (X4 X5 : Vec F S1x1024x704 .bf16) (X6 : Vec F S1x704x1024 .bf16)

/-- The staged blocks and the scratch arrays, with what the written ones hold. -/
def held (X14 : Vec F S512x1024 .f32) (X15 : Vec F S512x1024 .bf16) (X16 X17 : Vec F S1x512x704 .bf16) (g : Vec F S512x1024 .bf16) (f : Vec F S512x1024 .f32) : sProp 𝕄 :=
  iprop(owns (c : Thread nD τ) a2 fullShare X2 ∗ owns (c : Thread nD τ) a3 fullShare X3 ∗ owns (c : Thread nD τ) a4 fullShare X4 ∗ owns (c : Thread nD τ) a5 fullShare X5 ∗ owns (c : Thread nD τ) a6 fullShare X6 ∗ owns (c : Thread nD τ) a14 fullShare X14 ∗ owns (c : Thread nD τ) a15 fullShare X15 ∗ owns (c : Thread nD τ) a16 fullShare X16 ∗ owns (c : Thread nD τ) a17 fullShare X17
    ∗ owns (c : Thread nD τ) (Memref.whole cc0_scratch0) fullShare g ∗ owns (c : Thread nD τ) (Memref.whole cc0_scratch1) fullShare f)

/-- The normalised rows and the running sum after a point. -/
def rowsOf' (i : grid0.Coords) (g : Vec F S512x1024 .bf16) : Vec F S512x1024 .bf16 := if k0_cond3 i = 1#1 then k0_pay4 X2 X3 else g
def accOf (i : grid0.Coords) (g : Vec F S512x1024 .bf16) (f : Vec F S512x1024 .f32) : Vec F S512x1024 .f32 :=
  k0_pay1 (k0_pay6 (rowsOf' X2 X3 i g) X4) (k0_pay7 (rowsOf' X2 X3 i g) X5) (k0_pay10 (rowsOf' X2 X3 i g) X4) (if k0_cond3 i = 1#1 then k0_pay5 else f) X6

theorem zero2 : (![0, 0] : Fin 2 → ℕ) = fun _ => 0 := by funext a; fin_cases a <;> rfl
theorem zero3 : (![0, 0, 0] : Fin 3 → ℕ) = fun _ => 0 := by funext a; fin_cases a <;> rfl

set_option maxHeartbeats 4000000 in
theorem sound_body (X14 : Vec F S512x1024 .f32) (X15 : Vec F S512x1024 .bf16) (X16 X17 : Vec F S1x512x704 .bf16) (g : Vec F S512x1024 .bf16) (f : Vec F S512x1024 .f32) :
    iprop((if k0_cond1 i = 1#1 then before m c else flying m c) ∗ held c a2 a3 a4 a5 a6 a14 a15 a16 a17 X2 X3 X4 X5 X6 X14 X15 X16 X17 g f)
      ⊢ wp frame (wpE (defs₀ (F := F)) 𝒱₀ c none) Set.univ
          (cc0_ffn1_fwd i a2 h2 a3 h3 a4 h4 a5 h5 a6 h6 (Memref.whole main_arg5) (Memref.isWhole_whole _) (Memref.whole main_arg6) (Memref.isWhole_whole _) (Memref.whole main_arg7) (Memref.isWhole_whole _) (Memref.whole main_arg8) (Memref.isWhole_whole _) (Memref.whole main_arg9) (Memref.isWhole_whole _) (Memref.whole main_arg10) (Memref.isWhole_whole _) (Memref.whole main_arg11) (Memref.isWhole_whole _)
            a14 h14 a15 h15 a16 h16 a17 h17 (Memref.whole main_v1_4) (Memref.isWhole_whole _) (Memref.whole main_v1_5) (Memref.isWhole_whole _) (Memref.whole main_v1_6) (Memref.isWhole_whole _) (Memref.whole main_v1_7) (Memref.isWhole_whole _) (Memref.whole main_v1_8) (Memref.isWhole_whole _) (Memref.whole main_v1_9) (Memref.isWhole_whole _) (Memref.whole main_v1_10) (Memref.isWhole_whole _) (Memref.whole cc0_scratch0) (Memref.isWhole_whole _) (Memref.whole cc0_scratch1) (Memref.isWhole_whole _) cc0_scratch2 cc0_scratch3 cc0_scratch4 cc0_scratch5)
          (fun _ => iprop((if k0_cond2 i = 1#1 then arrived m c else flying m c)
            ∗ held c a2 a3 a4 a5 a6 a14 a15 a16 a17 X2 X3 X4 X5 X6
                (if k0_cond4 i = 1#1 then k0_pay2 X2 (accOf X2 X3 X4 X5 X6 i g f) else X14)
                (if k0_cond3 i = 1#1 then k0_pay3 X2 X3 else X15)
                (k0_pay8 (rowsOf' X2 X3 i g) X4) (k0_pay9 (rowsOf' X2 X3 i g) X5)
                (rowsOf' X2 X3 i g) (accOf X2 X3 X4 X5 X6 i g f))) := by
  simp only [cc0_ffn1_fwd_eq_skeleton]; unfold cc0_ffn1_fwd_skel
  simp only [k0_part35_eq_skeleton]; unfold k0_part35_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel
  simp only [Prog.lift, Prog.bind_op, Prog.bind_ret, Prog.pure_eq_ret, guard_bind]
  -- the copies start
  refine wp_guard 𝒱₀ (c : Thread nD τ) none Set.univ (iprop(flying m c ∗ held c a2 a3 a4 a5 a6 a14 a15 a16 a17 X2 X3 X4 X5 X6 X14 X15 X16 X17 g f))
    ?_ ?_ (fun hc hk => ?_)
  · intro h; rw [if_neg h]
  rotate_left
  · rw [wp_deviceId, if_pos hc]
    unfold before flying at *
    rw [← left_zero]
    iintro ⟨H, HB⟩
    iapply (wp_copy m (n := 0) (0, 3) rfl (dev_eq (k0_dev1_eq c)) rfl rfl) $$ H
    iintro H
    iapply (wp_copy m (n := 1) (1, 3) rfl (dev_eq (k0_dev2_eq c)) rfl rfl) $$ H
    iintro H
    iapply (wp_copy m (n := 2) (2, 3) rfl (dev_eq (k0_dev3_eq c)) rfl rfl) $$ H
    iintro H
    iapply (wp_copy m (n := 3) (3, 3) rfl (dev_eq (k0_dev4_eq c)) rfl rfl) $$ H
    iintro H
    iapply (wp_copy m (n := 4) (4, 3) rfl (dev_eq (k0_dev5_eq c)) rfl rfl) $$ H
    iintro H
    iapply (wp_copy m (n := 5) (5, 3) rfl (dev_eq (k0_dev6_eq c)) rfl rfl) $$ H
    iintro H
    iapply (wp_copy m (n := 6) (6, 3) rfl (dev_eq (k0_dev7_eq c)) rfl rfl) $$ H
    iintro H
    iapply (wp_copy m (n := 7) (0, 0) rfl (dev_eq (k0_dev8_eq c)) rfl rfl) $$ H
    iintro H
    iapply (wp_copy m (n := 8) (0, 1) rfl (dev_eq (k0_dev9_eq c)) rfl rfl) $$ H
    iintro H
    iapply (wp_copy m (n := 9) (0, 2) rfl (dev_eq (k0_dev10_eq c)) rfl rfl) $$ H
    iintro H
    iapply (wp_copy m (n := 10) (1, 0) rfl (dev_eq (k0_dev11_eq c)) rfl rfl) $$ H
    iintro H
    iapply (wp_copy m (n := 11) (1, 1) rfl (dev_eq (k0_dev12_eq c)) rfl rfl) $$ H
    iintro H
    iapply (wp_copy m (n := 12) (1, 2) rfl (dev_eq (k0_dev13_eq c)) rfl rfl) $$ H
    iintro H
    iapply (wp_copy m (n := 13) (2, 0) rfl (dev_eq (k0_dev14_eq c)) rfl rfl) $$ H
    iintro H
    iapply (wp_copy m (n := 14) (2, 1) rfl (dev_eq (k0_dev15_eq c)) rfl rfl) $$ H
    iintro H
    iapply (wp_copy m (n := 15) (2, 2) rfl (dev_eq (k0_dev16_eq c)) rfl rfl) $$ H
    iintro H
    iapply (wp_copy m (n := 16) (3, 0) rfl (dev_eq (k0_dev17_eq c)) rfl rfl) $$ H
    iintro H
    iapply (wp_copy m (n := 17) (3, 1) rfl (dev_eq (k0_dev18_eq c)) rfl rfl) $$ H
    iintro H
    iapply (wp_copy m (n := 18) (3, 2) rfl (dev_eq (k0_dev19_eq c)) rfl rfl) $$ H
    iintro H
    iapply (wp_copy m (n := 19) (4, 0) rfl (dev_eq (k0_dev20_eq c)) rfl rfl) $$ H
    iintro H
    iapply (wp_copy m (n := 20) (4, 1) rfl (dev_eq (k0_dev21_eq c)) rfl rfl) $$ H
    iintro H
    iapply (wp_copy m (n := 21) (4, 2) rfl (dev_eq (k0_dev22_eq c)) rfl rfl) $$ H
    iintro H
    iapply (wp_copy m (n := 22) (5, 0) rfl (dev_eq (k0_dev23_eq c)) rfl rfl) $$ H
    iintro H
    iapply (wp_copy m (n := 23) (5, 1) rfl (dev_eq (k0_dev24_eq c)) rfl rfl) $$ H
    iintro H
    iapply (wp_copy m (n := 24) (5, 2) rfl (dev_eq (k0_dev25_eq c)) rfl rfl) $$ H
    iintro H
    iapply (wp_copy m (n := 25) (6, 0) rfl (dev_eq (k0_dev26_eq c)) rfl rfl) $$ H
    iintro H
    iapply (wp_copy m (n := 26) (6, 1) rfl (dev_eq (k0_dev27_eq c)) rfl rfl) $$ H
    iintro H
    iapply (wp_copy m (n := 27) (6, 2) rfl (dev_eq (k0_dev28_eq c)) rfl rfl) $$ H
    iintro H
    rw [left_end _ rfl, table.dues_empty]
    icases H with ⟨HS, HO⟩
    ihave HS := (waiting_of_sent table (goods m) ER c) $$ HS
    iapply hk
    isplitl [HS HO]
    · isplitl [HS] <;> iassumption
    iexact HB
  -- the copies are waited for
  refine wp_guard 𝒱₀ (c : Thread nD τ) none Set.univ (iprop((if k0_cond2 i = 1#1 then arrived m c else flying m c)
    ∗ held c a2 a3 a4 a5 a6 a14 a15 a16 a17 X2 X3 X4 X5 X6 X14 X15 X16 X17 g f)) ?_ ?_ (fun hc hk => ?_)
  · intro h; rw [if_neg h]
  rotate_left
  · rw [wp_deviceId]
    simp only [if_pos hc] at hk ⊢
    unfold arrived at hk ⊢
    unfold flying
    rw [← open_zero]
    iintro ⟨H, HB⟩
    iapply (wp_next table (goods m) ER (c := c) (n := 0) (.inl (0, 3)) rfl (wpE_waitDma2_eq 𝒱₀ (c : Thread nD τ) none Set.univ) rfl rfl) $$ H
    iintro H
    iapply (wp_next table (goods m) ER (c := c) (n := 1) (.inr (0, 3)) rfl (wpE_waitDma2_eq 𝒱₀ (c : Thread nD τ) none Set.univ) rfl rfl) $$ H
    iintro H
    iapply (wp_next table (goods m) ER (c := c) (n := 2) (.inl (1, 3)) rfl (wpE_waitDma2_eq 𝒱₀ (c : Thread nD τ) none Set.univ) rfl rfl) $$ H
    iintro H
    iapply (wp_next table (goods m) ER (c := c) (n := 3) (.inr (1, 3)) rfl (wpE_waitDma2_eq 𝒱₀ (c : Thread nD τ) none Set.univ) rfl rfl) $$ H
    iintro H
    iapply (wp_next table (goods m) ER (c := c) (n := 4) (.inl (2, 3)) rfl (wpE_waitDma2_eq 𝒱₀ (c : Thread nD τ) none Set.univ) rfl rfl) $$ H
    iintro H
    iapply (wp_next table (goods m) ER (c := c) (n := 5) (.inr (2, 3)) rfl (wpE_waitDma2_eq 𝒱₀ (c : Thread nD τ) none Set.univ) rfl rfl) $$ H
    iintro H
    iapply (wp_next table (goods m) ER (c := c) (n := 6) (.inl (3, 3)) rfl (wpE_waitDma2_eq 𝒱₀ (c : Thread nD τ) none Set.univ) rfl rfl) $$ H
    iintro H
    iapply (wp_next table (goods m) ER (c := c) (n := 7) (.inr (3, 3)) rfl (wpE_waitDma2_eq 𝒱₀ (c : Thread nD τ) none Set.univ) rfl rfl) $$ H
    iintro H
    iapply (wp_next table (goods m) ER (c := c) (n := 8) (.inl (4, 3)) rfl (wpE_waitDma2_eq 𝒱₀ (c : Thread nD τ) none Set.univ) rfl rfl) $$ H
    iintro H
    iapply (wp_next table (goods m) ER (c := c) (n := 9) (.inr (4, 3)) rfl (wpE_waitDma2_eq 𝒱₀ (c : Thread nD τ) none Set.univ) rfl rfl) $$ H
    iintro H
    iapply (wp_next table (goods m) ER (c := c) (n := 10) (.inl (5, 3)) rfl (wpE_waitDma2_eq 𝒱₀ (c : Thread nD τ) none Set.univ) rfl rfl) $$ H
    iintro H
    iapply (wp_next table (goods m) ER (c := c) (n := 11) (.inr (5, 3)) rfl (wpE_waitDma2_eq 𝒱₀ (c : Thread nD τ) none Set.univ) rfl rfl) $$ H
    iintro H
    iapply (wp_next table (goods m) ER (c := c) (n := 12) (.inl (6, 3)) rfl (wpE_waitDma2_eq 𝒱₀ (c : Thread nD τ) none Set.univ) rfl rfl) $$ H
    iintro H
    iapply (wp_next table (goods m) ER (c := c) (n := 13) (.inr (6, 3)) rfl (wpE_waitDma2_eq 𝒱₀ (c : Thread nD τ) none Set.univ) rfl rfl) $$ H
    iintro H
    iapply (wp_next table (goods m) ER (c := c) (n := 14) (.inl (0, 0)) rfl (wpE_waitDma2_eq 𝒱₀ (c : Thread nD τ) none Set.univ) rfl rfl) $$ H
    iintro H
    iapply (wp_next table (goods m) ER (c := c) (n := 15) (.inr (0, 0)) rfl (wpE_waitDma2_eq 𝒱₀ (c : Thread nD τ) none Set.univ) rfl rfl) $$ H
    iintro H
    iapply (wp_next table (goods m) ER (c := c) (n := 16) (.inl (0, 1)) rfl (wpE_waitDma2_eq 𝒱₀ (c : Thread nD τ) none Set.univ) rfl rfl) $$ H
    iintro H
    iapply (wp_next table (goods m) ER (c := c) (n := 17) (.inr (0, 1)) rfl (wpE_waitDma2_eq 𝒱₀ (c : Thread nD τ) none Set.univ) rfl rfl) $$ H
    iintro H
    iapply (wp_next table (goods m) ER (c := c) (n := 18) (.inl (0, 2)) rfl (wpE_waitDma2_eq 𝒱₀ (c : Thread nD τ) none Set.univ) rfl rfl) $$ H
    iintro H
    iapply (wp_next table (goods m) ER (c := c) (n := 19) (.inr (0, 2)) rfl (wpE_waitDma2_eq 𝒱₀ (c : Thread nD τ) none Set.univ) rfl rfl) $$ H
    iintro H
    iapply (wp_next table (goods m) ER (c := c) (n := 20) (.inl (1, 0)) rfl (wpE_waitDma2_eq 𝒱₀ (c : Thread nD τ) none Set.univ) rfl rfl) $$ H
    iintro H
    iapply (wp_next table (goods m) ER (c := c) (n := 21) (.inr (1, 0)) rfl (wpE_waitDma2_eq 𝒱₀ (c : Thread nD τ) none Set.univ) rfl rfl) $$ H
    iintro H
    iapply (wp_next table (goods m) ER (c := c) (n := 22) (.inl (1, 1)) rfl (wpE_waitDma2_eq 𝒱₀ (c : Thread nD τ) none Set.univ) rfl rfl) $$ H
    iintro H
    iapply (wp_next table (goods m) ER (c := c) (n := 23) (.inr (1, 1)) rfl (wpE_waitDma2_eq 𝒱₀ (c : Thread nD τ) none Set.univ) rfl rfl) $$ H
    iintro H
    iapply (wp_next table (goods m) ER (c := c) (n := 24) (.inl (1, 2)) rfl (wpE_waitDma2_eq 𝒱₀ (c : Thread nD τ) none Set.univ) rfl rfl) $$ H
    iintro H
    iapply (wp_next table (goods m) ER (c := c) (n := 25) (.inr (1, 2)) rfl (wpE_waitDma2_eq 𝒱₀ (c : Thread nD τ) none Set.univ) rfl rfl) $$ H
    iintro H
    iapply (wp_next table (goods m) ER (c := c) (n := 26) (.inl (2, 0)) rfl (wpE_waitDma2_eq 𝒱₀ (c : Thread nD τ) none Set.univ) rfl rfl) $$ H
    iintro H
    iapply (wp_next table (goods m) ER (c := c) (n := 27) (.inr (2, 0)) rfl (wpE_waitDma2_eq 𝒱₀ (c : Thread nD τ) none Set.univ) rfl rfl) $$ H
    iintro H
    iapply (wp_next table (goods m) ER (c := c) (n := 28) (.inl (2, 1)) rfl (wpE_waitDma2_eq 𝒱₀ (c : Thread nD τ) none Set.univ) rfl rfl) $$ H
    iintro H
    iapply (wp_next table (goods m) ER (c := c) (n := 29) (.inr (2, 1)) rfl (wpE_waitDma2_eq 𝒱₀ (c : Thread nD τ) none Set.univ) rfl rfl) $$ H
    iintro H
    iapply (wp_next table (goods m) ER (c := c) (n := 30) (.inl (2, 2)) rfl (wpE_waitDma2_eq 𝒱₀ (c : Thread nD τ) none Set.univ) rfl rfl) $$ H
    iintro H
    iapply (wp_next table (goods m) ER (c := c) (n := 31) (.inr (2, 2)) rfl (wpE_waitDma2_eq 𝒱₀ (c : Thread nD τ) none Set.univ) rfl rfl) $$ H
    iintro H
    iapply (wp_next table (goods m) ER (c := c) (n := 32) (.inl (3, 0)) rfl (wpE_waitDma2_eq 𝒱₀ (c : Thread nD τ) none Set.univ) rfl rfl) $$ H
    iintro H
    iapply (wp_next table (goods m) ER (c := c) (n := 33) (.inr (3, 0)) rfl (wpE_waitDma2_eq 𝒱₀ (c : Thread nD τ) none Set.univ) rfl rfl) $$ H
    iintro H
    iapply (wp_next table (goods m) ER (c := c) (n := 34) (.inl (3, 1)) rfl (wpE_waitDma2_eq 𝒱₀ (c : Thread nD τ) none Set.univ) rfl rfl) $$ H
    iintro H
    iapply (wp_next table (goods m) ER (c := c) (n := 35) (.inr (3, 1)) rfl (wpE_waitDma2_eq 𝒱₀ (c : Thread nD τ) none Set.univ) rfl rfl) $$ H
    iintro H
    iapply (wp_next table (goods m) ER (c := c) (n := 36) (.inl (3, 2)) rfl (wpE_waitDma2_eq 𝒱₀ (c : Thread nD τ) none Set.univ) rfl rfl) $$ H
    iintro H
    iapply (wp_next table (goods m) ER (c := c) (n := 37) (.inr (3, 2)) rfl (wpE_waitDma2_eq 𝒱₀ (c : Thread nD τ) none Set.univ) rfl rfl) $$ H
    iintro H
    iapply (wp_next table (goods m) ER (c := c) (n := 38) (.inl (4, 0)) rfl (wpE_waitDma2_eq 𝒱₀ (c : Thread nD τ) none Set.univ) rfl rfl) $$ H
    iintro H
    iapply (wp_next table (goods m) ER (c := c) (n := 39) (.inr (4, 0)) rfl (wpE_waitDma2_eq 𝒱₀ (c : Thread nD τ) none Set.univ) rfl rfl) $$ H
    iintro H
    iapply (wp_next table (goods m) ER (c := c) (n := 40) (.inl (4, 1)) rfl (wpE_waitDma2_eq 𝒱₀ (c : Thread nD τ) none Set.univ) rfl rfl) $$ H
    iintro H
    iapply (wp_next table (goods m) ER (c := c) (n := 41) (.inr (4, 1)) rfl (wpE_waitDma2_eq 𝒱₀ (c : Thread nD τ) none Set.univ) rfl rfl) $$ H
    iintro H
    iapply (wp_next table (goods m) ER (c := c) (n := 42) (.inl (4, 2)) rfl (wpE_waitDma2_eq 𝒱₀ (c : Thread nD τ) none Set.univ) rfl rfl) $$ H
    iintro H
    iapply (wp_next table (goods m) ER (c := c) (n := 43) (.inr (4, 2)) rfl (wpE_waitDma2_eq 𝒱₀ (c : Thread nD τ) none Set.univ) rfl rfl) $$ H
    iintro H
    iapply (wp_next table (goods m) ER (c := c) (n := 44) (.inl (5, 0)) rfl (wpE_waitDma2_eq 𝒱₀ (c : Thread nD τ) none Set.univ) rfl rfl) $$ H
    iintro H
    iapply (wp_next table (goods m) ER (c := c) (n := 45) (.inr (5, 0)) rfl (wpE_waitDma2_eq 𝒱₀ (c : Thread nD τ) none Set.univ) rfl rfl) $$ H
    iintro H
    iapply (wp_next table (goods m) ER (c := c) (n := 46) (.inl (5, 1)) rfl (wpE_waitDma2_eq 𝒱₀ (c : Thread nD τ) none Set.univ) rfl rfl) $$ H
    iintro H
    iapply (wp_next table (goods m) ER (c := c) (n := 47) (.inr (5, 1)) rfl (wpE_waitDma2_eq 𝒱₀ (c : Thread nD τ) none Set.univ) rfl rfl) $$ H
    iintro H
    iapply (wp_next table (goods m) ER (c := c) (n := 48) (.inl (5, 2)) rfl (wpE_waitDma2_eq 𝒱₀ (c : Thread nD τ) none Set.univ) rfl rfl) $$ H
    iintro H
    iapply (wp_next table (goods m) ER (c := c) (n := 49) (.inr (5, 2)) rfl (wpE_waitDma2_eq 𝒱₀ (c : Thread nD τ) none Set.univ) rfl rfl) $$ H
    iintro H
    iapply (wp_next table (goods m) ER (c := c) (n := 50) (.inl (6, 0)) rfl (wpE_waitDma2_eq 𝒱₀ (c : Thread nD τ) none Set.univ) rfl rfl) $$ H
    iintro H
    iapply (wp_next table (goods m) ER (c := c) (n := 51) (.inr (6, 0)) rfl (wpE_waitDma2_eq 𝒱₀ (c : Thread nD τ) none Set.univ) rfl rfl) $$ H
    iintro H
    iapply (wp_next table (goods m) ER (c := c) (n := 52) (.inl (6, 1)) rfl (wpE_waitDma2_eq 𝒱₀ (c : Thread nD τ) none Set.univ) rfl rfl) $$ H
    iintro H
    iapply (wp_next table (goods m) ER (c := c) (n := 53) (.inr (6, 1)) rfl (wpE_waitDma2_eq 𝒱₀ (c : Thread nD τ) none Set.univ) rfl rfl) $$ H
    iintro H
    iapply (wp_next table (goods m) ER (c := c) (n := 54) (.inl (6, 2)) rfl (wpE_waitDma2_eq 𝒱₀ (c : Thread nD τ) none Set.univ) rfl rfl) $$ H
    iintro H
    iapply (wp_next table (goods m) ER (c := c) (n := 55) (.inr (6, 2)) rfl (wpE_waitDma2_eq 𝒱₀ (c : Thread nD τ) none Set.univ) rfl rfl) $$ H
    iintro H
    rw [open_end _ rfl]
    iapply hk
    isplitl [H] <;> iassumption
  generalize (if k0_cond2 i = 1#1 then arrived m c else flying m c) = HX
  -- the rows of a tile are normalised, and the running sum starts at zero
  refine wp_guard 𝒱₀ (c : Thread nD τ) none Set.univ (iprop(HX ∗ held c a2 a3 a4 a5 a6 a14 a15 a16 a17 X2 X3 X4 X5 X6 X14 (if k0_cond3 i = 1#1 then k0_pay3 X2 X3 else X15) X16 X17
      (rowsOf' X2 X3 i g) (if k0_cond3 i = 1#1 then k0_pay5 else f)))
    ?_ ?_ (fun hc hk => ?_)
  · intro h; unfold rowsOf'; rw [if_neg h, if_neg h, if_neg h]
  rotate_left
  · unfold accOf rowsOf' at *
    simp only [if_pos hc] at hk ⊢
    unfold held at *
    iintro ⟨HE, B2, B3, B4, B5, B6, B14, B15, B16, B17, BG, BS⟩
    iapply (wp_load_owns 𝒱₀ (c : Thread nD τ) none Set.univ zero2) $$ B2
    iintro B2
    iapply (wp_load_owns 𝒱₀ (c : Thread nD τ) none Set.univ zero2) $$ B3
    iintro B3
    iapply (wp_load_owns 𝒱₀ (c : Thread nD τ) none Set.univ zero2) $$ BG
    iintro BG
    iapply (wp_store_owns 𝒱₀ (c : Thread nD τ) none Set.univ zero2) $$ BG
    iintro BG
    iapply (wp_load_owns 𝒱₀ (c : Thread nD τ) none Set.univ zero2) $$ B15
    iintro B15
    iapply (wp_store_owns 𝒱₀ (c : Thread nD τ) none Set.univ zero2) $$ B15
    iintro B15
    iapply (wp_load_owns 𝒱₀ (c : Thread nD τ) none Set.univ zero2) $$ BS
    iintro BS
    iapply (wp_store_owns 𝒱₀ (c : Thread nD τ) none Set.univ zero2) $$ BS
    iintro BS
    iapply hk
    iframe
  unfold accOf
  generalize (if k0_cond3 i = 1#1 then k0_pay3 X2 X3 else X15) = Y15
  generalize (if k0_cond3 i = 1#1 then k0_pay5 else f) = f'
  generalize rowsOf' X2 X3 i g = g'
  -- the part of a slab
  unfold held
  iintro ⟨HE, B2, B3, B4, B5, B6, B14, B15, B16, B17, BG, BS⟩
  iapply (wp_load_owns 𝒱₀ (c : Thread nD τ) none Set.univ zero2) $$ BG
  iintro BG
  iapply (wp_load_owns 𝒱₀ (c : Thread nD τ) none Set.univ zero3) $$ B4
  iintro B4
  iapply (wp_load_owns 𝒱₀ (c : Thread nD τ) none Set.univ zero3) $$ B5
  iintro B5
  iapply (wp_load_owns 𝒱₀ (c : Thread nD τ) none Set.univ zero3) $$ B16
  iintro B16
  iapply (wp_store_owns 𝒱₀ (c : Thread nD τ) none Set.univ zero3) $$ B16
  iintro B16
  iapply (wp_load_owns 𝒱₀ (c : Thread nD τ) none Set.univ zero3) $$ B17
  iintro B17
  iapply (wp_store_owns 𝒱₀ (c : Thread nD τ) none Set.univ zero3) $$ B17
  iintro B17
  iapply (wp_load_owns 𝒱₀ (c : Thread nD τ) none Set.univ zero2) $$ BS
  iintro BS
  iapply (wp_load_owns 𝒱₀ (c : Thread nD τ) none Set.univ zero3) $$ B6
  iintro B6
  iapply (wp_load_owns 𝒱₀ (c : Thread nD τ) none Set.univ zero2) $$ BS
  iintro BS
  iapply (wp_store_owns 𝒱₀ (c : Thread nD τ) none Set.univ zero2) $$ BS
  iintro BS
  -- the rows of the tile are finished
  by_cases hc : k0_cond4 i = 1#1
  · rw [dif_pos hc, if_pos hc]
    iapply (wp_load_owns 𝒱₀ (c : Thread nD τ) none Set.univ zero2) $$ B2
    iintro B2
    iapply (wp_load_owns 𝒱₀ (c : Thread nD τ) none Set.univ zero2) $$ BS
    iintro BS
    iapply (wp_load_owns 𝒱₀ (c : Thread nD τ) none Set.univ zero2) $$ B14
    iintro B14
    iapply (wp_store_owns 𝒱₀ (c : Thread nD τ) none Set.univ zero2) $$ B14
    iintro B14
    rw [wp_ret]; imodintro
    iframe
  · rw [dif_neg hc, if_neg hc]
    rw [wp_ret]; imodintro
    iframe

end body

/-! ## The pipeline's data -/

theorem N_eq : cfg0.N = 64 := N_0

/-- Grid point number `n`. -/
def pt (n : ℕ) : Fin cfg0.N := ⟨n % 64, by rw [N_eq]; omega⟩
theorem pt_val (t : Fin cfg0.N) : pt t.val = t := Fin.ext (Nat.mod_eq_of_lt (N_eq ▸ t.isLt))

abbrev x0 (c : Dev nD) (t : Fin cfg0.N) : Vec F S512x1024 .f32 := iblk m c 0 t
abbrev x1 (c : Dev nD) (t : Fin cfg0.N) : Vec F S1x1024 .f32 := iblk m c 1 t
abbrev x2 (c : Dev nD) (t : Fin cfg0.N) : Vec F S1x1024x704 .bf16 := iblk m c 2 t
abbrev x3 (c : Dev nD) (t : Fin cfg0.N) : Vec F S1x1024x704 .bf16 := iblk m c 3 t
abbrev x4 (c : Dev nD) (t : Fin cfg0.N) : Vec F S1x704x1024 .bf16 := iblk m c 4 t

/-- The normalised rows of tile `n`, as they are written and as the scratch array holds them. -/
def normed (c : Dev nD) (n : ℕ) : Vec F S512x1024 .bf16 := k0_pay3 (x0 m c (pt (4 * n))) (x1 m c (pt (4 * n)))
def stored (c : Dev nD) (n : ℕ) : Vec F S512x1024 .bf16 := k0_pay4 (x0 m c (pt (4 * n))) (x1 m c (pt (4 * n)))

/-- The parts of the third and fourth results that point `t` gives. -/
def part0 (c : Dev nD) (t : Fin cfg0.N) : Vec F S1x512x704 .bf16 := k0_pay8 (stored m c (t.val / 4)) (x2 m c t)
def part1 (c : Dev nD) (t : Fin cfg0.N) : Vec F S1x512x704 .bf16 := k0_pay9 (stored m c (t.val / 4)) (x3 m c t)

/-- The running sum `f` with the part of point `t` added. -/
def add (c : Dev nD) (t : Fin cfg0.N) (f : Vec F S512x1024 .f32) : Vec F S512x1024 .f32 :=
  k0_pay1 (k0_pay6 (stored m c (t.val / 4)) (x2 m c t)) (k0_pay7 (stored m c (t.val / 4)) (x3 m c t)) (k0_pay10 (stored m c (t.val / 4)) (x2 m c t)) f (x4 m c t)
/-- The running sum after point `n`. -/
def acc (c : Dev nD) : ℕ → Vec F S512x1024 .f32
  | 0 => add m c (pt 0) k0_pay5
  | n + 1 => add m c (pt (n + 1)) (if (n + 1) % 4 = 0 then k0_pay5 else acc c n)

/-- The rows finished at point `t`, if it is the last of its row tile. -/
def rows (c : Dev nD) (t : Fin cfg0.N) : Vec F S512x1024 .f32 := k0_pay2 (x0 m c t) (acc m c t.val)

/-- The scratch arrays after point `n`. -/
def scratch (c : Dev nD) (n : ℕ) : sProp 𝕄 :=
  iprop(owns (c : Thread nD τ) (Memref.whole cc0_scratch0) fullShare (stored m c (n / 4)) ∗ owns (c : Thread nD τ) (Memref.whole cc0_scratch1) fullShare (acc m c n))

def dats (_ : Fin 1) (c : Dev nD) : Dat τ (Elt F) Unit ℕ UU ℕ cfg0 c where
  A w := m ((c : Thread nD τ).loc (Pipeline.arrRef spec0 w))
  after w t := match w with
    | 0 => iblk m c 0 t
    | 1 => iblk m c 1 t
    | 2 => iblk m c 2 t
    | 3 => iblk m c 3 t
    | 4 => iblk m c 4 t
    | 5 => rows m c t
    | 6 => normed m c (t.val / 4)
    | 7 => part0 m c t
    | 8 => part1 m c t
  Φ t := if t.val = 0 then iprop(Sending table (goods m) ER c Finset.univ ∗ (∃ g, owns (c : Thread nD τ) (Memref.whole cc0_scratch0) fullShare g)
      ∗ ∃ f, owns (c : Thread nD τ) (Memref.whole cc0_scratch1) fullShare f)
    else iprop(Waiting table (goods m) ER c (if t.val = 64 then ∅ else Finset.univ) ∗ scratch m c (t.val - 1))
  q _ := fullShare
  owed t := if t.val = 0 then table.dues c Finset.univ else 0

theorem cond1_iff : ∀ t : Fin cfg0.N, k0_cond1 (grid0.coords t) = 1#1 ↔ t.val = 0 := by decide +kernel
theorem cond2_iff : ∀ t : Fin cfg0.N, k0_cond2 (grid0.coords t) = 1#1 ↔ t.val = 63 := by decide +kernel
theorem cond3_iff : ∀ t : Fin cfg0.N, k0_cond3 (grid0.coords t) = 1#1 ↔ t.val % 4 = 0 := by decide +kernel
theorem cond4_iff : ∀ t : Fin cfg0.N, k0_cond4 (grid0.coords t) = 1#1 ↔ t.val % 4 = 3 := by decide +kernel
theorem idle5_iff : ∀ t : Fin cfg0.N, cfg0.idle 5 (grid0.coords t) = true ↔ t.val % 4 ≠ 3 := by decide +kernel
theorem idle6_iff : ∀ t : Fin cfg0.N, cfg0.idle 6 (grid0.coords t) = true ↔ t.val % 4 ≠ 0 := by decide +kernel
theorem fresh6 : ∀ t : Fin cfg0.N, cfg0.fresh 6 t.val = true → t.val % 4 = 0 := by decide +kernel

theorem tile_first (t : Fin cfg0.N) (h : t.val % 4 = 0) : pt (4 * (t.val / 4)) = t := by
  rw [show 4 * (t.val / 4) = t.val by omega, pt_val]

theorem stored_step (c : Dev nD) (t : Fin cfg0.N) (g : Vec F S512x1024 .bf16) (h : t.val ≠ 0 → g = stored m c ((t.val - 1) / 4)) :
    rowsOf' (x0 m c t) (x1 m c t) (grid0.coords t) g = stored m c (t.val / 4) := by
  unfold rowsOf'
  by_cases h0 : t.val % 4 = 0
  · rw [if_pos ((cond3_iff t).2 h0)]
    unfold stored
    rw [tile_first t h0]
  · rw [if_neg (fun hc => h0 ((cond3_iff t).1 hc)), h (by omega), show (t.val - 1) / 4 = t.val / 4 by omega]

theorem acc_step (c : Dev nD) (t : Fin cfg0.N) (g : Vec F S512x1024 .bf16) (f : Vec F S512x1024 .f32)
    (hg : t.val ≠ 0 → g = stored m c ((t.val - 1) / 4)) (hf : t.val ≠ 0 → f = acc m c (t.val - 1)) :
    accOf (x0 m c t) (x1 m c t) (x2 m c t) (x3 m c t) (x4 m c t) (grid0.coords t) g f = acc m c t.val := by
  unfold accOf
  rw [stored_step m c t g hg]
  show add m c t _ = _
  obtain ⟨n, hn⟩ := t
  cases n with
  | zero =>
    have hp : pt 0 = ⟨0, hn⟩ := pt_val ⟨0, hn⟩
    show _ = add m c (pt 0) k0_pay5
    rw [hp, if_pos ((cond3_iff ⟨0, hn⟩).2 rfl)]
  | succ n =>
    have hp : pt (n + 1) = ⟨n + 1, hn⟩ := pt_val ⟨n + 1, hn⟩
    show _ = add m c (pt (n + 1)) (if (n + 1) % 4 = 0 then k0_pay5 else acc m c n)
    rw [hp, hf (Nat.succ_ne_zero n)]
    exact congrArg (add m c ⟨n + 1, hn⟩) (if_congr (cond3_iff ⟨n + 1, hn⟩) rfl rfl)

/-- An input's staged block is its array's block at every point. -/
theorem before_in (c : Dev nD) (t : Fin cfg0.N) :
    (∀ d, (dats m 0 c).before 0 t d = x0 m c t)
      ∧ (∀ d, (dats m 0 c).before 1 t d = x1 m c t)
      ∧ (∀ d, (dats m 0 c).before 2 t d = x2 m c t)
      ∧ (∀ d, (dats m 0 c).before 3 t d = x3 m c t)
      ∧ (∀ d, (dats m 0 c).before 4 t d = x4 m c t) :=
  ⟨fun d => (dats m 0 c).before_in_eq_fetched 0 rfl (fun _ => rfl) (fun _ _ _ => rfl) (fun _ => rfl) t d,
   fun d => (dats m 0 c).before_in_eq_fetched 1 rfl (fun _ => rfl) (fun _ _ _ => rfl) (fun _ => rfl) t d,
   fun d => (dats m 0 c).before_in_eq_fetched 2 rfl (fun _ => rfl) (fun _ _ _ => rfl) (fun _ => rfl) t d,
   fun d => (dats m 0 c).before_in_eq_fetched 3 rfl (fun _ => rfl) (fun _ _ _ => rfl) (fun _ => rfl) t d,
   fun d => (dats m 0 c).before_in_eq_fetched 4 rfl (fun _ => rfl) (fun _ _ _ => rfl) (fun _ => rfl) t d⟩

/-- After the first slab of a tile the second result's staged block holds the normalised rows. -/
theorem before_normed (c : Dev nD) (t : Fin cfg0.N) (ht : t.val % 4 ≠ 0) (d) : (dats m 0 c).before 6 t d = normed m c (t.val / 4) := by
  rw [(dats m 0 c).before_out_traj 6 rfl (fun _ _ => rfl) (fun t ht hi _ => ?_) t.val t rfl d, if_neg (fun h => ht (fresh6 t h))]
  · show normed m c ((t.val - 1) / 4) = _
    congr 1; omega
  · show normed m c (t.val / 4) = normed m c ((t.val - 1) / 4)
    have := (idle6_iff t).1 hi
    congr 1; omega

theorem owes_open (c : Dev nD) (t : Fin (cfg0.N + 1)) : (dats m 0 c).owesAt () t ⊢ owing c ((dats m 0 c).owed t) := by
  unfold Dat.owesAt Pipeline.owesWithin owing
  iintro ⟨%W, %hW, HO⟩
  iexists W; iexact HO

theorem owes_close (c : Dev nD) (t : Fin (cfg0.N + 1)) : owing c ((dats m 0 c).owed t) ⊢ (dats m 0 c).owesAt () t := by
  unfold Dat.owesAt Pipeline.owesWithin owing
  iintro ⟨%W, HO⟩
  iexists W
  isplitr; · ipureintro; exact fun _ _ => Or.inl trivial
  iexact HO

theorem inv_first (c : Dev nD) (t : Fin (cfg0.N + 1)) (h : t.val = 0) :
    (dats m 0 c).Φ t = iprop(Sending table (goods m) ER c Finset.univ ∗ (∃ g, owns (c : Thread nD τ) (Memref.whole cc0_scratch0) fullShare g)
      ∗ ∃ f, owns (c : Thread nD τ) (Memref.whole cc0_scratch1) fullShare f) := if_pos h
theorem inv_later (c : Dev nD) (t : Fin (cfg0.N + 1)) (h : t.val ≠ 0) :
    (dats m 0 c).Φ t = iprop(Waiting table (goods m) ER c (if t.val = 64 then ∅ else Finset.univ) ∗ scratch m c (t.val - 1)) := if_neg h
theorem owed_first (c : Dev nD) (t : Fin (cfg0.N + 1)) (h : t.val = 0) : (dats m 0 c).owed t = table.dues c Finset.univ := if_pos h
theorem owed_later (c : Dev nD) (t : Fin (cfg0.N + 1)) (h : t.val ≠ 0) : (dats m 0 c).owed t = 0 := if_neg h

/-- The exchange's state before a point, taken from the invariant. -/
theorem exchange_open (c : Dev nD) (t : Fin cfg0.N) :
    iprop((dats m 0 c).Φ t.castSucc ∗ (dats m 0 c).owesAt () t.castSucc)
      ⊢ iprop(∃ g f, ⌜(t.val ≠ 0 → g = stored m c ((t.val - 1) / 4)) ∧ (t.val ≠ 0 → f = acc m c (t.val - 1))⌝ ∗ (if k0_cond1 (grid0.coords t) = 1#1 then before m c else flying m c)
          ∗ owns (c : Thread nD τ) (Memref.whole cc0_scratch0) fullShare g ∗ owns (c : Thread nD τ) (Memref.whole cc0_scratch1) fullShare f) := by
  have hlt : t.val < 64 := N_eq ▸ t.isLt
  refine (sep_mono .rfl (owes_open m c _)).trans ?_
  by_cases h : t.val = 0
  · rw [inv_first m c t.castSucc h, owed_first m c t.castSucc h, if_pos ((cond1_iff t).2 h)]
    unfold before
    iintro ⟨⟨HS, ⟨%g, Hg⟩, ⟨%f, Hf⟩⟩, HO⟩
    iexists g, f
    isplitr; · ipureintro; exact ⟨fun h' => absurd h h', fun h' => absurd h h'⟩
    iframe
  · rw [inv_later m c t.castSucc h, owed_later m c t.castSucc h, if_neg (fun hc => h ((cond1_iff t).1 hc)), if_neg (show ¬ t.castSucc.val = 64 by show ¬ t.val = 64; omega)]
    unfold flying scratch
    iintro ⟨⟨HS, Hg, Hf⟩, HO⟩
    iexists _, _
    isplitr
    swap
    · iframe
    ipureintro; exact ⟨fun _ => rfl, fun _ => rfl⟩

/-- The exchange's state after a point, given to the invariant. -/
theorem exchange_close (c : Dev nD) (t : Fin cfg0.N) :
    iprop((if k0_cond2 (grid0.coords t) = 1#1 then arrived m c else flying m c) ∗ scratch m c t.val)
      ⊢ iprop((dats m 0 c).Φ t.succ ∗ (dats m 0 c).owesAt () t.succ) := by
  have hlt : t.val < 64 := N_eq ▸ t.isLt
  refine BIBase.Entails.trans ?_ (sep_mono (.rfl (P := (dats m 0 c).Φ t.succ)) (owes_close m c t.succ))
  rw [inv_later m c t.succ (Nat.succ_ne_zero _), owed_later m c t.succ (Nat.succ_ne_zero _)]
  show _ ⊢ iprop((Waiting table (goods m) ER c (if t.val + 1 = 64 then ∅ else Finset.univ) ∗ scratch m c t.val) ∗ _)
  by_cases h : t.val = 63
  · rw [if_pos ((cond2_iff t).2 h), if_pos (show t.val + 1 = 64 by omega)]
    unfold arrived
    iintro ⟨⟨HS, HO⟩, Hf⟩
    iframe
  · rw [if_neg (fun hc => h ((cond2_iff t).1 hc)), if_neg (show ¬ t.val + 1 = 64 by omega)]
    unfold flying
    iintro ⟨⟨HS, HO⟩, Hf⟩
    iframe

/-- What a point leaves in the second result's staged block. -/
theorem left_normed (c : Dev nD) (t : Fin cfg0.N) (d) :
    owns (c : Thread nD τ) (st0_6 t) fullShare (if k0_cond3 (grid0.coords t) = 1#1 then k0_pay3 (x0 m c t) (x1 m c t) else (dats m 0 c).before 6 t d)
      ⊢ (match cfg0.idle 6 (grid0.coords t) with
          | true => match (cfg0.win 6).flush t with
            | false => iprop(∃ d, owns (c : Thread nD τ) (st0_6 t) fullShare ((dats m 0 c).before 6 t d))
            | true => owns (c : Thread nD τ) (st0_6 t) fullShare ((dats m 0 c).after 6 t)
          | false => owns (c : Thread nD τ) (st0_6 t) fullShare ((dats m 0 c).after 6 t) : sProp 𝕄) := by
  by_cases h : t.val % 4 = 0
  · rw [if_pos ((cond3_iff t).2 h), show cfg0.idle 6 (grid0.coords t) = false from Bool.eq_false_iff.2 fun hi => (idle6_iff t).1 hi h]
    refine Entails.of_eq ?_
    show _ = owns (c : Thread nD τ) (st0_6 t) fullShare (normed m c (t.val / 4))
    unfold normed
    rw [tile_first t h]
  · rw [if_neg (fun hc => h ((cond3_iff t).1 hc)), (idle6_iff t).2 h]
    by_cases h3 : t.val % 4 = 3
    · rw [(flush0_6 t).2 h3, before_normed m c t h]
      exact .rfl
    · rw [show (cfg0.win 6).flush t = false from Bool.eq_false_iff.2 fun hi => h3 ((flush0_6 t).1 hi)]
      iintro H; iexists d; iexact H

/-- What a point leaves in the first result's staged block. -/
theorem left_rows (c : Dev nD) (t : Fin cfg0.N) (d) :
    owns (c : Thread nD τ) (st0_5 t) fullShare (if k0_cond4 (grid0.coords t) = 1#1 then rows m c t else (dats m 0 c).before 5 t d)
      ⊢ (match cfg0.idle 5 (grid0.coords t) with
          | true => match (cfg0.win 5).flush t with
            | false => iprop(∃ d, owns (c : Thread nD τ) (st0_5 t) fullShare ((dats m 0 c).before 5 t d))
            | true => owns (c : Thread nD τ) (st0_5 t) fullShare ((dats m 0 c).after 5 t)
          | false => owns (c : Thread nD τ) (st0_5 t) fullShare ((dats m 0 c).after 5 t) : sProp 𝕄) := by
  by_cases h : t.val % 4 = 3
  · rw [if_pos ((cond4_iff t).2 h), show cfg0.idle 5 (grid0.coords t) = false from Bool.eq_false_iff.2 fun hi => (idle5_iff t).1 hi h]
    exact .rfl
  · rw [if_neg (fun hc => h ((cond4_iff t).1 hc)), (idle5_iff t).2 h, show (cfg0.win 5).flush t = false from Bool.eq_false_iff.2 fun hi => h ((flush0_5 t).1 hi)]
    iintro H; iexists d; iexact H

set_option maxHeartbeats 1600000 in
theorem body_point (c : Dev nD) (t : Fin cfg0.N) (d5 d6 d7 d8) (g : Vec F S512x1024 .bf16) (f : Vec F S512x1024 .f32)
    (hg : t.val ≠ 0 → g = stored m c ((t.val - 1) / 4)) (hf : t.val ≠ 0 → f = acc m c (t.val - 1)) :
    iprop((if k0_cond1 (grid0.coords t) = 1#1 then before m c else flying m c)
        ∗ held c (st0_0 t) (st0_1 t) (st0_2 t) (st0_3 t) (st0_4 t) (st0_5 t) (st0_6 t) (st0_7 t) (st0_8 t) (x0 m c t) (x1 m c t) (x2 m c t) (x3 m c t) (x4 m c t)
            ((dats m 0 c).before 5 t d5) ((dats m 0 c).before 6 t d6) ((dats m 0 c).before 7 t d7) ((dats m 0 c).before 8 t d8) g f)
      ⊢ wp frame (wpE (defs₀ (F := F)) 𝒱₀ c none) Set.univ (bodyAt0 t) (fun _ => iprop((dats m 0 c).Φ t.succ ∗ (dats m 0 c).owesAt () t.succ
          ∗ bigSep Finset.univ fun w : Fin cfg0.W =>
              match cfg0.idle w (grid0.coords t) with
              | true => match (cfg0.win w).flush t with
                | false => iprop(∃ d, owns c ((cfg0.win w).stage (cfg0.slots t w)) fullShare ((dats m 0 c).before w t d))
                | true => owns c ((cfg0.win w).stage (cfg0.slots t w)) fullShare ((dats m 0 c).after w t)
              | false => owns c ((cfg0.win w).stage (cfg0.slots t w)) fullShare ((dats m 0 c).after w t))) := by
  refine (sound_body m c (grid0.coords t) (st0_0 t) _ (st0_1 t) _ (st0_2 t) _ (st0_3 t) _ (st0_4 t) _ (st0_5 t) _ (st0_6 t) _ (st0_7 t) _ (st0_8 t) _ _ _ _ _ _ _ _ _ _ _ _).trans
    (wp_mono frame _ _ fun _ => ?_)
  rw [acc_step m c t g f hg hf, stored_step m c t g hg, bigSep_W0]
  unfold held
  iintro ⟨HX, B0, B1, B2, B3, B4, B5, B6, B7, B8, BG, BS⟩
  ihave H := (exchange_close m c t) $$ [HX BG BS]
  · unfold scratch
    isplitl [HX]; · iexact HX
    isplitl [BG] <;> iassumption
  icases H with ⟨HΦ, HO⟩
  isplitl [HΦ]; · iexact HΦ
  isplitl [HO]; · iexact HO
  isplitl [B0]; · iexact B0
  isplitl [B1]; · iexact B1
  isplitl [B2]; · iexact B2
  isplitl [B3]; · iexact B3
  isplitl [B4]; · iexact B4
  isplitl [B5]
  · iapply (left_rows m c t d5); iexact B5
  isplitl [B6]
  · iapply (left_normed m c t d6); iexact B6
  isplitl [B7]; · iexact B7
  iexact B8

set_option maxHeartbeats 1600000 in
theorem body_obligation (c : Dev nD) : BodyObligation (dats (F := F) m 0 c) (defs₀ (F := F)) 𝒱₀ () Set.univ := fun t => by
  obtain ⟨b0, b1, b2, b3, b4⟩ := before_in m c t
  dsimp only
  rw [bigSep_W0]
  simp only [b0, b1, b2, b3, b4]
  iintro ⟨HΦ, HO, ⟨%_, B0⟩, ⟨%_, B1⟩, ⟨%_, B2⟩, ⟨%_, B3⟩, ⟨%_, B4⟩, ⟨%d5, B5⟩, ⟨%d6, B6⟩, ⟨%d7, B7⟩, ⟨%d8, B8⟩⟩
  ihave H := (exchange_open m c t) $$ [HΦ HO]
  · isplitl [HΦ] <;> iassumption
  icases H with ⟨%g, %f, %hgf, HX, BG, BS⟩
  iapply (body_point m c t d5 d6 d7 d8 g f hgf.1 hgf.2)
  unfold held
  iframe

/-! ## The launch -/

def u₀ : UU := (initOf (Pipeline.cells cfgs cellOf_inj) (Pipeline.launchToks cfgs cellOf_inj), initOf (cells table) (toks table))

theorem ownSemFacts : Pipeline.OwnSemFacts cfg0.spec table.sem := by decide +kernel

theorem staging_ne : ∀ (w : Fin cfg0.W) (s : Fin (spec0 w).nbuf) (i : Fin 7 × Fin 4), SemLoc.dma ((spec0 w).sem s) ≠ table.rcv i := by decide +kernel

theorem may_wait (c : Dev nD) (t : Fin (cfg0.N + 1)) (q : DmaSem sig) (hq : ∀ i, SemLoc.dma q ≠ table.rcv i) :
    (levAts tcOnly table.level : sProp 𝕄) ⊢ MayWait (c.tc : Thread nD τ) (.dma q) () ((dats m 0 c).owed t) := by
  by_cases h : t.val = 0
  · rw [owed_first m c t h]; exact table.mayWait c q hq Finset.univ
  · rw [owed_later m c t h, ← table.dues_empty c]; exact table.mayWait c q hq ∅

/-- What device `c` keeps of the arrays the copies read. -/
def kept (c : Dev nD) : sProp 𝕄 :=
  iprop((((c : Thread nD τ).loc main_arg5) ↦{fullShare.left.left.left.left} m ((c : Thread nD τ).loc main_arg5))
    ∗ (((c : Thread nD τ).loc main_arg6) ↦{fullShare.left.left.left.left} m ((c : Thread nD τ).loc main_arg6))
    ∗ (((c : Thread nD τ).loc main_arg7) ↦{fullShare.left.left.left.left} m ((c : Thread nD τ).loc main_arg7))
    ∗ (((c : Thread nD τ).loc main_arg8) ↦{fullShare.left.left.left.left} m ((c : Thread nD τ).loc main_arg8))
    ∗ (((c : Thread nD τ).loc main_arg9) ↦{fullShare.left.left.left.left} m ((c : Thread nD τ).loc main_arg9))
    ∗ (((c : Thread nD τ).loc main_arg10) ↦{fullShare.left.left.left.left} m ((c : Thread nD τ).loc main_arg10))
    ∗ (((c : Thread nD τ).loc main_arg11) ↦{fullShare.left.left.left.left} m ((c : Thread nD τ).loc main_arg11)))

/-- The places of the four blocks of a result array have no element in common. -/
theorem places_disjoint (a : Fin 7) (k l : Fin 4) (c : Dev nD) (h : k ≠ l) :
    Disjoint (dstM (a, k) (peer k c)).view.set (dstM (a, l) (peer l c)).view.set := by
  rw [Memref.set_view_squeeze, Memref.set_view_squeeze]
  refine View.disjoint_slice_of_sep (outM a).view _ _ 0 rfl rfl ?_
  show start a k (peer k c) 0 + 1 ≤ start a l (peer l c) 0 ∨ start a l (peer l c) 0 + 1 ≤ start a k (peer k c) 0
  rw [start_chip, start_chip]
  exact chips_differ k l c h

theorem rooms (a : Fin 7) (c : Dev nD) (f : Buf (Elt F) ((outM a).view.loc (c : Thread nD τ))) :
    ((outM a).view.loc (c : Thread nD τ) ↦{fullShare} f : sProp 𝕄) ⊢ bigSep Finset.univ fun k => (goods m).room (a, k) c := by
  refine (parts4 (ℓ := (outM a).view.loc (c : Thread nD τ)) (fun k => (dstM (a, k) (peer k c)).view.set) (fun k l => places_disjoint a k l c) f).trans (bigSep_mono fun k _ => ?_)
  show _ ⊢ (iprop(∃ f, (dstM (a, k) (peer k c)).view.loc (c : Thread nD τ) ↦[(dstM (a, k) (peer k c)).view.set]{fullShare} f) : sProp 𝕄)
  iintro H
  iexists f; iexact H

theorem loans (a : Fin 7) (c : Dev nD) :
    ((argM a).view.loc (c : Thread nD τ) ↦{fullShare} m ((argM a).view.loc (c : Thread nD τ)) : sProp 𝕄)
      ⊢ iprop(((argM a).view.loc (c : Thread nD τ) ↦{fullShare.left.left.left.left} m ((argM a).view.loc (c : Thread nD τ)))
        ∗ bigSep Finset.univ fun k => (goods m).src (a, k) c) := by
  refine (lend4 (ℓ := (argM a).view.loc (c : Thread nD τ)) (fun k => match k with | 0 => (srcM (a, 0) c).view.set | 1 => (srcM (a, 1) c).view.set | 2 => (srcM (a, 2) c).view.set | 3 => (srcM (a, 3) c).view.set) _).trans ?_
  rw [bigSep4, bigSep4]
  exact .rfl

theorem bigSep7 {M : Type} [URA M] (Φ : Fin 7 → sProp M) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- A device's arrays as what it keeps, what it lends and the room it offers. -/
theorem arrays (c : Dev nD) :
    (Pipeline.unscopedRest cfg0.spec c (fun b => m ((c : Thread nD τ).loc b)) : sProp 𝕄)
      ⊢ iprop(kept m c ∗ (bigSep Finset.univ fun i => (goods m).src i c) ∗ bigSep Finset.univ fun i => (goods m).room i c) := by
  rw [unscopedRest0_eq, bigSep_univ_prod (fun i => (goods m).src i c), bigSep_univ_prod (fun i => (goods m).room i c),
    bigSep7 (fun a => bigSep Finset.univ fun k => (goods m).src (a, k) c), bigSep7 (fun a => bigSep Finset.univ fun k => (goods m).room (a, k) c)]
  iintro ⟨H0, H1, H2, H3, H4, H5, H6, R0, R1, R2, R3, R4, R5, R6⟩
  ihave H0 := (loans m 0 c) $$ H0
  icases H0 with ⟨K0, L0⟩
  ihave H1 := (loans m 1 c) $$ H1
  icases H1 with ⟨K1, L1⟩
  ihave H2 := (loans m 2 c) $$ H2
  icases H2 with ⟨K2, L2⟩
  ihave H3 := (loans m 3 c) $$ H3
  icases H3 with ⟨K3, L3⟩
  ihave H4 := (loans m 4 c) $$ H4
  icases H4 with ⟨K4, L4⟩
  ihave H5 := (loans m 5 c) $$ H5
  icases H5 with ⟨K5, L5⟩
  ihave H6 := (loans m 6 c) $$ H6
  icases H6 with ⟨K6, L6⟩
  ihave R0 := (rooms m 0 c _) $$ R0
  ihave R1 := (rooms m 1 c _) $$ R1
  ihave R2 := (rooms m 2 c _) $$ R2
  ihave R3 := (rooms m 3 c _) $$ R3
  ihave R4 := (rooms m 4 c _) $$ R4
  ihave R5 := (rooms m 5 c _) $$ R5
  ihave R6 := (rooms m 6 c _) $$ R6
  isplitl [K0 K1 K2 K3 K4 K5 K6]
  · unfold kept
    isplitl [K0]; · iexact K0
    isplitl [K1]; · iexact K1
    isplitl [K2]; · iexact K2
    isplitl [K3]; · iexact K3
    isplitl [K4]; · iexact K4
    isplitl [K5]; · iexact K5
    iexact K6
  isplitl [L0 L1 L2 L3 L4 L5 L6]
  · isplitl [L0]; · iexact L0
    isplitl [L1]; · iexact L1
    isplitl [L2]; · iexact L2
    isplitl [L3]; · iexact L3
    isplitl [L4]; · iexact L4
    isplitl [L5]; · iexact L5
    iexact L6
  isplitl [R0]; · iexact R0
  isplitl [R1]; · iexact R1
  isplitl [R2]; · iexact R2
  isplitl [R3]; · iexact R3
  isplitl [R4]; · iexact R4
  isplitl [R5]; · iexact R5
  iexact R6

/-- What the final memory of device `c` holds where the copies read and write. -/
def Ends (c : Dev nD) (s : MemSt nD τ sig (Elt F)) : Prop :=
  s.mem ((c : Thread nD τ).loc main_arg5) = m ((c : Thread nD τ).loc main_arg5)
  ∧ s.mem ((c : Thread nD τ).loc main_arg6) = m ((c : Thread nD τ).loc main_arg6)
  ∧ s.mem ((c : Thread nD τ).loc main_arg7) = m ((c : Thread nD τ).loc main_arg7)
  ∧ s.mem ((c : Thread nD τ).loc main_arg8) = m ((c : Thread nD τ).loc main_arg8)
  ∧ s.mem ((c : Thread nD τ).loc main_arg9) = m ((c : Thread nD τ).loc main_arg9)
  ∧ s.mem ((c : Thread nD τ).loc main_arg10) = m ((c : Thread nD τ).loc main_arg10)
  ∧ s.mem ((c : Thread nD τ).loc main_arg11) = m ((c : Thread nD τ).loc main_arg11)
  ∧ ∀ i : Fin 7 × Fin 4, (dstM i (peer i.2 c)).view.read (Elt F) (s.mem ((dstM i (peer i.2 c)).view.loc (c : Thread nD τ))) = block m i (peer i.2 c)

theorem ends (c : Dev nD) (s' : Phys nD τ sig (Elt F)) :
    iprop((bigSep Finset.univ fun i => (goods m).landed i c) ∗ kept m c ∗ SI s') ⊢ |={Set.univ}=> iprop(⌜Ends m c s'.mem⌝ ∗ SI s' : sProp 𝕄) := by
  unfold kept
  iintro ⟨R, ⟨K0, K1, K2, K3, K4, K5, K6⟩, HSI⟩
  ihave H := (read_whole _ s') $$ [K0 HSI]
  · isplitl [K0] <;> iassumption
  icases H with ⟨%h0, HSI⟩
  ihave H := (read_whole _ s') $$ [K1 HSI]
  · isplitl [K1] <;> iassumption
  icases H with ⟨%h1, HSI⟩
  ihave H := (read_whole _ s') $$ [K2 HSI]
  · isplitl [K2] <;> iassumption
  icases H with ⟨%h2, HSI⟩
  ihave H := (read_whole _ s') $$ [K3 HSI]
  · isplitl [K3] <;> iassumption
  icases H with ⟨%h3, HSI⟩
  ihave H := (read_whole _ s') $$ [K4 HSI]
  · isplitl [K4] <;> iassumption
  icases H with ⟨%h4, HSI⟩
  ihave H := (read_whole _ s') $$ [K5 HSI]
  · isplitl [K5] <;> iassumption
  icases H with ⟨%h5, HSI⟩
  ihave H := (read_whole _ s') $$ [K6 HSI]
  · isplitl [K6] <;> iassumption
  icases H with ⟨%h6, HSI⟩
  ihave H := (read_all (fun i => (goods m).landed i c) (fun i => (dstM i (peer i.2 c)).view.read (Elt F) (s'.mem.mem ((dstM i (peer i.2 c)).view.loc (c : Thread nD τ))) = block m i (peer i.2 c)) s'
    (fun i => read_filled (dstM i (peer i.2 c)).view c _ _ s')) $$ [R HSI]
  · isplitl [R] <;> iassumption
  icases H with ⟨%g, HSI⟩
  imodintro
  isplitr
  · ipureintro; exact ⟨h0, h1, h2, h3, h4, h5, h6, g⟩
  iexact HSI

set_option maxRecDepth 8000 in
/-- From any memory with every counter at zero, every fair execution of the eight devices ends; then each device's window
    arrays hold what the grid's points left in them, the arrays the copies read are as before, the places the
    copies fill hold the partners' blocks, and every counter is at zero. -/
theorem run : θ_run defs (onTc (τ := τ) (main (F := F))) ⟨m, fun _ => 0, ρ⟩
    (fun r => (∀ c : Dev nD, (∀ w : Fin cfg0.W, r.2.mem ((c : Thread nD τ).loc (Pipeline.arrRef spec0 w)) = (dats m 0 c).arrAt w cfg0.N) ∧ Ends m c r.2)
      ∧ r.2.sem = fun _ => 0) :=
  Pipeline.MemLaunch.run (fun p => (cfgs p).toPCfg) (fun p => (cfgs p).toPCfg_adm) (dats m) () cellOf_inj (0 : Fin 1)
    winFacts0.to₀ ownSemFacts EP defs₀ 𝒱₀ m ρ main
    (hmain := fun _ => rfl) (hpre := inferInstanceAs (IsEmpty (Fin 0)))
    (hbody := fun c => (body_obligation m c).loose) (hne := block_pos0) (harr := arr_whole0) (hstage := stage_whole0)
    (hshare := fun _ w => by unfold Dat.share; split <;> rfl) (hdistinct := winFacts0.arr_inj)
    (O₀ := fun c => table.dues c Finset.univ) (howed₀ := fun _ => rfl) (howedN := fun _ => rfl)
    (L := tcOnly) (lv := table.level) (hL := tcOnly_of_ne)
    (hwaits := fun c => Pipeline.cellsWaits_intro cfgs (dats m) () 0 c fun w s t => may_wait m c t _ (staging_ne w s))
    (G := fresh table (goods m) ER) (u₀ := u₀)
    (hu₀ := by
      unfold u₀
      iintro Hu
      ihave H := (ownU_pair _ _) $$ Hu
      icases H with ⟨HP, HX⟩
      imod (fresh_intro table (goods m) ER) $$ [HX] with HX
      · iexact HX
      imodintro
      isplitl [HP]; · iexact HP
      iexact HX)
    (hA := fun _ _ => rfl)
    (X := fun c => Sending table (goods m) ER c Finset.univ) (Y := fun c => bigSep Finset.univ fun i => (goods m).landed i c) (Z := kept m)
    (hglob := deal table (goods m) ER (arrays m))
    (hin := fun c => by
      rw [show Pipeline.scopedRest _ c = (iprop((∃ f, ((c : Thread nD τ).loc cc0_scratch0) ↦{fullShare} f) ∗ ∃ f, ((c : Thread nD τ).loc cc0_scratch1) ↦{fullShare} f) : sProp 𝕄) from scopedRest0_eq c]
      refine BIBase.Entails.trans ?_ (Entails.of_eq (inv_first m c 0 rfl).symm)
      simp only [owns_whole]
      iintro ⟨H, Hg, Hf⟩
      isplitl [H]; · iexact H
      isplitl [Hg] <;> iassumption)
    (hout := fun c => by
      rw [show Pipeline.scopedRest _ c = (iprop((∃ f, ((c : Thread nD τ).loc cc0_scratch0) ↦{fullShare} f) ∗ ∃ f, ((c : Thread nD τ).loc cc0_scratch1) ↦{fullShare} f) : sProp 𝕄) from scopedRest0_eq c]
      refine (Entails.of_eq (inv_later m c (Fin.last _) (by decide))).trans ?_
      rw [if_pos (show (Fin.last cfg0.N).val = 64 from N_eq)]
      unfold scratch
      rw [owns_whole, owns_whole]
      iintro ⟨H, Hg, Hf⟩
      ihave H := (waited table (goods m) ER c) $$ H
      icases H with ⟨Hz, -, Hl⟩
      isplitl [Hl]; · iexact Hl
      isplitl [Hz]; · iexact Hz
      isplitl [Hg]
      · iexists _; iexact Hg
      iexists _; iexact Hf)
    (QY := Ends m) (hY := ends m)
    (hQ := fun s h hs => ⟨h, sem_eq_zero_of_scoped (by decide) hs⟩)

end Cert.FwdGatherProof
-- ==== Proof.FwdGatherRefV.lean ====
/-
  The reference of `ffn1_fwd` with its ride, at the extended reals: its four own results and its gathered weights, and
  the mask of what lands during the call, read at an element.
-/
module

public import proofs.«01_k».proof.Proof.NormBwd
public import proofs.«01_k».proof.Proof.Gen.FwdGatherRefIdeal
public import proofs.«01_k».proof.Proof.Gen.On_received
public import Idealize.ShloMosaic.Lib.Pointwise

@[expose] public section

noncomputable section

namespace Cert.FwdGatherRefV

open Idealize.ShloMosaic Idealize.ShloMosaic.TcCoe
open Cert.FwdGatherRefIdeal Cert.FwdGatherRefIdeal.Gen

set_option maxRecDepth 16384

variable (x : S65536x1024.Idx → EReal) (g : S1x1024.Idx → EReal) (wg wu : S4x1024x704.Idx → EReal) (wd : S4x704x1024.Idx → EReal)

/-- The reference's normalized rows. -/
def refNorm : FVec Ideal S65536x1024 .f32 :=
  mulf (mulf (F := Ideal) (φ := .f32) x (broadcastInDim S65536x1024 ![0, 1] bcast_S65536x1_S65536x1024_0_1 (Host.rsqrt (addf (Host.divf (broadcastInDim S65536x1 ![0] bcast_S65536_S65536x1_0
      (Host.reduceAdd (mulf (F := Ideal) (φ := .f32) x x) (constant S_ .f32 0x00000000#32) reducesTo_S65536x1024_S65536_d1 h_S_)) (broadcastInDim S65536x1 ![] bcast_S_S65536x1 (constant S_ .f32 0x44800000#32)))
      (broadcastInDim S65536x1 ![] bcast_S_S65536x1 (constant S_ .f32 0x358637BD#32)))))) (broadcastInDim S65536x1024 ![0, 1] bcast_S1x1024_S65536x1024_0_1 g)

/-- The reference's product of the normalized rows and the weights `w` of every slab. -/
def refUp (w : S4x1024x704.Idx → EReal) : FVec Ideal S8x4x8192x704 .f32 :=
  transpose S8x4x8192x704 [2, 0, 3, 1] (Host.dotGeneral (F := Ideal) dot_S4x1024x704_S8x8192x1024_S4x704x8x8192_1_2_02_01_n_n none
    (extf (F := Ideal) .f32 (φ := .bf16) w bitsLt_bf16_f32) (shapeCast S8x8192x1024 (refNorm x g) shapeCasts_S65536x1024_S8x8192x1024))
    transposes_S4x704x8x8192_S8x4x8192x704_2_0_3_1

/-- The reference's gated product. -/
def refGate (a b : FVec Ideal S8x4x8192x704 .f32) : FVec Ideal S8x4x8192x704 .f32 :=
  mulf (mulf a (Host.divf (broadcastInDim S8x4x8192x704 ![] bcast_S_S8x4x8192x704 (constant S_ .f32 0x3F800000#32))
    (addf (broadcastInDim S8x4x8192x704 ![] bcast_S_S8x4x8192x704 (constant S_ .f32 0x3F800000#32)) (Host.exp (Host.negf a))))) b

/-- The reference's four own results. -/
def refX : S65536x1024.Idx → EReal :=
  addf (F := Ideal) (φ := .f32) x (mulf (broadcastInDim S65536x1024 ![] bcast_S_S65536x1024 (constant S_ .f32 0x3F000000#32)) (shapeCast S65536x1024
    (Host.dotGeneral dot_S8x4x8192x704_S4x704x1024_S8x8192x1024_31_10_02_2_n_n none (refGate (refUp x g wg) (refUp x g wu)) (extf (F := Ideal) .f32 (φ := .bf16) wd bitsLt_bf16_f32))
    shapeCasts_S8x8192x1024_S65536x1024))
def refH : S65536x1024.Idx → EReal := truncf (F := Ideal) .bf16 (refNorm x g) bitsLt_bf16_f32
def refA (w : S4x1024x704.Idx → EReal) : S32x8192x704.Idx → EReal :=
  truncf (F := Ideal) .bf16 (shapeCast S32x8192x704 (refUp x g w) shapeCasts_S8x4x8192x704_S32x8192x704) bitsLt_bf16_f32

theorem refNorm_apply (n : Fin 65536) (q : Fin 1024) :
    refNorm x g (ix2 n q) = x (ix2 n q) * NormBwd.inv (fun k => x (ix2 n k)) * g (ix2 0 q) := by
  pointwise [refNorm, NormBwd.inv]

theorem refH_apply (n : Fin 65536) (q : Fin 1024) : refH x g (ix2 n q) = refNorm x g (ix2 n q) := by
  pointwise [refH]

theorem refUp_apply (w : S4x1024x704.Idx → EReal) (c : Fin 8) (j : Fin 4) (n : Fin 8192) (k : Fin 704) :
    refUp x g w (ix4 c j n k) = ∑ q : Fin 1024, refNorm x g (ix2 ⟨c.val * 8192 + n.val, by omega⟩ q) * w (ix3 j q k) := by
  pointwise [refUp]
  exact Finset.sum_congr rfl fun q _ => mul_comm _ _

theorem refA_apply (w : S4x1024x704.Idx → EReal) (s : Fin 32) (n : Fin 8192) (k : Fin 704) :
    refA x g w (ix3 s n k) = refUp x g w (ix4 ⟨s.val / 4, by omega⟩ ⟨s.val % 4, by omega⟩ n k) := by
  pointwise [refA]

theorem refGate_apply (a b : FVec Ideal S8x4x8192x704 .f32) (c : Fin 8) (j : Fin 4) (n : Fin 8192) (k : Fin 704) :
    refGate a b (ix4 c j n k) = a (ix4 c j n k) * Ideal.logistic (a (ix4 c j n k)) * b (ix4 c j n k) := by
  pointwise [refGate]
  rfl

theorem refX_apply (n : Fin 65536) (q : Fin 1024) : refX x g wg wu wd (ix2 n q) = x (ix2 n q) + Ideal.ofBits .f32 0x3F000000#32
    * ∑ j : Fin 4, ∑ k : Fin 704, refGate (refUp x g wg) (refUp x g wu) (ix4 ⟨n.val / 8192, by omega⟩ j ⟨n.val % 8192, by omega⟩ k) * wd (ix3 j k q) := by
  pointwise [refX]
  rw [Finset.sum_comm]

/-! ## The gathered weights, and the mask -/

/-- The mask's table: for every slab of every device, whether each of its two halves is asked for. -/
def marks : IVec Cert.On_received.S32x2 1 := fun i => Cert.On_received.lit0 (Cert.On_received.S32x2.rowMajor i)

theorem mark_apply (n : Fin 32) (h : Fin 2) : marks (ix2 n h) = Cert.On_received.lit0 ⟨n.val * 2 + h.val, by omega⟩ :=
  congrArg Cert.On_received.lit0 (Fin.ext (Shape.rowMajor_val_two _))

theorem gathered_1024x768 (w : S4096x768.Idx → EReal) (s : Fin 32) (r : Fin 1024) (q : Fin 768) :
    shapeCast S32x1024x768 (broadcastInDim S8x4x1024x768 ![0, 1, 2, 3] bcast_S1x4x1024x768_S8x4x1024x768_0_1_2_3 (shapeCast S1x4x1024x768 w shapeCasts_S4096x768_S1x4x1024x768)) shapeCasts_S8x4x1024x768_S32x1024x768 (ix3 s r q)
      = w (ix2 ⟨s.val % 4 * 1024 + r.val, by omega⟩ q) := by
  pointwise
theorem mask_1024x768 (s : Fin 32) (r : Fin 1024) (q : Fin 768) :
    shapeCast Cert.On_received.S32x1024x768 (broadcastInDim Cert.On_received.S32x2x512x768 ![0, 1] Cert.On_received.Gen.bcast_S32x2_S32x2x512x768_0_1 marks) Cert.On_received.Gen.shapeCasts_S32x2x512x768_S32x1024x768 (ix3 s r q)
      = Cert.On_received.lit0 ⟨s.val * 2 + r.val / 512, by omega⟩ := by
  pointwise
  exact mark_apply s _
theorem gathered_256x1024 (w : S1024x1024.Idx → EReal) (s : Fin 32) (r : Fin 256) (q : Fin 1024) :
    shapeCast S32x256x1024 (broadcastInDim S8x4x256x1024 ![0, 1, 2, 3] bcast_S1x4x256x1024_S8x4x256x1024_0_1_2_3 (shapeCast S1x4x256x1024 w shapeCasts_S1024x1024_S1x4x256x1024)) shapeCasts_S8x4x256x1024_S32x256x1024 (ix3 s r q)
      = w (ix2 ⟨s.val % 4 * 256 + r.val, by omega⟩ q) := by
  pointwise
theorem mask_256x1024 (s : Fin 32) (r : Fin 256) (q : Fin 1024) :
    shapeCast Cert.On_received.S32x256x1024 (broadcastInDim Cert.On_received.S32x2x128x1024 ![0, 1] Cert.On_received.Gen.bcast_S32x2_S32x2x128x1024_0_1 marks) Cert.On_received.Gen.shapeCasts_S32x2x128x1024_S32x256x1024 (ix3 s r q)
      = Cert.On_received.lit0 ⟨s.val * 2 + r.val / 128, by omega⟩ := by
  pointwise
  exact mark_apply s _
theorem gathered_704x1024 (w : S2816x1024.Idx → EReal) (s : Fin 32) (r : Fin 704) (q : Fin 1024) :
    shapeCast S32x704x1024 (broadcastInDim S8x4x704x1024 ![0, 1, 2, 3] bcast_S1x4x704x1024_S8x4x704x1024_0_1_2_3 (shapeCast S1x4x704x1024 w shapeCasts_S2816x1024_S1x4x704x1024)) shapeCasts_S8x4x704x1024_S32x704x1024 (ix3 s r q)
      = w (ix2 ⟨s.val % 4 * 704 + r.val, by omega⟩ q) := by
  pointwise
theorem mask_704x1024 (s : Fin 32) (r : Fin 704) (q : Fin 1024) :
    shapeCast Cert.On_received.S32x704x1024 (broadcastInDim Cert.On_received.S32x2x352x1024 ![0, 1] Cert.On_received.Gen.bcast_S32x2_S32x2x352x1024_0_1 marks) Cert.On_received.Gen.shapeCasts_S32x2x352x1024_S32x704x1024 (ix3 s r q)
      = Cert.On_received.lit0 ⟨s.val * 2 + r.val / 352, by omega⟩ := by
  pointwise
  exact mark_apply s _
theorem gathered_256x256 (w : S1024x256.Idx → EReal) (s : Fin 32) (r : Fin 256) (q : Fin 256) :
    shapeCast S32x256x256 (broadcastInDim S8x4x256x256 ![0, 1, 2, 3] bcast_S1x4x256x256_S8x4x256x256_0_1_2_3 (shapeCast S1x4x256x256 w shapeCasts_S1024x256_S1x4x256x256)) shapeCasts_S8x4x256x256_S32x256x256 (ix3 s r q)
      = w (ix2 ⟨s.val % 4 * 256 + r.val, by omega⟩ q) := by
  pointwise
theorem mask_256x256 (s : Fin 32) (r : Fin 256) (q : Fin 256) :
    shapeCast Cert.On_received.S32x256x256 (broadcastInDim Cert.On_received.S32x2x128x256 ![0, 1] Cert.On_received.Gen.bcast_S32x2_S32x2x128x256_0_1 marks) Cert.On_received.Gen.shapeCasts_S32x2x128x256_S32x256x256 (ix3 s r q)
      = Cert.On_received.lit0 ⟨s.val * 2 + r.val / 128, by omega⟩ := by
  pointwise
  exact mark_apply s _

/-- What the mask asks for: the slab of a device's own chip, and of every other slab the half of the device's core. -/
theorem landed : ∀ (c : Fin 8) (q : Fin 4) (h : Fin 2), Cert.On_received.lit0 ⟨(c.val * 4 + q.val) * 2 + h.val, by omega⟩ = 1#1 → q.val = c.val / 2 ∨ h.val = c.val % 2 := by decide

end Cert.FwdGatherRefV

end
-- ==== Proof.FwdGatherSums.lean ====
/-
  What `ffn1_fwd` computes, at the extended reals: its four own results, an element at a time.
-/
module

public import proofs.«01_k».proof.Proof.FwdGather
public import proofs.«01_k».proof.Proof.NormBwd
public import Idealize.ShloMosaic.Lib.Pointwise
public import Idealize.ShloMosaic.Lib.Pipeline.ValueKit

@[expose] public section

noncomputable section

namespace Cert.FwdGatherProof

open Idealize.ShloMosaic Idealize.ShloMosaic.TcCoe
open Cert.FwdGatherIdeal Cert.FwdGatherIdeal.Gen
open Idealize.ShloMosaic.Pipeline (Dat Cfg Window)

set_option maxRecDepth 16384

variable (m : (ℓ : Loc nD τ sig) → Buf (Elt Ideal) ℓ)

/-- Where each window's block lies at each point. -/
theorem index_eq : ∀ t : Fin cfg0.N, win0_0.index t = ![t.val / 4, 0] ∧ win0_1.index t = ![0, 0]
    ∧ win0_2.index t = ![t.val % 4, 0, 0] ∧ win0_3.index t = ![t.val % 4, 0, 0] ∧ win0_4.index t = ![t.val % 4, 0, 0]
    ∧ win0_5.index t = ![t.val / 4, 0] ∧ win0_6.index t = ![t.val / 4, 0]
    ∧ win0_7.index t = ![t.val % 4, t.val / 4, 0] ∧ win0_8.index t = ![t.val % 4, t.val / 4, 0] := by decide +kernel

abbrev X (c : Dev nD) : S8192x1024.Idx → EReal := m ((c : Thread nD τ).loc main_arg0)
abbrev Gn (c : Dev nD) : S1x1024.Idx → EReal := m ((c : Thread nD τ).loc main_arg1)
abbrev Wg (c : Dev nD) : S4x1024x704.Idx → EReal := m ((c : Thread nD τ).loc main_arg2)
abbrev Wu (c : Dev nD) : S4x1024x704.Idx → EReal := m ((c : Thread nD τ).loc main_arg3)
abbrev Wd (c : Dev nD) : S4x704x1024.Idx → EReal := m ((c : Thread nD τ).loc main_arg4)

/-- The scale of the residual sum. -/
abbrev half : EReal := Ideal.ofBits .f32 0x3F000000#32

/-- A normalized row at an element. -/
def normRow (x g : Fin 1024 → EReal) (q : Fin 1024) : EReal := x q * NormBwd.inv x * g q

/-- The silu of a number times another number. -/
def gate (a b : EReal) : EReal := a * Ideal.logistic a * b

/-- The normalized rows of a device. -/
def h (c : Dev nD) (n : Fin 8192) (q : Fin 1024) : EReal := normRow (fun k => X m c (ix2 n k)) (fun k => Gn m c (ix2 0 k)) q

/-- The normalized rows against one slab of the weights `w`. -/
def up (c : Dev nD) (w : S4x1024x704.Idx → EReal) (j : Fin 4) (n : Fin 8192) (k : Fin 704) : EReal := ∑ q : Fin 1024, h m c n q * w (ix3 j q k)

/-- What slab `j` adds to an element of the layer's output. -/
def term (c : Dev nD) (n : Fin 8192) (q : Fin 1024) (j : Fin 4) : EReal :=
  ∑ k : Fin 704, gate (up m c (Wg m c) j n k) (up m c (Wu m c) j n k) * Wd m c (ix3 j k q)

def outX (c : Dev nD) : S8192x1024.Idx → EReal := fun i => X m c i + half * ∑ j : Fin 4, term m c (i 0) (i 1) j
def outH (c : Dev nD) : S8192x1024.Idx → EReal := fun i => h m c (i 0) (i 1)
def outA (c : Dev nD) : S4x8192x704.Idx → EReal := fun i => up m c (Wg m c) (i 0) (i 1) (i 2)
def outB (c : Dev nD) : S4x8192x704.Idx → EReal := fun i => up m c (Wu m c) (i 0) (i 1) (i 2)

theorem lt64 (t : Fin cfg0.N) : t.val < 64 := N_eq ▸ t.isLt

theorem x0_apply (c : Dev nD) (t : Fin cfg0.N) (r : Fin 512) (q : Fin 1024) :
    x0 m c t (ix2 r q) = X m c (ix2 ⟨t.val / 4 * 512 + r.val, by have := lt64 t; omega⟩ q) := by
  blk_ext [iblk, V, (index_eq t).1]
theorem x1_apply (c : Dev nD) (t : Fin cfg0.N) (q : Fin 1024) : x1 m c t (ix2 0 q) = Gn m c (ix2 0 q) := by
  blk_ext [iblk, V, (index_eq t).2.1]
theorem x2_apply (c : Dev nD) (t : Fin cfg0.N) (q : Fin 1024) (k : Fin 704) :
    x2 m c t (ix3 0 q k) = Wg m c (ix3 ⟨t.val % 4, by omega⟩ q k) := by
  blk_ext [iblk, V, (index_eq t).2.2.1]
theorem x3_apply (c : Dev nD) (t : Fin cfg0.N) (q : Fin 1024) (k : Fin 704) :
    x3 m c t (ix3 0 q k) = Wu m c (ix3 ⟨t.val % 4, by omega⟩ q k) := by
  blk_ext [iblk, V, (index_eq t).2.2.2.1]
theorem x4_apply (c : Dev nD) (t : Fin cfg0.N) (k : Fin 704) (q : Fin 1024) :
    x4 m c t (ix3 0 k q) = Wd m c (ix3 ⟨t.val % 4, by omega⟩ k q) := by
  blk_ext [iblk, V, (index_eq t).2.2.2.2.1]

theorem pay3_apply (x : Vec Ideal S512x1024 .f32) (g : Vec Ideal S1x1024 .f32) (r : Fin 512) (q : Fin 1024) :
    k0_pay3 x g (ix2 r q) = normRow (fun k => x (ix2 r k)) (fun k => g (ix2 0 k)) q := by
  pointwise [k0_pay3, normRow, NormBwd.inv]
theorem pay4_apply (x : Vec Ideal S512x1024 .f32) (g : Vec Ideal S1x1024 .f32) (r : Fin 512) (q : Fin 1024) :
    k0_pay4 x g (ix2 r q) = normRow (fun k => x (ix2 r k)) (fun k => g (ix2 0 k)) q := by
  pointwise [k0_pay4, k0_pay3, normRow, NormBwd.inv]
theorem pay5_apply (r : Fin 512) (q : Fin 1024) : k0_pay5 (F := Ideal) (ix2 r q) = 0 := by
  pointwise [k0_pay5]
theorem pay6_apply (s : Vec Ideal S512x1024 .bf16) (w : Vec Ideal S1x1024x704 .bf16) (r : Fin 512) (k : Fin 704) :
    k0_pay6 s w (ix2 r k) = ∑ q : Fin 1024, s (ix2 r q) * w (ix3 0 q k) := by
  pointwise [k0_pay6]
theorem pay7_apply (s : Vec Ideal S512x1024 .bf16) (w : Vec Ideal S1x1024x704 .bf16) (r : Fin 512) (k : Fin 704) :
    k0_pay7 s w (ix2 r k) = ∑ q : Fin 1024, s (ix2 r q) * w (ix3 0 q k) := by
  pointwise [k0_pay7]
theorem pay8_apply (s : Vec Ideal S512x1024 .bf16) (w : Vec Ideal S1x1024x704 .bf16) (r : Fin 512) (k : Fin 704) :
    k0_pay8 s w (ix3 0 r k) = ∑ q : Fin 1024, s (ix2 r q) * w (ix3 0 q k) := by
  pointwise [k0_pay8, k0_pay6]
theorem pay9_apply (s : Vec Ideal S512x1024 .bf16) (w : Vec Ideal S1x1024x704 .bf16) (r : Fin 512) (k : Fin 704) :
    k0_pay9 s w (ix3 0 r k) = ∑ q : Fin 1024, s (ix2 r q) * w (ix3 0 q k) := by
  pointwise [k0_pay9, k0_pay7]
theorem pay10_apply (s : Vec Ideal S512x1024 .bf16) (w : Vec Ideal S1x1024x704 .bf16) (r : Fin 512) (k : Fin 704) :
    k0_pay10 s w (ix2 r k) = Ideal.logistic (k0_pay6 s w (ix2 r k)) := by
  pointwise [k0_pay10]
theorem pay1_apply (a b l : FVec Ideal S512x704 .f32) (f : Vec Ideal S512x1024 .f32) (w : Vec Ideal S1x704x1024 .bf16) (r : Fin 512) (q : Fin 1024) :
    k0_pay1 a b l f w (ix2 r q) = f (ix2 r q) + ∑ k : Fin 704, a (ix2 r k) * l (ix2 r k) * b (ix2 r k) * w (ix3 0 k q) := by
  pointwise [k0_pay1]
theorem pay2_apply (x f : Vec Ideal S512x1024 .f32) (r : Fin 512) (q : Fin 1024) : k0_pay2 x f (ix2 r q) = x (ix2 r q) + half * f (ix2 r q) := by
  pointwise [k0_pay2]

/-- The row of the array that row `r` of a tile is. -/
theorem tile_row (c : Dev nD) (n : ℕ) (hn : n < 16) (r : Fin 512) (q : Fin 1024) :
    x0 m c (pt (4 * n)) (ix2 r q) = X m c (ix2 ⟨n * 512 + r.val, by omega⟩ q) := by
  rw [x0_apply]
  refine congrArg _ ?_
  have hp : (pt (4 * n)).val = 4 * n := Nat.mod_eq_of_lt (by omega)
  have hd : (pt (4 * n)).val / 4 = n := by omega
  simp only [hd]

theorem normed_apply (c : Dev nD) (n : ℕ) (hn : n < 16) (r : Fin 512) (q : Fin 1024) :
    normed m c n (ix2 r q) = h m c ⟨n * 512 + r.val, by omega⟩ q := by
  unfold normed
  rw [pay3_apply]
  simp only [tile_row m c n hn, x1_apply]
  rfl
theorem stored_apply (c : Dev nD) (n : ℕ) (hn : n < 16) (r : Fin 512) (q : Fin 1024) :
    stored m c n (ix2 r q) = h m c ⟨n * 512 + r.val, by omega⟩ q := by
  unfold stored
  rw [pay4_apply]
  simp only [tile_row m c n hn, x1_apply]
  rfl

section parts
variable (c : Dev nD) (t : Fin cfg0.N) (r : Fin 512) (k : Fin 704)

theorem up_gate : (∑ q : Fin 1024, stored m c (t.val / 4) (ix2 r q) * x2 m c t (ix3 0 q k))
    = up m c (Wg m c) ⟨t.val % 4, by omega⟩ ⟨t.val / 4 * 512 + r.val, by have := lt64 t; omega⟩ k :=
  Finset.sum_congr rfl fun q _ => by rw [stored_apply m c (t.val / 4) (by have := lt64 t; omega), x2_apply]
theorem up_up : (∑ q : Fin 1024, stored m c (t.val / 4) (ix2 r q) * x3 m c t (ix3 0 q k))
    = up m c (Wu m c) ⟨t.val % 4, by omega⟩ ⟨t.val / 4 * 512 + r.val, by have := lt64 t; omega⟩ k :=
  Finset.sum_congr rfl fun q _ => by rw [stored_apply m c (t.val / 4) (by have := lt64 t; omega), x3_apply]

theorem part0_apply : part0 m c t (ix3 0 r k) = outA m c (ix3 ⟨t.val % 4, by omega⟩ ⟨t.val / 4 * 512 + r.val, by have := lt64 t; omega⟩ k) := by
  unfold part0
  rw [pay8_apply, up_gate]
  rfl
theorem part1_apply : part1 m c t (ix3 0 r k) = outB m c (ix3 ⟨t.val % 4, by omega⟩ ⟨t.val / 4 * 512 + r.val, by have := lt64 t; omega⟩ k) := by
  unfold part1
  rw [pay9_apply, up_up]
  rfl

theorem add_apply (f : Vec Ideal S512x1024 .f32) (q : Fin 1024) : add m c t f (ix2 r q)
    = f (ix2 r q) + term m c ⟨t.val / 4 * 512 + r.val, by have := lt64 t; omega⟩ q ⟨t.val % 4, by omega⟩ := by
  unfold add
  rw [pay1_apply]
  refine congrArg (f (ix2 r q) + ·) (Finset.sum_congr rfl fun k _ => ?_)
  rw [pay10_apply, pay6_apply, pay7_apply, up_gate, up_up, x4_apply]
  rfl

end parts

theorem acc_apply (c : Dev nD) (t : Fin cfg0.N) (r : Fin 512) (q : Fin 1024) :
    acc m c t.val (ix2 r q) = (if t.val % 4 = 0 then 0 else acc m c (t.val - 1) (ix2 r q))
      + term m c ⟨t.val / 4 * 512 + r.val, by have := lt64 t; omega⟩ q ⟨t.val % 4, by omega⟩ := by
  have key (n : ℕ) (hn : n = t.val) : acc m c n = add m c (pt n) (if n % 4 = 0 then k0_pay5 (F := Ideal) else acc m c (n - 1) : Vec Ideal S512x1024 .f32) := by
    match n with
    | 0 => rfl
    | n + 1 => rfl
  rw [key t.val rfl, pt_val, add_apply]
  refine congrArg (· + _) ?_
  by_cases h4 : t.val % 4 = 0
  · rw [if_pos h4, if_pos h4, pay5_apply]
  · rw [if_neg h4, if_neg h4]

theorem acc_row (c : Dev nD) (i : ℕ) (hi : i < 16) (r : Fin 512) (q : Fin 1024) :
    acc m c (4 * i + 3) (ix2 r q) = ∑ j : Fin 4, term m c ⟨i * 512 + r.val, by omega⟩ q j := by
  have step (j : Fin 4) : acc m c (4 * i + j.val) (ix2 r q) = (if j.val = 0 then 0 else acc m c (4 * i + j.val - 1) (ix2 r q))
      + term m c ⟨i * 512 + r.val, by omega⟩ q j := by
    have hj := j.isLt
    have h := acc_apply m c ⟨4 * i + j.val, by rw [N_eq]; omega⟩ r q
    have e1 : (4 * i + j.val) / 4 = i := by omega
    have e2 : (4 * i + j.val) % 4 = j.val := by omega
    simp only [e1, e2] at h
    exact h
  have s0 := step 0
  have s1 := step 1
  have s2 := step 2
  have s3 := step 3
  have e1 : 4 * i + (1 : Fin 4).val - 1 = 4 * i + (0 : Fin 4).val := by show 4 * i + 1 - 1 = 4 * i + 0; omega
  have e2 : 4 * i + (2 : Fin 4).val - 1 = 4 * i + (1 : Fin 4).val := by show 4 * i + 2 - 1 = 4 * i + 1; omega
  have e3 : 4 * i + (3 : Fin 4).val - 1 = 4 * i + (2 : Fin 4).val := by show 4 * i + 3 - 1 = 4 * i + 2; omega
  rw [if_pos (show (0 : Fin 4).val = 0 from rfl)] at s0
  rw [if_neg (by decide), e1, s0] at s1
  rw [if_neg (by decide), e2, s1] at s2
  rw [if_neg (by decide), e3, s2] at s3
  rw [Fin.sum_univ_four]
  refine s3.trans ?_
  rw [zero_add]

theorem rows_apply (c : Dev nD) (t : Fin cfg0.N) (h : t.val % 4 = 3) (r : Fin 512) (q : Fin 1024) :
    rows m c t (ix2 r q) = outX m c (ix2 ⟨t.val / 4 * 512 + r.val, by have := lt64 t; omega⟩ q) := by
  have ht := lt64 t
  have e : t.val = 4 * (t.val / 4) + 3 := by omega
  have ha := acc_row m c (t.val / 4) (by omega) r q
  rw [← e] at ha
  unfold rows
  rw [pay2_apply, ha, x0_apply]
  rfl

theorem final5 (c : Dev nD) : (dats m 0 c).arrAt 5 cfg0.N = outX m c := by
  refine (dats m 0 c).arrAt_eq_of_covers 5 _ (by decide +kernel) fun t hf y => ?_
  have h3 : t.val % 4 = 3 := (flush0_5 t).1 hf
  blk_simp
  show rows m c t y = _
  obtain ⟨r, q, rfl⟩ : ∃ (r : Fin 512) (q : Fin 1024), y = ix2 r q := ⟨y 0, y 1, eq_ix2 y⟩
  rw [rows_apply m c t h3]
  refine congrArg _ ?_
  blk_ext [(index_eq t).2.2.2.2.2.1]

theorem final6 (c : Dev nD) : (dats m 0 c).arrAt 6 cfg0.N = outH m c := by
  refine (dats m 0 c).arrAt_eq_of_covers 6 _ (by decide +kernel) fun t hf y => ?_
  blk_simp
  show normed m c (t.val / 4) y = _
  obtain ⟨r, q, rfl⟩ : ∃ (r : Fin 512) (q : Fin 1024), y = ix2 r q := ⟨y 0, y 1, eq_ix2 y⟩
  rw [normed_apply m c (t.val / 4) (by have := lt64 t; omega)]
  show outH m c (ix2 ⟨t.val / 4 * 512 + r.val, by have := lt64 t; omega⟩ q) = _
  refine congrArg _ ?_
  blk_ext [(index_eq t).2.2.2.2.2.2.1]

theorem final7 (c : Dev nD) : (dats m 0 c).arrAt 7 cfg0.N = outA m c := by
  refine (dats m 0 c).arrAt_eq_of_covers 7 _ (by decide +kernel) fun t hf y => ?_
  blk_simp
  show part0 m c t y = _
  obtain ⟨z, r, k, rfl⟩ : ∃ (z : Fin 1) (r : Fin 512) (k : Fin 704), y = ix3 z r k := ⟨y 0, y 1, y 2, eq_ix3 y⟩
  rw [Fin.fin_one_eq_zero z, part0_apply]
  refine congrArg _ ?_
  blk_ext [(index_eq t).2.2.2.2.2.2.2.1]

theorem final8 (c : Dev nD) : (dats m 0 c).arrAt 8 cfg0.N = outB m c := by
  refine (dats m 0 c).arrAt_eq_of_covers 8 _ (by decide +kernel) fun t hf y => ?_
  blk_simp
  show part1 m c t y = _
  obtain ⟨z, r, k, rfl⟩ : ∃ (z : Fin 1) (r : Fin 512) (k : Fin 704), y = ix3 z r k := ⟨y 0, y 1, y 2, eq_ix3 y⟩
  rw [Fin.fin_one_eq_zero z, part1_apply]
  refine congrArg _ ?_
  blk_ext [(index_eq t).2.2.2.2.2.2.2.2]

end Cert.FwdGatherProof

end
-- ==== Proof.FwdGatherValue.lean ====
/-
  The claims of `ffn1_fwd` with its ride: the frames, and the values against the reference at the extended reals, where
  the gathered weights are compared at what lands during the call.
-/
module

public import proofs.«01_k».proof.Defs
public import proofs.«01_k».proof.Proof.FwdGather
public import proofs.«01_k».proof.Proof.FwdGatherRefV
public import proofs.«01_k».proof.Proof.FwdGatherSums
public import proofs.«01_k».proof.Proof.NormBwd
public import proofs.«01_k».proof.Proof.Slabs
public import proofs.«01_k».proof.Proof.Gen.FwdGather
public import proofs.«01_k».proof.Proof.Gen.FwdGatherRefIdeal.Run

@[expose] public section

set_option maxRecDepth 16384

noncomputable section

namespace Cert.FwdGatherValue

open Idealize.ShloMosaic Idealize.ShloMosaic.TcCoe Idealize.SL.Sem
open Cert.FwdGatherIdeal Cert.FwdGatherIdeal.Gen Cert.FwdGatherProof Cert.FwdGatherRefV
open Cert.Gather (peer)

variable {F : FTy → Type} [FloatOps F]

/-- Every argument of device `c` holds what it held at launch. -/
def Kept (m : (ℓ : Loc nD τ Cert.FwdGatherIdeal.sig) → Buf (Elt F) ℓ) (c : Dev nD) (s : MemSt nD τ Cert.FwdGatherIdeal.sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)
  ∧ s.mem ((c.tc : Thread nD τ).loc main_arg11) = m ((c.tc : Thread nD τ).loc main_arg11)

theorem kept_of (m : (ℓ : Loc nD τ Cert.FwdGatherIdeal.sig) → Buf (Elt F) ℓ) (c : Dev nD) (s : MemSt nD τ Cert.FwdGatherIdeal.sig (Elt F))
    (hw : ∀ w : Fin cfg0.W, s.mem ((c : Thread nD τ).loc (Pipeline.arrRef spec0 w)) = (dats m 0 c).arrAt w cfg0.N) (he : Ends m c s) : Kept m c s :=
  ⟨(hw 0).trans ((dats m 0 c).arrAt_in 0 rfl _),
    (hw 1).trans ((dats m 0 c).arrAt_in 1 rfl _),
    (hw 2).trans ((dats m 0 c).arrAt_in 2 rfl _),
    (hw 3).trans ((dats m 0 c).arrAt_in 3 rfl _),
    (hw 4).trans ((dats m 0 c).arrAt_in 4 rfl _),
    he.1, he.2.1, he.2.2.1, he.2.2.2.1, he.2.2.2.2.1, he.2.2.2.2.2.1, he.2.2.2.2.2.2.1⟩

theorem kernel_frame (m : (ℓ : Loc nD τ Cert.FwdGatherIdeal.sig) → Buf (Elt F) ℓ) (ρ : Dev nD → PrngReg) :
    θ_run (defs (F := F)) (onTc (τ := τ) (main (F := F))) ⟨m, fun _ => 0, ρ⟩ (fun r => (∀ c : Dev nD, Kept m c r.2) ∧ r.2.sem = fun _ => 0) :=
  (θ_run defs _ _).mono (fun r h => ⟨fun c => kept_of m c r.2 (h.1 c).1 (h.1 c).2, h.2⟩) (run m ρ)

/-! ## The claims -/

/-- The two printed texts of the call's body are one. -/
theorem defs_eq : Cert.FwdGather.defs (F := F) = Cert.FwdGatherIdeal.defs (F := F) := by
  have h : Cert.FwdGather.defs₀ (F := F) = Cert.FwdGatherIdeal.defs₀ (F := F) := by
    unfold Cert.FwdGather.defs₀ Cert.FwdGatherIdeal.defs₀
    refine congrArg Defs.onTc ?_
    funext l a
    match l, a with
    | 0, (t, s) => rfl
    | ⟨_ + 1, h⟩, _ => exact absurd h (Nat.not_lt.2 (Nat.le_add_left _ _))
  exact congrArg (Pipeline.defs Cert.FwdGatherIdeal.pcfgs) h

theorem frame_bits : Cert.quiescent_FwdGather := fun m ρ _ => by
  rw [defs_eq]
  exact kernel_frame (F := Bits) m ρ
theorem frame_ideal : Cert.quiescent_FwdGatherIdeal := fun m ρ _ => kernel_frame (F := Ideal) m ρ
theorem ref_frame : Cert.quiescent_FwdGatherRefIdeal := fun m ρ _ =>
  (θ_run Cert.FwdGatherRefIdeal.defs _ _).mono (fun r h => ⟨fun c => (h c).2.2.2.2.2.2.2.2.2.2.2, sem_eq_zero_of_no_sems rfl _⟩)
    (Cert.FwdGatherRefIdeal.Value.run (F := Ideal) m ρ)

section values
variable (m : (ℓ : Loc nD τ Cert.FwdGatherIdeal.sig) → Buf (Elt Ideal) ℓ) (c : Dev nD)
variable (x : Cert.FwdGatherRefIdeal.S65536x1024.Idx → EReal) (g : Cert.FwdGatherRefIdeal.S1x1024.Idx → EReal)
  (wg wu : Cert.FwdGatherRefIdeal.S4x1024x704.Idx → EReal) (wd : Cert.FwdGatherRefIdeal.S4x704x1024.Idx → EReal)
  (hx : X m c = Layout.block ⟨2, ![8192, 1024]⟩ ⟨2, ![65536, 1024]⟩ 0 8 c x)
  (hg : Gn m c = g) (hwg : Wg m c = wg) (hwu : Wu m c = wu) (hwd : Wd m c = wd)

theorem row_lt (n : Fin 8192) : c.val * 8192 + n.val < 65536 := by
  have := c.isLt; change c.val < 8 at this; omega
theorem slab_lt (j : Fin 4) : c.val * 4 + j.val < 32 := by
  have := c.isLt; change c.val < 8 at this; omega

include hx in
theorem x_row (n : Fin 8192) (q : Fin 1024) : X m c (ix2 n q) = x (ix2 ⟨c.val * 8192 + n.val, row_lt c n⟩ q) := by
  rw [hx]
  exact NormBwd.block_rows c x _ n q _ rfl

include hx hg in
theorem h_row (n : Fin 8192) (q : Fin 1024) : h m c n q = refNorm x g (ix2 ⟨c.val * 8192 + n.val, row_lt c n⟩ q) := by
  rw [refNorm_apply]
  unfold h normRow
  rw [hg]
  simp only [x_row m c x hx]

include hx hg in
theorem up_row (w : Cert.FwdGatherRefIdeal.S4x1024x704.Idx → EReal) (j : Fin 4) (n : Fin 8192) (k : Fin 704) :
    up m c w j n k = refUp x g w (ix4 (c : Fin 8) j n k) := by
  rw [refUp_apply]
  exact Finset.sum_congr rfl fun q _ => by rw [h_row m c x g hx hg]

include hx hg in
theorem h_block : outH m c = Layout.block ⟨2, ![8192, 1024]⟩ ⟨2, ![65536, 1024]⟩ 0 8 c (refH x g) := by
  funext i
  obtain ⟨n, q, rfl⟩ : ∃ (n : Fin 8192) (q : Fin 1024), i = ix2 n q := ⟨i 0, i 1, eq_ix2 i⟩
  rw [NormBwd.block_rows c _ _ n q ⟨c.val * 8192 + n.val, row_lt c n⟩ rfl, refH_apply]
  exact h_row m c x g hx hg n q

include hx hg in
theorem up_block (w : Cert.FwdGatherRefIdeal.S4x1024x704.Idx → EReal) : (fun i => up m c w (i 0) (i 1) (i 2))
    = Layout.block ⟨3, ![4, 8192, 704]⟩ ⟨3, ![32, 8192, 704]⟩ 0 8 c (refA x g w) := by
  funext i
  obtain ⟨j, n, k, rfl⟩ : ∃ (j : Fin 4) (n : Fin 8192) (k : Fin 704), i = ix3 j n k := ⟨i 0, i 1, i 2, eq_ix3 i⟩
  rw [Slabs.block_slabs c _ _ j n k ⟨c.val * 4 + j.val, slab_lt c j⟩ rfl, refA_apply]
  have e1 : (c.val * 4 + j.val) / 4 = c.val := by omega
  have e2 : (c.val * 4 + j.val) % 4 = j.val := by omega
  simp only [e1, e2]
  exact up_row m c x g hx hg w j n k

include hx hg hwg hwu hwd in
theorem x_block : outX m c = Layout.block ⟨2, ![8192, 1024]⟩ ⟨2, ![65536, 1024]⟩ 0 8 c (refX x g wg wu wd) := by
  funext i
  obtain ⟨n, q, rfl⟩ : ∃ (n : Fin 8192) (q : Fin 1024), i = ix2 n q := ⟨i 0, i 1, eq_ix2 i⟩
  rw [NormBwd.block_rows c _ _ n q ⟨c.val * 8192 + n.val, row_lt c n⟩ rfl, refX_apply]
  have e1 : (c.val * 8192 + n.val) / 8192 = c.val := by omega
  have e2 : (c.val * 8192 + n.val) % 8192 = n.val := by omega
  simp only [e1, e2]
  show X m c (ix2 n q) + half * ∑ j : Fin 4, term m c n q j = _
  rw [x_row m c x hx]
  refine congrArg (fun y => x _ + half * y) (Finset.sum_congr rfl fun j _ => Finset.sum_congr rfl fun k _ => ?_)
  rw [refGate_apply, hwg, hwu, hwd, up_row m c x g hx hg, up_row m c x g hx hg]
  rfl

end values

/-! ## The gathered weights -/

/-- A block of rows of one slab, read through its view. -/
theorem rows_read {sig : RefSig} {κ : Kind} {cs : Space} {e : EltTy} {Val : EltTy → Type} {A R C H : ℕ} (M : Memref sig κ cs ⟨3, ![A, R, C]⟩ e)
    (off : Fin 3 → ℕ) (p : Fin A) (o : ℕ) (ho : off = ![p.val, o, 0]) (h) (hr) (hq) (f : M.view.ty.Contents Val) (r : Fin H) (n : Fin R) (hn : n.val = o + r.val) (q : Fin C) :
    ((M.slice (Rect.unit (s := ⟨3, ![A, R, C]⟩) off (⟨3, ![1, H, C]⟩ : Shape).size h) hr).squeeze ⟨2, ![H, C]⟩ hq).view.read Val f (ix2 r q)
      = M.view.read Val f (ix3 p n q) := by
  subst ho
  refine (congrFun (Memref.read_squeeze_slice M _ hr hq (Shape.Squeezes.numel_eq hq) f) (ix2 r q)).trans ?_
  refine (ValueIdx.shapeCast_1ab_ab_apply _ _ r q).trans ?_
  refine congrArg (M.view.read Val f) (funext fun a => Fin.ext ?_)
  match a with
  | ⟨0, _⟩ => show p.val + 1 * 0 = p.val; omega
  | ⟨1, _⟩ => show o + 1 * r.val = n.val; omega
  | ⟨2, _⟩ => show 0 + 1 * q.val = q.val; omega

/-- A block of rows of an array, read through its view. -/
theorem half_read {sig : RefSig} {κ : Kind} {cs : Space} {e : EltTy} {Val : EltTy → Type} {R C H : ℕ} (M : Memref sig κ cs ⟨2, ![R, C]⟩ e)
    (off : Fin 2 → ℕ) (o : ℕ) (ho : off = ![o, 0]) (h) (hr) (f : M.view.ty.Contents Val) (r : Fin H) (n : Fin R) (hn : n.val = o + r.val) (q : Fin C) :
    (M.slice (Rect.unit (s := ⟨2, ![R, C]⟩) off (⟨2, ![H, C]⟩ : Shape).size h) hr).view.read Val f (ix2 r q) = M.view.read Val f (ix2 n q) := by
  subst ho
  show M.view.read Val f _ = _
  refine congrArg (M.view.read Val f) (funext fun a => Fin.ext ?_)
  match a with
  | ⟨0, _⟩ => show o + 1 * r.val = n.val; omega
  | ⟨1, _⟩ => show 0 + 1 * q.val = q.val; omega

theorem start_own : ∀ (a : Fin 7) (c : Dev nD), start a 3 (peer 3 c) = ![c.val / 2, 0, 0] := by decide +kernel
theorem start_far : ∀ (a : Fin 7) (k : Fin 4) (c : Dev nD), k ≠ 3 → start a k (peer k c) = ![(peer k c).val / 2, halfOf a * (c.val % 2), 0] := by decide +kernel
theorem from_far : ∀ (a : Fin 7) (k : Fin 4) (c : Dev nD), k ≠ 3 → from' a (peer k c) = ![halfOf a * (c.val % 2), 0] := by decide +kernel

/-- The slab of a device's own chip comes whole from the chip's other core. -/
theorem received_own (m : (ℓ : Loc nD τ Cert.FwdGatherIdeal.sig) → Buf (Elt F) ℓ) (c : Dev nD) (s : MemSt nD τ Cert.FwdGatherIdeal.sig (Elt F)) (he : Ends m c s)
    (a : Fin 7) (p : Fin 4) (hp : p.val = c.val / 2) (r : Fin (rowsOf a)) (q : Fin (colsOf a)) :
    (outM a).view.read (Elt F) (s.mem ((outM a).view.loc (c : Thread nD τ))) (ix3 p r q)
      = (argM a).view.read (Elt F) (m ((argM a).view.loc (peer 3 c : Thread nD τ))) (ix2 r q) := by
  have h := congrFun (he.2.2.2.2.2.2.2 (a, 3)) (ix2 r q)
  unfold block at h
  exact (rows_read (outM a) _ p 0 ((start_own a c).trans (by rw [hp])) _ (fun _ => rfl) (flattens a 3) _ r r (Nat.zero_add _).symm q).symm.trans h

theorem not_last : ∀ k : Fin 4, k ≠ 3 → k = 0 ∨ k = 1 ∨ k = 2 := by decide
theorem half_pos : ∀ a : Fin 7, 0 < halfOf a := by decide

/-- A row in the half of a device's core, at a copy whose block is such a half. -/
theorem far_eq {sig : RefSig} {Val : EltTy → Type} {R C H : ℕ} (M : Memref sig .tc .hbm ⟨3, ![4, R, C]⟩ .bf16) (B : Memref sig .tc .hbm ⟨2, ![R, C]⟩ .bf16)
    (off : Fin 3 → ℕ) (off' : Fin 2 → ℕ) (p : Fin 4) (o : ℕ) (ho : off = ![p.val, o, 0]) (ho' : off' = ![o, 0]) (h) (hr) (hq) (h') (hr')
    (f : M.view.ty.Contents Val) (g : B.view.ty.Contents Val)
    (e : ((M.slice (Rect.unit (s := ⟨3, ![4, R, C]⟩) off (⟨3, ![1, H, C]⟩ : Shape).size h) hr).squeeze ⟨2, ![H, C]⟩ hq).view.read Val f
      = (B.slice (Rect.unit (s := ⟨2, ![R, C]⟩) off' (⟨2, ![H, C]⟩ : Shape).size h') hr').view.read Val g)
    (r : Fin H) (n : Fin R) (hn : n.val = o + r.val) (q : Fin C) : M.view.read Val f (ix3 p n q) = B.view.read Val g (ix2 n q) :=
  ((rows_read M off p o ho h hr hq f r n hn q).symm.trans (congrFun e (ix2 r q))).trans (half_read B off' o ho' h' hr' g r n hn q)

/-- Of the slab of another chip, the half of the device's core comes from that chip's core of the same number. -/
theorem received_far (m : (ℓ : Loc nD τ Cert.FwdGatherIdeal.sig) → Buf (Elt F) ℓ) (c : Dev nD) (s : MemSt nD τ Cert.FwdGatherIdeal.sig (Elt F)) (he : Ends m c s)
    (a : Fin 7) (k : Fin 4) (hk : k ≠ 3) (p : Fin 4) (hp : p.val = (peer k c).val / 2) (r : Fin (rowsOf a)) (hr : r.val / halfOf a = c.val % 2) (q : Fin (colsOf a)) :
    (outM a).view.read (Elt F) (s.mem ((outM a).view.loc (c : Thread nD τ))) (ix3 p r q)
      = (argM a).view.read (Elt F) (m ((argM a).view.loc (peer k c : Thread nD τ))) (ix2 r q) := by
  have hn : r.val = halfOf a * (c.val % 2) + r.val % halfOf a := by rw [← hr]; exact (Nat.div_add_mod _ _).symm
  have hs := (start_far a k c hk).trans (by rw [← hp])
  have hf := from_far a k c hk
  have h := he.2.2.2.2.2.2.2 (a, k)
  unfold block at h
  rcases not_last k hk with rfl | rfl | rfl
  · exact far_eq (H := halfOf a) (outM a) (argM a) _ _ p _ hs hf _ (fun _ => rfl) (flattens a 0) _ (fun _ => rfl) _ _ h ⟨r.val % halfOf a, Nat.mod_lt _ (half_pos a)⟩ r hn q
  · exact far_eq (H := halfOf a) (outM a) (argM a) _ _ p _ hs hf _ (fun _ => rfl) (flattens a 1) _ (fun _ => rfl) _ _ h ⟨r.val % halfOf a, Nat.mod_lt _ (half_pos a)⟩ r hn q
  · exact far_eq (H := halfOf a) (outM a) (argM a) _ _ p _ hs hf _ (fun _ => rfl) (flattens a 2) _ (fun _ => rfl) _ _ h ⟨r.val % halfOf a, Nat.mod_lt _ (half_pos a)⟩ r hn q

theorem chip_lin : ∀ p : Fin 8, Layout.meshLin [2, 2, 2] p.val [0, 1] = p.val / 2 := by decide
theorem other_core : ∀ c : Fin 8, (peer 3 c).val / 2 = c.val / 2 := by decide
theorem which_peer : ∀ (c : Fin 8) (p : Fin 4), p.val ≠ c.val / 2 → ∃ k : Fin 4, k ≠ 3 ∧ p.val = (peer k c).val / 2 := by decide

/-- A device's block of an array cut by rows over the chips, at an element. -/
theorem chip_rows {α : Type} {R N C : ℕ} (p : Fin 8) (w : (⟨2, ![N, C]⟩ : Shape).Idx → α) (hc)
    (h : Layout.TilesN ⟨2, ![R, C]⟩ ⟨2, ![N, C]⟩ (fun b => Layout.cutSize [2, 2, 2] ((![[0, 1], []] : Fin 2 → List ℕ) b))) (r : Fin R) (q : Fin C) (n : Fin N) (hn : n.val = p.val / 2 * R + r.val) :
    Layout.blockN ⟨2, ![R, C]⟩ ⟨2, ![N, C]⟩ (Layout.meshBlock [2, 2, 2] ![[0, 1], []] p hc) w h (ix2 r q) = w (ix2 n q) := by
  refine congrArg w (funext fun a => Fin.ext ?_)
  rw [Layout.TilesN.idx_val]
  match a with
  | ⟨0, _⟩ => show Layout.meshLin [2, 2, 2] p.val [0, 1] * R + r.val = n.val; rw [chip_lin, hn]
  | ⟨1, _⟩ => show 0 * C + q.val = q.val; omega

/-- Where the mask is set, what a device receives is its block of the gathered array. -/
theorem landed_eq {α : Type} {R H C N : ℕ} (c : Fin 8) (hN : N = 4 * R) (out : (⟨3, ![4, R, C]⟩ : Shape).Idx → α) (args : Fin 8 → (⟨2, ![R, C]⟩ : Shape).Idx → α)
    (w : (⟨2, ![N, C]⟩ : Shape).Idx → α) (mask : (⟨3, ![32, R, C]⟩ : Shape).Idx → BitVec 1) (ref : (⟨3, ![32, R, C]⟩ : Shape).Idx → α)
    (hb : Layout.Tiles ⟨3, ![4, R, C]⟩ ⟨3, ![32, R, C]⟩ 0 8) (hw : Layout.TilesN ⟨2, ![R, C]⟩ ⟨2, ![N, C]⟩ (fun b => Layout.cutSize [2, 2, 2] ((![[0, 1], []] : Fin 2 → List ℕ) b)))
    (hargs : ∀ p, args p = Layout.blockN ⟨2, ![R, C]⟩ ⟨2, ![N, C]⟩ (Layout.meshBlock [2, 2, 2] ![[0, 1], []] p) w hw)
    (hmask : ∀ (n : Fin 32) (r : Fin R) (q : Fin C), ∃ hr : r.val / H < 2, mask (ix3 n r q) = Cert.On_received.lit0 ⟨n.val * 2 + r.val / H, by omega⟩)
    (href : ∀ (n : Fin 32) (r : Fin R) (q : Fin C), ref (ix3 n r q) = w (ix2 ⟨n.val % 4 * R + r.val, by subst hN; have := r.isLt; have : n.val % 4 < 4 := Nat.mod_lt _ (by omega); nlinarith⟩ q))
    (hown : ∀ p : Fin 4, p.val = c.val / 2 → ∀ (r : Fin R) (q : Fin C), out (ix3 p r q) = args (peer 3 c) (ix2 r q))
    (hfar : ∀ k : Fin 4, k ≠ 3 → ∀ p : Fin 4, p.val = (peer k c).val / 2 → ∀ r : Fin R, r.val / H = c.val % 2 → ∀ q : Fin C, out (ix3 p r q) = args (peer k c) (ix2 r q)) :
    ∀ i, Layout.block ⟨3, ![4, R, C]⟩ ⟨3, ![32, R, C]⟩ 0 8 c mask hb i = 1#1 → out i = Layout.block ⟨3, ![4, R, C]⟩ ⟨3, ![32, R, C]⟩ 0 8 c ref hb i := by
  intro i hi
  obtain ⟨p, r, q, rfl⟩ : ∃ (p : Fin 4) (r : Fin R) (q : Fin C), i = ix3 p r q := ⟨i 0, i 1, i 2, eq_ix3 i⟩
  rw [Slabs.block_slabs c mask hb p r q ⟨c.val * 4 + p.val, by omega⟩ rfl] at hi
  rw [Slabs.block_slabs c ref hb p r q ⟨c.val * 4 + p.val, by omega⟩ rfl, href]
  obtain ⟨hr, e⟩ := hmask ⟨c.val * 4 + p.val, by omega⟩ r q
  have hmod : (c.val * 4 + p.val) % 4 = p.val := by omega
  have hlt : (c.val * 4 + p.val) % 4 * R + r.val < N := by subst hN; have := r.isLt; have : p.val < 4 := p.isLt; rw [hmod]; nlinarith
  have from_chip (d : Fin 8) (hd : p.val = d.val / 2) : args d (ix2 r q) = w (ix2 ⟨(c.val * 4 + p.val) % 4 * R + r.val, hlt⟩ q) := by
    rw [hargs]
    exact chip_rows d w _ _ r q _ (by show (c.val * 4 + p.val) % 4 * R + r.val = _; rw [hmod, hd])
  by_cases ho : p.val = c.val / 2
  · exact (hown p ho r q).trans (from_chip _ (ho.trans (other_core c).symm))
  · obtain ⟨k, hk, hp⟩ := which_peer c p ho
    have hh := (landed c p ⟨r.val / H, hr⟩ (e.symm.trans hi)).resolve_left ho
    exact (hfar k hk p hp r hh q).trans (from_chip _ hp)

theorem algebraic : Cert.algebraic_FwdGatherIdeal_FwdGatherRefIdeal_on_received := fun m ρ m' ρ' _ hm =>
  ⟨_, _, _, _, _, _, _, _, _, _, _,
    (θ_run defs _ _).mono (fun r h c => by
      have he := (h.1 c).2
      have hk := kept_of m c r.2 (h.1 c).1 he
      obtain ⟨h0, h1, h2, h3, h4, -⟩ := hm c
      refine ⟨?_, ?_, ?_, ?_, ?_, ?_, ?_, ?_, ?_, ?_, ?_, hk⟩
      · exact fun i _ => congrFun ((((h.1 c).1 5).trans (final5 m c)).trans (x_block m c _ _ _ _ _ h0 h1 h2 h3 h4)) i
      · exact fun i _ => congrFun ((((h.1 c).1 6).trans (final6 m c)).trans (h_block m c _ _ h0 h1)) i
      · exact fun i _ => congrFun ((((h.1 c).1 7).trans (final7 m c)).trans ((congrArg (fun w => fun i : S4x8192x704.Idx => up m c w (i 0) (i 1) (i 2)) h2).trans (up_block m c _ _ h0 h1 _))) i
      · exact fun i _ => congrFun ((((h.1 c).1 8).trans (final8 m c)).trans ((congrArg (fun w => fun i : S4x8192x704.Idx => up m c w (i 0) (i 1) (i 2)) h3).trans (up_block m c _ _ h0 h1 _))) i
      · exact landed_eq (H := 512) c rfl _ (fun p : Dev nD => m ((p.tc : Thread nD τ).loc main_arg5)) _ _ _ _ _ (fun p => (hm p).2.2.2.2.2.1)
          (fun n r q => ⟨by omega, mask_1024x768 n r q⟩) (gathered_1024x768 _) (received_own m c r.2 he 0) (received_far m c r.2 he 0)
      · exact landed_eq (H := 128) c rfl _ (fun p : Dev nD => m ((p.tc : Thread nD τ).loc main_arg6)) _ _ _ _ _ (fun p => (hm p).2.2.2.2.2.2.1)
          (fun n r q => ⟨by omega, mask_256x1024 n r q⟩) (gathered_256x1024 _) (received_own m c r.2 he 1) (received_far m c r.2 he 1)
      · exact landed_eq (H := 352) c rfl _ (fun p : Dev nD => m ((p.tc : Thread nD τ).loc main_arg7)) _ _ _ _ _ (fun p => (hm p).2.2.2.2.2.2.2.1)
          (fun n r q => ⟨by omega, mask_704x1024 n r q⟩) (gathered_704x1024 _) (received_own m c r.2 he 2) (received_far m c r.2 he 2)
      · exact landed_eq (H := 352) c rfl _ (fun p : Dev nD => m ((p.tc : Thread nD τ).loc main_arg8)) _ _ _ _ _ (fun p => (hm p).2.2.2.2.2.2.2.2.1)
          (fun n r q => ⟨by omega, mask_704x1024 n r q⟩) (gathered_704x1024 _) (received_own m c r.2 he 3) (received_far m c r.2 he 3)
      · exact landed_eq (H := 352) c rfl _ (fun p : Dev nD => m ((p.tc : Thread nD τ).loc main_arg9)) _ _ _ _ _ (fun p => (hm p).2.2.2.2.2.2.2.2.2.1)
          (fun n r q => ⟨by omega, mask_704x1024 n r q⟩) (gathered_704x1024 _) (received_own m c r.2 he 4) (received_far m c r.2 he 4)
      · exact landed_eq (H := 128) c rfl _ (fun p : Dev nD => m ((p.tc : Thread nD τ).loc main_arg10)) _ _ _ _ _ (fun p => (hm p).2.2.2.2.2.2.2.2.2.2.1)
          (fun n r q => ⟨by omega, mask_256x1024 n r q⟩) (gathered_256x1024 _) (received_own m c r.2 he 5) (received_far m c r.2 he 5)
      · exact landed_eq (H := 128) c rfl _ (fun p : Dev nD => m ((p.tc : Thread nD τ).loc main_arg11)) _ _ _ _ _ (fun p => (hm p).2.2.2.2.2.2.2.2.2.2.2)
          (fun n r q => ⟨by omega, mask_256x256 n r q⟩) (gathered_256x256 _) (received_own m c r.2 he 6) (received_far m c r.2 he 6)) (run m ρ),
    (θ_run Cert.FwdGatherRefIdeal.defs _ _).mono (fun r h => by
      obtain ⟨e0, e1, e2, e3, e4, e5, e6, e7, e8, e9, e10, hk⟩ := h 0
      exact ⟨fun i _ => congrFun e0 i, fun i _ => congrFun e1 i, fun i _ => congrFun e2 i, fun i _ => congrFun e3 i, fun i _ => congrFun e4 i, fun i _ => congrFun e5 i,
        fun i _ => congrFun e6 i, fun i _ => congrFun e7 i, fun i _ => congrFun e8 i, fun i _ => congrFun e9 i, fun i _ => congrFun e10 i, hk⟩)
      (Cert.FwdGatherRefIdeal.Value.run (F := Ideal) m' ρ')⟩

end Cert.FwdGatherValue

end
-- ==== Proof.Swap.lean ====
/-
  The kernel `grad_swap_halves`: the two cores of a chip exchange halves of three arrays.

  Device `c` reads the half its partner keeps out of each of its own three arrays and copies it into the partner's
  result array. So the copy needs the partner's result array from the start; `Exchange` carries it. The run is
  written for any float values.
-/
module

public import proofs.«01_k».proof.Proof.MemLaunch
public import proofs.«01_k».proof.Proof.Exchange
public import proofs.«01_k».proof.Proof.Gen.SwapIdeal
public import proofs.«01_k».proof.Proof.Gen.SwapIdeal.Skeleton
public import proofs.«01_k».proof.Proof.Gen.SwapIdeal.Launch

@[expose] public section

noncomputable section

namespace Cert.SwapProof

open Cert.SwapIdeal Cert.SwapIdeal.Gen Cert.Exchange
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU : Type := UR sig nD τ × UR sig nD τ
local notation "𝕄" => MT nD τ sig Unit (Elt F) ℕ UU ℕ
abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-! ## The table of copies -/

/-- The other core of the same chip. -/
def peer (c : Dev nD) : Dev nD := ⟨2 * (c.val / 2) + (1 - c.val % 2), by have := c.isLt; change c.val < 8 at this; show _ < 8; omega⟩
theorem peer_peer (c : Dev nD) : peer (peer c) = c := by revert c; decide
theorem dev1_eq (c : Dev nD) : (⟨k0_dev1 c, k0_dev1_lt c⟩ : Dev nD) = peer c := by revert c; decide +kernel
theorem dev2_eq (c : Dev nD) : (⟨k0_dev2 c, k0_dev2_lt c⟩ : Dev nD) = peer c := by revert c; decide +kernel
theorem dev3_eq (c : Dev nD) : (⟨k0_dev3 c, k0_dev3_lt c⟩ : Dev nD) = peer c := by revert c; decide +kernel

abbrev argM (i : Fin 3) : Memref sig .tc .hbm S4x704x1024 .f32 :=
  match i with | 0 => Memref.whole main_arg0 | 1 => Memref.whole main_arg1 | 2 => Memref.whole main_arg2
abbrev resM (i : Fin 3) : Memref sig .tc .hbm S4x352x1024 .f32 :=
  match i with | 0 => Memref.whole main_v1_0 | 1 => Memref.whole main_v1_1 | 2 => Memref.whole main_v1_2
/-- The half of an array that device `c` sends. -/
abbrev halfM (a : Memref sig .tc .hbm S4x704x1024 .f32) (c : Dev nD) : Memref sig .tc .hbm S4x352x1024 .f32 :=
  a.slice (Rect.unit (s := S4x704x1024) (k0_off1 c) S4x352x1024.size (k0_off1_inb c)) (fun _ => rfl)

def table : Table sig nD (Fin 3) where
  peer _ := peer
  snd i := .dma (match i with | 0 => 0 | 1 => 1 | 2 => 2)
  rcv i := .dma (match i with | 0 => 3 | 1 => 4 | 2 => 5)
  amt i := (resM i).view.dmaCredit
  back _ := peer_peer
  inj := by decide
  pos i := by fin_cases i <;> exact View.dmaCredit_pos _ (by decide)

/-- The half device `c` sends in copy `i`, as it is at launch. -/
def block (i : Fin 3) (c : Dev nD) : (⟨S4x352x1024, .f32⟩ : BufTy).Contents (Elt F) :=
  (halfM (argM i) c).view.read (Elt F) (m ((halfM (argM i) c).view.loc (c : Thread nD τ)))

def lent (i : Fin 3) (c : Dev nD) : sProp 𝕄 :=
  ((halfM (argM i) c).view.loc (c : Thread nD τ)) ↦[(halfM (argM i) c).view.set]{fullShare.right} m ((halfM (argM i) c).view.loc (c : Thread nD τ))

/-- Copy `i` in terms of arrays: the half is lent at half a share, the result array is offered and comes back filled. -/
def goods : Goods τ sig nD (Fin 3) (Elt F) UU where
  src := lent m
  landed i c := match i with
    | 0 => ((c : Thread nD τ).loc main_v1_0) ↦{fullShare} block m 0 (peer c)
    | 1 => ((c : Thread nD τ).loc main_v1_1) ↦{fullShare} block m 1 (peer c)
    | 2 => ((c : Thread nD τ).loc main_v1_2) ↦{fullShare} block m 2 (peer c)
  room i c := match i with
    | 0 => iprop(∃ f, ((c : Thread nD τ).loc main_v1_0) ↦{fullShare} f)
    | 1 => iprop(∃ f, ((c : Thread nD τ).loc main_v1_1) ↦{fullShare} f)
    | 2 => iprop(∃ f, ((c : Thread nD τ).loc main_v1_2) ↦{fullShare} f)
  src_storable i c := by unfold lent; infer_instance
  landed_storable i c := by fin_cases i <;> dsimp only <;> infer_instance

theorem room_of {c : Dev nD} (b : Ref sig .tc) :
    iprop(∃ f, ((c : Thread nD τ).loc b) ↦{fullShare} f : sProp 𝕄)
      ⊢ iprop(∃ fd, (View.whole b).loc (c : Thread nD τ) ↦[(View.whole b).set]{fullShare} fd) := by
  rw [View.set_whole]

theorem land_of {c : Dev nD} (b : Ref sig .tc) (fd X : Buf (Elt F) ((c : Thread nD τ).loc b)) :
    ((View.whole b).loc (c : Thread nD τ) ↦[(View.whole b).set]{fullShare} (View.whole b).write (Elt F) fd X Finset.univ : sProp 𝕄)
      ⊢ ((c : Thread nD τ).loc b) ↦{fullShare} X := by
  rw [View.set_whole, View.write_whole_univ]

/-! ## The pipeline's data: one point, no windows -/

def dats (_ : Fin 1) (c : Dev nD) : Dat τ (Elt F) Unit ℕ UU ℕ cfg0 c where
  A w := w.elim0
  after w _ := w.elim0
  Φ t := match t with
    | ⟨0, _⟩ => Sending table (goods m) ER c Finset.univ
    | ⟨_ + 1, _⟩ => Waiting table (goods m) ER c ∅
  q _ := fullShare
  owed t := match t with
    | ⟨0, _⟩ => table.dues c Finset.univ
    | ⟨_ + 1, _⟩ => 0

abbrev 𝒱₀ : Variants := Variants.none

theorem room_open (i : Fin 3) (n : Dev nD) :
    (goods m).room i n ⊢ iprop(∃ fd, (resM i).view.loc (n : Thread nD τ) ↦[(resM i).view.set]{fullShare} fd) := by
  fin_cases i
  · exact room_of main_v1_0
  · exact room_of main_v1_1
  · exact room_of main_v1_2

theorem land_close (i : Fin 3) (c : Dev nD) (fd : Buf (Elt F) ((resM i).view.loc (peer c : Thread nD τ))) :
    ((resM i).view.loc (peer c : Thread nD τ) ↦[(resM i).view.set]{fullShare} (resM i).view.write (Elt F) fd (block m i c) Finset.univ : sProp 𝕄)
      ⊢ (goods m).landed i (peer c) := by
  fin_cases i
  · refine (land_of main_v1_0 fd (block m 0 c)).trans (Entails.of_eq ?_)
    show _ = (((peer c : Thread nD τ).loc main_v1_0) ↦{fullShare} block m 0 (peer (peer c)) : sProp 𝕄)
    rw [peer_peer]
  · refine (land_of main_v1_1 fd (block m 1 c)).trans (Entails.of_eq ?_)
    show _ = (((peer c : Thread nD τ).loc main_v1_1) ↦{fullShare} block m 1 (peer (peer c)) : sProp 𝕄)
    rw [peer_peer]
  · refine (land_of main_v1_2 fd (block m 2 c)).trans (Entails.of_eq ?_)
    show _ = (((peer c : Thread nD τ).loc main_v1_2) ↦{fullShare} block m 2 (peer (peer c)) : sProp 𝕄)
    rw [peer_peer]

theorem wp_copy {c n : Dev nD} {S : Finset (Fin 3)} (i : Fin 3) (hi : i ∈ S) (hn : n = peer c)
    {hsc : (show Memref sig (n.tc : Thread nD τ).2.kind .hbm S4x352x1024 .f32 from resM i).view.ref.isScScratch = false} {sS sem : SemLoc sig}
    (hS : sS = table.snd i) (hR : sem = table.rcv i)
    {hsrc : (halfM (argM i) c).view.WordExact} {hdst : (resM i).view.WordExact}
    {hsem : DmaTarget.Typed .hbm sem (.remote (n.tc : Thread nD τ) (resM i) sS hsc)}
    {α : Type} {Q : α → sProp 𝕄} {k : PUnit → Prog (TpuEff nD τ sig (Elt F) Λ₀ .tc) α} :
    iprop(Sending table (goods m) ER c S ∗ owing c (table.dues c S))
      ⊢ iprop(((Sending table (goods m) ER c (S.erase i) ∗ owing c (table.dues c (S.erase i)))
            -∗ wp frame (wpE (defs₀ (F := F)) 𝒱₀ (c.tc : Thread nD τ) none) Set.univ (k ⟨⟩) Q)
          -∗ wp frame (wpE (defs₀ (F := F)) 𝒱₀ (c.tc : Thread nD τ) none) Set.univ
              (.op (.enqueueDma (halfM (argM i) c) (.remote (n.tc : Thread nD τ) (resM i) sS hsc) sem hsrc hdst hsem) k) Q) := by
  subst hn
  refine wp_start table (goods m) ER (c := c) i hi rfl hS hR (src := halfM (argM i) c) (dst := resM i) ?_ _ rfl (room_open m i _) (fun fd => ?_)
  · subst hR; rfl
  · exact land_close m i c fd

set_option maxHeartbeats 1600000 in
theorem sound_body (c : Dev nD) :
    iprop(Sending table (goods m) ER c Finset.univ ∗ (dats m 0 c).owesAt () t0_0.castSucc)
      ⊢ wp frame (wpE (defs₀ (F := F)) 𝒱₀ c none) Set.univ
          (cc0_grad_swap_halves (Memref.whole main_arg0) (Memref.isWhole_whole _) (Memref.whole main_arg1) (Memref.isWhole_whole _)
            (Memref.whole main_arg2) (Memref.isWhole_whole _) (Memref.whole main_v1_0) (Memref.isWhole_whole _)
            (Memref.whole main_v1_1) (Memref.isWhole_whole _) (Memref.whole main_v1_2) (Memref.isWhole_whole _) cc0_scratch0 cc0_scratch1)
          (fun _ => iprop(Waiting table (goods m) ER c ∅ ∗ (dats m 0 c).owesAt () t0_0.succ)) := by
  simp only [cc0_grad_swap_halves_eq_skeleton]; unfold cc0_grad_swap_halves_skel
  simp only [k0_part3_eq_skeleton]; unfold k0_part3_skel
  simp only [k0_part2_eq_skeleton, k0_part1_eq_skeleton]; unfold k0_part1_skel k0_part2_skel
  simp only [Prog.lift, Prog.bind_op, Prog.bind_ret, Prog.pure_eq_ret, wp_deviceId]
  unfold Dat.owesAt Pipeline.owesWithin
  rw [show (dats m 0 c).owed t0_0.castSucc = table.dues c Finset.univ from rfl, show (dats m 0 c).owed t0_0.succ = 0 from rfl]
  iintro ⟨HS, ⟨%W, %hW, HO⟩⟩
  ihave HO := (show owes (c : Thread nD τ) (table.dues c Finset.univ) W ⊢ (owing c (table.dues c Finset.univ) : sProp 𝕄) from by unfold owing; iintro H; iexists W; iexact H) $$ HO
  iapply (wp_copy m (S := Finset.univ) 0 (by decide) (dev1_eq c) rfl rfl) $$ [HS HO]
  · isplitl [HS] <;> iassumption
  iintro H
  iapply (wp_copy m (S := (Finset.univ.erase 0)) 1 (by decide) (dev2_eq c) rfl rfl) $$ H
  iintro H
  iapply (wp_copy m (S := ((Finset.univ.erase 0).erase 1)) 2 (by decide) (dev3_eq c) rfl rfl) $$ H
  iintro H
  rw [show ((Finset.univ.erase (0 : Fin 3)).erase 1).erase 2 = ∅ from by decide, table.dues_empty]
  icases H with ⟨HS, HO⟩
  ihave HS := (waiting_of_sent table (goods m) ER c) $$ HS
  iapply (wp_finish table (goods m) ER (c := c) (S := Finset.univ) (.inl 0) (by decide) (wpE_waitDma2_eq 𝒱₀ (c : Thread nD τ) none Set.univ) rfl rfl) $$ [HS HO]
  · isplitl [HS] <;> iassumption
  iintro H
  iapply (wp_finish table (goods m) ER (c := c) (S := (Finset.univ.erase (.inl 0))) (.inr 0) (by decide) (wpE_waitDma2_eq 𝒱₀ (c : Thread nD τ) none Set.univ) rfl rfl) $$ H
  iintro H
  iapply (wp_finish table (goods m) ER (c := c) (S := ((Finset.univ.erase (.inl 0)).erase (.inr 0))) (.inl 1) (by decide) (wpE_waitDma2_eq 𝒱₀ (c : Thread nD τ) none Set.univ) rfl rfl) $$ H
  iintro H
  iapply (wp_finish table (goods m) ER (c := c) (S := (((Finset.univ.erase (.inl 0)).erase (.inr 0)).erase (.inl 1))) (.inr 1) (by decide) (wpE_waitDma2_eq 𝒱₀ (c : Thread nD τ) none Set.univ) rfl rfl) $$ H
  iintro H
  iapply (wp_finish table (goods m) ER (c := c) (S := ((((Finset.univ.erase (.inl 0)).erase (.inr 0)).erase (.inl 1)).erase (.inr 1))) (.inl 2) (by decide) (wpE_waitDma2_eq 𝒱₀ (c : Thread nD τ) none Set.univ) rfl rfl) $$ H
  iintro H
  iapply (wp_finish table (goods m) ER (c := c) (S := (((((Finset.univ.erase (.inl 0)).erase (.inr 0)).erase (.inl 1)).erase (.inr 1)).erase (.inl 2))) (.inr 2) (by decide) (wpE_waitDma2_eq 𝒱₀ (c : Thread nD τ) none Set.univ) rfl rfl) $$ H
  iintro H
  rw [show ((((((Finset.univ.erase (.inl 0)).erase (.inr 0)).erase (.inl 1)).erase (.inr 1)).erase (.inl 2)).erase (.inr 2)) = (∅ : Finset (Fin 3 ⊕ Fin 3)) from by decide]
  icases H with ⟨HS, HO⟩
  rw [wp_ret]; imodintro
  isplitl [HS]; · iexact HS
  unfold owing
  icases HO with ⟨%W', HO⟩
  iexists W'
  isplitr; · ipureintro; exact fun _ _ => Or.inl trivial
  iexact HO

theorem body_obligation (c : Dev nD) : BodyObligation (dats (F := F) m 0 c) (defs₀ (F := F)) 𝒱₀ () Set.univ := fun t => by
  rw [fin_N0 t]
  refine BIBase.Entails.trans ?_ (wp_mono frame _ _ (Q := fun _ => iprop(Waiting table (goods m) ER c ∅ ∗ (dats m 0 c).owesAt () t0_0.succ)) ?_)
  · refine BIBase.Entails.trans (Q := iprop(Sending table (goods m) ER c Finset.univ ∗ (dats m 0 c).owesAt () t0_0.castSucc)) ?_ (sound_body m c)
    show iprop(Sending table (goods m) ER c Finset.univ ∗ (dats m 0 c).owesAt () t0_0.castSucc ∗ _) ⊢ _
    iintro ⟨H1, H2, -⟩
    isplitl [H1] <;> iassumption
  · intro _
    rw [show (dats m 0 c).Φ t0_0.succ = Waiting table (goods m) ER c ∅ from rfl]
    iintro ⟨H1, H2⟩
    isplitl [H1]; · iexact H1
    isplitl [H2]; · iexact H2
    rw [Finset.univ_eq_empty, bigSep_empty]
    iempintro

/-! ## The launch -/

def u₀ : UU := (initOf (Pipeline.cells cfgs cellOf_inj) (Pipeline.launchToks cfgs cellOf_inj), initOf (cells table) (toks table))

theorem ownSemFacts : Pipeline.OwnSemFacts cfg0.spec table.sem := by decide

/-- What device `c` keeps of its arguments. -/
def kept (c : Dev nD) : sProp 𝕄 :=
  iprop((((c : Thread nD τ).loc main_arg0) ↦{fullShare.left} m ((c : Thread nD τ).loc main_arg0))
    ∗ (((c : Thread nD τ).loc main_arg1) ↦{fullShare.left} m ((c : Thread nD τ).loc main_arg1))
    ∗ (((c : Thread nD τ).loc main_arg2) ↦{fullShare.left} m ((c : Thread nD τ).loc main_arg2)))

theorem bigSep3 (Φ : Fin 3 → sProp 𝕄) : bigSep Finset.univ Φ = iprop(Φ 0 ∗ Φ 1 ∗ Φ 2) :=
  bigSep_univ_eq_bigSepL [0, 1, 2] (by decide) (by decide) Φ

/-- A device's arrays as what it keeps, what it lends and the room it offers. -/
theorem arrays (c : Dev nD) :
    (Pipeline.unscopedRest cfg0.spec c (fun b => m ((c : Thread nD τ).loc b)) : sProp 𝕄)
      ⊢ iprop(kept m c ∗ (bigSep Finset.univ fun i => (goods m).src i c) ∗ bigSep Finset.univ fun i => (goods m).room i c) := by
  rw [unscopedRest0_eq, bigSep3, bigSep3]
  iintro ⟨H0, H1, H2, R0, R1, R2⟩
  ihave H0 := (lend (halfM (argM 0) c).view.set (m ((c : Thread nD τ).loc main_arg0))) $$ H0
  ihave H1 := (lend (halfM (argM 1) c).view.set (m ((c : Thread nD τ).loc main_arg1))) $$ H1
  ihave H2 := (lend (halfM (argM 2) c).view.set (m ((c : Thread nD τ).loc main_arg2))) $$ H2
  icases H0 with ⟨K0, L0⟩
  icases H1 with ⟨K1, L1⟩
  icases H2 with ⟨K2, L2⟩
  isplitl [K0 K1 K2]
  · unfold kept
    isplitl [K0]; · iexact K0
    isplitl [K1] <;> iassumption
  unfold goods lent
  dsimp only
  isplitl [L0 L1 L2]
  · isplitl [L0]; · iexact L0
    isplitl [L1]; · iexact L1
    iexact L2
  isplitl [R0]; · iexists _; iexact R0
  isplitl [R1]; · iexists _; iexact R1
  iexists _; iexact R2

/-- What the final memory of device `c` holds. -/
def Ends (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_v1_0) = block m 0 (peer c)
  ∧ s.mem ((c : Thread nD τ).loc main_v1_1) = block m 1 (peer c)
  ∧ s.mem ((c : Thread nD τ).loc main_v1_2) = block m 2 (peer c)

theorem ends (c : Dev nD) (s' : Phys nD τ sig (Elt F)) :
    iprop((bigSep Finset.univ fun i => (goods m).landed i c) ∗ kept m c ∗ SI s') ⊢ |={Set.univ}=> iprop(⌜Ends m c s'.mem⌝ ∗ SI s' : sProp 𝕄) := by
  rw [bigSep3]
  unfold kept goods
  dsimp only
  iintro ⟨⟨R0, R1, R2⟩, ⟨K0, K1, K2⟩, HSI⟩
  ihave H := (read_whole _ s') $$ [K0 HSI]
  · isplitl [K0] <;> iassumption
  icases H with ⟨%h0, HSI⟩
  ihave H := (read_whole _ s') $$ [K1 HSI]
  · isplitl [K1] <;> iassumption
  icases H with ⟨%h1, HSI⟩
  ihave H := (read_whole _ s') $$ [K2 HSI]
  · isplitl [K2] <;> iassumption
  icases H with ⟨%h2, HSI⟩
  ihave H := (read_whole (ℓ := (c : Thread nD τ).loc main_v1_0) (block m 0 (peer c)) s') $$ [R0 HSI]
  · isplitl [R0] <;> iassumption
  icases H with ⟨%h3, HSI⟩
  ihave H := (read_whole (ℓ := (c : Thread nD τ).loc main_v1_1) (block m 1 (peer c)) s') $$ [R1 HSI]
  · isplitl [R1] <;> iassumption
  icases H with ⟨%h4, HSI⟩
  ihave H := (read_whole (ℓ := (c : Thread nD τ).loc main_v1_2) (block m 2 (peer c)) s') $$ [R2 HSI]
  · isplitl [R2] <;> iassumption
  icases H with ⟨%h5, HSI⟩
  imodintro
  isplitr
  · ipureintro; exact ⟨h0, h1, h2, h3, h4, h5⟩
  iexact HSI

set_option maxRecDepth 8000 in
/-- From any memory with every counter at zero, every fair execution of the eight devices ends; then each device's
    arguments are as before, its results hold its partner's halves, and every counter is at zero. -/
theorem run : θ_run defs (onTc (τ := τ) (main (F := F))) ⟨m, fun _ => 0, ρ⟩ (fun r => (∀ c, Ends m c r.2) ∧ r.2.sem = fun _ => 0) :=
  Pipeline.MemLaunch.run (fun p => (cfgs p).toPCfg) (fun p => (cfgs p).toPCfg_adm) (dats m) () cellOf_inj (0 : Fin 1)
    winFacts0.to₀ ownSemFacts EP defs₀ 𝒱₀ m ρ main
    (hmain := fun _ => rfl) (hpre := inferInstanceAs (IsEmpty (Fin 0)))
    (hbody := fun c => (body_obligation m c).loose) (hne := fun w => w.elim0) (harr := arr_whole0) (hstage := stage_whole0)
    (hshare := fun _ w => w.elim0) (hdistinct := winFacts0.arr_inj)
    (O₀ := fun c => table.dues c Finset.univ) (howed₀ := fun _ => rfl) (howedN := fun _ => rfl)
    (L := tcOnly) (lv := table.level) (hL := tcOnly_of_ne)
    (hwaits := fun c => Pipeline.cellsWaits_intro cfgs (dats m) () 0 c fun w s t => w.elim0)
    (G := fresh table (goods m) ER) (u₀ := u₀)
    (hu₀ := by
      unfold u₀
      iintro Hu
      ihave H := (ownU_pair _ _) $$ Hu
      icases H with ⟨HP, HX⟩
      imod (fresh_intro table (goods m) ER) $$ [HX] with HX
      · iexact HX
      imodintro
      isplitl [HP]; · iexact HP
      iexact HX)
    (hA := fun _ w => w.elim0)
    (X := fun c => Sending table (goods m) ER c Finset.univ) (Y := fun c => bigSep Finset.univ fun i => (goods m).landed i c) (Z := kept m)
    (hglob := deal table (goods m) ER (arrays m))
    (hin := fun c => by
      show iprop(Sending table (goods m) ER c Finset.univ ∗ _) ⊢ Sending table (goods m) ER c Finset.univ
      iintro ⟨H, -⟩; iexact H)
    (hout := fun c => by
      show Waiting table (goods m) ER c ∅ ⊢ _
      rw [show Pipeline.scopedRest _ c = (BI.emp : sProp 𝕄) from scopedRest0_eq c]
      iintro H
      ihave H := (waited table (goods m) ER c) $$ H
      icases H with ⟨Hz, -, Hl⟩
      isplitl [Hl]; · iexact Hl
      isplitl [Hz]; · iexact Hz
      iempintro)
    (QY := Ends m) (hY := ends m)
    (hQ := fun s h hs => ⟨fun c => (h c).2, sem_eq_zero_of_scoped (by decide) hs⟩)

end Cert.SwapProof

end
-- ==== Proof.HalfSwap.lean ====
/-
  The exchange of halves read at an index.

  The reference cuts an array of eight devices' blocks into chip, core, slab, half, row and column, and gives core 0 the
  first half of core 1's block and core 1 the second half of core 0's block. Here that chain of host operations is read
  at one index, for any number of rows and columns.
-/
module

public import Idealize.ShloMosaic.Lib.Pipeline.Value
public import Idealize.ShloMosaic.Lib.Layout
public import Mathlib.Tactic.Ring

@[expose] public section

noncomputable section

namespace Cert.HalfSwap

open Idealize.ShloMosaic

variable {α : Type} {R R2 C : ℕ}

abbrev Whole (R2 C : ℕ) : Shape := ⟨3, ![32, R2, C]⟩
abbrev Six (R C : ℕ) : Shape := ⟨6, ![4, 2, 4, 2, R, C]⟩
abbrev Cut (R C : ℕ) : Shape := ⟨6, ![4, 1, 4, 1, R, C]⟩
abbrev Four (R C : ℕ) : Shape := ⟨4, ![4, 4, R, C]⟩
abbrev Side (R C : ℕ) : Shape := ⟨5, ![4, 1, 4, R, C]⟩
abbrev Five (R C : ℕ) : Shape := ⟨5, ![4, 2, 4, R, C]⟩
abbrev Half (R C : ℕ) : Shape := ⟨3, ![32, R, C]⟩

/-- A rank-6 row-major position. -/
theorem rowMajor_six {d : Fin 6 → Nat} (i : (⟨6, d⟩ : Shape).Idx) :
    ((⟨6, d⟩ : Shape).rowMajor i).val
      = (((((i 0).val * d 1 + (i 1).val) * d 2 + (i 2).val) * d 3 + (i 3).val) * d 4 + (i 4).val) * d 5 + (i 5).val := by
  show (Shape.rowMajorPi d i).val = _
  simp only [Shape.rowMajorPi_succ_val, Shape.rowMajorPi_zero]
  simp [Fin.prod_univ_succ]
  show (i 0).val * (d 1 * (d 2 * (d 3 * (d 4 * d 5)))) + ((i 1).val * (d 2 * (d 3 * (d 4 * d 5))) + ((i 2).val * (d 3 * (d 4 * d 5))
    + ((i 3).val * (d 4 * d 5) + ((i 4).val * d 5 + (i 5).val)))) = _
  ring

/-- One core's side of the exchange: the half `h` of core `k`'s block of each chip. -/
def side (off : Fin 6 → ℕ) (g : (Whole R2 C).Idx → α) (h1 : (Whole R2 C).ShapeCasts (Six R C)) (h2 : (Six R C).Slices off (Cut R C))
    (h3 : (Cut R C).ShapeCasts (Four R C)) (h4 : (Four R C).BroadcastsInDim (Side R C) ![0, 2, 3, 4]) : (Side R C).Idx → α :=
  broadcastInDim (Side R C) ![0, 2, 3, 4] h4 (shapeCast (Four R C) (extractStridedSlice (Cut R C) off (shapeCast (Six R C) g h1) h2) h3)

/-- The whole exchange. -/
def swapped (g : (Whole R2 C).Idx → α) (h1 : (Whole R2 C).ShapeCasts (Six R C)) (h2 : (Six R C).Slices ![0, 1, 0, 0, 0, 0] (Cut R C))
    (h2' : (Six R C).Slices ![0, 0, 0, 1, 0, 0] (Cut R C))
    (h3 : (Cut R C).ShapeCasts (Four R C)) (h4 : (Four R C).BroadcastsInDim (Side R C) ![0, 2, 3, 4])
    (h5 : Shape.Concatenates [Side R C, Side R C] (Five R C) 1) (h6 : (Five R C).ShapeCasts (Half R C)) : (Half R C).Idx → α :=
  shapeCast (Half R C) (concatenate (Five R C) 1 [⟨Side R C, side ![0, 1, 0, 0, 0, 0] g h1 h2 h3 h4⟩, ⟨Side R C, side ![0, 0, 0, 1, 0, 0] g h1 h2' h3 h4⟩] h5) h6

def idx4 {a b c d : ℕ} (i : Fin a) (j : Fin b) (k : Fin c) (l : Fin d) : (⟨4, ![a, b, c, d]⟩ : Shape).Idx
  | ⟨0, _⟩ => i | ⟨1, _⟩ => j | ⟨2, _⟩ => k | ⟨3, _⟩ => l

def idx5 {a b c d e : ℕ} (i : Fin a) (j : Fin b) (k : Fin c) (l : Fin d) (n : Fin e) : (⟨5, ![a, b, c, d, e]⟩ : Shape).Idx
  | ⟨0, _⟩ => i | ⟨1, _⟩ => j | ⟨2, _⟩ => k | ⟨3, _⟩ => l | ⟨4, _⟩ => n

def idx6 {a b c d e f : ℕ} (i : Fin a) (j : Fin b) (k : Fin c) (l : Fin d) (n : Fin e) (o : Fin f) : (⟨6, ![a, b, c, d, e, f]⟩ : Shape).Idx
  | ⟨0, _⟩ => i | ⟨1, _⟩ => j | ⟨2, _⟩ => k | ⟨3, _⟩ => l | ⟨4, _⟩ => n | ⟨5, _⟩ => o

theorem side_apply (hR : R2 = 2 * R) (off : Fin 6 → ℕ) (k h : Fin 2) (hoff : off = ![0, k.val, 0, h.val, 0, 0]) (g : (Whole R2 C).Idx → α)
    (h1 : (Whole R2 C).ShapeCasts (Six R C)) (h2 : (Six R C).Slices off (Cut R C))
    (h3 : (Cut R C).ShapeCasts (Four R C)) (h4 : (Four R C).BroadcastsInDim (Side R C) ![0, 2, 3, 4])
    (hR1 : R ≠ 1) (hC1 : C ≠ 1) (chip s : Fin 4) (r : Fin R) (q : Fin C) (i : (Whole R2 C).Idx)
    (hi0 : (i 0).val = 8 * chip.val + 4 * k.val + s.val) (hi1 : (i 1).val = h.val * R + r.val) (hi2 : (i 2).val = q.val) :
    side off g h1 h2 h3 h4 (idx5 chip 0 s r q) = g i := by
  subst hoff
  unfold side
  refine (broadcastInDim_apply _ _ _ _ (idx4 chip s r q) ?_).trans ?_
  · intro a
    match a with
    | ⟨0, _⟩ => rfl
    | ⟨1, _⟩ => rfl
    | ⟨2, _⟩ => exact (if_neg hR1).symm
    | ⟨3, _⟩ => exact (if_neg hC1).symm
  refine (shapeCast_apply _ _ _ (idx6 chip 0 s 0 r q) ?_).trans ?_
  · rw [rowMajor_six, Shape.rowMajor_val_four]
    show ((((chip.val * 1 + 0) * 4 + s.val) * 1 + 0) * R + r.val) * C + q.val = ((chip.val * 4 + s.val) * R + r.val) * C + q.val
    ring
  refine (extractStridedSlice_apply _ _ _ _ (idx6 chip k s h r q) ?_).trans ?_
  · intro a
    match a with
    | ⟨0, _⟩ => show chip.val = 0 + chip.val; omega
    | ⟨1, _⟩ => show k.val = k.val + 0; omega
    | ⟨2, _⟩ => show s.val = 0 + s.val; omega
    | ⟨3, _⟩ => show h.val = h.val + 0; omega
    | ⟨4, _⟩ => show r.val = 0 + r.val; omega
    | ⟨5, _⟩ => show q.val = 0 + q.val; omega
  refine shapeCast_apply _ _ _ _ ?_
  rw [rowMajor_six, Shape.rowMajor_val_three]
  show ((i 0).val * R2 + (i 1).val) * C + (i 2).val
    = ((((chip.val * 2 + k.val) * 4 + s.val) * 2 + h.val) * R + r.val) * C + q.val
  rw [hi0, hi1, hi2, hR]
  ring

/-- Core `k` of a chip reads, at row `r` of a slab, row `k·R + r` of the same slab of the chip's other core. -/
theorem swapped_apply (hR : R2 = 2 * R) (g : (Whole R2 C).Idx → α) (h1 : (Whole R2 C).ShapeCasts (Six R C))
    (h2 : (Six R C).Slices ![0, 1, 0, 0, 0, 0] (Cut R C)) (h2' : (Six R C).Slices ![0, 0, 0, 1, 0, 0] (Cut R C))
    (h3 : (Cut R C).ShapeCasts (Four R C)) (h4 : (Four R C).BroadcastsInDim (Side R C) ![0, 2, 3, 4])
    (h5 : Shape.Concatenates [Side R C, Side R C] (Five R C) 1) (h6 : (Five R C).ShapeCasts (Half R C))
    (hR1 : R ≠ 1) (hC1 : C ≠ 1) (chip s : Fin 4) (k : Fin 2) (r : Fin R) (q : Fin C) (j : (Half R C).Idx) (i : (Whole R2 C).Idx)
    (hj0 : (j 0).val = 8 * chip.val + 4 * k.val + s.val) (hj1 : (j 1).val = r.val) (hj2 : (j 2).val = q.val)
    (hi0 : (i 0).val = 8 * chip.val + 4 * (1 - k.val) + s.val) (hi1 : (i 1).val = k.val * R + r.val) (hi2 : (i 2).val = q.val) :
    swapped g h1 h2 h2' h3 h4 h5 h6 j = g i := by
  unfold swapped
  refine (shapeCast_apply _ _ _ (idx5 chip k s r q) ?_).trans ?_
  · rw [Shape.rowMajor_val_five, Shape.rowMajor_val_three]
    show ((((chip.val * 2 + k.val) * 4 + s.val) * R + r.val) * C + q.val) = ((j 0).val * R + (j 1).val) * C + (j 2).val
    rw [hj0, hj1, hj2]
    ring
  match k with
  | ⟨0, _⟩ =>
    refine (concatenate_pair_apply_left (t := Five R C) 1 _ _ h5 _ rfl (idx5 chip (0 : Fin 1) s r q) ?_).trans ?_
    · intro a
      match a with
      | ⟨0, _⟩ => rfl
      | ⟨1, _⟩ => rfl
      | ⟨2, _⟩ => rfl
      | ⟨3, _⟩ => rfl
      | ⟨4, _⟩ => rfl
    · exact side_apply hR _ 1 0 rfl g h1 h2 h3 h4 hR1 hC1 chip s r q i hi0 hi1 hi2
  | ⟨1, _⟩ =>
    refine (concatenate_pair_apply_right (t := Five R C) 1 _ _ h5 _ rfl rfl (idx5 chip (0 : Fin 1) s r q) ?_ rfl).trans ?_
    · intro a ha
      match a with
      | ⟨0, _⟩ => rfl
      | ⟨1, _⟩ => exact absurd rfl ha
      | ⟨2, _⟩ => rfl
      | ⟨3, _⟩ => rfl
      | ⟨4, _⟩ => rfl
    · exact side_apply hR _ 0 1 rfl g h1 h2' h3 h4 hR1 hC1 chip s r q i hi0 hi1 hi2

/-- Device `c`'s block of the exchanged array, from the blocks of the whole array: entry `(s, r, q)` is entry
    `(s, k·R + r, q)` of the block of the other core, `k` the core of `c`. -/
theorem block_swapped (hR : R2 = 2 * R) (g : (Whole R2 C).Idx → α) (h1 : (Whole R2 C).ShapeCasts (Six R C))
    (h2 : (Six R C).Slices ![0, 1, 0, 0, 0, 0] (Cut R C)) (h2' : (Six R C).Slices ![0, 0, 0, 1, 0, 0] (Cut R C))
    (h3 : (Cut R C).ShapeCasts (Four R C)) (h4 : (Four R C).BroadcastsInDim (Side R C) ![0, 2, 3, 4])
    (h5 : Shape.Concatenates [Side R C, Side R C] (Five R C) 1) (h6 : (Five R C).ShapeCasts (Half R C))
    (hR1 : R ≠ 1) (hC1 : C ≠ 1) (c d : Fin 8) (hd : d.val = 2 * (c.val / 2) + (1 - c.val % 2))
    (hb : Layout.Tiles ⟨3, ![4, R, C]⟩ (Half R C) 0 8) (hw : Layout.Tiles ⟨3, ![4, R2, C]⟩ (Whole R2 C) 0 8)
    (j : (⟨3, ![4, R, C]⟩ : Shape).Idx) (i : (⟨3, ![4, R2, C]⟩ : Shape).Idx)
    (hi0 : (i 0).val = (j 0).val) (hi1 : (i 1).val = c.val % 2 * R + (j 1).val) (hi2 : (i 2).val = (j 2).val) :
    Layout.block ⟨3, ![4, R, C]⟩ (Half R C) 0 8 c (swapped g h1 h2 h2' h3 h4 h5 h6) hb j = Layout.block ⟨3, ![4, R2, C]⟩ (Whole R2 C) 0 8 d g hw i := by
  have hc := c.isLt
  have hj := (j 0).isLt
  change (j 0).val < 4 at hj
  refine swapped_apply hR g h1 h2 h2' h3 h4 h5 h6 hR1 hC1 ⟨c.val / 2, by omega⟩ (j 0) ⟨c.val % 2, by omega⟩ (j 1) (j 2) _ _ ?_ ?_ ?_ ?_ ?_ ?_ <;>
    rw [Layout.Tiles.idx_val]
  · show c.val * 4 + (j 0).val = 8 * (c.val / 2) + 4 * (c.val % 2) + (j 0).val; omega
  · rfl
  · rfl
  · show d.val * 4 + (i 0).val = 8 * (c.val / 2) + 4 * (1 - c.val % 2) + (j 0).val; omega
  · exact hi1
  · exact hi2

theorem kept_half (R c : ℕ) : R - R * ((2 * (c / 2) + (1 - c % 2)) % 2) = c % 2 * R := by
  rcases (by omega : c % 2 = 0 ∨ c % 2 = 1) with h | h
  · rw [show (2 * (c / 2) + (1 - c % 2)) % 2 = 1 by omega, h, Nat.mul_one, Nat.sub_self, Nat.zero_mul]
  · rw [show (2 * (c / 2) + (1 - c % 2)) % 2 = 0 by omega, h, Nat.mul_zero, Nat.sub_zero, Nat.one_mul]

/-- The half that device `c`'s partner `d` sends is device `c`'s block of the exchanged array. -/
theorem half_eq (hR : R2 = 2 * R) (hR1 : R ≠ 1) (hC1 : C ≠ 1) (c d : Fin 8) (hd : d.val = 2 * (c.val / 2) + (1 - c.val % 2))
    (off : Fin 3 → ℕ) (ho : off = ![0, R - R * (d.val % 2), 0])
    (inb : ∀ a, off a + (⟨3, ![4, R, C]⟩ : Shape).size a ≤ (⟨3, ![4, R2, C]⟩ : Shape).size a)
    (hb : Layout.Tiles ⟨3, ![4, R, C]⟩ (Half R C) 0 8) (hw : Layout.Tiles ⟨3, ![4, R2, C]⟩ (Whole R2 C) 0 8)
    (x : (⟨3, ![4, R2, C]⟩ : Shape).Idx → α) (g : (Whole R2 C).Idx → α) (hx : x = Layout.block ⟨3, ![4, R2, C]⟩ (Whole R2 C) 0 8 d g hw)
    (h1 : (Whole R2 C).ShapeCasts (Six R C)) (h2 : (Six R C).Slices ![0, 1, 0, 0, 0, 0] (Cut R C))
    (h2' : (Six R C).Slices ![0, 0, 0, 1, 0, 0] (Cut R C))
    (h3 : (Cut R C).ShapeCasts (Four R C)) (h4 : (Four R C).BroadcastsInDim (Side R C) ![0, 2, 3, 4])
    (h5 : Shape.Concatenates [Side R C, Side R C] (Five R C) 1) (h6 : (Five R C).ShapeCasts (Half R C)) :
    (fun j => x ((Rect.unit (s := ⟨3, ![4, R2, C]⟩) off (⟨3, ![4, R, C]⟩ : Shape).size inb).emb j))
      = Layout.block ⟨3, ![4, R, C]⟩ (Half R C) 0 8 c (swapped g h1 h2 h2' h3 h4 h5 h6) hb := by
  subst hx
  funext j
  rw [hd, kept_half] at ho
  subst ho
  refine (block_swapped hR g h1 h2 h2' h3 h4 h5 h6 hR1 hC1 c d hd hb hw j _ ?_ ?_ ?_).symm
  all_goals rw [Rect.emb_apply]
  · show 0 + 1 * (j 0).val = (j 0).val; omega
  · show c.val % 2 * R + 1 * (j 1).val = c.val % 2 * R + (j 1).val; omega
  · show 0 + 1 * (j 2).val = (j 2).val; omega

end Cert.HalfSwap

end
-- ==== Proof.SwapValue.lean ====
/-
  The claims of `grad_swap_halves`: the frames, and the values against the reference, for any float values.
-/
module

public import proofs.«01_k».proof.Defs
public import proofs.«01_k».proof.Proof.Swap
public import proofs.«01_k».proof.Proof.HalfSwap
public import proofs.«01_k».proof.Proof.Gen.Swap
public import proofs.«01_k».proof.Proof.Gen.SwapRef
public import proofs.«01_k».proof.Proof.Gen.SwapRef.Run
public import proofs.«01_k».proof.Proof.Gen.SwapRefIdeal
public import proofs.«01_k».proof.Proof.Gen.SwapRefIdeal.Run

@[expose] public section

noncomputable section

namespace Cert.SwapValue

open Idealize.ShloMosaic Idealize.ShloMosaic.TcCoe Idealize.SL.Sem
open Cert.SwapIdeal Cert.SwapIdeal.Gen Cert.SwapProof Cert.HalfSwap

variable {F : FTy → Type} [FloatOps F]

/-- The reference's buffer `b` on device `c`. -/
abbrev refAt (c : Dev Cert.SwapRefIdeal.nD) (b : Ref Cert.SwapRefIdeal.sig .tc) := (c.tc : Thread Cert.SwapRefIdeal.nD Cert.SwapRefIdeal.τ).loc b

/-- The half that device `c`'s partner sends is device `c`'s block of the exchanged array. -/
theorem half_eq {α : Type} (c : Dev nD) (x : S4x704x1024.Idx → α) (g : (Whole 704 1024).Idx → α)
    (hx : x = Layout.block ⟨3, ![4, 704, 1024]⟩ ⟨3, ![32, 704, 1024]⟩ 0 8 (peer c) g)
    (h1 : (Whole 704 1024).ShapeCasts (Six 352 1024)) (h2 : (Six 352 1024).Slices ![0, 1, 0, 0, 0, 0] (Cut 352 1024))
    (h2' : (Six 352 1024).Slices ![0, 0, 0, 1, 0, 0] (Cut 352 1024))
    (h3 : (Cut 352 1024).ShapeCasts (Four 352 1024)) (h4 : (Four 352 1024).BroadcastsInDim (Side 352 1024) ![0, 2, 3, 4])
    (h5 : Shape.Concatenates [Side 352 1024, Side 352 1024] (Five 352 1024) 1) (h6 : (Five 352 1024).ShapeCasts (Half 352 1024)) :
    (fun j => x ((Rect.unit (s := S4x704x1024) (k0_off1 (peer c)) S4x352x1024.size (k0_off1_inb (peer c))).emb j))
      = Layout.block ⟨3, ![4, 352, 1024]⟩ ⟨3, ![32, 352, 1024]⟩ 0 8 c (swapped g h1 h2 h2' h3 h4 h5 h6) :=
  HalfSwap.half_eq rfl (by decide) (by decide) c (peer c) rfl _ (k0_off1_eq (peer c)) _ _ _ x g hx h1 h2 h2' h3 h4 h5 h6

theorem kernel_frame (m : (ℓ : Loc nD τ Cert.SwapIdeal.sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1, (h.1 c).2.1, (h.1 c).2.2.1⟩, h.2⟩) (run m ρ)

/-- From a whole array's blocks as arguments, each device's results are its blocks of the exchanged arrays. -/
theorem values (m : (ℓ : Loc nD τ Cert.SwapIdeal.sig) → Buf (Elt F) ℓ) (ρ : Dev nD → PrngReg)
    (m' : (ℓ : Loc Cert.SwapRefIdeal.nD Cert.SwapRefIdeal.τ Cert.SwapRefIdeal.sig) → Buf (Elt F) ℓ) (ρ' : Dev Cert.SwapRefIdeal.nD → PrngReg)
    (hm : ∀ c : Dev nD,
      m ((c.tc : Thread nD τ).loc main_arg0) = Layout.block ⟨3, ![4, 704, 1024]⟩ ⟨3, ![32, 704, 1024]⟩ 0 8 c (m' (refAt 0 Cert.SwapRefIdeal.main_arg0))
      ∧ m ((c.tc : Thread nD τ).loc main_arg1) = Layout.block ⟨3, ![4, 704, 1024]⟩ ⟨3, ![32, 704, 1024]⟩ 0 8 c (m' (refAt 0 Cert.SwapRefIdeal.main_arg1))
      ∧ m ((c.tc : Thread nD τ).loc main_arg2) = Layout.block ⟨3, ![4, 704, 1024]⟩ ⟨3, ![32, 704, 1024]⟩ 0 8 c (m' (refAt 0 Cert.SwapRefIdeal.main_arg2))) :
    ∃ (v0 v1 v2 : (⟨⟨3, ![32, 352, 1024]⟩, .f32⟩ : BufTy).Contents (Elt F)),
      θ_run (defs (F := F)) (onTc (τ := τ) (main (F := F))) ⟨m, fun _ => 0, ρ⟩ (fun r => ∀ c : Dev nD,
          r.2.mem ((c.tc : Thread nD τ).loc main_v1_0) = Layout.block ⟨3, ![4, 352, 1024]⟩ ⟨3, ![32, 352, 1024]⟩ 0 8 c v0
          ∧ r.2.mem ((c.tc : Thread nD τ).loc main_v1_1) = Layout.block ⟨3, ![4, 352, 1024]⟩ ⟨3, ![32, 352, 1024]⟩ 0 8 c v1
          ∧ r.2.mem ((c.tc : Thread nD τ).loc main_v1_2) = Layout.block ⟨3, ![4, 352, 1024]⟩ ⟨3, ![32, 352, 1024]⟩ 0 8 c v2
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2))
      ∧ θ_run (Cert.SwapRefIdeal.defs (F := F)) (onTc (τ := Cert.SwapRefIdeal.τ) (Cert.SwapRefIdeal.main (F := F))) ⟨m', fun _ => 0, ρ'⟩ (fun r =>
          r.2.mem (refAt 0 Cert.SwapRefIdeal.main_v8) = v0
          ∧ r.2.mem (refAt 0 Cert.SwapRefIdeal.main_v17) = v1
          ∧ r.2.mem (refAt 0 Cert.SwapRefIdeal.main_v26) = v2
          ∧ r.2.mem (refAt 0 Cert.SwapRefIdeal.main_arg0) = m' (refAt 0 Cert.SwapRefIdeal.main_arg0)
          ∧ r.2.mem (refAt 0 Cert.SwapRefIdeal.main_arg1) = m' (refAt 0 Cert.SwapRefIdeal.main_arg1)
          ∧ r.2.mem (refAt 0 Cert.SwapRefIdeal.main_arg2) = m' (refAt 0 Cert.SwapRefIdeal.main_arg2)) :=
  ⟨_, _, _,
    (θ_run defs _ _).mono (fun r h c => by
      obtain ⟨h0, h1, h2, h3, h4, h5⟩ := h.1 c
      exact ⟨h3.trans (half_eq c _ _ (hm (peer c)).1 _ _ _ _ _ _ _), h4.trans (half_eq c _ _ (hm (peer c)).2.1 _ _ _ _ _ _ _),
        h5.trans (half_eq c _ _ (hm (peer c)).2.2 _ _ _ _ _ _ _), h0, h1, h2⟩) (run m ρ),
    (θ_run Cert.SwapRefIdeal.defs _ _).mono (fun r h => h 0) (Cert.SwapRefIdeal.Value.run (F := F) m' ρ')⟩

/-! ## The claims -/

theorem frame_bits : Cert.quiescent_Swap := fun m ρ _ => kernel_frame (F := Bits) m ρ
theorem frame_ideal : Cert.quiescent_SwapIdeal := fun m ρ _ => kernel_frame (F := Ideal) m ρ

theorem ref_frame (m : (ℓ : Loc Cert.SwapRefIdeal.nD Cert.SwapRefIdeal.τ Cert.SwapRefIdeal.sig) → Buf (Elt F) ℓ) (ρ) :
    θ_run (Cert.SwapRefIdeal.defs (F := F)) (onTc (τ := Cert.SwapRefIdeal.τ) (Cert.SwapRefIdeal.main (F := F))) ⟨m, fun _ => 0, ρ⟩ (fun r =>
      (∀ c : Dev Cert.SwapRefIdeal.nD,
        r.2.mem (refAt c Cert.SwapRefIdeal.main_arg0) = m (refAt c Cert.SwapRefIdeal.main_arg0)
        ∧ r.2.mem (refAt c Cert.SwapRefIdeal.main_arg1) = m (refAt c Cert.SwapRefIdeal.main_arg1)
        ∧ r.2.mem (refAt c Cert.SwapRefIdeal.main_arg2) = m (refAt c Cert.SwapRefIdeal.main_arg2))
      ∧ r.2.sem = fun _ => 0) :=
  (θ_run Cert.SwapRefIdeal.defs _ _).mono (fun r h => ⟨fun c => (h c).2.2.2, sem_eq_zero_of_no_sems rfl _⟩) (Cert.SwapRefIdeal.Value.run (F := F) m ρ)

theorem ref_frame_bits : Cert.quiescent_SwapRef := fun m ρ _ => ref_frame (F := Bits) m ρ
theorem ref_frame_ideal : Cert.quiescent_SwapRefIdeal := fun m ρ _ => ref_frame (F := Ideal) m ρ

theorem algebraic : Cert.algebraic_SwapIdeal_SwapRefIdeal := fun m ρ m' ρ' _ hm => values (F := Ideal) m ρ m' ρ' hm
theorem bitexact : Cert.bitexact_Swap_SwapRef := fun m ρ m' ρ' _ hm => values (F := Bits) m ρ m' ρ' hm

end Cert.SwapValue

end
-- ==== Proof.InScatter.lean ====
/-
  The kernel `ffn1_bwd_in`: the gradient through the first projections of a feed-forward block and a norm, with a scatter
  riding along.

  The grid has sixteen row tiles of four slabs. For each row tile the kernel adds up, over the four slabs, two products in a
  scratch array; at the last slab it finishes the gradient of the norm for the rows of the tile, and adds the tile's part of
  the gradient of the gain to the second result.

  Along with it every device sends the blocks of three arrays to the same core of the three other chips (`Scatter`). The
  copies start at the first grid point and are waited for at the last. The run is written for any float values.
-/
module

public import Idealize.ShloMosaic.Lib.Pipeline.TableIdle
public import proofs.«01_k».proof.Proof.MemLaunch
public import proofs.«01_k».proof.Proof.Scatter
public import proofs.«01_k».proof.Proof.Staged
public import proofs.«01_k».proof.Proof.Gen.InScatterIdeal
public import proofs.«01_k».proof.Proof.Gen.InScatterIdeal.Skeleton
public import proofs.«01_k».proof.Proof.Gen.InScatterIdeal.Launch
public import proofs.«01_k».proof.Proof.Gen.InScatterIdeal.Points
public import proofs.«01_k».proof.Proof.Gen.InScatterIdeal.Frame

@[expose] public section

noncomputable section

namespace Cert.InScatterProof

open Cert.InScatterIdeal Cert.InScatterIdeal.Gen Cert.Exchange Cert.Scatter Cert.Staged
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU : Type := UR sig nD τ × UR sig nD τ
local notation "𝕄" => MT nD τ sig Unit (Elt F) ℕ UU ℕ
abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-! ## The table of copies -/

abbrev p₀ : grid0.Coords := grid0.coords ⟨0, by decide⟩
theorem first : k0_cond1 p₀ = 1#1 := by decide +kernel

/-- The arrays sent, and the arrays of the blocks received. -/
abbrev argM (a : Fin 3) : Memref sig .tc .hbm S4x352x1024 .bf16 :=
  match a with | 0 => Memref.whole main_arg7 | 1 => Memref.whole main_arg8 | 2 => Memref.whole main_arg9
abbrev outM (a : Fin 3) : Memref sig .tc .hbm S3x352x1024 .bf16 :=
  match a with | 0 => Memref.whole main_v1_2 | 1 => Memref.whole main_v1_3 | 2 => Memref.whole main_v1_4
/-- The block that device `c` sends in copy `i`. -/
abbrev srcM (i : Fin 3 × Fin 3) (c : Dev nD) : Memref sig .tc .hbm S352x1024 .bf16 :=
  match i.2 with
  | 0 => ((argM i.1).slice (Rect.unit (s := S4x352x1024) (k0_off1 c) S1x352x1024.size (k0_off1_inb p₀ c first)) (fun _ => rfl)).squeeze S352x1024 squeezes_S1x352x1024_S352x1024
  | 1 => ((argM i.1).slice (Rect.unit (s := S4x352x1024) (k0_off2 c) S1x352x1024.size (k0_off2_inb p₀ c first)) (fun _ => rfl)).squeeze S352x1024 squeezes_S1x352x1024_S352x1024
  | 2 => ((argM i.1).slice (Rect.unit (s := S4x352x1024) (k0_off3 c) S1x352x1024.size (k0_off3_inb p₀ c first)) (fun _ => rfl)).squeeze S352x1024 squeezes_S1x352x1024_S352x1024
/-- The slab into which copy `i` lands. -/
abbrev resM (i : Fin 3 × Fin 3) : Memref sig .tc .hbm S352x1024 .bf16 :=
  match i.2 with
  | 0 => ((outM i.1).slice (Rect.unit (s := S3x352x1024) ![0, 0, 0] S1x352x1024.size inb_S3x352x1024_S1x352x1024_0_0_0) (fun _ => rfl)).squeeze S352x1024 squeezes_S1x352x1024_S352x1024
  | 1 => ((outM i.1).slice (Rect.unit (s := S3x352x1024) ![1, 0, 0] S1x352x1024.size inb_S3x352x1024_S1x352x1024_1_0_0) (fun _ => rfl)).squeeze S352x1024 squeezes_S1x352x1024_S352x1024
  | 2 => ((outM i.1).slice (Rect.unit (s := S3x352x1024) ![2, 0, 0] S1x352x1024.size inb_S3x352x1024_S1x352x1024_2_0_0) (fun _ => rfl)).squeeze S352x1024 squeezes_S1x352x1024_S352x1024

def table : Table sig nD (Fin 3 × Fin 3) where
  peer i := peer i.2
  snd i := .dma (match i.1, i.2 with | 0, 0 => 16 | 0, 1 => 17 | 0, 2 => 18 | 1, 0 => 19 | 1, 1 => 20 | 1, 2 => 21 | 2, 0 => 22 | 2, 1 => 23 | 2, 2 => 24)
  rcv i := .dma (match i.1, i.2 with | 0, 0 => 25 | 0, 1 => 26 | 0, 2 => 27 | 1, 0 => 28 | 1, 1 => 29 | 1, 2 => 30 | 2, 0 => 31 | 2, 1 => 32 | 2, 2 => 33)
  amt i := (resM i).view.dmaCredit
  back i := peer_peer i.2
  inj := by decide
  pos i := by obtain ⟨a, k⟩ := i; fin_cases k <;> exact View.dmaCredit_pos _ (by decide)

/-- The block device `c` sends in copy `i`, as it is at launch. -/
def block (i : Fin 3 × Fin 3) (c : Dev nD) : (⟨S352x1024, .bf16⟩ : BufTy).Contents (Elt F) :=
  (srcM i c).view.read (Elt F) (m ((srcM i c).view.loc (c : Thread nD τ)))

/-- The share at which the block of copy `i` is lent. -/
def portion (k : Fin 3) : PosShare TreeShare :=
  match k with | 0 => fullShare.right | 1 => fullShare.left.right | 2 => fullShare.left.left.right

/-- Copy `i` in terms of arrays: the block is lent, the slab is offered and comes back filled. -/
def goods : Goods τ sig nD (Fin 3 × Fin 3) (Elt F) UU where
  src i c := iprop((srcM i c).view.loc (c : Thread nD τ) ↦[(srcM i c).view.set]{portion i.2} m ((srcM i c).view.loc (c : Thread nD τ)))
  landed i c := filled (resM i).view c (m ((resM i).view.loc (c : Thread nD τ))) (block m i (peer i.2 c))
  room i c := iprop(∃ f, (resM i).view.loc (c : Thread nD τ) ↦[(resM i).view.set]{fullShare} f)
  src_storable i c := by infer_instance
  landed_storable i c := by infer_instance

theorem land_close (i : Fin 3 × Fin 3) (c : Dev nD) (fd : Buf (Elt F) ((resM i).view.loc (peer i.2 c : Thread nD τ))) :
    ((resM i).view.loc (peer i.2 c : Thread nD τ) ↦[(resM i).view.set]{fullShare} (resM i).view.write (Elt F) fd (block m i c) Finset.univ : sProp 𝕄)
      ⊢ (goods m).landed i (peer i.2 c) := by
  have hb : block m i c = block m i (peer i.2 (peer i.2 c)) := by rw [peer_peer]
  rw [hb]
  exact filled_of (resM i).view (peer i.2 c) fd _ _

abbrev 𝒱₀ : Variants := Variants.none

theorem wp_copy {c n' : Dev nD} {n : ℕ} (i : Fin 3 × Fin 3) (hi : place i = n) (hn : n' = peer i.2 c)
    {hsc : (show Memref sig (n'.tc : Thread nD τ).2.kind .hbm S352x1024 .bf16 from resM i).view.ref.isScScratch = false} {sS sem : SemLoc sig}
    (hS : sS = table.snd i) (hR : sem = table.rcv i)
    {hsrc : (srcM i c).view.WordExact} {hdst : (resM i).view.WordExact}
    {hsem : DmaTarget.Typed .hbm sem (.remote (n'.tc : Thread nD τ) (resM i) sS hsc)}
    {α : Type} {Q : α → sProp 𝕄} {k : PUnit → Prog (TpuEff nD τ sig (Elt F) Λ₀ .tc) α} :
    iprop(Sending table (goods m) ER c (left 3 n) ∗ owing c (table.dues c (left 3 n)))
      ⊢ iprop(((Sending table (goods m) ER c (left 3 (n + 1)) ∗ owing c (table.dues c (left 3 (n + 1))))
            -∗ wp frame (wpE (defs₀ (F := F)) 𝒱₀ (c.tc : Thread nD τ) none) Set.univ (k ⟨⟩) Q)
          -∗ wp frame (wpE (defs₀ (F := F)) 𝒱₀ (c.tc : Thread nD τ) none) Set.univ
              (.op (.enqueueDma (srcM i c) (.remote (n'.tc : Thread nD τ) (resM i) sS hsc) sem hsrc hdst hsem) k) Q) := by
  subst hn
  have h := filter_erase place place_inj i n hi
  unfold left
  rw [← h.2]
  refine wp_start table (goods m) ER (c := c) i h.1 rfl hS hR (src := srcM i c) (dst := resM i) ?_ _ rfl .rfl (fun fd => ?_)
  · subst hR; rfl
  · exact land_close m i c fd

/-! ## The body -/

/-- What is in flight before the first point, between the first and the last, and after the last. -/
def before (c : Dev nD) : sProp 𝕄 := iprop(Sending table (goods m) ER c Finset.univ ∗ owing c (table.dues c Finset.univ))
def flying (c : Dev nD) : sProp 𝕄 := iprop(Waiting table (goods m) ER c Finset.univ ∗ owing c 0)
def arrived (c : Dev nD) : sProp 𝕄 := iprop(Waiting table (goods m) ER c ∅ ∗ owing c 0)

section body

variable (c : Dev nD) (i : grid0.Coords)
  (a2 : Memref sig .tc .vmem S1x512x704 .bf16) (h2 : a2.IsWhole)
  (a3 : Memref sig .tc .vmem S1x512x704 .bf16) (h3 : a3.IsWhole)
  (a4 : Memref sig .tc .vmem S1x1024x704 .bf16) (h4 : a4.IsWhole)
  (a5 : Memref sig .tc .vmem S1x1024x704 .bf16) (h5 : a5.IsWhole)
  (a6 : Memref sig .tc .vmem S512x1024 .f32) (h6 : a6.IsWhole)
  (a7 : Memref sig .tc .vmem S512x1024 .f32) (h7 : a7.IsWhole)
  (a8 : Memref sig .tc .vmem S1x1024 .f32) (h8 : a8.IsWhole)
  (a12 : Memref sig .tc .vmem S512x1024 .f32) (h12 : a12.IsWhole)
  (a13 : Memref sig .tc .vmem S8x1024 .f32) (h13 : a13.IsWhole)
  (X2 X3 : Vec F S1x512x704 .bf16) (X4 X5 : Vec F S1x1024x704 .bf16) (X6 X7 : Vec F S512x1024 .f32) (X8 : Vec F S1x1024 .f32)

/-- The staged blocks and the scratch array, with what the written ones hold. -/
def held (X12 : Vec F S512x1024 .f32) (X13 : Vec F S8x1024 .f32) (f : Vec F S512x1024 .f32) : sProp 𝕄 :=
  iprop(owns (c : Thread nD τ) a2 fullShare X2 ∗ owns (c : Thread nD τ) a3 fullShare X3 ∗ owns (c : Thread nD τ) a4 fullShare X4 ∗ owns (c : Thread nD τ) a5 fullShare X5 ∗ owns (c : Thread nD τ) a6 fullShare X6 ∗ owns (c : Thread nD τ) a7 fullShare X7 ∗ owns (c : Thread nD τ) a8 fullShare X8 ∗ owns (c : Thread nD τ) a12 fullShare X12 ∗ owns (c : Thread nD τ) a13 fullShare X13
    ∗ owns (c : Thread nD τ) (Memref.whole cc0_scratch0) fullShare f)

/-- Whether a point is the first of its row tile. -/
def cond4 (i : grid0.Coords) : BitVec 1 := Scalar.cmpi .ne (Scalar.extui (Scalar.cmpi .eq (BitVec.ofNat 32 (i 1).val) 0#32)) 0#32

/-- The running sum after a point. -/
def accOf (i : grid0.Coords) (f : Vec F S512x1024 .f32) : Vec F S512x1024 .f32 :=
  k0_pay1 (if cond4 i = 1#1 then k0_pay8 else f) (k0_pay9 X2 X4) (k0_pay10 X3) (k0_pay11 X5)

theorem zero2 : (![0, 0] : Fin 2 → ℕ) = fun _ => 0 := by funext a; fin_cases a <;> rfl
theorem zero3 : (![0, 0, 0] : Fin 3 → ℕ) = fun _ => 0 := by funext a; fin_cases a <;> rfl

set_option maxHeartbeats 1600000 in
theorem sound_body (X12 : Vec F S512x1024 .f32) (X13 : Vec F S8x1024 .f32) (f : Vec F S512x1024 .f32) :
    iprop((if k0_cond1 i = 1#1 then before m c else flying m c) ∗ held c a2 a3 a4 a5 a6 a7 a8 a12 a13 X2 X3 X4 X5 X6 X7 X8 X12 X13 f)
      ⊢ wp frame (wpE (defs₀ (F := F)) 𝒱₀ c none) Set.univ
          (cc0_ffn1_bwd_in i a2 h2 a3 h3 a4 h4 a5 h5 a6 h6 a7 h7 a8 h8 (Memref.whole main_arg7) (Memref.isWhole_whole _) (Memref.whole main_arg8) (Memref.isWhole_whole _) (Memref.whole main_arg9) (Memref.isWhole_whole _)
            a12 h12 a13 h13 (Memref.whole main_v1_2) (Memref.isWhole_whole _) (Memref.whole main_v1_3) (Memref.isWhole_whole _) (Memref.whole main_v1_4) (Memref.isWhole_whole _) (Memref.whole cc0_scratch0) (Memref.isWhole_whole _) cc0_scratch1 cc0_scratch2)
          (fun _ => iprop((if k0_cond2 i = 1#1 then arrived m c else flying m c)
            ∗ held c a2 a3 a4 a5 a6 a7 a8 a12 a13 X2 X3 X4 X5 X6 X7 X8
                (if k0_cond5 i = 1#1 then k0_pay5 X8 X7 (accOf X2 X3 X4 X5 i f) X6 else X12)
                (if k0_cond5 i = 1#1 then k0_pay6 X7 (accOf X2 X3 X4 X5 i f) (if k0_cond3 i = 1#1 then k0_pay7 else X13)
                  else if k0_cond3 i = 1#1 then k0_pay7 else X13)
                (accOf X2 X3 X4 X5 i f))) := by
  simp only [cc0_ffn1_bwd_in_eq_skeleton]; unfold cc0_ffn1_bwd_in_skel
  simp only [k0_part13_eq_skeleton, k0_part14_eq_skeleton]; unfold k0_part13_skel k0_part14_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel k0_part10_skel k0_part11_skel k0_part12_skel
  simp only [Prog.lift, Prog.bind_op, Prog.bind_ret, Prog.pure_eq_ret, guard_bind]
  -- the copies start
  refine wp_guard 𝒱₀ (c : Thread nD τ) none Set.univ (iprop(flying m c ∗ held c a2 a3 a4 a5 a6 a7 a8 a12 a13 X2 X3 X4 X5 X6 X7 X8 X12 X13 f))
    ?_ ?_ (fun hc hk => ?_)
  · intro h; rw [if_neg h]
  rotate_left
  · rw [wp_deviceId, if_pos hc]
    unfold before flying at *
    rw [← left_zero]
    iintro ⟨H, HB⟩
    iapply (wp_copy m (n := 0) (0, 0) rfl (dev_eq (k0_dev1_eq c)) rfl rfl) $$ H
    iintro H
    iapply (wp_copy m (n := 1) (0, 1) rfl (dev_eq (k0_dev2_eq c)) rfl rfl) $$ H
    iintro H
    iapply (wp_copy m (n := 2) (0, 2) rfl (dev_eq (k0_dev3_eq c)) rfl rfl) $$ H
    iintro H
    iapply (wp_copy m (n := 3) (1, 0) rfl (dev_eq (k0_dev4_eq c)) rfl rfl) $$ H
    iintro H
    iapply (wp_copy m (n := 4) (1, 1) rfl (dev_eq (k0_dev5_eq c)) rfl rfl) $$ H
    iintro H
    iapply (wp_copy m (n := 5) (1, 2) rfl (dev_eq (k0_dev6_eq c)) rfl rfl) $$ H
    iintro H
    iapply (wp_copy m (n := 6) (2, 0) rfl (dev_eq (k0_dev7_eq c)) rfl rfl) $$ H
    iintro H
    iapply (wp_copy m (n := 7) (2, 1) rfl (dev_eq (k0_dev8_eq c)) rfl rfl) $$ H
    iintro H
    iapply (wp_copy m (n := 8) (2, 2) rfl (dev_eq (k0_dev9_eq c)) rfl rfl) $$ H
    iintro H
    rw [left_end _ rfl, table.dues_empty]
    icases H with ⟨HS, HO⟩
    ihave HS := (waiting_of_sent table (goods m) ER c) $$ HS
    iapply hk
    isplitl [HS HO]
    · isplitl [HS] <;> iassumption
    iexact HB
  -- the copies are waited for
  refine wp_guard 𝒱₀ (c : Thread nD τ) none Set.univ (iprop((if k0_cond2 i = 1#1 then arrived m c else flying m c)
    ∗ held c a2 a3 a4 a5 a6 a7 a8 a12 a13 X2 X3 X4 X5 X6 X7 X8 X12 X13 f)) ?_ ?_ (fun hc hk => ?_)
  · intro h; rw [if_neg h]
  rotate_left
  · rw [wp_deviceId]
    simp only [if_pos hc] at hk ⊢
    unfold arrived at hk ⊢
    unfold flying
    rw [← open_zero]
    iintro ⟨H, HB⟩
    iapply (wp_next table (goods m) ER (c := c) (n := 0) (.inl (0, 0)) rfl (wpE_waitDma2_eq 𝒱₀ (c : Thread nD τ) none Set.univ) rfl rfl) $$ H
    iintro H
    iapply (wp_next table (goods m) ER (c := c) (n := 1) (.inr (0, 0)) rfl (wpE_waitDma2_eq 𝒱₀ (c : Thread nD τ) none Set.univ) rfl rfl) $$ H
    iintro H
    iapply (wp_next table (goods m) ER (c := c) (n := 2) (.inl (0, 1)) rfl (wpE_waitDma2_eq 𝒱₀ (c : Thread nD τ) none Set.univ) rfl rfl) $$ H
    iintro H
    iapply (wp_next table (goods m) ER (c := c) (n := 3) (.inr (0, 1)) rfl (wpE_waitDma2_eq 𝒱₀ (c : Thread nD τ) none Set.univ) rfl rfl) $$ H
    iintro H
    iapply (wp_next table (goods m) ER (c := c) (n := 4) (.inl (0, 2)) rfl (wpE_waitDma2_eq 𝒱₀ (c : Thread nD τ) none Set.univ) rfl rfl) $$ H
    iintro H
    iapply (wp_next table (goods m) ER (c := c) (n := 5) (.inr (0, 2)) rfl (wpE_waitDma2_eq 𝒱₀ (c : Thread nD τ) none Set.univ) rfl rfl) $$ H
    iintro H
    iapply (wp_next table (goods m) ER (c := c) (n := 6) (.inl (1, 0)) rfl (wpE_waitDma2_eq 𝒱₀ (c : Thread nD τ) none Set.univ) rfl rfl) $$ H
    iintro H
    iapply (wp_next table (goods m) ER (c := c) (n := 7) (.inr (1, 0)) rfl (wpE_waitDma2_eq 𝒱₀ (c : Thread nD τ) none Set.univ) rfl rfl) $$ H
    iintro H
    iapply (wp_next table (goods m) ER (c := c) (n := 8) (.inl (1, 1)) rfl (wpE_waitDma2_eq 𝒱₀ (c : Thread nD τ) none Set.univ) rfl rfl) $$ H
    iintro H
    iapply (wp_next table (goods m) ER (c := c) (n := 9) (.inr (1, 1)) rfl (wpE_waitDma2_eq 𝒱₀ (c : Thread nD τ) none Set.univ) rfl rfl) $$ H
    iintro H
    iapply (wp_next table (goods m) ER (c := c) (n := 10) (.inl (1, 2)) rfl (wpE_waitDma2_eq 𝒱₀ (c : Thread nD τ) none Set.univ) rfl rfl) $$ H
    iintro H
    iapply (wp_next table (goods m) ER (c := c) (n := 11) (.inr (1, 2)) rfl (wpE_waitDma2_eq 𝒱₀ (c : Thread nD τ) none Set.univ) rfl rfl) $$ H
    iintro H
    iapply (wp_next table (goods m) ER (c := c) (n := 12) (.inl (2, 0)) rfl (wpE_waitDma2_eq 𝒱₀ (c : Thread nD τ) none Set.univ) rfl rfl) $$ H
    iintro H
    iapply (wp_next table (goods m) ER (c := c) (n := 13) (.inr (2, 0)) rfl (wpE_waitDma2_eq 𝒱₀ (c : Thread nD τ) none Set.univ) rfl rfl) $$ H
    iintro H
    iapply (wp_next table (goods m) ER (c := c) (n := 14) (.inl (2, 1)) rfl (wpE_waitDma2_eq 𝒱₀ (c : Thread nD τ) none Set.univ) rfl rfl) $$ H
    iintro H
    iapply (wp_next table (goods m) ER (c := c) (n := 15) (.inr (2, 1)) rfl (wpE_waitDma2_eq 𝒱₀ (c : Thread nD τ) none Set.univ) rfl rfl) $$ H
    iintro H
    iapply (wp_next table (goods m) ER (c := c) (n := 16) (.inl (2, 2)) rfl (wpE_waitDma2_eq 𝒱₀ (c : Thread nD τ) none Set.univ) rfl rfl) $$ H
    iintro H
    iapply (wp_next table (goods m) ER (c := c) (n := 17) (.inr (2, 2)) rfl (wpE_waitDma2_eq 𝒱₀ (c : Thread nD τ) none Set.univ) rfl rfl) $$ H
    iintro H
    rw [open_end _ rfl]
    iapply hk
    isplitl [H] <;> iassumption
  generalize (if k0_cond2 i = 1#1 then arrived m c else flying m c) = HX
  -- the second result starts at zero
  refine wp_guard 𝒱₀ (c : Thread nD τ) none Set.univ (iprop(HX ∗ held c a2 a3 a4 a5 a6 a7 a8 a12 a13 X2 X3 X4 X5 X6 X7 X8 X12 (if k0_cond3 i = 1#1 then k0_pay7 else X13) f))
    ?_ ?_ (fun hc hk => ?_)
  · intro h; rw [if_neg h]
  rotate_left
  · simp only [if_pos hc] at hk ⊢
    unfold held at *
    iintro ⟨HE, B2, B3, B4, B5, B6, B7, B8, B12, B13, BS⟩
    iapply (wp_load_owns 𝒱₀ (c : Thread nD τ) none Set.univ zero2) $$ B13
    iintro B13
    iapply (wp_store_owns 𝒱₀ (c : Thread nD τ) none Set.univ zero2) $$ B13
    iintro B13
    iapply hk
    iframe
  generalize (if k0_cond3 i = 1#1 then k0_pay7 else X13) = Y13
  -- the running sum starts at zero
  refine wp_guard 𝒱₀ (c : Thread nD τ) none Set.univ (iprop(HX ∗ held c a2 a3 a4 a5 a6 a7 a8 a12 a13 X2 X3 X4 X5 X6 X7 X8 X12 Y13 (if cond4 i = 1#1 then k0_pay8 else f)))
    ?_ ?_ (fun hc hk => ?_)
  · intro h; rw [if_neg (show ¬ cond4 i = 1#1 from h)]
  rotate_left
  · unfold accOf at *
    simp only [if_pos (show cond4 i = 1#1 from hc)] at hk ⊢
    unfold held at *
    iintro ⟨HE, B2, B3, B4, B5, B6, B7, B8, B12, B13, BS⟩
    iapply (wp_load_owns 𝒱₀ (c : Thread nD τ) none Set.univ zero2) $$ BS
    iintro BS
    iapply (wp_store_owns 𝒱₀ (c : Thread nD τ) none Set.univ zero2) $$ BS
    iintro BS
    iapply hk
    iframe
  unfold accOf
  generalize (if cond4 i = 1#1 then k0_pay8 else f) = f'
  -- the products of a slab are added to the running sum
  unfold held
  iintro ⟨HE, B2, B3, B4, B5, B6, B7, B8, B12, B13, BS⟩
  iapply (wp_load_owns 𝒱₀ (c : Thread nD τ) none Set.univ zero2) $$ BS
  iintro BS
  iapply (wp_load_owns 𝒱₀ (c : Thread nD τ) none Set.univ zero3) $$ B2
  iintro B2
  iapply (wp_load_owns 𝒱₀ (c : Thread nD τ) none Set.univ zero3) $$ B4
  iintro B4
  iapply (wp_load_owns 𝒱₀ (c : Thread nD τ) none Set.univ zero3) $$ B3
  iintro B3
  iapply (wp_load_owns 𝒱₀ (c : Thread nD τ) none Set.univ zero3) $$ B5
  iintro B5
  iapply (wp_load_owns 𝒱₀ (c : Thread nD τ) none Set.univ zero2) $$ BS
  iintro BS
  iapply (wp_store_owns 𝒱₀ (c : Thread nD τ) none Set.univ zero2) $$ BS
  iintro BS
  -- the rows of the tile are finished
  by_cases hc : k0_cond5 i = 1#1
  · rw [dif_pos hc, if_pos hc, if_pos hc]
    iapply (wp_load_owns 𝒱₀ (c : Thread nD τ) none Set.univ zero2) $$ B8
    iintro B8
    iapply (wp_load_owns 𝒱₀ (c : Thread nD τ) none Set.univ zero2) $$ B7
    iintro B7
    iapply (wp_load_owns 𝒱₀ (c : Thread nD τ) none Set.univ zero2) $$ BS
    iintro BS
    iapply (wp_load_owns 𝒱₀ (c : Thread nD τ) none Set.univ zero2) $$ B6
    iintro B6
    iapply (wp_load_owns 𝒱₀ (c : Thread nD τ) none Set.univ zero2) $$ B12
    iintro B12
    iapply (wp_store_owns 𝒱₀ (c : Thread nD τ) none Set.univ zero2) $$ B12
    iintro B12
    iapply (wp_load_owns 𝒱₀ (c : Thread nD τ) none Set.univ zero2) $$ B13
    iintro B13
    iapply (wp_load_owns 𝒱₀ (c : Thread nD τ) none Set.univ zero2) $$ B13
    iintro B13
    iapply (wp_store_owns 𝒱₀ (c : Thread nD τ) none Set.univ zero2) $$ B13
    iintro B13
    rw [wp_ret]; imodintro
    iframe
  · rw [dif_neg hc, if_neg hc, if_neg hc]
    rw [wp_ret]; imodintro
    iframe

end body

/-! ## The pipeline's data -/

theorem N_eq : cfg0.N = 64 := N_0

/-- Grid point number `n`. -/
def pt (n : ℕ) : Fin cfg0.N := ⟨n % 64, by rw [N_eq]; omega⟩
theorem pt_val (t : Fin cfg0.N) : pt t.val = t := Fin.ext (Nat.mod_eq_of_lt (N_eq ▸ t.isLt))

abbrev x0 (c : Dev nD) (t : Fin cfg0.N) : Vec F S1x512x704 .bf16 := iblk m c 0 t
abbrev x1 (c : Dev nD) (t : Fin cfg0.N) : Vec F S1x512x704 .bf16 := iblk m c 1 t
abbrev x2 (c : Dev nD) (t : Fin cfg0.N) : Vec F S1x1024x704 .bf16 := iblk m c 2 t
abbrev x3 (c : Dev nD) (t : Fin cfg0.N) : Vec F S1x1024x704 .bf16 := iblk m c 3 t
abbrev x4 (c : Dev nD) (t : Fin cfg0.N) : Vec F S512x1024 .f32 := iblk m c 4 t
abbrev x5 (c : Dev nD) (t : Fin cfg0.N) : Vec F S512x1024 .f32 := iblk m c 5 t
abbrev x6 (c : Dev nD) (t : Fin cfg0.N) : Vec F S1x1024 .f32 := iblk m c 6 t

/-- The running sum after point `n`. -/
def acc (c : Dev nD) : ℕ → Vec F S512x1024 .f32
  | 0 => accOf (x0 m c (pt 0)) (x1 m c (pt 0)) (x2 m c (pt 0)) (x3 m c (pt 0)) (grid0.coords (pt 0)) k0_pay8
  | n + 1 => accOf (x0 m c (pt (n + 1))) (x1 m c (pt (n + 1))) (x2 m c (pt (n + 1))) (x3 m c (pt (n + 1))) (grid0.coords (pt (n + 1))) (acc c n)

/-- The gradient of the gain after `n` row tiles. -/
def gains (c : Dev nD) : ℕ → Vec F S8x1024 .f32
  | 0 => k0_pay7
  | n + 1 => k0_pay6 (x5 m c (pt (4 * n + 3))) (acc m c (4 * n + 3)) (gains c n)

/-- The rows of the gradient finished at point `t`, if it is the last of its row tile. -/
def rows (c : Dev nD) (t : Fin cfg0.N) : Vec F S512x1024 .f32 := k0_pay5 (x6 m c t) (x5 m c t) (acc m c t.val) (x4 m c t)

def dats (_ : Fin 1) (c : Dev nD) : Dat τ (Elt F) Unit ℕ UU ℕ cfg0 c where
  A w := m ((c : Thread nD τ).loc (Pipeline.arrRef spec0 w))
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => rows m c t
    | 8 => gains m c ((t.val + 1) / 4)
  Φ t := if t.val = 0 then iprop(Sending table (goods m) ER c Finset.univ ∗ ∃ f, owns (c : Thread nD τ) (Memref.whole cc0_scratch0) fullShare f)
    else iprop(Waiting table (goods m) ER c (if t.val = 64 then ∅ else Finset.univ) ∗ owns (c : Thread nD τ) (Memref.whole cc0_scratch0) fullShare (acc m c (t.val - 1)))
  q _ := fullShare
  owed t := if t.val = 0 then table.dues c Finset.univ else 0

theorem cond1_iff : ∀ t : Fin cfg0.N, k0_cond1 (grid0.coords t) = 1#1 ↔ t.val = 0 := by decide +kernel
theorem cond2_iff : ∀ t : Fin cfg0.N, k0_cond2 (grid0.coords t) = 1#1 ↔ t.val = 63 := by decide +kernel
theorem cond3_iff : ∀ t : Fin cfg0.N, k0_cond3 (grid0.coords t) = 1#1 ↔ t.val = 0 := by decide +kernel
theorem cond4_iff : ∀ t : Fin cfg0.N, cond4 (grid0.coords t) = 1#1 ↔ t.val % 4 = 0 := by decide +kernel
theorem cond5_iff : ∀ t : Fin cfg0.N, k0_cond5 (grid0.coords t) = 1#1 ↔ t.val % 4 = 3 := by decide +kernel
theorem idle7_iff : ∀ t : Fin cfg0.N, cfg0.idle 7 (grid0.coords t) = true ↔ t.val % 4 ≠ 3 := by decide +kernel
theorem idle8_iff : ∀ t : Fin cfg0.N, cfg0.idle 8 (grid0.coords t) = true ↔ t.val ≠ 0 ∧ t.val % 4 ≠ 3 := by decide +kernel
theorem fresh8 : ∀ t : Fin cfg0.N, cfg0.fresh 8 t.val = true → t.val = 0 := by decide +kernel

theorem acc_step (c : Dev nD) (t : Fin cfg0.N) (f : Vec F S512x1024 .f32) (h : t.val ≠ 0 → f = acc m c (t.val - 1)) :
    accOf (x0 m c t) (x1 m c t) (x2 m c t) (x3 m c t) (grid0.coords t) f = acc m c t.val := by
  obtain ⟨n, hn⟩ := t
  cases n with
  | zero =>
    have hp : pt 0 = ⟨0, hn⟩ := pt_val ⟨0, hn⟩
    show _ = accOf (x0 m c (pt 0)) (x1 m c (pt 0)) (x2 m c (pt 0)) (x3 m c (pt 0)) (grid0.coords (pt 0)) k0_pay8
    rw [hp]
    unfold accOf
    rw [if_pos ((cond4_iff ⟨0, hn⟩).2 rfl), if_pos ((cond4_iff ⟨0, hn⟩).2 rfl)]
  | succ n =>
    have hp : pt (n + 1) = ⟨n + 1, hn⟩ := pt_val ⟨n + 1, hn⟩
    show _ = accOf (x0 m c (pt (n + 1))) (x1 m c (pt (n + 1))) (x2 m c (pt (n + 1))) (x3 m c (pt (n + 1))) (grid0.coords (pt (n + 1))) (acc m c n)
    rw [hp, h (Nat.succ_ne_zero n)]
    rfl

/-- An input's staged block is its array's block at every point. -/
theorem before_in (c : Dev nD) (t : Fin cfg0.N) :
    (∀ d, (dats m 0 c).before 0 t d = x0 m c t)
      ∧ (∀ d, (dats m 0 c).before 1 t d = x1 m c t)
      ∧ (∀ d, (dats m 0 c).before 2 t d = x2 m c t)
      ∧ (∀ d, (dats m 0 c).before 3 t d = x3 m c t)
      ∧ (∀ d, (dats m 0 c).before 4 t d = x4 m c t)
      ∧ (∀ d, (dats m 0 c).before 5 t d = x5 m c t)
      ∧ (∀ d, (dats m 0 c).before 6 t d = x6 m c t) :=
  ⟨fun d => (dats m 0 c).before_in_eq_fetched 0 rfl (fun _ => rfl) (fun _ _ _ => rfl) (fun _ => rfl) t d,
   fun d => (dats m 0 c).before_in_eq_fetched 1 rfl (fun _ => rfl) (fun _ _ _ => rfl) (fun _ => rfl) t d,
   fun d => (dats m 0 c).before_in_eq_fetched 2 rfl (fun _ => rfl) (fun _ _ _ => rfl) (fun _ => rfl) t d,
   fun d => (dats m 0 c).before_in_eq_fetched 3 rfl (fun _ => rfl) (fun _ _ _ => rfl) (fun _ => rfl) t d,
   fun d => (dats m 0 c).before_in_eq_fetched 4 rfl (fun _ => rfl) (fun _ _ _ => rfl) (fun _ => rfl) t d,
   fun d => (dats m 0 c).before_in_eq_fetched 5 rfl (fun _ => rfl) (fun _ _ _ => rfl) (fun _ => rfl) t d,
   fun d => (dats m 0 c).before_in_eq_fetched 6 rfl (fun _ => rfl) (fun _ _ _ => rfl) (fun _ => rfl) t d⟩

/-- After the first point the second result's staged block holds what the finished row tiles gave. -/
theorem before_gains (c : Dev nD) (t : Fin cfg0.N) (ht : t.val ≠ 0) (d) : (dats m 0 c).before 8 t d = gains m c (t.val / 4) := by
  rw [(dats m 0 c).before_out_traj 8 rfl (fun _ _ => rfl) (fun t ht hi _ => ?_) t.val t rfl d, if_neg (fun h => ht (fresh8 t h))]
  · show gains m c ((t.val - 1 + 1) / 4) = _
    rw [Nat.sub_add_cancel (by omega)]
  · show gains m c ((t.val + 1) / 4) = gains m c ((t.val - 1 + 1) / 4)
    have := ((idle8_iff t).1 hi).2
    congr 1; omega

theorem owes_open (c : Dev nD) (t : Fin (cfg0.N + 1)) : (dats m 0 c).owesAt () t ⊢ owing c ((dats m 0 c).owed t) := by
  unfold Dat.owesAt Pipeline.owesWithin owing
  iintro ⟨%W, %hW, HO⟩
  iexists W; iexact HO

theorem owes_close (c : Dev nD) (t : Fin (cfg0.N + 1)) : owing c ((dats m 0 c).owed t) ⊢ (dats m 0 c).owesAt () t := by
  unfold Dat.owesAt Pipeline.owesWithin owing
  iintro ⟨%W, HO⟩
  iexists W
  isplitr; · ipureintro; exact fun _ _ => Or.inl trivial
  iexact HO

theorem inv_first (c : Dev nD) (t : Fin (cfg0.N + 1)) (h : t.val = 0) :
    (dats m 0 c).Φ t = iprop(Sending table (goods m) ER c Finset.univ ∗ ∃ f, owns (c : Thread nD τ) (Memref.whole cc0_scratch0) fullShare f) := if_pos h
theorem inv_later (c : Dev nD) (t : Fin (cfg0.N + 1)) (h : t.val ≠ 0) :
    (dats m 0 c).Φ t = iprop(Waiting table (goods m) ER c (if t.val = 64 then ∅ else Finset.univ)
      ∗ owns (c : Thread nD τ) (Memref.whole cc0_scratch0) fullShare (acc m c (t.val - 1))) := if_neg h
theorem owed_first (c : Dev nD) (t : Fin (cfg0.N + 1)) (h : t.val = 0) : (dats m 0 c).owed t = table.dues c Finset.univ := if_pos h
theorem owed_later (c : Dev nD) (t : Fin (cfg0.N + 1)) (h : t.val ≠ 0) : (dats m 0 c).owed t = 0 := if_neg h

/-- The exchange's state before a point, taken from the invariant. -/
theorem exchange_open (c : Dev nD) (t : Fin cfg0.N) :
    iprop((dats m 0 c).Φ t.castSucc ∗ (dats m 0 c).owesAt () t.castSucc)
      ⊢ iprop(∃ f, ⌜t.val ≠ 0 → f = acc m c (t.val - 1)⌝ ∗ (if k0_cond1 (grid0.coords t) = 1#1 then before m c else flying m c)
          ∗ owns (c : Thread nD τ) (Memref.whole cc0_scratch0) fullShare f) := by
  have hlt : t.val < 64 := N_eq ▸ t.isLt
  refine (sep_mono .rfl (owes_open m c _)).trans ?_
  by_cases h : t.val = 0
  · rw [inv_first m c t.castSucc h, owed_first m c t.castSucc h, if_pos ((cond1_iff t).2 h)]
    unfold before
    iintro ⟨⟨HS, ⟨%f, Hf⟩⟩, HO⟩
    iexists f
    isplitr; · ipureintro; exact fun h' => absurd h h'
    iframe
  · rw [inv_later m c t.castSucc h, owed_later m c t.castSucc h, if_neg (fun hc => h ((cond1_iff t).1 hc)), if_neg (show ¬ t.castSucc.val = 64 by show ¬ t.val = 64; omega)]
    unfold flying
    iintro ⟨⟨HS, Hf⟩, HO⟩
    iexists _
    isplitr
    swap
    · iframe
    ipureintro; exact fun _ => rfl

/-- The exchange's state after a point, given to the invariant. -/
theorem exchange_close (c : Dev nD) (t : Fin cfg0.N) :
    iprop((if k0_cond2 (grid0.coords t) = 1#1 then arrived m c else flying m c) ∗ owns (c : Thread nD τ) (Memref.whole cc0_scratch0) fullShare (acc m c t.val))
      ⊢ iprop((dats m 0 c).Φ t.succ ∗ (dats m 0 c).owesAt () t.succ) := by
  have hlt : t.val < 64 := N_eq ▸ t.isLt
  refine BIBase.Entails.trans ?_ (sep_mono (.rfl (P := (dats m 0 c).Φ t.succ)) (owes_close m c t.succ))
  rw [inv_later m c t.succ (Nat.succ_ne_zero _), owed_later m c t.succ (Nat.succ_ne_zero _)]
  show _ ⊢ iprop((Waiting table (goods m) ER c (if t.val + 1 = 64 then ∅ else Finset.univ) ∗ owns (c : Thread nD τ) (Memref.whole cc0_scratch0) fullShare (acc m c t.val)) ∗ _)
  by_cases h : t.val = 63
  · rw [if_pos ((cond2_iff t).2 h), if_pos (show t.val + 1 = 64 by omega)]
    unfold arrived
    iintro ⟨⟨HS, HO⟩, Hf⟩
    iframe
  · rw [if_neg (fun hc => h ((cond2_iff t).1 hc)), if_neg (show ¬ t.val + 1 = 64 by omega)]
    unfold flying
    iintro ⟨⟨HS, HO⟩, Hf⟩
    iframe

/-- What a point leaves in the first result's staged block. -/
theorem left_rows (c : Dev nD) (t : Fin cfg0.N) (d) :
    owns (c : Thread nD τ) (st0_7 t) fullShare (if k0_cond5 (grid0.coords t) = 1#1 then rows m c t else (dats m 0 c).before 7 t d)
      ⊢ (match cfg0.idle 7 (grid0.coords t) with
          | true => match (cfg0.win 7).flush t with
            | false => iprop(∃ d, owns (c : Thread nD τ) (st0_7 t) fullShare ((dats m 0 c).before 7 t d))
            | true => owns (c : Thread nD τ) (st0_7 t) fullShare ((dats m 0 c).after 7 t)
          | false => owns (c : Thread nD τ) (st0_7 t) fullShare ((dats m 0 c).after 7 t) : sProp 𝕄) := by
  by_cases h : t.val % 4 = 3
  · rw [if_pos ((cond5_iff t).2 h), show cfg0.idle 7 (grid0.coords t) = false from Bool.eq_false_iff.2 fun hi => (idle7_iff t).1 hi h]
    exact .rfl
  · rw [if_neg (fun hc => h ((cond5_iff t).1 hc)), (idle7_iff t).2 h, show (cfg0.win 7).flush t = false from Bool.eq_false_iff.2 fun hi => h ((flush0_7 t).1 hi)]
    iintro H; iexists d; iexact H

/-- What a point leaves in the second result's staged block. -/
theorem left_gains (c : Dev nD) (t : Fin cfg0.N) (d) :
    owns (c : Thread nD τ) (st0_8 t) fullShare
        (if k0_cond5 (grid0.coords t) = 1#1
          then k0_pay6 (x5 m c t) (acc m c t.val) (if k0_cond3 (grid0.coords t) = 1#1 then k0_pay7 else (dats m 0 c).before 8 t d)
          else if k0_cond3 (grid0.coords t) = 1#1 then k0_pay7 else (dats m 0 c).before 8 t d)
      ⊢ (match cfg0.idle 8 (grid0.coords t) with
          | true => match (cfg0.win 8).flush t with
            | false => iprop(∃ d, owns (c : Thread nD τ) (st0_8 t) fullShare ((dats m 0 c).before 8 t d))
            | true => owns (c : Thread nD τ) (st0_8 t) fullShare ((dats m 0 c).after 8 t)
          | false => owns (c : Thread nD τ) (st0_8 t) fullShare ((dats m 0 c).after 8 t) : sProp 𝕄) := by
  by_cases h0 : t.val = 0
  · rw [if_neg (fun hc => by have := (cond5_iff t).1 hc; omega), if_pos ((cond3_iff t).2 h0),
      show cfg0.idle 8 (grid0.coords t) = false from Bool.eq_false_iff.2 fun hi => ((idle8_iff t).1 hi).1 h0]
    refine Entails.of_eq ?_
    show owns (c : Thread nD τ) (st0_8 t) fullShare k0_pay7 = owns (c : Thread nD τ) (st0_8 t) fullShare (gains m c ((t.val + 1) / 4))
    rw [h0]; rfl
  have h3 : ¬ k0_cond3 (grid0.coords t) = 1#1 := fun hc => h0 ((cond3_iff t).1 hc)
  by_cases h : t.val % 4 = 3
  · rw [if_pos ((cond5_iff t).2 h), if_neg h3, before_gains m c t h0,
      show cfg0.idle 8 (grid0.coords t) = false from Bool.eq_false_iff.2 fun hi => ((idle8_iff t).1 hi).2 h]
    refine Entails.of_eq ?_
    show _ = owns (c : Thread nD τ) (st0_8 t) fullShare (gains m c ((t.val + 1) / 4))
    have e1 : 4 * (t.val / 4) + 3 = t.val := by omega
    have e2 : (t.val + 1) / 4 = t.val / 4 + 1 := by omega
    have e : gains m c ((t.val + 1) / 4) = k0_pay6 (x5 m c t) (acc m c t.val) (gains m c (t.val / 4)) := by
      rw [e2]
      show k0_pay6 (x5 m c (pt (4 * (t.val / 4) + 3))) (acc m c (4 * (t.val / 4) + 3)) (gains m c (t.val / 4)) = _
      rw [e1, pt_val]
    rw [e]
  · rw [if_neg (fun hc => h ((cond5_iff t).1 hc)), if_neg h3, (idle8_iff t).2 ⟨h0, h⟩,
      show (cfg0.win 8).flush t = false from Bool.eq_false_iff.2 fun hi => h (by have := (flush0_8 t).1 hi; omega)]
    iintro H; iexists d; iexact H

set_option maxHeartbeats 1600000 in
theorem body_point (c : Dev nD) (t : Fin cfg0.N) (d7 d8) (f : Vec F S512x1024 .f32) (hf : t.val ≠ 0 → f = acc m c (t.val - 1)) :
    iprop((if k0_cond1 (grid0.coords t) = 1#1 then before m c else flying m c)
        ∗ held c (st0_0 t) (st0_1 t) (st0_2 t) (st0_3 t) (st0_4 t) (st0_5 t) (st0_6 t) (st0_7 t) (st0_8 t) (x0 m c t) (x1 m c t) (x2 m c t) (x3 m c t) (x4 m c t) (x5 m c t) (x6 m c t)
            ((dats m 0 c).before 7 t d7) ((dats m 0 c).before 8 t d8) f)
      ⊢ wp frame (wpE (defs₀ (F := F)) 𝒱₀ c none) Set.univ (bodyAt0 t) (fun _ => iprop((dats m 0 c).Φ t.succ ∗ (dats m 0 c).owesAt () t.succ
          ∗ bigSep Finset.univ fun w : Fin cfg0.W =>
              match cfg0.idle w (grid0.coords t) with
              | true => match (cfg0.win w).flush t with
                | false => iprop(∃ d, owns c ((cfg0.win w).stage (cfg0.slots t w)) fullShare ((dats m 0 c).before w t d))
                | true => owns c ((cfg0.win w).stage (cfg0.slots t w)) fullShare ((dats m 0 c).after w t)
              | false => owns c ((cfg0.win w).stage (cfg0.slots t w)) fullShare ((dats m 0 c).after w t))) := by
  refine (sound_body m c (grid0.coords t) (st0_0 t) _ (st0_1 t) _ (st0_2 t) _ (st0_3 t) _ (st0_4 t) _ (st0_5 t) _ (st0_6 t) _ (st0_7 t) _ (st0_8 t) _ _ _ _ _ _ _ _ _ _ _).trans
    (wp_mono frame _ _ fun _ => ?_)
  rw [acc_step m c t f hf, bigSep_W0]
  unfold held
  iintro ⟨HX, B0, B1, B2, B3, B4, B5, B6, B7, B8, BS⟩
  ihave H := (exchange_close m c t) $$ [HX BS]
  · isplitl [HX] <;> iassumption
  icases H with ⟨HΦ, HO⟩
  isplitl [HΦ]; · iexact HΦ
  isplitl [HO]; · iexact HO
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]
  · iapply (left_rows m c t d7); iexact B7
  iapply (left_gains m c t d8); iexact B8

set_option maxHeartbeats 1600000 in
theorem body_obligation (c : Dev nD) : BodyObligation (dats (F := F) m 0 c) (defs₀ (F := F)) 𝒱₀ () Set.univ := fun t => by
  obtain ⟨b0, b1, b2, b3, b4, b5, b6⟩ := before_in m c t
  dsimp only
  rw [bigSep_W0]
  simp only [b0, b1, b2, b3, b4, b5, b6]
  iintro ⟨HΦ, HO, ⟨%_, B0⟩, ⟨%_, B1⟩, ⟨%_, B2⟩, ⟨%_, B3⟩, ⟨%_, B4⟩, ⟨%_, B5⟩, ⟨%_, B6⟩, ⟨%d7, B7⟩, ⟨%d8, B8⟩⟩
  ihave H := (exchange_open m c t) $$ [HΦ HO]
  · isplitl [HΦ] <;> iassumption
  icases H with ⟨%f, %hf, HX, BS⟩
  iapply (body_point m c t d7 d8 f hf)
  unfold held
  iframe

/-! ## The launch -/

def u₀ : UU := (initOf (Pipeline.cells cfgs cellOf_inj) (Pipeline.launchToks cfgs cellOf_inj), initOf (cells table) (toks table))

theorem ownSemFacts : Pipeline.OwnSemFacts cfg0.spec table.sem := by decide +kernel

theorem staging_ne : ∀ (w : Fin cfg0.W) (s : Fin (spec0 w).nbuf) (i : Fin 3 × Fin 3), SemLoc.dma ((spec0 w).sem s) ≠ table.rcv i := by decide +kernel

theorem may_wait (c : Dev nD) (t : Fin (cfg0.N + 1)) (q : DmaSem sig) (hq : ∀ i, SemLoc.dma q ≠ table.rcv i) :
    (levAts tcOnly table.level : sProp 𝕄) ⊢ MayWait (c.tc : Thread nD τ) (.dma q) () ((dats m 0 c).owed t) := by
  by_cases h : t.val = 0
  · rw [owed_first m c t h]; exact table.mayWait c q hq Finset.univ
  · rw [owed_later m c t h, ← table.dues_empty c]; exact table.mayWait c q hq ∅

/-- What device `c` keeps of the arrays the copies read. -/
def kept (c : Dev nD) : sProp 𝕄 :=
  iprop((((c : Thread nD τ).loc main_arg7) ↦{fullShare.left.left.left} m ((c : Thread nD τ).loc main_arg7))
    ∗ (((c : Thread nD τ).loc main_arg8) ↦{fullShare.left.left.left} m ((c : Thread nD τ).loc main_arg8))
    ∗ (((c : Thread nD τ).loc main_arg9) ↦{fullShare.left.left.left} m ((c : Thread nD τ).loc main_arg9)))

/-- The three slabs of a result array have no element in common. -/
theorem slabs_disjoint (M : Memref sig .tc .hbm S3x352x1024 .bf16) (o o' : Fin 3 → ℕ) (h h') (ho : o 0 + 1 ≤ o' 0) :
    Disjoint ((M.slice (Rect.unit (s := S3x352x1024) o S1x352x1024.size h) (fun _ => rfl)).squeeze S352x1024 squeezes_S1x352x1024_S352x1024).view.set
      ((M.slice (Rect.unit (s := S3x352x1024) o' S1x352x1024.size h') (fun _ => rfl)).squeeze S352x1024 squeezes_S1x352x1024_S352x1024).view.set := by
  rw [Memref.set_view_squeeze, Memref.set_view_squeeze]
  exact View.disjoint_slice_of_sep M.view _ _ 0 rfl rfl (.inl ho)

theorem room_of (i : Fin 3 × Fin 3) (c : Dev nD) (f : Buf (Elt F) ((resM i).view.loc (c : Thread nD τ))) :
    ((resM i).view.loc (c : Thread nD τ) ↦[(resM i).view.set]{fullShare} f : sProp 𝕄) ⊢ (goods m).room i c := by
  unfold goods
  dsimp only
  iintro H
  iexists f; iexact H

theorem rooms (a : Fin 3) (c : Dev nD) (f : Buf (Elt F) ((outM a).view.loc (c : Thread nD τ))) :
    ((outM a).view.loc (c : Thread nD τ) ↦{fullShare} f : sProp 𝕄) ⊢ bigSep Finset.univ fun k => (goods m).room (a, k) c := by
  refine (parts (ℓ := (outM a).view.loc (c : Thread nD τ)) (fun k => match k with | 0 => (resM (a, 0)).view.set | 1 => (resM (a, 1)).view.set | 2 => (resM (a, 2)).view.set) (slabs_disjoint (outM a) ![0, 0, 0] ![1, 0, 0] _ _ (by decide))
    (slabs_disjoint (outM a) ![0, 0, 0] ![2, 0, 0] _ _ (by decide)) (slabs_disjoint (outM a) ![1, 0, 0] ![2, 0, 0] _ _ (by decide)) f).trans (bigSep_mono fun k _ => ?_)
  match k with
  | 0 => exact room_of m (a, 0) c f
  | 1 => exact room_of m (a, 1) c f
  | 2 => exact room_of m (a, 2) c f

theorem loans (a : Fin 3) (c : Dev nD) :
    ((argM a).view.loc (c : Thread nD τ) ↦{fullShare} m ((argM a).view.loc (c : Thread nD τ)) : sProp 𝕄)
      ⊢ iprop(((argM a).view.loc (c : Thread nD τ) ↦{fullShare.left.left.left} m ((argM a).view.loc (c : Thread nD τ)))
        ∗ bigSep Finset.univ fun k => (goods m).src (a, k) c) := by
  refine (lend3 (ℓ := (argM a).view.loc (c : Thread nD τ)) (fun k => match k with | 0 => (srcM (a, 0) c).view.set | 1 => (srcM (a, 1) c).view.set | 2 => (srcM (a, 2) c).view.set) _).trans ?_
  rw [bigSep3]
  exact .rfl

/-- A device's arrays as what it keeps, what it lends and the room it offers. -/
theorem arrays (c : Dev nD) :
    (Pipeline.unscopedRest cfg0.spec c (fun b => m ((c : Thread nD τ).loc b)) : sProp 𝕄)
      ⊢ iprop(kept m c ∗ (bigSep Finset.univ fun i => (goods m).src i c) ∗ bigSep Finset.univ fun i => (goods m).room i c) := by
  rw [unscopedRest0_eq, bigSep_univ_prod (fun i => (goods m).src i c), bigSep_univ_prod (fun i => (goods m).room i c),
    bigSep3 (fun a => bigSep Finset.univ fun k => (goods m).src (a, k) c), bigSep3 (fun a => bigSep Finset.univ fun k => (goods m).room (a, k) c)]
  iintro ⟨H0, H1, H2, R0, R1, R2⟩
  ihave H0 := (loans m 0 c) $$ H0
  icases H0 with ⟨K0, L0⟩
  ihave H1 := (loans m 1 c) $$ H1
  icases H1 with ⟨K1, L1⟩
  ihave H2 := (loans m 2 c) $$ H2
  icases H2 with ⟨K2, L2⟩
  ihave R0 := (rooms m 0 c _) $$ R0
  ihave R1 := (rooms m 1 c _) $$ R1
  ihave R2 := (rooms m 2 c _) $$ R2
  isplitl [K0 K1 K2]
  · unfold kept
    isplitl [K0]; · iexact K0
    isplitl [K1]; · iexact K1
    iexact K2
  isplitl [L0 L1 L2]
  · isplitl [L0]; · iexact L0
    isplitl [L1]; · iexact L1
    iexact L2
  isplitl [R0]; · iexact R0
  isplitl [R1]; · iexact R1
  iexact R2

/-- What the final memory of device `c` holds where the copies read and write. -/
def Ends (c : Dev nD) (s : MemSt nD τ sig (Elt F)) : Prop :=
  s.mem ((c : Thread nD τ).loc main_arg7) = m ((c : Thread nD τ).loc main_arg7)
  ∧ s.mem ((c : Thread nD τ).loc main_arg8) = m ((c : Thread nD τ).loc main_arg8)
  ∧ s.mem ((c : Thread nD τ).loc main_arg9) = m ((c : Thread nD τ).loc main_arg9)
  ∧ ∀ i : Fin 3 × Fin 3, (resM i).view.read (Elt F) (s.mem ((resM i).view.loc (c : Thread nD τ))) = block m i (peer i.2 c)

theorem ends (c : Dev nD) (s' : Phys nD τ sig (Elt F)) :
    iprop((bigSep Finset.univ fun i => (goods m).landed i c) ∗ kept m c ∗ SI s') ⊢ |={Set.univ}=> iprop(⌜Ends m c s'.mem⌝ ∗ SI s' : sProp 𝕄) := by
  unfold kept
  iintro ⟨R, ⟨K0, K1, K2⟩, HSI⟩
  ihave H := (read_whole _ s') $$ [K0 HSI]
  · isplitl [K0] <;> iassumption
  icases H with ⟨%h0, HSI⟩
  ihave H := (read_whole _ s') $$ [K1 HSI]
  · isplitl [K1] <;> iassumption
  icases H with ⟨%h1, HSI⟩
  ihave H := (read_whole _ s') $$ [K2 HSI]
  · isplitl [K2] <;> iassumption
  icases H with ⟨%h2, HSI⟩
  ihave H := (read_all (fun i => (goods m).landed i c) (fun i => (resM i).view.read (Elt F) (s'.mem.mem ((resM i).view.loc (c : Thread nD τ))) = block m i (peer i.2 c)) s'
    (fun i => read_filled (resM i).view c _ _ s')) $$ [R HSI]
  · isplitl [R] <;> iassumption
  icases H with ⟨%g, HSI⟩
  imodintro
  isplitr
  · ipureintro; exact ⟨h0, h1, h2, g⟩
  iexact HSI

set_option maxRecDepth 8000 in
/-- From any memory with every counter at zero, every fair execution of the eight devices ends; then each device's window
    arrays hold what the grid's points left in them, the arrays the copies read are as before, the slabs the
    copies fill hold the partners' blocks, and every counter is at zero. -/
theorem run : θ_run defs (onTc (τ := τ) (main (F := F))) ⟨m, fun _ => 0, ρ⟩
    (fun r => (∀ c : Dev nD, (∀ w : Fin cfg0.W, r.2.mem ((c : Thread nD τ).loc (Pipeline.arrRef spec0 w)) = (dats m 0 c).arrAt w cfg0.N) ∧ Ends m c r.2)
      ∧ r.2.sem = fun _ => 0) :=
  Pipeline.MemLaunch.run (fun p => (cfgs p).toPCfg) (fun p => (cfgs p).toPCfg_adm) (dats m) () cellOf_inj (0 : Fin 1)
    winFacts0.to₀ ownSemFacts EP defs₀ 𝒱₀ m ρ main
    (hmain := fun _ => rfl) (hpre := inferInstanceAs (IsEmpty (Fin 0)))
    (hbody := fun c => (body_obligation m c).loose) (hne := block_pos0) (harr := arr_whole0) (hstage := stage_whole0)
    (hshare := fun _ w => by unfold Dat.share; split <;> rfl) (hdistinct := winFacts0.arr_inj)
    (O₀ := fun c => table.dues c Finset.univ) (howed₀ := fun _ => rfl) (howedN := fun _ => rfl)
    (L := tcOnly) (lv := table.level) (hL := tcOnly_of_ne)
    (hwaits := fun c => Pipeline.cellsWaits_intro cfgs (dats m) () 0 c fun w s t => may_wait m c t _ (staging_ne w s))
    (G := fresh table (goods m) ER) (u₀ := u₀)
    (hu₀ := by
      unfold u₀
      iintro Hu
      ihave H := (ownU_pair _ _) $$ Hu
      icases H with ⟨HP, HX⟩
      imod (fresh_intro table (goods m) ER) $$ [HX] with HX
      · iexact HX
      imodintro
      isplitl [HP]; · iexact HP
      iexact HX)
    (hA := fun _ _ => rfl)
    (X := fun c => Sending table (goods m) ER c Finset.univ) (Y := fun c => bigSep Finset.univ fun i => (goods m).landed i c) (Z := kept m)
    (hglob := deal table (goods m) ER (arrays m))
    (hin := fun c => by
      rw [show Pipeline.scopedRest _ c = (iprop(∃ f, ((c : Thread nD τ).loc cc0_scratch0) ↦{fullShare} f) : sProp 𝕄) from scopedRest0_eq c]
      refine BIBase.Entails.trans ?_ (Entails.of_eq (inv_first m c 0 rfl).symm)
      iintro ⟨H, ⟨%f, Hf⟩⟩
      isplitl [H]; · iexact H
      iexists f
      rw [owns_whole]; iexact Hf)
    (hout := fun c => by
      rw [show Pipeline.scopedRest _ c = (iprop(∃ f, ((c : Thread nD τ).loc cc0_scratch0) ↦{fullShare} f) : sProp 𝕄) from scopedRest0_eq c]
      refine (Entails.of_eq (inv_later m c (Fin.last _) (by decide))).trans ?_
      rw [if_pos (show (Fin.last cfg0.N).val = 64 from N_eq), owns_whole]
      iintro ⟨H, Hf⟩
      ihave H := (waited table (goods m) ER c) $$ H
      icases H with ⟨Hz, -, Hl⟩
      isplitl [Hl]; · iexact Hl
      isplitl [Hz]; · iexact Hz
      iexists _; iexact Hf)
    (QY := Ends m) (hY := ends m)
    (hQ := fun s h hs => ⟨h, sem_eq_zero_of_scoped (by decide) hs⟩)

end Cert.InScatterProof

end
-- ==== Proof.InScatterRefV.lean ====
/-
  The reference of `ffn1_bwd_in` with its ride, at the extended reals: its products and its scatter, read at an element.
-/
module

public import proofs.«01_k».proof.Proof.Slabs
public import proofs.«01_k».proof.Proof.Gen.InScatterRefIdeal
public import Idealize.ShloMosaic.Lib.Pointwise

@[expose] public section

noncomputable section

namespace Cert.InScatterRefV

open Idealize.ShloMosaic Idealize.ShloMosaic.TcCoe
open Cert.InScatterRefIdeal Cert.InScatterRefIdeal.Gen

set_option maxRecDepth 16384

/-- The reference's product of a gradient and its weights, over the slabs and their columns. -/
def refBack (d : S32x8192x704.Idx → EReal) (w : S4x1024x704.Idx → EReal) : S65536x1024.Idx → EReal :=
  (shapeCast S65536x1024 (Host.dotGeneral (F := Ideal) dot_S8x4x8192x704_S4x1024x704_S8x8192x1024_31_20_02_1_n_n none
    (shapeCast S8x4x8192x704 (extf (F := Ideal) .f32 (φ := .bf16) d bitsLt_bf16_f32) shapeCasts_S32x8192x704_S8x4x8192x704)
    (extf (F := Ideal) .f32 (φ := .bf16) w bitsLt_bf16_f32)) shapeCasts_S8x8192x1024_S65536x1024)

theorem refBack_apply (d : S32x8192x704.Idx → EReal) (w : S4x1024x704.Idx → EReal) (n : Fin 65536) (q : Fin 1024) :
    refBack d w (ix2 n q) = ∑ j : Fin 4, ∑ k : Fin 704, d (ix3 ⟨n.val / 8192 * 4 + j.val, by omega⟩ ⟨n.val % 8192, by omega⟩ k) * w (ix3 j q k) := by
  pointwise [refBack]
  exact Finset.sum_comm

/-- The row numbers of the reference's scatter are those of the slabs each device receives. -/
theorem rows : ∀ (c : Fin 8) (k : Fin 3), (lit0 ⟨c.val * 3 + k.val, by omega⟩).toInt.toNat = (Scatter.peer k c).val * 4 + c.val / 2 := by decide

/-- The reference's scatter: the slabs that every device receives. -/
def refScat (g : S32x352x1024.Idx → EReal) : S24x352x1024.Idx → EReal :=
  Host.gather gather_S32x352x1024_S24x1_S24x352x1024_12_0_n_n_0_1_13521024 g (broadcastInDim S24x1 ![0] bcast_S24_S24x1_0 (fun i => lit0 (S24.rowMajor i)))

theorem refScat_apply (g : S32x352x1024.Idx → EReal) (c : Fin 8) (k : Fin 3) (r : Fin 352) (q : Fin 1024) (n : Fin 24) (hn : n.val = c.val * 3 + k.val) :
    refScat g (ix3 n r q) = g (ix3 ⟨(Scatter.peer k c).val * 4 + c.val / 2, by have := (Scatter.peer k c).isLt; omega⟩ r q) :=
  Slabs.received_row lit0 rows _ bcast_S24_S24x1_0 g c k r q n hn

end Cert.InScatterRefV

end
-- ==== Proof.InScatterSums.lean ====
/-
  What `ffn1_bwd_in` computes, at the extended reals: its two results as sums over its whole arguments.
-/
module

public import proofs.«01_k».proof.Proof.InScatter
public import proofs.«01_k».proof.Proof.NormBwd
public import Idealize.ShloMosaic.Lib.Pointwise
public import Idealize.ShloMosaic.Lib.Pipeline.ValueKit

@[expose] public section

noncomputable section

namespace Cert.InScatterProof

open Idealize.ShloMosaic Idealize.ShloMosaic.TcCoe
open Cert.InScatterIdeal Cert.InScatterIdeal.Gen
open Idealize.ShloMosaic.Pipeline (Dat Cfg Window)

set_option maxRecDepth 16384

variable (m : (ℓ : Loc nD τ sig) → Buf (Elt Ideal) ℓ)

/-- Where each window's block lies at each point. -/
theorem index_eq : ∀ t : Fin cfg0.N, win0_0.index t = ![t.val % 4, t.val / 4, 0] ∧ win0_1.index t = ![t.val % 4, t.val / 4, 0]
    ∧ win0_2.index t = ![t.val % 4, 0, 0] ∧ win0_3.index t = ![t.val % 4, 0, 0]
    ∧ win0_4.index t = ![t.val / 4, 0] ∧ win0_5.index t = ![t.val / 4, 0] ∧ win0_6.index t = ![0, 0]
    ∧ win0_7.index t = ![t.val / 4, 0] ∧ win0_8.index t = ![0, 0] := by decide +kernel

/-- One product that the call sums up: a row of a gradient against the weights, slab by slab. -/
def dot (d : S4x8192x704.Idx → EReal) (w : S4x1024x704.Idx → EReal) (n : Fin 8192) (q : Fin 1024) : EReal :=
  ∑ j : Fin 4, ∑ k : Fin 704, d (ix3 j n k) * w (ix3 j q k)

abbrev Da (c : Dev nD) : S4x8192x704.Idx → EReal := m ((c : Thread nD τ).loc main_arg0)
abbrev Db (c : Dev nD) : S4x8192x704.Idx → EReal := m ((c : Thread nD τ).loc main_arg1)
abbrev Wg (c : Dev nD) : S4x1024x704.Idx → EReal := m ((c : Thread nD τ).loc main_arg2)
abbrev Wu (c : Dev nD) : S4x1024x704.Idx → EReal := m ((c : Thread nD τ).loc main_arg3)
abbrev R (c : Dev nD) : S8192x1024.Idx → EReal := m ((c : Thread nD τ).loc main_arg4)
abbrev X (c : Dev nD) : S8192x1024.Idx → EReal := m ((c : Thread nD τ).loc main_arg5)
abbrev Gn (c : Dev nD) : S1x1024.Idx → EReal := m ((c : Thread nD τ).loc main_arg6)

/-- The gradient before the norm. -/
def dh (c : Dev nD) (n : Fin 8192) (q : Fin 1024) : EReal := dot (Da m c) (Wg m c) n q + dot (Db m c) (Wu m c) n q

theorem lt64 (t : Fin cfg0.N) : t.val < 64 := N_eq ▸ t.isLt

theorem x0_apply (c : Dev nD) (t : Fin cfg0.N) (r : Fin 512) (k : Fin 704) :
    x0 m c t (ix3 0 r k) = Da m c (ix3 ⟨t.val % 4, by omega⟩ ⟨t.val / 4 * 512 + r.val, by have := lt64 t; omega⟩ k) := by
  blk_ext [iblk, V, (index_eq t).1]
theorem x1_apply (c : Dev nD) (t : Fin cfg0.N) (r : Fin 512) (k : Fin 704) :
    x1 m c t (ix3 0 r k) = Db m c (ix3 ⟨t.val % 4, by omega⟩ ⟨t.val / 4 * 512 + r.val, by have := lt64 t; omega⟩ k) := by
  blk_ext [iblk, V, (index_eq t).2.1]
theorem x2_apply (c : Dev nD) (t : Fin cfg0.N) (q : Fin 1024) (k : Fin 704) :
    x2 m c t (ix3 0 q k) = Wg m c (ix3 ⟨t.val % 4, by omega⟩ q k) := by
  blk_ext [iblk, V, (index_eq t).2.2.1]
theorem x3_apply (c : Dev nD) (t : Fin cfg0.N) (q : Fin 1024) (k : Fin 704) :
    x3 m c t (ix3 0 q k) = Wu m c (ix3 ⟨t.val % 4, by omega⟩ q k) := by
  blk_ext [iblk, V, (index_eq t).2.2.2.1]
theorem x4_apply (c : Dev nD) (t : Fin cfg0.N) (r : Fin 512) (q : Fin 1024) :
    x4 m c t (ix2 r q) = R m c (ix2 ⟨t.val / 4 * 512 + r.val, by have := lt64 t; omega⟩ q) := by
  blk_ext [iblk, V, (index_eq t).2.2.2.2.1]
theorem x5_apply (c : Dev nD) (t : Fin cfg0.N) (r : Fin 512) (q : Fin 1024) :
    x5 m c t (ix2 r q) = X m c (ix2 ⟨t.val / 4 * 512 + r.val, by have := lt64 t; omega⟩ q) := by
  blk_ext [iblk, V, (index_eq t).2.2.2.2.2.1]
theorem x6_apply (c : Dev nD) (t : Fin cfg0.N) (q : Fin 1024) : x6 m c t (ix2 0 q) = Gn m c (ix2 0 q) := by
  blk_ext [iblk, V, (index_eq t).2.2.2.2.2.2.1]

theorem sum_apply (a : Vec Ideal S512x1024 .f32) (da db : Vec Ideal S1x512x704 .bf16) (wg wu : Vec Ideal S1x1024x704 .bf16) (r : Fin 512) (q : Fin 1024) :
    k0_pay1 a (k0_pay9 da wg) (k0_pay10 db) (k0_pay11 wu) (ix2 r q)
      = a (ix2 r q) + ((∑ k : Fin 704, da (ix3 0 r k) * wg (ix3 0 q k)) + ∑ k : Fin 704, db (ix3 0 r k) * wu (ix3 0 q k)) := by
  pointwise [k0_pay1, k0_pay9, k0_pay10, k0_pay11]
theorem pay8_apply (r : Fin 512) (q : Fin 1024) : k0_pay8 (F := Ideal) (ix2 r q) = 0 := by
  pointwise [k0_pay8]
theorem pay7_apply (r : Fin 8) (q : Fin 1024) : k0_pay7 (F := Ideal) (ix2 r q) = 0 := by
  pointwise [k0_pay7]
theorem pay5_apply (g : Vec Ideal S1x1024 .f32) (x a d : Vec Ideal S512x1024 .f32) (r : Fin 512) (q : Fin 1024) :
    k0_pay5 g x a d (ix2 r q) = NormBwd.dx (fun k => a (ix2 r k)) (fun k => x (ix2 r k)) (fun k => g (ix2 0 k)) (d (ix2 r q)) q := by
  pointwise [k0_pay5, k0_pay4, k0_pay3, k0_pay2, NormBwd.dx, NormBwd.inv]
theorem pay6_apply (x a : Vec Ideal S512x1024 .f32) (o : Vec Ideal S8x1024 .f32) (e : Fin 8) (q : Fin 1024) :
    k0_pay6 x a o (ix2 e q) = o (ix2 e q) + ∑ r : Fin 512, NormBwd.gain (fun k => a (ix2 r k)) (fun k => x (ix2 r k)) q := by
  pointwise [k0_pay6, k0_pay4, k0_pay3, k0_pay2, NormBwd.gain, NormBwd.inv]

/-- What one point adds. -/
def term (c : Dev nD) (n : Fin 8192) (q : Fin 1024) (j : Fin 4) : EReal :=
  (∑ k : Fin 704, Da m c (ix3 j n k) * Wg m c (ix3 j q k)) + ∑ k : Fin 704, Db m c (ix3 j n k) * Wu m c (ix3 j q k)

theorem dh_terms (c : Dev nD) (n : Fin 8192) (q : Fin 1024) :
    dh m c n q = 0 + term m c n q 0 + term m c n q 1 + term m c n q 2 + term m c n q 3 := by
  unfold dh dot
  rw [← Finset.sum_add_distrib, Fin.sum_univ_four, zero_add]
  rfl

theorem acc_apply (c : Dev nD) (t : Fin cfg0.N) (r : Fin 512) (q : Fin 1024) :
    acc m c t.val (ix2 r q) = (if t.val % 4 = 0 then 0 else acc m c (t.val - 1) (ix2 r q))
      + term m c ⟨t.val / 4 * 512 + r.val, by have := lt64 t; omega⟩ q ⟨t.val % 4, by omega⟩ := by
  rw [← acc_step m c t (acc m c (t.val - 1)) (fun _ => rfl)]
  unfold accOf
  rw [sum_apply]
  refine congrArg₂ (· + ·) ?_ (congrArg₂ (· + ·) (Finset.sum_congr rfl fun k _ => by rw [x0_apply, x2_apply])
    (Finset.sum_congr rfl fun k _ => by rw [x1_apply, x3_apply]))
  by_cases h4 : t.val % 4 = 0
  · rw [if_pos ((cond4_iff t).2 h4), if_pos h4, pay8_apply]
  · rw [if_neg (fun h => h4 ((cond4_iff t).1 h)), if_neg h4]

theorem acc_row (c : Dev nD) (i : ℕ) (hi : i < 16) (r : Fin 512) (q : Fin 1024) :
    acc m c (4 * i + 3) (ix2 r q) = dh m c ⟨i * 512 + r.val, by omega⟩ q := by
  have step (j : Fin 4) : acc m c (4 * i + j.val) (ix2 r q) = (if j.val = 0 then 0 else acc m c (4 * i + j.val - 1) (ix2 r q))
      + term m c ⟨i * 512 + r.val, by omega⟩ q j := by
    have hj := j.isLt
    have h := acc_apply m c ⟨4 * i + j.val, by rw [N_eq]; omega⟩ r q
    have e1 : (4 * i + j.val) / 4 = i := by omega
    have e2 : (4 * i + j.val) % 4 = j.val := by omega
    simp only [e1, e2] at h
    exact h
  have s0 := step 0
  have s1 := step 1
  have s2 := step 2
  have s3 := step 3
  have e1 : 4 * i + (1 : Fin 4).val - 1 = 4 * i + (0 : Fin 4).val := by show 4 * i + 1 - 1 = 4 * i + 0; omega
  have e2 : 4 * i + (2 : Fin 4).val - 1 = 4 * i + (1 : Fin 4).val := by show 4 * i + 2 - 1 = 4 * i + 1; omega
  have e3 : 4 * i + (3 : Fin 4).val - 1 = 4 * i + (2 : Fin 4).val := by show 4 * i + 3 - 1 = 4 * i + 2; omega
  rw [if_pos (show (0 : Fin 4).val = 0 from rfl)] at s0
  rw [if_neg (by decide), e1, s0] at s1
  rw [if_neg (by decide), e2, s1] at s2
  rw [if_neg (by decide), e3, s2] at s3
  rw [dh_terms]
  exact s3

/-- The first result, a row at a time. -/
def outDx (c : Dev nD) : S8192x1024.Idx → EReal := fun i =>
  NormBwd.dx (fun k => dh m c (i 0) k) (fun k => X m c (ix2 (i 0) k)) (fun k => Gn m c (ix2 0 k)) (R m c i) (i 1)

/-- The second result: eight equal rows. -/
def outGain (c : Dev nD) : S8x1024.Idx → EReal := fun i =>
  ∑ n : Fin 8192, NormBwd.gain (fun k => dh m c n k) (fun k => X m c (ix2 n k)) (i 1)

theorem rows_apply (c : Dev nD) (t : Fin cfg0.N) (h : t.val % 4 = 3) (r : Fin 512) (q : Fin 1024) :
    rows m c t (ix2 r q) = outDx m c (ix2 ⟨t.val / 4 * 512 + r.val, by have := lt64 t; omega⟩ q) := by
  have ht := lt64 t
  have e : t.val = 4 * (t.val / 4) + 3 := by omega
  have ha (k : Fin 1024) : acc m c t.val (ix2 r k) = dh m c ⟨t.val / 4 * 512 + r.val, by omega⟩ k := by
    have := acc_row m c (t.val / 4) (by omega) r k
    rwa [← e] at this
  unfold rows
  rw [pay5_apply]
  simp only [ha, x4_apply, x5_apply, x6_apply]
  rfl

theorem gains_apply (c : Dev nD) (n : ℕ) (hn : n ≤ 16) (e : Fin 8) (q : Fin 1024) :
    gains m c n (ix2 e q) = ∑ i : Fin n, ∑ r : Fin 512, NormBwd.gain (fun k => dh m c ⟨i.val * 512 + r.val, by omega⟩ k)
      (fun k => X m c (ix2 ⟨i.val * 512 + r.val, by omega⟩ k)) q := by
  induction n with
  | zero => exact pay7_apply e q
  | succ n ih =>
    rw [Fin.sum_univ_castSucc]
    show k0_pay6 _ _ _ _ = _
    rw [pay6_apply, ih (by omega)]
    have hp : (pt (4 * n + 3)).val = 4 * n + 3 := Nat.mod_eq_of_lt (by omega)
    have hd : (4 * n + 3) / 4 = n := by omega
    simp only [acc_row m c n (by omega), x5_apply, hp, hd]
    rfl

theorem final7 (c : Dev nD) : (dats m 0 c).arrAt 7 cfg0.N = outDx m c := by
  refine (dats m 0 c).arrAt_eq_of_covers 7 _ (by decide +kernel) fun t hf y => ?_
  have h3 : t.val % 4 = 3 := (flush0_7 t).1 hf
  blk_simp
  show rows m c t y = _
  obtain ⟨r, q, rfl⟩ : ∃ (r : Fin 512) (q : Fin 1024), y = ix2 r q := ⟨y 0, y 1, eq_ix2 y⟩
  rw [rows_apply m c t h3]
  refine congrArg _ ?_
  blk_ext [(index_eq t).2.2.2.2.2.2.2.1]

theorem final8 (c : Dev nD) : (dats m 0 c).arrAt 8 cfg0.N = outGain m c := by
  refine (dats m 0 c).arrAt_eq_of_covers 8 _ (by decide +kernel) fun t hf y => ?_
  have h3 : t.val % 64 = 63 := (flush0_8 t).1 hf
  have ht := lt64 t
  blk_simp
  show gains m c ((t.val + 1) / 4) y = _
  obtain ⟨e, q, rfl⟩ : ∃ (e : Fin 8) (q : Fin 1024), y = ix2 e q := ⟨y 0, y 1, eq_ix2 y⟩
  have h8 : (t.val + 1) / 4 = 16 := by omega
  rw [h8, gains_apply m c 16 le_rfl]
  have hi : (win0_8.blk t).view.emb (ix2 e q) = ix2 e q := by blk_ext [(index_eq t).2.2.2.2.2.2.2.2]
  rw [hi]
  unfold outGain
  exact (NormBwd.sum_split 16 512 (fun n : Fin 8192 => NormBwd.gain (fun k => dh m c n k) (fun k => X m c (ix2 n k)) q) (fun i j => by omega)).symm

end Cert.InScatterProof

end
-- ==== Proof.InScatterValue.lean ====
/-
  The claims of `ffn1_bwd_in` with its ride: the frames, and the values against the reference at the extended reals.
-/
module

public import proofs.«01_k».proof.Defs
public import proofs.«01_k».proof.Proof.InScatter
public import proofs.«01_k».proof.Proof.InScatterRefV
public import proofs.«01_k».proof.Proof.InScatterSums
public import proofs.«01_k».proof.Proof.Slabs
public import proofs.«01_k».proof.Proof.Gen.InScatter
public import proofs.«01_k».proof.Proof.Gen.InScatterRefIdeal.Run

@[expose] public section

set_option maxRecDepth 16384

noncomputable section

namespace Cert.InScatterValue

open Idealize.ShloMosaic Idealize.ShloMosaic.TcCoe Idealize.SL.Sem
open Cert.InScatterIdeal Cert.InScatterIdeal.Gen Cert.InScatterProof Cert.InScatterRefV
open Cert.Scatter (peer)

variable {F : FTy → Type} [FloatOps F]

/-- Every argument of device `c` holds what it held at launch. -/
def Kept (m : (ℓ : Loc nD τ Cert.InScatterIdeal.sig) → Buf (Elt F) ℓ) (c : Dev nD) (s : MemSt nD τ Cert.InScatterIdeal.sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)

theorem kept_of (m : (ℓ : Loc nD τ Cert.InScatterIdeal.sig) → Buf (Elt F) ℓ) (c : Dev nD) (s : MemSt nD τ Cert.InScatterIdeal.sig (Elt F))
    (hw : ∀ w : Fin cfg0.W, s.mem ((c : Thread nD τ).loc (Pipeline.arrRef spec0 w)) = (dats m 0 c).arrAt w cfg0.N) (he : Ends m c s) : Kept m c s :=
  ⟨(hw 0).trans ((dats m 0 c).arrAt_in 0 rfl _),
    (hw 1).trans ((dats m 0 c).arrAt_in 1 rfl _),
    (hw 2).trans ((dats m 0 c).arrAt_in 2 rfl _),
    (hw 3).trans ((dats m 0 c).arrAt_in 3 rfl _),
    (hw 4).trans ((dats m 0 c).arrAt_in 4 rfl _),
    (hw 5).trans ((dats m 0 c).arrAt_in 5 rfl _),
    (hw 6).trans ((dats m 0 c).arrAt_in 6 rfl _),
    he.1, he.2.1, he.2.2.1⟩

theorem kernel_frame (m : (ℓ : Loc nD τ Cert.InScatterIdeal.sig) → Buf (Elt F) ℓ) (ρ : Dev nD → PrngReg) :
    θ_run (defs (F := F)) (onTc (τ := τ) (main (F := F))) ⟨m, fun _ => 0, ρ⟩ (fun r => (∀ c : Dev nD, Kept m c r.2) ∧ r.2.sem = fun _ => 0) :=
  (θ_run defs _ _).mono (fun r h => ⟨fun c => kept_of m c r.2 (h.1 c).1 (h.1 c).2, h.2⟩) (run m ρ)

/-! ## The claims -/

/-- The two printed texts of the call's body are one. -/
theorem defs_eq : Cert.InScatter.defs (F := F) = Cert.InScatterIdeal.defs (F := F) := by
  have h : Cert.InScatter.defs₀ (F := F) = Cert.InScatterIdeal.defs₀ (F := F) := by
    unfold Cert.InScatter.defs₀ Cert.InScatterIdeal.defs₀
    refine congrArg Defs.onTc ?_
    funext l a
    match l, a with
    | 0, (t, s) => rfl
    | ⟨_ + 1, h⟩, _ => exact absurd h (Nat.not_lt.2 (Nat.le_add_left _ _))
  exact congrArg (Pipeline.defs Cert.InScatterIdeal.pcfgs) h

theorem frame_bits : Cert.quiescent_InScatter := fun m ρ _ => by
  rw [defs_eq]
  exact kernel_frame (F := Bits) m ρ
theorem frame_ideal : Cert.quiescent_InScatterIdeal := fun m ρ _ => kernel_frame (F := Ideal) m ρ
theorem ref_frame : Cert.quiescent_InScatterRefIdeal := fun m ρ _ =>
  (θ_run Cert.InScatterRefIdeal.defs _ _).mono (fun r h => ⟨fun c => (h c).2.2.2.2.2, sem_eq_zero_of_no_sems rfl _⟩)
    (Cert.InScatterRefIdeal.Value.run (F := Ideal) m ρ)

section values
variable (m : (ℓ : Loc nD τ Cert.InScatterIdeal.sig) → Buf (Elt Ideal) ℓ) (c : Dev nD)
variable (a b : Cert.InScatterRefIdeal.S32x8192x704.Idx → EReal) (wg wu : Cert.InScatterRefIdeal.S4x1024x704.Idx → EReal)
variable (o x : Cert.InScatterRefIdeal.S65536x1024.Idx → EReal) (g : Cert.InScatterRefIdeal.S1x1024.Idx → EReal)

theorem row_lt (n : Fin 8192) : c.val * 8192 + n.val < 65536 := by
  have := c.isLt; change c.val < 8 at this; omega

theorem dot_block (d : S4x8192x704.Idx → EReal) (D : Cert.InScatterRefIdeal.S32x8192x704.Idx → EReal) (w : S4x1024x704.Idx → EReal)
    (hd : d = Layout.block ⟨3, ![4, 8192, 704]⟩ ⟨3, ![32, 8192, 704]⟩ 0 8 c D) (n : Fin 8192) (q : Fin 1024) :
    dot d w n q = refBack D w (ix2 ⟨c.val * 8192 + n.val, row_lt c n⟩ q) := by
  have hc := c.isLt
  change c.val < 8 at hc
  rw [refBack_apply, hd]
  refine Finset.sum_congr rfl fun j _ => Finset.sum_congr rfl fun k _ => congrArg (· * _) ?_
  have hn : (⟨(c.val * 8192 + n.val) % 8192, by omega⟩ : Fin 8192) = n := Fin.ext (by show (c.val * 8192 + n.val) % 8192 = n.val; omega)
  rw [Slabs.block_slabs c D _ j n k ⟨(c.val * 8192 + n.val) / 8192 * 4 + j.val, by omega⟩ (by show (c.val * 8192 + n.val) / 8192 * 4 + j.val = c.val * 4 + j.val; omega)]
  simp only [hn]

/-- The reference's gradient before the norm. -/
def refDh : Cert.InScatterRefIdeal.S65536x1024.Idx → EReal := (addf (F := Ideal) (φ := .f32) (refBack a wg) (refBack b wu) : FVec Ideal Cert.InScatterRefIdeal.S65536x1024 .f32)

theorem dh_block (ha : Da m c = Layout.block ⟨3, ![4, 8192, 704]⟩ ⟨3, ![32, 8192, 704]⟩ 0 8 c a) (hb : Db m c = Layout.block ⟨3, ![4, 8192, 704]⟩ ⟨3, ![32, 8192, 704]⟩ 0 8 c b)
    (hg : Wg m c = wg) (hu : Wu m c = wu) (n : Fin 8192) (q : Fin 1024) :
    dh m c n q = refDh a b wg wu (ix2 ⟨c.val * 8192 + n.val, row_lt c n⟩ q) := by
  unfold dh
  rw [dot_block c _ a _ ha, dot_block c _ b _ hb, hg, hu]
  rfl

theorem dx_block (ha : Da m c = Layout.block ⟨3, ![4, 8192, 704]⟩ ⟨3, ![32, 8192, 704]⟩ 0 8 c a) (hb : Db m c = Layout.block ⟨3, ![4, 8192, 704]⟩ ⟨3, ![32, 8192, 704]⟩ 0 8 c b)
    (hwg : Wg m c = wg) (hwu : Wu m c = wu)
    (ho : R m c = Layout.block ⟨2, ![8192, 1024]⟩ ⟨2, ![65536, 1024]⟩ 0 8 c o) (hx : X m c = Layout.block ⟨2, ![8192, 1024]⟩ ⟨2, ![65536, 1024]⟩ 0 8 c x)
    (hg : Gn m c = g) :
    outDx m c = Layout.block ⟨2, ![8192, 1024]⟩ ⟨2, ![65536, 1024]⟩ 0 8 c (NormBwd.refDx (refDh a b wg wu) o x g) := by
  funext i
  obtain ⟨n, q, rfl⟩ : ∃ (n : Fin 8192) (q : Fin 1024), i = ix2 n q := ⟨i 0, i 1, eq_ix2 i⟩
  rw [NormBwd.block_rows c _ _ n q ⟨c.val * 8192 + n.val, row_lt c n⟩ rfl, NormBwd.refDx_apply]
  have hx' (k : Fin 1024) : X m c (ix2 n k) = x (ix2 ⟨c.val * 8192 + n.val, row_lt c n⟩ k) := by rw [hx]; exact NormBwd.block_rows c x _ n k _ rfl
  have ho' : R m c (ix2 n q) = o (ix2 ⟨c.val * 8192 + n.val, row_lt c n⟩ q) := by rw [ho]; exact NormBwd.block_rows c o _ n q _ rfl
  show NormBwd.dx (fun k => dh m c n k) (fun k => X m c (ix2 n k)) (fun k => Gn m c (ix2 0 k)) (R m c (ix2 n q)) q = _
  simp only [dh_block m c a b wg wu ha hb hwg hwu, hx', ho', hg]

theorem gain_block (ha : Da m c = Layout.block ⟨3, ![4, 8192, 704]⟩ ⟨3, ![32, 8192, 704]⟩ 0 8 c a) (hb : Db m c = Layout.block ⟨3, ![4, 8192, 704]⟩ ⟨3, ![32, 8192, 704]⟩ 0 8 c b)
    (hwg : Wg m c = wg) (hwu : Wu m c = wu) (hx : X m c = Layout.block ⟨2, ![8192, 1024]⟩ ⟨2, ![65536, 1024]⟩ 0 8 c x) :
    outGain m c = Layout.block ⟨2, ![8, 1024]⟩ ⟨2, ![64, 1024]⟩ 0 8 c (NormBwd.refGain (refDh a b wg wu) x) := by
  funext i
  obtain ⟨e, q, rfl⟩ : ∃ (e : Fin 8) (q : Fin 1024), i = ix2 e q := ⟨i 0, i 1, eq_ix2 i⟩
  have hc := c.isLt
  change c.val < 8 at hc
  have hx' (n : Fin 8192) (k : Fin 1024) : X m c (ix2 n k) = x (ix2 ⟨c.val * 8192 + n.val, row_lt c n⟩ k) := by rw [hx]; exact NormBwd.block_rows c x _ n k _ rfl
  rw [NormBwd.block_rows c _ _ e q ⟨c.val * 8 + e.val, by omega⟩ rfl, NormBwd.refGain_apply _ _ c e q _ rfl]
  show (∑ n : Fin 8192, NormBwd.gain (fun k => dh m c n k) (fun k => X m c (ix2 n k)) q) = _
  simp only [dh_block m c a b wg wu ha hb hwg hwu, hx']

end values

/-- The slab a device reads for a peer is that of the peer's chip. -/
theorem off_peer (k : Fin 3) (c : Dev nD) :
    (match k with | 0 => k0_off1 (peer 0 c) | 1 => k0_off2 (peer 1 c) | 2 => k0_off3 (peer 2 c)) = ![c.val / 2, 0, 0] := by
  match k with
  | 0 => exact (k0_off1_eq _).trans (congrArg (fun x => ![x, 0, 0]) ((by decide : ∀ c : Fin 8, ((peer 0 c).val / 2 % 2 + 2) - 2 * ((peer 0 c).val / 4) = c.val / 2) c))
  | 1 => exact (k0_off2_eq _).trans (congrArg (fun x => ![x, 0, 0]) ((by decide : ∀ c : Fin 8, (2 * ((peer 1 c).val / 4) + 1) - (peer 1 c).val / 2 % 2 = c.val / 2) c))
  | 2 => exact (k0_off3_eq _).trans (congrArg (fun x => ![x, 0, 0]) ((by decide : ∀ c : Fin 8, 3 - (2 * ((peer 2 c).val / 4) + (peer 2 c).val / 2 % 2) = c.val / 2) c))

/-- What a device receives, an element at a time. -/
theorem received (m : (ℓ : Loc nD τ Cert.InScatterIdeal.sig) → Buf (Elt F) ℓ) (c : Dev nD) (s : MemSt nD τ Cert.InScatterIdeal.sig (Elt F)) (he : Ends m c s)
    (a k : Fin 3) (r : Fin 352) (q : Fin 1024) :
    (outM a).view.read (Elt F) (s.mem ((outM a).view.loc (c : Thread nD τ))) (ix3 k r q)
      = (argM a).view.read (Elt F) (m ((argM a).view.loc (peer k c : Thread nD τ))) (ix3 ⟨c.val / 2, by have := c.isLt; change c.val < 8 at this; omega⟩ r q) := by
  have h := congrFun (he.2.2.2 (a, k)) (ix2 r q)
  unfold block at h
  match k with
  | 0 => exact ((Slabs.slab_read (outM a) _ 0 rfl _ (fun _ => rfl) squeezes_S1x352x1024_S352x1024 _ r q).symm.trans h).trans (Slabs.slab_read (argM a) _ ⟨c.val / 2, _⟩ (off_peer 0 c) _ (fun _ => rfl) squeezes_S1x352x1024_S352x1024 _ r q)
  | 1 => exact ((Slabs.slab_read (outM a) _ 1 rfl _ (fun _ => rfl) squeezes_S1x352x1024_S352x1024 _ r q).symm.trans h).trans (Slabs.slab_read (argM a) _ ⟨c.val / 2, _⟩ (off_peer 1 c) _ (fun _ => rfl) squeezes_S1x352x1024_S352x1024 _ r q)
  | 2 => exact ((Slabs.slab_read (outM a) _ 2 rfl _ (fun _ => rfl) squeezes_S1x352x1024_S352x1024 _ r q).symm.trans h).trans (Slabs.slab_read (argM a) _ ⟨c.val / 2, _⟩ (off_peer 2 c) _ (fun _ => rfl) squeezes_S1x352x1024_S352x1024 _ r q)

theorem algebraic : Cert.algebraic_InScatterIdeal_InScatterRefIdeal := fun m ρ m' ρ' _ hm =>
  ⟨_, _, _, _, _,
    (θ_run defs _ _).mono (fun r h c => by
      have he := (h.1 c).2
      have hk := kept_of m c r.2 (h.1 c).1 he
      obtain ⟨h0, h1, h2, h3, h4, h5, h6, -⟩ := hm c
      refine ⟨?_, ?_, ?_, ?_, ?_, hk⟩
      · exact (((h.1 c).1 7).trans (final7 m c)).trans (dx_block m c _ _ _ _ _ _ _ h0 h1 h2 h3 h4 h5 h6)
      · exact (((h.1 c).1 8).trans (final8 m c)).trans (gain_block m c _ _ _ _ _ h0 h1 h2 h3 h5)
      · exact Slabs.slabs_eq c _ (fun p : Dev nD => m ((p.tc : Thread nD τ).loc main_arg7)) _ _ _ _ (refScat_apply _)
          (fun p => (hm p).2.2.2.2.2.2.2.1) (received m c r.2 he 0)
      · exact Slabs.slabs_eq c _ (fun p : Dev nD => m ((p.tc : Thread nD τ).loc main_arg8)) _ _ _ _ (refScat_apply _)
          (fun p => (hm p).2.2.2.2.2.2.2.2.1) (received m c r.2 he 1)
      · exact Slabs.slabs_eq c _ (fun p : Dev nD => m ((p.tc : Thread nD τ).loc main_arg9)) _ _ _ _ (refScat_apply _)
          (fun p => (hm p).2.2.2.2.2.2.2.2.2) (received m c r.2 he 2)) (run m ρ),
    (θ_run Cert.InScatterRefIdeal.defs _ _).mono (fun r h => h 0) (Cert.InScatterRefIdeal.Value.run (F := Ideal) m' ρ')⟩

end Cert.InScatterValue

end
-- ==== Proof.ProjSwap.lean ====
/-
  The kernel `mix_in_proj_bwd`: the gradient through an input projection and a norm, with a swap riding along.

  The grid has eight row tiles of four column tiles. For each row tile the kernel adds up a product over the four column
  tiles in a scratch array; at the last column tile it finishes the gradient of the norm for the rows of the tile, and adds
  the tile's part of the gradient of the gain to the second result.

  Along with it the two cores of a chip exchange halves of seven arrays. The copies start at the first grid point and
  are waited for at the last. A copy needs the partner's result array from the start; `Exchange` carries it.
  The run is written for any float values.
-/
module

public import Idealize.ShloMosaic.Lib.Pipeline.TableIdle
public import proofs.«01_k».proof.Proof.MemLaunch
public import proofs.«01_k».proof.Proof.Exchange
public import proofs.«01_k».proof.Proof.Staged
public import proofs.«01_k».proof.Proof.Gen.ProjSwapIdeal
public import proofs.«01_k».proof.Proof.Gen.ProjSwapIdeal.Skeleton
public import proofs.«01_k».proof.Proof.Gen.ProjSwapIdeal.Launch
public import proofs.«01_k».proof.Proof.Gen.ProjSwapIdeal.Points
public import proofs.«01_k».proof.Proof.Gen.ProjSwapIdeal.Frame

@[expose] public section

noncomputable section

namespace Cert.ProjSwapProof

open Cert.ProjSwapIdeal Cert.ProjSwapIdeal.Gen Cert.Exchange Cert.Staged
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU : Type := UR sig nD τ × UR sig nD τ
local notation "𝕄" => MT nD τ sig Unit (Elt F) ℕ UU ℕ
abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-! ## The table of copies -/

/-- The other core of the same chip. -/
def peer (c : Dev nD) : Dev nD := ⟨2 * (c.val / 2) + (1 - c.val % 2), by have := c.isLt; change c.val < 8 at this; show _ < 8; omega⟩
theorem peer_peer (c : Dev nD) : peer (peer c) = c := by revert c; decide

theorem peer_val (c : Dev nD) : (4 * (c.val / 4) + 2 * ((c.val / 2) % 2) + 1) - (c.val % 2) = (peer c).val := by
  have := c.isLt; change c.val < 8 at this; show _ = 2 * (c.val / 2) + (1 - c.val % 2); omega

abbrev p₀ : grid0.Coords := grid0.coords ⟨0, by decide⟩
theorem first : k0_cond1 p₀ = 1#1 := by decide +kernel

abbrev halfS (i : Fin 7) : Shape :=
  match i with | 0 => S4x512x768 | 1 => S4x128x1024 | 2 => S4x352x1024 | 3 => S4x352x1024 | 4 => S4x352x1024 | 5 => S4x128x1024 | 6 => S4x128x256
abbrev resM (i : Fin 7) : Memref sig .tc .hbm (halfS i) .f32 :=
  match i with | 0 => Memref.whole main_v1_2 | 1 => Memref.whole main_v1_3 | 2 => Memref.whole main_v1_4 | 3 => Memref.whole main_v1_5 | 4 => Memref.whole main_v1_6 | 5 => Memref.whole main_v1_7 | 6 => Memref.whole main_v1_8
/-- The half of array `i` that device `c` sends. -/
abbrev halfM (i : Fin 7) (c : Dev nD) : Memref sig .tc .hbm (halfS i) .f32 :=
  match i with
  | 0 => (Memref.whole main_arg5).slice (Rect.unit (s := S4x1024x768) (k0_off1 c) S4x512x768.size (k0_off1_inb p₀ c first)) (fun _ => rfl)
  | 1 => (Memref.whole main_arg6).slice (Rect.unit (s := S4x256x1024) (k0_off2 c) S4x128x1024.size (k0_off2_inb p₀ c first)) (fun _ => rfl)
  | 2 => (Memref.whole main_arg7).slice (Rect.unit (s := S4x704x1024) (k0_off3 c) S4x352x1024.size (k0_off3_inb p₀ c first)) (fun _ => rfl)
  | 3 => (Memref.whole main_arg8).slice (Rect.unit (s := S4x704x1024) (k0_off3 c) S4x352x1024.size (k0_off3_inb p₀ c first)) (fun _ => rfl)
  | 4 => (Memref.whole main_arg9).slice (Rect.unit (s := S4x704x1024) (k0_off3 c) S4x352x1024.size (k0_off3_inb p₀ c first)) (fun _ => rfl)
  | 5 => (Memref.whole main_arg10).slice (Rect.unit (s := S4x256x1024) (k0_off2 c) S4x128x1024.size (k0_off2_inb p₀ c first)) (fun _ => rfl)
  | 6 => (Memref.whole main_arg11).slice (Rect.unit (s := S4x256x256) (k0_off4 c) S4x128x256.size (k0_off4_inb p₀ c first)) (fun _ => rfl)

def table : Table sig nD (Fin 7) where
  peer _ := peer
  snd i := .dma (match i with | 0 => 12 | 1 => 13 | 2 => 14 | 3 => 15 | 4 => 16 | 5 => 17 | 6 => 18)
  rcv i := .dma (match i with | 0 => 19 | 1 => 20 | 2 => 21 | 3 => 22 | 4 => 23 | 5 => 24 | 6 => 25)
  amt i := (resM i).view.dmaCredit
  back _ := peer_peer
  inj := by decide
  pos i := by fin_cases i <;> exact View.dmaCredit_pos _ (by decide)

/-- The half device `c` sends in copy `i`, as it is at launch. -/
def block (i : Fin 7) (c : Dev nD) : (⟨halfS i, .f32⟩ : BufTy).Contents (Elt F) :=
  (halfM i c).view.read (Elt F) (m ((halfM i c).view.loc (c : Thread nD τ)))

def lent (i : Fin 7) (c : Dev nD) : sProp 𝕄 :=
  ((halfM i c).view.loc (c : Thread nD τ)) ↦[(halfM i c).view.set]{fullShare.right} m ((halfM i c).view.loc (c : Thread nD τ))

/-- Copy `i` in terms of arrays: the half is lent at half a share, the result array is offered and comes back filled. -/
def goods : Goods τ sig nD (Fin 7) (Elt F) UU where
  src := lent m
  landed i c := match i with
    | 0 => ((c : Thread nD τ).loc main_v1_2) ↦{fullShare} block m 0 (peer c)
    | 1 => ((c : Thread nD τ).loc main_v1_3) ↦{fullShare} block m 1 (peer c)
    | 2 => ((c : Thread nD τ).loc main_v1_4) ↦{fullShare} block m 2 (peer c)
    | 3 => ((c : Thread nD τ).loc main_v1_5) ↦{fullShare} block m 3 (peer c)
    | 4 => ((c : Thread nD τ).loc main_v1_6) ↦{fullShare} block m 4 (peer c)
    | 5 => ((c : Thread nD τ).loc main_v1_7) ↦{fullShare} block m 5 (peer c)
    | 6 => ((c : Thread nD τ).loc main_v1_8) ↦{fullShare} block m 6 (peer c)
  room i c := match i with
    | 0 => iprop(∃ f, ((c : Thread nD τ).loc main_v1_2) ↦{fullShare} f)
    | 1 => iprop(∃ f, ((c : Thread nD τ).loc main_v1_3) ↦{fullShare} f)
    | 2 => iprop(∃ f, ((c : Thread nD τ).loc main_v1_4) ↦{fullShare} f)
    | 3 => iprop(∃ f, ((c : Thread nD τ).loc main_v1_5) ↦{fullShare} f)
    | 4 => iprop(∃ f, ((c : Thread nD τ).loc main_v1_6) ↦{fullShare} f)
    | 5 => iprop(∃ f, ((c : Thread nD τ).loc main_v1_7) ↦{fullShare} f)
    | 6 => iprop(∃ f, ((c : Thread nD τ).loc main_v1_8) ↦{fullShare} f)
  src_storable i c := by unfold lent; infer_instance
  landed_storable i c := by fin_cases i <;> dsimp only <;> infer_instance

theorem room_of {c : Dev nD} (b : Ref sig .tc) :
    iprop(∃ f, ((c : Thread nD τ).loc b) ↦{fullShare} f : sProp 𝕄)
      ⊢ iprop(∃ fd, (View.whole b).loc (c : Thread nD τ) ↦[(View.whole b).set]{fullShare} fd) := by
  rw [View.set_whole]

theorem land_of {c : Dev nD} (b : Ref sig .tc) (fd X : Buf (Elt F) ((c : Thread nD τ).loc b)) :
    ((View.whole b).loc (c : Thread nD τ) ↦[(View.whole b).set]{fullShare} (View.whole b).write (Elt F) fd X Finset.univ : sProp 𝕄)
      ⊢ ((c : Thread nD τ).loc b) ↦{fullShare} X := by
  rw [View.set_whole, View.write_whole_univ]

theorem room_open (i : Fin 7) (n : Dev nD) :
    (goods m).room i n ⊢ iprop(∃ fd, (resM i).view.loc (n : Thread nD τ) ↦[(resM i).view.set]{fullShare} fd) := by
  fin_cases i
  · exact room_of main_v1_2
  · exact room_of main_v1_3
  · exact room_of main_v1_4
  · exact room_of main_v1_5
  · exact room_of main_v1_6
  · exact room_of main_v1_7
  · exact room_of main_v1_8

theorem land_close (i : Fin 7) (c : Dev nD) (fd : Buf (Elt F) ((resM i).view.loc (peer c : Thread nD τ))) :
    ((resM i).view.loc (peer c : Thread nD τ) ↦[(resM i).view.set]{fullShare} (resM i).view.write (Elt F) fd (block m i c) Finset.univ : sProp 𝕄)
      ⊢ (goods m).landed i (peer c) := by
  have hb : block m i c = block m i (peer (peer c)) := by rw [peer_peer]
  rw [hb]
  fin_cases i
  · exact land_of main_v1_2 fd (block m 0 (peer (peer c)))
  · exact land_of main_v1_3 fd (block m 1 (peer (peer c)))
  · exact land_of main_v1_4 fd (block m 2 (peer (peer c)))
  · exact land_of main_v1_5 fd (block m 3 (peer (peer c)))
  · exact land_of main_v1_6 fd (block m 4 (peer (peer c)))
  · exact land_of main_v1_7 fd (block m 5 (peer (peer c)))
  · exact land_of main_v1_8 fd (block m 6 (peer (peer c)))

abbrev 𝒱₀ : Variants := Variants.none

theorem wp_copy {c n : Dev nD} {S : Finset (Fin 7)} (i : Fin 7) (hi : i ∈ S) (hn : n = peer c)
    {hsc : (show Memref sig (n.tc : Thread nD τ).2.kind .hbm (halfS i) .f32 from resM i).view.ref.isScScratch = false} {sS sem : SemLoc sig}
    (hS : sS = table.snd i) (hR : sem = table.rcv i)
    {hsrc : (halfM i c).view.WordExact} {hdst : (resM i).view.WordExact}
    {hsem : DmaTarget.Typed .hbm sem (.remote (n.tc : Thread nD τ) (resM i) sS hsc)}
    {α : Type} {Q : α → sProp 𝕄} {k : PUnit → Prog (TpuEff nD τ sig (Elt F) Λ₀ .tc) α} :
    iprop(Sending table (goods m) ER c S ∗ owing c (table.dues c S))
      ⊢ iprop(((Sending table (goods m) ER c (S.erase i) ∗ owing c (table.dues c (S.erase i)))
            -∗ wp frame (wpE (defs₀ (F := F)) 𝒱₀ (c.tc : Thread nD τ) none) Set.univ (k ⟨⟩) Q)
          -∗ wp frame (wpE (defs₀ (F := F)) 𝒱₀ (c.tc : Thread nD τ) none) Set.univ
              (.op (.enqueueDma (halfM i c) (.remote (n.tc : Thread nD τ) (resM i) sS hsc) sem hsrc hdst hsem) k) Q) := by
  subst hn
  refine wp_start table (goods m) ER (c := c) i hi rfl hS hR (src := halfM i c) (dst := resM i) ?_ _ rfl (room_open m i _) (fun fd => ?_)
  · subst hR; fin_cases i <;> rfl
  · exact land_close m i c fd

/-! ## The body -/

/-- What is in flight before the first point, between the first and the last, and after the last. -/
def before (c : Dev nD) : sProp 𝕄 := iprop(Sending table (goods m) ER c Finset.univ ∗ owing c (table.dues c Finset.univ))
def flying (c : Dev nD) : sProp 𝕄 := iprop(Waiting table (goods m) ER c Finset.univ ∗ owing c 0)
def arrived (c : Dev nD) : sProp 𝕄 := iprop(Waiting table (goods m) ER c ∅ ∗ owing c 0)

section body

variable (c : Dev nD) (i : grid0.Coords)
  (a2 : Memref sig .tc .vmem S1024x768 .bf16) (h2 : a2.IsWhole) (a3 : Memref sig .tc .vmem S1x1024x768 .bf16) (h3 : a3.IsWhole)
  (a4 : Memref sig .tc .vmem S1024x1024 .f32) (h4 : a4.IsWhole) (a5 : Memref sig .tc .vmem S1024x1024 .f32) (h5 : a5.IsWhole)
  (a6 : Memref sig .tc .vmem S1x1024 .f32) (h6 : a6.IsWhole)
  (a14 : Memref sig .tc .vmem S1024x1024 .f32) (h14 : a14.IsWhole) (a15 : Memref sig .tc .vmem S8x1024 .f32) (h15 : a15.IsWhole)
  (X2 : Vec F S1024x768 .bf16) (X3 : Vec F S1x1024x768 .bf16) (X4 X5 : Vec F S1024x1024 .f32) (X6 : Vec F S1x1024 .f32)

/-- The staged blocks and the scratch array, with what the written ones hold. -/
def held (X14 : Vec F S1024x1024 .f32) (X15 : Vec F S8x1024 .f32) (f : Vec F S1024x1024 .f32) : sProp 𝕄 :=
  iprop(owns (c : Thread nD τ) a2 fullShare X2 ∗ owns (c : Thread nD τ) a3 fullShare X3 ∗ owns (c : Thread nD τ) a4 fullShare X4
    ∗ owns (c : Thread nD τ) a5 fullShare X5 ∗ owns (c : Thread nD τ) a6 fullShare X6
    ∗ owns (c : Thread nD τ) a14 fullShare X14 ∗ owns (c : Thread nD τ) a15 fullShare X15
    ∗ owns (c : Thread nD τ) (Memref.whole cc0_scratch0) fullShare f)

/-- Whether a point is the first of its row tile. -/
def cond4 (i : grid0.Coords) : BitVec 1 := Scalar.cmpi .ne (Scalar.extui (Scalar.cmpi .eq (BitVec.ofNat 32 (i 1).val) 0#32)) 0#32

/-- The running product after a point. -/
def accOf (i : grid0.Coords) (f : Vec F S1024x1024 .f32) : Vec F S1024x1024 .f32 :=
  k0_pay8 (if cond4 i = 1#1 then k0_pay7 else f) X2 X3

theorem zero2 : (![0, 0] : Fin 2 → ℕ) = fun _ => 0 := by funext a; fin_cases a <;> rfl
theorem zero3 : (![0, 0, 0] : Fin 3 → ℕ) = fun _ => 0 := by funext a; fin_cases a <;> rfl

set_option maxHeartbeats 1600000 in
theorem sound_body (X14 : Vec F S1024x1024 .f32) (X15 : Vec F S8x1024 .f32) (f : Vec F S1024x1024 .f32) :
    iprop((if k0_cond1 i = 1#1 then before m c else flying m c) ∗ held c a2 a3 a4 a5 a6 a14 a15 X2 X3 X4 X5 X6 X14 X15 f)
      ⊢ wp frame (wpE (defs₀ (F := F)) 𝒱₀ c none) Set.univ
          (cc0_mix_in_proj_bwd i a2 h2 a3 h3 a4 h4 a5 h5 a6 h6 (Memref.whole main_arg5) (Memref.isWhole_whole _) (Memref.whole main_arg6) (Memref.isWhole_whole _) (Memref.whole main_arg7) (Memref.isWhole_whole _) (Memref.whole main_arg8) (Memref.isWhole_whole _) (Memref.whole main_arg9) (Memref.isWhole_whole _) (Memref.whole main_arg10) (Memref.isWhole_whole _) (Memref.whole main_arg11) (Memref.isWhole_whole _)
            a14 h14 a15 h15 (Memref.whole main_v1_2) (Memref.isWhole_whole _) (Memref.whole main_v1_3) (Memref.isWhole_whole _) (Memref.whole main_v1_4) (Memref.isWhole_whole _) (Memref.whole main_v1_5) (Memref.isWhole_whole _) (Memref.whole main_v1_6) (Memref.isWhole_whole _) (Memref.whole main_v1_7) (Memref.isWhole_whole _) (Memref.whole main_v1_8) (Memref.isWhole_whole _) (Memref.whole cc0_scratch0) (Memref.isWhole_whole _) cc0_scratch1 cc0_scratch2)
          (fun _ => iprop((if k0_cond2 i = 1#1 then arrived m c else flying m c)
            ∗ held c a2 a3 a4 a5 a6 a14 a15 X2 X3 X4 X5 X6
                (if k0_cond5 i = 1#1 then k0_pay4 X6 X5 (accOf X2 X3 i f) X4 else X14)
                (if k0_cond5 i = 1#1 then k0_pay5 X5 (accOf X2 X3 i f) (if k0_cond3 i = 1#1 then k0_pay6 else X15)
                  else if k0_cond3 i = 1#1 then k0_pay6 else X15)
                (accOf X2 X3 i f))) := by
  simp only [cc0_mix_in_proj_bwd_eq_skeleton]; unfold cc0_mix_in_proj_bwd_skel
  simp only [k0_part9_eq_skeleton, k0_part8_eq_skeleton]; unfold k0_part9_skel k0_part8_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [Prog.lift, Prog.bind_op, Prog.bind_ret, Prog.pure_eq_ret, guard_bind]
  -- the copies start
  refine wp_guard 𝒱₀ (c : Thread nD τ) none Set.univ (iprop(flying m c ∗ held c a2 a3 a4 a5 a6 a14 a15 X2 X3 X4 X5 X6 X14 X15 f))
    ?_ ?_ (fun hc hk => ?_)
  · intro h; rw [if_neg h]
  rotate_left
  · rw [wp_deviceId, if_pos hc]
    unfold before flying at *
    iintro ⟨H, HB⟩
    iapply (wp_copy m (S := Finset.univ) 0 (by decide) (dev_eq ((k0_dev1_eq c).trans (peer_val c))) rfl rfl) $$ H
    iintro H
    iapply (wp_copy m (S := (Finset.univ.erase 0)) 1 (by decide) (dev_eq ((k0_dev2_eq c).trans (peer_val c))) rfl rfl) $$ H
    iintro H
    iapply (wp_copy m (S := ((Finset.univ.erase 0).erase 1)) 2 (by decide) (dev_eq ((k0_dev3_eq c).trans (peer_val c))) rfl rfl) $$ H
    iintro H
    iapply (wp_copy m (S := (((Finset.univ.erase 0).erase 1).erase 2)) 3 (by decide) (dev_eq ((k0_dev4_eq c).trans (peer_val c))) rfl rfl) $$ H
    iintro H
    iapply (wp_copy m (S := ((((Finset.univ.erase 0).erase 1).erase 2).erase 3)) 4 (by decide) (dev_eq ((k0_dev5_eq c).trans (peer_val c))) rfl rfl) $$ H
    iintro H
    iapply (wp_copy m (S := (((((Finset.univ.erase 0).erase 1).erase 2).erase 3).erase 4)) 5 (by decide) (dev_eq ((k0_dev6_eq c).trans (peer_val c))) rfl rfl) $$ H
    iintro H
    iapply (wp_copy m (S := ((((((Finset.univ.erase 0).erase 1).erase 2).erase 3).erase 4).erase 5)) 6 (by decide) (dev_eq ((k0_dev7_eq c).trans (peer_val c))) rfl rfl) $$ H
    iintro H
    rw [show ((((((((Finset.univ : Finset (Fin 7)).erase 0).erase 1).erase 2).erase 3).erase 4).erase 5).erase 6) = ∅ from by decide, table.dues_empty]
    icases H with ⟨HS, HO⟩
    ihave HS := (waiting_of_sent table (goods m) ER c) $$ HS
    iapply hk
    isplitl [HS HO]
    · isplitl [HS] <;> iassumption
    iexact HB
  -- the copies are waited for
  refine wp_guard 𝒱₀ (c : Thread nD τ) none Set.univ (iprop((if k0_cond2 i = 1#1 then arrived m c else flying m c)
    ∗ held c a2 a3 a4 a5 a6 a14 a15 X2 X3 X4 X5 X6 X14 X15 f)) ?_ ?_ (fun hc hk => ?_)
  · intro h; rw [if_neg h]
  rotate_left
  · rw [wp_deviceId]
    simp only [if_pos hc] at hk ⊢
    unfold arrived at hk ⊢
    unfold flying
    iintro ⟨H, HB⟩
    iapply (wp_finish table (goods m) ER (c := c) (S := Finset.univ) (.inl 0) (by decide) (wpE_waitDma2_eq 𝒱₀ (c : Thread nD τ) none Set.univ) rfl rfl) $$ H
    iintro H
    iapply (wp_finish table (goods m) ER (c := c) (S := (Finset.univ.erase (.inl 0))) (.inr 0) (by decide) (wpE_waitDma2_eq 𝒱₀ (c : Thread nD τ) none Set.univ) rfl rfl) $$ H
    iintro H
    iapply (wp_finish table (goods m) ER (c := c) (S := ((Finset.univ.erase (.inl 0)).erase (.inr 0))) (.inl 1) (by decide) (wpE_waitDma2_eq 𝒱₀ (c : Thread nD τ) none Set.univ) rfl rfl) $$ H
    iintro H
    iapply (wp_finish table (goods m) ER (c := c) (S := (((Finset.univ.erase (.inl 0)).erase (.inr 0)).erase (.inl 1))) (.inr 1) (by decide) (wpE_waitDma2_eq 𝒱₀ (c : Thread nD τ) none Set.univ) rfl rfl) $$ H
    iintro H
    iapply (wp_finish table (goods m) ER (c := c) (S := ((((Finset.univ.erase (.inl 0)).erase (.inr 0)).erase (.inl 1)).erase (.inr 1))) (.inl 2) (by decide) (wpE_waitDma2_eq 𝒱₀ (c : Thread nD τ) none Set.univ) rfl rfl) $$ H
    iintro H
    iapply (wp_finish table (goods m) ER (c := c) (S := (((((Finset.univ.erase (.inl 0)).erase (.inr 0)).erase (.inl 1)).erase (.inr 1)).erase (.inl 2))) (.inr 2) (by decide) (wpE_waitDma2_eq 𝒱₀ (c : Thread nD τ) none Set.univ) rfl rfl) $$ H
    iintro H
    iapply (wp_finish table (goods m) ER (c := c) (S := ((((((Finset.univ.erase (.inl 0)).erase (.inr 0)).erase (.inl 1)).erase (.inr 1)).erase (.inl 2)).erase (.inr 2))) (.inl 3) (by decide) (wpE_waitDma2_eq 𝒱₀ (c : Thread nD τ) none Set.univ) rfl rfl) $$ H
    iintro H
    iapply (wp_finish table (goods m) ER (c := c) (S := (((((((Finset.univ.erase (.inl 0)).erase (.inr 0)).erase (.inl 1)).erase (.inr 1)).erase (.inl 2)).erase (.inr 2)).erase (.inl 3))) (.inr 3) (by decide) (wpE_waitDma2_eq 𝒱₀ (c : Thread nD τ) none Set.univ) rfl rfl) $$ H
    iintro H
    iapply (wp_finish table (goods m) ER (c := c) (S := ((((((((Finset.univ.erase (.inl 0)).erase (.inr 0)).erase (.inl 1)).erase (.inr 1)).erase (.inl 2)).erase (.inr 2)).erase (.inl 3)).erase (.inr 3))) (.inl 4) (by decide) (wpE_waitDma2_eq 𝒱₀ (c : Thread nD τ) none Set.univ) rfl rfl) $$ H
    iintro H
    iapply (wp_finish table (goods m) ER (c := c) (S := (((((((((Finset.univ.erase (.inl 0)).erase (.inr 0)).erase (.inl 1)).erase (.inr 1)).erase (.inl 2)).erase (.inr 2)).erase (.inl 3)).erase (.inr 3)).erase (.inl 4))) (.inr 4) (by decide) (wpE_waitDma2_eq 𝒱₀ (c : Thread nD τ) none Set.univ) rfl rfl) $$ H
    iintro H
    iapply (wp_finish table (goods m) ER (c := c) (S := ((((((((((Finset.univ.erase (.inl 0)).erase (.inr 0)).erase (.inl 1)).erase (.inr 1)).erase (.inl 2)).erase (.inr 2)).erase (.inl 3)).erase (.inr 3)).erase (.inl 4)).erase (.inr 4))) (.inl 5) (by decide) (wpE_waitDma2_eq 𝒱₀ (c : Thread nD τ) none Set.univ) rfl rfl) $$ H
    iintro H
    iapply (wp_finish table (goods m) ER (c := c) (S := (((((((((((Finset.univ.erase (.inl 0)).erase (.inr 0)).erase (.inl 1)).erase (.inr 1)).erase (.inl 2)).erase (.inr 2)).erase (.inl 3)).erase (.inr 3)).erase (.inl 4)).erase (.inr 4)).erase (.inl 5))) (.inr 5) (by decide) (wpE_waitDma2_eq 𝒱₀ (c : Thread nD τ) none Set.univ) rfl rfl) $$ H
    iintro H
    iapply (wp_finish table (goods m) ER (c := c) (S := ((((((((((((Finset.univ.erase (.inl 0)).erase (.inr 0)).erase (.inl 1)).erase (.inr 1)).erase (.inl 2)).erase (.inr 2)).erase (.inl 3)).erase (.inr 3)).erase (.inl 4)).erase (.inr 4)).erase (.inl 5)).erase (.inr 5))) (.inl 6) (by decide) (wpE_waitDma2_eq 𝒱₀ (c : Thread nD τ) none Set.univ) rfl rfl) $$ H
    iintro H
    iapply (wp_finish table (goods m) ER (c := c) (S := (((((((((((((Finset.univ.erase (.inl 0)).erase (.inr 0)).erase (.inl 1)).erase (.inr 1)).erase (.inl 2)).erase (.inr 2)).erase (.inl 3)).erase (.inr 3)).erase (.inl 4)).erase (.inr 4)).erase (.inl 5)).erase (.inr 5)).erase (.inl 6))) (.inr 6) (by decide) (wpE_waitDma2_eq 𝒱₀ (c : Thread nD τ) none Set.univ) rfl rfl) $$ H
    iintro H
    rw [show (((((((((((((((Finset.univ : Finset (Fin 7 ⊕ Fin 7)).erase (.inl 0)).erase (.inr 0)).erase (.inl 1)).erase (.inr 1)).erase (.inl 2)).erase (.inr 2)).erase (.inl 3)).erase (.inr 3)).erase (.inl 4)).erase (.inr 4)).erase (.inl 5)).erase (.inr 5)).erase (.inl 6)).erase (.inr 6)) = ∅ from by decide]
    iapply hk
    isplitl [H] <;> iassumption
  generalize (if k0_cond2 i = 1#1 then arrived m c else flying m c) = HX
  -- the second result starts at zero
  refine wp_guard 𝒱₀ (c : Thread nD τ) none Set.univ (iprop(HX ∗ held c a2 a3 a4 a5 a6 a14 a15 X2 X3 X4 X5 X6 X14 (if k0_cond3 i = 1#1 then k0_pay6 else X15) f))
    ?_ ?_ (fun hc hk => ?_)
  · intro h; rw [if_neg h]
  rotate_left
  · simp only [if_pos hc] at hk ⊢
    unfold held at *
    iintro ⟨HE, B2, B3, B4, B5, B6, B14, B15, BS⟩
    iapply (wp_load_owns 𝒱₀ (c : Thread nD τ) none Set.univ zero2) $$ B15
    iintro B15
    iapply (wp_store_owns 𝒱₀ (c : Thread nD τ) none Set.univ zero2) $$ B15
    iintro B15
    iapply hk
    iframe
  generalize (if k0_cond3 i = 1#1 then k0_pay6 else X15) = Y15
  -- the running product starts at zero
  refine wp_guard 𝒱₀ (c : Thread nD τ) none Set.univ (iprop(HX ∗ held c a2 a3 a4 a5 a6 a14 a15 X2 X3 X4 X5 X6 X14 Y15 (if cond4 i = 1#1 then k0_pay7 else f)))
    ?_ ?_ (fun hc hk => ?_)
  · intro h; rw [if_neg (show ¬ cond4 i = 1#1 from h)]
  rotate_left
  · unfold accOf at *
    simp only [if_pos (show cond4 i = 1#1 from hc)] at hk ⊢
    unfold held at *
    iintro ⟨HE, B2, B3, B4, B5, B6, B14, B15, BS⟩
    iapply (wp_load_owns 𝒱₀ (c : Thread nD τ) none Set.univ zero2) $$ BS
    iintro BS
    iapply (wp_store_owns 𝒱₀ (c : Thread nD τ) none Set.univ zero2) $$ BS
    iintro BS
    iapply hk
    iframe
  unfold accOf
  generalize (if cond4 i = 1#1 then k0_pay7 else f) = f'
  -- a column tile is added to the running product
  unfold held
  iintro ⟨HE, B2, B3, B4, B5, B6, B14, B15, BS⟩
  iapply (wp_load_owns 𝒱₀ (c : Thread nD τ) none Set.univ zero2) $$ BS
  iintro BS
  iapply (wp_load_owns 𝒱₀ (c : Thread nD τ) none Set.univ zero2) $$ B2
  iintro B2
  iapply (wp_load_owns 𝒱₀ (c : Thread nD τ) none Set.univ zero3) $$ B3
  iintro B3
  iapply (wp_load_owns 𝒱₀ (c : Thread nD τ) none Set.univ zero2) $$ BS
  iintro BS
  iapply (wp_store_owns 𝒱₀ (c : Thread nD τ) none Set.univ zero2) $$ BS
  iintro BS
  -- the rows of the tile are finished
  by_cases hc : k0_cond5 i = 1#1
  · rw [dif_pos hc, if_pos hc, if_pos hc]
    iapply (wp_load_owns 𝒱₀ (c : Thread nD τ) none Set.univ zero2) $$ B6
    iintro B6
    iapply (wp_load_owns 𝒱₀ (c : Thread nD τ) none Set.univ zero2) $$ B5
    iintro B5
    iapply (wp_load_owns 𝒱₀ (c : Thread nD τ) none Set.univ zero2) $$ BS
    iintro BS
    iapply (wp_load_owns 𝒱₀ (c : Thread nD τ) none Set.univ zero2) $$ B4
    iintro B4
    iapply (wp_load_owns 𝒱₀ (c : Thread nD τ) none Set.univ zero2) $$ B14
    iintro B14
    iapply (wp_store_owns 𝒱₀ (c : Thread nD τ) none Set.univ zero2) $$ B14
    iintro B14
    iapply (wp_load_owns 𝒱₀ (c : Thread nD τ) none Set.univ zero2) $$ B15
    iintro B15
    iapply (wp_load_owns 𝒱₀ (c : Thread nD τ) none Set.univ zero2) $$ B15
    iintro B15
    iapply (wp_store_owns 𝒱₀ (c : Thread nD τ) none Set.univ zero2) $$ B15
    iintro B15
    rw [wp_ret]; imodintro
    iframe
  · rw [dif_neg hc, if_neg hc, if_neg hc]
    rw [wp_ret]; imodintro
    iframe

end body

/-! ## The pipeline's data -/

theorem N_eq : cfg0.N = 32 := N_0

/-- Grid point number `n`. -/
def pt (n : ℕ) : Fin cfg0.N := ⟨n % 32, by rw [N_eq]; omega⟩
theorem pt_val (t : Fin cfg0.N) : pt t.val = t := Fin.ext (Nat.mod_eq_of_lt (N_eq ▸ t.isLt))

abbrev x0 (c : Dev nD) (t : Fin cfg0.N) : Vec F S1024x768 .bf16 := iblk m c 0 t
abbrev x1 (c : Dev nD) (t : Fin cfg0.N) : Vec F S1x1024x768 .bf16 := iblk m c 1 t
abbrev x2 (c : Dev nD) (t : Fin cfg0.N) : Vec F S1024x1024 .f32 := iblk m c 2 t
abbrev x3 (c : Dev nD) (t : Fin cfg0.N) : Vec F S1024x1024 .f32 := iblk m c 3 t
abbrev x4 (c : Dev nD) (t : Fin cfg0.N) : Vec F S1x1024 .f32 := iblk m c 4 t

/-- The running product after point `n`. -/
def acc (c : Dev nD) : ℕ → Vec F S1024x1024 .f32
  | 0 => accOf (x0 m c (pt 0)) (x1 m c (pt 0)) (grid0.coords (pt 0)) k0_pay7
  | n + 1 => accOf (x0 m c (pt (n + 1))) (x1 m c (pt (n + 1))) (grid0.coords (pt (n + 1))) (acc c n)

/-- The gradient of the gain after `n` row tiles. -/
def gains (c : Dev nD) : ℕ → Vec F S8x1024 .f32
  | 0 => k0_pay6
  | n + 1 => k0_pay5 (x3 m c (pt (4 * n + 3))) (acc m c (4 * n + 3)) (gains c n)

/-- The rows of the gradient finished at point `t`, if it is the last of its row tile. -/
def rows (c : Dev nD) (t : Fin cfg0.N) : Vec F S1024x1024 .f32 := k0_pay4 (x4 m c t) (x3 m c t) (acc m c t.val) (x2 m c t)

def dats (_ : Fin 1) (c : Dev nD) : Dat τ (Elt F) Unit ℕ UU ℕ cfg0 c where
  A w := m ((c : Thread nD τ).loc (Pipeline.arrRef spec0 w))
  after w t := match w with
    | 0 => iblk m c 0 t
    | 1 => iblk m c 1 t
    | 2 => iblk m c 2 t
    | 3 => iblk m c 3 t
    | 4 => iblk m c 4 t
    | 5 => rows m c t
    | 6 => gains m c ((t.val + 1) / 4)
  Φ t := if t.val = 0 then iprop(Sending table (goods m) ER c Finset.univ ∗ ∃ f, owns (c : Thread nD τ) (Memref.whole cc0_scratch0) fullShare f)
    else iprop(Waiting table (goods m) ER c (if t.val = 32 then ∅ else Finset.univ) ∗ owns (c : Thread nD τ) (Memref.whole cc0_scratch0) fullShare (acc m c (t.val - 1)))
  q _ := fullShare
  owed t := if t.val = 0 then table.dues c Finset.univ else 0

theorem cond1_iff : ∀ t : Fin cfg0.N, k0_cond1 (grid0.coords t) = 1#1 ↔ t.val = 0 := by decide +kernel
theorem cond2_iff : ∀ t : Fin cfg0.N, k0_cond2 (grid0.coords t) = 1#1 ↔ t.val = 31 := by decide +kernel
theorem cond3_iff : ∀ t : Fin cfg0.N, k0_cond3 (grid0.coords t) = 1#1 ↔ t.val = 0 := by decide +kernel
theorem cond4_iff : ∀ t : Fin cfg0.N, cond4 (grid0.coords t) = 1#1 ↔ t.val % 4 = 0 := by decide +kernel
theorem cond5_iff : ∀ t : Fin cfg0.N, k0_cond5 (grid0.coords t) = 1#1 ↔ t.val % 4 = 3 := by decide +kernel
theorem idle5_iff : ∀ t : Fin cfg0.N, cfg0.idle 5 (grid0.coords t) = true ↔ t.val % 4 ≠ 3 := by decide +kernel
theorem idle6_iff : ∀ t : Fin cfg0.N, cfg0.idle 6 (grid0.coords t) = true ↔ t.val ≠ 0 ∧ t.val % 4 ≠ 3 := by decide +kernel
theorem fresh6 : ∀ t : Fin cfg0.N, cfg0.fresh 6 t.val = true → t.val = 0 := by decide +kernel

theorem acc_step (c : Dev nD) (t : Fin cfg0.N) (f : Vec F S1024x1024 .f32) (h : t.val ≠ 0 → f = acc m c (t.val - 1)) :
    accOf (x0 m c t) (x1 m c t) (grid0.coords t) f = acc m c t.val := by
  obtain ⟨n, hn⟩ := t
  cases n with
  | zero =>
    have hp : pt 0 = ⟨0, hn⟩ := pt_val ⟨0, hn⟩
    show _ = accOf (x0 m c (pt 0)) (x1 m c (pt 0)) (grid0.coords (pt 0)) k0_pay7
    rw [hp]
    unfold accOf
    rw [if_pos ((cond4_iff ⟨0, hn⟩).2 rfl), if_pos ((cond4_iff ⟨0, hn⟩).2 rfl)]
  | succ n =>
    have hp : pt (n + 1) = ⟨n + 1, hn⟩ := pt_val ⟨n + 1, hn⟩
    show _ = accOf (x0 m c (pt (n + 1))) (x1 m c (pt (n + 1))) (grid0.coords (pt (n + 1))) (acc m c n)
    rw [hp, h (Nat.succ_ne_zero n)]
    rfl

/-- An input's staged block is its array's block at every point. -/
theorem before_in (c : Dev nD) (t : Fin cfg0.N) :
    (∀ d, (dats m 0 c).before 0 t d = x0 m c t) ∧ (∀ d, (dats m 0 c).before 1 t d = x1 m c t) ∧ (∀ d, (dats m 0 c).before 2 t d = x2 m c t)
      ∧ (∀ d, (dats m 0 c).before 3 t d = x3 m c t) ∧ (∀ d, (dats m 0 c).before 4 t d = x4 m c t) :=
  ⟨fun d => (dats m 0 c).before_in_eq_fetched 0 rfl (fun _ => rfl) (fun _ _ _ => rfl) (fun _ => rfl) t d,
   fun d => (dats m 0 c).before_in_eq_fetched 1 rfl (fun _ => rfl) (fun _ _ _ => rfl) (fun _ => rfl) t d,
   fun d => (dats m 0 c).before_in_eq_fetched 2 rfl (fun _ => rfl) (fun _ _ _ => rfl) (fun _ => rfl) t d,
   fun d => (dats m 0 c).before_in_eq_fetched 3 rfl (fun _ => rfl) (fun _ _ _ => rfl) (fun _ => rfl) t d,
   fun d => (dats m 0 c).before_in_eq_fetched 4 rfl (fun _ => rfl) (fun _ _ _ => rfl) (fun _ => rfl) t d⟩

/-- After the first point the second result's staged block holds what the finished row tiles gave. -/
theorem before_gains (c : Dev nD) (t : Fin cfg0.N) (ht : t.val ≠ 0) (d) : (dats m 0 c).before 6 t d = gains m c (t.val / 4) := by
  rw [(dats m 0 c).before_out_traj 6 rfl (fun _ _ => rfl) (fun t ht hi _ => ?_) t.val t rfl d, if_neg (fun h => ht (fresh6 t h))]
  · show gains m c ((t.val - 1 + 1) / 4) = _
    rw [Nat.sub_add_cancel (by omega)]
  · show gains m c ((t.val + 1) / 4) = gains m c ((t.val - 1 + 1) / 4)
    have := ((idle6_iff t).1 hi).2
    congr 1; omega

theorem owes_open (c : Dev nD) (t : Fin (cfg0.N + 1)) : (dats m 0 c).owesAt () t ⊢ owing c ((dats m 0 c).owed t) := by
  unfold Dat.owesAt Pipeline.owesWithin owing
  iintro ⟨%W, %hW, HO⟩
  iexists W; iexact HO

theorem owes_close (c : Dev nD) (t : Fin (cfg0.N + 1)) : owing c ((dats m 0 c).owed t) ⊢ (dats m 0 c).owesAt () t := by
  unfold Dat.owesAt Pipeline.owesWithin owing
  iintro ⟨%W, HO⟩
  iexists W
  isplitr; · ipureintro; exact fun _ _ => Or.inl trivial
  iexact HO

theorem inv_first (c : Dev nD) (t : Fin (cfg0.N + 1)) (h : t.val = 0) :
    (dats m 0 c).Φ t = iprop(Sending table (goods m) ER c Finset.univ ∗ ∃ f, owns (c : Thread nD τ) (Memref.whole cc0_scratch0) fullShare f) := if_pos h
theorem inv_later (c : Dev nD) (t : Fin (cfg0.N + 1)) (h : t.val ≠ 0) :
    (dats m 0 c).Φ t = iprop(Waiting table (goods m) ER c (if t.val = 32 then ∅ else Finset.univ)
      ∗ owns (c : Thread nD τ) (Memref.whole cc0_scratch0) fullShare (acc m c (t.val - 1))) := if_neg h
theorem owed_first (c : Dev nD) (t : Fin (cfg0.N + 1)) (h : t.val = 0) : (dats m 0 c).owed t = table.dues c Finset.univ := if_pos h
theorem owed_later (c : Dev nD) (t : Fin (cfg0.N + 1)) (h : t.val ≠ 0) : (dats m 0 c).owed t = 0 := if_neg h

/-- The exchange's state before a point, taken from the invariant. -/
theorem exchange_open (c : Dev nD) (t : Fin cfg0.N) :
    iprop((dats m 0 c).Φ t.castSucc ∗ (dats m 0 c).owesAt () t.castSucc)
      ⊢ iprop(∃ f, ⌜t.val ≠ 0 → f = acc m c (t.val - 1)⌝ ∗ (if k0_cond1 (grid0.coords t) = 1#1 then before m c else flying m c)
          ∗ owns (c : Thread nD τ) (Memref.whole cc0_scratch0) fullShare f) := by
  have hlt : t.val < 32 := N_eq ▸ t.isLt
  refine (sep_mono .rfl (owes_open m c _)).trans ?_
  by_cases h : t.val = 0
  · rw [inv_first m c t.castSucc h, owed_first m c t.castSucc h, if_pos ((cond1_iff t).2 h)]
    unfold before
    iintro ⟨⟨HS, ⟨%f, Hf⟩⟩, HO⟩
    iexists f
    isplitr; · ipureintro; exact fun h' => absurd h h'
    iframe
  · rw [inv_later m c t.castSucc h, owed_later m c t.castSucc h, if_neg (fun hc => h ((cond1_iff t).1 hc)), if_neg (show ¬ t.castSucc.val = 32 by show ¬ t.val = 32; omega)]
    unfold flying
    iintro ⟨⟨HS, Hf⟩, HO⟩
    iexists _
    isplitr
    swap
    · iframe
    ipureintro; exact fun _ => rfl

/-- The exchange's state after a point, given to the invariant. -/
theorem exchange_close (c : Dev nD) (t : Fin cfg0.N) :
    iprop((if k0_cond2 (grid0.coords t) = 1#1 then arrived m c else flying m c) ∗ owns (c : Thread nD τ) (Memref.whole cc0_scratch0) fullShare (acc m c t.val))
      ⊢ iprop((dats m 0 c).Φ t.succ ∗ (dats m 0 c).owesAt () t.succ) := by
  have hlt : t.val < 32 := N_eq ▸ t.isLt
  refine BIBase.Entails.trans ?_ (sep_mono (.rfl (P := (dats m 0 c).Φ t.succ)) (owes_close m c t.succ))
  rw [inv_later m c t.succ (Nat.succ_ne_zero _), owed_later m c t.succ (Nat.succ_ne_zero _)]
  show _ ⊢ iprop((Waiting table (goods m) ER c (if t.val + 1 = 32 then ∅ else Finset.univ) ∗ owns (c : Thread nD τ) (Memref.whole cc0_scratch0) fullShare (acc m c t.val)) ∗ _)
  by_cases h : t.val = 31
  · rw [if_pos ((cond2_iff t).2 h), if_pos (show t.val + 1 = 32 by omega)]
    unfold arrived
    iintro ⟨⟨HS, HO⟩, Hf⟩
    iframe
  · rw [if_neg (fun hc => h ((cond2_iff t).1 hc)), if_neg (show ¬ t.val + 1 = 32 by omega)]
    unfold flying
    iintro ⟨⟨HS, HO⟩, Hf⟩
    iframe

/-- What a point leaves in the first result's staged block. -/
theorem left_rows (c : Dev nD) (t : Fin cfg0.N) (d) :
    owns (c : Thread nD τ) (st0_5 t) fullShare (if k0_cond5 (grid0.coords t) = 1#1 then rows m c t else (dats m 0 c).before 5 t d)
      ⊢ (match cfg0.idle 5 (grid0.coords t) with
          | true => match (cfg0.win 5).flush t with
            | false => iprop(∃ d, owns (c : Thread nD τ) (st0_5 t) fullShare ((dats m 0 c).before 5 t d))
            | true => owns (c : Thread nD τ) (st0_5 t) fullShare ((dats m 0 c).after 5 t)
          | false => owns (c : Thread nD τ) (st0_5 t) fullShare ((dats m 0 c).after 5 t) : sProp 𝕄) := by
  by_cases h : t.val % 4 = 3
  · rw [if_pos ((cond5_iff t).2 h), show cfg0.idle 5 (grid0.coords t) = false from Bool.eq_false_iff.2 fun hi => (idle5_iff t).1 hi h]
    exact .rfl
  · rw [if_neg (fun hc => h ((cond5_iff t).1 hc)), (idle5_iff t).2 h, show (cfg0.win 5).flush t = false from Bool.eq_false_iff.2 fun hi => h ((flush0_5 t).1 hi)]
    iintro H; iexists d; iexact H

/-- What a point leaves in the second result's staged block. -/
theorem left_gains (c : Dev nD) (t : Fin cfg0.N) (d) :
    owns (c : Thread nD τ) (st0_6 t) fullShare
        (if k0_cond5 (grid0.coords t) = 1#1
          then k0_pay5 (x3 m c t) (acc m c t.val) (if k0_cond3 (grid0.coords t) = 1#1 then k0_pay6 else (dats m 0 c).before 6 t d)
          else if k0_cond3 (grid0.coords t) = 1#1 then k0_pay6 else (dats m 0 c).before 6 t d)
      ⊢ (match cfg0.idle 6 (grid0.coords t) with
          | true => match (cfg0.win 6).flush t with
            | false => iprop(∃ d, owns (c : Thread nD τ) (st0_6 t) fullShare ((dats m 0 c).before 6 t d))
            | true => owns (c : Thread nD τ) (st0_6 t) fullShare ((dats m 0 c).after 6 t)
          | false => owns (c : Thread nD τ) (st0_6 t) fullShare ((dats m 0 c).after 6 t) : sProp 𝕄) := by
  by_cases h0 : t.val = 0
  · rw [if_neg (fun hc => by have := (cond5_iff t).1 hc; omega), if_pos ((cond3_iff t).2 h0),
      show cfg0.idle 6 (grid0.coords t) = false from Bool.eq_false_iff.2 fun hi => ((idle6_iff t).1 hi).1 h0]
    refine Entails.of_eq ?_
    show owns (c : Thread nD τ) (st0_6 t) fullShare k0_pay6 = owns (c : Thread nD τ) (st0_6 t) fullShare (gains m c ((t.val + 1) / 4))
    rw [h0]; rfl
  have h3 : ¬ k0_cond3 (grid0.coords t) = 1#1 := fun hc => h0 ((cond3_iff t).1 hc)
  by_cases h : t.val % 4 = 3
  · rw [if_pos ((cond5_iff t).2 h), if_neg h3, before_gains m c t h0,
      show cfg0.idle 6 (grid0.coords t) = false from Bool.eq_false_iff.2 fun hi => ((idle6_iff t).1 hi).2 h]
    refine Entails.of_eq ?_
    show _ = owns (c : Thread nD τ) (st0_6 t) fullShare (gains m c ((t.val + 1) / 4))
    have e1 : 4 * (t.val / 4) + 3 = t.val := by omega
    have e2 : (t.val + 1) / 4 = t.val / 4 + 1 := by omega
    have e : gains m c ((t.val + 1) / 4) = k0_pay5 (x3 m c t) (acc m c t.val) (gains m c (t.val / 4)) := by
      rw [e2]
      show k0_pay5 (x3 m c (pt (4 * (t.val / 4) + 3))) (acc m c (4 * (t.val / 4) + 3)) (gains m c (t.val / 4)) = _
      rw [e1, pt_val]
    rw [e]
  · rw [if_neg (fun hc => h ((cond5_iff t).1 hc)), if_neg h3, (idle6_iff t).2 ⟨h0, h⟩,
      show (cfg0.win 6).flush t = false from Bool.eq_false_iff.2 fun hi => h (by have := (flush0_6 t).1 hi; omega)]
    iintro H; iexists d; iexact H

set_option maxHeartbeats 1600000 in
theorem body_point (c : Dev nD) (t : Fin cfg0.N) (d5 d6) (f : Vec F S1024x1024 .f32) (hf : t.val ≠ 0 → f = acc m c (t.val - 1)) :
    iprop((if k0_cond1 (grid0.coords t) = 1#1 then before m c else flying m c)
        ∗ held c (st0_0 t) (st0_1 t) (st0_2 t) (st0_3 t) (st0_4 t) (st0_5 t) (st0_6 t) (x0 m c t) (x1 m c t) (x2 m c t) (x3 m c t) (x4 m c t)
            ((dats m 0 c).before 5 t d5) ((dats m 0 c).before 6 t d6) f)
      ⊢ wp frame (wpE (defs₀ (F := F)) 𝒱₀ c none) Set.univ (bodyAt0 t) (fun _ => iprop((dats m 0 c).Φ t.succ ∗ (dats m 0 c).owesAt () t.succ
          ∗ bigSep Finset.univ fun w : Fin cfg0.W =>
              match cfg0.idle w (grid0.coords t) with
              | true => match (cfg0.win w).flush t with
                | false => iprop(∃ d, owns c ((cfg0.win w).stage (cfg0.slots t w)) fullShare ((dats m 0 c).before w t d))
                | true => owns c ((cfg0.win w).stage (cfg0.slots t w)) fullShare ((dats m 0 c).after w t)
              | false => owns c ((cfg0.win w).stage (cfg0.slots t w)) fullShare ((dats m 0 c).after w t))) := by
  refine (sound_body m c (grid0.coords t) (st0_0 t) _ (st0_1 t) _ (st0_2 t) _ (st0_3 t) _ (st0_4 t) _ (st0_5 t) _ (st0_6 t) _ _ _ _ _ _ _ _ _).trans
    (wp_mono frame _ _ fun _ => ?_)
  rw [acc_step m c t f hf, bigSep_W0]
  unfold held
  iintro ⟨HX, B0, B1, B2, B3, B4, B5, B6, BS⟩
  ihave H := (exchange_close m c t) $$ [HX BS]
  · isplitl [HX] <;> iassumption
  icases H with ⟨HΦ, HO⟩
  isplitl [HΦ]; · iexact HΦ
  isplitl [HO]; · iexact HO
  isplitl [B0]; · iexact B0
  isplitl [B1]; · iexact B1
  isplitl [B2]; · iexact B2
  isplitl [B3]; · iexact B3
  isplitl [B4]; · iexact B4
  isplitl [B5]
  · iapply (left_rows m c t d5); iexact B5
  iapply (left_gains m c t d6); iexact B6

set_option maxHeartbeats 1600000 in
theorem body_obligation (c : Dev nD) : BodyObligation (dats (F := F) m 0 c) (defs₀ (F := F)) 𝒱₀ () Set.univ := fun t => by
  obtain ⟨b0, b1, b2, b3, b4⟩ := before_in m c t
  dsimp only
  rw [bigSep_W0]
  simp only [b0, b1, b2, b3, b4]
  iintro ⟨HΦ, HO, ⟨%_, B0⟩, ⟨%_, B1⟩, ⟨%_, B2⟩, ⟨%_, B3⟩, ⟨%_, B4⟩, ⟨%d5, B5⟩, ⟨%d6, B6⟩⟩
  ihave H := (exchange_open m c t) $$ [HΦ HO]
  · isplitl [HΦ] <;> iassumption
  icases H with ⟨%f, %hf, HX, BS⟩
  iapply (body_point m c t d5 d6 f hf)
  unfold held
  iframe

/-! ## The launch -/

def u₀ : UU := (initOf (Pipeline.cells cfgs cellOf_inj) (Pipeline.launchToks cfgs cellOf_inj), initOf (cells table) (toks table))

theorem ownSemFacts : Pipeline.OwnSemFacts cfg0.spec table.sem := by decide

theorem staging_ne : ∀ (w : Fin cfg0.W) (s : Fin (spec0 w).nbuf) (i : Fin 7), SemLoc.dma ((spec0 w).sem s) ≠ table.rcv i := by decide

theorem may_wait (c : Dev nD) (t : Fin (cfg0.N + 1)) (q : DmaSem sig) (hq : ∀ i, SemLoc.dma q ≠ table.rcv i) :
    (levAts tcOnly table.level : sProp 𝕄) ⊢ MayWait (c.tc : Thread nD τ) (.dma q) () ((dats m 0 c).owed t) := by
  by_cases h : t.val = 0
  · rw [owed_first m c t h]; exact table.mayWait c q hq Finset.univ
  · rw [owed_later m c t h, ← table.dues_empty c]; exact table.mayWait c q hq ∅

/-- What device `c` keeps of the arrays the copies read. -/
def kept (c : Dev nD) : sProp 𝕄 :=
  iprop((((c : Thread nD τ).loc main_arg5) ↦{fullShare.left} m ((c : Thread nD τ).loc main_arg5))
    ∗ (((c : Thread nD τ).loc main_arg6) ↦{fullShare.left} m ((c : Thread nD τ).loc main_arg6))
    ∗ (((c : Thread nD τ).loc main_arg7) ↦{fullShare.left} m ((c : Thread nD τ).loc main_arg7))
    ∗ (((c : Thread nD τ).loc main_arg8) ↦{fullShare.left} m ((c : Thread nD τ).loc main_arg8))
    ∗ (((c : Thread nD τ).loc main_arg9) ↦{fullShare.left} m ((c : Thread nD τ).loc main_arg9))
    ∗ (((c : Thread nD τ).loc main_arg10) ↦{fullShare.left} m ((c : Thread nD τ).loc main_arg10))
    ∗ (((c : Thread nD τ).loc main_arg11) ↦{fullShare.left} m ((c : Thread nD τ).loc main_arg11)))

theorem bigSep7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- A device's arrays as what it keeps, what it lends and the room it offers. -/
theorem arrays (c : Dev nD) :
    (Pipeline.unscopedRest cfg0.spec c (fun b => m ((c : Thread nD τ).loc b)) : sProp 𝕄)
      ⊢ iprop(kept m c ∗ (bigSep Finset.univ fun i => (goods m).src i c) ∗ bigSep Finset.univ fun i => (goods m).room i c) := by
  rw [unscopedRest0_eq, bigSep7, bigSep7]
  iintro ⟨H0, H1, H2, H3, H4, H5, H6, R0, R1, R2, R3, R4, R5, R6⟩
  ihave H0 := (lend (halfM 0 c).view.set (m ((c : Thread nD τ).loc main_arg5))) $$ H0
  icases H0 with ⟨K0, L0⟩
  ihave H1 := (lend (halfM 1 c).view.set (m ((c : Thread nD τ).loc main_arg6))) $$ H1
  icases H1 with ⟨K1, L1⟩
  ihave H2 := (lend (halfM 2 c).view.set (m ((c : Thread nD τ).loc main_arg7))) $$ H2
  icases H2 with ⟨K2, L2⟩
  ihave H3 := (lend (halfM 3 c).view.set (m ((c : Thread nD τ).loc main_arg8))) $$ H3
  icases H3 with ⟨K3, L3⟩
  ihave H4 := (lend (halfM 4 c).view.set (m ((c : Thread nD τ).loc main_arg9))) $$ H4
  icases H4 with ⟨K4, L4⟩
  ihave H5 := (lend (halfM 5 c).view.set (m ((c : Thread nD τ).loc main_arg10))) $$ H5
  icases H5 with ⟨K5, L5⟩
  ihave H6 := (lend (halfM 6 c).view.set (m ((c : Thread nD τ).loc main_arg11))) $$ H6
  icases H6 with ⟨K6, L6⟩
  isplitl [K0 K1 K2 K3 K4 K5 K6]
  · unfold kept; iframe
  unfold goods lent
  dsimp only
  isplitl [L0 L1 L2 L3 L4 L5 L6]
  · isplitl [L0]; · iexact L0
    isplitl [L1]; · iexact L1
    isplitl [L2]; · iexact L2
    isplitl [L3]; · iexact L3
    isplitl [L4]; · iexact L4
    isplitl [L5]; · iexact L5
    iexact L6
  isplitl [R0]; · iexists _; iexact R0
  isplitl [R1]; · iexists _; iexact R1
  isplitl [R2]; · iexists _; iexact R2
  isplitl [R3]; · iexists _; iexact R3
  isplitl [R4]; · iexists _; iexact R4
  isplitl [R5]; · iexists _; iexact R5
  iexists _; iexact R6

/-- What the final memory of device `c` holds where the copies read and write. -/
def Ends (c : Dev nD) (s : MemSt nD τ sig (Elt F)) : Prop :=
  s.mem ((c : Thread nD τ).loc main_arg5) = m ((c : Thread nD τ).loc main_arg5)
  ∧ s.mem ((c : Thread nD τ).loc main_arg6) = m ((c : Thread nD τ).loc main_arg6)
  ∧ s.mem ((c : Thread nD τ).loc main_arg7) = m ((c : Thread nD τ).loc main_arg7)
  ∧ s.mem ((c : Thread nD τ).loc main_arg8) = m ((c : Thread nD τ).loc main_arg8)
  ∧ s.mem ((c : Thread nD τ).loc main_arg9) = m ((c : Thread nD τ).loc main_arg9)
  ∧ s.mem ((c : Thread nD τ).loc main_arg10) = m ((c : Thread nD τ).loc main_arg10)
  ∧ s.mem ((c : Thread nD τ).loc main_arg11) = m ((c : Thread nD τ).loc main_arg11)
  ∧ s.mem ((c : Thread nD τ).loc main_v1_2) = block m 0 (peer c)
  ∧ s.mem ((c : Thread nD τ).loc main_v1_3) = block m 1 (peer c)
  ∧ s.mem ((c : Thread nD τ).loc main_v1_4) = block m 2 (peer c)
  ∧ s.mem ((c : Thread nD τ).loc main_v1_5) = block m 3 (peer c)
  ∧ s.mem ((c : Thread nD τ).loc main_v1_6) = block m 4 (peer c)
  ∧ s.mem ((c : Thread nD τ).loc main_v1_7) = block m 5 (peer c)
  ∧ s.mem ((c : Thread nD τ).loc main_v1_8) = block m 6 (peer c)

theorem ends (c : Dev nD) (s' : Phys nD τ sig (Elt F)) :
    iprop((bigSep Finset.univ fun i => (goods m).landed i c) ∗ kept m c ∗ SI s') ⊢ |={Set.univ}=> iprop(⌜Ends m c s'.mem⌝ ∗ SI s' : sProp 𝕄) := by
  rw [bigSep7]
  unfold kept goods
  dsimp only
  iintro ⟨⟨R0, R1, R2, R3, R4, R5, R6⟩, ⟨K0, K1, K2, K3, K4, K5, K6⟩, HSI⟩
  ihave H := (read_whole _ s') $$ [K0 HSI]
  · isplitl [K0] <;> iassumption
  icases H with ⟨%h0, HSI⟩
  ihave H := (read_whole _ s') $$ [K1 HSI]
  · isplitl [K1] <;> iassumption
  icases H with ⟨%h1, HSI⟩
  ihave H := (read_whole _ s') $$ [K2 HSI]
  · isplitl [K2] <;> iassumption
  icases H with ⟨%h2, HSI⟩
  ihave H := (read_whole _ s') $$ [K3 HSI]
  · isplitl [K3] <;> iassumption
  icases H with ⟨%h3, HSI⟩
  ihave H := (read_whole _ s') $$ [K4 HSI]
  · isplitl [K4] <;> iassumption
  icases H with ⟨%h4, HSI⟩
  ihave H := (read_whole _ s') $$ [K5 HSI]
  · isplitl [K5] <;> iassumption
  icases H with ⟨%h5, HSI⟩
  ihave H := (read_whole _ s') $$ [K6 HSI]
  · isplitl [K6] <;> iassumption
  icases H with ⟨%h6, HSI⟩
  ihave H := (read_whole (ℓ := (c : Thread nD τ).loc main_v1_2) (block m 0 (peer c)) s') $$ [R0 HSI]
  · isplitl [R0] <;> iassumption
  icases H with ⟨%g0, HSI⟩
  ihave H := (read_whole (ℓ := (c : Thread nD τ).loc main_v1_3) (block m 1 (peer c)) s') $$ [R1 HSI]
  · isplitl [R1] <;> iassumption
  icases H with ⟨%g1, HSI⟩
  ihave H := (read_whole (ℓ := (c : Thread nD τ).loc main_v1_4) (block m 2 (peer c)) s') $$ [R2 HSI]
  · isplitl [R2] <;> iassumption
  icases H with ⟨%g2, HSI⟩
  ihave H := (read_whole (ℓ := (c : Thread nD τ).loc main_v1_5) (block m 3 (peer c)) s') $$ [R3 HSI]
  · isplitl [R3] <;> iassumption
  icases H with ⟨%g3, HSI⟩
  ihave H := (read_whole (ℓ := (c : Thread nD τ).loc main_v1_6) (block m 4 (peer c)) s') $$ [R4 HSI]
  · isplitl [R4] <;> iassumption
  icases H with ⟨%g4, HSI⟩
  ihave H := (read_whole (ℓ := (c : Thread nD τ).loc main_v1_7) (block m 5 (peer c)) s') $$ [R5 HSI]
  · isplitl [R5] <;> iassumption
  icases H with ⟨%g5, HSI⟩
  ihave H := (read_whole (ℓ := (c : Thread nD τ).loc main_v1_8) (block m 6 (peer c)) s') $$ [R6 HSI]
  · isplitl [R6] <;> iassumption
  icases H with ⟨%g6, HSI⟩
  imodintro
  isplitr
  · ipureintro; exact ⟨h0, h1, h2, h3, h4, h5, h6, g0, g1, g2, g3, g4, g5, g6⟩
  iexact HSI

set_option maxRecDepth 8000 in
/-- From any memory with every counter at zero, every fair execution of the eight devices ends; then each device's window
    arrays hold what the grid's points left in them, the arrays the copies read are as before, the results of the
    copies hold the partner's halves, and every counter is at zero. -/
theorem run : θ_run defs (onTc (τ := τ) (main (F := F))) ⟨m, fun _ => 0, ρ⟩
    (fun r => (∀ c : Dev nD, (∀ w : Fin cfg0.W, r.2.mem ((c : Thread nD τ).loc (Pipeline.arrRef spec0 w)) = (dats m 0 c).arrAt w cfg0.N) ∧ Ends m c r.2)
      ∧ r.2.sem = fun _ => 0) :=
  Pipeline.MemLaunch.run (fun p => (cfgs p).toPCfg) (fun p => (cfgs p).toPCfg_adm) (dats m) () cellOf_inj (0 : Fin 1)
    winFacts0.to₀ ownSemFacts EP defs₀ 𝒱₀ m ρ main
    (hmain := fun _ => rfl) (hpre := inferInstanceAs (IsEmpty (Fin 0)))
    (hbody := fun c => (body_obligation m c).loose) (hne := block_pos0) (harr := arr_whole0) (hstage := stage_whole0)
    (hshare := fun _ w => by unfold Dat.share; split <;> rfl) (hdistinct := winFacts0.arr_inj)
    (O₀ := fun c => table.dues c Finset.univ) (howed₀ := fun _ => rfl) (howedN := fun _ => rfl)
    (L := tcOnly) (lv := table.level) (hL := tcOnly_of_ne)
    (hwaits := fun c => Pipeline.cellsWaits_intro cfgs (dats m) () 0 c fun w s t => may_wait m c t _ (staging_ne w s))
    (G := fresh table (goods m) ER) (u₀ := u₀)
    (hu₀ := by
      unfold u₀
      iintro Hu
      ihave H := (ownU_pair _ _) $$ Hu
      icases H with ⟨HP, HX⟩
      imod (fresh_intro table (goods m) ER) $$ [HX] with HX
      · iexact HX
      imodintro
      isplitl [HP]; · iexact HP
      iexact HX)
    (hA := fun _ _ => rfl)
    (X := fun c => Sending table (goods m) ER c Finset.univ) (Y := fun c => bigSep Finset.univ fun i => (goods m).landed i c) (Z := kept m)
    (hglob := deal table (goods m) ER (arrays m))
    (hin := fun c => by
      rw [show Pipeline.scopedRest _ c = (iprop(∃ f, ((c : Thread nD τ).loc cc0_scratch0) ↦{fullShare} f) : sProp 𝕄) from scopedRest0_eq c]
      refine BIBase.Entails.trans ?_ (Entails.of_eq (inv_first m c 0 rfl).symm)
      iintro ⟨H, ⟨%f, Hf⟩⟩
      isplitl [H]; · iexact H
      iexists f
      rw [owns_whole]; iexact Hf)
    (hout := fun c => by
      rw [show Pipeline.scopedRest _ c = (iprop(∃ f, ((c : Thread nD τ).loc cc0_scratch0) ↦{fullShare} f) : sProp 𝕄) from scopedRest0_eq c]
      refine (Entails.of_eq (inv_later m c (Fin.last _) (by decide))).trans ?_
      rw [if_pos (show (Fin.last cfg0.N).val = 32 from N_eq), owns_whole]
      iintro ⟨H, Hf⟩
      ihave H := (waited table (goods m) ER c) $$ H
      icases H with ⟨Hz, -, Hl⟩
      isplitl [Hl]; · iexact Hl
      isplitl [Hz]; · iexact Hz
      iexists _; iexact Hf)
    (QY := Ends m) (hY := ends m)
    (hQ := fun s h hs => ⟨h, sem_eq_zero_of_scoped (by decide) hs⟩)

end Cert.ProjSwapProof

end
-- ==== Proof.ProjSwapSums.lean ====
/-
  What `mix_in_proj_bwd` computes, at the extended reals: its two results as sums over its whole arguments.
-/
module

public import proofs.«01_k».proof.Proof.ProjSwap
public import proofs.«01_k».proof.Proof.NormBwd
public import Idealize.ShloMosaic.Lib.Pointwise
public import Idealize.ShloMosaic.Lib.Pipeline.ValueKit

@[expose] public section

noncomputable section

namespace Cert.ProjSwapProof

open Idealize.ShloMosaic Idealize.ShloMosaic.TcCoe
open Cert.ProjSwapIdeal Cert.ProjSwapIdeal.Gen
open Idealize.ShloMosaic.Pipeline (Dat Cfg Window)

set_option maxRecDepth 16384

variable (m : (ℓ : Loc nD τ sig) → Buf (Elt Ideal) ℓ)

/-- Where each window's block lies at each point. -/
theorem index_eq : ∀ t : Fin cfg0.N, win0_0.index t = ![t.val / 4, t.val % 4] ∧ win0_1.index t = ![t.val % 4, 0, 0]
    ∧ win0_2.index t = ![t.val / 4, 0] ∧ win0_3.index t = ![t.val / 4, 0] ∧ win0_4.index t = ![0, 0]
    ∧ win0_5.index t = ![t.val / 4, 0] ∧ win0_6.index t = ![0, 0] := by decide +kernel

/-- The product that the call sums up: one row of the projection's gradient against the weights. -/
def dh (d : S8192x3072.Idx → EReal) (w : S4x1024x768.Idx → EReal) (n : Fin 8192) (q : Fin 1024) : EReal :=
  ∑ x : Fin 3072, d (ix2 n x) * w (ix3 ⟨x.val / 768, by omega⟩ q ⟨x.val % 768, by omega⟩)

abbrev D (c : Dev nD) : S8192x3072.Idx → EReal := m ((c : Thread nD τ).loc main_arg0)
abbrev W (c : Dev nD) : S4x1024x768.Idx → EReal := m ((c : Thread nD τ).loc main_arg1)
abbrev R (c : Dev nD) : S8192x1024.Idx → EReal := m ((c : Thread nD τ).loc main_arg2)
abbrev X (c : Dev nD) : S8192x1024.Idx → EReal := m ((c : Thread nD τ).loc main_arg3)
abbrev Gn (c : Dev nD) : S1x1024.Idx → EReal := m ((c : Thread nD τ).loc main_arg4)

theorem lt32 (t : Fin cfg0.N) : t.val < 32 := N_eq ▸ t.isLt

theorem x0_apply (c : Dev nD) (t : Fin cfg0.N) (r : Fin 1024) (k : Fin 768) :
    x0 m c t (ix2 r k) = D m c (ix2 ⟨t.val / 4 * 1024 + r.val, by have := lt32 t; omega⟩ ⟨t.val % 4 * 768 + k.val, by omega⟩) := by
  blk_ext [iblk, V, (index_eq t).1]
theorem x1_apply (c : Dev nD) (t : Fin cfg0.N) (q : Fin 1024) (k : Fin 768) :
    x1 m c t (ix3 0 q k) = W m c (ix3 ⟨t.val % 4, by omega⟩ q k) := by
  blk_ext [iblk, V, (index_eq t).2.1]
theorem x2_apply (c : Dev nD) (t : Fin cfg0.N) (r q : Fin 1024) :
    x2 m c t (ix2 r q) = R m c (ix2 ⟨t.val / 4 * 1024 + r.val, by have := lt32 t; omega⟩ q) := by
  blk_ext [iblk, V, (index_eq t).2.2.1]
theorem x3_apply (c : Dev nD) (t : Fin cfg0.N) (r q : Fin 1024) :
    x3 m c t (ix2 r q) = X m c (ix2 ⟨t.val / 4 * 1024 + r.val, by have := lt32 t; omega⟩ q) := by
  blk_ext [iblk, V, (index_eq t).2.2.2.1]
theorem x4_apply (c : Dev nD) (t : Fin cfg0.N) (q : Fin 1024) : x4 m c t (ix2 0 q) = Gn m c (ix2 0 q) := by
  blk_ext [iblk, V, (index_eq t).2.2.2.2.1]

theorem pay8_apply (a : Vec Ideal S1024x1024 .f32) (d : Vec Ideal S1024x768 .bf16) (w : Vec Ideal S1x1024x768 .bf16) (r q : Fin 1024) :
    k0_pay8 a d w (ix2 r q) = a (ix2 r q) + ∑ k : Fin 768, d (ix2 r k) * w (ix3 0 q k) := by
  pointwise [k0_pay8]
theorem pay7_apply (r q : Fin 1024) : k0_pay7 (F := Ideal) (ix2 r q) = 0 := by
  pointwise [k0_pay7]
theorem pay6_apply (r : Fin 8) (q : Fin 1024) : k0_pay6 (F := Ideal) (ix2 r q) = 0 := by
  pointwise [k0_pay6]
theorem pay4_apply (g : Vec Ideal S1x1024 .f32) (x a d : Vec Ideal S1024x1024 .f32) (r q : Fin 1024) :
    k0_pay4 g x a d (ix2 r q) = NormBwd.dx (fun k => a (ix2 r k)) (fun k => x (ix2 r k)) (fun k => g (ix2 0 k)) (d (ix2 r q)) q := by
  pointwise [k0_pay4, k0_pay3, k0_pay2, k0_pay1, NormBwd.dx, NormBwd.inv]
theorem pay5_apply (x a : Vec Ideal S1024x1024 .f32) (o : Vec Ideal S8x1024 .f32) (e : Fin 8) (q : Fin 1024) :
    k0_pay5 x a o (ix2 e q) = o (ix2 e q) + ∑ r : Fin 1024, NormBwd.gain (fun k => a (ix2 r k)) (fun k => x (ix2 r k)) q := by
  pointwise [k0_pay5, k0_pay3, k0_pay2, k0_pay1, NormBwd.gain, NormBwd.inv]

/-- What one point adds. -/
def term (c : Dev nD) (n : Fin 8192) (q : Fin 1024) (j : Fin 4) : EReal :=
  ∑ k : Fin 768, D m c (ix2 n ⟨j.val * 768 + k.val, by omega⟩) * W m c (ix3 j q k)

theorem dh_terms (c : Dev nD) (n : Fin 8192) (q : Fin 1024) :
    dh (D m c) (W m c) n q = 0 + term m c n q 0 + term m c n q 1 + term m c n q 2 + term m c n q 3 := by
  unfold dh
  rw [NormBwd.sum_split 4 768 (fun x : Fin 3072 => D m c (ix2 n x) * W m c (ix3 ⟨x.val / 768, by omega⟩ q ⟨x.val % 768, by omega⟩)) (fun i j => by omega),
    Fin.sum_univ_four, zero_add]
  have h (j : Fin 4) : (∑ k : Fin 768, D m c (ix2 n ⟨j.val * 768 + k.val, by omega⟩) * W m c (ix3 ⟨(j.val * 768 + k.val) / 768, by omega⟩ q ⟨(j.val * 768 + k.val) % 768, by omega⟩)) = term m c n q j := by
    unfold term
    refine Finset.sum_congr rfl fun k _ => ?_
    have e1 : (⟨(j.val * 768 + k.val) / 768, by omega⟩ : Fin 4) = j := Fin.ext (by show (j.val * 768 + k.val) / 768 = j.val; omega)
    have e2 : (⟨(j.val * 768 + k.val) % 768, by omega⟩ : Fin 768) = k := Fin.ext (by show (j.val * 768 + k.val) % 768 = k.val; omega)
    rw [e1, e2]
  exact congrArg₂ (· + ·) (congrArg₂ (· + ·) (congrArg₂ (· + ·) (h 0) (h 1)) (h 2)) (h 3)

theorem acc_apply (c : Dev nD) (t : Fin cfg0.N) (r q : Fin 1024) :
    acc m c t.val (ix2 r q) = (if t.val % 4 = 0 then 0 else acc m c (t.val - 1) (ix2 r q))
      + term m c ⟨t.val / 4 * 1024 + r.val, by have := lt32 t; omega⟩ q ⟨t.val % 4, by omega⟩ := by
  rw [← acc_step m c t (acc m c (t.val - 1)) (fun _ => rfl)]
  unfold accOf
  rw [pay8_apply]
  refine congrArg₂ (· + ·) ?_ (Finset.sum_congr rfl fun k _ => by rw [x0_apply, x1_apply])
  by_cases h4 : t.val % 4 = 0
  · rw [if_pos ((cond4_iff t).2 h4), if_pos h4, pay7_apply]
  · rw [if_neg (fun h => h4 ((cond4_iff t).1 h)), if_neg h4]

theorem acc_row (c : Dev nD) (i : ℕ) (hi : i < 8) (r q : Fin 1024) :
    acc m c (4 * i + 3) (ix2 r q) = dh (D m c) (W m c) ⟨i * 1024 + r.val, by omega⟩ q := by
  have step (j : Fin 4) : acc m c (4 * i + j.val) (ix2 r q) = (if j.val = 0 then 0 else acc m c (4 * i + j.val - 1) (ix2 r q))
      + term m c ⟨i * 1024 + r.val, by omega⟩ q j := by
    have hj := j.isLt
    have h := acc_apply m c ⟨4 * i + j.val, by rw [N_eq]; omega⟩ r q
    have e1 : (4 * i + j.val) / 4 = i := by omega
    have e2 : (4 * i + j.val) % 4 = j.val := by omega
    simp only [e1, e2] at h
    exact h
  have s0 := step 0
  have s1 := step 1
  have s2 := step 2
  have s3 := step 3
  have e1 : 4 * i + (1 : Fin 4).val - 1 = 4 * i + (0 : Fin 4).val := by show 4 * i + 1 - 1 = 4 * i + 0; omega
  have e2 : 4 * i + (2 : Fin 4).val - 1 = 4 * i + (1 : Fin 4).val := by show 4 * i + 2 - 1 = 4 * i + 1; omega
  have e3 : 4 * i + (3 : Fin 4).val - 1 = 4 * i + (2 : Fin 4).val := by show 4 * i + 3 - 1 = 4 * i + 2; omega
  rw [if_pos (show (0 : Fin 4).val = 0 from rfl)] at s0
  rw [if_neg (by decide), e1, s0] at s1
  rw [if_neg (by decide), e2, s1] at s2
  rw [if_neg (by decide), e3, s2] at s3
  rw [dh_terms]
  exact s3

/-- The first result, a row at a time. -/
def outDx (c : Dev nD) : S8192x1024.Idx → EReal := fun i =>
  NormBwd.dx (fun k => dh (D m c) (W m c) (i 0) k) (fun k => X m c (ix2 (i 0) k)) (fun k => Gn m c (ix2 0 k)) (R m c i) (i 1)

/-- The second result: eight equal rows. -/
def outGain (c : Dev nD) : S8x1024.Idx → EReal := fun i =>
  ∑ n : Fin 8192, NormBwd.gain (fun k => dh (D m c) (W m c) n k) (fun k => X m c (ix2 n k)) (i 1)

theorem rows_apply (c : Dev nD) (t : Fin cfg0.N) (h : t.val % 4 = 3) (r q : Fin 1024) :
    rows m c t (ix2 r q) = outDx m c (ix2 ⟨t.val / 4 * 1024 + r.val, by have := lt32 t; omega⟩ q) := by
  have ht := lt32 t
  have e : t.val = 4 * (t.val / 4) + 3 := by omega
  have ha (k : Fin 1024) : acc m c t.val (ix2 r k) = dh (D m c) (W m c) ⟨t.val / 4 * 1024 + r.val, by omega⟩ k := by
    have := acc_row m c (t.val / 4) (by omega) r k
    rwa [← e] at this
  unfold rows
  rw [pay4_apply]
  simp only [ha, x2_apply, x3_apply, x4_apply]
  rfl

theorem gains_apply (c : Dev nD) (n : ℕ) (hn : n ≤ 8) (e : Fin 8) (q : Fin 1024) :
    gains m c n (ix2 e q) = ∑ i : Fin n, ∑ r : Fin 1024, NormBwd.gain (fun k => dh (D m c) (W m c) ⟨i.val * 1024 + r.val, by omega⟩ k)
      (fun k => X m c (ix2 ⟨i.val * 1024 + r.val, by omega⟩ k)) q := by
  induction n with
  | zero => exact pay6_apply e q
  | succ n ih =>
    rw [Fin.sum_univ_castSucc]
    show k0_pay5 _ _ _ _ = _
    rw [pay5_apply, ih (by omega)]
    have hp : (pt (4 * n + 3)).val = 4 * n + 3 := Nat.mod_eq_of_lt (by omega)
    have hd : (4 * n + 3) / 4 = n := by omega
    simp only [acc_row m c n (by omega), x3_apply, hp, hd]
    rfl

theorem final5 (c : Dev nD) : (dats m 0 c).arrAt 5 cfg0.N = outDx m c := by
  refine (dats m 0 c).arrAt_eq_of_covers 5 _ (by decide +kernel) fun t hf y => ?_
  have h3 : t.val % 4 = 3 := (flush0_5 t).1 hf
  blk_simp
  show rows m c t y = _
  obtain ⟨r, q, rfl⟩ : ∃ (r q : Fin 1024), y = ix2 r q := ⟨y 0, y 1, eq_ix2 y⟩
  rw [rows_apply m c t h3]
  refine congrArg _ ?_
  blk_ext [(index_eq t).2.2.2.2.2.1]

theorem final6 (c : Dev nD) : (dats m 0 c).arrAt 6 cfg0.N = outGain m c := by
  refine (dats m 0 c).arrAt_eq_of_covers 6 _ (by decide +kernel) fun t hf y => ?_
  have h3 : t.val % 32 = 31 := (flush0_6 t).1 hf
  have ht := lt32 t
  blk_simp
  show gains m c ((t.val + 1) / 4) y = _
  obtain ⟨e, q, rfl⟩ : ∃ (e : Fin 8) (q : Fin 1024), y = ix2 e q := ⟨y 0, y 1, eq_ix2 y⟩
  have h8 : (t.val + 1) / 4 = 8 := by omega
  rw [h8, gains_apply m c 8 le_rfl]
  have hi : (win0_6.blk t).view.emb (ix2 e q) = ix2 e q := by blk_ext [(index_eq t).2.2.2.2.2.2]
  rw [hi]
  unfold outGain
  exact (NormBwd.sum_split 8 1024 (fun n : Fin 8192 => NormBwd.gain (fun k => dh (D m c) (W m c) n k) (fun k => X m c (ix2 n k)) q) (fun i j => by omega)).symm

end Cert.ProjSwapProof

end
-- ==== Proof.ProjSwapValue.lean ====
/-
  The claims of `mix_in_proj_bwd` with its ride: the frames, and the values against the reference at the extended reals.
-/
module

public import proofs.«01_k».proof.Defs
public import proofs.«01_k».proof.Proof.HalfSwap
public import proofs.«01_k».proof.Proof.NormBwd
public import proofs.«01_k».proof.Proof.ProjSwap
public import proofs.«01_k».proof.Proof.ProjSwapSums
public import proofs.«01_k».proof.Proof.Gen.ProjSwap
public import proofs.«01_k».proof.Proof.Gen.ProjSwapRefIdeal
public import proofs.«01_k».proof.Proof.Gen.ProjSwapRefIdeal.Run

@[expose] public section

set_option maxRecDepth 16384

noncomputable section

namespace Cert.ProjSwapValue

open Idealize.ShloMosaic Idealize.ShloMosaic.TcCoe Idealize.SL.Sem
open Cert.ProjSwapIdeal Cert.ProjSwapIdeal.Gen Cert.ProjSwapProof

variable {F : FTy → Type} [FloatOps F]

/-- Every argument of device `c` holds what it held at launch. -/
def Kept (m : (ℓ : Loc nD τ Cert.ProjSwapIdeal.sig) → Buf (Elt F) ℓ) (c : Dev nD) (s : MemSt nD τ Cert.ProjSwapIdeal.sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)
  ∧ s.mem ((c.tc : Thread nD τ).loc main_arg11) = m ((c.tc : Thread nD τ).loc main_arg11)

theorem kept_of (m : (ℓ : Loc nD τ Cert.ProjSwapIdeal.sig) → Buf (Elt F) ℓ) (c : Dev nD) (s : MemSt nD τ Cert.ProjSwapIdeal.sig (Elt F))
    (hw : ∀ w : Fin cfg0.W, s.mem ((c : Thread nD τ).loc (Pipeline.arrRef spec0 w)) = (dats m 0 c).arrAt w cfg0.N) (he : Ends m c s) : Kept m c s :=
  ⟨(hw 0).trans ((dats m 0 c).arrAt_in 0 rfl _), (hw 1).trans ((dats m 0 c).arrAt_in 1 rfl _), (hw 2).trans ((dats m 0 c).arrAt_in 2 rfl _),
    (hw 3).trans ((dats m 0 c).arrAt_in 3 rfl _), (hw 4).trans ((dats m 0 c).arrAt_in 4 rfl _),
    he.1, he.2.1, he.2.2.1, he.2.2.2.1, he.2.2.2.2.1, he.2.2.2.2.2.1, he.2.2.2.2.2.2.1⟩

theorem kernel_frame (m : (ℓ : Loc nD τ Cert.ProjSwapIdeal.sig) → Buf (Elt F) ℓ) (ρ : Dev nD → PrngReg) :
    θ_run (defs (F := F)) (onTc (τ := τ) (main (F := F))) ⟨m, fun _ => 0, ρ⟩ (fun r => (∀ c : Dev nD, Kept m c r.2) ∧ r.2.sem = fun _ => 0) :=
  (θ_run defs _ _).mono (fun r h => ⟨fun c => kept_of m c r.2 (h.1 c).1 (h.1 c).2, h.2⟩) (run m ρ)

/-! ## The claims -/

/-- The two printed texts of the call's body are one. -/
theorem defs_eq : Cert.ProjSwap.defs (F := F) = Cert.ProjSwapIdeal.defs (F := F) := by
  have h : Cert.ProjSwap.defs₀ (F := F) = Cert.ProjSwapIdeal.defs₀ (F := F) := by
    unfold Cert.ProjSwap.defs₀ Cert.ProjSwapIdeal.defs₀
    refine congrArg Defs.onTc ?_
    funext l a
    match l, a with
    | 0, (t, s) => rfl
    | ⟨_ + 1, h⟩, _ => exact absurd h (Nat.not_lt.2 (Nat.le_add_left _ _))
  exact congrArg (Pipeline.defs Cert.ProjSwapIdeal.pcfgs) h

theorem frame_bits : Cert.quiescent_ProjSwap := fun m ρ _ => by
  rw [defs_eq]
  exact kernel_frame (F := Bits) m ρ
theorem frame_ideal : Cert.quiescent_ProjSwapIdeal := fun m ρ _ => kernel_frame (F := Ideal) m ρ
theorem ref_frame : Cert.quiescent_ProjSwapRefIdeal := fun m ρ _ =>
  (θ_run Cert.ProjSwapRefIdeal.defs _ _).mono (fun r h => ⟨fun c => (h c).2.2.2.2.2.2.2.2.2, sem_eq_zero_of_no_sems rfl _⟩)
    (Cert.ProjSwapRefIdeal.Value.run (F := Ideal) m ρ)

section values
variable (m : (ℓ : Loc nD τ Cert.ProjSwapIdeal.sig) → Buf (Elt Ideal) ℓ) (c : Dev nD)
variable (d : Cert.ProjSwapRefIdeal.S65536x3072.Idx → EReal) (w : Cert.ProjSwapRefIdeal.S4x1024x768.Idx → EReal)
variable (o x : Cert.ProjSwapRefIdeal.S65536x1024.Idx → EReal) (g : Cert.ProjSwapRefIdeal.S1x1024.Idx → EReal)

theorem row_lt (n : Fin 8192) : c.val * 8192 + n.val < 65536 := by
  have := c.isLt; change c.val < 8 at this; omega

theorem dh_block (hd : D m c = Layout.block ⟨2, ![8192, 3072]⟩ ⟨2, ![65536, 3072]⟩ 0 8 c d) (hw : W m c = w) (n : Fin 8192) (q : Fin 1024) :
    dh (D m c) (W m c) n q = NormBwd.refDot d w (ix2 ⟨c.val * 8192 + n.val, row_lt c n⟩ q) := by
  rw [NormBwd.refDot_apply, hd, hw]
  exact Finset.sum_congr rfl fun k _ => congrArg (· * _) (NormBwd.block_rows c d _ n k _ rfl)

theorem dx_block (hd : D m c = Layout.block ⟨2, ![8192, 3072]⟩ ⟨2, ![65536, 3072]⟩ 0 8 c d) (hw : W m c = w)
    (ho : R m c = Layout.block ⟨2, ![8192, 1024]⟩ ⟨2, ![65536, 1024]⟩ 0 8 c o) (hx : X m c = Layout.block ⟨2, ![8192, 1024]⟩ ⟨2, ![65536, 1024]⟩ 0 8 c x)
    (hg : Gn m c = g) :
    outDx m c = Layout.block ⟨2, ![8192, 1024]⟩ ⟨2, ![65536, 1024]⟩ 0 8 c (NormBwd.refDx (NormBwd.refDot d w) o x g) := by
  funext i
  obtain ⟨n, q, rfl⟩ : ∃ (n : Fin 8192) (q : Fin 1024), i = ix2 n q := ⟨i 0, i 1, eq_ix2 i⟩
  rw [NormBwd.block_rows c _ _ n q ⟨c.val * 8192 + n.val, row_lt c n⟩ rfl, NormBwd.refDx_apply]
  have hx' (k : Fin 1024) : X m c (ix2 n k) = x (ix2 ⟨c.val * 8192 + n.val, row_lt c n⟩ k) := by rw [hx]; exact NormBwd.block_rows c x _ n k _ rfl
  have ho' : R m c (ix2 n q) = o (ix2 ⟨c.val * 8192 + n.val, row_lt c n⟩ q) := by rw [ho]; exact NormBwd.block_rows c o _ n q _ rfl
  show NormBwd.dx (fun k => dh (D m c) (W m c) n k) (fun k => X m c (ix2 n k)) (fun k => Gn m c (ix2 0 k)) (R m c (ix2 n q)) q = _
  simp only [dh_block m c d w hd hw, hx', ho', hg]

theorem gain_block (hd : D m c = Layout.block ⟨2, ![8192, 3072]⟩ ⟨2, ![65536, 3072]⟩ 0 8 c d) (hw : W m c = w)
    (hx : X m c = Layout.block ⟨2, ![8192, 1024]⟩ ⟨2, ![65536, 1024]⟩ 0 8 c x) :
    outGain m c = Layout.block ⟨2, ![8, 1024]⟩ ⟨2, ![64, 1024]⟩ 0 8 c (NormBwd.refGain (NormBwd.refDot d w) x) := by
  funext i
  obtain ⟨e, q, rfl⟩ : ∃ (e : Fin 8) (q : Fin 1024), i = ix2 e q := ⟨i 0, i 1, eq_ix2 i⟩
  have hc := c.isLt
  change c.val < 8 at hc
  have hx' (n : Fin 8192) (k : Fin 1024) : X m c (ix2 n k) = x (ix2 ⟨c.val * 8192 + n.val, row_lt c n⟩ k) := by rw [hx]; exact NormBwd.block_rows c x _ n k _ rfl
  rw [NormBwd.block_rows c _ _ e q ⟨c.val * 8 + e.val, by omega⟩ rfl, NormBwd.refGain_apply _ _ c e q _ rfl]
  show (∑ n : Fin 8192, NormBwd.gain (fun k => dh (D m c) (W m c) n k) (fun k => X m c (ix2 n k)) q) = _
  simp only [dh_block m c d w hd hw, hx']

end values

theorem algebraic : Cert.algebraic_ProjSwapIdeal_ProjSwapRefIdeal := fun m ρ m' ρ' _ hm =>
  ⟨_, _, _, _, _, _, _, _, _,
    (θ_run defs _ _).mono (fun r h c => by
      have hk := kept_of m c r.2 (h.1 c).1 (h.1 c).2
      obtain ⟨-, -, -, -, -, -, -, e2, e3, e4, e5, e6, e7, e8⟩ := (h.1 c).2
      obtain ⟨h0, h1, h2, h3, h4, -⟩ := hm c
      obtain ⟨-, -, -, -, -, h5, h6, h7, h8, h9, h10, h11⟩ := hm (peer c)
      refine ⟨?_, ?_, ?_, ?_, ?_, ?_, ?_, ?_, ?_, hk⟩
      · exact (((h.1 c).1 5).trans (final5 m c)).trans (dx_block m c _ _ _ _ _ h0 h1 h2 h3 h4)
      · exact (((h.1 c).1 6).trans (final6 m c)).trans (gain_block m c _ _ _ h0 h1 h3)
      · exact e2.trans (HalfSwap.half_eq (R := 512) (R2 := 1024) (C := 768) rfl (by decide) (by decide) c (peer c) rfl _ (k0_off1_eq (peer c)) _ (by decide) (by decide) _ _ h5 _ _ _ _ _ _ _)
      · exact e3.trans (HalfSwap.half_eq (R := 128) (R2 := 256) (C := 1024) rfl (by decide) (by decide) c (peer c) rfl _ (k0_off2_eq (peer c)) _ (by decide) (by decide) _ _ h6 _ _ _ _ _ _ _)
      · exact e4.trans (HalfSwap.half_eq (R := 352) (R2 := 704) (C := 1024) rfl (by decide) (by decide) c (peer c) rfl _ (k0_off3_eq (peer c)) _ (by decide) (by decide) _ _ h7 _ _ _ _ _ _ _)
      · exact e5.trans (HalfSwap.half_eq (R := 352) (R2 := 704) (C := 1024) rfl (by decide) (by decide) c (peer c) rfl _ (k0_off3_eq (peer c)) _ (by decide) (by decide) _ _ h8 _ _ _ _ _ _ _)
      · exact e6.trans (HalfSwap.half_eq (R := 352) (R2 := 704) (C := 1024) rfl (by decide) (by decide) c (peer c) rfl _ (k0_off3_eq (peer c)) _ (by decide) (by decide) _ _ h9 _ _ _ _ _ _ _)
      · exact e7.trans (HalfSwap.half_eq (R := 128) (R2 := 256) (C := 1024) rfl (by decide) (by decide) c (peer c) rfl _ (k0_off2_eq (peer c)) _ (by decide) (by decide) _ _ h10 _ _ _ _ _ _ _)
      · exact e8.trans (HalfSwap.half_eq (R := 128) (R2 := 256) (C := 256) rfl (by decide) (by decide) c (peer c) rfl _ (k0_off4_eq (peer c)) _ (by decide) (by decide) _ _ h11 _ _ _ _ _ _ _)) (run m ρ),
    (θ_run Cert.ProjSwapRefIdeal.defs _ _).mono (fun r h => h 0) (Cert.ProjSwapRefIdeal.Value.run (F := Ideal) m' ρ')⟩

end Cert.ProjSwapValue

end
-- ==== Proof.ShardSum.lean ====
/-
  The sum of one slab of four and of the three that were received, at the extended reals: what a row of a weight's
  gradient is, however the host selects the slab. And the two numbers of the table, read from their range.
-/
module

public import Idealize.ShloMosaic.Lib.StableHlo.Run
public import Idealize.ShloMosaic.PureOps.Ideal
public import Idealize.ShloMosaic.Lib.Pointwise

@[expose] public section

noncomputable section

namespace Cert.ShardSum

open Idealize.ShloMosaic

/-- A word that is at least zero and below a small bound, as a signed number, is below it as a natural number. -/
theorem word_lt (x b : BitVec 32) (hb : b.toNat < 2 ^ 31)
    (h : IntOp.andi (IntOp.cmpi .sge x 0#32) (IntOp.cmpi .slt x b) = 1#1) : x.toNat < b.toNat := by
  obtain ⟨h0, h1⟩ : (0#32).sle x = true ∧ x.slt b = true := by
    revert h
    cases e0 : (0#32).sle x <;> cases e1 : x.slt b <;> simp [IntOp.andi, IntOp.cmpi, e0, e1]
  rw [BitVec.sle_iff_toInt_le] at h0
  rw [BitVec.slt_iff_toInt_lt] at h1
  rw [BitVec.toInt_eq_toNat_cond] at h0 h1
  rw [BitVec.toInt_eq_toNat_cond] at h0 h1
  have := x.isLt
  simp only [BitVec.toNat_ofNat] at h0
  split at h1 <;> split at h1 <;> omega

/-- A small number that the comparison finds equal to a word is the word's number. -/
theorem word_eq (n : ℕ) (hn : n < 2 ^ 32) (w : BitVec 32) (h : IntOp.cmpi .eq (BitVec.ofNat 32 n) w = 1#1) : n = w.toNat := by
  by_cases e : BitVec.ofNat 32 n = w
  · rw [← e, BitVec.toNat_ofNat, Nat.mod_eq_of_lt hn]
  · simp [IntOp.cmpi, beq_eq_false_iff_ne.mpr e] at h

theorem hz2 : (![0, 0] : Fin 2 → ℕ) = fun _ => 0 := funext fun a => by fin_cases a <;> rfl
theorem hz3 : (![0, 0, 0] : Fin 3 → ℕ) = fun _ => 0 := funext fun a => by fin_cases a <;> rfl

variable {R C : ℕ}

/-- Slab `p` of the four and the three received slabs, summed. -/
def slab (csum : (⟨3, ![4, R, C]⟩ : Shape).Idx → EReal) (got : (⟨3, ![3, R, C]⟩ : Shape).Idx → EReal) (p : Fin 4) (r : Fin R) (q : Fin C) : EReal :=
  csum (ix3 p r q) + ∑ k : Fin 3, got (ix3 k r q)

/-- The same, added one after the other. -/
theorem added (csum : (⟨3, ![4, R, C]⟩ : Shape).Idx → EReal) (got : (⟨3, ![3, R, C]⟩ : Shape).Idx → EReal) (p : Fin 4) (r : Fin R) (q : Fin C) :
    csum (ix3 p r q) + got (ix3 0 r q) + got (ix3 1 r q) + got (ix3 2 r q) = slab csum got p r q := by
  rw [slab, Fin.sum_univ_three, add_assoc, add_assoc, ← add_assoc (got (ix3 0 r q))]

/-- The sum over the four slabs of which all but slab `p` are put to zero is slab `p`. -/
theorem sum_select (f : Fin 4 → EReal) (w : BitVec 32) (p : Fin 4) (hp : w.toNat = p.val) :
    (∑ k : Fin 4, if BitVec.ofNat 32 k.val = w then f k else 0) = f p := by
  have e (k : Fin 4) : BitVec.ofNat 32 k.val = w ↔ k = p := by
    rw [← BitVec.toNat_inj, BitVec.toNat_ofNat, hp, Nat.mod_eq_of_lt (by omega), Fin.ext_iff]
  simp only [e, Finset.sum_ite_eq', Finset.mem_univ, if_true]

/-- The host's sums at an element. -/
theorem host_apply (csum : FVec Ideal ⟨3, ![4, R, C]⟩ .f32) (got : FVec Ideal ⟨3, ![3, R, C]⟩ .bf16) (w : BitVec 32) (p : Fin 4) (hp : w.toNat = p.val)
    (hb : (⟨1, ![4]⟩ : Shape).BroadcastsInDim ⟨3, ![4, R, C]⟩ ![0]) (h0 : (⟨0, ![]⟩ : Shape).BroadcastsInDim ⟨3, ![4, R, C]⟩ ![])
    (h1 : (⟨0, ![]⟩ : Shape).BroadcastsInDim ⟨1, ![4]⟩ ![])
    (r4 : (⟨3, ![4, R, C]⟩ : Shape).ReducesTo [0] ⟨2, ![R, C]⟩) (r3 : (⟨3, ![3, R, C]⟩ : Shape).ReducesTo [0] ⟨2, ![R, C]⟩)
    (hn hw) (place : IVec ⟨0, ![]⟩ 32) (hplace : place = fun _ => w) (r : Fin R) (q : Fin C) :
    addf
      (Host.reduceAdd (select (broadcastInDim ⟨3, ![4, R, C]⟩ ![0] hb (cmpi .eq (iotaInDim ⟨1, ![4]⟩ 32 0) (broadcastInDim ⟨1, ![4]⟩ ![] h1 place))) csum
        (broadcastInDim ⟨3, ![4, R, C]⟩ ![] h0 (constant ⟨0, ![]⟩ .f32 0x00000000#32))) (constant ⟨0, ![]⟩ .f32 0x00000000#32) r4 hn)
      (Host.reduceAdd (extf .f32 got hw) (constant ⟨0, ![]⟩ .f32 0x00000000#32) r3 hn) (ix2 r q) = slab csum got p r q := by
  subst hplace
  pointwise [slab]
  refine congrArg (· + _) ((Finset.sum_congr rfl fun k _ => ?_).trans (sum_select (fun k => csum (ix3 k r q)) w p hp))
  by_cases e : BitVec.ofNat 32 k.val = w
  · simp [IntOp.cmpi, Scalar.select, e]
  · simp [IntOp.cmpi, Scalar.select, e, beq_eq_false_iff_ne.mpr e]

end Cert.ShardSum

end
-- ==== Proof.ShardFfn.lean ====
/-
  The claims of `shard_sum` at the (352, 1024) halves of the feed-forward weights: the frames, and the sum of the core's own slab and
  the three received ones against the reference at the extended reals, on the half of the rows that the core owns.
-/
module

public import proofs.«01_k».proof.Defs
public import proofs.«01_k».proof.Proof.ShardSum
public import proofs.«01_k».proof.Proof.Gen.ShardFfn.Frame
public import proofs.«01_k».proof.Proof.Gen.ShardFfnIdeal.Frame
public import proofs.«01_k».proof.Proof.Gen.ShardFfnRefIdeal.Run
public import proofs.«01_k».proof.Proof.Gen.Pre_placed_ffn
public import proofs.«01_k».proof.Proof.Gen.On_own_half_ffn
public import Idealize.ShloMosaic.Lib.Quiescent
public import Idealize.ShloMosaic.Lib.Pointwise
public import Idealize.ShloMosaic.Lib.Pipeline.ValueKit

@[expose] public section

noncomputable section

namespace Cert.ShardFfnValue

open Idealize.ShloMosaic Idealize.ShloMosaic.TcCoe Idealize.SL.Sem

/-- The precondition bounds the two numbers of the table. -/
theorem bounds {F : FTy → Type} [FloatOps F] (a0 : FVec F Cert.Pre_placed_ffn.S4x352x1024 .f32) (a1 : FVec F Cert.Pre_placed_ffn.S3x352x1024 .bf16) (t : IVec Cert.Pre_placed_ffn.S2 32)
    (h : Cert.Pre_placed_ffn.fn (F := F) a0 a1 t = fun _ => 1#1) : (t (ix1 0)).toNat < 4 ∧ (t (ix1 1)).toNat < 2 := by
  have h0 := congrFun h (ix1 0)
  have h1 := congrFun h (ix1 1)
  exact ⟨ShardSum.word_lt _ _ (by decide) h0, ShardSum.word_lt _ _ (by decide) h1⟩

/-- A row of the reference's result lies in one half or the other. -/
theorem halves_apply (hb : (⟨2, ![352, 1024]⟩ : Shape).BroadcastsInDim ⟨3, ![2, 352, 1024]⟩ ![1, 2]) (hs : (⟨3, ![2, 352, 1024]⟩ : Shape).ShapeCasts ⟨2, ![704, 1024]⟩)
    (x : FVec Ideal ⟨2, ![352, 1024]⟩ .f32) (i : (⟨2, ![704, 1024]⟩ : Shape).Idx) :
    shapeCast ⟨2, ![704, 1024]⟩ (broadcastInDim ⟨3, ![2, 352, 1024]⟩ ![1, 2] hb x) hs i = x (ix2 ⟨(i 0).val % 352, Nat.mod_lt _ (by decide)⟩ (i 1)) := by
  pointwise

/-- The rows that the mask names lie in the half that the table names. -/
theorem mask_row (a0 : FVec Ideal Cert.On_own_half_ffn.S4x352x1024 .f32) (a1 : FVec Ideal Cert.On_own_half_ffn.S3x352x1024 .bf16) (t : IVec Cert.On_own_half_ffn.S2 32) (i : (⟨2, ![704, 1024]⟩ : Shape).Idx)
    (h : Cert.On_own_half_ffn.fn (F := Ideal) a0 a1 t i = 1#1) : (i 0).val / 352 = (t (ix1 1)).toNat := by
  have e : Cert.On_own_half_ffn.fn (F := Ideal) a0 a1 t i = IntOp.cmpi .eq (BitVec.ofNat 32 ((i 0).val / 352)) (t (ix1 1)) := by
    pointwise [Cert.On_own_half_ffn.fn]
  rw [e] at h
  exact ShardSum.word_eq _ (by have : (i 0).val < 704 := (i 0).isLt; omega) _ h

section

open Cert.ShardFfnIdeal Cert.ShardFfnIdeal.Gen

variable {F : FTy → Type} [FloatOps F] (m : (ℓ : Loc nD τ sig) → Buf (Elt F) ℓ)

/-- The table as the program finds it. -/
abbrev table : IVec S2 32 := m (((0 : Dev nD).tc : Thread nD τ).loc main_arg2)

/-- The slab that the table places. -/
theorem index0 (i : grid0.Coords) (h n) :
    cc0_transform_0 h n (tbl m) i = ![(table m (ix1 0)).toNat, 0, 0] := by
  have hi : (i 0).val = 0 := Nat.lt_one_iff.mp (i 0).isLt
  have e : (tbl m).at 0 (Rect.unit (s := S2) ![0] S1.size h) n = table m (ix1 0) :=
    congrArg (table m) (funext fun a => Fin.ext (by match a with | ⟨0, _⟩ => rfl))
  unfold cc0_transform_0
  rw [e, hi]
  rfl

/-- The half that the table places. -/
theorem index4 (i : grid0.Coords) (h n) :
    cc0_transform_4 h n (tbl m) i = ![(table m (ix1 1)).toNat, 0] := by
  have hi : (i 0).val = 0 := Nat.lt_one_iff.mp (i 0).isLt
  have e : (tbl m).at 0 (Rect.unit (s := S2) ![1] S1.size h) n = table m (ix1 1) :=
    congrArg (table m) (funext fun a => Fin.ext (by match a with | ⟨0, _⟩ => rfl))
  unfold cc0_transform_4
  rw [e, hi]
  simp only [Scalar.muli, Scalar.addi, IntOp.muli, IntOp.addi, BitVec.mul_one, BitVec.add_zero]
  rfl

/-- So the blocks that the table places lie in their arrays. -/
theorem ok (h : (table m (ix1 0)).toNat < 4 ∧ (table m (ix1 1)).toNat < 2) : Ok m := by
  obtain ⟨h0, h1⟩ := h
  refine ⟨fun i => ⟨fun a => ?_, .inl rfl⟩, fun i => ⟨fun a => ?_, .inl rfl⟩⟩
  · rw [index0]
    match a with
    | ⟨0, _⟩ => show ((table m (ix1 0)).toNat + 1) * 1 ≤ 4; omega
    | ⟨1, _⟩ => exact Nat.le_refl _
    | ⟨2, _⟩ => exact Nat.le_refl _
  · rw [index4]
    match a with
    | ⟨0, _⟩ => show ((table m (ix1 1)).toNat + 1) * 352 ≤ 704; omega
    | ⟨1, _⟩ => exact Nat.le_refl _

end

section

open Cert.ShardFfnIdeal Cert.ShardFfnIdeal.Gen

variable (m : (ℓ : Loc nD τ sig) → Buf (Elt Ideal) ℓ)

theorem pay_apply (x0 : Vec Ideal S1x352x1024 .f32) (x1 x2 x3 : Vec Ideal S1x352x1024 .bf16) (r : Fin 352) (q : Fin 1024) :
    k0_pay1 x0 x1 x2 x3 (ix2 r q) = x0 (ix3 0 r q) + x1 (ix3 0 r q) + x2 (ix3 0 r q) + x3 (ix3 0 r q) := by
  pointwise [k0_pay1]

/-- What the body leaves in the block of the result. -/
theorem out_eq (c : Dev nD) (i : grid0.Coords) (b0 : Memref sig .tc .vmem S1x352x1024 .f32) (h0 : b0.IsWhole) (b1 : Memref sig .tc .vmem S1x352x1024 .bf16) (h1 : b1.IsWhole)
    (b2 : Memref sig .tc .vmem S1x352x1024 .bf16) (h2 : b2.IsWhole) (b3 : Memref sig .tc .vmem S1x352x1024 .bf16) (h3 : b3.IsWhole) (b4 : Memref sig .tc .vmem S352x1024 .f32) (h4 : b4.IsWhole)
    (x0 : Vec Ideal S1x352x1024 .f32) (x1 x2 x3 : Vec Ideal S1x352x1024 .bf16) (xt) :
    out0_A_4 c i b0 h0 b1 h1 b2 h2 b3 h3 b4 h4 x0 x1 x2 x3 xt = k0_pay1 x0 x1 x2 x3 := by
  unfold out0_A_4
  refine (View.read_writes_eq_canon _ _ _ (cover0_A_4 _ _ _ _ _ _ _ _ _ _ _ _ _ _ _ _ _)).trans ?_
  unfold kernelRun0_A
  dsimp only
  rw [View.canon_unit_zero ShardSum.hz2]
  simp only [View.readAt_eq_ld, Memref.IsWhole.read_unread]
  simp only [View.ld_unit_zero (S := S1x352x1024) ShardSum.hz3]

variable (hO : Ok m) (c : Dev nD) (t : Fin (cfgM m hO).N) (r : Fin 352) (q : Fin 1024)

abbrev csum : S4x352x1024.Idx → EReal := m ((c.tc : Thread nD τ).loc main_arg0)
abbrev got : S3x352x1024.Idx → EReal := m ((c.tc : Thread nD τ).loc main_arg1)

/-- The blocks that the body reads, at an element. -/
theorem blk0 (p : Fin 4) (hp : (table m (ix1 0)).toNat = p.val) : iblk m hO c 0 t (ix3 0 r q) = csum m c (ix3 p r q) := by
  have e := index0 m (grid0.coords t) inb_S2_S1_0 numel1_S1
  refine congrArg (csum m c) (funext fun a => Fin.ext ?_)
  match a with
  | ⟨0, _⟩ => show cc0_transform_0 inb_S2_S1_0 numel1_S1 (tbl m) (grid0.coords t) 0 * 1 + 1 * 0 = p.val; rw [e]; show (table m (ix1 0)).toNat * 1 + 1 * 0 = p.val; omega
  | ⟨1, _⟩ => show cc0_transform_0 inb_S2_S1_0 numel1_S1 (tbl m) (grid0.coords t) 1 * 352 + 1 * r.val = r.val; rw [e]; show 0 * 352 + 1 * r.val = r.val; omega
  | ⟨2, _⟩ => show cc0_transform_0 inb_S2_S1_0 numel1_S1 (tbl m) (grid0.coords t) 2 * 1024 + 1 * q.val = q.val; rw [e]; show 0 * 1024 + 1 * q.val = q.val; omega

theorem coords_val : (grid0.coords t 0).val = 0 := Nat.lt_one_iff.mp (grid0.coords t 0).isLt

/-- The rows of a received slab's block, from a point's number and the slab's. -/
theorem slab_row {s : Fin 3} {e : S3x352x1024.Idx} (h0 : (e 0).val = s.val) (h1 : (e 1).val = (BitVec.ofNat 32 (grid0.coords t 0).val).toNat * 352 + 1 * r.val)
    (h2 : (e 2).val = 0 * 1024 + 1 * q.val) : e = ix3 s r q := by
  have h := coords_val m hO t
  refine funext fun a => Fin.ext ?_
  match a with
  | ⟨0, _⟩ => exact h0
  | ⟨1, _⟩ => refine h1.trans ?_; rw [h]; show 0 * 352 + 1 * r.val = r.val; omega
  | ⟨2, _⟩ => refine h2.trans ?_; show 0 * 1024 + 1 * q.val = q.val; omega

theorem blk1 : iblk m hO c 1 t (ix3 0 r q) = got m c (ix3 0 r q) := congrArg (got m c) (slab_row m hO t r q rfl rfl rfl)
theorem blk2 : iblk m hO c 2 t (ix3 0 r q) = got m c (ix3 1 r q) := congrArg (got m c) (slab_row m hO t r q rfl rfl rfl)
theorem blk3 : iblk m hO c 3 t (ix3 0 r q) = got m c (ix3 2 r q) := congrArg (got m c) (slab_row m hO t r q rfl rfl rfl)

/-- So what the body leaves at an element is the sum of the slabs. -/
theorem outs_apply (p : Fin 4) (hp : (table m (ix1 0)).toNat = p.val) : outsAt0 m hO c t (ix2 r q) = ShardSum.slab (csum m c) (got m c) p r q := by
  refine (congrFun (out_eq c _ _ _ _ _ _ _ _ _ _ _ _ _ _ _ _) (ix2 r q)).trans ?_
  refine (pay_apply _ _ _ _ r q).trans ?_
  rw [blk0 m hO c t r q p hp, blk1, blk2, blk3]
  exact ShardSum.added _ _ p r q

/-- The result's contents where the table places the block: the sums, whichever half a row lies in. -/
def total (p : Fin 4) : S704x1024.Idx → EReal := fun i => ShardSum.slab (csum m c) (got m c) p ⟨(i 0).val % 352, Nat.mod_lt _ (by decide)⟩ (i 1)

theorem row_val (h : Fin 2) (hh : (table m (ix1 1)).toNat = h.val) :
    ((((cfgM m hO).win 4).blk t).view.emb (ix2 r q) : S704x1024.Idx) = ix2 ⟨h.val * 352 + r.val, by omega⟩ q := by
  have e := index4 m (grid0.coords t) inb_S2_S1_1 numel1_S1
  funext a
  refine Fin.ext ?_
  match a with
  | ⟨0, _⟩ => show cc0_transform_4 inb_S2_S1_1 numel1_S1 (tbl m) (grid0.coords t) 0 * 352 + 1 * r.val = h.val * 352 + r.val; rw [e]; show (table m (ix1 1)).toNat * 352 + 1 * r.val = h.val * 352 + r.val; omega
  | ⟨1, _⟩ => show cc0_transform_4 inb_S2_S1_1 numel1_S1 (tbl m) (grid0.coords t) 1 * 1024 + 1 * q.val = q.val; rw [e]; show 0 * 1024 + 1 * q.val = q.val; omega

/-- What the one point writes back is its block of those contents. -/
theorem flushed_eq (p : Fin 4) (hp : (table m (ix1 0)).toNat = p.val) (h : Fin 2) (hh : (table m (ix1 1)).toNat = h.val) :
    (dats m hO 0 c).flushed 4 t = (((cfgM m hO).win 4).blk t).view.read (Elt Ideal) (total m c p) := by
  show ((cfgM m hO).win 4).cut (grid0.coords t) ((dats m hO 0 c).after 4 t) = _
  rw [after0_4]
  refine funext fun (j : S352x1024.Idx) => ?_
  obtain ⟨r, q, rfl⟩ : ∃ (r : Fin 352) (q : Fin 1024), j = ix2 r q := ⟨j 0, j 1, eq_ix2 j⟩
  refine (outs_apply m hO c t r q p hp).trans ?_
  show _ = total m c p ((((cfgM m hO).win 4).blk t).view.emb (ix2 r q))
  rw [row_val m hO t r q h hh]
  show _ = ShardSum.slab (csum m c) (got m c) p ⟨(h.val * 352 + r.val) % 352, _⟩ q
  congr 1
  exact Fin.ext (by show r.val = (h.val * 352 + r.val) % 352; omega)

theorem flush_last : ((cfgM m hO).win 4).flush t = true := by
  have e : t.val + 1 = grid0.N := by have := t.isLt; have : grid0.N = 1 := rfl; have : t.val < grid0.N := t.isLt; omega
  show (true && (decide (t.val + 1 = grid0.N) || _)) = true
  rw [decide_eq_true e]; rfl

/-- The one point of the grid. -/
abbrev point : Fin (cfgM m hO).N := ⟨0, (by decide : 0 < grid0.N)⟩

/-- The result after the run, in the half that the table names. -/
theorem final (p : Fin 4) (hp : (table m (ix1 0)).toNat = p.val) (h : Fin 2) (hh : (table m (ix1 1)).toNat = h.val)
    (i : S704x1024.Idx) (hi : (i 0).val / 352 = h.val) : (dats m hO 0 c).arrAt 4 (cfgM m hO).N i = total m c p i := by
  have e : ((((cfgM m hO).win 4).blk (point m hO)).view.emb (ix2 ⟨(i 0).val % 352, Nat.mod_lt _ (by decide)⟩ (i 1)) : S704x1024.Idx) = i := by
    refine (row_val m hO (point m hO) ⟨(i 0).val % 352, Nat.mod_lt _ (by decide)⟩ (i 1) h hh).trans ?_
    refine (congrArg (fun n => ix2 n (i 1)) (Fin.ext ?_)).trans (eq_ix2 i).symm
    show h.val * 352 + (i 0).val % 352 = (i 0).val
    omega
  refine (dats m hO 0 c).arrAt_apply_of_mem 4 (total m c p) (fun t _ => flushed_eq m hO c t p hp h hh) _ (point m hO) i (point m hO).isLt (flush_last m hO (point m hO)) ?_
  have := (((cfgM m hO).win 4).blk (point m hO)).view.emb_mem_set (ix2 ⟨(i 0).val % 352, Nat.mod_lt _ (by decide)⟩ (i 1))
  rwa [e] at this

/-- The kernel's result, with the arguments kept. -/
theorem run (hO : Ok m) (ρ : Dev nD → PrngReg) : θ_run defs (onTc (τ := τ) (main (F := Ideal))) ⟨m, fun _ => 0, ρ⟩ (fun r => ∀ c : Dev nD,
      r.2.mem ((c.tc : Thread nD τ).loc main_v0) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).1 4, h.2 c⟩) (θ_run_and (run_main m ρ hO) (unchanged m ρ hO))

end

theorem frame_bits : Cert.quiescent_ShardFfn := fun m ρ h => Cert.ShardFfn.Gen.frame m ρ (ok (F := Bits) m (bounds _ _ _ (h 0)))
theorem frame_ideal : Cert.quiescent_ShardFfnIdeal := fun m ρ h => Cert.ShardFfnIdeal.Gen.frame m ρ (ok m (bounds _ _ _ (h 0)))
theorem ref_frame : Cert.quiescent_ShardFfnRefIdeal := fun m ρ _ =>
  (θ_run Cert.ShardFfnRefIdeal.defs _ _).mono (fun r h => ⟨fun c => (h c).2, sem_eq_zero_of_no_sems rfl _⟩)
    (Cert.ShardFfnRefIdeal.Value.run (F := Ideal) m ρ)

theorem ref_frame_placed : Cert.quiescent_ShardFfnRefIdeal_pre_placed_ffn := fun m ρ _ => ref_frame m ρ trivial

open Cert.ShardFfnIdeal Cert.ShardFfnIdeal.Gen in
/-- On the rows of the core's half, the kernel and the reference leave the same sums. -/
theorem algebraic : Cert.algebraic_ShardFfnIdeal_ShardFfnRefIdeal_on_own_half_ffn := by
  intro m ρ m' ρ' hpre hagree
  obtain ⟨h0, h1⟩ : (table m (ix1 0)).toNat < 4 ∧ (table m (ix1 1)).toNat < 2 := bounds _ _ _ (hpre 0)
  refine ⟨fun c => total m c ⟨_, h0⟩, ?_, ?_⟩
  · refine (θ_run defs _ _).mono (fun _ h c => ⟨fun i hi => ?_, (h c).2⟩) (run m (ok m ⟨h0, h1⟩) ρ)
    obtain rfl : c = 0 := Subsingleton.elim _ _
    exact (congrFun (h 0).1 i).trans (final m (ok m ⟨h0, h1⟩) 0 ⟨_, h0⟩ rfl ⟨_, h1⟩ rfl i (mask_row _ _ _ i hi))
  · refine (θ_run Cert.ShardFfnRefIdeal.defs _ _).mono (fun _ h c => ⟨fun i _ => (congrFun (h c).1 i).trans ?_, (h c).2⟩)
      (Cert.ShardFfnRefIdeal.Value.run (F := Ideal) m' ρ')
    obtain rfl : c = 0 := Subsingleton.elim _ _
    rw [(hagree 0).1, (hagree 0).2.1, (hagree 0).2.2]
    refine (halves_apply _ _ _ i).trans ?_
    refine ShardSum.host_apply _ _ (table m (ix1 0)) ⟨_, h0⟩ rfl _ _ _ _ _ _ _ _ (funext fun j => ?_) _ _
    pointwise

end Cert.ShardFfnValue

end
-- ==== Proof.ShardIn.lean ====
/-
  The claims of `shard_sum` at the (512, 768) halves of the input projection's weight: the frames, and the sum of the core's own slab and
  the three received ones against the reference at the extended reals, on the half of the rows that the core owns.
-/
module

public import proofs.«01_k».proof.Defs
public import proofs.«01_k».proof.Proof.ShardSum
public import proofs.«01_k».proof.Proof.Gen.ShardIn.Frame
public import proofs.«01_k».proof.Proof.Gen.ShardInIdeal.Frame
public import proofs.«01_k».proof.Proof.Gen.ShardInRefIdeal.Run
public import proofs.«01_k».proof.Proof.Gen.Pre_placed_in
public import proofs.«01_k».proof.Proof.Gen.On_own_half_in
public import Idealize.ShloMosaic.Lib.Quiescent
public import Idealize.ShloMosaic.Lib.Pointwise
public import Idealize.ShloMosaic.Lib.Pipeline.ValueKit

@[expose] public section

noncomputable section

namespace Cert.ShardInValue

open Idealize.ShloMosaic Idealize.ShloMosaic.TcCoe Idealize.SL.Sem

/-- The precondition bounds the two numbers of the table. -/
theorem bounds {F : FTy → Type} [FloatOps F] (a0 : FVec F Cert.Pre_placed_in.S4x512x768 .f32) (a1 : FVec F Cert.Pre_placed_in.S3x512x768 .bf16) (t : IVec Cert.Pre_placed_in.S2 32)
    (h : Cert.Pre_placed_in.fn (F := F) a0 a1 t = fun _ => 1#1) : (t (ix1 0)).toNat < 4 ∧ (t (ix1 1)).toNat < 2 := by
  have h0 := congrFun h (ix1 0)
  have h1 := congrFun h (ix1 1)
  exact ⟨ShardSum.word_lt _ _ (by decide) h0, ShardSum.word_lt _ _ (by decide) h1⟩

/-- A row of the reference's result lies in one half or the other. -/
theorem halves_apply (hb : (⟨2, ![512, 768]⟩ : Shape).BroadcastsInDim ⟨3, ![2, 512, 768]⟩ ![1, 2]) (hs : (⟨3, ![2, 512, 768]⟩ : Shape).ShapeCasts ⟨2, ![1024, 768]⟩)
    (x : FVec Ideal ⟨2, ![512, 768]⟩ .f32) (i : (⟨2, ![1024, 768]⟩ : Shape).Idx) :
    shapeCast ⟨2, ![1024, 768]⟩ (broadcastInDim ⟨3, ![2, 512, 768]⟩ ![1, 2] hb x) hs i = x (ix2 ⟨(i 0).val % 512, Nat.mod_lt _ (by decide)⟩ (i 1)) := by
  pointwise

/-- The rows that the mask names lie in the half that the table names. -/
theorem mask_row (a0 : FVec Ideal Cert.On_own_half_in.S4x512x768 .f32) (a1 : FVec Ideal Cert.On_own_half_in.S3x512x768 .bf16) (t : IVec Cert.On_own_half_in.S2 32) (i : (⟨2, ![1024, 768]⟩ : Shape).Idx)
    (h : Cert.On_own_half_in.fn (F := Ideal) a0 a1 t i = 1#1) : (i 0).val / 512 = (t (ix1 1)).toNat := by
  have e : Cert.On_own_half_in.fn (F := Ideal) a0 a1 t i = IntOp.cmpi .eq (BitVec.ofNat 32 ((i 0).val / 512)) (t (ix1 1)) := by
    pointwise [Cert.On_own_half_in.fn]
  rw [e] at h
  exact ShardSum.word_eq _ (by have : (i 0).val < 1024 := (i 0).isLt; omega) _ h

section

open Cert.ShardInIdeal Cert.ShardInIdeal.Gen

variable {F : FTy → Type} [FloatOps F] (m : (ℓ : Loc nD τ sig) → Buf (Elt F) ℓ)

/-- The table as the program finds it. -/
abbrev table : IVec S2 32 := m (((0 : Dev nD).tc : Thread nD τ).loc main_arg2)

/-- The slab that the table places. -/
theorem index0 (i : grid0.Coords) (h n) :
    cc0_transform_0 h n (tbl m) i = ![(table m (ix1 0)).toNat, 0, 0] := by
  have hi : (i 0).val = 0 := Nat.lt_one_iff.mp (i 0).isLt
  have e : (tbl m).at 0 (Rect.unit (s := S2) ![0] S1.size h) n = table m (ix1 0) :=
    congrArg (table m) (funext fun a => Fin.ext (by match a with | ⟨0, _⟩ => rfl))
  unfold cc0_transform_0
  rw [e, hi]
  rfl

/-- The half that the table places. -/
theorem index4 (i : grid0.Coords) (h n) :
    cc0_transform_4 h n (tbl m) i = ![(table m (ix1 1)).toNat, 0] := by
  have hi : (i 0).val = 0 := Nat.lt_one_iff.mp (i 0).isLt
  have e : (tbl m).at 0 (Rect.unit (s := S2) ![1] S1.size h) n = table m (ix1 1) :=
    congrArg (table m) (funext fun a => Fin.ext (by match a with | ⟨0, _⟩ => rfl))
  unfold cc0_transform_4
  rw [e, hi]
  simp only [Scalar.muli, Scalar.addi, IntOp.muli, IntOp.addi, BitVec.mul_one, BitVec.add_zero]
  rfl

/-- So the blocks that the table places lie in their arrays. -/
theorem ok (h : (table m (ix1 0)).toNat < 4 ∧ (table m (ix1 1)).toNat < 2) : Ok m := by
  obtain ⟨h0, h1⟩ := h
  refine ⟨fun i => ⟨fun a => ?_, .inl rfl⟩, fun i => ⟨fun a => ?_, .inl rfl⟩⟩
  · rw [index0]
    match a with
    | ⟨0, _⟩ => show ((table m (ix1 0)).toNat + 1) * 1 ≤ 4; omega
    | ⟨1, _⟩ => exact Nat.le_refl _
    | ⟨2, _⟩ => exact Nat.le_refl _
  · rw [index4]
    match a with
    | ⟨0, _⟩ => show ((table m (ix1 1)).toNat + 1) * 512 ≤ 1024; omega
    | ⟨1, _⟩ => exact Nat.le_refl _

end

section

open Cert.ShardInIdeal Cert.ShardInIdeal.Gen

variable (m : (ℓ : Loc nD τ sig) → Buf (Elt Ideal) ℓ)

theorem pay_apply (x0 : Vec Ideal S1x512x768 .f32) (x1 x2 x3 : Vec Ideal S1x512x768 .bf16) (r : Fin 512) (q : Fin 768) :
    k0_pay1 x0 x1 x2 x3 (ix2 r q) = x0 (ix3 0 r q) + x1 (ix3 0 r q) + x2 (ix3 0 r q) + x3 (ix3 0 r q) := by
  pointwise [k0_pay1]

/-- What the body leaves in the block of the result. -/
theorem out_eq (c : Dev nD) (i : grid0.Coords) (b0 : Memref sig .tc .vmem S1x512x768 .f32) (h0 : b0.IsWhole) (b1 : Memref sig .tc .vmem S1x512x768 .bf16) (h1 : b1.IsWhole)
    (b2 : Memref sig .tc .vmem S1x512x768 .bf16) (h2 : b2.IsWhole) (b3 : Memref sig .tc .vmem S1x512x768 .bf16) (h3 : b3.IsWhole) (b4 : Memref sig .tc .vmem S512x768 .f32) (h4 : b4.IsWhole)
    (x0 : Vec Ideal S1x512x768 .f32) (x1 x2 x3 : Vec Ideal S1x512x768 .bf16) (xt) :
    out0_A_4 c i b0 h0 b1 h1 b2 h2 b3 h3 b4 h4 x0 x1 x2 x3 xt = k0_pay1 x0 x1 x2 x3 := by
  unfold out0_A_4
  refine (View.read_writes_eq_canon _ _ _ (cover0_A_4 _ _ _ _ _ _ _ _ _ _ _ _ _ _ _ _ _)).trans ?_
  unfold kernelRun0_A
  dsimp only
  rw [View.canon_unit_zero ShardSum.hz2]
  simp only [View.readAt_eq_ld, Memref.IsWhole.read_unread]
  simp only [View.ld_unit_zero (S := S1x512x768) ShardSum.hz3]

variable (hO : Ok m) (c : Dev nD) (t : Fin (cfgM m hO).N) (r : Fin 512) (q : Fin 768)

abbrev csum : S4x512x768.Idx → EReal := m ((c.tc : Thread nD τ).loc main_arg0)
abbrev got : S3x512x768.Idx → EReal := m ((c.tc : Thread nD τ).loc main_arg1)

/-- The blocks that the body reads, at an element. -/
theorem blk0 (p : Fin 4) (hp : (table m (ix1 0)).toNat = p.val) : iblk m hO c 0 t (ix3 0 r q) = csum m c (ix3 p r q) := by
  have e := index0 m (grid0.coords t) inb_S2_S1_0 numel1_S1
  refine congrArg (csum m c) (funext fun a => Fin.ext ?_)
  match a with
  | ⟨0, _⟩ => show cc0_transform_0 inb_S2_S1_0 numel1_S1 (tbl m) (grid0.coords t) 0 * 1 + 1 * 0 = p.val; rw [e]; show (table m (ix1 0)).toNat * 1 + 1 * 0 = p.val; omega
  | ⟨1, _⟩ => show cc0_transform_0 inb_S2_S1_0 numel1_S1 (tbl m) (grid0.coords t) 1 * 512 + 1 * r.val = r.val; rw [e]; show 0 * 512 + 1 * r.val = r.val; omega
  | ⟨2, _⟩ => show cc0_transform_0 inb_S2_S1_0 numel1_S1 (tbl m) (grid0.coords t) 2 * 768 + 1 * q.val = q.val; rw [e]; show 0 * 768 + 1 * q.val = q.val; omega

theorem coords_val : (grid0.coords t 0).val = 0 := Nat.lt_one_iff.mp (grid0.coords t 0).isLt

/-- The rows of a received slab's block, from a point's number and the slab's. -/
theorem slab_row {s : Fin 3} {e : S3x512x768.Idx} (h0 : (e 0).val = s.val) (h1 : (e 1).val = (BitVec.ofNat 32 (grid0.coords t 0).val).toNat * 512 + 1 * r.val)
    (h2 : (e 2).val = 0 * 768 + 1 * q.val) : e = ix3 s r q := by
  have h := coords_val m hO t
  refine funext fun a => Fin.ext ?_
  match a with
  | ⟨0, _⟩ => exact h0
  | ⟨1, _⟩ => refine h1.trans ?_; rw [h]; show 0 * 512 + 1 * r.val = r.val; omega
  | ⟨2, _⟩ => refine h2.trans ?_; show 0 * 768 + 1 * q.val = q.val; omega

theorem blk1 : iblk m hO c 1 t (ix3 0 r q) = got m c (ix3 0 r q) := congrArg (got m c) (slab_row m hO t r q rfl rfl rfl)
theorem blk2 : iblk m hO c 2 t (ix3 0 r q) = got m c (ix3 1 r q) := congrArg (got m c) (slab_row m hO t r q rfl rfl rfl)
theorem blk3 : iblk m hO c 3 t (ix3 0 r q) = got m c (ix3 2 r q) := congrArg (got m c) (slab_row m hO t r q rfl rfl rfl)

/-- So what the body leaves at an element is the sum of the slabs. -/
theorem outs_apply (p : Fin 4) (hp : (table m (ix1 0)).toNat = p.val) : outsAt0 m hO c t (ix2 r q) = ShardSum.slab (csum m c) (got m c) p r q := by
  refine (congrFun (out_eq c _ _ _ _ _ _ _ _ _ _ _ _ _ _ _ _) (ix2 r q)).trans ?_
  refine (pay_apply _ _ _ _ r q).trans ?_
  rw [blk0 m hO c t r q p hp, blk1, blk2, blk3]
  exact ShardSum.added _ _ p r q

/-- The result's contents where the table places the block: the sums, whichever half a row lies in. -/
def total (p : Fin 4) : S1024x768.Idx → EReal := fun i => ShardSum.slab (csum m c) (got m c) p ⟨(i 0).val % 512, Nat.mod_lt _ (by decide)⟩ (i 1)

theorem row_val (h : Fin 2) (hh : (table m (ix1 1)).toNat = h.val) :
    ((((cfgM m hO).win 4).blk t).view.emb (ix2 r q) : S1024x768.Idx) = ix2 ⟨h.val * 512 + r.val, by omega⟩ q := by
  have e := index4 m (grid0.coords t) inb_S2_S1_1 numel1_S1
  funext a
  refine Fin.ext ?_
  match a with
  | ⟨0, _⟩ => show cc0_transform_4 inb_S2_S1_1 numel1_S1 (tbl m) (grid0.coords t) 0 * 512 + 1 * r.val = h.val * 512 + r.val; rw [e]; show (table m (ix1 1)).toNat * 512 + 1 * r.val = h.val * 512 + r.val; omega
  | ⟨1, _⟩ => show cc0_transform_4 inb_S2_S1_1 numel1_S1 (tbl m) (grid0.coords t) 1 * 768 + 1 * q.val = q.val; rw [e]; show 0 * 768 + 1 * q.val = q.val; omega

/-- What the one point writes back is its block of those contents. -/
theorem flushed_eq (p : Fin 4) (hp : (table m (ix1 0)).toNat = p.val) (h : Fin 2) (hh : (table m (ix1 1)).toNat = h.val) :
    (dats m hO 0 c).flushed 4 t = (((cfgM m hO).win 4).blk t).view.read (Elt Ideal) (total m c p) := by
  show ((cfgM m hO).win 4).cut (grid0.coords t) ((dats m hO 0 c).after 4 t) = _
  rw [after0_4]
  refine funext fun (j : S512x768.Idx) => ?_
  obtain ⟨r, q, rfl⟩ : ∃ (r : Fin 512) (q : Fin 768), j = ix2 r q := ⟨j 0, j 1, eq_ix2 j⟩
  refine (outs_apply m hO c t r q p hp).trans ?_
  show _ = total m c p ((((cfgM m hO).win 4).blk t).view.emb (ix2 r q))
  rw [row_val m hO t r q h hh]
  show _ = ShardSum.slab (csum m c) (got m c) p ⟨(h.val * 512 + r.val) % 512, _⟩ q
  congr 1
  exact Fin.ext (by show r.val = (h.val * 512 + r.val) % 512; omega)

theorem flush_last : ((cfgM m hO).win 4).flush t = true := by
  have e : t.val + 1 = grid0.N := by have := t.isLt; have : grid0.N = 1 := rfl; have : t.val < grid0.N := t.isLt; omega
  show (true && (decide (t.val + 1 = grid0.N) || _)) = true
  rw [decide_eq_true e]; rfl

/-- The one point of the grid. -/
abbrev point : Fin (cfgM m hO).N := ⟨0, (by decide : 0 < grid0.N)⟩

/-- The result after the run, in the half that the table names. -/
theorem final (p : Fin 4) (hp : (table m (ix1 0)).toNat = p.val) (h : Fin 2) (hh : (table m (ix1 1)).toNat = h.val)
    (i : S1024x768.Idx) (hi : (i 0).val / 512 = h.val) : (dats m hO 0 c).arrAt 4 (cfgM m hO).N i = total m c p i := by
  have e : ((((cfgM m hO).win 4).blk (point m hO)).view.emb (ix2 ⟨(i 0).val % 512, Nat.mod_lt _ (by decide)⟩ (i 1)) : S1024x768.Idx) = i := by
    refine (row_val m hO (point m hO) ⟨(i 0).val % 512, Nat.mod_lt _ (by decide)⟩ (i 1) h hh).trans ?_
    refine (congrArg (fun n => ix2 n (i 1)) (Fin.ext ?_)).trans (eq_ix2 i).symm
    show h.val * 512 + (i 0).val % 512 = (i 0).val
    omega
  refine (dats m hO 0 c).arrAt_apply_of_mem 4 (total m c p) (fun t _ => flushed_eq m hO c t p hp h hh) _ (point m hO) i (point m hO).isLt (flush_last m hO (point m hO)) ?_
  have := (((cfgM m hO).win 4).blk (point m hO)).view.emb_mem_set (ix2 ⟨(i 0).val % 512, Nat.mod_lt _ (by decide)⟩ (i 1))
  rwa [e] at this

/-- The kernel's result, with the arguments kept. -/
theorem run (hO : Ok m) (ρ : Dev nD → PrngReg) : θ_run defs (onTc (τ := τ) (main (F := Ideal))) ⟨m, fun _ => 0, ρ⟩ (fun r => ∀ c : Dev nD,
      r.2.mem ((c.tc : Thread nD τ).loc main_v0) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).1 4, h.2 c⟩) (θ_run_and (run_main m ρ hO) (unchanged m ρ hO))

end

theorem frame_bits : Cert.quiescent_ShardIn := fun m ρ h => Cert.ShardIn.Gen.frame m ρ (ok (F := Bits) m (bounds _ _ _ (h 0)))
theorem frame_ideal : Cert.quiescent_ShardInIdeal := fun m ρ h => Cert.ShardInIdeal.Gen.frame m ρ (ok m (bounds _ _ _ (h 0)))
theorem ref_frame : Cert.quiescent_ShardInRefIdeal := fun m ρ _ =>
  (θ_run Cert.ShardInRefIdeal.defs _ _).mono (fun r h => ⟨fun c => (h c).2, sem_eq_zero_of_no_sems rfl _⟩)
    (Cert.ShardInRefIdeal.Value.run (F := Ideal) m ρ)

theorem ref_frame_placed : Cert.quiescent_ShardInRefIdeal_pre_placed_in := fun m ρ _ => ref_frame m ρ trivial

open Cert.ShardInIdeal Cert.ShardInIdeal.Gen in
/-- On the rows of the core's half, the kernel and the reference leave the same sums. -/
theorem algebraic : Cert.algebraic_ShardInIdeal_ShardInRefIdeal_on_own_half_in := by
  intro m ρ m' ρ' hpre hagree
  obtain ⟨h0, h1⟩ : (table m (ix1 0)).toNat < 4 ∧ (table m (ix1 1)).toNat < 2 := bounds _ _ _ (hpre 0)
  refine ⟨fun c => total m c ⟨_, h0⟩, ?_, ?_⟩
  · refine (θ_run defs _ _).mono (fun _ h c => ⟨fun i hi => ?_, (h c).2⟩) (run m (ok m ⟨h0, h1⟩) ρ)
    obtain rfl : c = 0 := Subsingleton.elim _ _
    exact (congrFun (h 0).1 i).trans (final m (ok m ⟨h0, h1⟩) 0 ⟨_, h0⟩ rfl ⟨_, h1⟩ rfl i (mask_row _ _ _ i hi))
  · refine (θ_run Cert.ShardInRefIdeal.defs _ _).mono (fun _ h c => ⟨fun i _ => (congrFun (h c).1 i).trans ?_, (h c).2⟩)
      (Cert.ShardInRefIdeal.Value.run (F := Ideal) m' ρ')
    obtain rfl : c = 0 := Subsingleton.elim _ _
    rw [(hagree 0).1, (hagree 0).2.1, (hagree 0).2.2]
    refine (halves_apply _ _ _ i).trans ?_
    refine ShardSum.host_apply _ _ (table m (ix1 0)) ⟨_, h0⟩ rfl _ _ _ _ _ _ _ _ (funext fun j => ?_) _ _
    pointwise

end Cert.ShardInValue

end
-- ==== Proof.ShardOut.lean ====
/-
  The claims of `shard_sum` at the (128, 1024) halves of the output projection's and the gate's weights: the frames, and the sum of the core's own slab and
  the three received ones against the reference at the extended reals, on the half of the rows that the core owns.
-/
module

public import proofs.«01_k».proof.Defs
public import proofs.«01_k».proof.Proof.ShardSum
public import proofs.«01_k».proof.Proof.Gen.ShardOut.Frame
public import proofs.«01_k».proof.Proof.Gen.ShardOutIdeal.Frame
public import proofs.«01_k».proof.Proof.Gen.ShardOutRefIdeal.Run
public import proofs.«01_k».proof.Proof.Gen.Pre_placed_out
public import proofs.«01_k».proof.Proof.Gen.On_own_half_out
public import Idealize.ShloMosaic.Lib.Quiescent
public import Idealize.ShloMosaic.Lib.Pointwise
public import Idealize.ShloMosaic.Lib.Pipeline.ValueKit

@[expose] public section

noncomputable section

namespace Cert.ShardOutValue

open Idealize.ShloMosaic Idealize.ShloMosaic.TcCoe Idealize.SL.Sem

/-- The precondition bounds the two numbers of the table. -/
theorem bounds {F : FTy → Type} [FloatOps F] (a0 : FVec F Cert.Pre_placed_out.S4x128x1024 .f32) (a1 : FVec F Cert.Pre_placed_out.S3x128x1024 .bf16) (t : IVec Cert.Pre_placed_out.S2 32)
    (h : Cert.Pre_placed_out.fn (F := F) a0 a1 t = fun _ => 1#1) : (t (ix1 0)).toNat < 4 ∧ (t (ix1 1)).toNat < 2 := by
  have h0 := congrFun h (ix1 0)
  have h1 := congrFun h (ix1 1)
  exact ⟨ShardSum.word_lt _ _ (by decide) h0, ShardSum.word_lt _ _ (by decide) h1⟩

/-- A row of the reference's result lies in one half or the other. -/
theorem halves_apply (hb : (⟨2, ![128, 1024]⟩ : Shape).BroadcastsInDim ⟨3, ![2, 128, 1024]⟩ ![1, 2]) (hs : (⟨3, ![2, 128, 1024]⟩ : Shape).ShapeCasts ⟨2, ![256, 1024]⟩)
    (x : FVec Ideal ⟨2, ![128, 1024]⟩ .f32) (i : (⟨2, ![256, 1024]⟩ : Shape).Idx) :
    shapeCast ⟨2, ![256, 1024]⟩ (broadcastInDim ⟨3, ![2, 128, 1024]⟩ ![1, 2] hb x) hs i = x (ix2 ⟨(i 0).val % 128, Nat.mod_lt _ (by decide)⟩ (i 1)) := by
  pointwise

/-- The rows that the mask names lie in the half that the table names. -/
theorem mask_row (a0 : FVec Ideal Cert.On_own_half_out.S4x128x1024 .f32) (a1 : FVec Ideal Cert.On_own_half_out.S3x128x1024 .bf16) (t : IVec Cert.On_own_half_out.S2 32) (i : (⟨2, ![256, 1024]⟩ : Shape).Idx)
    (h : Cert.On_own_half_out.fn (F := Ideal) a0 a1 t i = 1#1) : (i 0).val / 128 = (t (ix1 1)).toNat := by
  have e : Cert.On_own_half_out.fn (F := Ideal) a0 a1 t i = IntOp.cmpi .eq (BitVec.ofNat 32 ((i 0).val / 128)) (t (ix1 1)) := by
    pointwise [Cert.On_own_half_out.fn]
  rw [e] at h
  exact ShardSum.word_eq _ (by have : (i 0).val < 256 := (i 0).isLt; omega) _ h

section

open Cert.ShardOutIdeal Cert.ShardOutIdeal.Gen

variable {F : FTy → Type} [FloatOps F] (m : (ℓ : Loc nD τ sig) → Buf (Elt F) ℓ)

/-- The table as the program finds it. -/
abbrev table : IVec S2 32 := m (((0 : Dev nD).tc : Thread nD τ).loc main_arg2)

/-- The slab that the table places. -/
theorem index0 (i : grid0.Coords) (h n) :
    cc0_transform_0 h n (tbl m) i = ![(table m (ix1 0)).toNat, 0, 0] := by
  have hi : (i 0).val = 0 := Nat.lt_one_iff.mp (i 0).isLt
  have e : (tbl m).at 0 (Rect.unit (s := S2) ![0] S1.size h) n = table m (ix1 0) :=
    congrArg (table m) (funext fun a => Fin.ext (by match a with | ⟨0, _⟩ => rfl))
  unfold cc0_transform_0
  rw [e, hi]
  rfl

/-- The half that the table places. -/
theorem index4 (i : grid0.Coords) (h n) :
    cc0_transform_4 h n (tbl m) i = ![(table m (ix1 1)).toNat, 0] := by
  have hi : (i 0).val = 0 := Nat.lt_one_iff.mp (i 0).isLt
  have e : (tbl m).at 0 (Rect.unit (s := S2) ![1] S1.size h) n = table m (ix1 1) :=
    congrArg (table m) (funext fun a => Fin.ext (by match a with | ⟨0, _⟩ => rfl))
  unfold cc0_transform_4
  rw [e, hi]
  simp only [Scalar.muli, Scalar.addi, IntOp.muli, IntOp.addi, BitVec.mul_one, BitVec.add_zero]
  rfl

/-- So the blocks that the table places lie in their arrays. -/
theorem ok (h : (table m (ix1 0)).toNat < 4 ∧ (table m (ix1 1)).toNat < 2) : Ok m := by
  obtain ⟨h0, h1⟩ := h
  refine ⟨fun i => ⟨fun a => ?_, .inl rfl⟩, fun i => ⟨fun a => ?_, .inl rfl⟩⟩
  · rw [index0]
    match a with
    | ⟨0, _⟩ => show ((table m (ix1 0)).toNat + 1) * 1 ≤ 4; omega
    | ⟨1, _⟩ => exact Nat.le_refl _
    | ⟨2, _⟩ => exact Nat.le_refl _
  · rw [index4]
    match a with
    | ⟨0, _⟩ => show ((table m (ix1 1)).toNat + 1) * 128 ≤ 256; omega
    | ⟨1, _⟩ => exact Nat.le_refl _

end

section

open Cert.ShardOutIdeal Cert.ShardOutIdeal.Gen

variable (m : (ℓ : Loc nD τ sig) → Buf (Elt Ideal) ℓ)

theorem pay_apply (x0 : Vec Ideal S1x128x1024 .f32) (x1 x2 x3 : Vec Ideal S1x128x1024 .bf16) (r : Fin 128) (q : Fin 1024) :
    k0_pay1 x0 x1 x2 x3 (ix2 r q) = x0 (ix3 0 r q) + x1 (ix3 0 r q) + x2 (ix3 0 r q) + x3 (ix3 0 r q) := by
  pointwise [k0_pay1]

/-- What the body leaves in the block of the result. -/
theorem out_eq (c : Dev nD) (i : grid0.Coords) (b0 : Memref sig .tc .vmem S1x128x1024 .f32) (h0 : b0.IsWhole) (b1 : Memref sig .tc .vmem S1x128x1024 .bf16) (h1 : b1.IsWhole)
    (b2 : Memref sig .tc .vmem S1x128x1024 .bf16) (h2 : b2.IsWhole) (b3 : Memref sig .tc .vmem S1x128x1024 .bf16) (h3 : b3.IsWhole) (b4 : Memref sig .tc .vmem S128x1024 .f32) (h4 : b4.IsWhole)
    (x0 : Vec Ideal S1x128x1024 .f32) (x1 x2 x3 : Vec Ideal S1x128x1024 .bf16) (xt) :
    out0_A_4 c i b0 h0 b1 h1 b2 h2 b3 h3 b4 h4 x0 x1 x2 x3 xt = k0_pay1 x0 x1 x2 x3 := by
  unfold out0_A_4
  refine (View.read_writes_eq_canon _ _ _ (cover0_A_4 _ _ _ _ _ _ _ _ _ _ _ _ _ _ _ _ _)).trans ?_
  unfold kernelRun0_A
  dsimp only
  rw [View.canon_unit_zero ShardSum.hz2]
  simp only [View.readAt_eq_ld, Memref.IsWhole.read_unread]
  simp only [View.ld_unit_zero (S := S1x128x1024) ShardSum.hz3]

variable (hO : Ok m) (c : Dev nD) (t : Fin (cfgM m hO).N) (r : Fin 128) (q : Fin 1024)

abbrev csum : S4x128x1024.Idx → EReal := m ((c.tc : Thread nD τ).loc main_arg0)
abbrev got : S3x128x1024.Idx → EReal := m ((c.tc : Thread nD τ).loc main_arg1)

/-- The blocks that the body reads, at an element. -/
theorem blk0 (p : Fin 4) (hp : (table m (ix1 0)).toNat = p.val) : iblk m hO c 0 t (ix3 0 r q) = csum m c (ix3 p r q) := by
  have e := index0 m (grid0.coords t) inb_S2_S1_0 numel1_S1
  refine congrArg (csum m c) (funext fun a => Fin.ext ?_)
  match a with
  | ⟨0, _⟩ => show cc0_transform_0 inb_S2_S1_0 numel1_S1 (tbl m) (grid0.coords t) 0 * 1 + 1 * 0 = p.val; rw [e]; show (table m (ix1 0)).toNat * 1 + 1 * 0 = p.val; omega
  | ⟨1, _⟩ => show cc0_transform_0 inb_S2_S1_0 numel1_S1 (tbl m) (grid0.coords t) 1 * 128 + 1 * r.val = r.val; rw [e]; show 0 * 128 + 1 * r.val = r.val; omega
  | ⟨2, _⟩ => show cc0_transform_0 inb_S2_S1_0 numel1_S1 (tbl m) (grid0.coords t) 2 * 1024 + 1 * q.val = q.val; rw [e]; show 0 * 1024 + 1 * q.val = q.val; omega

theorem coords_val : (grid0.coords t 0).val = 0 := Nat.lt_one_iff.mp (grid0.coords t 0).isLt

/-- The rows of a received slab's block, from a point's number and the slab's. -/
theorem slab_row {s : Fin 3} {e : S3x128x1024.Idx} (h0 : (e 0).val = s.val) (h1 : (e 1).val = (BitVec.ofNat 32 (grid0.coords t 0).val).toNat * 128 + 1 * r.val)
    (h2 : (e 2).val = 0 * 1024 + 1 * q.val) : e = ix3 s r q := by
  have h := coords_val m hO t
  refine funext fun a => Fin.ext ?_
  match a with
  | ⟨0, _⟩ => exact h0
  | ⟨1, _⟩ => refine h1.trans ?_; rw [h]; show 0 * 128 + 1 * r.val = r.val; omega
  | ⟨2, _⟩ => refine h2.trans ?_; show 0 * 1024 + 1 * q.val = q.val; omega

theorem blk1 : iblk m hO c 1 t (ix3 0 r q) = got m c (ix3 0 r q) := congrArg (got m c) (slab_row m hO t r q rfl rfl rfl)
theorem blk2 : iblk m hO c 2 t (ix3 0 r q) = got m c (ix3 1 r q) := congrArg (got m c) (slab_row m hO t r q rfl rfl rfl)
theorem blk3 : iblk m hO c 3 t (ix3 0 r q) = got m c (ix3 2 r q) := congrArg (got m c) (slab_row m hO t r q rfl rfl rfl)

/-- So what the body leaves at an element is the sum of the slabs. -/
theorem outs_apply (p : Fin 4) (hp : (table m (ix1 0)).toNat = p.val) : outsAt0 m hO c t (ix2 r q) = ShardSum.slab (csum m c) (got m c) p r q := by
  refine (congrFun (out_eq c _ _ _ _ _ _ _ _ _ _ _ _ _ _ _ _) (ix2 r q)).trans ?_
  refine (pay_apply _ _ _ _ r q).trans ?_
  rw [blk0 m hO c t r q p hp, blk1, blk2, blk3]
  exact ShardSum.added _ _ p r q

/-- The result's contents where the table places the block: the sums, whichever half a row lies in. -/
def total (p : Fin 4) : S256x1024.Idx → EReal := fun i => ShardSum.slab (csum m c) (got m c) p ⟨(i 0).val % 128, Nat.mod_lt _ (by decide)⟩ (i 1)

theorem row_val (h : Fin 2) (hh : (table m (ix1 1)).toNat = h.val) :
    ((((cfgM m hO).win 4).blk t).view.emb (ix2 r q) : S256x1024.Idx) = ix2 ⟨h.val * 128 + r.val, by omega⟩ q := by
  have e := index4 m (grid0.coords t) inb_S2_S1_1 numel1_S1
  funext a
  refine Fin.ext ?_
  match a with
  | ⟨0, _⟩ => show cc0_transform_4 inb_S2_S1_1 numel1_S1 (tbl m) (grid0.coords t) 0 * 128 + 1 * r.val = h.val * 128 + r.val; rw [e]; show (table m (ix1 1)).toNat * 128 + 1 * r.val = h.val * 128 + r.val; omega
  | ⟨1, _⟩ => show cc0_transform_4 inb_S2_S1_1 numel1_S1 (tbl m) (grid0.coords t) 1 * 1024 + 1 * q.val = q.val; rw [e]; show 0 * 1024 + 1 * q.val = q.val; omega

/-- What the one point writes back is its block of those contents. -/
theorem flushed_eq (p : Fin 4) (hp : (table m (ix1 0)).toNat = p.val) (h : Fin 2) (hh : (table m (ix1 1)).toNat = h.val) :
    (dats m hO 0 c).flushed 4 t = (((cfgM m hO).win 4).blk t).view.read (Elt Ideal) (total m c p) := by
  show ((cfgM m hO).win 4).cut (grid0.coords t) ((dats m hO 0 c).after 4 t) = _
  rw [after0_4]
  refine funext fun (j : S128x1024.Idx) => ?_
  obtain ⟨r, q, rfl⟩ : ∃ (r : Fin 128) (q : Fin 1024), j = ix2 r q := ⟨j 0, j 1, eq_ix2 j⟩
  refine (outs_apply m hO c t r q p hp).trans ?_
  show _ = total m c p ((((cfgM m hO).win 4).blk t).view.emb (ix2 r q))
  rw [row_val m hO t r q h hh]
  show _ = ShardSum.slab (csum m c) (got m c) p ⟨(h.val * 128 + r.val) % 128, _⟩ q
  congr 1
  exact Fin.ext (by show r.val = (h.val * 128 + r.val) % 128; omega)

theorem flush_last : ((cfgM m hO).win 4).flush t = true := by
  have e : t.val + 1 = grid0.N := by have := t.isLt; have : grid0.N = 1 := rfl; have : t.val < grid0.N := t.isLt; omega
  show (true && (decide (t.val + 1 = grid0.N) || _)) = true
  rw [decide_eq_true e]; rfl

/-- The one point of the grid. -/
abbrev point : Fin (cfgM m hO).N := ⟨0, (by decide : 0 < grid0.N)⟩

/-- The result after the run, in the half that the table names. -/
theorem final (p : Fin 4) (hp : (table m (ix1 0)).toNat = p.val) (h : Fin 2) (hh : (table m (ix1 1)).toNat = h.val)
    (i : S256x1024.Idx) (hi : (i 0).val / 128 = h.val) : (dats m hO 0 c).arrAt 4 (cfgM m hO).N i = total m c p i := by
  have e : ((((cfgM m hO).win 4).blk (point m hO)).view.emb (ix2 ⟨(i 0).val % 128, Nat.mod_lt _ (by decide)⟩ (i 1)) : S256x1024.Idx) = i := by
    refine (row_val m hO (point m hO) ⟨(i 0).val % 128, Nat.mod_lt _ (by decide)⟩ (i 1) h hh).trans ?_
    refine (congrArg (fun n => ix2 n (i 1)) (Fin.ext ?_)).trans (eq_ix2 i).symm
    show h.val * 128 + (i 0).val % 128 = (i 0).val
    omega
  refine (dats m hO 0 c).arrAt_apply_of_mem 4 (total m c p) (fun t _ => flushed_eq m hO c t p hp h hh) _ (point m hO) i (point m hO).isLt (flush_last m hO (point m hO)) ?_
  have := (((cfgM m hO).win 4).blk (point m hO)).view.emb_mem_set (ix2 ⟨(i 0).val % 128, Nat.mod_lt _ (by decide)⟩ (i 1))
  rwa [e] at this

/-- The kernel's result, with the arguments kept. -/
theorem run (hO : Ok m) (ρ : Dev nD → PrngReg) : θ_run defs (onTc (τ := τ) (main (F := Ideal))) ⟨m, fun _ => 0, ρ⟩ (fun r => ∀ c : Dev nD,
      r.2.mem ((c.tc : Thread nD τ).loc main_v0) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).1 4, h.2 c⟩) (θ_run_and (run_main m ρ hO) (unchanged m ρ hO))

end

theorem frame_bits : Cert.quiescent_ShardOut := fun m ρ h => Cert.ShardOut.Gen.frame m ρ (ok (F := Bits) m (bounds _ _ _ (h 0)))
theorem frame_ideal : Cert.quiescent_ShardOutIdeal := fun m ρ h => Cert.ShardOutIdeal.Gen.frame m ρ (ok m (bounds _ _ _ (h 0)))
theorem ref_frame : Cert.quiescent_ShardOutRefIdeal := fun m ρ _ =>
  (θ_run Cert.ShardOutRefIdeal.defs _ _).mono (fun r h => ⟨fun c => (h c).2, sem_eq_zero_of_no_sems rfl _⟩)
    (Cert.ShardOutRefIdeal.Value.run (F := Ideal) m ρ)

theorem ref_frame_placed : Cert.quiescent_ShardOutRefIdeal_pre_placed_out := fun m ρ _ => ref_frame m ρ trivial

open Cert.ShardOutIdeal Cert.ShardOutIdeal.Gen in
/-- On the rows of the core's half, the kernel and the reference leave the same sums. -/
theorem algebraic : Cert.algebraic_ShardOutIdeal_ShardOutRefIdeal_on_own_half_out := by
  intro m ρ m' ρ' hpre hagree
  obtain ⟨h0, h1⟩ : (table m (ix1 0)).toNat < 4 ∧ (table m (ix1 1)).toNat < 2 := bounds _ _ _ (hpre 0)
  refine ⟨fun c => total m c ⟨_, h0⟩, ?_, ?_⟩
  · refine (θ_run defs _ _).mono (fun _ h c => ⟨fun i hi => ?_, (h c).2⟩) (run m (ok m ⟨h0, h1⟩) ρ)
    obtain rfl : c = 0 := Subsingleton.elim _ _
    exact (congrFun (h 0).1 i).trans (final m (ok m ⟨h0, h1⟩) 0 ⟨_, h0⟩ rfl ⟨_, h1⟩ rfl i (mask_row _ _ _ i hi))
  · refine (θ_run Cert.ShardOutRefIdeal.defs _ _).mono (fun _ h c => ⟨fun i _ => (congrFun (h c).1 i).trans ?_, (h c).2⟩)
      (Cert.ShardOutRefIdeal.Value.run (F := Ideal) m' ρ')
    obtain rfl : c = 0 := Subsingleton.elim _ _
    rw [(hagree 0).1, (hagree 0).2.1, (hagree 0).2.2]
    refine (halves_apply _ _ _ i).trans ?_
    refine ShardSum.host_apply _ _ (table m (ix1 0)) ⟨_, h0⟩ rfl _ _ _ _ _ _ _ _ (funext fun j => ?_) _ _
    pointwise

end Cert.ShardOutValue

end
-- ==== Proof.ShardPle.lean ====
/-
  The claims of `shard_sum` at the (128, 256) halves of the embeddings' projection: the frames, and the sum of the core's own slab and
  the three received ones against the reference at the extended reals, on the half of the rows that the core owns.
-/
module

public import proofs.«01_k».proof.Defs
public import proofs.«01_k».proof.Proof.ShardSum
public import proofs.«01_k».proof.Proof.Gen.ShardPle.Frame
public import proofs.«01_k».proof.Proof.Gen.ShardPleIdeal.Frame
public import proofs.«01_k».proof.Proof.Gen.ShardPleRefIdeal.Run
public import proofs.«01_k».proof.Proof.Gen.Pre_placed_ple
public import proofs.«01_k».proof.Proof.Gen.On_own_half_ple
public import Idealize.ShloMosaic.Lib.Quiescent
public import Idealize.ShloMosaic.Lib.Pointwise
public import Idealize.ShloMosaic.Lib.Pipeline.ValueKit

@[expose] public section

noncomputable section

namespace Cert.ShardPleValue

open Idealize.ShloMosaic Idealize.ShloMosaic.TcCoe Idealize.SL.Sem

/-- The precondition bounds the two numbers of the table. -/
theorem bounds {F : FTy → Type} [FloatOps F] (a0 : FVec F Cert.Pre_placed_ple.S4x128x256 .f32) (a1 : FVec F Cert.Pre_placed_ple.S3x128x256 .bf16) (t : IVec Cert.Pre_placed_ple.S2 32)
    (h : Cert.Pre_placed_ple.fn (F := F) a0 a1 t = fun _ => 1#1) : (t (ix1 0)).toNat < 4 ∧ (t (ix1 1)).toNat < 2 := by
  have h0 := congrFun h (ix1 0)
  have h1 := congrFun h (ix1 1)
  exact ⟨ShardSum.word_lt _ _ (by decide) h0, ShardSum.word_lt _ _ (by decide) h1⟩

/-- A row of the reference's result lies in one half or the other. -/
theorem halves_apply (hb : (⟨2, ![128, 256]⟩ : Shape).BroadcastsInDim ⟨3, ![2, 128, 256]⟩ ![1, 2]) (hs : (⟨3, ![2, 128, 256]⟩ : Shape).ShapeCasts ⟨2, ![256, 256]⟩)
    (x : FVec Ideal ⟨2, ![128, 256]⟩ .f32) (i : (⟨2, ![256, 256]⟩ : Shape).Idx) :
    shapeCast ⟨2, ![256, 256]⟩ (broadcastInDim ⟨3, ![2, 128, 256]⟩ ![1, 2] hb x) hs i = x (ix2 ⟨(i 0).val % 128, Nat.mod_lt _ (by decide)⟩ (i 1)) := by
  pointwise

/-- The rows that the mask names lie in the half that the table names. -/
theorem mask_row (a0 : FVec Ideal Cert.On_own_half_ple.S4x128x256 .f32) (a1 : FVec Ideal Cert.On_own_half_ple.S3x128x256 .bf16) (t : IVec Cert.On_own_half_ple.S2 32) (i : (⟨2, ![256, 256]⟩ : Shape).Idx)
    (h : Cert.On_own_half_ple.fn (F := Ideal) a0 a1 t i = 1#1) : (i 0).val / 128 = (t (ix1 1)).toNat := by
  have e : Cert.On_own_half_ple.fn (F := Ideal) a0 a1 t i = IntOp.cmpi .eq (BitVec.ofNat 32 ((i 0).val / 128)) (t (ix1 1)) := by
    pointwise [Cert.On_own_half_ple.fn]
  rw [e] at h
  exact ShardSum.word_eq _ (by have : (i 0).val < 256 := (i 0).isLt; omega) _ h

section

open Cert.ShardPleIdeal Cert.ShardPleIdeal.Gen

variable {F : FTy → Type} [FloatOps F] (m : (ℓ : Loc nD τ sig) → Buf (Elt F) ℓ)

/-- The table as the program finds it. -/
abbrev table : IVec S2 32 := m (((0 : Dev nD).tc : Thread nD τ).loc main_arg2)

/-- The slab that the table places. -/
theorem index0 (i : grid0.Coords) (h n) :
    cc0_transform_0 h n (tbl m) i = ![(table m (ix1 0)).toNat, 0, 0] := by
  have hi : (i 0).val = 0 := Nat.lt_one_iff.mp (i 0).isLt
  have e : (tbl m).at 0 (Rect.unit (s := S2) ![0] S1.size h) n = table m (ix1 0) :=
    congrArg (table m) (funext fun a => Fin.ext (by match a with | ⟨0, _⟩ => rfl))
  unfold cc0_transform_0
  rw [e, hi]
  rfl

/-- The half that the table places. -/
theorem index4 (i : grid0.Coords) (h n) :
    cc0_transform_4 h n (tbl m) i = ![(table m (ix1 1)).toNat, 0] := by
  have hi : (i 0).val = 0 := Nat.lt_one_iff.mp (i 0).isLt
  have e : (tbl m).at 0 (Rect.unit (s := S2) ![1] S1.size h) n = table m (ix1 1) :=
    congrArg (table m) (funext fun a => Fin.ext (by match a with | ⟨0, _⟩ => rfl))
  unfold cc0_transform_4
  rw [e, hi]
  simp only [Scalar.muli, Scalar.addi, IntOp.muli, IntOp.addi, BitVec.mul_one, BitVec.add_zero]
  rfl

/-- So the blocks that the table places lie in their arrays. -/
theorem ok (h : (table m (ix1 0)).toNat < 4 ∧ (table m (ix1 1)).toNat < 2) : Ok m := by
  obtain ⟨h0, h1⟩ := h
  refine ⟨fun i => ⟨fun a => ?_, .inl rfl⟩, fun i => ⟨fun a => ?_, .inl rfl⟩⟩
  · rw [index0]
    match a with
    | ⟨0, _⟩ => show ((table m (ix1 0)).toNat + 1) * 1 ≤ 4; omega
    | ⟨1, _⟩ => exact Nat.le_refl _
    | ⟨2, _⟩ => exact Nat.le_refl _
  · rw [index4]
    match a with
    | ⟨0, _⟩ => show ((table m (ix1 1)).toNat + 1) * 128 ≤ 256; omega
    | ⟨1, _⟩ => exact Nat.le_refl _

end

section

open Cert.ShardPleIdeal Cert.ShardPleIdeal.Gen

variable (m : (ℓ : Loc nD τ sig) → Buf (Elt Ideal) ℓ)

theorem pay_apply (x0 : Vec Ideal S1x128x256 .f32) (x1 x2 x3 : Vec Ideal S1x128x256 .bf16) (r : Fin 128) (q : Fin 256) :
    k0_pay1 x0 x1 x2 x3 (ix2 r q) = x0 (ix3 0 r q) + x1 (ix3 0 r q) + x2 (ix3 0 r q) + x3 (ix3 0 r q) := by
  pointwise [k0_pay1]

/-- What the body leaves in the block of the result. -/
theorem out_eq (c : Dev nD) (i : grid0.Coords) (b0 : Memref sig .tc .vmem S1x128x256 .f32) (h0 : b0.IsWhole) (b1 : Memref sig .tc .vmem S1x128x256 .bf16) (h1 : b1.IsWhole)
    (b2 : Memref sig .tc .vmem S1x128x256 .bf16) (h2 : b2.IsWhole) (b3 : Memref sig .tc .vmem S1x128x256 .bf16) (h3 : b3.IsWhole) (b4 : Memref sig .tc .vmem S128x256 .f32) (h4 : b4.IsWhole)
    (x0 : Vec Ideal S1x128x256 .f32) (x1 x2 x3 : Vec Ideal S1x128x256 .bf16) (xt) :
    out0_A_4 c i b0 h0 b1 h1 b2 h2 b3 h3 b4 h4 x0 x1 x2 x3 xt = k0_pay1 x0 x1 x2 x3 := by
  unfold out0_A_4
  refine (View.read_writes_eq_canon _ _ _ (cover0_A_4 _ _ _ _ _ _ _ _ _ _ _ _ _ _ _ _ _)).trans ?_
  unfold kernelRun0_A
  dsimp only
  rw [View.canon_unit_zero ShardSum.hz2]
  simp only [View.readAt_eq_ld, Memref.IsWhole.read_unread]
  simp only [View.ld_unit_zero (S := S1x128x256) ShardSum.hz3]

variable (hO : Ok m) (c : Dev nD) (t : Fin (cfgM m hO).N) (r : Fin 128) (q : Fin 256)

abbrev csum : S4x128x256.Idx → EReal := m ((c.tc : Thread nD τ).loc main_arg0)
abbrev got : S3x128x256.Idx → EReal := m ((c.tc : Thread nD τ).loc main_arg1)

/-- The blocks that the body reads, at an element. -/
theorem blk0 (p : Fin 4) (hp : (table m (ix1 0)).toNat = p.val) : iblk m hO c 0 t (ix3 0 r q) = csum m c (ix3 p r q) := by
  have e := index0 m (grid0.coords t) inb_S2_S1_0 numel1_S1
  refine congrArg (csum m c) (funext fun a => Fin.ext ?_)
  match a with
  | ⟨0, _⟩ => show cc0_transform_0 inb_S2_S1_0 numel1_S1 (tbl m) (grid0.coords t) 0 * 1 + 1 * 0 = p.val; rw [e]; show (table m (ix1 0)).toNat * 1 + 1 * 0 = p.val; omega
  | ⟨1, _⟩ => show cc0_transform_0 inb_S2_S1_0 numel1_S1 (tbl m) (grid0.coords t) 1 * 128 + 1 * r.val = r.val; rw [e]; show 0 * 128 + 1 * r.val = r.val; omega
  | ⟨2, _⟩ => show cc0_transform_0 inb_S2_S1_0 numel1_S1 (tbl m) (grid0.coords t) 2 * 256 + 1 * q.val = q.val; rw [e]; show 0 * 256 + 1 * q.val = q.val; omega

theorem coords_val : (grid0.coords t 0).val = 0 := Nat.lt_one_iff.mp (grid0.coords t 0).isLt

/-- The rows of a received slab's block, from a point's number and the slab's. -/
theorem slab_row {s : Fin 3} {e : S3x128x256.Idx} (h0 : (e 0).val = s.val) (h1 : (e 1).val = (BitVec.ofNat 32 (grid0.coords t 0).val).toNat * 128 + 1 * r.val)
    (h2 : (e 2).val = 0 * 256 + 1 * q.val) : e = ix3 s r q := by
  have h := coords_val m hO t
  refine funext fun a => Fin.ext ?_
  match a with
  | ⟨0, _⟩ => exact h0
  | ⟨1, _⟩ => refine h1.trans ?_; rw [h]; show 0 * 128 + 1 * r.val = r.val; omega
  | ⟨2, _⟩ => refine h2.trans ?_; show 0 * 256 + 1 * q.val = q.val; omega

theorem blk1 : iblk m hO c 1 t (ix3 0 r q) = got m c (ix3 0 r q) := congrArg (got m c) (slab_row m hO t r q rfl rfl rfl)
theorem blk2 : iblk m hO c 2 t (ix3 0 r q) = got m c (ix3 1 r q) := congrArg (got m c) (slab_row m hO t r q rfl rfl rfl)
theorem blk3 : iblk m hO c 3 t (ix3 0 r q) = got m c (ix3 2 r q) := congrArg (got m c) (slab_row m hO t r q rfl rfl rfl)

/-- So what the body leaves at an element is the sum of the slabs. -/
theorem outs_apply (p : Fin 4) (hp : (table m (ix1 0)).toNat = p.val) : outsAt0 m hO c t (ix2 r q) = ShardSum.slab (csum m c) (got m c) p r q := by
  refine (congrFun (out_eq c _ _ _ _ _ _ _ _ _ _ _ _ _ _ _ _) (ix2 r q)).trans ?_
  refine (pay_apply _ _ _ _ r q).trans ?_
  rw [blk0 m hO c t r q p hp, blk1, blk2, blk3]
  exact ShardSum.added _ _ p r q

/-- The result's contents where the table places the block: the sums, whichever half a row lies in. -/
def total (p : Fin 4) : S256x256.Idx → EReal := fun i => ShardSum.slab (csum m c) (got m c) p ⟨(i 0).val % 128, Nat.mod_lt _ (by decide)⟩ (i 1)

theorem row_val (h : Fin 2) (hh : (table m (ix1 1)).toNat = h.val) :
    ((((cfgM m hO).win 4).blk t).view.emb (ix2 r q) : S256x256.Idx) = ix2 ⟨h.val * 128 + r.val, by omega⟩ q := by
  have e := index4 m (grid0.coords t) inb_S2_S1_1 numel1_S1
  funext a
  refine Fin.ext ?_
  match a with
  | ⟨0, _⟩ => show cc0_transform_4 inb_S2_S1_1 numel1_S1 (tbl m) (grid0.coords t) 0 * 128 + 1 * r.val = h.val * 128 + r.val; rw [e]; show (table m (ix1 1)).toNat * 128 + 1 * r.val = h.val * 128 + r.val; omega
  | ⟨1, _⟩ => show cc0_transform_4 inb_S2_S1_1 numel1_S1 (tbl m) (grid0.coords t) 1 * 256 + 1 * q.val = q.val; rw [e]; show 0 * 256 + 1 * q.val = q.val; omega

/-- What the one point writes back is its block of those contents. -/
theorem flushed_eq (p : Fin 4) (hp : (table m (ix1 0)).toNat = p.val) (h : Fin 2) (hh : (table m (ix1 1)).toNat = h.val) :
    (dats m hO 0 c).flushed 4 t = (((cfgM m hO).win 4).blk t).view.read (Elt Ideal) (total m c p) := by
  show ((cfgM m hO).win 4).cut (grid0.coords t) ((dats m hO 0 c).after 4 t) = _
  rw [after0_4]
  refine funext fun (j : S128x256.Idx) => ?_
  obtain ⟨r, q, rfl⟩ : ∃ (r : Fin 128) (q : Fin 256), j = ix2 r q := ⟨j 0, j 1, eq_ix2 j⟩
  refine (outs_apply m hO c t r q p hp).trans ?_
  show _ = total m c p ((((cfgM m hO).win 4).blk t).view.emb (ix2 r q))
  rw [row_val m hO t r q h hh]
  show _ = ShardSum.slab (csum m c) (got m c) p ⟨(h.val * 128 + r.val) % 128, _⟩ q
  congr 1
  exact Fin.ext (by show r.val = (h.val * 128 + r.val) % 128; omega)

theorem flush_last : ((cfgM m hO).win 4).flush t = true := by
  have e : t.val + 1 = grid0.N := by have := t.isLt; have : grid0.N = 1 := rfl; have : t.val < grid0.N := t.isLt; omega
  show (true && (decide (t.val + 1 = grid0.N) || _)) = true
  rw [decide_eq_true e]; rfl

/-- The one point of the grid. -/
abbrev point : Fin (cfgM m hO).N := ⟨0, (by decide : 0 < grid0.N)⟩

/-- The result after the run, in the half that the table names. -/
theorem final (p : Fin 4) (hp : (table m (ix1 0)).toNat = p.val) (h : Fin 2) (hh : (table m (ix1 1)).toNat = h.val)
    (i : S256x256.Idx) (hi : (i 0).val / 128 = h.val) : (dats m hO 0 c).arrAt 4 (cfgM m hO).N i = total m c p i := by
  have e : ((((cfgM m hO).win 4).blk (point m hO)).view.emb (ix2 ⟨(i 0).val % 128, Nat.mod_lt _ (by decide)⟩ (i 1)) : S256x256.Idx) = i := by
    refine (row_val m hO (point m hO) ⟨(i 0).val % 128, Nat.mod_lt _ (by decide)⟩ (i 1) h hh).trans ?_
    refine (congrArg (fun n => ix2 n (i 1)) (Fin.ext ?_)).trans (eq_ix2 i).symm
    show h.val * 128 + (i 0).val % 128 = (i 0).val
    omega
  refine (dats m hO 0 c).arrAt_apply_of_mem 4 (total m c p) (fun t _ => flushed_eq m hO c t p hp h hh) _ (point m hO) i (point m hO).isLt (flush_last m hO (point m hO)) ?_
  have := (((cfgM m hO).win 4).blk (point m hO)).view.emb_mem_set (ix2 ⟨(i 0).val % 128, Nat.mod_lt _ (by decide)⟩ (i 1))
  rwa [e] at this

/-- The kernel's result, with the arguments kept. -/
theorem run (hO : Ok m) (ρ : Dev nD → PrngReg) : θ_run defs (onTc (τ := τ) (main (F := Ideal))) ⟨m, fun _ => 0, ρ⟩ (fun r => ∀ c : Dev nD,
      r.2.mem ((c.tc : Thread nD τ).loc main_v0) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).1 4, h.2 c⟩) (θ_run_and (run_main m ρ hO) (unchanged m ρ hO))

end

theorem frame_bits : Cert.quiescent_ShardPle := fun m ρ h => Cert.ShardPle.Gen.frame m ρ (ok (F := Bits) m (bounds _ _ _ (h 0)))
theorem frame_ideal : Cert.quiescent_ShardPleIdeal := fun m ρ h => Cert.ShardPleIdeal.Gen.frame m ρ (ok m (bounds _ _ _ (h 0)))
theorem ref_frame : Cert.quiescent_ShardPleRefIdeal := fun m ρ _ =>
  (θ_run Cert.ShardPleRefIdeal.defs _ _).mono (fun r h => ⟨fun c => (h c).2, sem_eq_zero_of_no_sems rfl _⟩)
    (Cert.ShardPleRefIdeal.Value.run (F := Ideal) m ρ)

theorem ref_frame_placed : Cert.quiescent_ShardPleRefIdeal_pre_placed_ple := fun m ρ _ => ref_frame m ρ trivial

open Cert.ShardPleIdeal Cert.ShardPleIdeal.Gen in
/-- On the rows of the core's half, the kernel and the reference leave the same sums. -/
theorem algebraic : Cert.algebraic_ShardPleIdeal_ShardPleRefIdeal_on_own_half_ple := by
  intro m ρ m' ρ' hpre hagree
  obtain ⟨h0, h1⟩ : (table m (ix1 0)).toNat < 4 ∧ (table m (ix1 1)).toNat < 2 := bounds _ _ _ (hpre 0)
  refine ⟨fun c => total m c ⟨_, h0⟩, ?_, ?_⟩
  · refine (θ_run defs _ _).mono (fun _ h c => ⟨fun i hi => ?_, (h c).2⟩) (run m (ok m ⟨h0, h1⟩) ρ)
    obtain rfl : c = 0 := Subsingleton.elim _ _
    exact (congrFun (h 0).1 i).trans (final m (ok m ⟨h0, h1⟩) 0 ⟨_, h0⟩ rfl ⟨_, h1⟩ rfl i (mask_row _ _ _ i hi))
  · refine (θ_run Cert.ShardPleRefIdeal.defs _ _).mono (fun _ h c => ⟨fun i _ => (congrFun (h c).1 i).trans ?_, (h c).2⟩)
      (Cert.ShardPleRefIdeal.Value.run (F := Ideal) m' ρ')
    obtain rfl : c = 0 := Subsingleton.elim _ _
    rw [(hagree 0).1, (hagree 0).2.1, (hagree 0).2.2]
    refine (halves_apply _ _ _ i).trans ?_
    refine ShardSum.host_apply _ _ (table m (ix1 0)) ⟨_, h0⟩ rfl _ _ _ _ _ _ _ _ (funext fun j => ?_) _ _
    pointwise

end Cert.ShardPleValue

end
-- ==== Proof.PleLoss.lean ====
/-
  The call `ple_loss` on one device, at the extended reals: the row functions it computes (the gated per-layer input, the
  error, the gradients), one tile of its body as those functions, and its six results as functions of the six arguments.
-/
module

public import proofs.«01_k».proof.Defs
public import proofs.«01_k».proof.Proof.NormBwd
public import proofs.«01_k».proof.Proof.Gen.PleLoss.Frame
public import proofs.«01_k».proof.Proof.Gen.PleLossIdeal.Value
public import proofs.«01_k».proof.Proof.Gen.PleLossRefIdeal.Run
public import Idealize.ShloMosaic.Lib.Quiescent
public import Idealize.ShloMosaic.Lib.Pointwise
public import Idealize.ShloMosaic.Lib.Pipeline.ValueKit

@[expose] public section

set_option maxRecDepth 16384

noncomputable section

namespace Cert.PleLossValue

open Idealize.ShloMosaic Idealize.ShloMosaic.TcCoe Idealize.SL.Sem
open Cert.PleLossIdeal Cert.PleLossIdeal.Gen
open Idealize.ShloMosaic.Pipeline (Dat Cfg Window)

variable (m : (ℓ : Loc nD τ sig) → Buf (Elt Ideal) ℓ)

/-! ## One row -/

/-- The normalized, scaled row. -/
def hrow (x g : Fin 1024 → EReal) (q : Fin 1024) : EReal := x q * NormBwd.inv x * g q

/-- The row's gate. -/
def gate (x g : Fin 1024 → EReal) (W : Fin 1024 → Fin 1024 → EReal) (q : Fin 1024) : EReal :=
  Ideal.logistic (∑ k, hrow x g k * W k q)

/-- The row's projected per-layer input, whose weights lie in four slabs of columns. -/
def proj (p : Fin 256 → EReal) (V : Fin 4 → Fin 256 → Fin 256 → EReal) (q : Fin 1024) : EReal :=
  ∑ k, p k * V ⟨q.val / 256, by omega⟩ k ⟨q.val % 256, by omega⟩

/-- The row's error against its target. -/
def err (x g : Fin 1024 → EReal) (p : Fin 256 → EReal) (t : Fin 1024 → EReal) (W : Fin 1024 → Fin 1024 → EReal)
    (V : Fin 4 → Fin 256 → Fin 256 → EReal) (q : Fin 1024) : EReal :=
  x q + gate x g W q * proj p V q - t q

/-- The gradient at the row's result. -/
def dy (x g : Fin 1024 → EReal) (p : Fin 256 → EReal) (t : Fin 1024 → EReal) (W : Fin 1024 → Fin 1024 → EReal)
    (V : Fin 4 → Fin 256 → Fin 256 → EReal) (q : Fin 1024) : EReal :=
  err x g p t W V q * Ideal.ofBits .f32 0x3A800000#32

/-- The gradient at the gate's argument. -/
def du (x g : Fin 1024 → EReal) (p : Fin 256 → EReal) (t : Fin 1024 → EReal) (W : Fin 1024 → Fin 1024 → EReal)
    (V : Fin 4 → Fin 256 → Fin 256 → EReal) (q : Fin 1024) : EReal :=
  dy x g p t W V q * proj p V q * (gate x g W q * (Ideal.ofBits .f32 0x3F800000#32 - gate x g W q))

/-- The gradient at the scaled row. -/
def dh (x g : Fin 1024 → EReal) (p : Fin 256 → EReal) (t : Fin 1024 → EReal) (W : Fin 1024 → Fin 1024 → EReal)
    (V : Fin 4 → Fin 256 → Fin 256 → EReal) (q : Fin 1024) : EReal :=
  ∑ k, du x g p t W V k * W q k

/-! ## One tile -/

/-- The four slabs of the per-layer weights, as the body loads them. -/
abbrev slab0 (V : Vec Ideal S4x256x256 .bf16) : Vec Ideal S1x256x256 .bf16 := View.ld V (Rect.unit ![0, 0, 0] ![1, 256, 256] inb_S4x256x256_S1x256x256_0_0_0)
abbrev slab1 (V : Vec Ideal S4x256x256 .bf16) : Vec Ideal S1x256x256 .bf16 := View.ld V (Rect.unit ![1, 0, 0] ![1, 256, 256] inb_S4x256x256_S1x256x256_1_0_0)
abbrev slab2 (V : Vec Ideal S4x256x256 .bf16) : Vec Ideal S1x256x256 .bf16 := View.ld V (Rect.unit ![2, 0, 0] ![1, 256, 256] inb_S4x256x256_S1x256x256_2_0_0)
abbrev slab3 (V : Vec Ideal S4x256x256 .bf16) : Vec Ideal S1x256x256 .bf16 := View.ld V (Rect.unit ![3, 0, 0] ![1, 256, 256] inb_S4x256x256_S1x256x256_3_0_0)

section
variable (X : Vec Ideal S512x1024 .f32) (P : Vec Ideal S512x256 .f32) (T : Vec Ideal S512x1024 .f32)
  (G : Vec Ideal S1x1024 .f32) (W : Vec Ideal S1024x1024 .bf16) (V : Vec Ideal S4x256x256 .bf16)

/-- What one point computes from its blocks: its tile of the gradients, and the two running sums it adds to. -/
def tDu : FVec Ideal S512x1024 .bf16 := k0_pay17 X (k0_pay9 X G W) (k0_pay10 P) (k0_pay11 P (slab0 V)) (k0_pay12 P (slab1 V)) (slab2 V) (slab3 V) T
def tDpp : FVec Ideal S512x1024 .bf16 := k0_pay18 X (k0_pay9 X G W) (k0_pay10 P) (k0_pay11 P (slab0 V)) (k0_pay12 P (slab1 V)) (slab2 V) (slab3 V) T
def tDx : FVec Ideal S512x1024 .f32 :=
  k0_pay2 G (k0_pay6 X) (k0_pay7 X) (k0_pay16 X (k0_pay9 X G W) (k0_pay10 P) (k0_pay11 P (slab0 V)) (k0_pay12 P (slab1 V)) (slab2 V) (slab3 V) T)
    (tDu X P T G W V) W (constant S512x1024 .f32 0#32)
def tLoss (L : FVec Ideal S8x128 .f32) : FVec Ideal S8x128 .f32 :=
  k0_pay15 X (k0_pay9 X G W) (k0_pay10 P) (k0_pay11 P (slab0 V)) (k0_pay12 P (slab1 V)) (slab2 V) (slab3 V) T L
def tGain (D : FVec Ideal S8x1024 .f32) : FVec Ideal S8x1024 .f32 :=
  k0_pay3 (k0_pay7 X) (tDu X P T G W V) W (constant S512x1024 .f32 0#32) D

theorem pay6_apply (r : Fin 512) : k0_pay6 X (ix2 r 0) = NormBwd.inv (fun k => X (ix2 r k)) := by
  pointwise [k0_pay6, NormBwd.inv]

theorem pay7_apply (r : Fin 512) (q : Fin 1024) : k0_pay7 X (ix2 r q) = X (ix2 r q) * NormBwd.inv (fun k => X (ix2 r k)) := by
  pointwise [k0_pay7, pay6_apply]

theorem pay8_apply (r : Fin 512) (q : Fin 1024) : k0_pay8 X G (ix2 r q) = hrow (fun k => X (ix2 r k)) (fun k => G (ix2 0 k)) q := by
  pointwise [k0_pay8, pay7_apply, hrow]

theorem pay9_apply (r : Fin 512) (q : Fin 1024) :
    k0_pay9 X G W (ix2 r q) = gate (fun k => X (ix2 r k)) (fun k => G (ix2 0 k)) (fun k q => W (ix2 k q)) q := by
  pointwise [k0_pay9, gate, pay8_apply]

theorem slab0_apply (k q : Fin 256) : slab0 V (ix3 0 k q) = V (ix3 0 k q) := by
  pointwise [slab0]
theorem slab1_apply (k q : Fin 256) : slab1 V (ix3 0 k q) = V (ix3 1 k q) := by
  pointwise [slab1]
theorem slab2_apply (k q : Fin 256) : slab2 V (ix3 0 k q) = V (ix3 2 k q) := by
  pointwise [slab2]
theorem slab3_apply (k q : Fin 256) : slab3 V (ix3 0 k q) = V (ix3 3 k q) := by
  pointwise [slab3]

theorem proj_at (p : Fin 256 → EReal) (V : Fin 4 → Fin 256 → Fin 256 → EReal) (q : Fin 1024) (j : Fin 4) (k : Fin 256)
    (h : q.val = j.val * 256 + k.val) : proj p V q = ∑ x, p x * V j x k := by
  have e1 : (⟨q.val / 256, by omega⟩ : Fin 4) = j := Fin.ext (by show q.val / 256 = j.val; omega)
  have e2 : (⟨q.val % 256, by omega⟩ : Fin 256) = k := Fin.ext (by show q.val % 256 = k.val; omega)
  unfold proj
  rw [e1, e2]

theorem pay13_apply (r : Fin 512) (q : Fin 1024) :
    k0_pay13 (F := Ideal) (k0_pay10 P) (k0_pay11 P (slab0 V)) (k0_pay12 P (slab1 V)) (slab2 V) (slab3 V) (ix2 r q)
      = proj (fun k => P (ix2 r k)) (fun a k q => V (ix3 a k q)) q := by
  have hq := q.isLt
  pointwise [k0_pay13, k0_pay10, k0_pay11, k0_pay12]
  by_cases h0 : q.val < 256
  · rw [dif_pos h0, proj_at _ _ q 0 ⟨q.val, h0⟩ (by show q.val = 0 * 256 + q.val; omega)]
    exact Finset.sum_congr rfl fun x _ => congrArg _ (slab0_apply V x _)
  rw [dif_neg h0]
  by_cases h1 : q.val - 256 < 256
  · rw [dif_pos h1, proj_at _ _ q 1 ⟨q.val - 256, h1⟩ (by show q.val = 1 * 256 + (q.val - 256); omega)]
    exact Finset.sum_congr rfl fun x _ => congrArg _ (slab1_apply V x _)
  rw [dif_neg h1]
  by_cases h2 : q.val - 256 - 256 < 256
  · rw [dif_pos h2, proj_at _ _ q 2 ⟨q.val - 256 - 256, h2⟩ (by show q.val = 2 * 256 + (q.val - 256 - 256); omega)]
    exact Finset.sum_congr rfl fun x _ => congrArg _ (slab2_apply V x _)
  rw [dif_neg h2, proj_at _ _ q 3 ⟨q.val - 256 - 256 - 256, by omega⟩ (by show q.val = 3 * 256 + (q.val - 256 - 256 - 256); omega)]
  exact Finset.sum_congr rfl fun x _ => congrArg _ (slab3_apply V x _)

/-- The row's quantities at a row of the tile. -/
abbrev at_ (f : (Fin 1024 → EReal) → (Fin 1024 → EReal) → (Fin 256 → EReal) → (Fin 1024 → EReal) → (Fin 1024 → Fin 1024 → EReal) → (Fin 4 → Fin 256 → Fin 256 → EReal) → Fin 1024 → EReal)
    (r : Fin 512) : Fin 1024 → EReal :=
  f (fun k => X (ix2 r k)) (fun k => G (ix2 0 k)) (fun k => P (ix2 r k)) (fun k => T (ix2 r k)) (fun k q => W (ix2 k q)) (fun a k q => V (ix3 a k q))

theorem pay14_apply (r : Fin 512) (q : Fin 1024) :
    k0_pay14 X (k0_pay9 X G W) (k0_pay10 P) (k0_pay11 P (slab0 V)) (k0_pay12 P (slab1 V)) (slab2 V) (slab3 V) T (ix2 r q) = at_ X P T G W V err r q := by
  pointwise [k0_pay14, pay13_apply, pay9_apply, err]

theorem pay16_apply (r : Fin 512) (q : Fin 1024) :
    k0_pay16 X (k0_pay9 X G W) (k0_pay10 P) (k0_pay11 P (slab0 V)) (k0_pay12 P (slab1 V)) (slab2 V) (slab3 V) T (ix2 r q) = at_ X P T G W V dy r q := by
  pointwise [k0_pay16, pay14_apply, dy]

theorem tDu_apply (r : Fin 512) (q : Fin 1024) : tDu X P T G W V (ix2 r q) = at_ X P T G W V du r q := by
  pointwise [tDu, k0_pay17, pay16_apply, pay13_apply, pay9_apply, du]

theorem tDpp_apply (r : Fin 512) (q : Fin 1024) : tDpp X P T G W V (ix2 r q)
    = at_ X P T G W V dy r q * gate (fun k => X (ix2 r k)) (fun k => G (ix2 0 k)) (fun k q => W (ix2 k q)) q := by
  pointwise [tDpp, k0_pay18, pay16_apply, pay9_apply]

theorem pay1_apply (r : Fin 512) (q : Fin 1024) :
    k0_pay1 (tDu X P T G W V) W (constant S512x1024 .f32 0#32) (ix2 r q) = at_ X P T G W V dh r q := by
  pointwise [k0_pay1, tDu_apply, dh]

theorem tDx_apply (r : Fin 512) (q : Fin 1024) : tDx X P T G W V (ix2 r q)
    = NormBwd.dx (at_ X P T G W V dh r) (fun k => X (ix2 r k)) (fun k => G (ix2 0 k)) (at_ X P T G W V dy r q) q := by
  pointwise [tDx, k0_pay2, pay1_apply, pay16_apply, pay6_apply, pay7_apply, NormBwd.dx]

theorem tGain_apply (D : FVec Ideal S8x1024 .f32) (a : Fin 8) (q : Fin 1024) : tGain X P T G W V D (ix2 a q)
    = D (ix2 a q) + ∑ r : Fin 512, NormBwd.gain (at_ X P T G W V dh r) (fun k => X (ix2 r k)) q := by
  pointwise [tGain, k0_pay3, pay1_apply, pay7_apply, NormBwd.gain]

theorem tLoss_apply (L : FVec Ideal S8x128 .f32) (a : Fin 8) (b : Fin 128) : tLoss X P T G W V L (ix2 a b)
    = L (ix2 a b) + Ideal.ofBits .f32 0x3A000000#32 * ∑ r : Fin 512, ∑ q : Fin 1024, at_ X P T G W V err r q * at_ X P T G W V err r q := by
  pointwise [tLoss, k0_pay15, pay14_apply]

end

/-! ## What the points leave -/

section
variable (c : Dev nD) (t : Fin cfg0.N)

theorem out6 : (outsAt0 m c t.val t.isLt).1 = tDx (iblk m c 0 t) (iblk m c 1 t) (iblk m c 2 t) (iblk m c 3 t) (iblk m c 4 t) (iblk m c 5 t) := by
  by_cases h0 : t.val % 16 = 0
  · rw [outsAt0_A m c t h0]; frame_out; rfl
  · rw [outsAt0_B m c t h0]; frame_out; rfl
theorem out7 : (outsAt0 m c t.val t.isLt).2.1 = k0_pay8 (iblk m c 0 t) (iblk m c 3 t) := by
  by_cases h0 : t.val % 16 = 0
  · rw [outsAt0_A m c t h0]; frame_out
  · rw [outsAt0_B m c t h0]; frame_out
theorem out8 : (outsAt0 m c t.val t.isLt).2.2.1 = tDu (iblk m c 0 t) (iblk m c 1 t) (iblk m c 2 t) (iblk m c 3 t) (iblk m c 4 t) (iblk m c 5 t) := by
  by_cases h0 : t.val % 16 = 0
  · rw [outsAt0_A m c t h0]; frame_out; rfl
  · rw [outsAt0_B m c t h0]; frame_out; rfl
theorem out9 : (outsAt0 m c t.val t.isLt).2.2.2.1 = tDpp (iblk m c 0 t) (iblk m c 1 t) (iblk m c 2 t) (iblk m c 3 t) (iblk m c 4 t) (iblk m c 5 t) := by
  by_cases h0 : t.val % 16 = 0
  · rw [outsAt0_A m c t h0]; frame_out; rfl
  · rw [outsAt0_B m c t h0]; frame_out; rfl
theorem out10_A (h0 : t.val % 16 = 0) : (outsAt0 m c t.val t.isLt).2.2.2.2.1
    = tLoss (iblk m c 0 t) (iblk m c 1 t) (iblk m c 2 t) (iblk m c 3 t) (iblk m c 4 t) (iblk m c 5 t) k0_pay4 := by
  rw [outsAt0_A m c t h0]; frame_out; rfl
theorem out10_B (h0 : ¬ t.val % 16 = 0) : (outsAt0 m c t.val t.isLt).2.2.2.2.1
    = tLoss (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 := by
  rw [outsAt0_B m c t h0]; frame_out; rfl
theorem out11_A (h0 : t.val % 16 = 0) : (outsAt0 m c t.val t.isLt).2.2.2.2.2
    = tGain (iblk m c 0 t) (iblk m c 1 t) (iblk m c 2 t) (iblk m c 3 t) (iblk m c 4 t) (iblk m c 5 t) k0_pay5 := by
  rw [outsAt0_A m c t h0]; frame_out; rfl
theorem out11_B (h0 : ¬ t.val % 16 = 0) : (outsAt0 m c t.val t.isLt).2.2.2.2.2
    = tGain (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2 := by
  rw [outsAt0_B m c t h0]; frame_out; rfl

end

/-! ## The results -/

theorem lt16 (t : Fin cfg0.N) : t.val < 16 := (N_0 : cfg0.N = 16) ▸ t.isLt

/-- Where each window's block lies at each point. -/
theorem index_eq : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0, 0]
    ∧ win0_6.index t = ![t.val, 0] ∧ win0_7.index t = ![t.val, 0] ∧ win0_8.index t = ![t.val, 0] ∧ win0_9.index t = ![t.val, 0]
    ∧ win0_10.index t = ![0, 0] ∧ win0_11.index t = ![0, 0] := by decide +kernel

abbrev aX (c : Dev nD) : S8192x1024.Idx → EReal := m ((c : Thread nD τ).loc main_arg0)
abbrev aP (c : Dev nD) : S8192x256.Idx → EReal := m ((c : Thread nD τ).loc main_arg1)
abbrev aT (c : Dev nD) : S8192x1024.Idx → EReal := m ((c : Thread nD τ).loc main_arg2)
abbrev aG (c : Dev nD) : S1x1024.Idx → EReal := m ((c : Thread nD τ).loc main_arg3)
abbrev aW (c : Dev nD) : S1024x1024.Idx → EReal := m ((c : Thread nD τ).loc main_arg4)
abbrev aV (c : Dev nD) : S4x256x256.Idx → EReal := m ((c : Thread nD τ).loc main_arg5)

/-- Row `r` of tile `t`. -/
abbrev row (t : Fin cfg0.N) (r : Fin 512) : Fin 8192 := ⟨t.val * 512 + r.val, by have := lt16 t; omega⟩

theorem x0_apply (c : Dev nD) (t : Fin cfg0.N) (r : Fin 512) (q : Fin 1024) : (iblk m c 0 t : Vec Ideal S512x1024 .f32) (ix2 r q) = aX m c (ix2 (row t r) q) := by
  blk_ext [iblk, V, (index_eq t).1]
theorem x1_apply (c : Dev nD) (t : Fin cfg0.N) (r : Fin 512) (q : Fin 256) : (iblk m c 1 t : Vec Ideal S512x256 .f32) (ix2 r q) = aP m c (ix2 (row t r) q) := by
  blk_ext [iblk, V, (index_eq t).2.1]
theorem x2_apply (c : Dev nD) (t : Fin cfg0.N) (r : Fin 512) (q : Fin 1024) : (iblk m c 2 t : Vec Ideal S512x1024 .f32) (ix2 r q) = aT m c (ix2 (row t r) q) := by
  blk_ext [iblk, V, (index_eq t).2.2.1]
theorem x3_apply (c : Dev nD) (t : Fin cfg0.N) (q : Fin 1024) : (iblk m c 3 t : Vec Ideal S1x1024 .f32) (ix2 0 q) = aG m c (ix2 0 q) := by
  blk_ext [iblk, V, (index_eq t).2.2.2.1]
theorem x4_apply (c : Dev nD) (t : Fin cfg0.N) (k q : Fin 1024) : (iblk m c 4 t : Vec Ideal S1024x1024 .bf16) (ix2 k q) = aW m c (ix2 k q) := by
  blk_ext [iblk, V, (index_eq t).2.2.2.2.1]
theorem x5_apply (c : Dev nD) (t : Fin cfg0.N) (a : Fin 4) (k q : Fin 256) : (iblk m c 5 t : Vec Ideal S4x256x256 .bf16) (ix3 a k q) = aV m c (ix3 a k q) := by
  blk_ext [iblk, V, (index_eq t).2.2.2.2.2.1]

section
variable (X : S8192x1024.Idx → EReal) (P : S8192x256.Idx → EReal) (T : S8192x1024.Idx → EReal)
  (G : S1x1024.Idx → EReal) (W : S1024x1024.Idx → EReal) (V : S4x256x256.Idx → EReal)

/-- The row's quantities at a row of the arrays. -/
abbrev on (f : (Fin 1024 → EReal) → (Fin 1024 → EReal) → (Fin 256 → EReal) → (Fin 1024 → EReal) → (Fin 1024 → Fin 1024 → EReal) → (Fin 4 → Fin 256 → Fin 256 → EReal) → Fin 1024 → EReal)
    (n : Fin 8192) : Fin 1024 → EReal :=
  f (fun k => X (ix2 n k)) (fun k => G (ix2 0 k)) (fun k => P (ix2 n k)) (fun k => T (ix2 n k)) (fun k q => W (ix2 k q)) (fun a k q => V (ix3 a k q))

/-- The results, as functions of the six arguments. -/
def resDx : S8192x1024.Idx → EReal := fun i =>
  NormBwd.dx (on X P T G W V dh (i 0)) (fun k => X (ix2 (i 0) k)) (fun k => G (ix2 0 k)) (on X P T G W V dy (i 0) (i 1)) (i 1)
def resH : S8192x1024.Idx → EReal := fun i => hrow (fun k => X (ix2 (i 0) k)) (fun k => G (ix2 0 k)) (i 1)
def resDu : S8192x1024.Idx → EReal := fun i => on X P T G W V du (i 0) (i 1)
def resDpp : S8192x1024.Idx → EReal := fun i =>
  on X P T G W V dy (i 0) (i 1) * gate (fun k => X (ix2 (i 0) k)) (fun k => G (ix2 0 k)) (fun k q => W (ix2 k q)) (i 1)
def resLoss : S8x128.Idx → EReal := fun _ =>
  Ideal.ofBits .f32 0x3A000000#32 * ∑ n : Fin 8192, ∑ q : Fin 1024, on X P T G W V err n q * on X P T G W V err n q
def resGain : S8x1024.Idx → EReal := fun i =>
  ∑ n : Fin 8192, NormBwd.gain (on X P T G W V dh n) (fun k => X (ix2 n k)) (i 1)

end

/-- A row's quantity of the tile is that of the arrays. -/
theorem at_eq (f) (c : Dev nD) (t : Fin cfg0.N) (r : Fin 512) (q : Fin 1024) :
    at_ (iblk m c 0 t) (iblk m c 1 t) (iblk m c 2 t) (iblk m c 3 t) (iblk m c 4 t) (iblk m c 5 t) f r q
      = on (aX m c) (aP m c) (aT m c) (aG m c) (aW m c) (aV m c) f (row t r) q := by
  unfold at_ on
  simp only [x0_apply, x1_apply, x2_apply, x3_apply, x4_apply, x5_apply]

theorem final6 (c : Dev nD) : (dats m 0 c).arrAt 6 cfg0.N = resDx (aX m c) (aP m c) (aT m c) (aG m c) (aW m c) (aV m c) := by
  refine (dats m 0 c).arrAt_eq_of_covers 6 _ (by decide +kernel) fun t hf y => ?_
  blk_simp
  obtain ⟨r, q, rfl⟩ : ∃ (r : Fin 512) (q : Fin 1024), y = ix2 r q := ⟨y 0, y 1, eq_ix2 y⟩
  have hi : (win0_6.blk t).view.emb (ix2 r q) = ix2 (row t r) q := by blk_ext [(index_eq t).2.2.2.2.2.2.1]
  rw [hi, after0_6, out6, tDx_apply]
  simp only [at_, x0_apply, x1_apply, x2_apply, x3_apply, x4_apply, x5_apply]
  unfold resDx
  rfl

theorem final7 (c : Dev nD) : (dats m 0 c).arrAt 7 cfg0.N = resH (aX m c) (aG m c) := by
  refine (dats m 0 c).arrAt_eq_of_covers 7 _ (by decide +kernel) fun t hf y => ?_
  blk_simp
  obtain ⟨r, q, rfl⟩ : ∃ (r : Fin 512) (q : Fin 1024), y = ix2 r q := ⟨y 0, y 1, eq_ix2 y⟩
  have hi : (win0_7.blk t).view.emb (ix2 r q) = ix2 (row t r) q := by blk_ext [(index_eq t).2.2.2.2.2.2.2.1]
  rw [hi, after0_7, out7, pay8_apply]
  simp only [x0_apply, x3_apply]
  rfl

theorem final8 (c : Dev nD) : (dats m 0 c).arrAt 8 cfg0.N = resDu (aX m c) (aP m c) (aT m c) (aG m c) (aW m c) (aV m c) := by
  refine (dats m 0 c).arrAt_eq_of_covers 8 _ (by decide +kernel) fun t hf y => ?_
  blk_simp
  obtain ⟨r, q, rfl⟩ : ∃ (r : Fin 512) (q : Fin 1024), y = ix2 r q := ⟨y 0, y 1, eq_ix2 y⟩
  have hi : (win0_8.blk t).view.emb (ix2 r q) = ix2 (row t r) q := by blk_ext [(index_eq t).2.2.2.2.2.2.2.2.1]
  rw [hi, after0_8, out8, tDu_apply]
  exact at_eq m du c t r q

theorem final9 (c : Dev nD) : (dats m 0 c).arrAt 9 cfg0.N = resDpp (aX m c) (aP m c) (aT m c) (aG m c) (aW m c) (aV m c) := by
  refine (dats m 0 c).arrAt_eq_of_covers 9 _ (by decide +kernel) fun t hf y => ?_
  blk_simp
  obtain ⟨r, q, rfl⟩ : ∃ (r : Fin 512) (q : Fin 1024), y = ix2 r q := ⟨y 0, y 1, eq_ix2 y⟩
  have hi : (win0_9.blk t).view.emb (ix2 r q) = ix2 (row t r) q := by blk_ext [(index_eq t).2.2.2.2.2.2.2.2.2.1]
  rw [hi, after0_9, out9, tDpp_apply]
  simp only [at_, x0_apply, x1_apply, x2_apply, x3_apply, x4_apply, x5_apply]
  unfold resDpp
  rfl

/-- What a point adds to the loss and to the gain's gradient. -/
def lossT (c : Dev nD) (t : Fin cfg0.N) : EReal := Ideal.ofBits .f32 0x3A000000#32 * ∑ r : Fin 512, ∑ q : Fin 1024,
  on (aX m c) (aP m c) (aT m c) (aG m c) (aW m c) (aV m c) err (row t r) q * on (aX m c) (aP m c) (aT m c) (aG m c) (aW m c) (aV m c) err (row t r) q
def gainT (c : Dev nD) (t : Fin cfg0.N) (q : Fin 1024) : EReal :=
  ∑ r : Fin 512, NormBwd.gain (on (aX m c) (aP m c) (aT m c) (aG m c) (aW m c) (aV m c) dh (row t r)) (fun k => aX m c (ix2 (row t r) k)) q

theorem zero4 (i) : k0_pay4 (F := Ideal) i = 0 := by
  pointwise [k0_pay4]
theorem zero5 (i) : k0_pay5 (F := Ideal) i = 0 := by
  pointwise [k0_pay5]

theorem loss_step (c : Dev nD) (t : Fin cfg0.N) (L) (i : S8x128.Idx) :
    tLoss (iblk m c 0 t) (iblk m c 1 t) (iblk m c 2 t) (iblk m c 3 t) (iblk m c 4 t) (iblk m c 5 t) L i = L i + lossT m c t := by
  obtain ⟨a, b, rfl⟩ : ∃ (a : Fin 8) (b : Fin 128), i = ix2 a b := ⟨i 0, i 1, eq_ix2 i⟩
  rw [tLoss_apply]
  unfold lossT
  simp only [at_, x0_apply, x1_apply, x2_apply, x3_apply, x4_apply, x5_apply]
theorem gain_step (c : Dev nD) (t : Fin cfg0.N) (D) (a : Fin 8) (q : Fin 1024) :
    tGain (iblk m c 0 t) (iblk m c 1 t) (iblk m c 2 t) (iblk m c 3 t) (iblk m c 4 t) (iblk m c 5 t) D (ix2 a q) = D (ix2 a q) + gainT m c t q := by
  rw [tGain_apply]
  unfold gainT
  simp only [at_, x0_apply, x1_apply, x2_apply, x3_apply, x4_apply, x5_apply]

theorem last (t : Fin cfg0.N) (h : t.val % 16 = 15) : t.val + 1 = cfg0.N := by
  have := lt16 t
  have h16 : cfg0.N = 16 := N_0
  omega

theorem loss_last (c : Dev nD) (t : Fin cfg0.N) (h : t.val % 16 = 15) (i : S8x128.Idx) :
    (outsAt0 m c t.val t.isLt).2.2.2.2.1 i = 0 + ∑ p : Fin cfg0.N, lossT m c p := by
  rw [Pipeline.eq_sum_fin_of_reset_step_apply_last (fun n h => (outsAt0 m c n h).2.2.2.2.1) 16 (fun _ => 0) (fun t _ => lossT m c t)
    (fun t h j => by rw [out10_A m c t h, loss_step, zero4]) (fun t h j => by rw [out10_B m c t h, loss_step]) (le_of_eq N_0) t (last t h) i]
theorem gain_last (c : Dev nD) (t : Fin cfg0.N) (h : t.val % 16 = 15) (a : Fin 8) (q : Fin 1024) :
    (outsAt0 m c t.val t.isLt).2.2.2.2.2 (ix2 a q) = 0 + ∑ p : Fin cfg0.N, gainT m c p q := by
  rw [Pipeline.eq_sum_fin_of_reset_step_apply_last (fun n h (p : Fin 8 × Fin 1024) => (outsAt0 m c n h).2.2.2.2.2 (ix2 p.1 p.2)) 16 (fun _ => 0) (fun t p => gainT m c t p.2)
    (fun t h j => by rw [out11_A m c t h, gain_step, zero5]) (fun t h j => by rw [out11_B m c t h, gain_step]) (le_of_eq N_0) t (last t h) (a, q)]

/-- A nonnegative finite factor moves into a sum. -/
theorem mul_sum {n : ℕ} (x : EReal) (h0 : 0 ≤ x) (h1 : x ≠ ⊤) (f : Fin n → EReal) : x * ∑ i, f i = ∑ i, x * f i := by
  induction n with
  | zero => simp
  | succ n ih => rw [Fin.sum_univ_succ, Fin.sum_univ_succ, EReal.left_distrib_of_nonneg_of_ne_top h0 h1, ih]

/-- The constant of the loss: half of the share of one feature. -/
theorem share_value : Ideal.ofBits .f32 0x3A000000#32 = (((1 : ℝ) / 2048 : ℝ) : EReal) := by
  simp [Ideal.ofBits, Ideal.ieee, -EReal.coe_mul]; norm_num
theorem share_nonneg : (0 : EReal) ≤ Ideal.ofBits .f32 0x3A000000#32 := by
  rw [share_value]
  exact EReal.coe_nonneg.2 (by norm_num)
theorem share_ne_top : (Ideal.ofBits .f32 0x3A000000#32 : EReal) ≠ ⊤ := by
  rw [share_value]
  exact EReal.coe_ne_top _

theorem sum16 {f : Fin 8192 → EReal} : ∑ p : Fin cfg0.N, ∑ r : Fin 512, f (row p r) = ∑ n, f n :=
  (NormBwd.sum_split 16 512 f (fun i j => by omega)).symm

theorem final10 (c : Dev nD) : (dats m 0 c).arrAt 10 cfg0.N = resLoss (aX m c) (aP m c) (aT m c) (aG m c) (aW m c) (aV m c) := by
  refine (dats m 0 c).arrAt_eq_of_covers 10 _ (by decide +kernel) fun t hf y => ?_
  blk_simp
  rw [after0_10, loss_last m c t ((flush0_10 t).1 hf), zero_add]
  unfold resLoss lossT
  rw [← mul_sum _ share_nonneg share_ne_top, ← sum16]

theorem final11 (c : Dev nD) : (dats m 0 c).arrAt 11 cfg0.N = resGain (aX m c) (aP m c) (aT m c) (aG m c) (aW m c) (aV m c) := by
  refine (dats m 0 c).arrAt_eq_of_covers 11 _ (by decide +kernel) fun t hf y => ?_
  blk_simp
  obtain ⟨a, q, rfl⟩ : ∃ (a : Fin 8) (q : Fin 1024), y = ix2 a q := ⟨y 0, y 1, eq_ix2 y⟩
  have hi : (win0_11.blk t).view.emb (ix2 a q) = ix2 a q := by blk_ext [(index_eq t).2.2.2.2.2.2.2.2.2.2.2]
  rw [hi, after0_11, gain_last m c t ((flush0_11 t).1 hf), zero_add]
  unfold resGain gainT
  exact sum16 (f := fun n => NormBwd.gain (on (aX m c) (aP m c) (aT m c) (aG m c) (aW m c) (aV m c) dh n) (fun k => aX m c (ix2 n k)) q)

end Cert.PleLossValue

end
-- ==== Proof.PleLossRefV.lean ====
/-
  The reference of `ple_loss` at the extended reals: its six results, read at an element, are the row functions of
  `PleLoss.lean`; and the claims of the call.
-/
module

public import proofs.«01_k».proof.Proof.PleLoss

@[expose] public section

set_option maxRecDepth 16384

noncomputable section

namespace Cert.PleLossRefV

open Idealize.ShloMosaic Idealize.ShloMosaic.TcCoe
open Cert.PleLossRefIdeal Cert.PleLossRefIdeal.Gen
open Cert.PleLossValue (hrow gate proj err dy du dh on)

variable (X : S8192x1024.Idx → EReal) (P : S8192x256.Idx → EReal) (T : S8192x1024.Idx → EReal)
  (G : S1x1024.Idx → EReal) (W : S1024x1024.Idx → EReal) (V : S4x256x256.Idx → EReal)

/-- An array of ones. -/
def rOne : FVec Ideal S8192x1024 .f32 := broadcastInDim S8192x1024 ![] bcast_S_S8192x1024 (constant S_ .f32 0x3F800000#32)

/-- The weights of the gate. -/
def rW : FVec Ideal S1024x1024 .f32 := extf (F := Ideal) .f32 (φ := .bf16) W bitsLt_bf16_f32

/-- The reciprocal root mean square of every row. -/
def rInv : FVec Ideal S8192x1 .f32 :=
  Host.rsqrt (addf (Host.divf (broadcastInDim S8192x1 ![0] bcast_S8192_S8192x1_0 (Host.reduceAdd (mulf (F := Ideal) (φ := .f32) X X) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32)))
/-- The same, a column per element. -/
def rInvB : FVec Ideal S8192x1024 .f32 := broadcastInDim S8192x1024 ![0, 1] bcast_S8192x1_S8192x1024_0_1 (rInv X)
/-- The normalized rows, the gain, the scaled rows; the gate, the projected input, the error; the gradients. -/
def rXn : FVec Ideal S8192x1024 .f32 := mulf (F := Ideal) (φ := .f32) X (rInvB X)
def rG : FVec Ideal S8192x1024 .f32 := broadcastInDim S8192x1024 ![0, 1] bcast_S1x1024_S8192x1024_0_1 G
def rH : FVec Ideal S8192x1024 .f32 := mulf (rXn X) (rG G)
def rGate : FVec Ideal S8192x1024 .f32 :=
  Host.divf rOne (addf rOne (Host.exp (Host.negf (Host.dotGeneral dot_S8192x1024_S1024x1024_S8192x1024_1_0_0_1_n_n none (rH X G) (rW W)))))
def rProj : FVec Ideal S8192x1024 .f32 :=
  Host.dotGeneral (F := Ideal) (φ₁ := .f32) dot_S8192x256_S256x1024_S8192x1024_1_0_0_1_n_n none P (shapeCast S256x1024 (transpose S256x4x256 [1, 0, 2] (extf (F := Ideal) .f32 (φ := .bf16) V bitsLt_bf16_f32) transposes_S4x256x256_S256x4x256_1_0_2) shapeCasts_S256x4x256_S256x1024)
def rErr : FVec Ideal S8192x1024 .f32 := subf (addf (F := Ideal) (φ := .f32) X (mulf (rGate X G W) (rProj P V))) T
def rDy : FVec Ideal S8192x1024 .f32 := Host.divf (rErr X P T G W V) (broadcastInDim S8192x1024 ![] bcast_S_S8192x1024 (constant S_ .f32 0x44800000#32))
def rDu : FVec Ideal S8192x1024 .f32 := mulf (mulf (rDy X P T G W V) (rProj P V)) (mulf (rGate X G W) (subf rOne (rGate X G W)))
def rDh : FVec Ideal S8192x1024 .f32 :=
  Host.dotGeneral dot_S8192x1024_S1024x1024_S8192x1024_1_0_0_1_n_n none (rDu X P T G W V) (transpose S1024x1024 [1, 0] (rW W) transposes_S1024x1024_S1024x1024_1_0)

/-- The six results. -/
def rDx : FVec Ideal S8192x1024 .f32 :=
  addf (rDy X P T G W V) (mulf (rInvB X) (subf (mulf (rDh X P T G W V) (rG G)) (mulf (rXn X) (broadcastInDim S8192x1024 ![0, 1] bcast_S8192x1_S8192x1024_0_1
    (Host.divf (broadcastInDim S8192x1 ![0] bcast_S8192_S8192x1_0 (Host.reduceAdd (mulf (mulf (rDh X P T G W V) (rG G)) (rXn X)) (constant S_ .f32 0x00000000#32) reducesTo_S8192x1024_S8192_d1 h_S_))
      (broadcastInDim S8192x1 ![] bcast_S_S8192x1 (constant S_ .f32 0x44800000#32)))))))
def rLoss : FVec Ideal S8x128 .f32 :=
  broadcastInDim S8x128 ![] bcast_S_S8x128 (mulf (constant S_ .f32 0x3F000000#32) (Host.reduceAdd (Host.divf
    (Host.reduceAdd (mulf (rErr X P T G W V) (rErr X P T G W V)) (constant S_ .f32 0x00000000#32) reducesTo_S8192x1024_S8192_d1 h_S_)
    (broadcastInDim S8192 ![] bcast_S_S8192 (constant S_ .f32 0x44800000#32))) (constant S_ .f32 0x00000000#32) reducesTo_S8192_S_d0 h_S_))
def rGain : FVec Ideal S8x1024 .f32 :=
  broadcastInDim S8x1024 ![0, 1] bcast_S1x1024_S8x1024_0_1 (broadcastInDim S1x1024 ![1] bcast_S1024_S1x1024_1 (Host.reduceAdd (mulf (rDh X P T G W V) (rXn X)) (constant S_ .f32 0x00000000#32) reducesTo_S8192x1024_S1024_d0 h_S_))

/-- The constants of the loss. -/
theorem half_value : Ideal.ofBits .f32 0x3F000000#32 = (((1 : ℝ) / 2 : ℝ) : EReal) := by
  simp [Ideal.ofBits, Ideal.ieee, -EReal.coe_mul]; norm_num
theorem features_value : Ideal.ofBits .f32 0x44800000#32 = ((1024 : ℝ) : EReal) := by
  simp [Ideal.ofBits, Ideal.ieee, -EReal.coe_mul]; norm_num
theorem share_value : Ideal.ofBits .f32 0x3A800000#32 = (((1 : ℝ) / 1024 : ℝ) : EReal) := by
  simp [Ideal.ofBits, Ideal.ieee, -EReal.coe_mul]; norm_num

/-- Dividing by the number of features is multiplying by its inverse. -/
theorem div_features (x : EReal) : Ideal.div x (Ideal.ofBits .f32 0x44800000#32) = x * Ideal.ofBits .f32 0x3A800000#32 := by
  rw [features_value, share_value]
  exact Ideal.div_coe (by norm_num) x

/-- Half a sum of means is the sum's share, taken once. -/
theorem half_means (f : Fin 8192 → EReal) :
    Ideal.ofBits .f32 0x3F000000#32 * ∑ n, Ideal.div (f n) (Ideal.ofBits .f32 0x44800000#32) = Ideal.ofBits .f32 0x3A000000#32 * ∑ n, f n := by
  rw [PleLossValue.mul_sum _ PleLossValue.share_nonneg PleLossValue.share_ne_top,
    PleLossValue.mul_sum _ (half_value ▸ EReal.coe_nonneg.2 (by norm_num)) (half_value ▸ EReal.coe_ne_top _)]
  refine Finset.sum_congr rfl fun n _ => ?_
  rw [div_features, half_value, share_value, PleLossValue.share_value, mul_left_comm, mul_comm (f n), ← EReal.coe_mul]
  norm_num

theorem rInv_apply (n : Fin 8192) : rInv X (ix2 n 0) = NormBwd.inv (fun k => X (ix2 n k)) := by
  pointwise [rInv, NormBwd.inv]
theorem rInvB_apply (n : Fin 8192) (q : Fin 1024) : rInvB X (ix2 n q) = NormBwd.inv (fun k => X (ix2 n k)) := by
  pointwise [rInvB, rInv_apply]
theorem rXn_apply (n : Fin 8192) (q : Fin 1024) : rXn X (ix2 n q) = X (ix2 n q) * NormBwd.inv (fun k => X (ix2 n k)) := by
  pointwise [rXn, rInvB_apply]
theorem rG_apply (n : Fin 8192) (q : Fin 1024) : rG G (ix2 n q) = G (ix2 0 q) := by
  pointwise [rG]
theorem rH_apply (n : Fin 8192) (q : Fin 1024) : rH X G (ix2 n q) = hrow (fun k => X (ix2 n k)) (fun k => G (ix2 0 k)) q := by
  pointwise [rH, rXn_apply, rG_apply, hrow]
theorem rGate_apply (n : Fin 8192) (q : Fin 1024) :
    rGate X G W (ix2 n q) = gate (fun k => X (ix2 n k)) (fun k => G (ix2 0 k)) (fun k q => W (ix2 k q)) q := by
  pointwise [rGate, rOne, rW, rH_apply, gate]
  rfl
theorem rProj_apply (n : Fin 8192) (q : Fin 1024) :
    rProj P V (ix2 n q) = proj (fun k => P (ix2 n k)) (fun a k q => V (ix3 a k q)) q := by
  pointwise [rProj, proj]
theorem rErr_apply (n : Fin 8192) (q : Fin 1024) : rErr X P T G W V (ix2 n q) = on X P T G W V err n q := by
  pointwise [rErr, rGate_apply, rProj_apply, err]
theorem rDy_apply (n : Fin 8192) (q : Fin 1024) : rDy X P T G W V (ix2 n q) = on X P T G W V dy n q := by
  pointwise [rDy, rErr_apply, dy, div_features]
theorem rDu_apply (n : Fin 8192) (q : Fin 1024) : rDu X P T G W V (ix2 n q) = on X P T G W V du n q := by
  pointwise [rDu, rOne, rDy_apply, rGate_apply, rProj_apply, du]
theorem rDh_apply (n : Fin 8192) (q : Fin 1024) : rDh X P T G W V (ix2 n q) = on X P T G W V dh n q := by
  pointwise [rDh, rW, rDu_apply, dh]

theorem rDx_eq : rDx X P T G W V = PleLossValue.resDx X P T G W V := by
  funext i
  obtain ⟨n, q, rfl⟩ : ∃ (n : Fin 8192) (q : Fin 1024), i = ix2 n q := ⟨i 0, i 1, eq_ix2 i⟩
  pointwise [rDx, rDy_apply, rInvB_apply, rDh_apply, rG_apply, rXn_apply, PleLossValue.resDx, NormBwd.dx]
theorem rH_eq : truncf .bf16 (rH X G) bitsLt_bf16_f32 = PleLossValue.resH X G := by
  funext i
  obtain ⟨n, q, rfl⟩ : ∃ (n : Fin 8192) (q : Fin 1024), i = ix2 n q := ⟨i 0, i 1, eq_ix2 i⟩
  pointwise [rH_apply, PleLossValue.resH]
theorem rDu_eq : truncf .bf16 (rDu X P T G W V) bitsLt_bf16_f32 = PleLossValue.resDu X P T G W V := by
  funext i
  obtain ⟨n, q, rfl⟩ : ∃ (n : Fin 8192) (q : Fin 1024), i = ix2 n q := ⟨i 0, i 1, eq_ix2 i⟩
  pointwise [rDu_apply, PleLossValue.resDu]
theorem rDpp_eq : truncf .bf16 (mulf (rDy X P T G W V) (rGate X G W)) bitsLt_bf16_f32 = PleLossValue.resDpp X P T G W V := by
  funext i
  obtain ⟨n, q, rfl⟩ : ∃ (n : Fin 8192) (q : Fin 1024), i = ix2 n q := ⟨i 0, i 1, eq_ix2 i⟩
  pointwise [rDy_apply, rGate_apply, PleLossValue.resDpp]
theorem rLoss_eq : rLoss X P T G W V = PleLossValue.resLoss X P T G W V := by
  funext i
  obtain ⟨a, b, rfl⟩ : ∃ (a : Fin 8) (b : Fin 128), i = ix2 a b := ⟨i 0, i 1, eq_ix2 i⟩
  pointwise [rLoss, rErr_apply, PleLossValue.resLoss]
  exact half_means _
theorem rGain_eq : rGain X P T G W V = PleLossValue.resGain X P T G W V := by
  funext i
  obtain ⟨a, q, rfl⟩ : ∃ (a : Fin 8) (q : Fin 1024), i = ix2 a q := ⟨i 0, i 1, eq_ix2 i⟩
  pointwise [rGain, rDh_apply, rXn_apply, PleLossValue.resGain, NormBwd.gain]

end Cert.PleLossRefV

namespace Cert.PleLossValue

open Idealize.ShloMosaic Idealize.ShloMosaic.TcCoe Idealize.SL.Sem
open Cert.PleLossIdeal Cert.PleLossIdeal.Gen
open Cert.PleLossRefV

theorem frame_bits : Cert.quiescent_PleLoss := fun m ρ _ => Cert.PleLoss.Gen.frame m ρ
theorem frame_ideal : Cert.quiescent_PleLossIdeal := fun m ρ _ => Cert.PleLossIdeal.Gen.frame m ρ
theorem ref_frame : Cert.quiescent_PleLossRefIdeal := fun m ρ _ =>
  (θ_run Cert.PleLossRefIdeal.defs _ _).mono (fun r h => ⟨fun c => (h c).2.2.2.2.2.2, sem_eq_zero_of_no_sems rfl _⟩)
    (Cert.PleLossRefIdeal.Value.run (F := Ideal) m ρ)

/-- The kernel's six results and the reference's are the same functions of the six arguments. -/
theorem algebraic : Cert.algebraic_PleLossIdeal_PleLossRefIdeal := by
  intro m ρ m' ρ' _ hagree
  refine ⟨fun c => resDx (aX m c) (aP m c) (aT m c) (aG m c) (aW m c) (aV m c), fun c => resH (aX m c) (aG m c),
    fun c => resDu (aX m c) (aP m c) (aT m c) (aG m c) (aW m c) (aV m c), fun c => resDpp (aX m c) (aP m c) (aT m c) (aG m c) (aW m c) (aV m c),
    fun c => resLoss (aX m c) (aP m c) (aT m c) (aG m c) (aW m c) (aV m c), fun c => resGain (aX m c) (aP m c) (aT m c) (aG m c) (aW m c) (aV m c), ?_, ?_⟩
  · refine (θ_run Cert.PleLossIdeal.defs _ _).mono (fun _ h c => ⟨(h c).1.trans (final6 m c), (h c).2.1.trans (final7 m c), (h c).2.2.1.trans (final8 m c),
      (h c).2.2.2.1.trans (final9 m c), (h c).2.2.2.2.1.trans (final10 m c), (h c).2.2.2.2.2.1.trans (final11 m c), (h c).2.2.2.2.2.2⟩)
      (Cert.PleLossIdeal.Value.run_blocks (F := Ideal) m ρ)
  · refine (θ_run Cert.PleLossRefIdeal.defs _ _).mono
      (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
      (Cert.PleLossRefIdeal.Value.run (F := Ideal) m' ρ')
    · unfold Cert.PleLossRefIdeal.Value.res_main_v55
      rw [(hagree c).1, (hagree c).2.1, (hagree c).2.2.1, (hagree c).2.2.2.1, (hagree c).2.2.2.2.1, (hagree c).2.2.2.2.2]
      exact rDx_eq (aX m c) (aP m c) (aT m c) (aG m c) (aW m c) (aV m c)
    · rw [(hagree c).1, (hagree c).2.2.2.1]
      exact rH_eq (aX m c) (aG m c)
    · rw [(hagree c).1, (hagree c).2.1, (hagree c).2.2.1, (hagree c).2.2.2.1, (hagree c).2.2.2.2.1, (hagree c).2.2.2.2.2]
      exact rDu_eq (aX m c) (aP m c) (aT m c) (aG m c) (aW m c) (aV m c)
    · rw [(hagree c).1, (hagree c).2.1, (hagree c).2.2.1, (hagree c).2.2.2.1, (hagree c).2.2.2.2.1, (hagree c).2.2.2.2.2]
      exact rDpp_eq (aX m c) (aP m c) (aT m c) (aG m c) (aW m c) (aV m c)
    · rw [(hagree c).1, (hagree c).2.1, (hagree c).2.2.1, (hagree c).2.2.2.1, (hagree c).2.2.2.2.1, (hagree c).2.2.2.2.2]
      exact rLoss_eq (aX m c) (aP m c) (aT m c) (aG m c) (aW m c) (aV m c)
    · unfold Cert.PleLossRefIdeal.Value.res_main_v64
      rw [(hagree c).1, (hagree c).2.1, (hagree c).2.2.1, (hagree c).2.2.2.1, (hagree c).2.2.2.2.1, (hagree c).2.2.2.2.2]
      exact rGain_eq (aX m c) (aP m c) (aT m c) (aG m c) (aW m c) (aV m c)

end Cert.PleLossValue

end
-- ==== Proof.ConvFwd.lean ====
/-
  The mixer's short gated convolution on one device: the call's result and the reference's are the gate times the sum of
  three rows, each times its tap, plus the bias.
-/
module

public import proofs.«01_k».proof.Defs
public import proofs.«01_k».proof.Proof.Gen.ConvFwd.Frame
public import proofs.«01_k».proof.Proof.Gen.ConvFwdIdeal.Value
public import proofs.«01_k».proof.Proof.Gen.ConvFwdRefIdeal.Run
public import Idealize.ShloMosaic.Lib.Quiescent
public import Idealize.ShloMosaic.Lib.Pointwise
public import Idealize.ShloMosaic.Lib.KernelVsHost
public import Idealize.ShloMosaic.Lib.Pipeline.ValueKit

@[expose] public section

set_option maxRecDepth 16384

noncomputable section

namespace Cert.ConvFwdValue

open Idealize.ShloMosaic Idealize.ShloMosaic.TcCoe Idealize.SL.Sem
open Cert.ConvFwdIdeal Cert.ConvFwdIdeal.Gen

variable (m : (ℓ : Loc nD τ sig) → Buf (Elt Ideal) ℓ)

/-- The product of the two gates' columns, at a row of the block. -/
def rows (C U : Vec Ideal S1024x256 .f32) (r : Fin 1024) (q : Fin 256) : EReal := C (ix2 r q) * U (ix2 r q)

theorem pay4_apply (C U : Vec Ideal S1024x256 .f32) (W : Vec Ideal S8x256 .f32) (r : Fin 1024) (q : Fin 256) :
    k0_pay4 C U W (ix2 r q) = W (ix2 2 q) * rows C U r q := by
  pointwise [k0_pay4, k0_pay2, rows]

theorem pay1_apply (A B G : Vec Ideal S1024x256 .f32) (Z : Vec Ideal S1x256 .f32) (r : Fin 1024) (q : Fin 256) :
    k0_pay1 A B G Z (ix2 r q) = G (ix2 r q) * (A (ix2 r q) + B (ix2 r q) + Z (ix2 0 q)) := by
  pointwise [k0_pay1]

theorem select_bool {α : Type} (p : Bool) (a b : α) : Scalar.select (BitVec.ofBool p) a b = if p then a else b := by
  cases p <;> rfl
theorem select_eq (r n : ℕ) (hr : r < 2 ^ 32) (hn : n < 2 ^ 32) (a b : EReal) :
    Scalar.select (IntOp.cmpi .eq (BitVec.ofNat 32 r) (BitVec.ofNat 32 n)) a b = if r = n then a else b := by
  rw [WordCmp.cmpi_eq_ofNat hr hn, select_bool]
  simp only [decide_eq_true_eq]
theorem select_pos (n : ℕ) (hn : n < 8) (a b : EReal) :
    Scalar.select (Scalar.cmpi .sgt (BitVec.ofNat 32 n) 0#32) a b = if 0 < n then a else b := by
  interval_cases n <;> rfl

/-- The last rows of the block before, or zeros in front of the first block. -/
def halo (i : grid0.Coords) (CH UH : Vec Ideal S8x256 .f32) (x : Fin 8) (q : Fin 256) : EReal :=
  if 0 < (i 1).val then CH (ix2 x q) * UH (ix2 x q) else 0

theorem pay3_apply (i : grid0.Coords) (C U : Vec Ideal S1024x256 .f32) (CH UH W : Vec Ideal S8x256 .f32) (r : Fin 1024) (q : Fin 256) :
    k0_pay3 i C U CH UH W (ix2 r q)
      = W (ix2 0 q) * (if r.val = 1 then halo i CH UH 7 q else if r.val = 0 then halo i CH UH 6 q
          else rows C U ⟨(r.val + 1024 - 2) % 1024, by omega⟩ q)
        + W (ix2 1 q) * (if r.val = 0 then halo i CH UH 7 q
          else rows C U ⟨(r.val + 1024 - 1) % 1024, by omega⟩ q) := by
  have h1 : (i 1).val < 8 := (i 1).isLt
  have hr : r.val < 2 ^ 32 := by omega
  pointwise [k0_pay3, k0_pay2]
  rw [select_eq r.val 1 hr (by omega), select_eq r.val 0 hr (by omega), select_eq r.val 0 hr (by omega)]
  simp only [select_pos _ h1]
  rfl

theorem out7 (c : Dev nD) (t : Fin cfg0.N) : (dats m 0 c).after 7 t
    = k0_pay1 (k0_pay3 (grid0.coords t) (iblk m c 1 t) (iblk m c 2 t) (iblk m c 3 t) (iblk m c 4 t) (iblk m c 5 t))
      (k0_pay4 (iblk m c 1 t) (iblk m c 2 t) (iblk m c 5 t)) (iblk m c 0 t) (iblk m c 6 t) := by
  rw [after0_7]; frame_out

/-! ## The arrays -/

theorem index_eq : ∀ t : Fin cfg0.N, win0_0.index t = ![t.val % 8, t.val / 8] ∧ win0_1.index t = ![t.val % 8, 2 + t.val / 8]
    ∧ win0_2.index t = ![t.val % 8, 4 + t.val / 8] ∧ win0_3.index t = ![t.val % 8 * 128 - 1, 2 + t.val / 8]
    ∧ win0_4.index t = ![t.val % 8 * 128 - 1, 4 + t.val / 8] ∧ win0_5.index t = ![0, t.val / 8] ∧ win0_6.index t = ![0, t.val / 8]
    ∧ win0_7.index t = ![t.val % 8, t.val / 8] := by decide +kernel
theorem coord_eq : ∀ t : Fin cfg0.N, (grid0.coords t 1).val = t.val % 8 := by decide +kernel

theorem lt16 (t : Fin cfg0.N) : t.val < 16 := (N_0 : cfg0.N = 16) ▸ t.isLt

/-- Row `r` of a point's tile, row `x` of the eight rows before it, and its column `q` in the third of the columns `s`. -/
abbrev row (t : Fin cfg0.N) (r : Fin 1024) : Fin 8192 := ⟨t.val % 8 * 1024 + r.val, by omega⟩
abbrev before (t : Fin cfg0.N) (x : Fin 8) : Fin 8192 := ⟨(t.val % 8 * 128 - 1) * 8 + x.val, by omega⟩
abbrev col (t : Fin cfg0.N) (q : Fin 256) : Fin 512 := ⟨t.val / 8 * 256 + q.val, by have := lt16 t; omega⟩
abbrev part (s : Fin 3) (q : Fin 512) : Fin 3072 := ⟨s.val * 512 + q.val, by omega⟩

abbrev aP (c : Dev nD) : S8192x3072.Idx → EReal := m ((c : Thread nD τ).loc main_arg0)
abbrev aW (c : Dev nD) : S8x512.Idx → EReal := m ((c : Thread nD τ).loc main_arg1)
abbrev aZ (c : Dev nD) : S1x512.Idx → EReal := m ((c : Thread nD τ).loc main_arg2)

theorem x0_apply (c : Dev nD) (t : Fin cfg0.N) (r : Fin 1024) (q : Fin 256) :
    (iblk m c 0 t : Vec Ideal S1024x256 .f32) (ix2 r q) = aP m c (ix2 (row t r) (part 0 (col t q))) := by
  blk_ext [iblk, V, (index_eq t).1]
theorem x1_apply (c : Dev nD) (t : Fin cfg0.N) (r : Fin 1024) (q : Fin 256) :
    (iblk m c 1 t : Vec Ideal S1024x256 .f32) (ix2 r q) = aP m c (ix2 (row t r) (part 1 (col t q))) := by
  blk_ext [iblk, V, (index_eq t).2.1]
theorem x2_apply (c : Dev nD) (t : Fin cfg0.N) (r : Fin 1024) (q : Fin 256) :
    (iblk m c 2 t : Vec Ideal S1024x256 .f32) (ix2 r q) = aP m c (ix2 (row t r) (part 2 (col t q))) := by
  blk_ext [iblk, V, (index_eq t).2.2.1]
theorem x3_apply (c : Dev nD) (t : Fin cfg0.N) (x : Fin 8) (q : Fin 256) :
    (iblk m c 3 t : Vec Ideal S8x256 .f32) (ix2 x q) = aP m c (ix2 (before t x) (part 1 (col t q))) := by
  blk_ext [iblk, V, (index_eq t).2.2.2.1]
theorem x4_apply (c : Dev nD) (t : Fin cfg0.N) (x : Fin 8) (q : Fin 256) :
    (iblk m c 4 t : Vec Ideal S8x256 .f32) (ix2 x q) = aP m c (ix2 (before t x) (part 2 (col t q))) := by
  blk_ext [iblk, V, (index_eq t).2.2.2.2.1]
theorem x5_apply (c : Dev nD) (t : Fin cfg0.N) (x : Fin 8) (q : Fin 256) :
    (iblk m c 5 t : Vec Ideal S8x256 .f32) (ix2 x q) = aW m c (ix2 x (col t q)) := by
  blk_ext [iblk, V, (index_eq t).2.2.2.2.2.1]
theorem x6_apply (c : Dev nD) (t : Fin cfg0.N) (q : Fin 256) :
    (iblk m c 6 t : Vec Ideal S1x256 .f32) (ix2 0 q) = aZ m c (ix2 0 (col t q)) := by
  blk_ext [iblk, V, (index_eq t).2.2.2.2.2.2.1]

/-- The row of products `n`, if the array has it, and the row `k` before row `n`, zeros before the first. -/
def z (P : S8192x3072.Idx → EReal) (n : ℕ) (q : Fin 512) : EReal :=
  if h : n < 8192 then P (ix2 ⟨n, h⟩ (part 1 q)) * P (ix2 ⟨n, h⟩ (part 2 q)) else 0
def back (P : S8192x3072.Idx → EReal) (k n : ℕ) (q : Fin 512) : EReal := if k ≤ n then z P (n - k) q else 0

/-- The gated convolution. -/
def res (P : S8192x3072.Idx → EReal) (W : S8x512.Idx → EReal) (Z : S1x512.Idx → EReal) : S8192x512.Idx → EReal := fun i =>
  P (ix2 (i 0) (part 0 (i 1))) * (W (ix2 0 (i 1)) * back P 2 (i 0).val (i 1) + W (ix2 1 (i 1)) * back P 1 (i 0).val (i 1)
    + W (ix2 2 (i 1)) * back P 0 (i 0).val (i 1) + Z (ix2 0 (i 1)))

theorem z_row (P : S8192x3072.Idx → EReal) (n : Fin 8192) (k : ℕ) (h : n.val = k) (q : Fin 512) :
    P (ix2 n (part 1 q)) * P (ix2 n (part 2 q)) = z P k q := by
  subst h
  unfold z
  rw [dif_pos n.isLt]

theorem halo_eq (c : Dev nD) (t : Fin cfg0.N) (x : Fin 8) (q : Fin 256) (k n : ℕ) (h : t.val % 8 * 1024 + x.val = n + 8 - k) (hk : k ≤ 8)
    (hn : n < t.val % 8 * 1024 + k) :
    halo (grid0.coords t) (iblk m c 3 t) (iblk m c 4 t) x q = back (aP m c) k n (col t q) := by
  unfold halo back
  rw [coord_eq, x3_apply, x4_apply]
  by_cases h0 : 0 < t.val % 8
  · rw [if_pos h0, if_pos (by omega)]
    exact z_row _ _ _ (by show (t.val % 8 * 128 - 1) * 8 + x.val = n - k; omega) _
  · rw [if_neg h0, if_neg (by omega)]

theorem tile_back (c : Dev nD) (t : Fin cfg0.N) (r s : Fin 1024) (q : Fin 256) (k : ℕ) (h : r.val = s.val + k) :
    rows (iblk m c 1 t) (iblk m c 2 t) s q
      = back (aP m c) k (row t r).val (col t q) := by
  unfold back rows
  rw [x1_apply, x2_apply, if_pos (by show k ≤ t.val % 8 * 1024 + r.val; omega)]
  exact z_row _ _ _ (by show t.val % 8 * 1024 + s.val = t.val % 8 * 1024 + r.val - k; omega) _

theorem result (c : Dev nD) : (dats m 0 c).arrAt 7 cfg0.N = res (aP m c) (aW m c) (aZ m c) := by
  refine (dats m 0 c).arrAt_eq_of_covers 7 _ (by decide +kernel) fun t hf y => ?_
  blk_simp
  obtain ⟨r, q, rfl⟩ : ∃ (r : Fin 1024) (q : Fin 256), y = ix2 r q := ⟨y 0, y 1, eq_ix2 y⟩
  have hi : (win0_7.blk t).view.emb (ix2 r q) = ix2 (row t r) (col t q) := by blk_ext [(index_eq t).2.2.2.2.2.2.2]
  have e2 : (if r.val = 1 then halo (grid0.coords t) (iblk m c 3 t) (iblk m c 4 t) 7 q
      else if r.val = 0 then halo (grid0.coords t) (iblk m c 3 t) (iblk m c 4 t) 6 q
      else rows (iblk m c 1 t) (iblk m c 2 t) ⟨(r.val + 1024 - 2) % 1024, by omega⟩ q)
      = back (aP m c) 2 (row t r).val (col t q) := by
    by_cases h1 : r.val = 1
    · rw [if_pos h1]
      exact halo_eq m c t 7 q 2 (row t r).val (by show t.val % 8 * 1024 + 7 = t.val % 8 * 1024 + r.val + 8 - 2; omega) (by omega) (by show t.val % 8 * 1024 + r.val < t.val % 8 * 1024 + 2; omega)
    rw [if_neg h1]
    by_cases h0 : r.val = 0
    · rw [if_pos h0]
      exact halo_eq m c t 6 q 2 (row t r).val (by show t.val % 8 * 1024 + 6 = t.val % 8 * 1024 + r.val + 8 - 2; omega) (by omega) (by show t.val % 8 * 1024 + r.val < t.val % 8 * 1024 + 2; omega)
    rw [if_neg h0]
    exact tile_back m c t r _ q 2 (by show r.val = (r.val + 1024 - 2) % 1024 + 2; omega)
  have e1 : (if r.val = 0 then halo (grid0.coords t) (iblk m c 3 t) (iblk m c 4 t) 7 q
      else rows (iblk m c 1 t) (iblk m c 2 t) ⟨(r.val + 1024 - 1) % 1024, by omega⟩ q)
      = back (aP m c) 1 (row t r).val (col t q) := by
    by_cases h0 : r.val = 0
    · rw [if_pos h0]
      exact halo_eq m c t 7 q 1 (row t r).val (by show t.val % 8 * 1024 + 7 = t.val % 8 * 1024 + r.val + 8 - 1; omega) (by omega) (by show t.val % 8 * 1024 + r.val < t.val % 8 * 1024 + 1; omega)
    rw [if_neg h0]
    exact tile_back m c t r _ q 1 (by show r.val = (r.val + 1024 - 1) % 1024 + 1; omega)
  rw [hi, out7, pay1_apply, pay3_apply, pay4_apply, e2, e1, tile_back m c t r r q 0 rfl, x0_apply, x5_apply, x5_apply, x5_apply, x6_apply]
  rfl

/-! ## The reference -/

section
variable (P : S8192x3072.Idx → EReal) (W : S8x512.Idx → EReal) (Z : S1x512.Idx → EReal)
open Cert.ConvFwdRefIdeal.Gen

/-- The reference's products with two rows of zeros in front, and a row of numbers at every row. -/
def rZ : FVec Ideal Cert.ConvFwdRefIdeal.S8194x512 .f32 :=
  pad Cert.ConvFwdRefIdeal.S8194x512 ![2, 0] ![0, 0] ![0, 0] (mulf (F := Ideal) (φ := .f32) (extractStridedSlice Cert.ConvFwdRefIdeal.S8192x512 ![0, 512] P slices_S8192x3072_S8192x512_0_512)
    (extractStridedSlice Cert.ConvFwdRefIdeal.S8192x512 ![0, 1024] P slices_S8192x3072_S8192x512_0_1024)) (sitofp .f32 (constantI Cert.ConvFwdRefIdeal.S_ 32 0#32)) pads_S8192x512_S8194x512_200_000 h_S_

theorem rZ_apply (k n : ℕ) (hk : k ≤ 2) (hn : n < 8192) (x : Fin 8194) (hx : x.val = 2 - k + n) (q : Fin 512) : rZ P (ix2 x q) = back P k n q := by
  pointwise [rZ]
  unfold back
  by_cases h : k ≤ n
  · rw [dif_pos (by omega), if_pos h]
    exact z_row P _ _ (by show x.val - 2 = n - k; omega) q
  · rw [dif_neg (by omega), if_neg h]
    exact sitofp_zero
end

theorem frame_bits : Cert.quiescent_ConvFwd := fun m ρ _ => Cert.ConvFwd.Gen.frame m ρ
theorem frame_ideal : Cert.quiescent_ConvFwdIdeal := fun m ρ _ => Cert.ConvFwdIdeal.Gen.frame m ρ
theorem ref_frame : Cert.quiescent_ConvFwdRefIdeal := fun m ρ _ =>
  (θ_run Cert.ConvFwdRefIdeal.defs _ _).mono (fun r h => ⟨fun c => (h c).2, sem_eq_zero_of_no_sems rfl _⟩)
    (Cert.ConvFwdRefIdeal.Value.run (F := Ideal) m ρ)

/-- The call's result and the reference's are the same function of the three arguments. -/
theorem algebraic : Cert.algebraic_ConvFwdIdeal_ConvFwdRefIdeal := by
  intro m ρ m' ρ' _ hagree
  refine ⟨fun c => res (aP m c) (aW m c) (aZ m c), ?_, ?_⟩
  · exact (θ_run Cert.ConvFwdIdeal.defs _ _).mono (fun _ h c => ⟨(h c).1.trans (result m c), (h c).2⟩)
      (Cert.ConvFwdIdeal.Value.run_blocks (F := Ideal) m ρ)
  · refine (θ_run Cert.ConvFwdRefIdeal.defs _ _).mono (fun _ h c => ⟨(h c).1.trans ?_, (h c).2⟩)
      (Cert.ConvFwdRefIdeal.Value.run (F := Ideal) m' ρ')
    rw [(hagree c).1, (hagree c).2.1, (hagree c).2.2]
    simp only [← rZ.eq_1]
    funext i
    obtain ⟨n, q, rfl⟩ : ∃ (n : Fin 8192) (q : Fin 512), i = ix2 n q := ⟨i 0, i 1, eq_ix2 i⟩
    pointwise [res]
    rw [rZ_apply _ 2 n.val (by omega) n.isLt _ (by show n.val = 2 - 2 + n.val; omega), rZ_apply _ 1 n.val (by omega) n.isLt _ rfl,
      rZ_apply _ 0 n.val (by omega) n.isLt _ rfl, (Fin.ext (by show q.val = 0 * 512 + q.val; omega) : (⟨q.val, by omega⟩ : Fin 3072) = part 0 q)]

end Cert.ConvFwdValue

end
-- ==== Proof.OutProj.lean ====
/-
  The mixer's output projection on one device: the call's result and the reference's are the residual plus the product.
-/
module

public import proofs.«01_k».proof.Defs
public import proofs.«01_k».proof.Proof.Gen.OutProj.Frame
public import proofs.«01_k».proof.Proof.Gen.OutProjIdeal.Value
public import proofs.«01_k».proof.Proof.Gen.OutProjRefIdeal.Run
public import Idealize.ShloMosaic.Lib.Quiescent
public import Idealize.ShloMosaic.Lib.Pointwise
public import Idealize.ShloMosaic.Lib.Pipeline.ValueKit

@[expose] public section

set_option maxRecDepth 16384

noncomputable section

namespace Cert.OutProjValue

open Idealize.ShloMosaic Idealize.ShloMosaic.TcCoe Idealize.SL.Sem
open Cert.OutProjIdeal Cert.OutProjIdeal.Gen

variable (m : (ℓ : Loc nD τ sig) → Buf (Elt Ideal) ℓ)

/-- The residual plus the projection of every row. -/
def res (Y : S8192x1024.Idx → EReal) (W : S1024x1024.Idx → EReal) (R : S8192x1024.Idx → EReal) : S8192x1024.Idx → EReal := fun i =>
  R i + ∑ k : Fin 1024, Y (ix2 (i 0) k) * W (ix2 k (i 1))

theorem index_eq : ∀ t : Fin cfg0.N, win0_0.index t = ![t.val, 0] ∧ win0_1.index t = ![0, 0] ∧ win0_2.index t = ![t.val, 0]
    ∧ win0_3.index t = ![t.val, 0] := by decide +kernel

theorem lt8 (t : Fin cfg0.N) : t.val < 8 := (N_0 : cfg0.N = 8) ▸ t.isLt

/-- Row `r` of tile `t`. -/
abbrev row (t : Fin cfg0.N) (r : Fin 1024) : Fin 8192 := ⟨t.val * 1024 + r.val, by have := lt8 t; omega⟩

abbrev aY (c : Dev nD) : S8192x1024.Idx → EReal := m ((c : Thread nD τ).loc main_arg0)
abbrev aW (c : Dev nD) : S1024x1024.Idx → EReal := m ((c : Thread nD τ).loc main_arg1)
abbrev aR (c : Dev nD) : S8192x1024.Idx → EReal := m ((c : Thread nD τ).loc main_arg2)

theorem x0_apply (c : Dev nD) (t : Fin cfg0.N) (r q : Fin 1024) : (iblk m c 0 t : Vec Ideal S1024x1024 .bf16) (ix2 r q) = aY m c (ix2 (row t r) q) := by
  blk_ext [iblk, V, (index_eq t).1]
theorem x1_apply (c : Dev nD) (t : Fin cfg0.N) (k q : Fin 1024) : (iblk m c 1 t : Vec Ideal S1024x1024 .bf16) (ix2 k q) = aW m c (ix2 k q) := by
  blk_ext [iblk, V, (index_eq t).2.1]
theorem x2_apply (c : Dev nD) (t : Fin cfg0.N) (r q : Fin 1024) : (iblk m c 2 t : Vec Ideal S1024x1024 .f32) (ix2 r q) = aR m c (ix2 (row t r) q) := by
  blk_ext [iblk, V, (index_eq t).2.2.1]

theorem pay_apply (R : Vec Ideal S1024x1024 .f32) (Y W : Vec Ideal S1024x1024 .bf16) (r q : Fin 1024) :
    k0_pay1 R Y W (ix2 r q) = R (ix2 r q) + ∑ k : Fin 1024, Y (ix2 r k) * W (ix2 k q) := by
  pointwise [k0_pay1]

theorem out3 (c : Dev nD) (t : Fin cfg0.N) : (dats m 0 c).after 3 t = k0_pay1 (iblk m c 2 t) (iblk m c 0 t) (iblk m c 1 t) := by
  rw [after0_3]; frame_out

theorem final3 (c : Dev nD) : (dats m 0 c).arrAt 3 cfg0.N = res (aY m c) (aW m c) (aR m c) := by
  refine (dats m 0 c).arrAt_eq_of_covers 3 _ (by decide +kernel) fun t hf y => ?_
  blk_simp
  obtain ⟨r, q, rfl⟩ : ∃ (r q : Fin 1024), y = ix2 r q := ⟨y 0, y 1, eq_ix2 y⟩
  have hi : (win0_3.blk t).view.emb (ix2 r q) = ix2 (row t r) q := by blk_ext [(index_eq t).2.2.2]
  rw [hi, out3, pay_apply]
  simp only [x0_apply, x1_apply, x2_apply]
  rfl

theorem frame_bits : Cert.quiescent_OutProj := fun m ρ _ => Cert.OutProj.Gen.frame m ρ
theorem frame_ideal : Cert.quiescent_OutProjIdeal := fun m ρ _ => Cert.OutProjIdeal.Gen.frame m ρ
theorem ref_frame : Cert.quiescent_OutProjRefIdeal := fun m ρ _ =>
  (θ_run Cert.OutProjRefIdeal.defs _ _).mono (fun r h => ⟨fun c => (h c).2, sem_eq_zero_of_no_sems rfl _⟩)
    (Cert.OutProjRefIdeal.Value.run (F := Ideal) m ρ)

/-- The call's result and the reference's are the same function of the three arguments. -/
theorem algebraic : Cert.algebraic_OutProjIdeal_OutProjRefIdeal := by
  intro m ρ m' ρ' _ hagree
  refine ⟨fun c => res (aY m c) (aW m c) (aR m c), ?_, ?_⟩
  · exact (θ_run Cert.OutProjIdeal.defs _ _).mono (fun _ h c => ⟨(h c).1.trans (final3 m c), (h c).2⟩)
      (Cert.OutProjIdeal.Value.run_blocks (F := Ideal) m ρ)
  · refine (θ_run Cert.OutProjRefIdeal.defs _ _).mono (fun _ h c => ⟨(h c).1.trans ?_, (h c).2⟩)
      (Cert.OutProjRefIdeal.Value.run (F := Ideal) m' ρ')
    rw [(hagree c).1, (hagree c).2.1, (hagree c).2.2]
    funext i
    obtain ⟨n, q, rfl⟩ : ∃ (n : Fin 8192) (q : Fin 1024), i = ix2 n q := ⟨i 0, i 1, eq_ix2 i⟩
    pointwise [res]

end Cert.OutProjValue

end
-- ==== Proof.OutBwd.lean ====
/-
  The backward pass of the mixer's output projection on one device: the call's result and the reference's are the product with the
  transposed weight.
-/
module

public import proofs.«01_k».proof.Defs
public import proofs.«01_k».proof.Proof.Gen.OutBwd.Frame
public import proofs.«01_k».proof.Proof.Gen.OutBwdIdeal.Value
public import proofs.«01_k».proof.Proof.Gen.OutBwdRefIdeal.Run
public import Idealize.ShloMosaic.Lib.Quiescent
public import Idealize.ShloMosaic.Lib.Pointwise
public import Idealize.ShloMosaic.Lib.Pipeline.ValueKit

@[expose] public section

set_option maxRecDepth 16384

noncomputable section

namespace Cert.OutBwdValue

open Idealize.ShloMosaic Idealize.ShloMosaic.TcCoe Idealize.SL.Sem
open Cert.OutBwdIdeal Cert.OutBwdIdeal.Gen

variable (m : (ℓ : Loc nD τ sig) → Buf (Elt Ideal) ℓ)

/-- Every row times the transposed weight. -/
def res (D : S8192x1024.Idx → EReal) (W : S1024x1024.Idx → EReal) : S8192x1024.Idx → EReal := fun i =>
  ∑ k : Fin 1024, D (ix2 (i 0) k) * W (ix2 (i 1) k)

theorem index_eq : ∀ t : Fin cfg0.N, win0_0.index t = ![t.val, 0] ∧ win0_1.index t = ![0, 0] ∧ win0_2.index t = ![t.val, 0] := by decide +kernel

theorem lt8 (t : Fin cfg0.N) : t.val < 8 := (N_0 : cfg0.N = 8) ▸ t.isLt

/-- Row `r` of tile `t`. -/
abbrev row (t : Fin cfg0.N) (r : Fin 1024) : Fin 8192 := ⟨t.val * 1024 + r.val, by have := lt8 t; omega⟩

abbrev aD (c : Dev nD) : S8192x1024.Idx → EReal := m ((c : Thread nD τ).loc main_arg0)
abbrev aW (c : Dev nD) : S1024x1024.Idx → EReal := m ((c : Thread nD τ).loc main_arg1)

theorem x0_apply (c : Dev nD) (t : Fin cfg0.N) (r q : Fin 1024) : (iblk m c 0 t : Vec Ideal S1024x1024 .f32) (ix2 r q) = aD m c (ix2 (row t r) q) := by
  blk_ext [iblk, V, (index_eq t).1]
theorem x1_apply (c : Dev nD) (t : Fin cfg0.N) (k q : Fin 1024) : (iblk m c 1 t : Vec Ideal S1024x1024 .bf16) (ix2 k q) = aW m c (ix2 k q) := by
  blk_ext [iblk, V, (index_eq t).2.1]

theorem pay_apply (D : Vec Ideal S1024x1024 .f32) (W : Vec Ideal S1024x1024 .bf16) (r q : Fin 1024) :
    k0_pay1 D W (ix2 r q) = ∑ k : Fin 1024, D (ix2 r k) * W (ix2 q k) := by
  pointwise [k0_pay1]

theorem out2 (c : Dev nD) (t : Fin cfg0.N) : (dats m 0 c).after 2 t = k0_pay1 (iblk m c 0 t) (iblk m c 1 t) := by
  rw [after0_2]; frame_out

theorem final2 (c : Dev nD) : (dats m 0 c).arrAt 2 cfg0.N = res (aD m c) (aW m c) := by
  refine (dats m 0 c).arrAt_eq_of_covers 2 _ (by decide +kernel) fun t hf y => ?_
  blk_simp
  obtain ⟨r, q, rfl⟩ : ∃ (r q : Fin 1024), y = ix2 r q := ⟨y 0, y 1, eq_ix2 y⟩
  have hi : (win0_2.blk t).view.emb (ix2 r q) = ix2 (row t r) q := by blk_ext [(index_eq t).2.2]
  rw [hi, out2, pay_apply]
  simp only [x0_apply, x1_apply]
  rfl

theorem frame_bits : Cert.quiescent_OutBwd := fun m ρ _ => Cert.OutBwd.Gen.frame m ρ
theorem frame_ideal : Cert.quiescent_OutBwdIdeal := fun m ρ _ => Cert.OutBwdIdeal.Gen.frame m ρ
theorem ref_frame : Cert.quiescent_OutBwdRefIdeal := fun m ρ _ =>
  (θ_run Cert.OutBwdRefIdeal.defs _ _).mono (fun r h => ⟨fun c => (h c).2, sem_eq_zero_of_no_sems rfl _⟩)
    (Cert.OutBwdRefIdeal.Value.run (F := Ideal) m ρ)

/-- The call's result and the reference's are the same function of the two arguments. -/
theorem algebraic : Cert.algebraic_OutBwdIdeal_OutBwdRefIdeal := by
  intro m ρ m' ρ' _ hagree
  refine ⟨fun c => res (aD m c) (aW m c), ?_, ?_⟩
  · exact (θ_run Cert.OutBwdIdeal.defs _ _).mono (fun _ h c => ⟨(h c).1.trans (final2 m c), (h c).2⟩)
      (Cert.OutBwdIdeal.Value.run_blocks (F := Ideal) m ρ)
  · refine (θ_run Cert.OutBwdRefIdeal.defs _ _).mono (fun _ h c => ⟨(h c).1.trans ?_, (h c).2⟩)
      (Cert.OutBwdRefIdeal.Value.run (F := Ideal) m' ρ')
    rw [(hagree c).1, (hagree c).2]
    funext i
    obtain ⟨n, q, rfl⟩ : ∃ (n : Fin 8192) (q : Fin 1024), i = ix2 n q := ⟨i 0, i 1, eq_ix2 i⟩
    pointwise [res]

end Cert.OutBwdValue

end
-- ==== Proof.GradSum.lean ====
/-
  A product over the rows that is added up over runs of grid points, one block of rows per point: the last point of a
  run holds the sum over all rows.
-/
module

public import proofs.«01_k».proof.Proof.NormBwd
public import Idealize.ShloMosaic.Lib.Pipeline.Value

@[expose] public section

namespace Cert.GradSum

open Idealize.ShloMosaic

theorem lt_of_block {J L j r : ℕ} (hj : j < J) (hr : r < L) : j * L + r < J * L :=
  calc j * L + r < j * L + L := Nat.add_lt_add_left hr _
    _ = (j + 1) * L := (Nat.succ_mul j L).symm
    _ ≤ J * L := Nat.mul_le_mul_right L hj

/-- After the run's point `j` the first `j + 1` blocks of rows are added up. -/
theorem prefix_sum {N J L : ℕ} {ι β : Type} [AddCommMonoid β] (a : (n : ℕ) → n < N → ι → β) (g : (n : ℕ) → n < N → (ι → β) → ι → β)
    (b : ℕ) (f : ι → Fin (J * L) → β)
    (ha : ∀ (h : b < N) (h0 : 0 < J) (i : ι), a b h i = ∑ r : Fin L, f i ⟨0 * L + r.val, lt_of_block h0 r.isLt⟩)
    (hg : ∀ (j : ℕ) (hj : j < J) (h : b + j < N) (acc : ι → β) (i : ι),
      g (b + j) h acc i = acc i + ∑ r : Fin L, f i ⟨j * L + r.val, lt_of_block hj r.isLt⟩) :
    ∀ (j : ℕ) (hj : j < J) (h : b + j < N) (i : ι), Pipeline.accAt a g b j h i
      = ∑ s : Fin (j + 1), ∑ r : Fin L, f i ⟨s.val * L + r.val, lt_of_block (Nat.lt_of_lt_of_le s.isLt hj) r.isLt⟩
  | 0, hj, h, i => by
    rw [Pipeline.accAt_zero, Fin.sum_univ_one]
    exact ha h hj i
  | j + 1, hj, h, i => by
    rw [Pipeline.accAt_succ, hg (j + 1) hj, prefix_sum a g b f ha hg j (Nat.lt_of_succ_lt hj), Fin.sum_univ_castSucc (n := j + 1)]
    rfl

/-- After the run's last point all rows are added up. -/
theorem run_sum {N J L : ℕ} {ι β : Type} [AddCommMonoid β] (a : (n : ℕ) → n < N → ι → β) (g : (n : ℕ) → n < N → (ι → β) → ι → β)
    (b : ℕ) (f : ι → Fin (J * L) → β)
    (ha : ∀ (h : b < N) (h0 : 0 < J) (i : ι), a b h i = ∑ r : Fin L, f i ⟨0 * L + r.val, lt_of_block h0 r.isLt⟩)
    (hg : ∀ (j : ℕ) (hj : j < J) (h : b + j < N) (acc : ι → β) (i : ι),
      g (b + j) h acc i = acc i + ∑ r : Fin L, f i ⟨j * L + r.val, lt_of_block hj r.isLt⟩)
    (j : ℕ) (hj : j + 1 = J) (h : b + j < N) (i : ι) : Pipeline.accAt a g b j h i = ∑ x, f i x := by
  subst hj
  rw [prefix_sum a g b f ha hg j (Nat.lt_succ_self j), NormBwd.sum_split (j + 1) L (f i) (fun s r => lt_of_block s.isLt r.isLt)]

/-- The same for the product of two factors, where a point's number is its run's and its own, and the run starts from zeros. -/
theorem prod_sum {N J L P Q : ℕ} (g : (n : ℕ) → n < N → ((⟨3, ![1, P, Q]⟩ : Shape).Idx → EReal) → (⟨3, ![1, P, Q]⟩ : Shape).Idx → EReal)
    (z : (⟨3, ![1, P, Q]⟩ : Shape).Idx → EReal) (hz : ∀ p q, z (ix3 0 p q) = 0) (s : ℕ) (A : Fin (J * L) → Fin P → EReal) (B : Fin (J * L) → Fin Q → EReal)
    (h0 : 0 < J) (hg : ∀ (n : ℕ) (h : n < N), n / J = s → ∀ (acc) (p : Fin P) (q : Fin Q), g n h acc (ix3 0 p q)
      = acc (ix3 0 p q) + ∑ r : Fin L, A ⟨n % J * L + r.val, lt_of_block (Nat.mod_lt _ h0) r.isLt⟩ p * B ⟨n % J * L + r.val, lt_of_block (Nat.mod_lt _ h0) r.isLt⟩ q)
    (j : ℕ) (hj : j + 1 = J) (h : J * s + j < N) (p : Fin P) (q : Fin Q) :
    Pipeline.accAt (fun n h => g n h z) g (J * s) j h (ix3 0 p q) = ∑ x, A x p * B x q := by
  have hs (j : ℕ) (hj : j < J) : (J * s + j) / J = s := by rw [Nat.mul_add_div h0, Nat.div_eq_of_lt hj, Nat.add_zero]
  have hm (j : ℕ) (hj : j < J) : (J * s + j) % J = j := by rw [Nat.mul_add_mod, Nat.mod_eq_of_lt hj]
  have e (j : ℕ) (hj : j < J) (h : J * s + j < N) (acc) (i : (⟨3, ![1, P, Q]⟩ : Shape).Idx) : g (J * s + j) h acc i
      = acc i + ∑ r : Fin L, A ⟨j * L + r.val, lt_of_block hj r.isLt⟩ (i 1) * B ⟨j * L + r.val, lt_of_block hj r.isLt⟩ (i 2) := by
    obtain ⟨o, p, q, rfl⟩ : ∃ (o : Fin 1) (p : Fin P) (q : Fin Q), i = ix3 o p q := ⟨i 0, i 1, i 2, eq_ix3 i⟩
    obtain rfl : o = 0 := Subsingleton.elim _ _
    refine (hg _ h (hs j hj) acc p q).trans ?_
    simp only [hm j hj]
    rfl
  refine run_sum _ g (J * s) (fun i x => A x (i 1) * B x (i 2)) (fun h _ i => ?_) (fun j hj h acc i => e j hj h acc i) j hj h (ix3 0 p q)
  obtain ⟨o, p, q, rfl⟩ : ∃ (o : Fin 1) (p : Fin P) (q : Fin Q), i = ix3 o p q := ⟨i 0, i 1, i 2, eq_ix3 i⟩
  obtain rfl : o = 0 := Subsingleton.elim _ _
  exact (e 0 h0 h z _).trans (by rw [hz, zero_add])

end Cert.GradSum

end
-- ==== Proof.GradFfn.lean ====
/-
  The gradients of the feed-forward weights on one device: the call's result and the reference's are the product over the
  rows, slab by slab.
-/
module

public import proofs.«01_k».proof.Defs
public import proofs.«01_k».proof.Proof.GradSum
public import proofs.«01_k».proof.Proof.Gen.GradFfn.Frame
public import proofs.«01_k».proof.Proof.Gen.GradFfnIdeal.Value
public import proofs.«01_k».proof.Proof.Gen.GradFfnRefIdeal.Run
public import Idealize.ShloMosaic.Lib.Quiescent
public import Idealize.ShloMosaic.Lib.Pointwise
public import Idealize.ShloMosaic.Lib.Pipeline.ValueKit

@[expose] public section

set_option maxRecDepth 16384

noncomputable section

namespace Cert.GradFfnValue

open Idealize.ShloMosaic Idealize.ShloMosaic.TcCoe Idealize.SL.Sem
open Cert.GradFfnIdeal Cert.GradFfnIdeal.Gen Cert.GradFfnIdeal.Value

variable (m : (ℓ : Loc nD τ sig) → Buf (Elt Ideal) ℓ)

/-- The product over the rows, of every slab. -/
def res (A : S4x8192x704.Idx → EReal) (B : S8192x1024.Idx → EReal) : S4x704x1024.Idx → EReal := fun i =>
  ∑ n : Fin 8192, A (ix3 (i 0) n (i 1)) * B (ix2 n (i 2))

theorem index_eq : ∀ t : Fin cfg0.N, win0_0.index t = ![t.val / 2, t.val % 2, 0] ∧ win0_1.index t = ![t.val % 2, 0]
    ∧ win0_2.index t = ![t.val / 2, 0, 0] := by decide +kernel

theorem lt8 (t : Fin cfg0.N) : t.val < 8 := (N_0 : cfg0.N = 8) ▸ t.isLt

/-- The slab of a point, and row `r` of its block of rows. -/
abbrev slab (t : Fin cfg0.N) : Fin 4 := ⟨t.val / 2, by have := lt8 t; omega⟩
abbrev row (t : Fin cfg0.N) (r : Fin 4096) : Fin 8192 := ⟨t.val % 2 * 4096 + r.val, by omega⟩

abbrev aA (c : Dev nD) : S4x8192x704.Idx → EReal := m ((c : Thread nD τ).loc main_arg0)
abbrev aB (c : Dev nD) : S8192x1024.Idx → EReal := m ((c : Thread nD τ).loc main_arg1)

theorem x0_apply (c : Dev nD) (t : Fin cfg0.N) (r : Fin 4096) (p : Fin 704) :
    (iblk m c 0 t : Vec Ideal S1x4096x704 .bf16) (ix3 0 r p) = aA m c (ix3 (slab t) (row t r) p) := by
  blk_ext [iblk, V, (index_eq t).1]
theorem x1_apply (c : Dev nD) (t : Fin cfg0.N) (r : Fin 4096) (q : Fin 1024) :
    (iblk m c 1 t : Vec Ideal S4096x1024 .bf16) (ix2 r q) = aB m c (ix2 (row t r) q) := by
  blk_ext [iblk, V, (index_eq t).2.1]

theorem pay1_apply (p : Fin 704) (q : Fin 1024) : k0_pay1 (F := Ideal) (ix3 0 p q) = 0 := by
  pointwise [k0_pay1]
theorem pay2_apply (D : Vec Ideal S1x704x1024 .f32) (A : Vec Ideal S1x4096x704 .bf16) (B : Vec Ideal S4096x1024 .bf16)
    (p : Fin 704) (q : Fin 1024) : k0_pay2 D A B (ix3 0 p q) = D (ix3 0 p q) + ∑ r : Fin 4096, A (ix3 0 r p) * B (ix2 r q) := by
  pointwise [k0_pay2]

/-- After a run's last point its block holds the products over all rows. -/
theorem last (c : Dev nD) (t : Fin cfg0.N) (ht : t.val % 2 = 1) (p : Fin 704) (q : Fin 1024) :
    outsAt0 m c t.val t.isLt (ix3 0 p q) = res (aA m c) (aB m c) (ix3 (slab t) p q) := by
  rw [outsAt_2_eq]
  refine GradSum.prod_sum (J := 2) (L := 4096) (step2 m c) (k0_pay1 (F := Ideal)) pay1_apply (t.val / 2) (fun n p => aA m c (ix3 (slab t) n p))
    (fun n q => aB m c (ix2 n q)) (by decide) (fun n h hs acc p q => ?_) (t.val % 2) (by omega) _ p q
  rw [show slab t = slab ⟨n, h⟩ from Fin.ext hs.symm]
  refine (pay2_apply _ _ _ p q).trans ?_
  simp only [x0_apply, x1_apply]

theorem result (c : Dev nD) : (dats m 0 c).arrAt 2 cfg0.N = res (aA m c) (aB m c) := by
  refine (dats m 0 c).arrAt_eq_of_covers 2 _ (by decide +kernel) fun t hf y => ?_
  blk_simp
  obtain ⟨z, p, q, rfl⟩ : ∃ (z : Fin 1) (p : Fin 704) (q : Fin 1024), y = ix3 z p q := ⟨y 0, y 1, y 2, eq_ix3 y⟩
  obtain rfl : z = 0 := Subsingleton.elim _ _
  have hi : (win0_2.blk t).view.emb (ix3 0 p q) = ix3 (slab t) p q := by blk_ext [(index_eq t).2.2]
  rw [hi, after0_2, last m c t ((flush0_2 t).1 hf)]

theorem frame_bits : Cert.quiescent_GradFfn := fun m ρ _ => Cert.GradFfn.Gen.frame m ρ
theorem frame_ideal : Cert.quiescent_GradFfnIdeal := fun m ρ _ => Cert.GradFfnIdeal.Gen.frame m ρ
theorem ref_frame : Cert.quiescent_GradFfnRefIdeal := fun m ρ _ =>
  (θ_run Cert.GradFfnRefIdeal.defs _ _).mono (fun r h => ⟨fun c => (h c).2, sem_eq_zero_of_no_sems rfl _⟩)
    (Cert.GradFfnRefIdeal.Value.run (F := Ideal) m ρ)

/-- The call's result and the reference's are the same function of the two arguments. -/
theorem algebraic : Cert.algebraic_GradFfnIdeal_GradFfnRefIdeal := by
  intro m ρ m' ρ' _ hagree
  refine ⟨fun c => res (aA m c) (aB m c), ?_, ?_⟩
  · exact (θ_run Cert.GradFfnIdeal.defs _ _).mono (fun _ h c => ⟨(h c).1.trans (result m c), (h c).2⟩)
      (Cert.GradFfnIdeal.Value.run_blocks (F := Ideal) m ρ)
  · refine (θ_run Cert.GradFfnRefIdeal.defs _ _).mono (fun _ h c => ⟨(h c).1.trans ?_, (h c).2⟩)
      (Cert.GradFfnRefIdeal.Value.run (F := Ideal) m' ρ')
    rw [(hagree c).1, (hagree c).2]
    funext i
    obtain ⟨s, p, q, rfl⟩ : ∃ (s : Fin 4) (p : Fin 704) (q : Fin 1024), i = ix3 s p q := ⟨i 0, i 1, i 2, eq_ix3 i⟩
    pointwise [res]

end Cert.GradFfnValue

end
-- ==== Proof.GradProj.lean ====
/-
  The gradient of the per-layer embedding's projection on one device: the call's result and the reference's are the product over
  the rows, the second factor's columns in four blocks.
-/
module

public import proofs.«01_k».proof.Defs
public import proofs.«01_k».proof.Proof.GradSum
public import proofs.«01_k».proof.Proof.Gen.GradProj.Frame
public import proofs.«01_k».proof.Proof.Gen.GradProjIdeal.Value
public import proofs.«01_k».proof.Proof.Gen.GradProjRefIdeal.Run
public import Idealize.ShloMosaic.Lib.Quiescent
public import Idealize.ShloMosaic.Lib.Pointwise
public import Idealize.ShloMosaic.Lib.Pipeline.ValueKit

@[expose] public section

set_option maxRecDepth 16384

noncomputable section

namespace Cert.GradProjValue

open Idealize.ShloMosaic Idealize.ShloMosaic.TcCoe Idealize.SL.Sem
open Cert.GradProjIdeal Cert.GradProjIdeal.Gen Cert.GradProjIdeal.Value

variable (m : (ℓ : Loc nD τ sig) → Buf (Elt Ideal) ℓ) (c : Dev nD)

/-- A column of a block, in the whole factor. -/
abbrev col (s : Fin 4) (q : Fin 256) : Fin 1024 := ⟨s.val * 256 + q.val, by omega⟩

/-- The product over the rows, block by block. -/
def res (A : S8192x256.Idx → EReal) (B : S8192x1024.Idx → EReal) : S4x256x256.Idx → EReal := fun i =>
  ∑ n : Fin 8192, A (ix2 n (i 1)) * B (ix2 n (col (i 0) (i 2)))

theorem index_eq : ∀ t : Fin cfg0.N, win0_0.index t = ![t.val % 4, 0] ∧ win0_1.index t = ![t.val % 4, t.val / 4]
    ∧ win0_2.index t = ![t.val / 4, 0, 0] := by decide +kernel

/-- The block of columns of a point, and row `r` of its block of rows. -/
abbrev slab (t : Fin cfg0.N) : Fin 4 := ⟨t.val / 4, by have : t.val < 16 := (N_0 : cfg0.N = 16) ▸ t.isLt; omega⟩
abbrev row (t : Fin cfg0.N) (r : Fin 2048) : Fin 8192 := ⟨t.val % 4 * 2048 + r.val, by omega⟩

abbrev aA : S8192x256.Idx → EReal := m ((c : Thread nD τ).loc main_arg0)
abbrev aB : S8192x1024.Idx → EReal := m ((c : Thread nD τ).loc main_arg1)

theorem x0_apply (t : Fin cfg0.N) (r : Fin 2048) (p : Fin 256) :
    (iblk m c 0 t : Vec Ideal S2048x256 .f32) (ix2 r p) = aA m c (ix2 (row t r) p) := by
  blk_ext [iblk, V, (index_eq t).1]
theorem x1_apply (t : Fin cfg0.N) (r : Fin 2048) (q : Fin 256) :
    (iblk m c 1 t : Vec Ideal S2048x256 .bf16) (ix2 r q) = aB m c (ix2 (row t r) (col (slab t) q)) := by
  blk_ext [iblk, V, (index_eq t).2.1]

theorem pay1_apply (p : Fin 256) (q : Fin 256) : k0_pay1 (F := Ideal) (ix3 0 p q) = 0 := by
  pointwise [k0_pay1]
theorem pay2_apply (D : Vec Ideal S1x256x256 .f32) (A : Vec Ideal S2048x256 .f32) (B : Vec Ideal S2048x256 .bf16)
    (p : Fin 256) (q : Fin 256) : k0_pay2 D A B (ix3 0 p q) = D (ix3 0 p q) + ∑ r : Fin 2048, A (ix2 r p) * B (ix2 r q) := by
  pointwise [k0_pay2]

/-- After a run's last point its block holds the products over all rows. -/
theorem last (t : Fin cfg0.N) (ht : t.val % 4 = 3) (p : Fin 256) (q : Fin 256) :
    outsAt0 m c t.val t.isLt (ix3 0 p q) = res (aA m c) (aB m c) (ix3 (slab t) p q) := by
  rw [outsAt_2_eq]
  refine GradSum.prod_sum (J := 4) (L := 2048) (step2 m c) (k0_pay1 (F := Ideal)) pay1_apply (t.val / 4) (fun n p => aA m c (ix2 n p))
    (fun n q => aB m c (ix2 n (col (slab t) q))) (by decide) (fun n h hs acc p q => ?_) (t.val % 4) (by omega) _ p q
  rw [show slab t = slab ⟨n, h⟩ from Fin.ext hs.symm]
  refine (pay2_apply _ _ _ p q).trans ?_
  simp only [x0_apply, x1_apply]

theorem result : (dats m 0 c).arrAt 2 cfg0.N = res (aA m c) (aB m c) := by
  refine (dats m 0 c).arrAt_eq_of_covers 2 _ (by decide +kernel) fun t hf y => ?_
  blk_simp
  obtain ⟨z, p, q, rfl⟩ : ∃ (z : Fin 1) (p : Fin 256) (q : Fin 256), y = ix3 z p q := ⟨y 0, y 1, y 2, eq_ix3 y⟩
  obtain rfl : z = 0 := Subsingleton.elim _ _
  have hi : (win0_2.blk t).view.emb (ix3 0 p q) = ix3 (slab t) p q := by blk_ext [(index_eq t).2.2]
  rw [hi, after0_2, last m c t ((flush0_2 t).1 hf)]

theorem frame_bits : Cert.quiescent_GradProj := fun m ρ _ => Cert.GradProj.Gen.frame m ρ
theorem frame_ideal : Cert.quiescent_GradProjIdeal := fun m ρ _ => Cert.GradProjIdeal.Gen.frame m ρ
theorem ref_frame : Cert.quiescent_GradProjRefIdeal := fun m ρ _ =>
  (θ_run Cert.GradProjRefIdeal.defs _ _).mono (fun r h => ⟨fun c => (h c).2, sem_eq_zero_of_no_sems rfl _⟩)
    (Cert.GradProjRefIdeal.Value.run (F := Ideal) m ρ)

/-- The call's result and the reference's are the same function of the two arguments. -/
theorem algebraic : Cert.algebraic_GradProjIdeal_GradProjRefIdeal := by
  intro m ρ m' ρ' _ hagree
  refine ⟨fun c => res (aA m c) (aB m c), ?_, ?_⟩
  · exact (θ_run Cert.GradProjIdeal.defs _ _).mono (fun _ h c => ⟨(h c).1.trans (result m c), (h c).2⟩)
      (Cert.GradProjIdeal.Value.run_blocks (F := Ideal) m ρ)
  · refine (θ_run Cert.GradProjRefIdeal.defs _ _).mono (fun _ h c => ⟨(h c).1.trans ?_, (h c).2⟩)
      (Cert.GradProjRefIdeal.Value.run (F := Ideal) m' ρ')
    rw [(hagree c).1, (hagree c).2]
    funext i
    obtain ⟨s, p, q, rfl⟩ : ∃ (s : Fin 4) (p : Fin 256) (q : Fin 256), i = ix3 s p q := ⟨i 0, i 1, i 2, eq_ix3 i⟩
    pointwise [res]

end Cert.GradProjValue

end
-- ==== Proof.GradIn.lean ====
/-
  The gradient of the mixer's input projection on one device: the call's result and the reference's are the product over
  the rows, the second factor's columns in four blocks.
-/
module

public import proofs.«01_k».proof.Defs
public import proofs.«01_k».proof.Proof.GradSum
public import proofs.«01_k».proof.Proof.Gen.GradIn.Frame
public import proofs.«01_k».proof.Proof.Gen.GradInIdeal.Value
public import proofs.«01_k».proof.Proof.Gen.GradInRefIdeal.Run
public import Idealize.ShloMosaic.Lib.Quiescent
public import Idealize.ShloMosaic.Lib.Pointwise
public import Idealize.ShloMosaic.Lib.Pipeline.ValueKit

@[expose] public section

set_option maxRecDepth 16384

noncomputable section

namespace Cert.GradInValue

open Idealize.ShloMosaic Idealize.ShloMosaic.TcCoe Idealize.SL.Sem
open Cert.GradInIdeal Cert.GradInIdeal.Gen Cert.GradInIdeal.Value

variable (m : (ℓ : Loc nD τ sig) → Buf (Elt Ideal) ℓ) (c : Dev nD)

/-- A column of a block, in the whole factor. -/
abbrev col (s : Fin 4) (q : Fin 768) : Fin 3072 := ⟨s.val * 768 + q.val, by omega⟩

/-- The product over the rows, block by block. -/
def res (A : S8192x1024.Idx → EReal) (B : S8192x3072.Idx → EReal) : S4x1024x768.Idx → EReal := fun i =>
  ∑ n : Fin 8192, A (ix2 n (i 1)) * B (ix2 n (col (i 0) (i 2)))

theorem index_eq : ∀ t : Fin cfg0.N, win0_0.index t = ![t.val % 4, 0] ∧ win0_1.index t = ![t.val % 4, t.val / 4]
    ∧ win0_2.index t = ![t.val / 4, 0, 0] := by decide +kernel

/-- The block of columns of a point, and row `r` of its block of rows. -/
abbrev slab (t : Fin cfg0.N) : Fin 4 := ⟨t.val / 4, by have : t.val < 16 := (N_0 : cfg0.N = 16) ▸ t.isLt; omega⟩
abbrev row (t : Fin cfg0.N) (r : Fin 2048) : Fin 8192 := ⟨t.val % 4 * 2048 + r.val, by omega⟩

abbrev aA : S8192x1024.Idx → EReal := m ((c : Thread nD τ).loc main_arg0)
abbrev aB : S8192x3072.Idx → EReal := m ((c : Thread nD τ).loc main_arg1)

theorem x0_apply (t : Fin cfg0.N) (r : Fin 2048) (p : Fin 1024) :
    (iblk m c 0 t : Vec Ideal S2048x1024 .bf16) (ix2 r p) = aA m c (ix2 (row t r) p) := by
  blk_ext [iblk, V, (index_eq t).1]
theorem x1_apply (t : Fin cfg0.N) (r : Fin 2048) (q : Fin 768) :
    (iblk m c 1 t : Vec Ideal S2048x768 .bf16) (ix2 r q) = aB m c (ix2 (row t r) (col (slab t) q)) := by
  blk_ext [iblk, V, (index_eq t).2.1]

theorem pay1_apply (p : Fin 1024) (q : Fin 768) : k0_pay1 (F := Ideal) (ix3 0 p q) = 0 := by
  pointwise [k0_pay1]
theorem pay2_apply (D : Vec Ideal S1x1024x768 .f32) (A : Vec Ideal S2048x1024 .bf16) (B : Vec Ideal S2048x768 .bf16)
    (p : Fin 1024) (q : Fin 768) : k0_pay2 D A B (ix3 0 p q) = D (ix3 0 p q) + ∑ r : Fin 2048, A (ix2 r p) * B (ix2 r q) := by
  pointwise [k0_pay2]

/-- After a run's last point its block holds the products over all rows. -/
theorem last (t : Fin cfg0.N) (ht : t.val % 4 = 3) (p : Fin 1024) (q : Fin 768) :
    outsAt0 m c t.val t.isLt (ix3 0 p q) = res (aA m c) (aB m c) (ix3 (slab t) p q) := by
  rw [outsAt_2_eq]
  refine GradSum.prod_sum (J := 4) (L := 2048) (step2 m c) (k0_pay1 (F := Ideal)) pay1_apply (t.val / 4) (fun n p => aA m c (ix2 n p))
    (fun n q => aB m c (ix2 n (col (slab t) q))) (by decide) (fun n h hs acc p q => ?_) (t.val % 4) (by omega) _ p q
  rw [show slab t = slab ⟨n, h⟩ from Fin.ext hs.symm]
  refine (pay2_apply _ _ _ p q).trans ?_
  simp only [x0_apply, x1_apply]

theorem result : (dats m 0 c).arrAt 2 cfg0.N = res (aA m c) (aB m c) := by
  refine (dats m 0 c).arrAt_eq_of_covers 2 _ (by decide +kernel) fun t hf y => ?_
  blk_simp
  obtain ⟨z, p, q, rfl⟩ : ∃ (z : Fin 1) (p : Fin 1024) (q : Fin 768), y = ix3 z p q := ⟨y 0, y 1, y 2, eq_ix3 y⟩
  obtain rfl : z = 0 := Subsingleton.elim _ _
  have hi : (win0_2.blk t).view.emb (ix3 0 p q) = ix3 (slab t) p q := by blk_ext [(index_eq t).2.2]
  rw [hi, after0_2, last m c t ((flush0_2 t).1 hf)]

theorem frame_bits : Cert.quiescent_GradIn := fun m ρ _ => Cert.GradIn.Gen.frame m ρ
theorem frame_ideal : Cert.quiescent_GradInIdeal := fun m ρ _ => Cert.GradInIdeal.Gen.frame m ρ
theorem ref_frame : Cert.quiescent_GradInRefIdeal := fun m ρ _ =>
  (θ_run Cert.GradInRefIdeal.defs _ _).mono (fun r h => ⟨fun c => (h c).2, sem_eq_zero_of_no_sems rfl _⟩)
    (Cert.GradInRefIdeal.Value.run (F := Ideal) m ρ)

/-- The call's result and the reference's are the same function of the two arguments. -/
theorem algebraic : Cert.algebraic_GradInIdeal_GradInRefIdeal := by
  intro m ρ m' ρ' _ hagree
  refine ⟨fun c => res (aA m c) (aB m c), ?_, ?_⟩
  · exact (θ_run Cert.GradInIdeal.defs _ _).mono (fun _ h c => ⟨(h c).1.trans (result m c), (h c).2⟩)
      (Cert.GradInIdeal.Value.run_blocks (F := Ideal) m ρ)
  · refine (θ_run Cert.GradInRefIdeal.defs _ _).mono (fun _ h c => ⟨(h c).1.trans ?_, (h c).2⟩)
      (Cert.GradInRefIdeal.Value.run (F := Ideal) m' ρ')
    rw [(hagree c).1, (hagree c).2]
    funext i
    obtain ⟨s, p, q, rfl⟩ : ∃ (s : Fin 4) (p : Fin 1024) (q : Fin 768), i = ix3 s p q := ⟨i 0, i 1, i 2, eq_ix3 i⟩
    pointwise [res]

end Cert.GradInValue

end
-- ==== Proof.GradGate.lean ====
/-
  The gradient of the per-layer embedding's gate on one device: the call's result and the reference's are the product over
  the rows, the first factor's columns in four blocks.
-/
module

public import proofs.«01_k».proof.Defs
public import proofs.«01_k».proof.Proof.GradSum
public import proofs.«01_k».proof.Proof.Gen.GradGate.Frame
public import proofs.«01_k».proof.Proof.Gen.GradGateIdeal.Value
public import proofs.«01_k».proof.Proof.Gen.GradGateRefIdeal.Run
public import Idealize.ShloMosaic.Lib.Quiescent
public import Idealize.ShloMosaic.Lib.Pointwise
public import Idealize.ShloMosaic.Lib.Pipeline.ValueKit

@[expose] public section

set_option maxRecDepth 16384

noncomputable section

namespace Cert.GradGateValue

open Idealize.ShloMosaic Idealize.ShloMosaic.TcCoe Idealize.SL.Sem
open Cert.GradGateIdeal Cert.GradGateIdeal.Gen Cert.GradGateIdeal.Value

variable (m : (ℓ : Loc nD τ sig) → Buf (Elt Ideal) ℓ) (c : Dev nD)

/-- A column of a block, in the whole factor. -/
abbrev col (s : Fin 4) (p : Fin 256) : Fin 1024 := ⟨s.val * 256 + p.val, by omega⟩

/-- The product over the rows, block by block. -/
def res (A B : S8192x1024.Idx → EReal) : S4x256x1024.Idx → EReal := fun i =>
  ∑ n : Fin 8192, A (ix2 n (col (i 0) (i 1))) * B (ix2 n (i 2))

theorem index_eq : ∀ t : Fin cfg0.N, win0_0.index t = ![t.val % 4, t.val / 4] ∧ win0_1.index t = ![t.val % 4, 0]
    ∧ win0_2.index t = ![t.val / 4, 0, 0] := by decide +kernel

/-- The block of columns of a point, and row `r` of its block of rows. -/
abbrev slab (t : Fin cfg0.N) : Fin 4 := ⟨t.val / 4, by have : t.val < 16 := (N_0 : cfg0.N = 16) ▸ t.isLt; omega⟩
abbrev row (t : Fin cfg0.N) (r : Fin 2048) : Fin 8192 := ⟨t.val % 4 * 2048 + r.val, by omega⟩

abbrev aA : S8192x1024.Idx → EReal := m ((c : Thread nD τ).loc main_arg0)
abbrev aB : S8192x1024.Idx → EReal := m ((c : Thread nD τ).loc main_arg1)

theorem x0_apply (t : Fin cfg0.N) (r : Fin 2048) (p : Fin 256) :
    (iblk m c 0 t : Vec Ideal S2048x256 .bf16) (ix2 r p) = aA m c (ix2 (row t r) (col (slab t) p)) := by
  blk_ext [iblk, V, (index_eq t).1]
theorem x1_apply (t : Fin cfg0.N) (r : Fin 2048) (q : Fin 1024) :
    (iblk m c 1 t : Vec Ideal S2048x1024 .bf16) (ix2 r q) = aB m c (ix2 (row t r) q) := by
  blk_ext [iblk, V, (index_eq t).2.1]

theorem pay1_apply (p : Fin 256) (q : Fin 1024) : k0_pay1 (F := Ideal) (ix3 0 p q) = 0 := by
  pointwise [k0_pay1]
theorem pay2_apply (D : Vec Ideal S1x256x1024 .f32) (A : Vec Ideal S2048x256 .bf16) (B : Vec Ideal S2048x1024 .bf16)
    (p : Fin 256) (q : Fin 1024) : k0_pay2 D A B (ix3 0 p q) = D (ix3 0 p q) + ∑ r : Fin 2048, A (ix2 r p) * B (ix2 r q) := by
  pointwise [k0_pay2]

/-- After a run's last point its block holds the products over all rows. -/
theorem last (t : Fin cfg0.N) (ht : t.val % 4 = 3) (p : Fin 256) (q : Fin 1024) :
    outsAt0 m c t.val t.isLt (ix3 0 p q) = res (aA m c) (aB m c) (ix3 (slab t) p q) := by
  rw [outsAt_2_eq]
  refine GradSum.prod_sum (J := 4) (L := 2048) (step2 m c) (k0_pay1 (F := Ideal)) pay1_apply (t.val / 4) (fun n p => aA m c (ix2 n (col (slab t) p)))
    (fun n q => aB m c (ix2 n q)) (by decide) (fun n h hs acc p q => ?_) (t.val % 4) (by omega) _ p q
  rw [show slab t = slab ⟨n, h⟩ from Fin.ext hs.symm]
  refine (pay2_apply _ _ _ p q).trans ?_
  simp only [x0_apply, x1_apply]

theorem result : (dats m 0 c).arrAt 2 cfg0.N = res (aA m c) (aB m c) := by
  refine (dats m 0 c).arrAt_eq_of_covers 2 _ (by decide +kernel) fun t hf y => ?_
  blk_simp
  obtain ⟨z, p, q, rfl⟩ : ∃ (z : Fin 1) (p : Fin 256) (q : Fin 1024), y = ix3 z p q := ⟨y 0, y 1, y 2, eq_ix3 y⟩
  obtain rfl : z = 0 := Subsingleton.elim _ _
  have hi : (win0_2.blk t).view.emb (ix3 0 p q) = ix3 (slab t) p q := by blk_ext [(index_eq t).2.2]
  rw [hi, after0_2, last m c t ((flush0_2 t).1 hf)]

theorem frame_bits : Cert.quiescent_GradGate := fun m ρ _ => Cert.GradGate.Gen.frame m ρ
theorem frame_ideal : Cert.quiescent_GradGateIdeal := fun m ρ _ => Cert.GradGateIdeal.Gen.frame m ρ
theorem ref_frame : Cert.quiescent_GradGateRefIdeal := fun m ρ _ =>
  (θ_run Cert.GradGateRefIdeal.defs _ _).mono (fun r h => ⟨fun c => (h c).2, sem_eq_zero_of_no_sems rfl _⟩)
    (Cert.GradGateRefIdeal.Value.run (F := Ideal) m ρ)

/-- The call's result and the reference's are the same function of the two arguments. -/
theorem algebraic : Cert.algebraic_GradGateIdeal_GradGateRefIdeal := by
  intro m ρ m' ρ' _ hagree
  refine ⟨fun c => res (aA m c) (aB m c), ?_, ?_⟩
  · exact (θ_run Cert.GradGateIdeal.defs _ _).mono (fun _ h c => ⟨(h c).1.trans (result m c), (h c).2⟩)
      (Cert.GradGateIdeal.Value.run_blocks (F := Ideal) m ρ)
  · refine (θ_run Cert.GradGateRefIdeal.defs _ _).mono (fun _ h c => ⟨(h c).1.trans ?_, (h c).2⟩)
      (Cert.GradGateRefIdeal.Value.run (F := Ideal) m' ρ')
    rw [(hagree c).1, (hagree c).2]
    funext i
    obtain ⟨s, p, q, rfl⟩ : ∃ (s : Fin 4) (p : Fin 256) (q : Fin 1024), i = ix3 s p q := ⟨i 0, i 1, i 2, eq_ix3 i⟩
    pointwise [res]

end Cert.GradGateValue

end
-- ==== Proof.GradOut.lean ====
/-
  The gradient of the mixer's output projection on one device: the call's result and the reference's are the product over
  the rows, the first factor's columns in four blocks.
-/
module

public import proofs.«01_k».proof.Defs
public import proofs.«01_k».proof.Proof.GradSum
public import proofs.«01_k».proof.Proof.Gen.GradOut.Frame
public import proofs.«01_k».proof.Proof.Gen.GradOutIdeal.Value
public import proofs.«01_k».proof.Proof.Gen.GradOutRefIdeal.Run
public import Idealize.ShloMosaic.Lib.Quiescent
public import Idealize.ShloMosaic.Lib.Pointwise
public import Idealize.ShloMosaic.Lib.Pipeline.ValueKit

@[expose] public section

set_option maxRecDepth 16384

noncomputable section

namespace Cert.GradOutValue

open Idealize.ShloMosaic Idealize.ShloMosaic.TcCoe Idealize.SL.Sem
open Cert.GradOutIdeal Cert.GradOutIdeal.Gen Cert.GradOutIdeal.Value

variable (m : (ℓ : Loc nD τ sig) → Buf (Elt Ideal) ℓ) (c : Dev nD)

/-- A column of a block, in the whole factor. -/
abbrev col (s : Fin 4) (p : Fin 256) : Fin 1024 := ⟨s.val * 256 + p.val, by omega⟩

/-- The product over the rows, block by block. -/
def res (A B : S8192x1024.Idx → EReal) : S4x256x1024.Idx → EReal := fun i =>
  ∑ n : Fin 8192, A (ix2 n (col (i 0) (i 1))) * B (ix2 n (i 2))

theorem index_eq : ∀ t : Fin cfg0.N, win0_0.index t = ![t.val % 4, t.val / 4] ∧ win0_1.index t = ![t.val % 4, 0]
    ∧ win0_2.index t = ![t.val / 4, 0, 0] := by decide +kernel

/-- The block of columns of a point, and row `r` of its block of rows. -/
abbrev slab (t : Fin cfg0.N) : Fin 4 := ⟨t.val / 4, by have : t.val < 16 := (N_0 : cfg0.N = 16) ▸ t.isLt; omega⟩
abbrev row (t : Fin cfg0.N) (r : Fin 2048) : Fin 8192 := ⟨t.val % 4 * 2048 + r.val, by omega⟩

abbrev aA : S8192x1024.Idx → EReal := m ((c : Thread nD τ).loc main_arg0)
abbrev aB : S8192x1024.Idx → EReal := m ((c : Thread nD τ).loc main_arg1)

theorem x0_apply (t : Fin cfg0.N) (r : Fin 2048) (p : Fin 256) :
    (iblk m c 0 t : Vec Ideal S2048x256 .bf16) (ix2 r p) = aA m c (ix2 (row t r) (col (slab t) p)) := by
  blk_ext [iblk, V, (index_eq t).1]
theorem x1_apply (t : Fin cfg0.N) (r : Fin 2048) (q : Fin 1024) :
    (iblk m c 1 t : Vec Ideal S2048x1024 .f32) (ix2 r q) = aB m c (ix2 (row t r) q) := by
  blk_ext [iblk, V, (index_eq t).2.1]

theorem pay1_apply (p : Fin 256) (q : Fin 1024) : k0_pay1 (F := Ideal) (ix3 0 p q) = 0 := by
  pointwise [k0_pay1]
theorem pay2_apply (D : Vec Ideal S1x256x1024 .f32) (A : Vec Ideal S2048x256 .bf16) (B : Vec Ideal S2048x1024 .f32)
    (p : Fin 256) (q : Fin 1024) : k0_pay2 D A B (ix3 0 p q) = D (ix3 0 p q) + ∑ r : Fin 2048, A (ix2 r p) * B (ix2 r q) := by
  pointwise [k0_pay2]

/-- After a run's last point its block holds the products over all rows. -/
theorem last (t : Fin cfg0.N) (ht : t.val % 4 = 3) (p : Fin 256) (q : Fin 1024) :
    outsAt0 m c t.val t.isLt (ix3 0 p q) = res (aA m c) (aB m c) (ix3 (slab t) p q) := by
  rw [outsAt_2_eq]
  refine GradSum.prod_sum (J := 4) (L := 2048) (step2 m c) (k0_pay1 (F := Ideal)) pay1_apply (t.val / 4) (fun n p => aA m c (ix2 n (col (slab t) p)))
    (fun n q => aB m c (ix2 n q)) (by decide) (fun n h hs acc p q => ?_) (t.val % 4) (by omega) _ p q
  rw [show slab t = slab ⟨n, h⟩ from Fin.ext hs.symm]
  refine (pay2_apply _ _ _ p q).trans ?_
  simp only [x0_apply, x1_apply]

theorem result : (dats m 0 c).arrAt 2 cfg0.N = res (aA m c) (aB m c) := by
  refine (dats m 0 c).arrAt_eq_of_covers 2 _ (by decide +kernel) fun t hf y => ?_
  blk_simp
  obtain ⟨z, p, q, rfl⟩ : ∃ (z : Fin 1) (p : Fin 256) (q : Fin 1024), y = ix3 z p q := ⟨y 0, y 1, y 2, eq_ix3 y⟩
  obtain rfl : z = 0 := Subsingleton.elim _ _
  have hi : (win0_2.blk t).view.emb (ix3 0 p q) = ix3 (slab t) p q := by blk_ext [(index_eq t).2.2]
  rw [hi, after0_2, last m c t ((flush0_2 t).1 hf)]

theorem frame_bits : Cert.quiescent_GradOut := fun m ρ _ => Cert.GradOut.Gen.frame m ρ
theorem frame_ideal : Cert.quiescent_GradOutIdeal := fun m ρ _ => Cert.GradOutIdeal.Gen.frame m ρ
theorem ref_frame : Cert.quiescent_GradOutRefIdeal := fun m ρ _ =>
  (θ_run Cert.GradOutRefIdeal.defs _ _).mono (fun r h => ⟨fun c => (h c).2, sem_eq_zero_of_no_sems rfl _⟩)
    (Cert.GradOutRefIdeal.Value.run (F := Ideal) m ρ)

/-- The call's result and the reference's are the same function of the two arguments. -/
theorem algebraic : Cert.algebraic_GradOutIdeal_GradOutRefIdeal := by
  intro m ρ m' ρ' _ hagree
  refine ⟨fun c => res (aA m c) (aB m c), ?_, ?_⟩
  · exact (θ_run Cert.GradOutIdeal.defs _ _).mono (fun _ h c => ⟨(h c).1.trans (result m c), (h c).2⟩)
      (Cert.GradOutIdeal.Value.run_blocks (F := Ideal) m ρ)
  · refine (θ_run Cert.GradOutRefIdeal.defs _ _).mono (fun _ h c => ⟨(h c).1.trans ?_, (h c).2⟩)
      (Cert.GradOutRefIdeal.Value.run (F := Ideal) m' ρ')
    rw [(hagree c).1, (hagree c).2]
    funext i
    obtain ⟨s, p, q, rfl⟩ : ∃ (s : Fin 4) (p : Fin 256) (q : Fin 1024), i = ix3 s p q := ⟨i 0, i 1, i 2, eq_ix3 i⟩
    pointwise [res]

end Cert.GradOutValue

end
-- ==== Proof.lean ====
module

public import proofs.«01_k».proof.Defs
public import proofs.«01_k».proof.Proof.ActScatterValue
public import proofs.«01_k».proof.Proof.AdamFfn
public import proofs.«01_k».proof.Proof.AdamIn
public import proofs.«01_k».proof.Proof.AdamOut
public import proofs.«01_k».proof.Proof.AdamPle
public import proofs.«01_k».proof.Proof.AdamSmall
public import proofs.«01_k».proof.Proof.FwdGatherValue
public import proofs.«01_k».proof.Proof.SwapValue
public import proofs.«01_k».proof.Proof.InScatterValue
public import proofs.«01_k».proof.Proof.ProjSwapValue
public import proofs.«01_k».proof.Proof.ShardFfn
public import proofs.«01_k».proof.Proof.ShardIn
public import proofs.«01_k».proof.Proof.ShardOut
public import proofs.«01_k».proof.Proof.ShardPle
public import proofs.«01_k».proof.Proof.PleLossRefV
public import proofs.«01_k».proof.Proof.ConvFwd
public import proofs.«01_k».proof.Proof.OutProj
public import proofs.«01_k».proof.Proof.OutBwd
public import proofs.«01_k».proof.Proof.GradFfn
public import proofs.«01_k».proof.Proof.GradProj
public import proofs.«01_k».proof.Proof.GradIn
public import proofs.«01_k».proof.Proof.GradGate
public import proofs.«01_k».proof.Proof.GradOut

@[expose] public section

namespace Cert.Proof

theorem claim : Cert.Claim :=
  ⟨Cert.Swap.Gen.facts, Cert.SwapIdeal.Gen.facts, Cert.SwapRefIdeal.Gen.facts, Cert.SwapRef.Gen.facts,
    Cert.ProjSwap.Gen.facts, Cert.ProjSwapIdeal.Gen.facts, Cert.ProjSwapRefIdeal.Gen.facts,
    Cert.InScatter.Gen.facts, Cert.InScatterIdeal.Gen.facts, Cert.InScatterRefIdeal.Gen.facts,
    Cert.ActScatter.Gen.facts, Cert.ActScatterIdeal.Gen.facts, Cert.ActScatterRefIdeal.Gen.facts,
    Cert.FwdGather.Gen.facts, Cert.FwdGatherIdeal.Gen.facts, Cert.FwdGatherRefIdeal.Gen.facts,
    Cert.AdamFfn.Gen.facts, Cert.AdamFfnIdeal.Gen.facts, Cert.AdamFfnRefIdeal.Gen.facts,
    Cert.AdamIn.Gen.facts, Cert.AdamInIdeal.Gen.facts, Cert.AdamInRefIdeal.Gen.facts,
    Cert.AdamOut.Gen.facts, Cert.AdamOutIdeal.Gen.facts, Cert.AdamOutRefIdeal.Gen.facts,
    Cert.AdamPle.Gen.facts, Cert.AdamPleIdeal.Gen.facts, Cert.AdamPleRefIdeal.Gen.facts,
    Cert.AdamSmall.Gen.facts, Cert.AdamSmallIdeal.Gen.facts, Cert.AdamSmallRefIdeal.Gen.facts,
    Cert.ShardFfn.Gen.facts, Cert.ShardFfnIdeal.Gen.facts, Cert.ShardFfnRefIdeal.Gen.facts,
    Cert.ShardIn.Gen.facts, Cert.ShardInIdeal.Gen.facts, Cert.ShardInRefIdeal.Gen.facts,
    Cert.ShardOut.Gen.facts, Cert.ShardOutIdeal.Gen.facts, Cert.ShardOutRefIdeal.Gen.facts,
    Cert.ShardPle.Gen.facts, Cert.ShardPleIdeal.Gen.facts, Cert.ShardPleRefIdeal.Gen.facts,
    Cert.PleLoss.Gen.facts, Cert.PleLossIdeal.Gen.facts, Cert.PleLossRefIdeal.Gen.facts,
    Cert.ConvFwd.Gen.facts, Cert.ConvFwdIdeal.Gen.facts, Cert.ConvFwdRefIdeal.Gen.facts,
    Cert.OutProj.Gen.facts, Cert.OutProjIdeal.Gen.facts, Cert.OutProjRefIdeal.Gen.facts,
    Cert.OutBwd.Gen.facts, Cert.OutBwdIdeal.Gen.facts, Cert.OutBwdRefIdeal.Gen.facts,
    Cert.GradFfn.Gen.facts, Cert.GradFfnIdeal.Gen.facts, Cert.GradFfnRefIdeal.Gen.facts,
    Cert.GradOut.Gen.facts, Cert.GradOutIdeal.Gen.facts, Cert.GradOutRefIdeal.Gen.facts,
    Cert.GradGate.Gen.facts, Cert.GradGateIdeal.Gen.facts, Cert.GradGateRefIdeal.Gen.facts,
    Cert.GradIn.Gen.facts, Cert.GradInIdeal.Gen.facts, Cert.GradInRefIdeal.Gen.facts,
    Cert.GradProj.Gen.facts, Cert.GradProjIdeal.Gen.facts, Cert.GradProjRefIdeal.Gen.facts,
    Cert.Pre_placed_ffn.Gen.facts, Cert.Pre_placed_in.Gen.facts, Cert.Pre_placed_out.Gen.facts, Cert.Pre_placed_ple.Gen.facts,
    Cert.On_received.Gen.facts,
    Cert.On_own_half_ffn.Gen.facts, Cert.On_own_half_in.Gen.facts, Cert.On_own_half_out.Gen.facts, Cert.On_own_half_ple.Gen.facts,
    SwapValue.frame_bits, SwapValue.frame_ideal, SwapValue.ref_frame_ideal, SwapValue.ref_frame_bits,
    ProjSwapValue.frame_bits, ProjSwapValue.frame_ideal, ProjSwapValue.ref_frame,
    InScatterValue.frame_bits, InScatterValue.frame_ideal, InScatterValue.ref_frame,
    ActScatterValue.frame_bits, ActScatterValue.frame_ideal, ActScatterValue.ref_frame,
    FwdGatherValue.frame_bits, FwdGatherValue.frame_ideal, FwdGatherValue.ref_frame,
    AdamFfnValue.frame_bits, AdamFfnValue.frame_ideal, AdamFfnValue.ref_frame,
    AdamInValue.frame_bits, AdamInValue.frame_ideal, AdamInValue.ref_frame,
    AdamOutValue.frame_bits, AdamOutValue.frame_ideal, AdamOutValue.ref_frame,
    AdamPleValue.frame_bits, AdamPleValue.frame_ideal, AdamPleValue.ref_frame,
    AdamSmallValue.frame_bits, AdamSmallValue.frame_ideal, AdamSmallValue.ref_frame,
    ShardFfnValue.frame_bits, ShardFfnValue.frame_ideal, ShardFfnValue.ref_frame, ShardFfnValue.ref_frame_placed,
    ShardInValue.frame_bits, ShardInValue.frame_ideal, ShardInValue.ref_frame, ShardInValue.ref_frame_placed,
    ShardOutValue.frame_bits, ShardOutValue.frame_ideal, ShardOutValue.ref_frame, ShardOutValue.ref_frame_placed,
    ShardPleValue.frame_bits, ShardPleValue.frame_ideal, ShardPleValue.ref_frame, ShardPleValue.ref_frame_placed,
    PleLossValue.frame_bits, PleLossValue.frame_ideal, PleLossValue.ref_frame,
    ConvFwdValue.frame_bits, ConvFwdValue.frame_ideal, ConvFwdValue.ref_frame,
    OutProjValue.frame_bits, OutProjValue.frame_ideal, OutProjValue.ref_frame,
    OutBwdValue.frame_bits, OutBwdValue.frame_ideal, OutBwdValue.ref_frame,
    GradFfnValue.frame_bits, GradFfnValue.frame_ideal, GradFfnValue.ref_frame,
    GradOutValue.frame_bits, GradOutValue.frame_ideal, GradOutValue.ref_frame,
    GradGateValue.frame_bits, GradGateValue.frame_ideal, GradGateValue.ref_frame,
    GradInValue.frame_bits, GradInValue.frame_ideal, GradInValue.ref_frame,
    GradProjValue.frame_bits, GradProjValue.frame_ideal, GradProjValue.ref_frame,
    trivial, SwapValue.algebraic, SwapValue.bitexact, trivial, ProjSwapValue.algebraic,
    trivial, InScatterValue.algebraic, trivial, ActScatterValue.algebraic,
    trivial, FwdGatherValue.algebraic,
    trivial, AdamFfnValue.algebraic,
    trivial, AdamInValue.algebraic,
    trivial, AdamOutValue.algebraic,
    trivial, AdamPleValue.algebraic,
    trivial, AdamSmallValue.algebraic,
    trivial, ShardFfnValue.algebraic,
    trivial, ShardInValue.algebraic,
    trivial, ShardOutValue.algebraic,
    trivial, ShardPleValue.algebraic,
    trivial, PleLossValue.algebraic,
    trivial, ConvFwdValue.algebraic,
    trivial, OutProjValue.algebraic,
    trivial, OutBwdValue.algebraic,
    trivial, GradFfnValue.algebraic,
    trivial, GradOutValue.algebraic,
    trivial, GradGateValue.algebraic,
    trivial, GradInValue.algebraic,
    trivial, GradProjValue.algebraic⟩

end Cert.Proof

end
